-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v33)) (v5 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_v38) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v63)) (v1 : (c : Dev Cert.Kernel2Ideal.nD) → Buf (Elt Ideal) ((c.tc : Thread Cert.Kernel2Ideal.nD Cert.Kernel2Ideal.τ).loc Cert.Kernel2Ideal.main_v68)) (v2 : (c : Dev Cert.Kernel2Ideal.nD) → Buf (Elt Ideal) ((c.tc : Thread Cert.Kernel2Ideal.nD Cert.Kernel2Ideal.τ).loc Cert.Kernel2Ideal.main_v73)) (v3 : (c : Dev Cert.Kernel2Ideal.nD) → Buf (Elt Ideal) ((c.tc : Thread Cert.Kernel2Ideal.nD Cert.Kernel2Ideal.τ).loc Cert.Kernel2Ideal.main_v74)) (v4 : (c : Dev Cert.Kernel2Ideal.nD) → Buf (Elt Ideal) ((c.tc : Thread Cert.Kernel2Ideal.nD Cert.Kernel2Ideal.τ).loc Cert.Kernel2Ideal.main_v76)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63) = v0 c
          ∧ r.2.mem ((c.tc : Thread Cert.Kernel2Ideal.nD Cert.Kernel2Ideal.τ).loc Cert.Kernel2Ideal.main_v68) = v1 c
          ∧ r.2.mem ((c.tc : Thread Cert.Kernel2Ideal.nD Cert.Kernel2Ideal.τ).loc Cert.Kernel2Ideal.main_v73) = v2 c
          ∧ r.2.mem ((c.tc : Thread Cert.Kernel2Ideal.nD Cert.Kernel2Ideal.τ).loc Cert.Kernel2Ideal.main_v74) = v3 c
          ∧ r.2.mem ((c.tc : Thread Cert.Kernel2Ideal.nD Cert.Kernel2Ideal.τ).loc Cert.Kernel2Ideal.main_v76) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_v93) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v40)) (v1 : (c : Dev Cert.Kernel3Ideal.nD) → Buf (Elt Ideal) ((c.tc : Thread Cert.Kernel3Ideal.nD Cert.Kernel3Ideal.τ).loc Cert.Kernel3Ideal.main_v44)) (v2 : (c : Dev Cert.Kernel3Ideal.nD) → Buf (Elt Ideal) ((c.tc : Thread Cert.Kernel3Ideal.nD Cert.Kernel3Ideal.τ).loc Cert.Kernel3Ideal.main_v46)) (v3 : (c : Dev Cert.Kernel3Ideal.nD) → Buf (Elt Ideal) ((c.tc : Thread Cert.Kernel3Ideal.nD Cert.Kernel3Ideal.τ).loc Cert.Kernel3Ideal.main_v47)) (v4 : (c : Dev Cert.Kernel3Ideal.nD) → Buf (Elt Ideal) ((c.tc : Thread Cert.Kernel3Ideal.nD Cert.Kernel3Ideal.τ).loc Cert.Kernel3Ideal.main_v52)) (v5 : (c : Dev Cert.Kernel3Ideal.nD) → Buf (Elt Ideal) ((c.tc : Thread Cert.Kernel3Ideal.nD Cert.Kernel3Ideal.τ).loc Cert.Kernel3Ideal.main_v57)) (v6 : (c : Dev Cert.Kernel3Ideal.nD) → Buf (Elt Ideal) ((c.tc : Thread Cert.Kernel3Ideal.nD Cert.Kernel3Ideal.τ).loc Cert.Kernel3Ideal.main_v62)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_v44) = v1 c
          ∧ r.2.mem ((c.tc : Thread Cert.Kernel3Ideal.nD Cert.Kernel3Ideal.τ).loc Cert.Kernel3Ideal.main_v46) = v2 c
          ∧ r.2.mem ((c.tc : Thread Cert.Kernel3Ideal.nD Cert.Kernel3Ideal.τ).loc Cert.Kernel3Ideal.main_v47) = v3 c
          ∧ r.2.mem ((c.tc : Thread Cert.Kernel3Ideal.nD Cert.Kernel3Ideal.τ).loc Cert.Kernel3Ideal.main_v52) = v4 c
          ∧ r.2.mem ((c.tc : Thread Cert.Kernel3Ideal.nD Cert.Kernel3Ideal.τ).loc Cert.Kernel3Ideal.main_v57) = v5 c
          ∧ r.2.mem ((c.tc : Thread Cert.Kernel3Ideal.nD Cert.Kernel3Ideal.τ).loc Cert.Kernel3Ideal.main_v62) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v113) = v1 c
          ∧ r.2.mem ((c.tc : Thread Cert.Reference3Ideal.nD Cert.Reference3Ideal.τ).loc Cert.Reference3Ideal.main_v97) = v2 c
          ∧ r.2.mem ((c.tc : Thread Cert.Reference3Ideal.nD Cert.Reference3Ideal.τ).loc Cert.Reference3Ideal.main_v83) = v3 c
          ∧ r.2.mem ((c.tc : Thread Cert.Reference3Ideal.nD Cert.Reference3Ideal.τ).loc Cert.Reference3Ideal.main_v90) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_v17) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)) (v1 : (c : Dev Cert.Kernel4Ideal.nD) → Buf (Elt Ideal) ((c.tc : Thread Cert.Kernel4Ideal.nD Cert.Kernel4Ideal.τ).loc Cert.Kernel4Ideal.main_v18)) (v2 : (c : Dev Cert.Kernel4Ideal.nD) → Buf (Elt Ideal) ((c.tc : Thread Cert.Kernel4Ideal.nD Cert.Kernel4Ideal.τ).loc Cert.Kernel4Ideal.main_v23)) (v3 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_v18) = v1 c
          ∧ r.2.mem ((c.tc : Thread Cert.Kernel4Ideal.nD Cert.Kernel4Ideal.τ).loc Cert.Kernel4Ideal.main_v23) = v2 c
          ∧ r.2.mem ((c.tc : Thread Cert.Kernel4Ideal.nD Cert.Kernel4Ideal.τ).loc Cert.Kernel4Ideal.main_v28) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v17)) (v1 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v22)) (v1 : (c : Dev Cert.Kernel6Ideal.nD) → Buf (Elt Ideal) ((c.tc : Thread Cert.Kernel6Ideal.nD Cert.Kernel6Ideal.τ).loc Cert.Kernel6Ideal.main_v27)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22) = v0 c
          ∧ r.2.mem ((c.tc : Thread Cert.Kernel6Ideal.nD Cert.Kernel6Ideal.τ).loc Cert.Kernel6Ideal.main_v27) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_v14) = v4 c
          ∧ r.2.mem ((c.tc : Thread Cert.Reference11Ideal.nD Cert.Reference11Ideal.τ).loc Cert.Reference11Ideal.main_v15) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S16384x1024 : Shape := ⟨2, ![16384, 1024]⟩
abbrev S_ : Shape := ⟨0, ![]⟩

class Facts : Prop where
  bcast_S_S16400x1024 : S_.BroadcastsInDim S16400x1024 (![] : Fin 0 → Fin S16400x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn_part1 {F : FTy → Type} [FloatOps F] (main_arg6 : FVec F S1024 .f32) (main_v2 : IVec S16400x1024 1) (main_v5 : IVec S1024 1) (main_v8 : IVec S1024x5632 1) (main_v11 : IVec S3x5632 1) (main_v14 : IVec S2816x1024 1) (main_v17 : IVec S16384x1024 1) : IVec S16400x1024 1 × IVec S1024 1 × IVec S1024x5632 1 × IVec S3x5632 1 × IVec S2816x1024 1 × IVec S16384x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S16400x1024 .f32) (main_arg1 : FVec F S1024 .f32) (main_arg2 : FVec F S1024x5632 .f32) (main_arg3 : FVec F S3x5632 .f32) (main_arg4 : FVec F S2816x1024 .f32) (main_arg5 : FVec F S16384x1024 .f32) (main_arg6 : FVec F S1024 .f32) : IVec S16400x1024 1 × IVec S1024 1 × IVec S1024x5632 1 × IVec S3x5632 1 × IVec S2816x1024 1 × IVec S16384x1024 1 × IVec S1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  fn_part1 (F := F) main_arg6 main_v2 main_v5 main_v8 main_v11 main_v14 main_v17
-- ==== Pre_finite2.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S16400x1024 : S_.BroadcastsInDim S16400x1024 (![] : Fin 0 → Fin S16400x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S16400x1024 .f32) (main_arg1 : FVec F S1024 .f32) (main_arg2 : FVec F S1024x5632 .f32) (main_arg3 : FVec F S3x5632 .f32) (main_arg4 : FVec F S2816x1024 .f32) (main_arg5 : FVec F S16400x1024 .f32) : IVec S16400x1024 1 × IVec S1024 1 × IVec S1024x5632 1 × IVec S3x5632 1 × IVec S2816x1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S16400x1024 .f32 := Host.absf main_arg5
  let main_cst_4 : FVec F S_ .f32 := constant S_ .f32 0x7F800000#32
  let main_v16 : FVec F S16400x1024 .f32 := broadcastInDim S16400x1024 ![] bcast_S_S16400x1024 main_cst_4
  let main_v17 : IVec S16400x1024 1 := cmpf .olt main_v15 main_v16
  (main_v2, main_v5, main_v8, main_v11, main_v14, main_v17)
-- ==== Pre_finite3.lean ====
abbrev S16384x1024 : Shape := ⟨2, ![16384, 1024]⟩
abbrev S16x1024 : Shape := ⟨2, ![16, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16400x1024 : Shape := ⟨2, ![16400, 1024]⟩
abbrev S_ : Shape := ⟨0, ![]⟩

class Facts : Prop where
  bcast_S_S16384x1024 : S_.BroadcastsInDim S16384x1024 (![] : Fin 0 → Fin S16384x1024.rank)
  bcast_S_S16x1024 : S_.BroadcastsInDim S16x1024 (![] : Fin 0 → Fin S16x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S3x1024 : S_.BroadcastsInDim S3x1024 (![] : Fin 0 → Fin S3x1024.rank)
  bcast_S_S1024x1024 : S_.BroadcastsInDim S1024x1024 (![] : Fin 0 → Fin S1024x1024.rank)
  bcast_S_S16400x1024 : S_.BroadcastsInDim S16400x1024 (![] : Fin 0 → Fin S16400x1024.rank)

variable [Facts]

def fn_part1 {F : FTy → Type} [FloatOps F] (main_arg6 : FVec F S16400x1024 .f32) (main_v2 : IVec S16384x1024 1) (main_v5 : IVec S16x1024 1) (main_v8 : IVec S1024 1) (main_v11 : IVec S1024x3072 1) (main_v14 : IVec S3x1024 1) (main_v17 : IVec S1024x1024 1) : IVec S16384x1024 1 × IVec S16x1024 1 × IVec S1024 1 × IVec S1024x3072 1 × IVec S3x1024 1 × IVec S1024x1024 1 × IVec S16400x1024 1 :=
  let main_v18 : FVec F S16400x1024 .f32 := Host.absf main_arg6
  let main_cst_5 : FVec F S_ .f32 := constant S_ .f32 0x7F800000#32
  let main_v19 : FVec F S16400x1024 .f32 := broadcastInDim S16400x1024 ![] bcast_S_S16400x1024 main_cst_5
  let main_v20 : IVec S16400x1024 1 := cmpf .olt main_v18 main_v19
  (main_v2, main_v5, main_v8, main_v11, main_v14, main_v17, main_v20)

def fn {F : FTy → Type} [FloatOps F] (main_arg0 : FVec F S16384x1024 .f32) (main_arg1 : FVec F S16x1024 .f32) (main_arg2 : FVec F S1024 .f32) (main_arg3 : FVec F S1024x3072 .f32) (main_arg4 : FVec F S3x1024 .f32) (main_arg5 : FVec F S1024x1024 .f32) (main_arg6 : FVec F S16400x1024 .f32) : IVec S16384x1024 1 × IVec S16x1024 1 × IVec S1024 1 × IVec S1024x3072 1 × IVec S3x1024 1 × IVec S1024x1024 1 × IVec S16400x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3072 .f32 := Host.absf main_arg3
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_v12 : FVec F S3x1024 .f32 := Host.absf main_arg4
  let main_cst_3 : FVec F S_ .f32 := constant S_ .f32 0x7F800000#32
  let main_v13 : FVec F S3x1024 .f32 := broadcastInDim S3x1024 ![] bcast_S_S3x1024 main_cst_3
  let main_v14 : IVec S3x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Kernel.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S16384x1024 : Shape := ⟨2, ![16384, 1024]⟩
abbrev S1024x4x1408 : Shape := ⟨3, ![1024, 4, 1408]⟩
abbrev S4x1024x1408 : Shape := ⟨3, ![4, 1024, 1408]⟩
abbrev S_ : Shape := ⟨0, ![]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S1x1024 : Shape := ⟨2, ![1, 1024]⟩
abbrev S64x8x32x1024 : Shape := ⟨4, ![64, 8, 32, 1024]⟩
abbrev S64x32x8x1024 : Shape := ⟨4, ![64, 32, 8, 1024]⟩
abbrev S16640x5632 : Shape := ⟨2, ![16640, 5632]⟩
abbrev S16640x2816 : Shape := ⟨2, ![16640, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S272x5632 : Shape := ⟨2, ![272, 5632]⟩
abbrev S16x5632 : Shape := ⟨2, ![16, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S8x5632 : Shape := ⟨2, ![8, 5632]⟩
abbrev S8x1 : Shape := ⟨2, ![8, 1]⟩
abbrev S1x1408 : Shape := ⟨2, ![1, 1408]⟩
abbrev S1408x1024 : Shape := ⟨2, ![1408, 1024]⟩
abbrev S65x32x8x5632 : Shape := ⟨4, ![65, 32, 8, 5632]⟩
abbrev S65x8x32x5632 : Shape := ⟨4, ![65, 8, 32, 5632]⟩
abbrev S16400x5632 : Shape := ⟨2, ![16400, 5632]⟩
abbrev S65x32x8x2816 : Shape := ⟨4, ![65, 32, 8, 2816]⟩
abbrev S65x8x32x2816 : Shape := ⟨4, ![65, 8, 32, 2816]⟩
abbrev S16400x2816 : Shape := ⟨2, ![16400, 2816]⟩

abbrev nBuf : Space → Nat
  | .hbm => 55
  | .vmem => 21
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S16384x1024, .f32⟩
  | .hbm, ⟨6, _⟩ => ⟨S1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S_, .i32⟩
  | .hbm, ⟨11, _⟩ => ⟨S_, .f32⟩
  | .hbm, ⟨12, _⟩ => ⟨S16640x1024, .f32⟩
  | .hbm, ⟨13, _⟩ => ⟨S65x8x32x1024, .f32⟩
  | .hbm, ⟨14, _⟩ => ⟨S65x32x8x1024, .f32⟩
  | .hbm, ⟨15, _⟩ => ⟨S16640x1024, .f32⟩
  | .hbm, ⟨16, _⟩ => ⟨S1x1024, .f32⟩
  | .hbm, ⟨17, _⟩ => ⟨S2816x1024, .bf16⟩
  | .hbm, ⟨18, _⟩ => ⟨S64x8x32x1024, .f32⟩
  | .hbm, ⟨19, _⟩ => ⟨S64x32x8x1024, .f32⟩
  | .hbm, ⟨20, _⟩ => ⟨S16384x1024, .f32⟩
  | .hbm, ⟨21, _⟩ => ⟨S1x1024, .f32⟩
  | .hbm, ⟨22, _⟩ => ⟨S16640x1024, .f32⟩
  | .hbm, ⟨23, _⟩ => ⟨S16640x5632, .bf16⟩
  | .hbm, ⟨24, _⟩ => ⟨S16640x5632, .bf16⟩
  | .hbm, ⟨25, _⟩ => ⟨S16640x2816, .bf16⟩
  | .hbm, ⟨26, _⟩ => ⟨S8x1024, .f32⟩
  | .hbm, ⟨27, _⟩ => ⟨S8x1024, .f32⟩
  | .hbm, ⟨28, _⟩ => ⟨S65x32x8x1024, .f32⟩
  | .hbm, ⟨29, _⟩ => ⟨S65x8x32x1024, .f32⟩
  | .hbm, ⟨30, _⟩ => ⟨S16640x1024, .f32⟩
  | .hbm, ⟨31, _⟩ => ⟨S16400x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16640x5632, .f32⟩
  | .hbm, ⟨41, _⟩ => ⟨S65x32x8x5632, .f32⟩
  | .hbm, ⟨42, _⟩ => ⟨S65x8x32x5632, .f32⟩
  | .hbm, ⟨43, _⟩ => ⟨S16640x5632, .f32⟩
  | .hbm, ⟨44, _⟩ => ⟨S16400x5632, .f32⟩
  | .hbm, ⟨45, _⟩ => ⟨S16640x5632, .f32⟩
  | .hbm, ⟨46, _⟩ => ⟨S65x32x8x5632, .f32⟩
  | .hbm, ⟨47, _⟩ => ⟨S65x8x32x5632, .f32⟩
  | .hbm, ⟨48, _⟩ => ⟨S16640x5632, .f32⟩
  | .hbm, ⟨49, _⟩ => ⟨S16400x5632, .f32⟩
  | .hbm, ⟨50, _⟩ => ⟨S16640x2816, .f32⟩
  | .hbm, ⟨51, _⟩ => ⟨S65x32x8x2816, .f32⟩
  | .hbm, ⟨52, _⟩ => ⟨S65x8x32x2816, .f32⟩
  | .hbm, ⟨53, _⟩ => ⟨S16640x2816, .f32⟩
  | .hbm, ⟨54, _⟩ => ⟨S16400x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S3x5632, .f32⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S8x1024, .f32⟩
  | .local _ .vmem, ⟨18, _⟩ => ⟨S8x1024, .f32⟩
  | .local _ .vmem, ⟨19, _⟩ => ⟨S272x5632, .f32⟩
  | .local _ .vmem, ⟨20, _⟩ => ⟨S16x5632, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S16384x1024 : Shape := ⟨2, ![16384, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x5632 : Shape := ⟨2, ![16400, 5632]⟩
abbrev S2x5632 : Shape := ⟨2, ![2, 5632]⟩
abbrev S16402x5632 : Shape := ⟨2, ![16402, 5632]⟩
abbrev S1x5632 : Shape := ⟨2, ![1, 5632]⟩
abbrev S5632 : Shape := ⟨1, ![5632]⟩
abbrev S16400x2816 : Shape := ⟨2, ![16400, 2816]⟩
abbrev S16384 : Shape := ⟨1, ![16384]⟩

abbrev nBuf : Space → Nat
  | .hbm => 132
  | .vmem => 0
  | .smem => 0
  | _ => 0

abbrev hbmTy0_0 (i : Nat) : BufTy := match i % 128 with
  | 0 => ⟨S16400x1024, .f32⟩
  | 1 => ⟨S1024, .f32⟩
  | 2 => ⟨S1024x5632, .f32⟩
  | 3 => ⟨S3x5632, .f32⟩
  | 4 => ⟨S2816x1024, .f32⟩
  | 5 => ⟨S16384x1024, .f32⟩
  | 6 => ⟨S1024, .f32⟩
  | 7 => ⟨S16400x1024, .f32⟩
  | 8 => ⟨S_, .f32⟩
  | 9 => ⟨S16400, .f32⟩
  | 10 => ⟨S16400x1, .f32⟩
  | 11 => ⟨S_, .f32⟩
  | 12 => ⟨S16400x1, .f32⟩
  | 13 => ⟨S16400x1, .f32⟩
  | 14 => ⟨S_, .f32⟩
  | 15 => ⟨S16400x1, .f32⟩
  | 16 => ⟨S16400x1, .f32⟩
  | 17 => ⟨S16400x1, .f32⟩
  | 18 => ⟨S16400x1024, .f32⟩
  | 19 => ⟨S16400x1024, .f32⟩
  | 20 => ⟨S1x1024, .f32⟩
  | 21 => ⟨S16400x1024, .f32⟩
  | 22 => ⟨S16400x1024, .f32⟩
  | 23 => ⟨S16400x5632, .f32⟩
  | 24 => ⟨S_, .f32⟩
  | 25 => ⟨S2x5632, .f32⟩
  | 26 => ⟨S16402x5632, .f32⟩
  | 27 => ⟨S16400x5632, .f32⟩
  | 28 => ⟨S1x5632, .f32⟩
  | 29 => ⟨S5632, .f32⟩
  | 30 => ⟨S1x5632, .f32⟩
  | 31 => ⟨S16400x5632, .f32⟩
  | 32 => ⟨S16400x5632, .f32⟩
  | 33 => ⟨S16400x5632, .f32⟩
  | 34 => ⟨S1x5632, .f32⟩
  | 35 => ⟨S5632, .f32⟩
  | 36 => ⟨S1x5632, .f32⟩
  | 37 => ⟨S16400x5632, .f32⟩
  | 38 => ⟨S16400x5632, .f32⟩
  | 39 => ⟨S16400x5632, .f32⟩
  | 40 => ⟨S16400x5632, .f32⟩
  | 41 => ⟨S1x5632, .f32⟩
  | 42 => ⟨S5632, .f32⟩
  | 43 => ⟨S1x5632, .f32⟩
  | 44 => ⟨S16400x5632, .f32⟩
  | 45 => ⟨S16400x5632, .f32⟩
  | 46 => ⟨S16400x5632, .f32⟩
  | 47 => ⟨S16400x2816, .f32⟩
  | 48 => ⟨S16400x2816, .f32⟩
  | 49 => ⟨S16400x2816, .f32⟩
  | 50 => ⟨S16400x2816, .f32⟩
  | 51 => ⟨S_, .f32⟩
  | 52 => ⟨S16400x2816, .f32⟩
  | 53 => ⟨S16400x2816, .f32⟩
  | 54 => ⟨S_, .f32⟩
  | 55 => ⟨S16400x2816, .f32⟩
  | 56 => ⟨S16400x2816, .f32⟩
  | 57 => ⟨S16400x2816, .f32⟩
  | 58 => ⟨S16400x2816, .f32⟩
  | 59 => ⟨S16400x1024, .f32⟩
  | 60 => ⟨S16400x1024, .f32⟩
  | 61 => ⟨S16400x1024, .f32⟩
  | 62 => ⟨S_, .f32⟩
  | 63 => ⟨S16400, .f32⟩
  | 64 => ⟨S16400x1, .f32⟩
  | 65 => ⟨S_, .f32⟩
  | 66 => ⟨S16400x1, .f32⟩
  | 67 => ⟨S16400x1, .f32⟩
  | 68 => ⟨S_, .f32⟩
  | 69 => ⟨S16400x1, .f32⟩
  | 70 => ⟨S16400x1, .f32⟩
  | 71 => ⟨S16400x1, .f32⟩
  | 72 => ⟨S16400x1, .f32⟩
  | 73 => ⟨S_, .f32⟩
  | 74 => ⟨S16400x1, .f32⟩
  | 75 => ⟨S16400x1, .f32⟩
  | 76 => ⟨S16400x1024, .f32⟩
  | 77 => ⟨S16400x1024, .f32⟩
  | 78 => ⟨S1x1024, .f32⟩
  | 79 => ⟨S16400x1024, .f32⟩
  | 80 => ⟨S16400x1024, .f32⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384, .f32⟩
  | 89 => ⟨S_, .f32⟩
  | 90 => ⟨S16384, .f32⟩
  | 91 => ⟨S16384, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16384, .f32⟩
  | 100 => ⟨S_, .f32⟩
  | 101 => ⟨S16384, .f32⟩
  | 102 => ⟨S16384, .f32⟩
  | 103 => ⟨S16384x1024, .f32⟩
  | 104 => ⟨S16384x1024, .f32⟩
  | 105 => ⟨S_, .f32⟩
  | 106 => ⟨S16400x1024, .f32⟩
  | 107 => ⟨S16400x1024, .f32⟩
  | 108 => ⟨S_, .f32⟩
  | 109 => ⟨S1024, .f32⟩
  | 110 => ⟨S1x1024, .f32⟩
  | 111 => ⟨S16400x1024, .f32⟩
  | 112 => ⟨S16400x1024, .f32⟩
  | 113 => ⟨S_, .f32⟩
  | 114 => ⟨S1024, .f32⟩
  | 115 => ⟨S16400x1024, .f32⟩
  | 116 => ⟨S_, .f32⟩
  | 117 => ⟨S16400, .f32⟩
  | 118 => ⟨S16400x1, .f32⟩
  | 119 => ⟨S16400x1024, .f32⟩
  | 120 => ⟨S16400x1024, .f32⟩
  | 121 => ⟨S16400x1, .f32⟩
  | 122 => ⟨S_, .f32⟩
  | 123 => ⟨S16400x1, .f32⟩
  | 124 => ⟨S16400x1, .f32⟩
  | 125 => ⟨S_, .f32⟩
  | 126 => ⟨S16400, .f32⟩
  | 127 => ⟨S16400x1024, .f32⟩
  | _ => ⟨S16400x1024, .f32⟩

abbrev hbmTy0_1 (i : Nat) : BufTy := match i % 128 with
  | 0 => ⟨S16400x1024, .f32⟩
  | 1 => ⟨S16400x1024, .f32⟩
  | 2 => ⟨S16400x1024, .f32⟩
  | 3 => ⟨S16400x1024, .f32⟩
  | _ => ⟨S16400x1024, .f32⟩

abbrev hbmTy (i : Nat) : BufTy := match i / 128 with
  | 0 => hbmTy0_0 i
  | 1 => hbmTy0_1 i
  | _ => ⟨S16400x1024, .f32⟩

abbrev bufTy : (tb : Table) → Fin (tcTables nBuf tb) → BufTy
  | .hbm, ⟨i, _⟩ => hbmTy i
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_cst_12 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Kernel2.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x5632 : Shape := ⟨2, ![16400, 5632]⟩
abbrev S2x5632 : Shape := ⟨2, ![2, 5632]⟩
abbrev S16402x5632 : Shape := ⟨2, ![16402, 5632]⟩
abbrev S1x5632 : Shape := ⟨2, ![1, 5632]⟩
abbrev S5632 : Shape := ⟨1, ![5632]⟩
abbrev S1024x4x1408 : Shape := ⟨3, ![1024, 4, 1408]⟩
abbrev S4x1024x1408 : Shape := ⟨3, ![4, 1024, 1408]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S16640x5632 : Shape := ⟨2, ![16640, 5632]⟩
abbrev S65x8x32x5632 : Shape := ⟨4, ![65, 8, 32, 5632]⟩
abbrev S65x32x8x5632 : Shape := ⟨4, ![65, 32, 8, 5632]⟩
abbrev S8x5632 : Shape := ⟨2, ![8, 5632]⟩
abbrev S8x1024 : Shape := ⟨2, ![8, 1024]⟩
abbrev S256x1024 : Shape := ⟨2, ![256, 1024]⟩
abbrev S256x5632 : Shape := ⟨2, ![256, 5632]⟩
abbrev S16x5632 : Shape := ⟨2, ![16, 5632]⟩
abbrev S272x2816 : Shape := ⟨2, ![272, 2816]⟩
abbrev S1408x1024 : Shape := ⟨2, ![1408, 1024]⟩
abbrev S256x1408 : Shape := ⟨2, ![256, 1408]⟩
abbrev S16x1408 : Shape := ⟨2, ![16, 1408]⟩
abbrev S8x2816 : Shape := ⟨2, ![8, 2816]⟩
abbrev S8x1 : Shape := ⟨2, ![8, 1]⟩
abbrev S1x1408 : Shape := ⟨2, ![1, 1408]⟩
abbrev S1408 : Shape := ⟨1, ![1408]⟩
abbrev S1x1024x1408 : Shape := ⟨3, ![1, 1024, 1408]⟩
abbrev S1024x1408 : Shape := ⟨2, ![1024, 1408]⟩
abbrev S256x1 : Shape := ⟨2, ![256, 1]⟩
abbrev S256 : Shape := ⟨1, ![256]⟩

abbrev nBuf : Space → Nat
  | .hbm => 99
  | .vmem => 25
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S16400x1024, .f32⟩
  | .hbm, ⟨6, _⟩ => ⟨S16400x1024, .f32⟩
  | .hbm, ⟨7, _⟩ => ⟨S_, .f32⟩
  | .hbm, ⟨8, _⟩ => ⟨S16400, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S_, .f32⟩
  | .hbm, ⟨14, _⟩ => ⟨S16400x1, .f32⟩
  | .hbm, ⟨15, _⟩ => ⟨S16400x1, .f32⟩
  | .hbm, ⟨16, _⟩ => ⟨S16400x1, .f32⟩
  | .hbm, ⟨17, _⟩ => ⟨S16400x1024, .f32⟩
  | .hbm, ⟨18, _⟩ => ⟨S16400x1024, .f32⟩
  | .hbm, ⟨19, _⟩ => ⟨S1x1024, .f32⟩
  | .hbm, ⟨20, _⟩ => ⟨S16400x1024, .f32⟩
  | .hbm, ⟨21, _⟩ => ⟨S16400x1024, .f32⟩
  | .hbm, ⟨22, _⟩ => ⟨S16400x5632, .f32⟩
  | .hbm, ⟨23, _⟩ => ⟨S_, .f32⟩
  | .hbm, ⟨24, _⟩ => ⟨S2x5632, .f32⟩
  | .hbm, ⟨25, _⟩ => ⟨S16402x5632, .f32⟩
  | .hbm, ⟨26, _⟩ => ⟨S16400x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S16400x5632, .f32⟩
  | .hbm, ⟨31, _⟩ => ⟨S16400x5632, .f32⟩
  | .hbm, ⟨32, _⟩ => ⟨S16400x5632, .f32⟩
  | .hbm, ⟨33, _⟩ => ⟨S1x5632, .f32⟩
  | .hbm, ⟨34, _⟩ => ⟨S5632, .f32⟩
  | .hbm, ⟨35, _⟩ => ⟨S1x5632, .f32⟩
  | .hbm, ⟨36, _⟩ => ⟨S16400x5632, .f32⟩
  | .hbm, ⟨37, _⟩ => ⟨S16400x5632, .f32⟩
  | .hbm, ⟨38, _⟩ => ⟨S16400x5632, .f32⟩
  | .hbm, ⟨39, _⟩ => ⟨S16400x5632, .f32⟩
  | .hbm, ⟨40, _⟩ => ⟨S1x5632, .f32⟩
  | .hbm, ⟨41, _⟩ => ⟨S5632, .f32⟩
  | .hbm, ⟨42, _⟩ => ⟨S1x5632, .f32⟩
  | .hbm, ⟨43, _⟩ => ⟨S16400x5632, .f32⟩
  | .hbm, ⟨44, _⟩ => ⟨S16400x5632, .f32⟩
  | .hbm, ⟨45, _⟩ => ⟨S16400x5632, .f32⟩
  | .hbm, ⟨46, _⟩ => ⟨S1024x4x1408, .f32⟩
  | .hbm, ⟨47, _⟩ => ⟨S4x1024x1408, .f32⟩
  | .hbm, ⟨48, _⟩ => ⟨S4x1024x1408, .bf16⟩
  | .hbm, ⟨49, _⟩ => ⟨S_, .i32⟩
  | .hbm, ⟨50, _⟩ => ⟨S_, .f32⟩
  | .hbm, ⟨51, _⟩ => ⟨S16640x1024, .f32⟩
  | .hbm, ⟨52, _⟩ => ⟨S65x8x32x1024, .f32⟩
  | .hbm, ⟨53, _⟩ => ⟨S65x32x8x1024, .f32⟩
  | .hbm, ⟨54, _⟩ => ⟨S16640x1024, .f32⟩
  | .hbm, ⟨55, _⟩ => ⟨S_, .i32⟩
  | .hbm, ⟨56, _⟩ => ⟨S_, .f32⟩
  | .hbm, ⟨57, _⟩ => ⟨S16640x5632, .f32⟩
  | .hbm, ⟨58, _⟩ => ⟨S65x8x32x5632, .f32⟩
  | .hbm, ⟨59, _⟩ => ⟨S65x32x8x5632, .f32⟩
  | .hbm, ⟨60, _⟩ => ⟨S16640x5632, .f32⟩
  | .hbm, ⟨61, _⟩ => ⟨S16640x5632, .bf16⟩
  | .hbm, ⟨62, _⟩ => ⟨S_, .i32⟩
  | .hbm, ⟨63, _⟩ => ⟨S_, .f32⟩
  | .hbm, ⟨64, _⟩ => ⟨S16640x5632, .f32⟩
  | .hbm, ⟨65, _⟩ => ⟨S65x8x32x5632, .f32⟩
  | .hbm, ⟨66, _⟩ => ⟨S65x32x8x5632, .f32⟩
  | .hbm, ⟨67, _⟩ => ⟨S16640x5632, .f32⟩
  | .hbm, ⟨68, _⟩ => ⟨S16640x5632, .bf16⟩
  | .hbm, ⟨69, _⟩ => ⟨S_, .i32⟩
  | .hbm, ⟨70, _⟩ => ⟨S_, .f32⟩
  | .hbm, ⟨71, _⟩ => ⟨S16640x1024, .f32⟩
  | .hbm, ⟨72, _⟩ => ⟨S65x8x32x1024, .f32⟩
  | .hbm, ⟨73, _⟩ => ⟨S65x32x8x1024, .f32⟩
  | .hbm, ⟨74, _⟩ => ⟨S16640x1024, .f32⟩
  | .hbm, ⟨75, _⟩ => ⟨S1x1024, .f32⟩
  | .hbm, ⟨76, _⟩ => ⟨S2816x1024, .bf16⟩
  | .hbm, ⟨77, _⟩ => ⟨S16640x1024, .f32⟩
  | .hbm, ⟨78, _⟩ => ⟨S16640x5632, .bf16⟩
  | .hbm, ⟨79, _⟩ => ⟨S16640x1024, .bf16⟩
  | .hbm, ⟨80, _⟩ => ⟨S8x5632, .f32⟩
  | .hbm, ⟨81, _⟩ => ⟨S8x1024, .f32⟩
  | .hbm, ⟨82, _⟩ => ⟨S65x32x8x1024, .f32⟩
  | .hbm, ⟨83, _⟩ => ⟨S65x8x32x1024, .f32⟩
  | .hbm, ⟨84, _⟩ => ⟨S16640x1024, .f32⟩
  | .hbm, ⟨85, _⟩ => ⟨S16400x1024, .f32⟩
  | .hbm, ⟨86, _⟩ => ⟨S16640x5632, .f32⟩
  | .hbm, ⟨87, _⟩ => ⟨S65x32x8x5632, .f32⟩
  | .hbm, ⟨88, _⟩ => ⟨S65x8x32x5632, .f32⟩
  | .hbm, ⟨89, _⟩ => ⟨S16640x5632, .f32⟩
  | .hbm, ⟨90, _⟩ => ⟨S16400x5632, .f32⟩
  | .hbm, ⟨91, _⟩ => ⟨S16640x1024, .f32⟩
  | .hbm, ⟨92, _⟩ => ⟨S65x32x8x1024, .f32⟩
  | .hbm, ⟨93, _⟩ => ⟨S65x8x32x1024, .f32⟩
  | .hbm, ⟨94, _⟩ => ⟨S16640x1024, .f32⟩
  | .hbm, ⟨95, _⟩ => ⟨S16400x1024, .f32⟩
  | .hbm, ⟨96, _⟩ => ⟨S3x5632, .f32⟩
  | .hbm, ⟨97, _⟩ => ⟨S1x1024, .f32⟩
  | .hbm, ⟨98, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S16x5632, .bf16⟩
  | .local _ .vmem, ⟨5, _⟩ => ⟨S16x5632, .bf16⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S4x1024x1408, .bf16⟩
  | .local _ .vmem, ⟨12, _⟩ => ⟨S3x5632, .f32⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x5632, .bf16⟩
  | .local _ .vmem, ⟨17, _⟩ => ⟨S256x5632, .bf16⟩
  | .local _ .vmem, ⟨18, _⟩ => ⟨S256x1024, .bf16⟩
  | .local _ .vmem, ⟨19, _⟩ => ⟨S256x1024, .bf16⟩
  | .local _ .vmem, ⟨20, _⟩ => ⟨S8x5632, .f32⟩
  | .local _ .vmem, ⟨21, _⟩ => ⟨S8x1024, .f32⟩
  | .local _ .vmem, ⟨22, _⟩ => ⟨S272x2816, .f32⟩
  | .local _ .vmem, ⟨23, _⟩ => ⟨S272x2816, .f32⟩
  | .local _ .vmem, ⟨24, _⟩ => ⟨S16x5632, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_call0_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_3 : Ref sig .tc := ⟨.hbm, 55, rfl⟩
abbrev main_call1_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_call2_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_5 : Ref sig .tc := ⟨.hbm, 69, rfl⟩
abbrev main_call3_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev main_v59_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16400x5632 : Shape := ⟨2, ![16400, 5632]⟩
abbrev S16400 : Shape := ⟨1, ![16400]⟩
abbrev S16400x1 : Shape := ⟨2, ![16400, 1]⟩
abbrev S1x1024 : Shape := ⟨2, ![1, 1024]⟩
abbrev S2x5632 : Shape := ⟨2, ![2, 5632]⟩
abbrev S16402x5632 : Shape := ⟨2, ![16402, 5632]⟩
abbrev S1x5632 : Shape := ⟨2, ![1, 5632]⟩
abbrev S5632 : Shape := ⟨1, ![5632]⟩
abbrev S16400x2816 : Shape := ⟨2, ![16400, 2816]⟩

abbrev nBuf : Space → Nat
  | .hbm => 154
  | .vmem => 0
  | .smem => 0
  | _ => 0

abbrev hbmTy0_0 (i : Nat) : BufTy := match i % 128 with
  | 0 => ⟨S16400x1024, .f32⟩
  | 1 => ⟨S1024, .f32⟩
  | 2 => ⟨S1024x5632, .f32⟩
  | 3 => ⟨S3x5632, .f32⟩
  | 4 => ⟨S2816x1024, .f32⟩
  | 5 => ⟨S16400x1024, .f32⟩
  | 6 => ⟨S_, .f32⟩
  | 7 => ⟨S16400x5632, .f32⟩
  | 8 => ⟨S16400x1024, .f32⟩
  | 9 => ⟨S_, .f32⟩
  | 10 => ⟨S16400, .f32⟩
  | 11 => ⟨S16400x1, .f32⟩
  | 12 => ⟨S_, .f32⟩
  | 13 => ⟨S16400x1, .f32⟩
  | 14 => ⟨S16400x1, .f32⟩
  | 15 => ⟨S_, .f32⟩
  | 16 => ⟨S16400x1, .f32⟩
  | 17 => ⟨S16400x1, .f32⟩
  | 18 => ⟨S16400x1, .f32⟩
  | 19 => ⟨S16400x1, .f32⟩
  | 20 => ⟨S_, .f32⟩
  | 21 => ⟨S16400x1, .f32⟩
  | 22 => ⟨S16400x1, .f32⟩
  | 23 => ⟨S16400x1024, .f32⟩
  | 24 => ⟨S16400x1024, .f32⟩
  | 25 => ⟨S1x1024, .f32⟩
  | 26 => ⟨S16400x1024, .f32⟩
  | 27 => ⟨S16400x1024, .f32⟩
  | 28 => ⟨S16400x5632, .f32⟩
  | 29 => ⟨S16400x5632, .f32⟩
  | 30 => ⟨S_, .f32⟩
  | 31 => ⟨S2x5632, .f32⟩
  | 32 => ⟨S16402x5632, .f32⟩
  | 33 => ⟨S_, .f32⟩
  | 34 => ⟨S2x5632, .f32⟩
  | 35 => ⟨S16400x5632, .f32⟩
  | 36 => ⟨S1x5632, .f32⟩
  | 37 => ⟨S5632, .f32⟩
  | 38 => ⟨S1x5632, .f32⟩
  | 39 => ⟨S16400x5632, .f32⟩
  | 40 => ⟨S16400x5632, .f32⟩
  | 41 => ⟨S16400x5632, .f32⟩
  | 42 => ⟨S1x5632, .f32⟩
  | 43 => ⟨S5632, .f32⟩
  | 44 => ⟨S1x5632, .f32⟩
  | 45 => ⟨S16400x5632, .f32⟩
  | 46 => ⟨S16400x5632, .f32⟩
  | 47 => ⟨S16400x5632, .f32⟩
  | 48 => ⟨S16400x5632, .f32⟩
  | 49 => ⟨S1x5632, .f32⟩
  | 50 => ⟨S5632, .f32⟩
  | 51 => ⟨S1x5632, .f32⟩
  | 52 => ⟨S16400x5632, .f32⟩
  | 53 => ⟨S16400x5632, .f32⟩
  | 54 => ⟨S16400x5632, .f32⟩
  | 55 => ⟨S16400x2816, .f32⟩
  | 56 => ⟨S16400x2816, .f32⟩
  | 57 => ⟨S16400x2816, .f32⟩
  | 58 => ⟨S16400x2816, .f32⟩
  | 59 => ⟨S_, .f32⟩
  | 60 => ⟨S16400x2816, .f32⟩
  | 61 => ⟨S16400x2816, .f32⟩
  | 62 => ⟨S_, .f32⟩
  | 63 => ⟨S16400x2816, .f32⟩
  | 64 => ⟨S16400x2816, .f32⟩
  | 65 => ⟨S_, .f32⟩
  | 66 => ⟨S16400x2816, .f32⟩
  | 67 => ⟨S16400x2816, .f32⟩
  | 68 => ⟨S16400x2816, .f32⟩
  | 69 => ⟨S16400x2816, .f32⟩
  | 70 => ⟨S16400x2816, .f32⟩
  | 71 => ⟨S16400x1024, .f32⟩
  | 72 => ⟨S16400x1024, .f32⟩
  | 73 => ⟨S16400x1024, .f32⟩
  | 74 => ⟨S16400x2816, .f32⟩
  | 75 => ⟨S16400x2816, .f32⟩
  | 76 => ⟨S16400x2816, .f32⟩
  | 77 => ⟨S16400x2816, .f32⟩
  | 78 => ⟨S16400x2816, .f32⟩
  | 79 => ⟨S16400x2816, .f32⟩
  | 80 => ⟨S16400x2816, .f32⟩
  | 81 => ⟨S16400x5632, .f32⟩
  | 82 => ⟨S16400x5632, .f32⟩
  | 83 => ⟨S_, .f32⟩
  | 84 => ⟨S5632, .f32⟩
  | 85 => ⟨S1x5632, .f32⟩
  | 86 => ⟨S16400x5632, .f32⟩
  | 87 => ⟨S16400x5632, .f32⟩
  | 88 => ⟨S_, .f32⟩
  | 89 => ⟨S5632, .f32⟩
  | 90 => ⟨S1x5632, .f32⟩
  | 91 => ⟨S_, .f32⟩
  | 92 => ⟨S3x5632, .f32⟩
  | 93 => ⟨S_, .f32⟩
  | 94 => ⟨S16402x5632, .f32⟩
  | 95 => ⟨S16400x5632, .f32⟩
  | 96 => ⟨S_, .f32⟩
  | 97 => ⟨S5632, .f32⟩
  | 98 => ⟨S1x5632, .f32⟩
  | 99 => ⟨S16400x5632, .f32⟩
  | 100 => ⟨S16400x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S3x5632, .f32⟩
  | 107 => ⟨S_, .f32⟩
  | 108 => ⟨S16402x5632, .f32⟩
  | 109 => ⟨S16402x5632, .f32⟩
  | 110 => ⟨S16400x5632, .f32⟩
  | 111 => ⟨S_, .f32⟩
  | 112 => ⟨S5632, .f32⟩
  | 113 => ⟨S1x5632, .f32⟩
  | 114 => ⟨S16400x5632, .f32⟩
  | 115 => ⟨S16400x5632, .f32⟩
  | 116 => ⟨S_, .f32⟩
  | 117 => ⟨S5632, .f32⟩
  | 118 => ⟨S1x5632, .f32⟩
  | 119 => ⟨S_, .f32⟩
  | 120 => ⟨S3x5632, .f32⟩
  | 121 => ⟨S3x5632, .f32⟩
  | 122 => ⟨S_, .f32⟩
  | 123 => ⟨S16402x5632, .f32⟩
  | 124 => ⟨S16402x5632, .f32⟩
  | 125 => ⟨S2x5632, .f32⟩
  | 126 => ⟨S16400x5632, .f32⟩
  | 127 => ⟨S16400x1024, .f32⟩
  | _ => ⟨S16400x1024, .f32⟩

abbrev hbmTy0_1 (i : Nat) : BufTy := match i % 128 with
  | 0 => ⟨S16400x1024, .f32⟩
  | 1 => ⟨S_, .f32⟩
  | 2 => ⟨S1024, .f32⟩
  | 3 => ⟨S1x1024, .f32⟩
  | 4 => ⟨S16400x1024, .f32⟩
  | 5 => ⟨S16400x1024, .f32⟩
  | 6 => ⟨S_, .f32⟩
  | 7 => ⟨S1024, .f32⟩
  | 8 => ⟨S16400x1024, .f32⟩
  | 9 => ⟨S_, .f32⟩
  | 10 => ⟨S16400, .f32⟩
  | 11 => ⟨S16400x1, .f32⟩
  | 12 => ⟨S16400x1024, .f32⟩
  | 13 => ⟨S16400x1024, .f32⟩
  | 14 => ⟨S16400x1024, .f32⟩
  | 15 => ⟨S16400x1, .f32⟩
  | 16 => ⟨S_, .f32⟩
  | 17 => ⟨S16400x1, .f32⟩
  | 18 => ⟨S16400x1, .f32⟩
  | 19 => ⟨S_, .f32⟩
  | 20 => ⟨S16400, .f32⟩
  | 21 => ⟨S16400x1024, .f32⟩
  | 22 => ⟨S16400x1024, .f32⟩
  | 23 => ⟨S16400x1024, .f32⟩
  | 24 => ⟨S16400x1024, .f32⟩
  | 25 => ⟨S16400x1024, .f32⟩
  | _ => ⟨S16400x1024, .f32⟩

abbrev hbmTy (i : Nat) : BufTy := match i / 128 with
  | 0 => hbmTy0_0 i
  | 1 => hbmTy0_1 i
  | _ => ⟨S16400x1024, .f32⟩

abbrev bufTy : (tb : Table) → Fin (tcTables nBuf tb) → BufTy
  | .hbm, ⟨i, _⟩ => hbmTy i
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v44_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v44_1 : Ref sig .tc := ⟨.hbm, 68, rfl⟩
abbrev main_v44_0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_21 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]
-- ==== Kernel3.lean ====
abbrev S16384x1024 : Shape := ⟨2, ![16384, 1024]⟩
abbrev S16x1024 : Shape := ⟨2, ![16, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16400x1024 : Shape := ⟨2, ![16400, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x3072 : Shape := ⟨2, ![16400, 3072]⟩
abbrev S1024x4x768 : Shape := ⟨3, ![1024, 4, 768]⟩
abbrev S4x1024x768 : Shape := ⟨3, ![4, 1024, 768]⟩
abbrev S240x1024 : Shape := ⟨2, ![240, 1024]⟩
abbrev S256x1024 : Shape := ⟨2, ![256, 1024]⟩
abbrev S1x8x32x1024 : Shape := ⟨4, ![1, 8, 32, 1024]⟩
abbrev S1x32x8x1024 : Shape := ⟨4, ![1, 32, 8, 1024]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S16640x3072 : Shape := ⟨2, ![16640, 3072]⟩
abbrev S65x8x32x3072 : Shape := ⟨4, ![65, 8, 32, 3072]⟩
abbrev S65x32x8x3072 : Shape := ⟨4, ![65, 32, 8, 3072]⟩
abbrev S64x8x32x1024 : Shape := ⟨4, ![64, 8, 32, 1024]⟩
abbrev S64x32x8x1024 : Shape := ⟨4, ![64, 32, 8, 1024]⟩
abbrev S8x1024 : Shape := ⟨2, ![8, 1024]⟩
abbrev S256x3072 : Shape := ⟨2, ![256, 3072]⟩
abbrev S16x3072 : Shape := ⟨2, ![16, 3072]⟩
abbrev S272x1024 : Shape := ⟨2, ![272, 1024]⟩
abbrev S8x1 : Shape := ⟨2, ![8, 1]⟩
abbrev S256x768 : Shape := ⟨2, ![256, 768]⟩
abbrev S1x1024x768 : Shape := ⟨3, ![1, 1024, 768]⟩
abbrev S1024x768 : Shape := ⟨2, ![1024, 768]⟩
abbrev S256x256 : Shape := ⟨2, ![256, 256]⟩
abbrev S256x2304 : Shape := ⟨2, ![256, 2304]⟩
abbrev S256x1 : Shape := ⟨2, ![256, 1]⟩
abbrev S256 : Shape := ⟨1, ![256]⟩

abbrev nBuf : Space → Nat
  | .hbm => 84
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S16400x1024, .f32⟩
  | .hbm, ⟨7, _⟩ => ⟨S16400x1024, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1024, .f32⟩
  | .hbm, ⟨20, _⟩ => ⟨S16400x1024, .f32⟩
  | .hbm, ⟨21, _⟩ => ⟨S1x1024, .f32⟩
  | .hbm, ⟨22, _⟩ => ⟨S16400x1024, .f32⟩
  | .hbm, ⟨23, _⟩ => ⟨S16400x1024, .f32⟩
  | .hbm, ⟨24, _⟩ => ⟨S16400x3072, .f32⟩
  | .hbm, ⟨25, _⟩ => ⟨S1024x4x768, .f32⟩
  | .hbm, ⟨26, _⟩ => ⟨S4x1024x768, .f32⟩
  | .hbm, ⟨27, _⟩ => ⟨S4x1024x768, .bf16⟩
  | .hbm, ⟨28, _⟩ => ⟨S_, .f32⟩
  | .hbm, ⟨29, _⟩ => ⟨S240x1024, .f32⟩
  | .hbm, ⟨30, _⟩ => ⟨S256x1024, .f32⟩
  | .hbm, ⟨31, _⟩ => ⟨S1x8x32x1024, .f32⟩
  | .hbm, ⟨32, _⟩ => ⟨S1x32x8x1024, .f32⟩
  | .hbm, ⟨33, _⟩ => ⟨S256x1024, .f32⟩
  | .hbm, ⟨34, _⟩ => ⟨S_, .i32⟩
  | .hbm, ⟨35, _⟩ => ⟨S_, .f32⟩
  | .hbm, ⟨36, _⟩ => ⟨S16640x1024, .f32⟩
  | .hbm, ⟨37, _⟩ => ⟨S65x8x32x1024, .f32⟩
  | .hbm, ⟨38, _⟩ => ⟨S65x32x8x1024, .f32⟩
  | .hbm, ⟨39, _⟩ => ⟨S16640x1024, .f32⟩
  | .hbm, ⟨40, _⟩ => ⟨S_, .i32⟩
  | .hbm, ⟨41, _⟩ => ⟨S_, .f32⟩
  | .hbm, ⟨42, _⟩ => ⟨S16640x3072, .f32⟩
  | .hbm, ⟨43, _⟩ => ⟨S65x8x32x3072, .f32⟩
  | .hbm, ⟨44, _⟩ => ⟨S65x32x8x3072, .f32⟩
  | .hbm, ⟨45, _⟩ => ⟨S16640x3072, .f32⟩
  | .hbm, ⟨46, _⟩ => ⟨S16640x3072, .bf16⟩
  | .hbm, ⟨47, _⟩ => ⟨S64x8x32x1024, .f32⟩
  | .hbm, ⟨48, _⟩ => ⟨S64x32x8x1024, .f32⟩
  | .hbm, ⟨49, _⟩ => ⟨S16384x1024, .f32⟩
  | .hbm, ⟨50, _⟩ => ⟨S1x1024, .f32⟩
  | .hbm, ⟨51, _⟩ => ⟨S1024x1024, .bf16⟩
  | .hbm, ⟨52, _⟩ => ⟨S16384x1024, .f32⟩
  | .hbm, ⟨53, _⟩ => ⟨S16640x3072, .bf16⟩
  | .hbm, ⟨54, _⟩ => ⟨S16640x1024, .bf16⟩
  | .hbm, ⟨55, _⟩ => ⟨S16640x1024, .bf16⟩
  | .hbm, ⟨56, _⟩ => ⟨S8x1024, .f32⟩
  | .hbm, ⟨57, _⟩ => ⟨S8x1024, .f32⟩
  | .hbm, ⟨58, _⟩ => ⟨S256x1024, .f32⟩
  | .hbm, ⟨59, _⟩ => ⟨S64x32x8x1024, .f32⟩
  | .hbm, ⟨60, _⟩ => ⟨S64x8x32x1024, .f32⟩
  | .hbm, ⟨61, _⟩ => ⟨S16384x1024, .f32⟩
  | .hbm, ⟨62, _⟩ => ⟨S1x32x8x1024, .f32⟩
  | .hbm, ⟨63, _⟩ => ⟨S1x8x32x1024, .f32⟩
  | .hbm, ⟨64, _⟩ => ⟨S256x1024, .f32⟩
  | .hbm, ⟨65, _⟩ => ⟨S16x1024, .f32⟩
  | .hbm, ⟨66, _⟩ => ⟨S1x1024, .f32⟩
  | .hbm, ⟨67, _⟩ => ⟨S1024, .f32⟩
  | .hbm, ⟨68, _⟩ => ⟨S3x1024, .f32⟩
  | .hbm, ⟨69, _⟩ => ⟨S16640x3072, .f32⟩
  | .hbm, ⟨70, _⟩ => ⟨S65x32x8x3072, .f32⟩
  | .hbm, ⟨71, _⟩ => ⟨S65x8x32x3072, .f32⟩
  | .hbm, ⟨72, _⟩ => ⟨S16640x3072, .f32⟩
  | .hbm, ⟨73, _⟩ => ⟨S16400x3072, .f32⟩
  | .hbm, ⟨74, _⟩ => ⟨S16640x1024, .f32⟩
  | .hbm, ⟨75, _⟩ => ⟨S65x32x8x1024, .f32⟩
  | .hbm, ⟨76, _⟩ => ⟨S65x8x32x1024, .f32⟩
  | .hbm, ⟨77, _⟩ => ⟨S16640x1024, .f32⟩
  | .hbm, ⟨78, _⟩ => ⟨S16400x1024, .f32⟩
  | .hbm, ⟨79, _⟩ => ⟨S16640x1024, .f32⟩
  | .hbm, ⟨80, _⟩ => ⟨S65x32x8x1024, .f32⟩
  | .hbm, ⟨81, _⟩ => ⟨S65x8x32x1024, .f32⟩
  | .hbm, ⟨82, _⟩ => ⟨S16640x1024, .f32⟩
  | .hbm, ⟨83, _⟩ => ⟨S16400x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S16x3072, .bf16⟩
  | .local _ .vmem, ⟨5, _⟩ => ⟨S16x3072, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S4x1024x768, .bf16⟩
  | .local _ .vmem, ⟨11, _⟩ => ⟨S3x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x3072, .bf16⟩
  | .local _ .vmem, ⟨16, _⟩ => ⟨S256x3072, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | .local _ .vmem, ⟨22, _⟩ => ⟨S8x1024, .f32⟩
  | .local _ .vmem, ⟨23, _⟩ => ⟨S256x1024, .f32⟩
  | .local _ .vmem, ⟨24, _⟩ => ⟨S272x1024, .f32⟩
  | .local _ .vmem, ⟨25, _⟩ => ⟨S272x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_v37_2 : Ref sig .tc := ⟨.hbm, 54, rfl⟩
abbrev main_v37_3 : Ref sig .tc := ⟨.hbm, 55, rfl⟩
abbrev main_v37_4 : Ref sig .tc := ⟨.hbm, 56, rfl⟩
abbrev main_v37_5 : Ref sig .tc := ⟨.hbm, 57, rfl⟩
abbrev main_v37_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![65], ![false]⟩

def k0_cond3 (i : grid0.Coords) : BitVec 1 :=
  let c64_i32 : BitVec 32 := 64#32
  let arg0 : BitVec 32 := BitVec.ofNat 32 (i 0).val
  let v0 : BitVec 32 := Scalar.subi c64_i32 arg0
  let c0_i32_137 : BitVec 32 := 0#32
  let v243 : BitVec 1 := Scalar.cmpi .sgt v0 c0_i32_137
  let v244 : BitVec 32 := Scalar.extui v243
  let c0_i32_138 : BitVec 32 := 0#32
  let v245 : BitVec 1 := Scalar.cmpi .ne v244 c0_i32_138
  v245

def k0_cond2 (i : grid0.Coords) : BitVec 1 :=
  let c64_i32 : BitVec 32 := 64#32
  let arg0 : BitVec 32 := BitVec.ofNat 32 (i 0).val
  let v0 : BitVec 32 := Scalar.subi c64_i32 arg0
  let c0_i32_135 : BitVec 32 := 0#32
  let v240 : BitVec 1 := Scalar.cmpi .eq v0 c0_i32_135
  let v241 : BitVec 32 := Scalar.extui v240
  let c0_i32_136 : BitVec 32 := 0#32
  let v242 : BitVec 1 := Scalar.cmpi .ne v241 c0_i32_136
  v242

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S16384x1024 : Shape := ⟨2, ![16384, 1024]⟩
abbrev S16x1024 : Shape := ⟨2, ![16, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16400x1024 : Shape := ⟨2, ![16400, 1024]⟩
abbrev S_ : Shape := ⟨0, ![]⟩
abbrev S16400x3072 : Shape := ⟨2, ![16400, 3072]⟩
abbrev S16400 : Shape := ⟨1, ![16400]⟩
abbrev S16400x1 : Shape := ⟨2, ![16400, 1]⟩
abbrev S1x1024 : Shape := ⟨2, ![1, 1024]⟩
abbrev S2x1024 : Shape := ⟨2, ![2, 1024]⟩
abbrev S16402x1024 : Shape := ⟨2, ![16402, 1024]⟩

abbrev nBuf : Space → Nat
  | .hbm => 146
  | .vmem => 0
  | .smem => 0
  | _ => 0

abbrev hbmTy0_0 (i : Nat) : BufTy := match i % 128 with
  | 0 => ⟨S16384x1024, .f32⟩
  | 1 => ⟨S16x1024, .f32⟩
  | 2 => ⟨S1024, .f32⟩
  | 3 => ⟨S1024x3072, .f32⟩
  | 4 => ⟨S3x1024, .f32⟩
  | 5 => ⟨S1024x1024, .f32⟩
  | 6 => ⟨S16400x1024, .f32⟩
  | 7 => ⟨S_, .f32⟩
  | 8 => ⟨S16400x3072, .f32⟩
  | 9 => ⟨S16400x1024, .f32⟩
  | 10 => ⟨S16400x1024, .f32⟩
  | 11 => ⟨S_, .f32⟩
  | 12 => ⟨S16400, .f32⟩
  | 13 => ⟨S16400x1, .f32⟩
  | 14 => ⟨S_, .f32⟩
  | 15 => ⟨S16400x1, .f32⟩
  | 16 => ⟨S16400x1, .f32⟩
  | 17 => ⟨S_, .f32⟩
  | 18 => ⟨S16400x1, .f32⟩
  | 19 => ⟨S16400x1, .f32⟩
  | 20 => ⟨S16400x1, .f32⟩
  | 21 => ⟨S16400x1, .f32⟩
  | 22 => ⟨S_, .f32⟩
  | 23 => ⟨S16400x1, .f32⟩
  | 24 => ⟨S16400x1, .f32⟩
  | 25 => ⟨S16400x1024, .f32⟩
  | 26 => ⟨S16400x1024, .f32⟩
  | 27 => ⟨S1x1024, .f32⟩
  | 28 => ⟨S16400x1024, .f32⟩
  | 29 => ⟨S16400x1024, .f32⟩
  | 30 => ⟨S16400x3072, .f32⟩
  | 31 => ⟨S16400x3072, .f32⟩
  | 32 => ⟨S16400x1024, .f32⟩
  | 33 => ⟨S16400x1024, .f32⟩
  | 34 => ⟨S16400x1024, .f32⟩
  | 35 => ⟨S16400x1024, .f32⟩
  | 36 => ⟨S_, .f32⟩
  | 37 => ⟨S2x1024, .f32⟩
  | 38 => ⟨S16402x1024, .f32⟩
  | 39 => ⟨S_, .f32⟩
  | 40 => ⟨S2x1024, .f32⟩
  | 41 => ⟨S16400x1024, .f32⟩
  | 42 => ⟨S1x1024, .f32⟩
  | 43 => ⟨S1024, .f32⟩
  | 44 => ⟨S1x1024, .f32⟩
  | 45 => ⟨S16400x1024, .f32⟩
  | 46 => ⟨S16400x1024, .f32⟩
  | 47 => ⟨S16400x1024, .f32⟩
  | 48 => ⟨S1x1024, .f32⟩
  | 49 => ⟨S1024, .f32⟩
  | 50 => ⟨S1x1024, .f32⟩
  | 51 => ⟨S16400x1024, .f32⟩
  | 52 => ⟨S16400x1024, .f32⟩
  | 53 => ⟨S16400x1024, .f32⟩
  | 54 => ⟨S16400x1024, .f32⟩
  | 55 => ⟨S1x1024, .f32⟩
  | 56 => ⟨S1024, .f32⟩
  | 57 => ⟨S1x1024, .f32⟩
  | 58 => ⟨S16400x1024, .f32⟩
  | 59 => ⟨S16400x1024, .f32⟩
  | 60 => ⟨S16400x1024, .f32⟩
  | 61 => ⟨S16400x1024, .f32⟩
  | 62 => ⟨S16400x1024, .f32⟩
  | 63 => ⟨S16400x1024, .f32⟩
  | 64 => ⟨S16400x1024, .f32⟩
  | 65 => ⟨S16400x1024, .f32⟩
  | 66 => ⟨S16400x1024, .f32⟩
  | 67 => ⟨S16400x1024, .f32⟩
  | 68 => ⟨S16400x1024, .f32⟩
  | 69 => ⟨S16400x1024, .f32⟩
  | 70 => ⟨S_, .f32⟩
  | 71 => ⟨S1024, .f32⟩
  | 72 => ⟨S1x1024, .f32⟩
  | 73 => ⟨S16400x1024, .f32⟩
  | 74 => ⟨S16400x1024, .f32⟩
  | 75 => ⟨S_, .f32⟩
  | 76 => ⟨S1024, .f32⟩
  | 77 => ⟨S1x1024, .f32⟩
  | 78 => ⟨S_, .f32⟩
  | 79 => ⟨S3x1024, .f32⟩
  | 80 => ⟨S_, .f32⟩
  | 81 => ⟨S16402x1024, .f32⟩
  | 82 => ⟨S16400x1024, .f32⟩
  | 83 => ⟨S_, .f32⟩
  | 84 => ⟨S1024, .f32⟩
  | 85 => ⟨S1x1024, .f32⟩
  | 86 => ⟨S16400x1024, .f32⟩
  | 87 => ⟨S16400x1024, .f32⟩
  | 88 => ⟨S_, .f32⟩
  | 89 => ⟨S1024, .f32⟩
  | 90 => ⟨S1x1024, .f32⟩
  | 91 => ⟨S_, .f32⟩
  | 92 => ⟨S3x1024, .f32⟩
  | 93 => ⟨S3x1024, .f32⟩
  | 94 => ⟨S_, .f32⟩
  | 95 => ⟨S16402x1024, .f32⟩
  | 96 => ⟨S16402x1024, .f32⟩
  | 97 => ⟨S16400x1024, .f32⟩
  | 98 => ⟨S_, .f32⟩
  | 99 => ⟨S1024, .f32⟩
  | 100 => ⟨S1x1024, .f32⟩
  | 101 => ⟨S16400x1024, .f32⟩
  | 102 => ⟨S16400x1024, .f32⟩
  | 103 => ⟨S_, .f32⟩
  | 104 => ⟨S1024, .f32⟩
  | 105 => ⟨S1x1024, .f32⟩
  | 106 => ⟨S_, .f32⟩
  | 107 => ⟨S3x1024, .f32⟩
  | 108 => ⟨S3x1024, .f32⟩
  | 109 => ⟨S_, .f32⟩
  | 110 => ⟨S16402x1024, .f32⟩
  | 111 => ⟨S16402x1024, .f32⟩
  | 112 => ⟨S2x1024, .f32⟩
  | 113 => ⟨S16400x1024, .f32⟩
  | 114 => ⟨S16400x1024, .f32⟩
  | 115 => ⟨S16400x1024, .f32⟩
  | 116 => ⟨S16400x3072, .f32⟩
  | 117 => ⟨S16400x1024, .f32⟩
  | 118 => ⟨S16400x1024, .f32⟩
  | 119 => ⟨S_, .f32⟩
  | 120 => ⟨S1024, .f32⟩
  | 121 => ⟨S1x1024, .f32⟩
  | 122 => ⟨S16400x1024, .f32⟩
  | 123 => ⟨S16400x1024, .f32⟩
  | 124 => ⟨S_, .f32⟩
  | 125 => ⟨S1024, .f32⟩
  | 126 => ⟨S16400x1024, .f32⟩
  | 127 => ⟨S_, .f32⟩
  | _ => ⟨S16384x1024, .f32⟩

abbrev hbmTy0_1 (i : Nat) : BufTy := match i % 128 with
  | 0 => ⟨S16400, .f32⟩
  | 1 => ⟨S16400x1, .f32⟩
  | 2 => ⟨S16400x1024, .f32⟩
  | 3 => ⟨S16400x1024, .f32⟩
  | 4 => ⟨S16400x1024, .f32⟩
  | 5 => ⟨S16400x1, .f32⟩
  | 6 => ⟨S_, .f32⟩
  | 7 => ⟨S16400x1, .f32⟩
  | 8 => ⟨S16400x1, .f32⟩
  | 9 => ⟨S_, .f32⟩
  | 10 => ⟨S16400, .f32⟩
  | 11 => ⟨S16400x1024, .f32⟩
  | 12 => ⟨S16400x1024, .f32⟩
  | 13 => ⟨S16400x1024, .f32⟩
  | 14 => ⟨S16400x1024, .f32⟩
  | 15 => ⟨S16400x1024, .f32⟩
  | 16 => ⟨S16x1024, .f32⟩
  | 17 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_18 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_19 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_21 : Ref sig .tc := ⟨.hbm, 134, rfl⟩
abbrev main_v105 : Ref sig .tc := ⟨.hbm, 135, rfl⟩
abbrev main_v106 : Ref sig .tc := ⟨.hbm, 136, rfl⟩
abbrev main_cst_22 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== Kernel4.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S_ : Shape := ⟨0, ![]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S1x1024 : Shape := ⟨2, ![1, 1024]⟩
abbrev S16640x5632 : Shape := ⟨2, ![16640, 5632]⟩
abbrev S16640x2816 : Shape := ⟨2, ![16640, 2816]⟩
abbrev S256x1024 : Shape := ⟨2, ![256, 1024]⟩
abbrev S256x5632 : Shape := ⟨2, ![256, 5632]⟩
abbrev S256x2816 : Shape := ⟨2, ![256, 2816]⟩
abbrev S272x5632 : Shape := ⟨2, ![272, 5632]⟩
abbrev S16x5632 : Shape := ⟨2, ![16, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S8x5632 : Shape := ⟨2, ![8, 5632]⟩
abbrev S8x1 : Shape := ⟨2, ![8, 1]⟩
abbrev S1x1408 : Shape := ⟨2, ![1, 1408]⟩
abbrev S1408x1024 : Shape := ⟨2, ![1408, 1024]⟩
abbrev S65x32x8x5632 : Shape := ⟨4, ![65, 32, 8, 5632]⟩
abbrev S65x8x32x5632 : Shape := ⟨4, ![65, 8, 32, 5632]⟩
abbrev S16400x5632 : Shape := ⟨2, ![16400, 5632]⟩
abbrev S65x32x8x2816 : Shape := ⟨4, ![65, 32, 8, 2816]⟩
abbrev S65x8x32x2816 : Shape := ⟨4, ![65, 8, 32, 2816]⟩
abbrev S16400x2816 : Shape := ⟨2, ![16400, 2816]⟩

abbrev nBuf : Space → Nat
  | .hbm => 39
  | .vmem => 16
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S_, .i32⟩
  | .hbm, ⟨9, _⟩ => ⟨S_, .f32⟩
  | .hbm, ⟨10, _⟩ => ⟨S16640x1024, .f32⟩
  | .hbm, ⟨11, _⟩ => ⟨S65x8x32x1024, .f32⟩
  | .hbm, ⟨12, _⟩ => ⟨S65x32x8x1024, .f32⟩
  | .hbm, ⟨13, _⟩ => ⟨S16640x1024, .f32⟩
  | .hbm, ⟨14, _⟩ => ⟨S1x1024, .f32⟩
  | .hbm, ⟨15, _⟩ => ⟨S2816x1024, .bf16⟩
  | .hbm, ⟨16, _⟩ => ⟨S16640x1024, .f32⟩
  | .hbm, ⟨17, _⟩ => ⟨S16640x5632, .bf16⟩
  | .hbm, ⟨18, _⟩ => ⟨S16640x5632, .bf16⟩
  | .hbm, ⟨19, _⟩ => ⟨S16640x2816, .bf16⟩
  | .hbm, ⟨20, _⟩ => ⟨S65x32x8x1024, .f32⟩
  | .hbm, ⟨21, _⟩ => ⟨S65x8x32x1024, .f32⟩
  | .hbm, ⟨22, _⟩ => ⟨S16640x1024, .f32⟩
  | .hbm, ⟨23, _⟩ => ⟨S16400x1024, .f32⟩
  | .hbm, ⟨24, _⟩ => ⟨S16640x5632, .f32⟩
  | .hbm, ⟨25, _⟩ => ⟨S65x32x8x5632, .f32⟩
  | .hbm, ⟨26, _⟩ => ⟨S65x8x32x5632, .f32⟩
  | .hbm, ⟨27, _⟩ => ⟨S16640x5632, .f32⟩
  | .hbm, ⟨28, _⟩ => ⟨S16400x5632, .f32⟩
  | .hbm, ⟨29, _⟩ => ⟨S16640x5632, .f32⟩
  | .hbm, ⟨30, _⟩ => ⟨S65x32x8x5632, .f32⟩
  | .hbm, ⟨31, _⟩ => ⟨S65x8x32x5632, .f32⟩
  | .hbm, ⟨32, _⟩ => ⟨S16640x5632, .f32⟩
  | .hbm, ⟨33, _⟩ => ⟨S16400x5632, .f32⟩
  | .hbm, ⟨34, _⟩ => ⟨S16640x2816, .f32⟩
  | .hbm, ⟨35, _⟩ => ⟨S65x32x8x2816, .f32⟩
  | .hbm, ⟨36, _⟩ => ⟨S65x8x32x2816, .f32⟩
  | .hbm, ⟨37, _⟩ => ⟨S16640x2816, .f32⟩
  | .hbm, ⟨38, _⟩ => ⟨S16400x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S3x5632, .f32⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x5632, .bf16⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S272x5632, .f32⟩
  | .local _ .vmem, ⟨15, _⟩ => ⟨S16x5632, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x5632 : Shape := ⟨2, ![16400, 5632]⟩
abbrev S2x5632 : Shape := ⟨2, ![2, 5632]⟩
abbrev S16402x5632 : Shape := ⟨2, ![16402, 5632]⟩
abbrev S1x5632 : Shape := ⟨2, ![1, 5632]⟩
abbrev S5632 : Shape := ⟨1, ![5632]⟩
abbrev S16400x2816 : Shape := ⟨2, ![16400, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S16400x1024, .f32⟩
  | .hbm, ⟨6, _⟩ => ⟨S_, .f32⟩
  | .hbm, ⟨7, _⟩ => ⟨S16400, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S16400x1, .f32⟩
  | .hbm, ⟨16, _⟩ => ⟨S16400x1024, .f32⟩
  | .hbm, ⟨17, _⟩ => ⟨S16400x1024, .f32⟩
  | .hbm, ⟨18, _⟩ => ⟨S1x1024, .f32⟩
  | .hbm, ⟨19, _⟩ => ⟨S16400x1024, .f32⟩
  | .hbm, ⟨20, _⟩ => ⟨S16400x1024, .f32⟩
  | .hbm, ⟨21, _⟩ => ⟨S16400x5632, .f32⟩
  | .hbm, ⟨22, _⟩ => ⟨S_, .f32⟩
  | .hbm, ⟨23, _⟩ => ⟨S2x5632, .f32⟩
  | .hbm, ⟨24, _⟩ => ⟨S16402x5632, .f32⟩
  | .hbm, ⟨25, _⟩ => ⟨S16400x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S16400x5632, .f32⟩
  | .hbm, ⟨30, _⟩ => ⟨S16400x5632, .f32⟩
  | .hbm, ⟨31, _⟩ => ⟨S16400x5632, .f32⟩
  | .hbm, ⟨32, _⟩ => ⟨S1x5632, .f32⟩
  | .hbm, ⟨33, _⟩ => ⟨S5632, .f32⟩
  | .hbm, ⟨34, _⟩ => ⟨S1x5632, .f32⟩
  | .hbm, ⟨35, _⟩ => ⟨S16400x5632, .f32⟩
  | .hbm, ⟨36, _⟩ => ⟨S16400x5632, .f32⟩
  | .hbm, ⟨37, _⟩ => ⟨S16400x5632, .f32⟩
  | .hbm, ⟨38, _⟩ => ⟨S16400x5632, .f32⟩
  | .hbm, ⟨39, _⟩ => ⟨S1x5632, .f32⟩
  | .hbm, ⟨40, _⟩ => ⟨S5632, .f32⟩
  | .hbm, ⟨41, _⟩ => ⟨S1x5632, .f32⟩
  | .hbm, ⟨42, _⟩ => ⟨S16400x5632, .f32⟩
  | .hbm, ⟨43, _⟩ => ⟨S16400x5632, .f32⟩
  | .hbm, ⟨44, _⟩ => ⟨S16400x5632, .f32⟩
  | .hbm, ⟨45, _⟩ => ⟨S16400x2816, .f32⟩
  | .hbm, ⟨46, _⟩ => ⟨S16400x2816, .f32⟩
  | .hbm, ⟨47, _⟩ => ⟨S16400x2816, .f32⟩
  | .hbm, ⟨48, _⟩ => ⟨S16400x2816, .f32⟩
  | .hbm, ⟨49, _⟩ => ⟨S_, .f32⟩
  | .hbm, ⟨50, _⟩ => ⟨S16400x2816, .f32⟩
  | .hbm, ⟨51, _⟩ => ⟨S16400x2816, .f32⟩
  | .hbm, ⟨52, _⟩ => ⟨S_, .f32⟩
  | .hbm, ⟨53, _⟩ => ⟨S16400x2816, .f32⟩
  | .hbm, ⟨54, _⟩ => ⟨S16400x2816, .f32⟩
  | .hbm, ⟨55, _⟩ => ⟨S16400x2816, .f32⟩
  | .hbm, ⟨56, _⟩ => ⟨S16400x2816, .f32⟩
  | .hbm, ⟨57, _⟩ => ⟨S16400x1024, .f32⟩
  | .hbm, ⟨58, _⟩ => ⟨S16400x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel5.lean ====
abbrev S16384x1024 : Shape := ⟨2, ![16384, 1024]⟩
abbrev S16x1024 : Shape := ⟨2, ![16, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4x768 : Shape := ⟨3, ![1024, 4, 768]⟩
abbrev S4x1024x768 : Shape := ⟨3, ![4, 1024, 768]⟩
abbrev S_ : Shape := ⟨0, ![]⟩
abbrev S240x1024 : Shape := ⟨2, ![240, 1024]⟩
abbrev S256x1024 : Shape := ⟨2, ![256, 1024]⟩
abbrev S1x8x32x1024 : Shape := ⟨4, ![1, 8, 32, 1024]⟩
abbrev S1x32x8x1024 : Shape := ⟨4, ![1, 32, 8, 1024]⟩
abbrev S64x8x32x1024 : Shape := ⟨4, ![64, 8, 32, 1024]⟩
abbrev S64x32x8x1024 : Shape := ⟨4, ![64, 32, 8, 1024]⟩
abbrev S1x1024 : Shape := ⟨2, ![1, 1024]⟩
abbrev S16640x1024 : Shape := ⟨2, ![16640, 1024]⟩
abbrev S16640x3072 : Shape := ⟨2, ![16640, 3072]⟩
abbrev S256x3072 : Shape := ⟨2, ![256, 3072]⟩
abbrev S272x1024 : Shape := ⟨2, ![272, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S8x1024 : Shape := ⟨2, ![8, 1024]⟩
abbrev S8x1 : Shape := ⟨2, ![8, 1]⟩
abbrev S65x32x8x1024 : Shape := ⟨4, ![65, 32, 8, 1024]⟩
abbrev S65x8x32x1024 : Shape := ⟨4, ![65, 8, 32, 1024]⟩
abbrev S16400x1024 : Shape := ⟨2, ![16400, 1024]⟩
abbrev S65x32x8x3072 : Shape := ⟨4, ![65, 32, 8, 3072]⟩
abbrev S65x8x32x3072 : Shape := ⟨4, ![65, 8, 32, 3072]⟩
abbrev S16400x3072 : Shape := ⟨2, ![16400, 3072]⟩

abbrev nBuf : Space → Nat
  | .hbm => 31
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S_, .f32⟩
  | .hbm, ⟨10, _⟩ => ⟨S240x1024, .f32⟩
  | .hbm, ⟨11, _⟩ => ⟨S256x1024, .f32⟩
  | .hbm, ⟨12, _⟩ => ⟨S1x8x32x1024, .f32⟩
  | .hbm, ⟨13, _⟩ => ⟨S1x32x8x1024, .f32⟩
  | .hbm, ⟨14, _⟩ => ⟨S256x1024, .f32⟩
  | .hbm, ⟨15, _⟩ => ⟨S64x8x32x1024, .f32⟩
  | .hbm, ⟨16, _⟩ => ⟨S64x32x8x1024, .f32⟩
  | .hbm, ⟨17, _⟩ => ⟨S16384x1024, .f32⟩
  | .hbm, ⟨18, _⟩ => ⟨S1x1024, .f32⟩
  | .hbm, ⟨19, _⟩ => ⟨S1024x1024, .bf16⟩
  | .hbm, ⟨20, _⟩ => ⟨S16640x1024, .f32⟩
  | .hbm, ⟨21, _⟩ => ⟨S16640x3072, .bf16⟩
  | .hbm, ⟨22, _⟩ => ⟨S65x32x8x1024, .f32⟩
  | .hbm, ⟨23, _⟩ => ⟨S65x8x32x1024, .f32⟩
  | .hbm, ⟨24, _⟩ => ⟨S16640x1024, .f32⟩
  | .hbm, ⟨25, _⟩ => ⟨S16400x1024, .f32⟩
  | .hbm, ⟨26, _⟩ => ⟨S16640x3072, .f32⟩
  | .hbm, ⟨27, _⟩ => ⟨S65x32x8x3072, .f32⟩
  | .hbm, ⟨28, _⟩ => ⟨S65x8x32x3072, .f32⟩
  | .hbm, ⟨29, _⟩ => ⟨S16640x3072, .f32⟩
  | .hbm, ⟨30, _⟩ => ⟨S16400x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S4x1024x768, .bf16⟩
  | .local _ .vmem, ⟨5, _⟩ => ⟨S3x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S256x3072, .bf16⟩
  | .local _ .vmem, ⟨10, _⟩ => ⟨S256x3072, .bf16⟩
  | .local _ .vmem, ⟨11, _⟩ => ⟨S256x3072, .f32⟩
  | .local _ .vmem, ⟨12, _⟩ => ⟨S272x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S16x1024 : Shape := ⟨2, ![16, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S16400x1024 : Shape := ⟨2, ![16400, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x3072 : Shape := ⟨2, ![16400, 3072]⟩
abbrev S2x1024 : Shape := ⟨2, ![2, 1024]⟩
abbrev S16402x1024 : Shape := ⟨2, ![16402, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S16400x1024, .f32⟩
  | .hbm, ⟨7, _⟩ => ⟨S16400x1024, .f32⟩
  | .hbm, ⟨8, _⟩ => ⟨S_, .f32⟩
  | .hbm, ⟨9, _⟩ => ⟨S16400, .f32⟩
  | .hbm, ⟨10, _⟩ => ⟨S16400x1, .f32⟩
  | .hbm, ⟨11, _⟩ => ⟨S_, .f32⟩
  | .hbm, ⟨12, _⟩ => ⟨S16400x1, .f32⟩
  | .hbm, ⟨13, _⟩ => ⟨S16400x1, .f32⟩
  | .hbm, ⟨14, _⟩ => ⟨S_, .f32⟩
  | .hbm, ⟨15, _⟩ => ⟨S16400x1, .f32⟩
  | .hbm, ⟨16, _⟩ => ⟨S16400x1, .f32⟩
  | .hbm, ⟨17, _⟩ => ⟨S16400x1, .f32⟩
  | .hbm, ⟨18, _⟩ => ⟨S16400x1024, .f32⟩
  | .hbm, ⟨19, _⟩ => ⟨S16400x1024, .f32⟩
  | .hbm, ⟨20, _⟩ => ⟨S1x1024, .f32⟩
  | .hbm, ⟨21, _⟩ => ⟨S16400x1024, .f32⟩
  | .hbm, ⟨22, _⟩ => ⟨S16400x1024, .f32⟩
  | .hbm, ⟨23, _⟩ => ⟨S16400x3072, .f32⟩
  | .hbm, ⟨24, _⟩ => ⟨S16400x1024, .f32⟩
  | .hbm, ⟨25, _⟩ => ⟨S16400x1024, .f32⟩
  | .hbm, ⟨26, _⟩ => ⟨S16400x1024, .f32⟩
  | .hbm, ⟨27, _⟩ => ⟨S16400x1024, .f32⟩
  | .hbm, ⟨28, _⟩ => ⟨S_, .f32⟩
  | .hbm, ⟨29, _⟩ => ⟨S2x1024, .f32⟩
  | .hbm, ⟨30, _⟩ => ⟨S16402x1024, .f32⟩
  | .hbm, ⟨31, _⟩ => ⟨S16400x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S16400x1024, .f32⟩
  | .hbm, ⟨36, _⟩ => ⟨S16400x1024, .f32⟩
  | .hbm, ⟨37, _⟩ => ⟨S16400x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S16400x1024, .f32⟩
  | .hbm, ⟨42, _⟩ => ⟨S16400x1024, .f32⟩
  | .hbm, ⟨43, _⟩ => ⟨S16400x1024, .f32⟩
  | .hbm, ⟨44, _⟩ => ⟨S16400x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S16400x1024, .f32⟩
  | .hbm, ⟨49, _⟩ => ⟨S16400x1024, .f32⟩
  | .hbm, ⟨50, _⟩ => ⟨S16400x1024, .f32⟩
  | .hbm, ⟨51, _⟩ => ⟨S16400x1024, .f32⟩
  | .hbm, ⟨52, _⟩ => ⟨S16400x1024, .f32⟩
  | .hbm, ⟨53, _⟩ => ⟨S16400x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel6.lean ====
abbrev S16400x1024 : Shape := ⟨2, ![16400, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S1x1280 : Shape := ⟨2, ![1, 1280]⟩
abbrev S_ : Shape := ⟨0, ![]⟩
abbrev S8x1280 : Shape := ⟨2, ![8, 1280]⟩
abbrev S1024x4x640 : Shape := ⟨3, ![1024, 4, 640]⟩
abbrev S4x1024x640 : Shape := ⟨3, ![4, 1024, 640]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S1x1024 : Shape := ⟨2, ![1, 1024]⟩
abbrev S16640x2560 : Shape := ⟨2, ![16640, 2560]⟩
abbrev S16640x3840 : Shape := ⟨2, ![16640, 3840]⟩
abbrev S16640x5120 : Shape := ⟨2, ![16640, 5120]⟩
abbrev S256x1024 : Shape := ⟨2, ![256, 1024]⟩
abbrev S256x2560 : Shape := ⟨2, ![256, 2560]⟩
abbrev S256x3840 : Shape := ⟨2, ![256, 3840]⟩
abbrev S256x5120 : Shape := ⟨2, ![256, 5120]⟩
abbrev S256x1280 : Shape := ⟨2, ![256, 1280]⟩
abbrev S280x1280 : Shape := ⟨2, ![280, 1280]⟩
abbrev S2x256x1280 : Shape := ⟨3, ![2, 256, 1280]⟩
abbrev S24x1280 : Shape := ⟨2, ![24, 1280]⟩
abbrev S256 : Shape := ⟨1, ![256]⟩
abbrev S256x1 : Shape := ⟨2, ![256, 1]⟩
abbrev S1x1024x640 : Shape := ⟨3, ![1, 1024, 640]⟩
abbrev S1024x640 : Shape := ⟨2, ![1024, 640]⟩
abbrev S256x640 : Shape := ⟨2, ![256, 640]⟩
abbrev S8x1 : Shape := ⟨2, ![8, 1]⟩
abbrev S256x128 : Shape := ⟨2, ![256, 128]⟩
abbrev S1x128x128 : Shape := ⟨3, ![1, 128, 128]⟩
abbrev S128x128 : Shape := ⟨2, ![128, 128]⟩
abbrev S1x256x128 : Shape := ⟨3, ![1, 256, 128]⟩
abbrev S1x256x1280 : Shape := ⟨3, ![1, 256, 1280]⟩
abbrev S65x32x8x2560 : Shape := ⟨4, ![65, 32, 8, 2560]⟩
abbrev S65x8x32x2560 : Shape := ⟨4, ![65, 8, 32, 2560]⟩
abbrev S16400x2560 : Shape := ⟨2, ![16400, 2560]⟩
abbrev S65x32x8x5120 : Shape := ⟨4, ![65, 32, 8, 5120]⟩
abbrev S65x8x32x5120 : Shape := ⟨4, ![65, 8, 32, 5120]⟩
abbrev S16400x5120 : Shape := ⟨2, ![16400, 5120]⟩

abbrev nBuf : Space → Nat
  | .hbm => 45
  | .vmem => 22
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S1x1280, .f32⟩
  | .hbm, ⟨12, _⟩ => ⟨S1x1280, .f32⟩
  | .hbm, ⟨13, _⟩ => ⟨S1x1280, .f32⟩
  | .hbm, ⟨14, _⟩ => ⟨S1x1280, .f32⟩
  | .hbm, ⟨15, _⟩ => ⟨S_, .f32⟩
  | .hbm, ⟨16, _⟩ => ⟨S4x1280, .f32⟩
  | .hbm, ⟨17, _⟩ => ⟨S8x1280, .f32⟩
  | .hbm, ⟨18, _⟩ => ⟨S1024x4x640, .f32⟩
  | .hbm, ⟨19, _⟩ => ⟨S4x1024x640, .f32⟩
  | .hbm, ⟨20, _⟩ => ⟨S4x1024x640, .bf16⟩
  | .hbm, ⟨21, _⟩ => ⟨S_, .i32⟩
  | .hbm, ⟨22, _⟩ => ⟨S_, .f32⟩
  | .hbm, ⟨23, _⟩ => ⟨S16640x1024, .f32⟩
  | .hbm, ⟨24, _⟩ => ⟨S65x8x32x1024, .f32⟩
  | .hbm, ⟨25, _⟩ => ⟨S65x32x8x1024, .f32⟩
  | .hbm, ⟨26, _⟩ => ⟨S16640x1024, .f32⟩
  | .hbm, ⟨27, _⟩ => ⟨S1x1024, .f32⟩
  | .hbm, ⟨28, _⟩ => ⟨S10x128x128, .bf16⟩
  | .hbm, ⟨29, _⟩ => ⟨S10x128x128, .bf16⟩
  | .hbm, ⟨30, _⟩ => ⟨S1280x1024, .bf16⟩
  | .hbm, ⟨31, _⟩ => ⟨S16640x1024, .f32⟩
  | .hbm, ⟨32, _⟩ => ⟨S16640x2560, .bf16⟩
  | .hbm, ⟨33, _⟩ => ⟨S16640x3840, .f32⟩
  | .hbm, ⟨34, _⟩ => ⟨S16640x5120, .bf16⟩
  | .hbm, ⟨35, _⟩ => ⟨S16640x2560, .f32⟩
  | .hbm, ⟨36, _⟩ => ⟨S65x32x8x2560, .f32⟩
  | .hbm, ⟨37, _⟩ => ⟨S65x8x32x2560, .f32⟩
  | .hbm, ⟨38, _⟩ => ⟨S16640x2560, .f32⟩
  | .hbm, ⟨39, _⟩ => ⟨S16400x2560, .f32⟩
  | .hbm, ⟨40, _⟩ => ⟨S16640x5120, .f32⟩
  | .hbm, ⟨41, _⟩ => ⟨S65x32x8x5120, .f32⟩
  | .hbm, ⟨42, _⟩ => ⟨S65x8x32x5120, .f32⟩
  | .hbm, ⟨43, _⟩ => ⟨S16640x5120, .f32⟩
  | .hbm, ⟨44, _⟩ => ⟨S16400x5120, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x640, .bf16⟩
  | .local _ .vmem, ⟨4, _⟩ => ⟨S4x1280, .f32⟩
  | .local _ .vmem, ⟨5, _⟩ => ⟨S8x1280, .f32⟩
  | .local _ .vmem, ⟨6, _⟩ => ⟨S10x128x128, .bf16⟩
  | .local _ .vmem, ⟨7, _⟩ => ⟨S10x128x128, .bf16⟩
  | .local _ .vmem, ⟨8, _⟩ => ⟨S1280x1024, .bf16⟩
  | .local _ .vmem, ⟨9, _⟩ => ⟨S256x1024, .f32⟩
  | .local _ .vmem, ⟨10, _⟩ => ⟨S256x1024, .f32⟩
  | .local _ .vmem, ⟨11, _⟩ => ⟨S256x2560, .bf16⟩
  | .local _ .vmem, ⟨12, _⟩ => ⟨S256x2560, .bf16⟩
  | .local _ .vmem, ⟨13, _⟩ => ⟨S256x3840, .f32⟩
  | .local _ .vmem, ⟨14, _⟩ => ⟨S256x3840, .f32⟩
  | .local _ .vmem, ⟨15, _⟩ => ⟨S256x5120, .bf16⟩
  | .local _ .vmem, ⟨16, _⟩ => ⟨S256x5120, .bf16⟩
  | .local _ .vmem, ⟨17, _⟩ => ⟨S256x1280, .f32⟩
  | .local _ .vmem, ⟨18, _⟩ => ⟨S280x1280, .f32⟩
  | .local _ .vmem, ⟨19, _⟩ => ⟨S2x256x1280, .f32⟩
  | .local _ .vmem, ⟨20, _⟩ => ⟨S24x1280, .f32⟩
  | .local _ .vmem, ⟨21, _⟩ => ⟨S8x1280, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3840 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16400x1024 : Shape := ⟨2, ![16400, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x2560 : Shape := ⟨2, ![16400, 2560]⟩
abbrev S16400x1280 : Shape := ⟨2, ![16400, 1280]⟩
abbrev S3x1280 : Shape := ⟨2, ![3, 1280]⟩
abbrev S16403x1280 : Shape := ⟨2, ![16403, 1280]⟩
abbrev S1x1280 : Shape := ⟨2, ![1, 1280]⟩
abbrev S16400x10x128 : Shape := ⟨3, ![16400, 10, 128]⟩
abbrev S10x128x16400 : Shape := ⟨3, ![10, 128, 16400]⟩
abbrev S16400x5120 : Shape := ⟨2, ![16400, 5120]⟩

abbrev nBuf : Space → Nat
  | .hbm => 103
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S16400x1024, .f32⟩
  | .hbm, ⟨12, _⟩ => ⟨S_, .f32⟩
  | .hbm, ⟨13, _⟩ => ⟨S16400, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S_, .f32⟩
  | .hbm, ⟨19, _⟩ => ⟨S16400x1, .f32⟩
  | .hbm, ⟨20, _⟩ => ⟨S16400x1, .f32⟩
  | .hbm, ⟨21, _⟩ => ⟨S16400x1, .f32⟩
  | .hbm, ⟨22, _⟩ => ⟨S16400x1024, .f32⟩
  | .hbm, ⟨23, _⟩ => ⟨S16400x1024, .f32⟩
  | .hbm, ⟨24, _⟩ => ⟨S1x1024, .f32⟩
  | .hbm, ⟨25, _⟩ => ⟨S16400x1024, .f32⟩
  | .hbm, ⟨26, _⟩ => ⟨S16400x1024, .f32⟩
  | .hbm, ⟨27, _⟩ => ⟨S16400x2560, .f32⟩
  | .hbm, ⟨28, _⟩ => ⟨S16400x1280, .f32⟩
  | .hbm, ⟨29, _⟩ => ⟨S16400x1280, .f32⟩
  | .hbm, ⟨30, _⟩ => ⟨S_, .f32⟩
  | .hbm, ⟨31, _⟩ => ⟨S3x1280, .f32⟩
  | .hbm, ⟨32, _⟩ => ⟨S16403x1280, .f32⟩
  | .hbm, ⟨33, _⟩ => ⟨S16400x1280, .f32⟩
  | .hbm, ⟨34, _⟩ => ⟨S1x1280, .f32⟩
  | .hbm, ⟨35, _⟩ => ⟨S1280, .f32⟩
  | .hbm, ⟨36, _⟩ => ⟨S1x1280, .f32⟩
  | .hbm, ⟨37, _⟩ => ⟨S16400x1280, .f32⟩
  | .hbm, ⟨38, _⟩ => ⟨S16400x1280, .f32⟩
  | .hbm, ⟨39, _⟩ => ⟨S16400x1280, .f32⟩
  | .hbm, ⟨40, _⟩ => ⟨S1x1280, .f32⟩
  | .hbm, ⟨41, _⟩ => ⟨S1280, .f32⟩
  | .hbm, ⟨42, _⟩ => ⟨S1x1280, .f32⟩
  | .hbm, ⟨43, _⟩ => ⟨S16400x1280, .f32⟩
  | .hbm, ⟨44, _⟩ => ⟨S16400x1280, .f32⟩
  | .hbm, ⟨45, _⟩ => ⟨S16400x1280, .f32⟩
  | .hbm, ⟨46, _⟩ => ⟨S16400x1280, .f32⟩
  | .hbm, ⟨47, _⟩ => ⟨S1x1280, .f32⟩
  | .hbm, ⟨48, _⟩ => ⟨S1280, .f32⟩
  | .hbm, ⟨49, _⟩ => ⟨S1x1280, .f32⟩
  | .hbm, ⟨50, _⟩ => ⟨S16400x1280, .f32⟩
  | .hbm, ⟨51, _⟩ => ⟨S16400x1280, .f32⟩
  | .hbm, ⟨52, _⟩ => ⟨S16400x1280, .f32⟩
  | .hbm, ⟨53, _⟩ => ⟨S16400x1280, .f32⟩
  | .hbm, ⟨54, _⟩ => ⟨S1x1280, .f32⟩
  | .hbm, ⟨55, _⟩ => ⟨S1280, .f32⟩
  | .hbm, ⟨56, _⟩ => ⟨S1x1280, .f32⟩
  | .hbm, ⟨57, _⟩ => ⟨S16400x1280, .f32⟩
  | .hbm, ⟨58, _⟩ => ⟨S16400x1280, .f32⟩
  | .hbm, ⟨59, _⟩ => ⟨S16400x1280, .f32⟩
  | .hbm, ⟨60, _⟩ => ⟨S1x1280, .f32⟩
  | .hbm, ⟨61, _⟩ => ⟨S16400x1280, .f32⟩
  | .hbm, ⟨62, _⟩ => ⟨S16400x1280, .f32⟩
  | .hbm, ⟨63, _⟩ => ⟨S16400x10x128, .f32⟩
  | .hbm, ⟨64, _⟩ => ⟨S10x128x16400, .f32⟩
  | .hbm, ⟨65, _⟩ => ⟨S16400x10x128, .f32⟩
  | .hbm, ⟨66, _⟩ => ⟨S16400x1280, .f32⟩
  | .hbm, ⟨67, _⟩ => ⟨S1x1280, .f32⟩
  | .hbm, ⟨68, _⟩ => ⟨S16400x1280, .f32⟩
  | .hbm, ⟨69, _⟩ => ⟨S16400x1280, .f32⟩
  | .hbm, ⟨70, _⟩ => ⟨S16400x1280, .f32⟩
  | .hbm, ⟨71, _⟩ => ⟨S16400x1280, .f32⟩
  | .hbm, ⟨72, _⟩ => ⟨S_, .f32⟩
  | .hbm, ⟨73, _⟩ => ⟨S16400x1280, .f32⟩
  | .hbm, ⟨74, _⟩ => ⟨S16400x1280, .f32⟩
  | .hbm, ⟨75, _⟩ => ⟨S_, .f32⟩
  | .hbm, ⟨76, _⟩ => ⟨S16400x1280, .f32⟩
  | .hbm, ⟨77, _⟩ => ⟨S16400x1280, .f32⟩
  | .hbm, ⟨78, _⟩ => ⟨S10x128x16400, .f32⟩
  | .hbm, ⟨79, _⟩ => ⟨S16400x10x128, .f32⟩
  | .hbm, ⟨80, _⟩ => ⟨S16400x1280, .f32⟩
  | .hbm, ⟨81, _⟩ => ⟨S1x1280, .f32⟩
  | .hbm, ⟨82, _⟩ => ⟨S16400x1280, .f32⟩
  | .hbm, ⟨83, _⟩ => ⟨S16400x1280, .f32⟩
  | .hbm, ⟨84, _⟩ => ⟨S16400x1280, .f32⟩
  | .hbm, ⟨85, _⟩ => ⟨S16400x1280, .f32⟩
  | .hbm, ⟨86, _⟩ => ⟨S_, .f32⟩
  | .hbm, ⟨87, _⟩ => ⟨S16400x1280, .f32⟩
  | .hbm, ⟨88, _⟩ => ⟨S16400x1280, .f32⟩
  | .hbm, ⟨89, _⟩ => ⟨S_, .f32⟩
  | .hbm, ⟨90, _⟩ => ⟨S16400x1280, .f32⟩
  | .hbm, ⟨91, _⟩ => ⟨S16400x1280, .f32⟩
  | .hbm, ⟨92, _⟩ => ⟨S16400x1280, .f32⟩
  | .hbm, ⟨93, _⟩ => ⟨S16400x1280, .f32⟩
  | .hbm, ⟨94, _⟩ => ⟨S_, .f32⟩
  | .hbm, ⟨95, _⟩ => ⟨S16400x1280, .f32⟩
  | .hbm, ⟨96, _⟩ => ⟨S16400x1280, .f32⟩
  | .hbm, ⟨97, _⟩ => ⟨S16400x1280, .f32⟩
  | .hbm, ⟨98, _⟩ => ⟨S_, .f32⟩
  | .hbm, ⟨99, _⟩ => ⟨S16400x1280, .f32⟩
  | .hbm, ⟨100, _⟩ => ⟨S16400x1280, .f32⟩
  | .hbm, ⟨101, _⟩ => ⟨S16400x1280, .f32⟩
  | .hbm, ⟨102, _⟩ => ⟨S16400x5120, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Kernel7.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel8.lean ====
abbrev S16400x1024 : Shape := ⟨2, ![16400, 1024]⟩
abbrev S16400x5632 : Shape := ⟨2, ![16400, 5632]⟩
abbrev S_ : Shape := ⟨0, ![]⟩
abbrev S16640x1024 : Shape := ⟨2, ![16640, 1024]⟩
abbrev S65x8x32x1024 : Shape := ⟨4, ![65, 8, 32, 1024]⟩
abbrev S65x32x8x1024 : Shape := ⟨4, ![65, 32, 8, 1024]⟩
abbrev S16640x5632 : Shape := ⟨2, ![16640, 5632]⟩
abbrev S65x8x32x5632 : Shape := ⟨4, ![65, 8, 32, 5632]⟩
abbrev S65x32x8x5632 : Shape := ⟨4, ![65, 32, 8, 5632]⟩
abbrev S4x1024x1408 : Shape := ⟨3, ![4, 1024, 1408]⟩
abbrev S3328x1024 : Shape := ⟨2, ![3328, 1024]⟩
abbrev S3328x1408 : Shape := ⟨2, ![3328, 1408]⟩
abbrev S1x1024x1408 : Shape := ⟨3, ![1, 1024, 1408]⟩
abbrev S1024x1408 : Shape := ⟨2, ![1024, 1408]⟩

abbrev nBuf : Space → Nat
  | .hbm => 19
  | .vmem => 8
  | .smem => 0
  | _ => 0

abbrev bufTy : (tb : Table) → Fin (tcTables nBuf tb) → BufTy
  | .hbm, ⟨0, _⟩ => ⟨S16400x1024, .f32⟩
  | .hbm, ⟨1, _⟩ => ⟨S16400x5632, .f32⟩
  | .hbm, ⟨2, _⟩ => ⟨S_, .i32⟩
  | .hbm, ⟨3, _⟩ => ⟨S_, .f32⟩
  | .hbm, ⟨4, _⟩ => ⟨S16640x1024, .f32⟩
  | .hbm, ⟨5, _⟩ => ⟨S65x8x32x1024, .f32⟩
  | .hbm, ⟨6, _⟩ => ⟨S65x32x8x1024, .f32⟩
  | .hbm, ⟨7, _⟩ => ⟨S16640x1024, .f32⟩
  | .hbm, ⟨8, _⟩ => ⟨S16640x1024, .bf16⟩
  | .hbm, ⟨9, _⟩ => ⟨S_, .i32⟩
  | .hbm, ⟨10, _⟩ => ⟨S_, .f32⟩
  | .hbm, ⟨11, _⟩ => ⟨S16640x5632, .f32⟩
  | .hbm, ⟨12, _⟩ => ⟨S65x8x32x5632, .f32⟩
  | .hbm, ⟨13, _⟩ => ⟨S65x32x8x5632, .f32⟩
  | .hbm, ⟨14, _⟩ => ⟨S16640x5632, .f32⟩
  | .hbm, ⟨15, _⟩ => ⟨S16640x5632, .bf16⟩
  | .hbm, ⟨16, _⟩ => ⟨S4x1024x1408, .f32⟩
  | .hbm, ⟨17, _⟩ => ⟨S4x1024x1408, .bf16⟩
  | .hbm, ⟨18, _⟩ => ⟨S4x1024x1408, .f32⟩
  | .local _ .vmem, ⟨0, _⟩ => ⟨S3328x1024, .bf16⟩
  | .local _ .vmem, ⟨1, _⟩ => ⟨S3328x1024, .bf16⟩
  | .local _ .vmem, ⟨2, _⟩ => ⟨S3328x1408, .bf16⟩
  | .local _ .vmem, ⟨3, _⟩ => ⟨S3328x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v14 : BitVec 1 := Scalar.cmpi .eq arg1 c4_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3328x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3328x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S16400x1024 : Shape := ⟨2, ![16400, 1024]⟩
abbrev S16400x5632 : Shape := ⟨2, ![16400, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x5632, .f32⟩
  | .hbm, ⟨2, _⟩ => ⟨S_, .f32⟩
  | .hbm, ⟨3, _⟩ => ⟨S1024x5632, .f32⟩
  | .hbm, ⟨4, _⟩ => ⟨S16400x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S4x1024x1408, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S1024x1408 : Shape := ⟨2, ![1024, 1408]⟩
abbrev S3x1024x1408 : Shape := ⟨3, ![3, 1024, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S3x256x1408, .bf16⟩
  | .local _ .vmem, ⟨3, _⟩ => ⟨S3x256x1408, .bf16⟩
  | .local _ .vmem, ⟨4, _⟩ => ⟨S256x1408, .f32⟩
  | .local _ .vmem, ⟨5, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1024x1408 : Shape := ⟨2, ![1024, 1408]⟩
abbrev S3x1024x1408 : Shape := ⟨3, ![3, 1024, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S3x1024x1408, .bf16⟩
  | .hbm, ⟨2, _⟩ => ⟨S3x1024x1408, .f32⟩
  | .hbm, ⟨3, _⟩ => ⟨S_, .f32⟩
  | .hbm, ⟨4, _⟩ => ⟨S1024x1408, .f32⟩
  | .hbm, ⟨5, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8x1280x128 : Shape := ⟨3, ![8, 1280, 128]⟩
abbrev S1280x128 : Shape := ⟨2, ![1280, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1280x128, .f32⟩
  | .hbm, ⟨1, _⟩ => ⟨S1280x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S8x1280x128 : Shape := ⟨3, ![8, 1280, 128]⟩
abbrev S_ : Shape := ⟨0, ![]⟩
abbrev S1280x128 : Shape := ⟨2, ![1280, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1280x128, .f32⟩
  | .hbm, ⟨1, _⟩ => ⟨S_, .f32⟩
  | .hbm, ⟨2, _⟩ => ⟨S1280x128, .f32⟩
  | _, _ => ⟨S8x1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S2x1024x1408 : Shape := ⟨3, ![2, 1024, 1408]⟩
abbrev S2x704x1024 : Shape := ⟨3, ![2, 704, 1024]⟩
abbrev S1x1024x640 : Shape := ⟨3, ![1, 1024, 640]⟩
abbrev S1x320x1024 : Shape := ⟨3, ![1, 320, 1024]⟩
abbrev S1024x1408 : Shape := ⟨2, ![1024, 1408]⟩
abbrev S704x1024 : Shape := ⟨2, ![704, 1024]⟩
abbrev S1024x640 : Shape := ⟨2, ![1024, 640]⟩
abbrev S320x1024 : Shape := ⟨2, ![320, 1024]⟩
abbrev S1x256x1408 : Shape := ⟨3, ![1, 256, 1408]⟩
abbrev S1x176x1024 : Shape := ⟨3, ![1, 176, 1024]⟩
abbrev S1x256x640 : Shape := ⟨3, ![1, 256, 640]⟩
abbrev S1x80x1024 : Shape := ⟨3, ![1, 80, 1024]⟩
abbrev S256x1408 : Shape := ⟨2, ![256, 1408]⟩
abbrev S176x1024 : Shape := ⟨2, ![176, 1024]⟩
abbrev S256x640 : Shape := ⟨2, ![256, 640]⟩
abbrev S80x1024 : Shape := ⟨2, ![80, 1024]⟩

abbrev nBuf : Space → Nat
  | .hbm => 10
  | .vmem => 24
  | .smem => 0
  | _ => 0

abbrev bufTy : (tb : Table) → Fin (tcTables nBuf tb) → BufTy
  | .hbm, ⟨0, _⟩ => ⟨S2x1024x1408, .f32⟩
  | .hbm, ⟨1, _⟩ => ⟨S2x704x1024, .f32⟩
  | .hbm, ⟨2, _⟩ => ⟨S1x1024x640, .f32⟩
  | .hbm, ⟨3, _⟩ => ⟨S1x320x1024, .f32⟩
  | .hbm, ⟨4, _⟩ => ⟨S1024x1408, .bf16⟩
  | .hbm, ⟨5, _⟩ => ⟨S704x1024, .bf16⟩
  | .hbm, ⟨6, _⟩ => ⟨S1024x640, .bf16⟩
  | .hbm, ⟨7, _⟩ => ⟨S320x1024, .bf16⟩
  | .hbm, ⟨8, _⟩ => ⟨S1024x1408, .bf16⟩
  | .hbm, ⟨9, _⟩ => ⟨S704x1024, .bf16⟩
  | .local _ .vmem, ⟨0, _⟩ => ⟨S1x256x1408, .f32⟩
  | .local _ .vmem, ⟨1, _⟩ => ⟨S1x256x1408, .f32⟩
  | .local _ .vmem, ⟨2, _⟩ => ⟨S1x176x1024, .f32⟩
  | .local _ .vmem, ⟨3, _⟩ => ⟨S1x176x1024, .f32⟩
  | .local _ .vmem, ⟨4, _⟩ => ⟨S1x256x640, .f32⟩
  | .local _ .vmem, ⟨5, _⟩ => ⟨S1x256x640, .f32⟩
  | .local _ .vmem, ⟨6, _⟩ => ⟨S1x80x1024, .f32⟩
  | .local _ .vmem, ⟨7, _⟩ => ⟨S1x80x1024, .f32⟩
  | .local _ .vmem, ⟨8, _⟩ => ⟨S1x256x1408, .f32⟩
  | .local _ .vmem, ⟨9, _⟩ => ⟨S1x256x1408, .f32⟩
  | .local _ .vmem, ⟨10, _⟩ => ⟨S1x176x1024, .f32⟩
  | .local _ .vmem, ⟨11, _⟩ => ⟨S1x176x1024, .f32⟩
  | .local _ .vmem, ⟨12, _⟩ => ⟨S256x1408, .bf16⟩
  | .local _ .vmem, ⟨13, _⟩ => ⟨S256x1408, .bf16⟩
  | .local _ .vmem, ⟨14, _⟩ => ⟨S176x1024, .bf16⟩
  | .local _ .vmem, ⟨15, _⟩ => ⟨S176x1024, .bf16⟩
  | .local _ .vmem, ⟨16, _⟩ => ⟨S256x640, .bf16⟩
  | .local _ .vmem, ⟨17, _⟩ => ⟨S256x640, .bf16⟩
  | .local _ .vmem, ⟨18, _⟩ => ⟨S80x1024, .bf16⟩
  | .local _ .vmem, ⟨19, _⟩ => ⟨S80x1024, .bf16⟩
  | .local _ .vmem, ⟨20, _⟩ => ⟨S256x1408, .bf16⟩
  | .local _ .vmem, ⟨21, _⟩ => ⟨S256x1408, .bf16⟩
  | .local _ .vmem, ⟨22, _⟩ => ⟨S176x1024, .bf16⟩
  | .local _ .vmem, ⟨23, _⟩ => ⟨S176x1024, .bf16⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S80x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S2x1024x1408 : Shape := ⟨3, ![2, 1024, 1408]⟩
abbrev S2x704x1024 : Shape := ⟨3, ![2, 704, 1024]⟩
abbrev S1x1024x640 : Shape := ⟨3, ![1, 1024, 640]⟩
abbrev S1x320x1024 : Shape := ⟨3, ![1, 320, 1024]⟩
abbrev S1x1024x1408 : Shape := ⟨3, ![1, 1024, 1408]⟩
abbrev S1024x1408 : Shape := ⟨2, ![1024, 1408]⟩
abbrev S1x704x1024 : Shape := ⟨3, ![1, 704, 1024]⟩
abbrev S704x1024 : Shape := ⟨2, ![704, 1024]⟩
abbrev S1024x640 : Shape := ⟨2, ![1024, 640]⟩
abbrev S320x1024 : Shape := ⟨2, ![320, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x704x1024, .f32⟩
  | .hbm, ⟨2, _⟩ => ⟨S1x1024x640, .f32⟩
  | .hbm, ⟨3, _⟩ => ⟨S1x320x1024, .f32⟩
  | .hbm, ⟨4, _⟩ => ⟨S1x1024x1408, .f32⟩
  | .hbm, ⟨5, _⟩ => ⟨S1024x1408, .f32⟩
  | .hbm, ⟨6, _⟩ => ⟨S1x704x1024, .f32⟩
  | .hbm, ⟨7, _⟩ => ⟨S704x1024, .f32⟩
  | .hbm, ⟨8, _⟩ => ⟨S1024x640, .f32⟩
  | .hbm, ⟨9, _⟩ => ⟨S320x1024, .f32⟩
  | .hbm, ⟨10, _⟩ => ⟨S1x1024x1408, .f32⟩
  | .hbm, ⟨11, _⟩ => ⟨S1024x1408, .f32⟩
  | .hbm, ⟨12, _⟩ => ⟨S1x704x1024, .f32⟩
  | .hbm, ⟨13, _⟩ => ⟨S704x1024, .f32⟩
  | .hbm, ⟨14, _⟩ => ⟨S1024x1408, .bf16⟩
  | .hbm, ⟨15, _⟩ => ⟨S704x1024, .bf16⟩
  | .hbm, ⟨16, _⟩ => ⟨S1024x640, .bf16⟩
  | .hbm, ⟨17, _⟩ => ⟨S320x1024, .bf16⟩
  | .hbm, ⟨18, _⟩ => ⟨S1024x1408, .bf16⟩
  | .hbm, ⟨19, _⟩ => ⟨S704x1024, .bf16⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Loss.Spec.lean ====
/- What the layer-1 MLP with the loss behind it computes, row by row, in the order of time: the functions the blocks of the
   kernel are compared with. Times count from the first row of the padded sequence (240 rows of zeros, then the sequence). -/
module

public import proofs.«01_k».proof.Proof.Gen.KernelIdeal.Skeleton
public import Idealize.ShloMosaic.PureOps.Ideal
public import Idealize.ShloMosaic.Lib.Pointwise

@[expose] public section

noncomputable section

namespace Cert.Loss

open Idealize.ShloMosaic Cert.KernelIdeal

/-- The constant `1024`, the number of columns. -/
abbrev cD : EReal := Ideal.ofBits FTy.f32 1149239296#32
/-- The constant under the root of a norm. -/
abbrev cEps : EReal := Ideal.ofBits FTy.f32 897988541#32
/-- The constant one half. -/
abbrev cHalf : EReal := Ideal.ofBits FTy.f32 1056964608#32
/-- The constant `1 / 1024`. -/
abbrev cInvD : EReal := Ideal.ofBits FTy.f32 981467136#32

/-- Time of row `r` of a tile: rows 8 j + s hold time 32 s + j. -/
def rowTime (r : ℕ) : ℕ := 32 * (r % 8) + r / 8

/-- The factor that scales a row to unit root mean square. -/
def rstd (x : Fin 1024 → EReal) : EReal := Ideal.rsqrt (Ideal.div (∑ k, x k * x k) cD + cEps)

/-- The normed row with its gain. -/
def normed (x g : Fin 1024 → EReal) (k : Fin 1024) : EReal := x k * rstd x * g k

/-- The arrays the call reads, in its own layout: rows of the sequence by time, the gain, the up projection in four column blocks, the
    taps, the down projection, the targets (by time, from the seventeenth row of the sequence) and the last gain. -/
structure Ins where
  H : ℕ → Fin 1024 → EReal
  g : Vec Ideal S1x1024 .f32
  w : Vec Ideal S4x1024x1408 .bf16
  cw : Vec Ideal S3x5632 .f32
  wd : Vec Ideal S2816x1024 .bf16
  tg : ℕ → Fin 1024 → EReal
  gf : Vec Ideal S1x1024 .f32

variable (I : Ins)

/-- The up projection of the row at a time. -/
def Ins.hu (τ : ℕ) (c : Fin 5632) : EReal :=
  ∑ k, normed (I.H τ) (fun k => I.g (ix2 0 k)) k * I.w (ix3 ⟨c.val / 1408, by omega⟩ k ⟨c.val % 1408, by omega⟩)

/-- The up projection two rows earlier, zero before the start. -/
def Ins.past (τ : ℕ) (c : Fin 5632) : EReal := if 2 ≤ τ then I.hu (τ - 2) c else 0

/-- The causal convolution with three taps. -/
def Ins.hc (τ : ℕ) (c : Fin 5632) : EReal :=
  I.cw (ix2 0 c) * I.past τ c + I.cw (ix2 1 c) * I.past (τ + 1) c + I.cw (ix2 2 c) * I.past (τ + 2) c

/-- `x · σ(x) · v`, the logistic function written by the hyperbolic tangent. -/
def gated (a v : EReal) : EReal := a * (cHalf + cHalf * Ideal.tanh (cHalf * a)) * v

/-- The gate: columns below 2816 against those above. -/
def Ins.act (τ : ℕ) (c : Fin 2816) : EReal := gated (I.hc τ ⟨c.val, by omega⟩) (I.hc τ ⟨c.val + 2816, by omega⟩)

/-- The residual stream after the layer. -/
def Ins.y (τ : ℕ) (c : Fin 1024) : EReal := I.H τ c + ∑ j, I.act τ j * I.wd (ix2 j c)

/-- The normed residual stream before the last gain. -/
def Ins.xhat (τ : ℕ) (c : Fin 1024) : EReal := I.y τ c * rstd (I.y τ)

/-- The error against the target: zero in the first tile, which holds no targeted row. -/
def Ins.err (τ : ℕ) (c : Fin 1024) : EReal := if 256 ≤ τ then I.xhat τ c * I.gf (ix2 0 c) - I.tg (τ - 256) c else 0

/-- The gradient of the loss with respect to the normed row. -/
def Ins.dout (τ : ℕ) (c : Fin 1024) : EReal := I.err τ c * cInvD

/-- The gradient with respect to the residual stream. -/
def Ins.dh (τ : ℕ) (c : Fin 1024) : EReal :=
  rstd (I.y τ) * (I.dout τ c * I.gf (ix2 0 c)
    - I.xhat τ c * Ideal.div (∑ k, I.dout τ k * I.gf (ix2 0 k) * I.xhat τ k) cD)

end Cert.Loss

end
-- ==== Proof.Loss.Block.lean ====
/- One tile of the call: what the buffer of the up projection holds once the rows carried from the tile before are linked in, and
   what the stores of the tile are as functions of it. -/
module

public import proofs.«01_k».proof.Proof.Gen.KernelIdeal.Skeleton
public import proofs.«01_k».proof.Proof.Loss.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Loss

open Cert.KernelIdeal Cert.KernelIdeal.Gen
variable (I : Ins) (T : ℕ) (x : Vec Ideal S256x1024 .f32)

/-- The buffer of the up projection at a tile. -/
def ubuf : S272x5632.Idx → EReal := fun i => I.past (256 * T + rowTime (i 0).val) (i 1)

theorem rowTime_add (r q : ℕ) : rowTime (r + 8 * q) = rowTime r + q := by
  simp only [rowTime]; omega

/-- A product of a normed row with a column of the up projection is the buffer's entry sixteen rows further. -/
theorem sum_eq_past (r q n R : ℕ) (C : Fin 5632) (q' : Fin 4) (n' : Fin 1408) (hR : R = 16 + r) (hC : C.val = 1408 * q + n) (hq : q'.val = q) (hn : n'.val = n) :
    ∑ k, normed (I.H (256 * T + rowTime r)) (fun k => I.g (ix2 0 k)) k * I.w (ix3 q' k n') = I.past (256 * T + rowTime R) C := by
  have h : 256 * T + rowTime R = 256 * T + rowTime r + 2 := by rw [hR, Nat.add_comm 16 r, show 16 = 8 * 2 from rfl, rowTime_add]; omega
  have h1 : (⟨C.val / 1408, by omega⟩ : Fin 4) = q' := Fin.ext (by show C.val / 1408 = q'.val; omega)
  have h2 : (⟨C.val % 1408, by omega⟩ : Fin 1408) = n' := Fin.ext (by show C.val % 1408 = n'.val; omega)
  rw [h, Ins.past, if_pos (by omega), Nat.add_sub_cancel, Ins.hu, h1, h2]

/-- The first column block of the product is the buffer's rows from the sixteenth on. -/
theorem up0 (hx : ∀ r k, x (ix2 r k) = I.H (256 * T + rowTime r.val) k) :
    k0_pay5 x I.g (View.ld I.w (Rect.unit ![0, 0, 0] ![1, 1024, 1408] inb_S4x1024x1408_S1x1024x1408_0_0_0))
      = View.ld (Val := Elt Ideal) (e' := .f32) (ubuf I T) (Rect.unit (s := S272x5632) ![16, 0] ![256, 1408] inb_S272x5632_S256x1408_16_0) := by
  funext y
  pointwise [k0_pay5, k0_pay3, k0_pay2, ubuf, hx, View.ld]
  exact sum_eq_past I T (y 0).val 0 (y 1).val _ _ _ _ (by simp) (by simp) rfl rfl

/-- The second column block. -/
theorem up1 (hx : ∀ r k, x (ix2 r k) = I.H (256 * T + rowTime r.val) k) :
    k0_pay7 (k0_pay6 x I.g (View.ld I.w (Rect.unit ![1, 0, 0] ![1, 1024, 1408] inb_S4x1024x1408_S1x1024x1408_1_0_0)))
      = View.ld (Val := Elt Ideal) (e' := .f32) (ubuf I T) (Rect.unit (s := S272x5632) ![16, 1408] ![256, 1408] inb_S272x5632_S256x1408_16_1408) := by
  funext y
  pointwise [k0_pay7, k0_pay6, k0_pay3, k0_pay2, ubuf, hx, View.ld]
  exact sum_eq_past I T (y 0).val 1 (y 1).val _ _ _ _ (by simp) (by simp) rfl rfl

/-- The third column block. -/
theorem up2 (hx : ∀ r k, x (ix2 r k) = I.H (256 * T + rowTime r.val) k) :
    k0_pay8 (k0_pay3 x I.g) (View.ld I.w (Rect.unit ![2, 0, 0] ![1, 1024, 1408] inb_S4x1024x1408_S1x1024x1408_2_0_0))
      = View.ld (Val := Elt Ideal) (e' := .f32) (ubuf I T) (Rect.unit (s := S272x5632) ![16, 2816] ![256, 1408] inb_S272x5632_S256x1408_16_2816) := by
  funext y
  pointwise [k0_pay8, k0_pay3, k0_pay2, ubuf, hx, View.ld]
  exact sum_eq_past I T (y 0).val 2 (y 1).val _ _ _ _ (by simp) (by simp) rfl rfl

/-- The fourth column block. -/
theorem up3 (hx : ∀ r k, x (ix2 r k) = I.H (256 * T + rowTime r.val) k) :
    k0_pay9 (k0_pay3 x I.g) (View.ld I.w (Rect.unit ![3, 0, 0] ![1, 1024, 1408] inb_S4x1024x1408_S1x1024x1408_3_0_0))
      = View.ld (Val := Elt Ideal) (e' := .f32) (ubuf I T) (Rect.unit (s := S272x5632) ![16, 4224] ![256, 1408] inb_S272x5632_S256x1408_16_4224) := by
  funext y
  pointwise [k0_pay9, k0_pay3, k0_pay2, ubuf, hx, View.ld]
  exact sum_eq_past I T (y 0).val 3 (y 1).val _ _ _ _ (by simp) (by simp) rfl rfl

/-- The stores of the four column blocks, each a block of one array `G`. -/
abbrev upPieces (G : S272x5632.Idx → EReal) : List (View.Piece (Elt Ideal) S272x5632 .f32) :=
  [⟨Rect.unit ![16, 4224] ![256, 1408] inb_S272x5632_S256x1408_16_4224, View.ld (Val := Elt Ideal) (e' := .f32) G (Rect.unit (s := S272x5632) ![16, 4224] ![256, 1408] inb_S272x5632_S256x1408_16_4224)⟩,
    ⟨Rect.unit ![16, 2816] ![256, 1408] inb_S272x5632_S256x1408_16_2816, View.ld (Val := Elt Ideal) (e' := .f32) G (Rect.unit (s := S272x5632) ![16, 2816] ![256, 1408] inb_S272x5632_S256x1408_16_2816)⟩,
    ⟨Rect.unit ![16, 1408] ![256, 1408] inb_S272x5632_S256x1408_16_1408, View.ld (Val := Elt Ideal) (e' := .f32) G (Rect.unit (s := S272x5632) ![16, 1408] ![256, 1408] inb_S272x5632_S256x1408_16_1408)⟩,
    ⟨Rect.unit ![16, 0] ![256, 1408] inb_S272x5632_S256x1408_16_0, View.ld (Val := Elt Ideal) (e' := .f32) G (Rect.unit (s := S272x5632) ![16, 0] ![256, 1408] inb_S272x5632_S256x1408_16_0)⟩]

theorem upPieces_of (G : S272x5632.Idx → EReal) : View.PiecesOf (Val := Elt Ideal) (e := .f32) G (upPieces G) :=
  ⟨fun _ => rfl, fun _ => rfl, fun _ => rfl, fun _ => rfl, trivial⟩

/-- Every row from the sixteenth on is stored by one of them. -/
theorem upPieces_cover (G : S272x5632.Idx → EReal) (R : S272x5632.Idx) (h : 16 ≤ (R 0).val) : ∃ p ∈ upPieces G, R ∈ p.1.set := by
  simp only [List.mem_cons, List.not_mem_nil, or_false, exists_eq_or_imp, exists_eq_left, Rect.mem_set_unit, Fin.forall_fin_two]
  have h0 : (R 0).val < 272 := (R 0).isLt
  have h1 : (R 1).val < 5632 := (R 1).isLt
  simp
  omega

/-- A load of rows from the sixteenth on reads the array whose blocks were stored there, whatever was stored before. -/
theorem read_up {σ : RefSig} {κ : Kind} {sp : Space} (v : View σ κ sp S272x5632 .f32) (G : S272x5632.Idx → EReal) (L : List (View.Piece (Elt Ideal) S272x5632 .f32)) (off size : Fin 2 → ℕ) (inb) (h : 16 ≤ off 0) :
    View.readCov (Val := Elt Ideal) (s := S272x5632) (e := .f32) v
      (⟨Rect.unit ![16, 4224] ![256, 1408] inb_S272x5632_S256x1408_16_4224, View.ld (Val := Elt Ideal) (e' := .f32) G (Rect.unit (s := S272x5632) ![16, 4224] ![256, 1408] inb_S272x5632_S256x1408_16_4224)⟩ ::
        ⟨Rect.unit ![16, 2816] ![256, 1408] inb_S272x5632_S256x1408_16_2816, View.ld (Val := Elt Ideal) (e' := .f32) G (Rect.unit (s := S272x5632) ![16, 2816] ![256, 1408] inb_S272x5632_S256x1408_16_2816)⟩ ::
        ⟨Rect.unit ![16, 1408] ![256, 1408] inb_S272x5632_S256x1408_16_1408, View.ld (Val := Elt Ideal) (e' := .f32) G (Rect.unit (s := S272x5632) ![16, 1408] ![256, 1408] inb_S272x5632_S256x1408_16_1408)⟩ ::
        ⟨Rect.unit ![16, 0] ![256, 1408] inb_S272x5632_S256x1408_16_0, View.ld (Val := Elt Ideal) (e' := .f32) G (Rect.unit (s := S272x5632) ![16, 0] ![256, 1408] inb_S272x5632_S256x1408_16_0)⟩ :: L)
      (Rect.unit (s := S272x5632) off size inb).toLoadRect = View.ld (Val := Elt Ideal) (e' := .f32) G (Rect.unit (s := S272x5632) off size inb) := by
  rw [View.readCov_eq_canon']
  funext j
  have hj : 16 ≤ ((Rect.unit (s := S272x5632) off size inb).idx j 0).val := by
    rw [Rect.idx_unit_val]; omega
  have hc := View.canon_append_of_piecesOf G L _ (upPieces_of G) _ (upPieces_cover G _ hj)
  simp only [List.cons_append, List.nil_append] at hc
  exact hc

/-- Eight of the sixteen carried rows. -/
def carry (Z : S16x5632.Idx → EReal) (o : ℕ) (h : o + 8 ≤ 16) : S8x5632.Idx → EReal :=
  fun y => Z (ix2 ⟨o + (y 0).val, by have h' : (y 0).val < 8 := (y 0).isLt; omega⟩ (y 1))

/-- A load of eight of the first sixteen rows after the carried rows alone were stored. -/
theorem read_carry {σ : RefSig} {κ : Kind} {sp : Space} (v : View σ κ sp S272x5632 .f32) (Z : S16x5632.Idx → EReal) (o : ℕ) (inb) (h : o + 8 ≤ 16) :
    View.readCov (Val := Elt Ideal) (s := S272x5632) (e := .f32) v [⟨Rect.unit (s := S272x5632) ![0, 0] ![16, 5632] inb_S272x5632_S16x5632_0_0, Z⟩]
      (Rect.unit (s := S272x5632) ![o, 0] ![8, 5632] inb).toLoadRect = carry Z o h := by
  rw [View.readCov_eq_canon']
  funext j
  have hlt : (j 0).val < 8 := (j 0).isLt
  rw [show (Rect.unit (s := S272x5632) ![o, 0] ![8, 5632] inb).idx j = (Rect.unit (s := S272x5632) ![0, 0] ![16, 5632] inb_S272x5632_S16x5632_0_0).emb
    (ix2 ⟨o + (j 0).val, by omega⟩ (j 1) : S16x5632.Idx) from ?_]
  · exact View.canon_cons_emb _ _ _ _
  · funext a
    apply Fin.ext
    fin_cases a <;> simp

/-- The rows of the tile before that the next tile's convolution reads. -/
def Carried (p : S16x5632.Idx → EReal) : Prop := ∀ (m : Fin 2) (c : Fin 5632), p (ix2 ⟨8 * m.val + 7, by omega⟩ c) = I.past (256 * T + m.val) c

/-- A select on the row index being zero. -/
theorem select_row {α : Type} (n : ℕ) (h : n < 8) (a b : α) :
    Scalar.select (IntOp.cmpi CmpIPredicate.eq (BitVec.ofNat 32 n) 0#32) a b = if n = 0 then a else b := by
  interval_cases n <;> rfl

/-- The first eight rows once linked. -/
theorem link0 (p : S16x5632.Idx → EReal) (hp : Carried I T p) :
    k0_pay15 (F := Ideal) (carry (k0_pay4 (F := Ideal) p) 0 (by decide)) (View.ld (Val := Elt Ideal) (e' := .f32) (ubuf I T) (Rect.unit (s := S272x5632) ![256, 0] ![8, 5632] inb_S272x5632_S8x5632_256_0))
      = View.ld (Val := Elt Ideal) (e' := .f32) (ubuf I T) (Rect.unit (s := S272x5632) ![0, 0] ![8, 5632] inb_S272x5632_S8x5632_0_0) := by
  funext y
  suffices hs : _ = I.past (256 * T + rowTime (y 0).val) (y 1) from hs.trans (congrArg₂ I.past (by simp) (Fin.ext (by simp)))
  pointwise [k0_pay15, carry, k0_pay4, ubuf, View.ld]
  have hy : (y 0).val < 8 := (y 0).isLt
  rw [select_row _ hy]
  by_cases h : (y 0).val = 0
  · rw [if_pos h]
    refine Eq.trans (congrArg (fun i => p (ix2 i (y 1))) (Fin.ext ?_ : _ = (⟨8 * (0 : Fin 2).val + 7, by decide⟩ : Fin 16))) ((hp 0 (y 1)).trans ?_)
    · simp [h]
    · rw [show rowTime (y 0).val = 0 by simp [rowTime, h]]
      rfl
  · rw [if_neg h]
    refine congrArg (fun t => I.past t (y 1)) (?_ : 256 * T + _ = 256 * T + _)
    simp only [rowTime]
    omega

/-- The second eight rows once linked. -/
theorem link1 (p : S16x5632.Idx → EReal) (hp : Carried I T p) :
    k0_pay14 (F := Ideal) (k0_pay12 (carry (k0_pay4 (F := Ideal) p) 8 (by decide)))
      (k0_pay13 (View.ld (Val := Elt Ideal) (e' := .f32) (ubuf I T) (Rect.unit (s := S272x5632) ![264, 0] ![8, 5632] inb_S272x5632_S8x5632_264_0))) (iota Kind.tc S8x1 32 [0] iota_S8x1_d0_w32)
      = View.ld (Val := Elt Ideal) (e' := .f32) (ubuf I T) (Rect.unit (s := S272x5632) ![8, 0] ![8, 5632] inb_S272x5632_S8x5632_8_0) := by
  funext y
  suffices hs : _ = I.past (256 * T + rowTime (8 + (y 0).val)) (y 1) from hs.trans (congrArg₂ I.past (by simp) (Fin.ext (by simp)))
  pointwise [k0_pay14, k0_pay12, k0_pay13, carry, k0_pay4, ubuf, View.ld]
  have hy : (y 0).val < 8 := (y 0).isLt
  rw [select_row _ hy]
  by_cases h : (y 0).val = 0
  · rw [if_pos h]
    refine Eq.trans (congrArg (fun i => p (ix2 i (y 1))) (Fin.ext ?_ : _ = (⟨8 * (1 : Fin 2).val + 7, by decide⟩ : Fin 16))) ((hp 1 (y 1)).trans ?_)
    · simp [h]
    · rw [show rowTime (8 + (y 0).val) = 1 by simp [rowTime, h]]
      rfl
  · rw [if_neg h]
    refine congrArg (fun t => I.past t (y 1)) (?_ : 256 * T + _ = 256 * T + _)
    simp only [rowTime]
    omega

/-- A load after the rows are linked reads the array whose blocks were stored. -/
theorem read_linked {σ : RefSig} {κ : Kind} {sp : Space} (v : View σ κ sp S272x5632 .f32) (G : S272x5632.Idx → EReal) (L : List (View.Piece (Elt Ideal) S272x5632 .f32)) (B : Rect S272x5632) :
    View.readCov (Val := Elt Ideal) (s := S272x5632) (e := .f32) v
      (⟨Rect.unit ![0, 0] ![8, 5632] inb_S272x5632_S8x5632_0_0, View.ld (Val := Elt Ideal) (e' := .f32) G (Rect.unit (s := S272x5632) ![0, 0] ![8, 5632] inb_S272x5632_S8x5632_0_0)⟩ ::
        ⟨Rect.unit ![8, 0] ![8, 5632] inb_S272x5632_S8x5632_8_0, View.ld (Val := Elt Ideal) (e' := .f32) G (Rect.unit (s := S272x5632) ![8, 0] ![8, 5632] inb_S272x5632_S8x5632_8_0)⟩ ::
        ⟨Rect.unit ![16, 4224] ![256, 1408] inb_S272x5632_S256x1408_16_4224, View.ld (Val := Elt Ideal) (e' := .f32) G (Rect.unit (s := S272x5632) ![16, 4224] ![256, 1408] inb_S272x5632_S256x1408_16_4224)⟩ ::
        ⟨Rect.unit ![16, 2816] ![256, 1408] inb_S272x5632_S256x1408_16_2816, View.ld (Val := Elt Ideal) (e' := .f32) G (Rect.unit (s := S272x5632) ![16, 2816] ![256, 1408] inb_S272x5632_S256x1408_16_2816)⟩ ::
        ⟨Rect.unit ![16, 1408] ![256, 1408] inb_S272x5632_S256x1408_16_1408, View.ld (Val := Elt Ideal) (e' := .f32) G (Rect.unit (s := S272x5632) ![16, 1408] ![256, 1408] inb_S272x5632_S256x1408_16_1408)⟩ ::
        ⟨Rect.unit ![16, 0] ![256, 1408] inb_S272x5632_S256x1408_16_0, View.ld (Val := Elt Ideal) (e' := .f32) G (Rect.unit (s := S272x5632) ![16, 0] ![256, 1408] inb_S272x5632_S256x1408_16_0)⟩ :: L)
      B.toLoadRect = View.ld (Val := Elt Ideal) (e' := .f32) G B := by
  rw [View.readCov_eq_canon']
  funext j
  have hP : View.PiecesOf (Val := Elt Ideal) (e := .f32) G (⟨Rect.unit ![0, 0] ![8, 5632] inb_S272x5632_S8x5632_0_0, View.ld (Val := Elt Ideal) (e' := .f32) G (Rect.unit (s := S272x5632) ![0, 0] ![8, 5632] inb_S272x5632_S8x5632_0_0)⟩ ::
      ⟨Rect.unit ![8, 0] ![8, 5632] inb_S272x5632_S8x5632_8_0, View.ld (Val := Elt Ideal) (e' := .f32) G (Rect.unit (s := S272x5632) ![8, 0] ![8, 5632] inb_S272x5632_S8x5632_8_0)⟩ :: upPieces G) := ⟨fun _ => rfl, fun _ => rfl, upPieces_of G⟩
  have hc := View.canon_append_of_piecesOf G L _ hP (B.idx j)
  simp only [List.cons_append, List.nil_append] at hc
  refine hc ?_
  by_cases hj : 16 ≤ (B.idx j 0).val
  · obtain ⟨q, hq, hm⟩ := upPieces_cover G _ hj
    exact ⟨q, List.mem_cons_of_mem _ (List.mem_cons_of_mem _ hq), hm⟩
  · generalize B.idx j = R at hj
    have h1' : (R 1).val < 5632 := (R 1).isLt
    by_cases h8 : 8 ≤ (R 0).val
    · exact ⟨_, List.mem_cons_of_mem _ List.mem_cons_self, by simp [Rect.mem_set_unit, Fin.forall_fin_two]; omega⟩
    · exact ⟨_, List.mem_cons_self, by simp [Rect.mem_set_unit, Fin.forall_fin_two]; omega⟩

/-- The same of rows from the eighth on, where the first eight rows' store is not listed. -/
theorem read_linked' {σ : RefSig} {κ : Kind} {sp : Space} (v : View σ κ sp S272x5632 .f32) (G : S272x5632.Idx → EReal) (L : List (View.Piece (Elt Ideal) S272x5632 .f32)) (off size : Fin 2 → ℕ) (inb) (h : 8 ≤ off 0) :
    View.readCov (Val := Elt Ideal) (s := S272x5632) (e := .f32) v
      (⟨Rect.unit ![8, 0] ![8, 5632] inb_S272x5632_S8x5632_8_0, View.ld (Val := Elt Ideal) (e' := .f32) G (Rect.unit (s := S272x5632) ![8, 0] ![8, 5632] inb_S272x5632_S8x5632_8_0)⟩ ::
        ⟨Rect.unit ![16, 4224] ![256, 1408] inb_S272x5632_S256x1408_16_4224, View.ld (Val := Elt Ideal) (e' := .f32) G (Rect.unit (s := S272x5632) ![16, 4224] ![256, 1408] inb_S272x5632_S256x1408_16_4224)⟩ ::
        ⟨Rect.unit ![16, 2816] ![256, 1408] inb_S272x5632_S256x1408_16_2816, View.ld (Val := Elt Ideal) (e' := .f32) G (Rect.unit (s := S272x5632) ![16, 2816] ![256, 1408] inb_S272x5632_S256x1408_16_2816)⟩ ::
        ⟨Rect.unit ![16, 1408] ![256, 1408] inb_S272x5632_S256x1408_16_1408, View.ld (Val := Elt Ideal) (e' := .f32) G (Rect.unit (s := S272x5632) ![16, 1408] ![256, 1408] inb_S272x5632_S256x1408_16_1408)⟩ ::
        ⟨Rect.unit ![16, 0] ![256, 1408] inb_S272x5632_S256x1408_16_0, View.ld (Val := Elt Ideal) (e' := .f32) G (Rect.unit (s := S272x5632) ![16, 0] ![256, 1408] inb_S272x5632_S256x1408_16_0)⟩ :: L)
      (Rect.unit (s := S272x5632) off size inb).toLoadRect = View.ld (Val := Elt Ideal) (e' := .f32) G (Rect.unit (s := S272x5632) off size inb) := by
  have e := read_linked v G L (Rect.unit (s := S272x5632) off size inb)
  rw [View.readCov_eq_canon'] at e ⊢
  rw [← e]
  funext j
  refine (View.canon_cons_of_not_mem _ _ ?_).symm
  have hj : 8 ≤ ((Rect.unit (s := S272x5632) off size inb).idx j 0).val := by
    rw [Rect.idx_unit_val]; omega
  intro hm
  have hm' : (Rect.unit (s := S272x5632) off size inb).idx j ∈ (Rect.unit (s := S272x5632) ![0, 0] ![8, 5632] inb_S272x5632_S8x5632_0_0).set := hm
  have hlt : ((Rect.unit (s := S272x5632) off size inb).idx j 0).val < 0 + 8 := (Rect.mem_set_unit.mp hm' 0).2
  omega

end Cert.Loss

end
-- ==== Proof.Loss.Tile.lean ====
/- The stores of one tile as the functions of time they hold: convolution, gate, residual stream and the head of the loss. -/
module

public import proofs.«01_k».proof.Proof.Loss.Block

@[expose] public section

set_option maxRecDepth 16384

noncomputable section

open Idealize.ShloMosaic Idealize.ShloMosaic.TcCoe Idealize.SL.Sem

namespace Cert.Loss

open Cert.KernelIdeal Cert.KernelIdeal.Gen

variable (I : Ins) (T : ℕ)

/-- A load of the buffer of the up projection. -/
abbrev ld (o : Fin 2 → ℕ) (h) := View.ld (Val := Elt Ideal) (e' := .f32) (ubuf I T) (Rect.unit (s := S272x5632) o ![256, 1408] h)

/-- A load of the taps. -/
abbrev ldc (o : Fin 2 → ℕ) (h) := View.ld I.cw (Rect.unit (s := S3x5632) o ![1, 1408] h)

/-- One of the four column blocks of the convolution in a tile. -/
def convB (q : Fin 4) : S256x1408.Idx → EReal := fun y =>
  I.hc (256 * T + rowTime (y 0).val) ⟨1408 * q.val + (y 1).val, by have h : (y 1).val < 1408 := (y 1).isLt; omega⟩

/-- One of the two column blocks of the gate in a tile. -/
def actB (q : Fin 2) : S256x1408.Idx → EReal := fun y =>
  I.act (256 * T + rowTime (y 0).val) ⟨1408 * q.val + (y 1).val, by have h : (y 1).val < 1408 := (y 1).isLt; omega⟩

theorem rowTime_eight (r : ℕ) : rowTime (8 + r) = rowTime r + 1 := by
  simp only [rowTime]; omega

theorem rowTime_sixteen (r : ℕ) : rowTime (16 + r) = rowTime r + 2 := by
  simp only [rowTime]; omega

/-- The three taps of a column block on the three shifted loads. -/
theorem taps (q : ℕ) (hq : q < 4) (y : S256x1408.Idx) (h0 h1 h2 k0 k1 k2) :
    ldc I ![0, 1408 * q] k0 (ix2 0 (y 1)) * ld I T ![0, 1408 * q] h0 y + ldc I ![1, 1408 * q] k1 (ix2 0 (y 1)) * ld I T ![8, 1408 * q] h1 y
      + ldc I ![2, 1408 * q] k2 (ix2 0 (y 1)) * ld I T ![16, 1408 * q] h2 y = convB I T ⟨q, hq⟩ y := by
  dsimp only [ldc, ld, View.ld, convB, Ins.hc, ubuf]
  congr 1 <;> [congr 1; skip] <;> congr 1
  · exact congrArg I.cw (by funext a; fin_cases a <;> exact Fin.ext (by simp))
  · exact congrArg₂ I.past (by simp) (Fin.ext (by simp))
  · exact congrArg I.cw (by funext a; fin_cases a <;> exact Fin.ext (by simp))
  · exact congrArg₂ I.past (by simp [rowTime_eight]; omega) (Fin.ext (by simp))
  · exact congrArg I.cw (by funext a; fin_cases a <;> exact Fin.ext (by simp))
  · exact congrArg₂ I.past (by simp [rowTime_sixteen]; omega) (Fin.ext (by simp))

/-- The first column block of the convolution. -/
theorem conv0 : k0_pay17 (F := Ideal) (ld I T ![16, 0] inb_S272x5632_S256x1408_16_0) (k0_pay16 (F := Ideal) (ld I T ![0, 0] inb_S272x5632_S256x1408_0_0) (ld I T ![8, 0] inb_S272x5632_S256x1408_8_0)
      (ldc I ![0, 0] inb_S3x5632_S1x1408_0_0) (ldc I ![1, 0] inb_S3x5632_S1x1408_1_0))
      (ldc I ![2, 0] inb_S3x5632_S1x1408_2_0) = convB I T 0 := by
  funext y
  have e := taps I T 0 (by decide) y inb_S272x5632_S256x1408_0_0 inb_S272x5632_S256x1408_8_0 inb_S272x5632_S256x1408_16_0
    inb_S3x5632_S1x1408_0_0 inb_S3x5632_S1x1408_1_0 inb_S3x5632_S1x1408_2_0
  pointwise [k0_pay17, k0_pay16] at e ⊢
  exact e

/-- The same block as it is stored. -/
theorem conv0' : k0_pay19 (F := Ideal) (ld I T ![16, 0] inb_S272x5632_S256x1408_16_0) (k0_pay16 (F := Ideal) (ld I T ![0, 0] inb_S272x5632_S256x1408_0_0) (ld I T ![8, 0] inb_S272x5632_S256x1408_8_0)
      (ldc I ![0, 0] inb_S3x5632_S1x1408_0_0) (ldc I ![1, 0] inb_S3x5632_S1x1408_1_0))
      (ldc I ![2, 0] inb_S3x5632_S1x1408_2_0) = convB I T 0 := conv0 I T

/-- The third column block of the convolution. -/
theorem conv2 : k0_pay18 (F := Ideal) (ld I T ![0, 2816] inb_S272x5632_S256x1408_0_2816) (ld I T ![8, 2816] inb_S272x5632_S256x1408_8_2816) (ld I T ![16, 2816] inb_S272x5632_S256x1408_16_2816)
      (ldc I ![0, 2816] inb_S3x5632_S1x1408_0_2816) (ldc I ![1, 2816] inb_S3x5632_S1x1408_1_2816) (ldc I ![2, 2816] inb_S3x5632_S1x1408_2_2816) = convB I T 2 := by
  funext y
  have e := taps I T 2 (by decide) y inb_S272x5632_S256x1408_0_2816 inb_S272x5632_S256x1408_8_2816 inb_S272x5632_S256x1408_16_2816
    inb_S3x5632_S1x1408_0_2816 inb_S3x5632_S1x1408_1_2816 inb_S3x5632_S1x1408_2_2816
  pointwise [k0_pay18] at e ⊢
  exact e

/-- The same block as it is stored. -/
theorem conv2' : k0_pay20 (F := Ideal) (ld I T ![0, 2816] inb_S272x5632_S256x1408_0_2816) (ld I T ![8, 2816] inb_S272x5632_S256x1408_8_2816) (ld I T ![16, 2816] inb_S272x5632_S256x1408_16_2816)
      (ldc I ![0, 2816] inb_S3x5632_S1x1408_0_2816) (ldc I ![1, 2816] inb_S3x5632_S1x1408_1_2816) (ldc I ![2, 2816] inb_S3x5632_S1x1408_2_2816) = convB I T 2 := conv2 I T

/-- The second column block of the convolution. -/
theorem conv1 : k0_pay23 (F := Ideal) (ld I T ![0, 1408] inb_S272x5632_S256x1408_0_1408) (ld I T ![8, 1408] inb_S272x5632_S256x1408_8_1408) (ld I T ![16, 1408] inb_S272x5632_S256x1408_16_1408)
      (ldc I ![0, 1408] inb_S3x5632_S1x1408_0_1408) (ldc I ![1, 1408] inb_S3x5632_S1x1408_1_1408) (ldc I ![2, 1408] inb_S3x5632_S1x1408_2_1408) = convB I T 1 := by
  funext y
  have e := taps I T 1 (by decide) y inb_S272x5632_S256x1408_0_1408 inb_S272x5632_S256x1408_8_1408 inb_S272x5632_S256x1408_16_1408
    inb_S3x5632_S1x1408_0_1408 inb_S3x5632_S1x1408_1_1408 inb_S3x5632_S1x1408_2_1408
  pointwise [k0_pay23] at e ⊢
  exact e

/-- The same block as it is stored. -/
theorem conv1' : k0_pay26 (F := Ideal) (convB I T 1) = convB I T 1 := rfl

/-- The fourth column block of the convolution. -/
theorem conv3 : k0_pay25 (F := Ideal) (ld I T ![16, 4224] inb_S272x5632_S256x1408_16_4224) (k0_pay24 (F := Ideal) (ld I T ![0, 4224] inb_S272x5632_S256x1408_0_4224) (ld I T ![8, 4224] inb_S272x5632_S256x1408_8_4224)
      (ldc I ![0, 4224] inb_S3x5632_S1x1408_0_4224) (ldc I ![1, 4224] inb_S3x5632_S1x1408_1_4224))
      (ldc I ![2, 4224] inb_S3x5632_S1x1408_2_4224) = convB I T 3 := by
  funext y
  have e := taps I T 3 (by decide) y inb_S272x5632_S256x1408_0_4224 inb_S272x5632_S256x1408_8_4224 inb_S272x5632_S256x1408_16_4224
    inb_S3x5632_S1x1408_0_4224 inb_S3x5632_S1x1408_1_4224 inb_S3x5632_S1x1408_2_4224
  pointwise [k0_pay25, k0_pay24] at e ⊢
  exact e

/-- The same block as it is stored. -/
theorem conv3' : k0_pay27 (F := Ideal) (ld I T ![16, 4224] inb_S272x5632_S256x1408_16_4224) (k0_pay24 (F := Ideal) (ld I T ![0, 4224] inb_S272x5632_S256x1408_0_4224) (ld I T ![8, 4224] inb_S272x5632_S256x1408_8_4224)
      (ldc I ![0, 4224] inb_S3x5632_S1x1408_0_4224) (ldc I ![1, 4224] inb_S3x5632_S1x1408_1_4224))
      (ldc I ![2, 4224] inb_S3x5632_S1x1408_2_4224) = convB I T 3 := conv3 I T

/-- The first column block of the gate. -/
theorem act0 : k0_pay21 (F := Ideal) (ld I T ![16, 0] inb_S272x5632_S256x1408_16_0) (k0_pay16 (F := Ideal) (ld I T ![0, 0] inb_S272x5632_S256x1408_0_0) (ld I T ![8, 0] inb_S272x5632_S256x1408_8_0)
      (ldc I ![0, 0] inb_S3x5632_S1x1408_0_0) (ldc I ![1, 0] inb_S3x5632_S1x1408_1_0))
      (ldc I ![2, 0] inb_S3x5632_S1x1408_2_0)
      (ld I T ![0, 2816] inb_S272x5632_S256x1408_0_2816) (ld I T ![8, 2816] inb_S272x5632_S256x1408_8_2816) (ld I T ![16, 2816] inb_S272x5632_S256x1408_16_2816)
      (ldc I ![0, 2816] inb_S3x5632_S1x1408_0_2816) (ldc I ![1, 2816] inb_S3x5632_S1x1408_1_2816) (ldc I ![2, 2816] inb_S3x5632_S1x1408_2_2816) = actB I T 0 := by
  funext y
  pointwise [k0_pay21, conv0, conv2]
  exact congrArg₂ gated (congrArg (I.hc _) (Fin.ext (by simp))) (congrArg (I.hc _) (Fin.ext (by simp; omega)))

/-- The second column block of the gate. -/
theorem act1 : k0_pay28 (F := Ideal) (convB I T 1) (ld I T ![16, 4224] inb_S272x5632_S256x1408_16_4224) (k0_pay24 (F := Ideal) (ld I T ![0, 4224] inb_S272x5632_S256x1408_0_4224) (ld I T ![8, 4224] inb_S272x5632_S256x1408_8_4224)
      (ldc I ![0, 4224] inb_S3x5632_S1x1408_0_4224) (ldc I ![1, 4224] inb_S3x5632_S1x1408_1_4224))
      (ldc I ![2, 4224] inb_S3x5632_S1x1408_2_4224) = actB I T 1 := by
  funext y
  pointwise [k0_pay28, conv3]
  exact congrArg₂ gated (congrArg (I.hc _) (Fin.ext (by simp))) (congrArg (I.hc _) (Fin.ext (by simp; omega)))

/-- The residual stream of a tile. -/
def yB : S256x1024.Idx → EReal := fun y => I.y (256 * T + rowTime (y 0).val) (y 1)

/-- The factors of the rows of a tile. -/
def rstdB : S256x1.Idx → EReal := fun y => rstd (I.y (256 * T + rowTime (y 0).val))

theorem sum_halves (f : Fin 2816 → EReal) :
    (∑ j : Fin 1408, f ⟨j.val, by omega⟩) + ∑ j : Fin 1408, f ⟨1408 + j.val, by omega⟩ = ∑ j, f j :=
  (Fin.sum_univ_add (a := 1408) (b := 1408) f).symm

/-- The down projection of both halves of the gate on top of the stream. -/
theorem stream (x : Vec Ideal S256x1024 .f32) (hx : ∀ (r : Fin 256) (k : Fin 1024), x (ix2 r k) = I.H (256 * T + rowTime r.val) k) :
    k0_pay29 (F := Ideal) (k0_pay22 (F := Ideal) (k0_pay2 (F := Ideal) x) (actB I T 0)
        (View.ld I.wd (Rect.unit (s := S2816x1024) ![0, 0] ![1408, 1024] inb_S2816x1024_S1408x1024_0_0)))
      (convB I T 1) (ld I T ![16, 4224] inb_S272x5632_S256x1408_16_4224) (k0_pay24 (F := Ideal) (ld I T ![0, 4224] inb_S272x5632_S256x1408_0_4224) (ld I T ![8, 4224] inb_S272x5632_S256x1408_8_4224)
      (ldc I ![0, 4224] inb_S3x5632_S1x1408_0_4224) (ldc I ![1, 4224] inb_S3x5632_S1x1408_1_4224))
      (ldc I ![2, 4224] inb_S3x5632_S1x1408_2_4224)
      (View.ld I.wd (Rect.unit (s := S2816x1024) ![1408, 0] ![1408, 1024] inb_S2816x1024_S1408x1024_1408_0)) = yB I T := by
  funext y
  have e := sum_halves fun j => I.act (256 * T + rowTime (y 0).val) j * I.wd (ix2 j (y 1))
  pointwise [k0_pay29, k0_pay22, k0_pay2, act1]
  refine Eq.trans ?_ (congrArg (I.H (256 * T + rowTime (y 0).val) (y 1) + ·) e)
  rw [← add_assoc]
  refine congrArg₂ (· + ·) (congrArg₂ (· + ·) ?_ (Finset.sum_congr rfl fun j _ => ?_)) (Finset.sum_congr rfl fun j _ => ?_)
  · exact (congrArg x (ix2_eta y).symm).trans (hx (y 0) (y 1))
  · exact congrArg (· * _) (congrArg (I.act _) (Fin.ext (by simp)))
  · exact congrArg (· * _) (congrArg (I.act _) (Fin.ext (by simp)))

/-- The factors of its rows. -/
theorem stream_rstd (x : Vec Ideal S256x1024 .f32) (hx : ∀ (r : Fin 256) (k : Fin 1024), x (ix2 r k) = I.H (256 * T + rowTime r.val) k) :
    k0_pay33 (F := Ideal) (k0_pay22 (F := Ideal) (k0_pay2 (F := Ideal) x) (actB I T 0)
        (View.ld I.wd (Rect.unit (s := S2816x1024) ![0, 0] ![1408, 1024] inb_S2816x1024_S1408x1024_0_0)))
      (convB I T 1) (ld I T ![16, 4224] inb_S272x5632_S256x1408_16_4224) (k0_pay24 (F := Ideal) (ld I T ![0, 4224] inb_S272x5632_S256x1408_0_4224) (ld I T ![8, 4224] inb_S272x5632_S256x1408_8_4224)
      (ldc I ![0, 4224] inb_S3x5632_S1x1408_0_4224) (ldc I ![1, 4224] inb_S3x5632_S1x1408_1_4224))
      (ldc I ![2, 4224] inb_S3x5632_S1x1408_2_4224)
      (View.ld I.wd (Rect.unit (s := S2816x1024) ![1408, 0] ![1408, 1024] inb_S2816x1024_S1408x1024_1408_0)) = rstdB I T := by
  funext y
  pointwise [k0_pay33, stream I T x hx, yB, rstdB]
  rfl

/-- The errors of a tile. -/
def errB : S256x1024.Idx → EReal := fun y => I.err (256 * T + rowTime (y 0).val) (y 1)

variable (i : BitVec 32) (hi : i = BitVec.ofNat 32 T) (hT : T < 65) (v : Vec Ideal S256x1024 .f32)
  (hv : T ≠ 0 → ∀ (r : Fin 256) (k : Fin 1024), v (ix2 r k) = I.tg (256 * (T - 1) + rowTime r.val) k)

include hi hT hv in
theorem err_eq : k0_pay35 (F := Ideal) i (yB I T) (k0_pay32 (F := Ideal) I.gf) (rstdB I T) v = errB I T := by
  funext y
  pointwise [k0_pay35, k0_pay34, k0_pay32, yB, rstdB, errB]
  unfold Ins.err Ins.xhat
  by_cases h : T = 0
  · have h' : ¬ 256 ≤ 256 * T + rowTime (y 0).val := by
      have : (y 0).val < 256 := (y 0).isLt
      simp only [rowTime]; omega
    rw [if_neg h']
    subst h hi
    rfl
  · have h' : 256 ≤ 256 * T + rowTime (y 0).val := by omega
    rw [if_pos h']
    have hs : Scalar.cmpi CmpIPredicate.sgt i 0#32 = 1#1 := by
      subst hi
      have : ∀ T : Fin 65, T.val ≠ 0 → Scalar.cmpi CmpIPredicate.sgt (BitVec.ofNat 32 T.val) 0#32 = 1#1 := by decide
      exact this ⟨T, hT⟩ h
    have ht : v y = I.tg (256 * (T - 1) + rowTime (y 0).val) (y 1) := (congrArg v (ix2_eta y).symm).trans (hv h (y 0) (y 1))
    rw [hs, ht, show 256 * T + rowTime (y 0).val - 256 = 256 * (T - 1) + rowTime (y 0).val by omega]
    rfl

/-- The row of squared errors with this tile's added. -/
def sqRow (p : S1x1024.Idx → EReal) : S1x1024.Idx → EReal := fun y =>
  p y + ∑ r : Fin 256, I.err (256 * T + rowTime r.val) (y 1) * I.err (256 * T + rowTime r.val) (y 1)

/-- The row of the last gain's gradient with this tile's added. -/
def gainRow (p : S1x1024.Idx → EReal) : S1x1024.Idx → EReal := fun y =>
  p y + ∑ r : Fin 256, I.dout (256 * T + rowTime r.val) (y 1) * I.xhat (256 * T + rowTime r.val) (y 1)

/-- The gradients of a tile's rows. -/
def dhB : S256x1024.Idx → EReal := fun y => I.dh (256 * T + rowTime (y 0).val) (y 1)

include hi hT hv in
theorem sq_eq (p : Vec Ideal S1x1024 .f32) :
    k0_pay36 (F := Ideal) i (yB I T) (k0_pay32 (F := Ideal) I.gf) (rstdB I T) v p = sqRow I T p := by
  funext y
  have e := err_eq I T i hi hT v hv
  pointwise [k0_pay36, e, errB, sqRow]

include hi hT hv in
theorem gain_eq (p : Vec Ideal S1x1024 .f32) :
    k0_pay38 (F := Ideal) i (yB I T) (k0_pay32 (F := Ideal) I.gf) (rstdB I T) v p = gainRow I T p := by
  funext y
  have e := err_eq I T i hi hT v hv
  pointwise [k0_pay38, k0_pay37, k0_pay34, e, errB, gainRow, yB, rstdB, Ins.dout, Ins.xhat]

include hi hT hv in
theorem dh_eq : k0_pay39 (F := Ideal) i (yB I T) (k0_pay32 (F := Ideal) I.gf) (rstdB I T) v = dhB I T := by
  funext y
  have e := err_eq I T i hi hT v hv
  have eg : k0_pay32 (F := Ideal) I.gf = I.gf := by funext y; pointwise [k0_pay32]
  rw [eg] at e ⊢
  pointwise [k0_pay39, k0_pay37, k0_pay34, e, errB, dhB, yB, rstdB, Ins.dout, Ins.xhat, Ins.dh]

end Cert.Loss

end
-- ==== Proof.Loss.Point.lean ====
/- What every grid point leaves in its output blocks and in the rows it carries to the next: the tile's functions of time, the two
   accumulated rows as sums over the tiles so far. -/
module

public import proofs.«01_k».proof.Proof.Gen.KernelIdeal.Frame
public import proofs.«01_k».proof.Proof.Loss.Tile

@[expose] public section

set_option maxRecDepth 16384

noncomputable section

open Idealize.ShloMosaic Idealize.ShloMosaic.TcCoe Idealize.SL.Sem

namespace Cert.Loss

open Cert.KernelIdeal Cert.KernelIdeal.Gen

variable (m : (ℓ : Loc nD τ sig) → Buf (Elt Ideal) ℓ) (I : Ins)

/-- The blocks of a grid point are the arrays `I` at the point's times. -/
structure At (c : Dev nD) (t : Fin cfg0.N) : Prop where
  x : ∀ (r : Fin 256) (k : Fin 1024), iblk m c 0 t (ix2 r k) = I.H (256 * t.val + rowTime r.val) k
  g : iblk m c 1 t = I.g
  w : iblk m c 2 t = I.w
  cw : iblk m c 3 t = I.cw
  wd : iblk m c 4 t = I.wd
  tg : t.val ≠ 0 → ∀ (r : Fin 256) (k : Fin 1024), iblk m c 5 t (ix2 r k) = I.tg (256 * (t.val - 1) + rowTime r.val) k
  gf : iblk m c 6 t = I.gf

theorem coord (t : Fin cfg0.N) : BitVec.ofNat 32 (grid0.coords t 0).val = BitVec.ofNat 32 t.val := by
  revert t; decide +kernel

theorem lt65 (t : Fin cfg0.N) : t.val < 65 := t.isLt

/-- The squared errors of a column summed over the tiles before `n`. -/
def sqSum (n : ℕ) (k : Fin 1024) : EReal :=
  ∑ T ∈ Finset.range n, ∑ r : Fin 256, I.err (256 * T + rowTime r.val) k * I.err (256 * T + rowTime r.val) k

/-- The last gain's gradient in a column summed over the tiles before `n`. -/
def gainSum (n : ℕ) (k : Fin 1024) : EReal :=
  ∑ T ∈ Finset.range n, ∑ r : Fin 256, I.dout (256 * T + rowTime r.val) k * I.xhat (256 * T + rowTime r.val) k

/-- The four column blocks of the convolution stored side by side. -/
theorem hc_tiles (T : ℕ) (y : S256x5632.Idx) : View.canon (Val := Elt Ideal) (s := S256x5632) (e := .bf16)
    [⟨Rect.unit ![0, 4224] ![256, 1408] inb_S256x5632_S256x1408_0_4224, convB I T 3⟩,
      ⟨Rect.unit ![0, 1408] ![256, 1408] inb_S256x5632_S256x1408_0_1408, convB I T 1⟩,
      ⟨Rect.unit ![0, 2816] ![256, 1408] inb_S256x5632_S256x1408_0_2816, convB I T 2⟩,
      ⟨Rect.unit ![0, 0] ![256, 1408] inb_S256x5632_S256x1408_0_0, convB I T 0⟩] y = I.hc (256 * T + rowTime (y 0).val) (y 1) := by
  have hc := View.canon_append_of_piecesOf (Val := Elt Ideal) (e := .bf16) (fun y : S256x5632.Idx => I.hc (256 * T + rowTime (y 0).val) (y 1)) []
    [⟨Rect.unit ![0, 4224] ![256, 1408] inb_S256x5632_S256x1408_0_4224, convB I T 3⟩,
      ⟨Rect.unit ![0, 1408] ![256, 1408] inb_S256x5632_S256x1408_0_1408, convB I T 1⟩,
      ⟨Rect.unit ![0, 2816] ![256, 1408] inb_S256x5632_S256x1408_0_2816, convB I T 2⟩,
      ⟨Rect.unit ![0, 0] ![256, 1408] inb_S256x5632_S256x1408_0_0, convB I T 0⟩]
    (show View.PiecesOf (Val := Elt Ideal) (e := .bf16) (fun y : S256x5632.Idx => I.hc (256 * T + rowTime (y 0).val) (y 1)) _ from
      ⟨fun j => congrArg₂ I.hc (by simp) (Fin.ext (by simp)), fun j => congrArg₂ I.hc (by simp) (Fin.ext (by simp)), fun j => congrArg₂ I.hc (by simp) (Fin.ext (by simp)), fun j => congrArg₂ I.hc (by simp) (Fin.ext (by simp)), trivial⟩) y (by
      simp only [List.mem_cons, List.not_mem_nil, or_false, exists_eq_or_imp, exists_eq_left, Rect.mem_set_unit, Fin.forall_fin_two]
      have h0 : (y 0).val < 256 := (y 0).isLt
      have h1 : (y 1).val < 5632 := (y 1).isLt
      simp
      omega)
  simp only [List.append_nil] at hc
  exact hc

/-- The two column blocks of the gate stored side by side. -/
theorem act_tiles (T : ℕ) (y : S256x2816.Idx) : View.canon (Val := Elt Ideal) (s := S256x2816) (e := .bf16)
    [⟨Rect.unit ![0, 1408] ![256, 1408] inb_S256x2816_S256x1408_0_1408, actB I T 1⟩,
      ⟨Rect.unit ![0, 0] ![256, 1408] inb_S256x2816_S256x1408_0_0, actB I T 0⟩] y = I.act (256 * T + rowTime (y 0).val) (y 1) := by
  have hc := View.canon_append_of_piecesOf (Val := Elt Ideal) (e := .bf16) (fun y : S256x2816.Idx => I.act (256 * T + rowTime (y 0).val) (y 1)) []
    [⟨Rect.unit ![0, 1408] ![256, 1408] inb_S256x2816_S256x1408_0_1408, actB I T 1⟩,
      ⟨Rect.unit ![0, 0] ![256, 1408] inb_S256x2816_S256x1408_0_0, actB I T 0⟩]
    (show View.PiecesOf (Val := Elt Ideal) (e := .bf16) (fun y : S256x2816.Idx => I.act (256 * T + rowTime (y 0).val) (y 1)) _ from
      ⟨fun j => congrArg₂ I.act (by simp) (Fin.ext (by simp)), fun j => congrArg₂ I.act (by simp) (Fin.ext (by simp)), trivial⟩) y (by
      simp only [List.mem_cons, List.not_mem_nil, or_false, exists_eq_or_imp, exists_eq_left, Rect.mem_set_unit, Fin.forall_fin_two]
      have h0 : (y 0).val < 256 := (y 0).isLt
      have h1 : (y 1).val < 2816 := (y 1).isLt
      simp
      omega)
  simp only [List.append_nil] at hc
  exact hc

/-- The up projection of a tile as it is stored. -/
theorem hu_tile (T : ℕ) (y : S256x5632.Idx) : k0_pay10 (F := Ideal)
    (View.ld (Val := Elt Ideal) (e' := .f32) (ubuf I T) (Rect.unit (s := S272x5632) ![16, 0] ![256, 5632] inb_S272x5632_S256x5632_16_0)) y
      = I.hu (256 * T + rowTime (y 0).val) (y 1) := by
  pointwise [k0_pay10, ubuf, View.ld]
  rw [rowTime_sixteen]
  unfold Ins.past
  rw [if_pos (by omega)]
  exact congrArg₂ I.hu (by omega) (Fin.ext (by simp))

/-- The rows left for the next tile. -/
theorem tail_tile (T : ℕ) : Carried I (T + 1) (k0_pay11 (F := Ideal)
    (View.ld (Val := Elt Ideal) (e' := .f32) (ubuf I T) (Rect.unit (s := S272x5632) ![256, 0] ![16, 5632] inb_S272x5632_S16x5632_256_0))) := by
  intro k c
  pointwise [k0_pay11, ubuf, View.ld]
  refine congrArg₂ I.past ?_ (Fin.ext (by simp))
  have hk := k.isLt
  simp only [rowTime]
  omega

theorem row_emb (k : Fin 1024) :
    (Rect.unit (s := S8x1024) ![0, 0] ![1, 1024] inb_S8x1024_S1x1024_0_0).emb (ix2 0 k : S1x1024.Idx) = (ix2 0 k : S8x1024.Idx) := by
  funext a; fin_cases a <;> exact Fin.ext (by simp)

/-- A stored first row is read back, -/
theorem row_canon (w : S1x1024.Idx → EReal) (L : List (View.Piece (Elt Ideal) S8x1024 .f32)) (k : Fin 1024) :
    View.canon (Val := Elt Ideal) (s := S8x1024) (e := .f32) (⟨Rect.unit (s := S8x1024) ![0, 0] ![1, 1024] inb_S8x1024_S1x1024_0_0, w⟩ :: L) (ix2 0 k)
      = w (ix2 0 k) := by
  rw [← row_emb]
  exact View.canon_cons_emb (Val := Elt Ideal) (Rect.unit (s := S8x1024) ![0, 0] ![1, 1024] inb_S8x1024_S1x1024_0_0) w L (ix2 0 k : S1x1024.Idx)

/-- whatever the buffer held before. -/
theorem row_writes {κ : Kind} {sp : Space} (v : View sig κ sp S8x1024 .f32) (f) (w : S1x1024.Idx → EReal)
    (L : List (View.Piece (Elt Ideal) S8x1024 .f32)) (k : Fin 1024) :
    v.read (Elt Ideal) (v.writes (Elt Ideal) f (⟨Rect.unit (s := S8x1024) ![0, 0] ![1, 1024] inb_S8x1024_S1x1024_0_0, w⟩ :: L)) (ix2 0 k)
      = w (ix2 0 k) := by
  rw [← row_emb]
  exact View.read_writes_cons_emb (Val := Elt Ideal) v f (Rect.unit (s := S8x1024) ![0, 0] ![1, 1024] inb_S8x1024_S1x1024_0_0) w L (ix2 0 k : S1x1024.Idx)

theorem sq_succ (T : ℕ) (f : S8x1024.Idx → EReal) (k : Fin 1024) (h : f (ix2 0 k) = sqSum I T k) :
    sqRow I T (View.ld (Val := Elt Ideal) (e' := .f32) f (Rect.unit (s := S8x1024) ![0, 0] ![1, 1024] inb_S8x1024_S1x1024_0_0)) (ix2 0 k) = sqSum I (T + 1) k := by
  rw [sqSum, Finset.sum_range_succ, ← sqSum, ← h, ← row_emb]
  rfl

theorem gain_succ (T : ℕ) (f : S8x1024.Idx → EReal) (k : Fin 1024) (h : f (ix2 0 k) = gainSum I T k) :
    gainRow I T (View.ld (Val := Elt Ideal) (e' := .f32) f (Rect.unit (s := S8x1024) ![0, 0] ![1, 1024] inb_S8x1024_S1x1024_0_0)) (ix2 0 k) = gainSum I (T + 1) k := by
  rw [gainSum, Finset.sum_range_succ, ← gainSum, ← h, ← row_emb]
  rfl

/-- What the point leaves: `o` is the tuple of its output blocks and carried rows. -/
structure Left (n : ℕ) (c : Dev nD) (h : n < cfg0.N) : Prop where
  dh : ∀ y, (outsAt0 m c n h).1 y = dhB I n y
  hu : ∀ y, (outsAt0 m c n h).2.1 y = I.hu (256 * n + rowTime (y 0).val) (y 1)
  hc : ∀ y, (outsAt0 m c n h).2.2.1 y = I.hc (256 * n + rowTime (y 0).val) (y 1)
  act : ∀ y, (outsAt0 m c n h).2.2.2.1 y = I.act (256 * n + rowTime (y 0).val) (y 1)
  sq : ∀ k, (outsAt0 m c n h).2.2.2.2.1 (ix2 0 k) = sqSum I (n + 1) k
  dgf : ∀ k, (outsAt0 m c n h).2.2.2.2.2.1 (ix2 0 k) = gainSum I (n + 1) k
  tail : Carried I (n + 1) (outsAt0 m c n h).2.2.2.2.2.2

/-- Nothing is carried into the first tile. -/
theorem carried_zero : Carried I 0 (k0_pay1 (F := Ideal)) := by
  intro k c
  pointwise [k0_pay1]
  have hk := k.isLt
  unfold Ins.past
  rw [if_neg (by omega)]

theorem step_first (c : Dev nD) (t : Fin cfg0.N) (a : At m I c t) (h : t.val % 65 = 0) : Left m I t.val c t.isLt := by
  have h0 : t.val = 0 := by have := lt65 t; omega
  have hp : Carried I t.val (k0_pay1 (F := Ideal)) := h0 ▸ carried_zero I
  have e1 := sq_eq I t.val _ (coord t) (lt65 t) _ a.tg
  have e2 := gain_eq I t.val _ (coord t) (lt65 t) _ a.tg
  have e3 := dh_eq I t.val _ (coord t) (lt65 t) _ a.tg
  constructor
  all_goals
    rw [outsAt0_A m c t h h]
    frame_open
    simp (disch := decide) only [↓ View.readCov_skip, ↓ View.readCov_cons_toLoadRect, ↓ View.readCov_fill]
    frame_out
    simp (disch := decide) only [a.g, a.w, a.cw, a.wd, a.gf, read_unread_whole, up0 I _ _ a.x, up1 I _ _ a.x, up2 I _ _ a.x, up3 I _ _ a.x, read_up, read_carry,
      link0 I _ _ hp, link1 I _ _ hp, read_linked, read_linked', conv0, conv0', conv1, conv1', conv2, conv2', conv3, conv3', act0, act1, stream I _ _ a.x,
      stream_rstd I _ _ a.x, e1, e2, e3, hc_tiles, act_tiles, hu_tile, tail_tile, row_canon, row_writes, implies_true]
  · exact fun k => sq_succ I _ _ k (by rw [h0]; pointwise [k0_pay30, sqSum, Finset.range_zero, Finset.sum_empty])
  · exact fun k => gain_succ I _ _ k (by rw [h0]; pointwise [k0_pay31, gainSum, Finset.range_zero, Finset.sum_empty])

theorem step_next (c : Dev nD) (t : Fin cfg0.N) (a : At m I c t) (h : ¬ t.val % 65 = 0)
    (p : Left m I (t.val - 1) c (lt_of_le_of_lt (Nat.sub_le _ _) t.isLt)) : Left m I t.val c t.isLt := by
  have h1 : t.val - 1 + 1 = t.val := by omega
  have hp := p.tail
  rw [h1] at hp
  have e1 := sq_eq I t.val _ (coord t) (lt65 t) _ a.tg
  have e2 := gain_eq I t.val _ (coord t) (lt65 t) _ a.tg
  have e3 := dh_eq I t.val _ (coord t) (lt65 t) _ a.tg
  constructor
  all_goals
    rw [outsAt0_B m c t h h]
    frame_open
    simp (disch := decide) only [↓ View.readCov_skip, ↓ View.readCov_cons_toLoadRect, ↓ View.readCov_fill]
    frame_out
    simp (disch := decide) only [a.g, a.w, a.cw, a.wd, a.gf, read_unread_whole, up0 I _ _ a.x, up1 I _ _ a.x, up2 I _ _ a.x, up3 I _ _ a.x, read_up, read_carry,
      link0 I _ _ hp, link1 I _ _ hp, read_linked, read_linked', conv0, conv0', conv1, conv1', conv2, conv2', conv3, conv3', act0, act1, stream I _ _ a.x,
      stream_rstd I _ _ a.x, e1, e2, e3, hc_tiles, act_tiles, hu_tile, tail_tile, row_canon, row_writes, implies_true]
  · exact fun k => sq_succ I _ _ k ((p.sq k).trans (by rw [h1]))
  · exact fun k => gain_succ I _ _ k ((p.dgf k).trans (by rw [h1]))

/-- Every point, one after another. -/
theorem left (c : Dev nD) (a : ∀ t, At m I c t) : ∀ n h, Left m I n c h
  | 0, h => step_first m I c ⟨0, h⟩ (a _) rfl
  | n + 1, h => step_next m I c ⟨n + 1, h⟩ (a _) (by have := lt65 ⟨n + 1, h⟩; simp only at this ⊢; omega) (left c a n _)

end Cert.Loss

end
-- ==== Proof.Loss.Entry.lean ====
/- The blocks of a grid point read from the program's arguments: tiles of 256 rows whose row 8 j + s is time 32 s + j. -/
module

public import proofs.«01_k».proof.Proof.Loss.Point
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Loss

open Cert.KernelIdeal Cert.KernelIdeal.Gen

/-- The arrays of the call from the program's arguments. -/
def mkIns (h : S16400x1024.Idx → EReal) (g : S1024.Idx → EReal) (w : S1024x5632.Idx → EReal) (cw : S3x5632.Idx → EReal)
    (wd : S2816x1024.Idx → EReal) (tg : S16384x1024.Idx → EReal) (gf : S1024.Idx → EReal) : Ins where
  H τ k := if h' : 240 ≤ τ ∧ τ < 16640 then h (ix2 ⟨τ - 240, by omega⟩ k) else 0
  g y := g (ix1 (y 1))
  w y := w (ix2 (y 1) ⟨1408 * (y 0).val + (y 2).val, by
    have h0 : (y 0).val < 4 := (y 0).isLt
    have h2 : (y 2).val < 1408 := (y 2).isLt
    omega⟩)
  cw := cw
  wd := wd
  tg τ k := if h' : τ < 16384 then tg (ix2 ⟨τ, h'⟩ k) else 0
  gf y := gf (ix1 (y 1))

variable (m : (ℓ : Loc nD τ sig) → Buf (Elt Ideal) ℓ)

/-- The arrays of the call on a device. -/
def ins (c : Dev nD) : Ins := mkIns (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem idx_x : ∀ t : Fin cfg0.N, win0_0.index t = ![t.val, 0] := (by decide +kernel : ∀ t : Fin grid0.N, _)
theorem idx_g : ∀ t : Fin cfg0.N, win0_1.index t = ![0, 0] := (by decide +kernel : ∀ t : Fin grid0.N, _)
theorem idx_w : ∀ t : Fin cfg0.N, win0_2.index t = ![0, 0, 0] := (by decide +kernel : ∀ t : Fin grid0.N, _)
theorem idx_cw : ∀ t : Fin cfg0.N, win0_3.index t = ![0, 0] := (by decide +kernel : ∀ t : Fin grid0.N, _)
theorem idx_wd : ∀ t : Fin cfg0.N, win0_4.index t = ![0, 0] := (by decide +kernel : ∀ t : Fin grid0.N, _)
theorem idx_tg : ∀ t : Fin cfg0.N, win0_5.index t = ![t.val - 1, 0] := (by decide +kernel : ∀ t : Fin grid0.N, _)
theorem idx_gf : ∀ t : Fin cfg0.N, win0_6.index t = ![0, 0] := (by decide +kernel : ∀ t : Fin grid0.N, _)

/-- The taps. -/
theorem at_cw (c : Dev nD) (t : Fin cfg0.N) : iblk m c 3 t = (ins m c).cw := by
  funext y
  blk_simp [iblk, idx_cw t]
  unfold V
  dsimp only [List.flatten_cons, List.flatten_nil, List.append_nil, List.cons_append, List.nil_append]
  after_reads_at
  simp only [ins, mkIns]
  blk_ext [idx_cw t]

/-- The down projection. -/
theorem at_wd (c : Dev nD) (t : Fin cfg0.N) : iblk m c 4 t = (ins m c).wd := by
  funext y
  blk_simp [iblk, idx_wd t]
  unfold V
  dsimp only [List.flatten_cons, List.flatten_nil, List.append_nil, List.cons_append, List.nil_append]
  after_reads_at
  simp only [ins, mkIns]
  blk_ext [idx_wd t]

/-- The gain. -/
theorem at_g (c : Dev nD) (t : Fin cfg0.N) : iblk m c 1 t = (ins m c).g := by
  funext y
  blk_simp [iblk, idx_g t]
  unfold V
  dsimp only [List.flatten_cons, List.flatten_nil, List.append_nil, List.cons_append, List.nil_append]
  after_reads_at
  simp only [ins, mkIns]
  blk_ext [idx_g t]

/-- The last gain. -/
theorem at_gf (c : Dev nD) (t : Fin cfg0.N) : iblk m c 6 t = (ins m c).gf := by
  funext y
  blk_simp [iblk, idx_gf t]
  unfold V
  dsimp only [List.flatten_cons, List.flatten_nil, List.append_nil, List.cons_append, List.nil_append]
  after_reads_at
  simp only [ins, mkIns]
  blk_ext [idx_gf t]

/-- The up projection in four column blocks. -/
theorem at_w (c : Dev nD) (t : Fin cfg0.N) : iblk m c 2 t = (ins m c).w := by
  funext y
  blk_simp [iblk, idx_w t]
  unfold V
  dsimp only [List.flatten_cons, List.flatten_nil, List.append_nil, List.cons_append, List.nil_append]
  after_reads_at
  simp only [ins, mkIns]
  blk_ext [idx_w t]

/-- The place in time of a row of a tile. -/
theorem tile_time (T r : ℕ) (hr : r < 256) : (T * 256 + r) / 256 * 256 + (T * 256 + r) % 8 * 32 + (T * 256 + r) / 8 % 32 = 256 * T + rowTime r := by
  have h1 : (T * 256 + r) / 256 = T := by omega
  have h2 : (T * 256 + r) % 8 = r % 8 := by omega
  have h3 : (T * 256 + r) / 8 % 32 = r / 8 := by omega
  rw [h1, h2, h3]
  simp only [rowTime]; omega

theorem ins_tg (c : Dev nD) (a : ℕ) (h : a < 16384) (k : Fin 1024) :
    (ins m c).tg a k = m ((c : Thread nD τ).loc main_arg5) (ix2 ⟨a, h⟩ k) := dif_pos h

theorem ins_H (c : Dev nD) (a : ℕ) (h : 240 ≤ a ∧ a < 16640) (k : Fin 1024) :
    (ins m c).H a k = m ((c : Thread nD τ).loc main_arg0) (ix2 ⟨a - 240, by omega⟩ k) := dif_pos h

theorem ins_H_zero (c : Dev nD) (a : ℕ) (h : ¬ (240 ≤ a ∧ a < 16640)) (k : Fin 1024) : (ins m c).H a k = 0 := dif_neg h

/-- The targets, one tile behind the sequence. -/
theorem at_tg (c : Dev nD) (t : Fin cfg0.N) (h : t.val ≠ 0) (r : Fin 256) (k : Fin 1024) :
    iblk m c 5 t (ix2 r k) = (ins m c).tg (256 * (t.val - 1) + rowTime r.val) k := by
  have ht := lt65 t
  have hr := r.isLt
  have hb : 256 * (t.val - 1) + rowTime r.val < 16384 := by simp only [rowTime]; omega
  blk_simp [iblk, idx_tg t]
  unfold V
  dsimp only [List.flatten_cons, List.flatten_nil, List.append_nil, List.cons_append, List.nil_append]
  after_reads_at
  refine Eq.trans ?_ (ins_tg m c _ hb k).symm
  refine congrArg (m ((c : Thread nD τ).loc main_arg5)) (congrArg₂ ix2 (Fin.ext ?_) (Fin.ext ?_))
  · blk_simp [idx_tg t]
    exact tile_time _ _ hr
  · blk_simp [idx_tg t]

/-- The sequence behind its zero rows. -/
theorem at_x (c : Dev nD) (t : Fin cfg0.N) (r : Fin 256) (k : Fin 1024) :
    iblk m c 0 t (ix2 r k) = (ins m c).H (256 * t.val + rowTime r.val) k := by
  have ht := lt65 t
  have hr := r.isLt
  blk_simp [iblk, idx_x t]
  unfold V
  dsimp only [List.flatten_cons, List.flatten_nil, List.append_nil, List.cons_append, List.nil_append]
  after_reads_at
  blk_simp [idx_x t]
  have e := tile_time t.val r.val hr
  have hl : 256 * t.val + rowTime r.val < 16640 := by simp only [rowTime]; omega
  by_cases hb : 240 ≤ 256 * t.val + rowTime r.val
  · refine Eq.trans ((dif_pos ⟨e ▸ hb, by rw [e]; omega⟩).trans ?_) (ins_H m c _ ⟨hb, hl⟩ k).symm
    refine congrArg (m ((c : Thread nD τ).loc main_arg0)) (congrArg₂ ix2 (Fin.ext ?_) (Fin.ext ?_))
    · exact congrArg (· - 240) e
    · blk_simp [idx_x t]
  · refine Eq.trans ((dif_neg fun h => hb (e ▸ h.1)).trans ?_) (ins_H_zero m c _ (fun h => hb h.1) k).symm
    show (((0#32 : BitVec 32).toInt : ℝ) : EReal) = 0
    simp

/-- The blocks of every point. -/
theorem at_all (c : Dev nD) (t : Fin cfg0.N) : At m (ins m c) c t :=
  ⟨at_x m c t, at_g m c t, at_w m c t, at_cw m c t, at_wd m c t, at_tg m c t, at_gf m c t⟩

end Cert.Loss

end
-- ==== Proof.Loss.Arrays.lean ====
/- The output arrays after the last grid point: rows at their times, the two accumulated rows as sums over all tiles. -/
module

public import proofs.«01_k».proof.Proof.Loss.Entry

@[expose] public section

set_option maxRecDepth 16384

noncomputable section

open Idealize.ShloMosaic Idealize.ShloMosaic.TcCoe Idealize.SL.Sem

namespace Cert.Loss

open Cert.KernelIdeal Cert.KernelIdeal.Gen

/-- The time of a row of an array in tiles. -/
def arrTime (i : ℕ) : ℕ := 256 * (i / 256) + rowTime (i % 256)

theorem arrTime_tile (T r : ℕ) (h : r < 256) : arrTime (256 * T + r) = 256 * T + rowTime r := by
  unfold arrTime
  rw [show (256 * T + r) / 256 = T by omega, show (256 * T + r) % 256 = r by omega]

variable (m : (ℓ : Loc nD τ sig) → Buf (Elt Ideal) ℓ)

theorem left_at (c : Dev nD) (n : ℕ) (h : n < cfg0.N) : Left m (ins m c) n c h := left m (ins m c) c (at_all m c) n h

theorem idx_dh : ∀ t : Fin cfg0.N, win0_7.index t = ![t.val, 0] := (by decide +kernel : ∀ t : Fin grid0.N, _)
theorem idx_hu : ∀ t : Fin cfg0.N, win0_8.index t = ![t.val, 0] := (by decide +kernel : ∀ t : Fin grid0.N, _)
theorem idx_hc : ∀ t : Fin cfg0.N, win0_9.index t = ![t.val, 0] := (by decide +kernel : ∀ t : Fin grid0.N, _)
theorem idx_act : ∀ t : Fin cfg0.N, win0_10.index t = ![t.val, 0] := (by decide +kernel : ∀ t : Fin grid0.N, _)
theorem idx_sq : ∀ t : Fin cfg0.N, win0_11.index t = ![0, 0] := (by decide +kernel : ∀ t : Fin grid0.N, _)
theorem idx_dgf : ∀ t : Fin cfg0.N, win0_12.index t = ![0, 0] := (by decide +kernel : ∀ t : Fin grid0.N, _)

/-- A row of a tile among the rows of its array. -/
theorem row_time (T : ℕ) {n : ℕ} (y : (⟨2, ![256, n]⟩ : Shape).Idx) : 256 * T + rowTime (y 0).val = arrTime (T * 256 + (y 0).val) := by
  rw [Nat.mul_comm T, arrTime_tile _ _ (y 0).isLt]

theorem arr_dh (c : Dev nD) : (dats m 0 c).arrAt 7 cfg0.N = fun y : S16640x1024.Idx => (ins m c).dh (arrTime (y 0).val) (y 1) :=
  (dats m 0 c).arrAt_eq_of_covers 7 _ (by decide +kernel) fun t _ y => by
    blk_simp [idx_dh t]
    rw [after0_7, (left_at m c _ _).dh]
    refine congrArg₂ (ins m c).dh (row_time t.val y) (Fin.ext ?_)
    blk_simp [idx_dh t]

theorem arr_hu (c : Dev nD) : (dats m 0 c).arrAt 8 cfg0.N = fun y : S16640x5632.Idx => (ins m c).hu (arrTime (y 0).val) (y 1) :=
  (dats m 0 c).arrAt_eq_of_covers 8 _ (by decide +kernel) fun t _ y => by
    blk_simp [idx_hu t]
    rw [after0_8, (left_at m c _ _).hu]
    refine congrArg₂ (ins m c).hu (row_time t.val y) (Fin.ext ?_)
    blk_simp [idx_hu t]

theorem arr_hc (c : Dev nD) : (dats m 0 c).arrAt 9 cfg0.N = fun y : S16640x5632.Idx => (ins m c).hc (arrTime (y 0).val) (y 1) :=
  (dats m 0 c).arrAt_eq_of_covers 9 _ (by decide +kernel) fun t _ y => by
    blk_simp [idx_hc t]
    rw [after0_9, (left_at m c _ _).hc]
    refine congrArg₂ (ins m c).hc (row_time t.val y) (Fin.ext ?_)
    blk_simp [idx_hc t]

theorem arr_act (c : Dev nD) : (dats m 0 c).arrAt 10 cfg0.N = fun y : S16640x2816.Idx => (ins m c).act (arrTime (y 0).val) (y 1) :=
  (dats m 0 c).arrAt_eq_of_covers 10 _ (by decide +kernel) fun t _ y => by
    blk_simp [idx_act t]
    rw [after0_10, (left_at m c _ _).act]
    refine congrArg₂ (ins m c).act (row_time t.val y) (Fin.ext ?_)
    blk_simp [idx_act t]

theorem lt_last : 64 < cfg0.N := by decide

/-- The only point a row accumulated over all of them is written back at. -/
theorem last_point (t : Fin cfg0.N) (h : t.val % 65 = 64) : t = ⟨64, lt_last⟩ := Fin.ext (by have := lt65 t; dsimp only; omega)

theorem outs_last (c : Dev nD) (t : Fin cfg0.N) (h : t.val % 65 = 64) : outsAt0 m c t.val t.isLt = outsAt0 m c 64 lt_last := by
  rw [last_point t h]

theorem arr_sq_last (c : Dev nD) : (dats m 0 c).arrAt 11 cfg0.N = (outsAt0 m c 64 lt_last).2.2.2.2.1 :=
  (dats m 0 c).arrAt_eq_of_covers 11 _ (by decide +kernel) fun t hf y => by
    blk_simp [idx_sq t]
    rw [after0_11, outs_last m c t ((flush0_11 t).mp hf)]
    generalize (outsAt0 m c 64 lt_last).2.2.2.2.1 = G
    blk_ext [idx_sq t]

theorem arr_sq (c : Dev nD) (k : Fin 1024) : ((dats m 0 c).arrAt 11 cfg0.N : S8x1024.Idx → EReal) (ix2 0 k) = sqSum (ins m c) 65 k := by
  rw [arr_sq_last]
  exact (left_at m c 64 lt_last).sq k

theorem arr_dgf_last (c : Dev nD) : (dats m 0 c).arrAt 12 cfg0.N = (outsAt0 m c 64 lt_last).2.2.2.2.2.1 :=
  (dats m 0 c).arrAt_eq_of_covers 12 _ (by decide +kernel) fun t hf y => by
    blk_simp [idx_dgf t]
    rw [after0_12, outs_last m c t ((flush0_12 t).mp hf)]
    generalize (outsAt0 m c 64 lt_last).2.2.2.2.2.1 = G
    blk_ext [idx_dgf t]

theorem arr_dgf (c : Dev nD) (k : Fin 1024) : ((dats m 0 c).arrAt 12 cfg0.N : S8x1024.Idx → EReal) (ix2 0 k) = gainSum (ins m c) 65 k := by
  rw [arr_dgf_last]
  exact (left_at m c 64 lt_last).dgf k

end Cert.Loss

end
-- ==== Proof.Loss.Kernel.lean ====
/- The results of the program with the Pallas call: its outputs read back from tiles to rows in time. -/
module

public import proofs.«01_k».proof.Proof.Loss.Arrays
public import Idealize.ShloMosaic.Adequacy

@[expose] public section

set_option maxRecDepth 16384

noncomputable section

open Idealize.ShloMosaic Idealize.ShloMosaic.TcCoe Idealize.SL.Sem

namespace Cert.Loss

open Cert.KernelIdeal Cert.KernelIdeal.Gen

/-- Time `a` stands in row `a / 256 * 256 + a % 32 * 8 + a / 32 % 8` of the tiles. -/
theorem arrTime_row (a : ℕ) : arrTime (a / 256 * 256 + a % 32 * 8 + a / 32 % 8) = a := by
  have h1 : a / 256 * 256 + a % 32 * 8 + a / 32 % 8 = 256 * (a / 256) + (a % 32 * 8 + a / 32 % 8) := by omega
  rw [h1, arrTime_tile _ _ (by omega)]
  have h2 : (a % 32 * 8 + a / 32 % 8) % 8 = a / 32 % 8 := by omega
  have h3 : (a % 32 * 8 + a / 32 % 8) / 8 = a % 32 := by omega
  simp only [rowTime, h2, h3]
  omega

variable (m : (ℓ : Loc nD τ sig) → Buf (Elt Ideal) ℓ) (ρ : Dev nD → PrngReg)

/-- The buffers as the lines after the call find them. -/
abbrev held (c : Dev nD) : Valuation τ sig (Elt Ideal) :=
  Pipeline.withArrays (cfgs 0).spec c (V0 m c) fun w => (dats m 0 c).arrAt w (cfgs 0).N

theorem held_dh (c : Dev nD) : held m c (Proc.tc.devRef main_v13_0) = (dats m 0 c).arrAt 7 cfg0.N :=
  Pipeline.withArrays_arr spec0 (by decide) c (V0 m c) (fun w => (dats m 0 c).arrAt w (cfgs 0).N) 7

theorem held_hu (c : Dev nD) : held m c (Proc.tc.devRef main_v13_1) = (dats m 0 c).arrAt 8 cfg0.N :=
  Pipeline.withArrays_arr spec0 (by decide) c (V0 m c) (fun w => (dats m 0 c).arrAt w (cfgs 0).N) 8

theorem held_hc (c : Dev nD) : held m c (Proc.tc.devRef main_v13_2) = (dats m 0 c).arrAt 9 cfg0.N :=
  Pipeline.withArrays_arr spec0 (by decide) c (V0 m c) (fun w => (dats m 0 c).arrAt w (cfgs 0).N) 9

theorem held_act (c : Dev nD) : held m c (Proc.tc.devRef main_v13_3) = (dats m 0 c).arrAt 10 cfg0.N :=
  Pipeline.withArrays_arr spec0 (by decide) c (V0 m c) (fun w => (dats m 0 c).arrAt w (cfgs 0).N) 10

theorem held_sq (c : Dev nD) : held m c (Proc.tc.devRef main_v13_4) = (dats m 0 c).arrAt 11 cfg0.N :=
  Pipeline.withArrays_arr spec0 (by decide) c (V0 m c) (fun w => (dats m 0 c).arrAt w (cfgs 0).N) 11

theorem held_dgf (c : Dev nD) : held m c (Proc.tc.devRef main_v13_5) = (dats m 0 c).arrAt 12 cfg0.N :=
  Pipeline.withArrays_arr spec0 (by decide) c (V0 m c) (fun w => (dats m 0 c).arrAt w (cfgs 0).N) 12

theorem tail_dh (c : Dev nD) : Pipeline.afterTail₀ cfgs (dats m) 0 (V0 m) [hostOps1] c main_v17 =
    fun y : S16400x1024.Idx => (ins m c).dh (240 + (y 0).val) (y 1) := by
  funext y
  unfold Pipeline.afterTail₀
  dsimp only [List.flatten_cons, List.flatten_nil, List.append_nil, List.cons_append, List.nil_append]
  after_reads_at
  refine (congrFun ((held_dh m c).trans (arr_dh m c)) _).trans ?_
  exact congrArg (fun a => (ins m c).dh a (y 1)) (arrTime_row _)

theorem tail_hu (c : Dev nD) : Pipeline.afterTail₀ cfgs (dats m) 0 (V0 m) [hostOps1] c main_v28 =
    fun y : S16400x5632.Idx => (ins m c).hu (240 + (y 0).val) (y 1) := by
  funext y
  unfold Pipeline.afterTail₀
  dsimp only [List.flatten_cons, List.flatten_nil, List.append_nil, List.cons_append, List.nil_append]
  after_reads_at
  refine (congrFun ((held_hu m c).trans (arr_hu m c)) _).trans ?_
  exact congrArg (fun a => (ins m c).hu a (y 1)) (arrTime_row _)

theorem tail_hc (c : Dev nD) : Pipeline.afterTail₀ cfgs (dats m) 0 (V0 m) [hostOps1] c main_v33 =
    fun y : S16400x5632.Idx => (ins m c).hc (240 + (y 0).val) (y 1) := by
  funext y
  unfold Pipeline.afterTail₀
  dsimp only [List.flatten_cons, List.flatten_nil, List.append_nil, List.cons_append, List.nil_append]
  after_reads_at
  refine (congrFun ((held_hc m c).trans (arr_hc m c)) _).trans ?_
  exact congrArg (fun a => (ins m c).hc a (y 1)) (arrTime_row _)

theorem tail_act (c : Dev nD) : Pipeline.afterTail₀ cfgs (dats m) 0 (V0 m) [hostOps1] c main_v38 =
    fun y : S16400x2816.Idx => (ins m c).act (240 + (y 0).val) (y 1) := by
  funext y
  unfold Pipeline.afterTail₀
  dsimp only [List.flatten_cons, List.flatten_nil, List.append_nil, List.cons_append, List.nil_append]
  after_reads_at
  refine (congrFun ((held_act m c).trans (arr_act m c)) _).trans ?_
  exact congrArg (fun a => (ins m c).act a (y 1)) (arrTime_row _)

theorem tail_dgf (c : Dev nD) : Pipeline.afterTail₀ cfgs (dats m) 0 (V0 m) [hostOps1] c main_v19 =
    fun y : S1024.Idx => gainSum (ins m c) 65 (y 0) := by
  funext y
  unfold Pipeline.afterTail₀
  dsimp only [List.flatten_cons, List.flatten_nil, List.append_nil, List.cons_append, List.nil_append]
  after_reads_at
  exact (congrFun (held_dgf m c) _).trans (arr_dgf m c (y 0))

theorem tail_loss (c : Dev nD) : Pipeline.afterTail₀ cfgs (dats m) 0 (V0 m) [hostOps1] c main_v23 =
    fun _ : S_.Idx => (∑ k : Fin 1024, sqSum (ins m c) 65 k) * FloatOps.ofBits (F := Ideal) .f32 0x3A000000#32 := by
  funext y
  unfold Pipeline.afterTail₀
  dsimp only [List.flatten_cons, List.flatten_nil, List.append_nil, List.cons_append, List.nil_append]
  after_reads_at
  exact congrArg (· * Ideal.ofBits FTy.f32 973078528#32) (Finset.sum_congr rfl fun k _ => (congrFun (held_sq m c) _).trans (arr_sq m c k))

/-- The run: every result as a function of the arrays of the call. -/
theorem kernel_run : θ_run defs (onTc (τ := τ) (main (F := Ideal))) ⟨m, fun _ => 0, ρ⟩ (fun r => ∀ c : Dev nD,
      r.2.mem ((c.tc : Thread nD τ).loc main_v17) = (fun y : S16400x1024.Idx => (ins m c).dh (240 + (y 0).val) (y 1))
      ∧ r.2.mem ((c.tc : Thread nD τ).loc main_v19) = (fun y : S1024.Idx => gainSum (ins m c) 65 (y 0))
      ∧ r.2.mem ((c.tc : Thread nD τ).loc main_v23) = (fun _ : S_.Idx => (∑ k : Fin 1024, sqSum (ins m c) 65 k) * FloatOps.ofBits (F := Ideal) .f32 0x3A000000#32)
      ∧ r.2.mem ((c.tc : Thread nD τ).loc main_v28) = (fun y : S16400x5632.Idx => (ins m c).hu (240 + (y 0).val) (y 1))
      ∧ r.2.mem ((c.tc : Thread nD τ).loc main_v33) = (fun y : S16400x5632.Idx => (ins m c).hc (240 + (y 0).val) (y 1))
      ∧ r.2.mem ((c.tc : Thread nD τ).loc main_v38) = (fun y : S16400x2816.Idx => (ins m c).act (240 + (y 0).val) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  · exact tail_dh m c
  · exact tail_dgf m c
  · exact tail_loss m c
  · exact tail_hu m c
  · exact tail_hc m c
  · exact tail_act m c
  · exact W_main_arg0 m _ c
  · exact W_main_arg1 m _ c
  · exact W_main_arg2 m _ c
  · exact W_main_arg4 m _ c
  · exact W_main_arg5 m _ c
  · exact W_main_arg6 m _ c

end Cert.Loss

end
-- ==== Proof.Loss.Reals.lean ====
/- Facts about extended reals that are real: closure under the operations of the call, the logistic function by the hyperbolic
   tangent, and the gradient of a root-mean-square norm in the two ways it is written. -/
module

public import proofs.«01_k».proof.Proof.Loss.Spec
public import Idealize.ShloMosaic.Lib.IdealHost

@[expose] public section

noncomputable section

namespace Cert.Loss

open Idealize.ShloMosaic

theorem cD_eq : cD = ((1024 : ℝ) : EReal) := by
  simp [Ideal.ofBits, Ideal.ieee, -EReal.coe_mul]; norm_num

theorem cHalf_eq : cHalf = ((1 / 2 : ℝ) : EReal) := by
  simp [Ideal.ofBits, Ideal.ieee, -EReal.coe_mul]; norm_num

theorem cInvD_eq : cInvD = ((1 / 1024 : ℝ) : EReal) := by
  simp [Ideal.ofBits, Ideal.ieee, -EReal.coe_mul]; norm_num

theorem cEps_eq : ∃ e : ℝ, 0 < e ∧ cEps = (e : EReal) :=
  ⟨8796093 / 8796093022208, by norm_num, by simp [Ideal.ofBits, Ideal.ieee, -EReal.coe_mul]; norm_num⟩

/-- An extended real that is real. -/
def IsReal (x : EReal) : Prop := ∃ r : ℝ, x = (r : EReal)

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, rfl⟩

theorem sub {x y : EReal} (hx : IsReal x) (hy : IsReal y) : IsReal (x - y) := by
  obtain ⟨a, rfl⟩ := hx; obtain ⟨b, rfl⟩ := hy; exact ⟨a - b, rfl⟩

theorem mul {x y : EReal} (hx : IsReal x) (hy : IsReal y) : IsReal (x * y) := by
  obtain ⟨a, rfl⟩ := hx; obtain ⟨b, rfl⟩ := hy; exact ⟨a * b, rfl⟩

theorem tanh {x : EReal} (hx : IsReal x) : IsReal (Ideal.tanh x) := by
  obtain ⟨a, rfl⟩ := hx; exact ⟨Real.tanh a, rfl⟩

theorem sum {ι : Type} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih

/-- A family of real values is the image of a family of reals. -/
theorem family {ι : Type} {f : ι → EReal} (h : ∀ i, IsReal (f i)) : ∃ g : ι → ℝ, f = fun i => (g i : EReal) :=
  ⟨fun i => (h i).choose, funext fun i => (h i).choose_spec⟩

end IsReal

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih]; rfl

theorem div_cD (x : EReal) : Ideal.div x cD = x * ((1 / 1024 : ℝ) : EReal) := by
  rw [cD_eq, Ideal.div_coe (by norm_num)]

/-- The scale of a real row: a positive number under the root. -/
theorem rstd_real (y : Fin 1024 → ℝ) : ∃ v : ℝ, 0 < v ∧
    Ideal.div (∑ k, (y k : EReal) * (y k : EReal)) cD + cEps = (v : EReal) ∧ rstd (fun k => (y k : EReal)) = (((Real.sqrt v)⁻¹ : ℝ) : EReal) := by
  obtain ⟨e, he, hE⟩ := cEps_eq
  have hs : ∑ k, (y k : EReal) * (y k : EReal) = ((∑ k, y k * y k : ℝ) : EReal) := coe_sum _ fun k => y k * y k
  have hv : Ideal.div (∑ k, (y k : EReal) * (y k : EReal)) cD + cEps = (((∑ k, y k * y k) * (1 / 1024) + e : ℝ) : EReal) := by
    rw [hs, div_cD, hE]; rfl
  have hpos : 0 < (∑ k, y k * y k) * (1 / 1024) + e := by
    have : 0 ≤ ∑ k, y k * y k := Finset.sum_nonneg fun k _ => mul_self_nonneg _
    positivity
  refine ⟨_, hpos, hv, ?_⟩
  unfold rstd
  rw [hv, Ideal.rsqrt_coe, if_neg (not_lt.mpr hpos.le), if_neg hpos.ne']

theorem IsReal.rstd {y : Fin 1024 → EReal} (h : ∀ k, IsReal (y k)) : IsReal (rstd y) := by
  obtain ⟨g, rfl⟩ := IsReal.family h
  obtain ⟨v, -, -, hv⟩ := rstd_real g
  exact ⟨_, hv⟩

/-- The logistic function is one half and half the hyperbolic tangent of the half. -/
theorem logistic_tanh (a : EReal) : Ideal.div 1 (1 + Ideal.exp (-a)) = cHalf + cHalf * Ideal.tanh (cHalf * a) := by
  rw [cHalf_eq]
  induction a with
  | bot =>
    rw [EReal.coe_mul_bot_of_pos (by norm_num), EReal.neg_bot, Ideal.tanh_bot, Ideal.exp_top, EReal.add_top_of_ne_bot (by decide)]
    rw [show Ideal.div 1 ⊤ = 0 by unfold Ideal.div; rw [if_neg (by decide), EReal.inv_top, mul_zero]]
    rw [show (-1 : EReal) = ((-1 : ℝ) : EReal) by simp, ← EReal.coe_mul, ← EReal.coe_add]
    norm_num
  | top =>
    rw [EReal.coe_mul_top_of_pos (by norm_num), EReal.neg_top, Ideal.tanh_top, Ideal.exp_bot, add_zero, mul_one, ← EReal.coe_add,
      show Ideal.div 1 1 = 1 by rw [show (1 : EReal) = ((1 : ℝ) : EReal) by norm_cast, Ideal.div_coe (by norm_num), ← EReal.coe_mul]; norm_num]
    norm_num
  | coe r =>
    have hp : (1 + Real.exp (-r)) ≠ 0 := by positivity
    rw [← EReal.coe_neg, Ideal.exp_coe, ← EReal.coe_mul, Ideal.tanh_coe, show (1 : EReal) = ((1 : ℝ) : EReal) by norm_cast, ← EReal.coe_add,
      Ideal.div_coe hp, ← EReal.coe_mul, ← EReal.coe_mul, ← EReal.coe_add]
    refine congrArg _ ?_
    have h : Real.exp (-r) = Real.exp (-(1 / 2 * r)) * Real.exp (-(1 / 2 * r)) := by rw [← Real.exp_add]; congr 1; ring
    have h1 : Real.exp (1 / 2 * r) * Real.exp (-(1 / 2 * r)) = 1 := by rw [← Real.exp_add]; simp
    rw [Real.tanh_eq_sinh_div_cosh, Real.sinh_eq, Real.cosh_eq, h]
    have hp1 := Real.exp_pos (1 / 2 * r)
    have hp2 := Real.exp_pos (-(1 / 2 * r))
    generalize Real.exp (1 / 2 * r) = a at *
    generalize Real.exp (-(1 / 2 * r)) = b at *
    have hne : 1 + b * b ≠ 0 := by positivity
    have hne' : a + b ≠ 0 := by positivity
    field_simp
    nlinarith

/-- The gradient of a norm, by its kept scale and by the derivative of the scale. -/
theorem norm_grad {y g d : Fin 1024 → EReal} (hy : ∀ k, IsReal (y k)) (hg : ∀ k, IsReal (g k)) (hd : ∀ k, IsReal (d k)) (c : Fin 1024) :
    rstd y * (d c * g c - y c * rstd y * Ideal.div (∑ k, d k * g k * (y k * rstd y)) cD) =
      d c * g c * rstd y
        + y c * Ideal.div ((∑ k, y k * (d k * g k)) * (((-(1 / 2) : ℝ) : EReal) * Ideal.div (rstd y) (Ideal.div (∑ k, y k * y k) cD + cEps))) cD
        + Ideal.div ((∑ k, y k * (d k * g k)) * (((-(1 / 2) : ℝ) : EReal) * Ideal.div (rstd y) (Ideal.div (∑ k, y k * y k) cD + cEps))) cD * y c := by
  obtain ⟨y, rfl⟩ := IsReal.family hy
  obtain ⟨g, rfl⟩ := IsReal.family hg
  obtain ⟨d, rfl⟩ := IsReal.family hd
  obtain ⟨v, hpos, hv, hr⟩ := rstd_real y
  have hs : (Real.sqrt v)⁻¹ * (Real.sqrt v)⁻¹ = 1 / v := by
    rw [← mul_inv, Real.mul_self_sqrt hpos.le, one_div]
  rw [hr, hv, Ideal.div_coe hpos.ne', div_cD, div_cD]
  generalize (Real.sqrt v)⁻¹ = s at hs
  simp only [← EReal.coe_mul, ← EReal.coe_add, ← EReal.coe_sub, coe_sum]
  refine congrArg _ ?_
  have h1 : ∑ k, d k * g k * (y k * s) = (∑ k, y k * (d k * g k)) * s := by
    rw [Finset.sum_mul]; exact Finset.sum_congr rfl fun k _ => by ring
  rw [h1, ← hs]
  ring

end Cert.Loss

end
-- ==== Proof.Loss.Ref.lean ====
/- The forward half of the reference: its up projection, convolution, gate and residual stream are the kernel's functions of time. -/
module

public import proofs.«01_k».proof.Proof.Loss.Entry
public import proofs.«01_k».proof.Proof.Loss.Reals
public import proofs.«01_k».proof.Proof.Gen.ReferenceIdeal.Read

@[expose] public section

set_option maxRecDepth 16384

noncomputable section

namespace Cert.Loss

open Idealize.ShloMosaic Cert.ReferenceIdeal Cert.ReferenceIdeal.Gen Cert.ReferenceIdeal.Read

variable (x0 : S16400x1024.Idx → EReal) (x1 : S1024.Idx → EReal) (x2 : S1024x5632.Idx → EReal) (x3 : S3x5632.Idx → EReal)
  (x4 : S2816x1024.Idx → EReal) (x5 : S16384x1024.Idx → EReal) (x6 : S1024.Idx → EReal)

theorem H_at (i : Fin 16400) (k : Fin 1024) : (mkIns x0 x1 x2 x3 x4 x5 x6).H (240 + i.val) k = x0 (ix2 i k) :=
  (dif_pos (by omega)).trans (congrArg (fun j => x0 (ix2 j k)) (Fin.ext (by dsimp only; omega)))

theorem H_pad (a : ℕ) (h : a < 240) (k : Fin 1024) : (mkIns x0 x1 x2 x3 x4 x5 x6).H a k = 0 := dif_neg (by omega)

theorem w_at (k : Fin 1024) (c : Fin 5632) : (mkIns x0 x1 x2 x3 x4 x5 x6).w (ix3 ⟨c.val / 1408, by omega⟩ k ⟨c.val % 1408, by omega⟩) = x2 (ix2 k c) :=
  congrArg (fun j => x2 (ix2 k j)) (Fin.ext (by change 1408 * (c.val / 1408) + c.val % 1408 = c.val; omega))

theorem g_at (k : Fin 1024) : (mkIns x0 x1 x2 x3 x4 x5 x6).g (ix2 0 k) = x1 (ix1 k) := rfl

theorem gf_at (k : Fin 1024) : (mkIns x0 x1 x2 x3 x4 x5 x6).gf (ix2 0 k) = x6 (ix1 k) := rfl

theorem tg_at (j : Fin 16384) (k : Fin 1024) : (mkIns x0 x1 x2 x3 x4 x5 x6).tg j.val k = x5 (ix2 j k) := dif_pos j.isLt

theorem ref_hu (i : Fin 16400) (c : Fin 5632) :
    val_main_v13 (F := Ideal) x0 x1 x2 (ix2 i c) = (mkIns x0 x1 x2 x3 x4 x5 x6).hu (240 + i.val) c := by
  rw [Ins.hu]
  simp only [normed, rstd, H_at, w_at, g_at]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- Rows of zeros have a zero up projection. -/
theorem hu_pad (a : ℕ) (h : a < 240) (c : Fin 5632) : (mkIns x0 x1 x2 x3 x4 x5 x6).hu a c = 0 := by
  unfold Ins.hu
  refine Finset.sum_eq_zero fun k _ => ?_
  unfold normed
  rw [H_pad _ _ _ _ _ _ _ a h, zero_mul, zero_mul, zero_mul]

theorem ref_past (i n : ℕ) (hi : i < 16400) (hn : n < 3) (c : Fin 5632) (h2 : n + i - 2 < 16400) :
    (if _h : n + i < 2 then (0 : EReal) else val_main_v13 (F := Ideal) x0 x1 x2 (ix2 ⟨n + i - 2, h2⟩ c)) = (mkIns x0 x1 x2 x3 x4 x5 x6).past (240 + i + n) c := by
  unfold Ins.past
  rw [if_pos (by omega)]
  split
  · exact (hu_pad _ _ _ _ _ _ _ _ (by omega) c).symm
  · rw [ref_hu x0 x1 x2 x3 x4 x5 x6]
    exact congrArg (fun t => Ins.hu _ t c) (by dsimp only; omega)

theorem ref_hc (i : Fin 16400) (c : Fin 5632) :
    val_main_v35 (F := Ideal) x0 x1 x2 x3 (ix2 i c) = (mkIns x0 x1 x2 x3 x4 x5 x6).hc (240 + i.val) c := by
  have p0 := ref_past x0 x1 x2 x3 x4 x5 x6 i.val 0 i.isLt (by omega) c (by omega)
  have p1 := ref_past x0 x1 x2 x3 x4 x5 x6 i.val 1 i.isLt (by omega) c (by omega)
  have p2 : val_main_v13 (F := Ideal) x0 x1 x2 (ix2 i c) = (mkIns x0 x1 x2 x3 x4 x5 x6).past (240 + i.val + 2) c :=
    (ref_hu x0 x1 x2 x3 x4 x5 x6 i c).trans (if_pos (by omega)).symm
  simp only [Nat.zero_add] at p0
  unfold Ins.hc
  rw [← p1, ← p2, ← show _ = Ins.past _ (240 + i.val) c from p0, mul_comm _ (dite _ _ _), mul_comm _ (dite _ _ _), mul_comm _ (val_main_v13 _ _ _ _)]
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_2]
  rfl

theorem ref_act (i : Fin 16400) (c : Fin 2816) :
    val_main_v39 (F := Ideal) x0 x1 x2 x3 (ix2 i c) = (mkIns x0 x1 x2 x3 x4 x5 x6).act (240 + i.val) c := by
  unfold Ins.act gated
  rw [← ref_hc, ← ref_hc, ← logistic_tanh]
  pointwise [val_main_v39, val_main_v38, val_main_call0_v5, val_main_call0_v4, val_main_call0_v3, val_main_call0_v2, val_main_call0_v1, val_main_call0_v0, val_main_call0_cst, val_main_call0_cst_0, val_main_v37, val_main_v36]
  exact congrArg (fun j => _ * val_main_v35 (F := Ideal) x0 x1 x2 x3 (ix2 i j)) (Fin.ext (Nat.add_comm _ _))

theorem ref_y (i : Fin 16400) (c : Fin 1024) :
    val_main_v41 (F := Ideal) x0 x1 x2 x3 x4 (ix2 i c) = (mkIns x0 x1 x2 x3 x4 x5 x6).y (240 + i.val) c := by
  unfold Ins.y
  simp only [← ref_act, H_at]
  pointwise [val_main_v41, val_main_v40]
  rfl

theorem ref_xhat (i : Fin 16400) (c : Fin 1024) :
    val_main_v54 (F := Ideal) x0 x1 x2 x3 x4 (ix2 i c) = (mkIns x0 x1 x2 x3 x4 x5 x6).xhat (240 + i.val) c := by
  unfold Ins.xhat rstd
  simp only [← ref_y]
  pointwise [val_main_v54, val_main_v53, val_main_v49, val_main_v48, val_main_v47, val_main_v46, val_main_v45, val_main_v44, val_main_v43, val_main_v42, val_main_cst_3, val_main_cst_4, val_main_cst_5]

theorem ref_err (j : Fin 16384) (c : Fin 1024) :
    val_main_v59 (F := Ideal) x0 x1 x2 x3 x4 x5 x6 (ix2 j c) = (mkIns x0 x1 x2 x3 x4 x5 x6).err (256 + j.val) c := by
  unfold Ins.err
  rw [if_pos (by omega), Nat.add_sub_cancel_left, tg_at, gf_at, show 256 + j.val = 240 + (16 + j.val) by omega,
    ← show _ = Ins.xhat _ (240 + (16 + j.val)) c from ref_xhat x0 x1 x2 x3 x4 x5 x6 ⟨16 + j.val, by omega⟩ c]
  pointwise [val_main_v59, val_main_v58, val_main_v57, val_main_v56, val_main_v55]

theorem err_head (a : ℕ) (h : a < 256) (c : Fin 1024) : (mkIns x0 x1 x2 x3 x4 x5 x6).err a c = 0 := if_neg (by omega)

theorem weight_eq (e : EReal) : Ideal.div cHalf cD * (Ideal.ofBits FTy.f32 1073741824#32 * e) = e * cInvD := by
  have h2 : Ideal.ofBits FTy.f32 1073741824#32 = ((2 : ℝ) : EReal) := by
    simp [Ideal.ofBits, Ideal.ieee, -EReal.coe_mul]; norm_num
  rw [div_cD, cHalf_eq, h2, ← mul_assoc, ← EReal.coe_mul, ← EReal.coe_mul, cInvD_eq, mul_comm]
  norm_num

theorem ref_dout (i : Fin 16400) (c : Fin 1024) :
    val_main_v74 (F := Ideal) x0 x1 x2 x3 x4 x5 x6 (ix2 i c) = (mkIns x0 x1 x2 x3 x4 x5 x6).dout (240 + i.val) c := by
  unfold Ins.dout
  pointwise [val_main_v74, val_main_v73, val_main_v72, val_main_v71, val_main_v70, val_main_v69, val_main_v68, val_main_v62, val_main_v61, val_main_cst_7, val_main_cst_12, val_main_cst_13, val_main_cst_14, val_main_cst_15]
  split
  · rw [ref_err, weight_eq]
    exact congrArg (fun t => Ins.err _ t c * cInvD) (by dsimp only; omega)
  · rw [err_head _ _ _ _ _ _ _ _ (by omega), zero_mul]

theorem neg_half : Ideal.ofBits FTy.f32 0xBF000000#32 = ((-(1 / 2) : ℝ) : EReal) := by
  simp [Ideal.ofBits, Ideal.ieee, -EReal.coe_mul, -EReal.coe_neg]; norm_num

theorem ref_dh (hy : ∀ t k, IsReal ((mkIns x0 x1 x2 x3 x4 x5 x6).y t k)) (hg : ∀ k, IsReal (x6 (ix1 k)))
    (hd : ∀ t k, IsReal ((mkIns x0 x1 x2 x3 x4 x5 x6).dout t k)) (i : Fin 16400) (c : Fin 1024) :
    val_main_v94 (F := Ideal) x0 x1 x2 x3 x4 x5 x6 (ix2 i c) = (mkIns x0 x1 x2 x3 x4 x5 x6).dh (240 + i.val) c := by
  unfold Ins.dh Ins.xhat
  refine Eq.trans ?_ (norm_grad (g := fun k => (mkIns x0 x1 x2 x3 x4 x5 x6).gf (ix2 0 k)) (hy _) hg (hd _) c).symm
  rw [← neg_half]
  unfold rstd
  simp only [← ref_dout, ← ref_y, gf_at]
  pointwise [val_main_v94, val_main_v93, val_main_v92, val_main_v91, val_main_v90, val_main_v89, val_main_v88, val_main_v87, val_main_v86, val_main_v85, val_main_v84, val_main_v83, val_main_v82, val_main_v81, val_main_v79, val_main_v78, val_main_v55, val_main_v52, val_main_v51, val_main_v50, val_main_v49, val_main_v48, val_main_v47, val_main_v46, val_main_v45, val_main_v44, val_main_v43, val_main_v42, val_main_cst_3, val_main_cst_4, val_main_cst_5, val_main_cst_6, val_main_cst_18, val_main_cst_19, val_main_cst_20]
  simp only [Fin.sum_univ_one]

/-- A sum over the rows of the tiles is a sum over the times. -/
theorem sum_tiles (f : ℕ → EReal) (n : ℕ) : ∑ T ∈ Finset.range n, ∑ r : Fin 256, f (256 * T + rowTime r.val) = ∑ t ∈ Finset.range (256 * n), f t := by
  induction n with
  | zero => rfl
  | succ n ih =>
    rw [Finset.sum_range_succ, ih, Nat.mul_succ, Finset.sum_range_add]
    refine congrArg _ ?_
    rw [Finset.sum_range]
    refine Finset.sum_nbij' (fun r => ⟨rowTime r.val, by unfold rowTime; omega⟩) (fun r => ⟨8 * (r.val % 32) + r.val / 32, by omega⟩)
      (fun _ _ => Finset.mem_univ _) (fun _ _ => Finset.mem_univ _) (fun r _ => Fin.ext ?_) (fun r _ => Fin.ext ?_) (fun _ _ => rfl)
    · have := r.isLt
      simp only [rowTime]; omega
    · have := r.isLt
      simp only [rowTime]; omega

/-- A sum over the tiles of what vanishes in the padding is a sum over the sequence, also from a later start. -/
theorem sum_times (f : ℕ → EReal) (p n : ℕ) (hn : p + n = 16640) (h : ∀ t, t < p → f t = 0) :
    ∑ T ∈ Finset.range 65, ∑ r : Fin 256, f (256 * T + rowTime r.val) = ∑ i : Fin n, f (p + i.val) := by
  rw [sum_tiles, show 256 * 65 = p + n by omega, Finset.sum_range_add, Finset.sum_eq_zero (fun t ht => h t (Finset.mem_range.mp ht)), zero_add, Finset.sum_range]

theorem ref_dgf (c : Fin 1024) : val_main_v80 (F := Ideal) x0 x1 x2 x3 x4 x5 x6 (ix1 c) = gainSum (mkIns x0 x1 x2 x3 x4 x5 x6) 65 c := by
  unfold gainSum
  rw [sum_times (fun t => Ins.dout _ t c * Ins.xhat _ t c) 240 16400 rfl (fun t ht => by unfold Ins.dout; rw [err_head _ _ _ _ _ _ _ _ (by omega), zero_mul, zero_mul])]
  simp only [← ref_dout, ← ref_xhat, mul_comm (val_main_v74 _ _ _ _ _ _ _ _)]
  pointwise [val_main_v80, val_main_v77, val_main_v76, val_main_v75, val_main_cst_16, val_main_cst_17]
  exact Fin.sum_univ_one _

theorem ref_loss (he : ∀ t k, IsReal ((mkIns x0 x1 x2 x3 x4 x5 x6).err t k)) :
    val_main_v67 (F := Ideal) x0 x1 x2 x3 x4 x5 x6 ix0 = (∑ k : Fin 1024, sqSum (mkIns x0 x1 x2 x3 x4 x5 x6) 65 k) * Ideal.ofBits FTy.f32 0x3A000000#32 := by
  unfold sqSum
  simp only [fun k => sum_times (fun t => Ins.err (mkIns x0 x1 x2 x3 x4 x5 x6) t k * Ins.err (mkIns x0 x1 x2 x3 x4 x5 x6) t k) 256 16384 rfl
    (fun t ht => by rw [err_head _ _ _ _ _ _ _ _ ht, zero_mul])]
  have hc : Ideal.ofBits FTy.f32 0x3A000000#32 = ((1 / 2048 : ℝ) : EReal) := by
    simp [Ideal.ofBits, Ideal.ieee, -EReal.coe_mul]; norm_num
  rw [hc]
  obtain ⟨e, hE⟩ : ∃ e : ℕ → Fin 1024 → ℝ, ∀ t k, (mkIns x0 x1 x2 x3 x4 x5 x6).err t k = ((e t k : ℝ) : EReal) :=
    ⟨fun t k => (he t k).choose, fun t k => (he t k).choose_spec⟩
  pointwise [val_main_v67, val_main_v66, val_main_v65, val_main_v64, val_main_v63, val_main_v60, val_main_cst_8, val_main_cst_9, val_main_cst_10, val_main_cst_11]
  simp only [ref_err, hE, ← EReal.coe_mul, coe_sum, div_cD]
  rw [show Ideal.ofBits FTy.f32 1056964608#32 = _ from cHalf_eq, ← EReal.coe_mul, Finset.sum_comm, ← Finset.sum_mul]
  refine congrArg _ ?_
  ring

end Cert.Loss

end
-- ==== Proof.Loss.Finite.lean ====
/- With real arguments every intermediate value of the call is real. -/
module

public import proofs.«01_k».proof.Proof.Loss.Reals
public import proofs.«01_k».proof.Proof.Loss.Entry
public import proofs.«01_k».proof.Defs
public import proofs.«01_k».proof.Pre_finite

@[expose] public section

set_option maxRecDepth 16384

noncomputable section

namespace Cert.Loss

open Idealize.ShloMosaic

/-- The array is real everywhere. -/
abbrev AllReal {s : Shape} (x : s.Idx → EReal) : Prop := ∀ i, IsReal (x i)

section
open Cert.KernelIdeal

variable {x0 : S16400x1024.Idx → EReal} {x1 : S1024.Idx → EReal} {x2 : S1024x5632.Idx → EReal} {x3 : S3x5632.Idx → EReal}
  {x4 : S2816x1024.Idx → EReal} {x5 : S16384x1024.Idx → EReal} {x6 : S1024.Idx → EReal}
  (h0 : AllReal x0) (h1 : AllReal x1) (h2 : AllReal x2) (h3 : AllReal x3) (h4 : AllReal x4) (h5 : AllReal x5) (h6 : AllReal x6)

include h0 in
theorem real_H (a : ℕ) (k : Fin 1024) : IsReal ((mkIns x0 x1 x2 x3 x4 x5 x6).H a k) :=
  (em (240 ≤ a ∧ a < 16640)).elim (fun h => (h0 _).imp fun _ e => (dif_pos h).trans e) fun h => ⟨0, dif_neg h⟩

include h5 in
theorem real_tg (a : ℕ) (k : Fin 1024) : IsReal ((mkIns x0 x1 x2 x3 x4 x5 x6).tg a k) :=
  (em (a < 16384)).elim (fun h => (h5 _).imp fun _ e => (dif_pos h).trans e) fun h => ⟨0, dif_neg h⟩

include h0 h1 h2 in
theorem real_hu (a : ℕ) (c : Fin 5632) : IsReal ((mkIns x0 x1 x2 x3 x4 x5 x6).hu a c) :=
  IsReal.sum _ fun k => (((real_H h0 a k).mul (IsReal.rstd (real_H h0 a))).mul (h1 _)).mul (h2 _)

include h0 h1 h2 in
theorem real_past (a : ℕ) (c : Fin 5632) : IsReal ((mkIns x0 x1 x2 x3 x4 x5 x6).past a c) := by
  unfold Ins.past
  split
  · exact real_hu h0 h1 h2 _ c
  · exact IsReal.zero

include h0 h1 h2 h3 in
theorem real_hc (a : ℕ) (c : Fin 5632) : IsReal ((mkIns x0 x1 x2 x3 x4 x5 x6).hc a c) :=
  (((h3 _).mul (real_past h0 h1 h2 a c)).add ((h3 _).mul (real_past h0 h1 h2 _ c))).add ((h3 _).mul (real_past h0 h1 h2 _ c))

include h0 h1 h2 h3 in
theorem real_act (a : ℕ) (c : Fin 2816) : IsReal ((mkIns x0 x1 x2 x3 x4 x5 x6).act a c) := by
  have hh : IsReal cHalf := ⟨_, cHalf_eq⟩
  have ha := fun c => real_hc (x4 := x4) (x5 := x5) (x6 := x6) h0 h1 h2 h3 a c
  exact ((ha _).mul (hh.add (hh.mul (hh.mul (ha _)).tanh))).mul (ha _)

include h0 h1 h2 h3 h4 in
theorem real_y (a : ℕ) (c : Fin 1024) : IsReal ((mkIns x0 x1 x2 x3 x4 x5 x6).y a c) :=
  (real_H h0 a c).add (IsReal.sum _ fun j => (real_act h0 h1 h2 h3 a j).mul (h4 _))

include h0 h1 h2 h3 h4 h5 h6 in
theorem real_err (a : ℕ) (c : Fin 1024) : IsReal ((mkIns x0 x1 x2 x3 x4 x5 x6).err a c) := by
  unfold Ins.err
  split
  · exact ((((real_y h0 h1 h2 h3 h4 a c).mul (IsReal.rstd (real_y h0 h1 h2 h3 h4 a))).mul (h6 _))).sub (real_tg h5 _ c)
  · exact IsReal.zero

include h0 h1 h2 h3 h4 h5 h6 in
theorem real_dout (a : ℕ) (c : Fin 1024) : IsReal ((mkIns x0 x1 x2 x3 x4 x5 x6).dout a c) :=
  (real_err h0 h1 h2 h3 h4 h5 h6 a c).mul ⟨_, cInvD_eq⟩

end

/-- What compares below infinity in absolute value is real. -/
theorem real_of_olt (x : EReal) (h : Ideal.cmp .olt (max x (-x)) (Ideal.ofBits FTy.f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem real_of_pre {s : Shape} (x : FVec Ideal s .f32) (hb) (h : cmpf .olt (Host.absf x) (broadcastInDim s ![] hb (constant (F := Ideal) ⟨0, ![]⟩ .f32 0x7F800000#32)) = fun _ => 1#1) :
    AllReal (s := s) x := fun i => real_of_olt _ (congrFun h i)

open Cert.Pre_finite in
theorem pre_facts : Cert.Pre_finite.Facts where
  bcast_S_S16400x1024 := by decide
  bcast_S_S1024 := by decide
  bcast_S_S1024x5632 := by decide
  bcast_S_S3x5632 := by decide
  bcast_S_S2816x1024 := by decide
  bcast_S_S16384x1024 := by decide

end Cert.Loss

end
-- ==== Proof.Loss.Same.lean ====
/- The reference's run, its six results stated as the kernel's functions of time. -/
module

public import proofs.«01_k».proof.Proof.Loss.Ref
public import proofs.«01_k».proof.Proof.Loss.Finite
public import proofs.«01_k».proof.Proof.Gen.ReferenceIdeal.Run

@[expose] public section

set_option maxRecDepth 16384

noncomputable section

namespace Cert.Loss

open Idealize.ShloMosaic Idealize.SL.Sem Cert.ReferenceIdeal Cert.ReferenceIdeal.Gen Cert.ReferenceIdeal.Read

/-- The kernel's arrays, read from the reference's arguments. -/
def refIns (m : (ℓ : Loc nD τ sig) → Buf (Elt Ideal) ℓ) (c : Dev nD) : Ins :=
  mkIns (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- From real arguments the reference's results are the kernel's functions of time. -/
theorem reference_run (m : (ℓ : Loc nD τ sig) → Buf (Elt Ideal) ℓ) (ρ : Dev nD → PrngReg)
    (h0 : ∀ c : Dev nD, AllReal (s := S16400x1024) (m ((c.tc : Thread nD τ).loc main_arg0)))
    (h1 : ∀ c : Dev nD, AllReal (s := S1024) (m ((c.tc : Thread nD τ).loc main_arg1)))
    (h2 : ∀ c : Dev nD, AllReal (s := S1024x5632) (m ((c.tc : Thread nD τ).loc main_arg2)))
    (h3 : ∀ c : Dev nD, AllReal (s := S3x5632) (m ((c.tc : Thread nD τ).loc main_arg3)))
    (h4 : ∀ c : Dev nD, AllReal (s := S2816x1024) (m ((c.tc : Thread nD τ).loc main_arg4)))
    (h5 : ∀ c : Dev nD, AllReal (s := S16384x1024) (m ((c.tc : Thread nD τ).loc main_arg5)))
    (h6 : ∀ c : Dev nD, AllReal (s := S1024) (m ((c.tc : Thread nD τ).loc main_arg6))) :
    θ_run defs (onTc (τ := τ) (main (F := Ideal))) ⟨m, fun _ => 0, ρ⟩ (fun r => ∀ c : Dev nD,
      r.2.mem ((c.tc : Thread nD τ).loc main_v94) = (fun y : S16400x1024.Idx => (refIns m c).dh (240 + (y 0).val) (y 1))
      ∧ r.2.mem ((c.tc : Thread nD τ).loc main_v80) = (fun y : S1024.Idx => gainSum (refIns m c) 65 (y 0))
      ∧ r.2.mem ((c.tc : Thread nD τ).loc main_v67) = (fun _ : S_.Idx => (∑ k : Fin 1024, sqSum (refIns m c) 65 k) * FloatOps.ofBits (F := Ideal) .f32 0x3A000000#32)
      ∧ r.2.mem ((c.tc : Thread nD τ).loc main_v13) = (fun y : S16400x5632.Idx => (refIns m c).hu (240 + (y 0).val) (y 1))
      ∧ r.2.mem ((c.tc : Thread nD τ).loc main_v35) = (fun y : S16400x5632.Idx => (refIns m c).hc (240 + (y 0).val) (y 1))
      ∧ r.2.mem ((c.tc : Thread nD τ).loc main_v39) = (fun y : S16400x2816.Idx => (refIns m c).act (240 + (y 0).val) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.ReferenceIdeal.Value.run m ρ)
  obtain ⟨a0, a1, a2, a3, a4, a5, rest⟩ := h c
  refine ⟨(a0.trans (val_main_v94_eq _)).trans (funext fun y => ?_), (a1.trans (val_main_v80_eq _)).trans (funext fun y => ?_),
    (a2.trans (val_main_v67_eq _)).trans (funext fun y => ?_), (a3.trans (val_main_v13_eq _)).trans (funext fun y => ?_),
    (a4.trans (val_main_v35_eq _)).trans (funext fun y => ?_), (a5.trans (val_main_v39_eq _)).trans (funext fun y => ?_), rest⟩
  · exact (congrArg _ (eq_ix2 y)).trans (ref_dh _ _ _ _ _ _ _ (fun t k => real_y (h0 c) (h1 c) (h2 c) (h3 c) (h4 c) t k) (fun k => h6 c _)
      (fun t k => real_dout (h0 c) (h1 c) (h2 c) (h3 c) (h4 c) (h5 c) (h6 c) t k) (y 0) (y 1))
  · exact (congrArg _ (eq_ix1 y)).trans (ref_dgf _ _ _ _ _ _ _ (y 0))
  · exact (congrArg _ (funext fun a => a.elim0 : y = ix0)).trans (ref_loss _ _ _ _ _ _ _ (fun t k => real_err (h0 c) (h1 c) (h2 c) (h3 c) (h4 c) (h5 c) (h6 c) t k))
  · exact (congrArg _ (eq_ix2 y)).trans (ref_hu _ _ _ _ _ _ _ (y 0) (y 1))
  · exact (congrArg _ (eq_ix2 y)).trans (ref_hc _ _ _ _ _ _ _ (y 0) (y 1))
  · exact (congrArg _ (eq_ix2 y)).trans (ref_act _ _ _ _ _ _ _ (y 0) (y 1))

end Cert.Loss

end
-- ==== Proof.Mlp.Step.lean ====
/- What the gradient of an MLP leaves at every grid point: the blocks it writes and the rows of the convolution's gradient it hands to
   the tile before. The points run from the last tile to the first. -/
module

public import proofs.«01_k».proof.Proof.Gen.Kernel2Ideal.Frame.RunA
public import proofs.«01_k».proof.Proof.Gen.Kernel2Ideal.Frame.RunB

@[expose] public section

set_option maxRecDepth 16384

noncomputable section

open Idealize.ShloMosaic Idealize.ShloMosaic.TcCoe Idealize.ShloMosaic.Tactic Idealize.SL.Sem

namespace Cert.Mlp

open Cert.Kernel2Ideal Cert.Kernel2Ideal.Gen

variable {F : FTy → Type} [FloatOps F] (m : (ℓ : Loc nD τ sig) → Buf (Elt F) ℓ)

/-- What a point leaves: the gradient of the residual stream, of the up projection, the normed rows, the gradients of the taps and of the
    gain added up so far, and the first rows of the convolution's gradient. -/
structure St (F : FTy → Type) where
  dh : Vec F S256x1024 .f32
  dhu : Vec F S256x5632 .bf16
  hn : Vec F S256x1024 .bf16
  dcw : Vec F S8x5632 .f32
  dg : Vec F S8x1024 .f32
  head : Vec F S16x5632 .f32

/-- The body at the first point, on that point's blocks. -/
abbrev runFirst (c : Dev nD) (t : Fin cfg0.N) (h : t.val % 65 = 0) :=
  kernelRun0_A (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) scM0_0 (Memref.isWhole_whole _) scM0_1 (Memref.isWhole_whole _) scM0_2 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t)

/-- The body at a later point, over what the point before left. -/
abbrev runNext (c : Dev nD) (t : Fin cfg0.N) (h : ¬t.val % 65 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) scM0_0 (Memref.isWhole_whole _) scM0_1 (Memref.isWhole_whole _) scM0_2 (Memref.isWhole_whole _)
    (fun h' => h ((hcond0_0 t).mp h')) (iblk m c 0 t) (iblk m c 1 t) (iblk m c 2 t) (iblk m c 3 t) (iblk m c 4 t) (iblk m c 5 t) (iblk m c 6 t) (iblk m c 7 t)
    (iblk m c 8 t) p.dcw p.dg p.head

/-- What the first point leaves. -/
def first (c : Dev nD) (t : Fin cfg0.N) (h : t.val % 65 = 0) : St F where
  dh := VO0_9.read (Elt F) (VO0_9.writes (Elt F) VO0_9.junk (runFirst m c t h).1)
  dhu := VO0_10.read (Elt F) (VO0_10.writes (Elt F) VO0_10.junk (runFirst m c t h).2.1)
  hn := VO0_11.read (Elt F) (VO0_11.writes (Elt F) VO0_11.junk (runFirst m c t h).2.2.1)
  dcw := VO0_12.read (Elt F) (VO0_12.writes (Elt F) VO0_12.junk (runFirst m c t h).2.2.2.1)
  dg := VO0_13.read (Elt F) (VO0_13.writes (Elt F) VO0_13.junk (runFirst m c t h).2.2.2.2.1)
  head := VS0_2.read (Elt F) (VS0_2.writes (Elt F) VS0_2.junk (runFirst m c t h).2.2.2.2.2.1)

/-- What a later point leaves: the two accumulated blocks are written over what they held. -/
def next (c : Dev nD) (t : Fin cfg0.N) (h : ¬t.val % 65 = 0) (p : St F) : St F where
  dh := VO0_9.read (Elt F) (VO0_9.writes (Elt F) VO0_9.junk (runNext m c t h p).1)
  dhu := VO0_10.read (Elt F) (VO0_10.writes (Elt F) VO0_10.junk (runNext m c t h p).2.1)
  hn := VO0_11.read (Elt F) (VO0_11.writes (Elt F) VO0_11.junk (runNext m c t h p).2.2.1)
  dcw := (ms0_12 t).view.read (Elt F) ((ms0_12 t).view.writes (Elt F) ((hs0_12 t).unread p.dcw) (runNext m c t h p).2.2.2.1)
  dg := (ms0_13 t).view.read (Elt F) ((ms0_13 t).view.writes (Elt F) ((hs0_13 t).unread p.dg) (runNext m c t h p).2.2.2.2.1)
  head := VS0_2.read (Elt F) (VS0_2.writes (Elt F) VS0_2.junk (runNext m c t h p).2.2.2.2.2.1)

theorem later (n : ℕ) (h : n + 1 < cfg0.N) : ¬(n + 1) % 65 = 0 := by
  have hN : cfg0.N = 65 := N_0
  omega

/-- What every point leaves, one after another. -/
def outs (c : Dev nD) : ℕ → St F
  | 0 => first m c ⟨0, by have hN : cfg0.N = 65 := N_0; omega⟩ rfl
  | n + 1 => if h : n + 1 < cfg0.N then next m c ⟨n + 1, h⟩ (later n h) (outs c n) else outs c n

section
variable (c : Dev nD) (t : Fin cfg0.N)

/-! The stores of a point cover each block that is not accumulated, and at the first point all of them. -/

theorem cover_dh_first (h : t.val % 65 = 0) (y) : ∃ q ∈ (runFirst m c t h).1, y ∈ q.1.set := View.cover_of_tiledL _ S256x1024.size (by sl_kernel_rfl) y
theorem cover_dhu_first (h : t.val % 65 = 0) (y) : ∃ q ∈ (runFirst m c t h).2.1, y ∈ q.1.set := View.cover_of_tiledL (runFirst m c t h).2.1 S256x1408.size (by sl_kernel_rfl) y
theorem cover_hn_first (h : t.val % 65 = 0) (y) : ∃ q ∈ (runFirst m c t h).2.2.1, y ∈ q.1.set := View.cover_of_tiledL _ S256x1024.size (by sl_kernel_rfl) y
theorem cover_dcw_first (h : t.val % 65 = 0) (y) : ∃ q ∈ (runFirst m c t h).2.2.2.1, y ∈ q.1.set :=
  View.cover_of_tiledBy _ ![1, 1408] (by sl_kernel_rfl) y
theorem cover_dg_first (h : t.val % 65 = 0) (y) : ∃ q ∈ (runFirst m c t h).2.2.2.2.1, y ∈ q.1.set :=
  View.cover_of_tiledBy _ ![1, 1024] (by sl_kernel_rfl) y
theorem cover_head_first (h : t.val % 65 = 0) (y) : ∃ q ∈ (runFirst m c t h).2.2.2.2.2.1, y ∈ q.1.set := View.cover_of_wholeMem _ (by sl_whole_mem) y

theorem cover_dh_next (h : ¬t.val % 65 = 0) (p : St F) (y) : ∃ q ∈ (runNext m c t h p).1, y ∈ q.1.set := View.cover_of_tiledL _ S256x1024.size (by sl_kernel_rfl) y
theorem cover_dhu_next (h : ¬t.val % 65 = 0) (p : St F) (y) : ∃ q ∈ (runNext m c t h p).2.1, y ∈ q.1.set := View.cover_of_tiledL (runNext m c t h p).2.1 S256x1408.size (by sl_kernel_rfl) y
theorem cover_hn_next (h : ¬t.val % 65 = 0) (p : St F) (y) : ∃ q ∈ (runNext m c t h p).2.2.1, y ∈ q.1.set := View.cover_of_tiledL _ S256x1024.size (by sl_kernel_rfl) y
theorem cover_head_next (h : ¬t.val % 65 = 0) (p : St F) (y) : ∃ q ∈ (runNext m c t h p).2.2.2.2.2.1, y ∈ q.1.set :=
  View.cover_of_tiledL (runNext m c t h p).2.2.2.2.2.1 S16x1408.size (by sl_kernel_rfl) y

end

attribute [irreducible] first next

theorem outs_first (c : Dev nD) (t : Fin cfg0.N) (h : t.val % 65 = 0) : outs m c t.val = first m c t h := by
  obtain ⟨n, hn⟩ := t
  have h0 : n = 0 := by
    have hN : cfg0.N = 65 := N_0
    dsimp only at h
    omega
  subst h0
  rfl

theorem outs_next (c : Dev nD) (t : Fin cfg0.N) (h : ¬t.val % 65 = 0) : outs m c t.val = next m c t h (outs m c (t.val - 1)) := by
  obtain ⟨n, hn⟩ := t
  cases n with
  | zero => exact absurd rfl h
  | succ n => exact dif_pos hn

end Cert.Mlp

end
-- ==== Proof.Mlp.Run.lean ====
/- The run of the kernel that computes an MLP's gradient: every grid point leaves what `outs` says, so the whole run ends with every array
   of the call at the blocks written there and every other buffer as the host lines leave it. -/
module

public import proofs.«01_k».proof.Proof.Mlp.Step
public import Idealize.ShloMosaic.Lib.Claim

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before a point: at the start the scratch buffers hold anything, afterwards the carried one holds what the point before left. -/
def Inv (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d)
      ∗ owns (c : Thread nD τ) scM0_2 fullShare (outs m c n).head) ∗ (∃ r, prngReg c r))

theorem Inv_pos (c : Dev nD) (n : ℕ) (h : n ≠ 0) :
    Inv m c n = iprop(iprop((∃ d, owns (c : Thread nD τ) scM0_0 fullShare d) ∗ (∃ d, owns (c : Thread nD τ) scM0_1 fullShare d)
      ∗ owns (c : Thread nD τ) scM0_2 fullShare (outs m c (n - 1)).head) ∗ (∃ r, prngReg c r)) := by
  obtain ⟨k, rfl⟩ := Nat.exists_eq_succ_of_ne_zero h
  rfl

/-- The contents of every window after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val).dh
    | ⟨10, _⟩ => (outs m c t.val).dhu
    | ⟨11, _⟩ => (outs m c t.val).hn
    | ⟨12, _⟩ => (outs m c t.val).dcw
    | ⟨13, _⟩ => (outs m c t.val).dg
  Φ t := Inv m c t.val
  q w := Pipeline.shareOf spec0 w
  owed _ := 0

theorem A_eq (c : Dev nD) (w : Fin cfg0.W) : (dats m 0 c).A w = V m c (Pipeline.arrRef spec0 w) := by dsimp only [dats]

section
variable (c : Dev nD) (t : Fin cfg0.N)

theorem after_dh : (dats m 0 c).after 9 t = (outs m c t.val).dh := by dsimp only [dats]
theorem after_dhu : (dats m 0 c).after 10 t = (outs m c t.val).dhu := by dsimp only [dats]
theorem after_hn : (dats m 0 c).after 11 t = (outs m c t.val).hn := by dsimp only [dats]
theorem after_dcw : (dats m 0 c).after 12 t = (outs m c t.val).dcw := by dsimp only [dats]
theorem after_dg : (dats m 0 c).after 13 t = (outs m c t.val).dg := by dsimp only [dats]

/-! Each input's buffer holds the block of its array before every point. -/

theorem in0 (d) : (dats m 0 c).before 0 t d = iblk m c 0 t := before0_0_of m _ (A_eq m c 0) (fun _ => by dsimp only [dats]) t d
theorem in1 (d) : (dats m 0 c).before 1 t d = iblk m c 1 t := before0_1_of m _ (A_eq m c 1) (fun _ => by dsimp only [dats]) t d
theorem in2 (d) : (dats m 0 c).before 2 t d = iblk m c 2 t := before0_2_of m _ (A_eq m c 2) (fun _ => by dsimp only [dats]) t d
theorem in3 (d) : (dats m 0 c).before 3 t d = iblk m c 3 t := before0_3_of m _ (A_eq m c 3) (fun _ => by dsimp only [dats]) t d
theorem in4 (d) : (dats m 0 c).before 4 t d = iblk m c 4 t := before0_4_of m _ (A_eq m c 4) (fun _ => by dsimp only [dats]) t d
theorem in5 (d) : (dats m 0 c).before 5 t d = iblk m c 5 t := before0_5_of m _ (A_eq m c 5) (fun _ => by dsimp only [dats]) t d
theorem in6 (d) : (dats m 0 c).before 6 t d = iblk m c 6 t := before0_6_of m _ (A_eq m c 6) (fun _ => by dsimp only [dats]) t d
theorem in7 (d) : (dats m 0 c).before 7 t d = iblk m c 7 t := before0_7_of m _ (A_eq m c 7) (fun _ => by dsimp only [dats]) t d
theorem in8 (d) : (dats m 0 c).before 8 t d = iblk m c 8 t := before0_8_of m _ (A_eq m c 8) (fun _ => by dsimp only [dats]) t d

/-- An accumulated block holds at a later point what the point before left. -/
theorem kept_dcw (h : ¬t.val % 65 = 0) (d) : (dats m 0 c).before 12 t d = (outs m c (t.val - 1)).dcw := by
  have hN : t.val < 65 := lt_of_lt_of_eq t.isLt N_0
  rw [Dat.before_out_kept _ 12 rfl t (by omega) (Bool.eq_false_iff.mpr fun h' => by have := (flush0_12 _).mp h'; dsimp only at this; omega)
    (fun _ => rfl) (fun _ _ => rfl)]
  dsimp only [dats]

theorem kept_dg (h : ¬t.val % 65 = 0) (d) : (dats m 0 c).before 13 t d = (outs m c (t.val - 1)).dg := by
  have hN : t.val < 65 := lt_of_lt_of_eq t.isLt N_0
  rw [Dat.before_out_kept _ 13 rfl t (by omega) (Bool.eq_false_iff.mpr fun h' => by have := (flush0_13 _).mp h'; dsimp only at this; omega)
    (fun _ => rfl) (fun _ _ => rfl)]
  dsimp only [dats]

/-- A buffer found at `f` is owned at what it reads as. -/
theorem owned {sp : Space} {s : Shape} {e : EltTy} (v : Memref sig .tc sp s e) (f : v.view.ty.Contents (Elt F)) (X : s.Idx → Elt F e)
    (h : v.view.read (Elt F) f = X) :
    (v.view.loc (c : Thread nD τ) ↦[v.view.set]{fullShare} f : sProp 𝕄) ⊢ owns (c : Thread nD τ) v fullShare X :=
  h ▸ owns_intro (c : Thread nD τ) v fullShare f

/-- The windows of a point that hold the blocks it reads. -/
def Reads : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ owns (c : Thread nD τ) (ms0_5 t) fullShare (iblk m c 5 t)
    ∗ owns (c : Thread nD τ) (ms0_6 t) fullShare (iblk m c 6 t) ∗ owns (c : Thread nD τ) (ms0_7 t) fullShare (iblk m c 7 t)
    ∗ owns (c : Thread nD τ) (ms0_8 t) fullShare (iblk m c 8 t))

/-- The windows of a point at what the point leaves. -/
def Writes (p : St F) : sProp 𝕄 :=
  iprop(owns (c : Thread nD τ) (ms0_9 t) fullShare p.dh ∗ owns (c : Thread nD τ) (ms0_10 t) fullShare p.dhu ∗ owns (c : Thread nD τ) (ms0_11 t) fullShare p.hn
    ∗ owns (c : Thread nD τ) (ms0_12 t) fullShare p.dcw ∗ owns (c : Thread nD τ) (ms0_13 t) fullShare p.dg)

/-- The scratch buffers, the carried one at `X`. -/
def Scratch (X : Vec F S16x5632 .f32) : sProp 𝕄 :=
  iprop((∃ d, owns (c : Thread nD τ) scM0_0 fullShare d) ∗ (∃ d, owns (c : Thread nD τ) scM0_1 fullShare d) ∗ owns (c : Thread nD τ) scM0_2 fullShare X)

set_option maxHeartbeats 4000000 in
/-- The body at the first point. -/
theorem body_first (h : t.val % 65 = 0) (K : PUnit → sProp 𝕄) :
    iprop(Reads m c t ∗ ((∃ d, owns (c : Thread nD τ) (ms0_9 t) fullShare d) ∗ (∃ d, owns (c : Thread nD τ) (ms0_10 t) fullShare d)
        ∗ (∃ d, owns (c : Thread nD τ) (ms0_11 t) fullShare d) ∗ (∃ d, owns (c : Thread nD τ) (ms0_12 t) fullShare d) ∗ (∃ d, owns (c : Thread nD τ) (ms0_13 t) fullShare d))
      ∗ ((∃ d, owns (c : Thread nD τ) scM0_0 fullShare d) ∗ (∃ d, owns (c : Thread nD τ) scM0_1 fullShare d) ∗ (∃ d, owns (c : Thread nD τ) scM0_2 fullShare d))
      ∗ (iprop(Reads m c t ∗ Writes c t (first m c t h) ∗ Scratch c (first m c t h).head) -∗ K ⟨⟩))
    ⊢ wp frame (wpE (defs₀ (F := F)) Variants.none c none) Set.univ (bodyAt0 t) K := by
  unfold Reads bodyAt0
  iintro ⟨⟨H0, H1, H2, H3, H4, H5, H6, H7, H8⟩, ⟨H9, H10, H11, H12, H13⟩, ⟨S0, S1, S2⟩, Hk⟩
  iapply ((runFirst m c t h).2.2.2.2.2.2.2.2 Set.univ _)
  iframe H0 H1 H2 H3 H4 H5 H6 H7 H8 H9 H10 H11 H12 H13 S0 S1 S2
  iintro ⟨H0, H1, H2, H3, H4, H5, H6, H7, H8, ⟨%e9, H9⟩, ⟨%e10, H10⟩, ⟨%e11, H11⟩, ⟨%e12, H12⟩, ⟨%e13, H13⟩, ⟨%f0, S0⟩, ⟨%f1, S1⟩, ⟨%f2, S2⟩⟩
  iapply Hk
  iframe H0 H1 H2 H3 H4 H5 H6 H7 H8
  unfold Writes Scratch first
  dsimp only
  isplitl [H9 H10 H11 H12 H13]
  · isplitl [H9]
    · iapply (owned c _ _ _ (View.read_writes_of_cover _ _ _ _ _ (cover_dh_first m c t h))); iexact H9
    isplitl [H10]
    · iapply (owned c _ _ _ (View.read_writes_of_cover _ _ _ _ _ (cover_dhu_first m c t h))); iexact H10
    isplitl [H11]
    · iapply (owned c _ _ _ (View.read_writes_of_cover _ _ _ _ _ (cover_hn_first m c t h))); iexact H11
    isplitl [H12]
    · iapply (owned c _ _ _ (View.read_writes_of_cover _ _ _ _ _ (cover_dcw_first m c t h))); iexact H12
    iapply (owned c _ _ _ (View.read_writes_of_cover _ _ _ _ _ (cover_dg_first m c t h))); iexact H13
  isplitl [S0]
  · iexists _; iapply (owned c _ _ _ rfl); iexact S0
  isplitl [S1]
  · iexists _; iapply (owned c _ _ _ rfl); iexact S1
  iapply (owned c _ _ _ (View.read_writes_of_cover _ _ _ _ _ (cover_head_first m c t h))); iexact S2

set_option maxHeartbeats 4000000 in
/-- The body at a later point. -/
theorem body_next (h : ¬t.val % 65 = 0) (p : St F) (K : PUnit → sProp 𝕄) :
    iprop(Reads m c t ∗ ((∃ d, owns (c : Thread nD τ) (ms0_9 t) fullShare d) ∗ (∃ d, owns (c : Thread nD τ) (ms0_10 t) fullShare d)
        ∗ (∃ d, owns (c : Thread nD τ) (ms0_11 t) fullShare d) ∗ owns (c : Thread nD τ) (ms0_12 t) fullShare p.dcw ∗ owns (c : Thread nD τ) (ms0_13 t) fullShare p.dg)
      ∗ Scratch c p.head
      ∗ (iprop(Reads m c t ∗ Writes c t (next m c t h p) ∗ Scratch c (next m c t h p).head) -∗ K ⟨⟩))
    ⊢ wp frame (wpE (defs₀ (F := F)) Variants.none c none) Set.univ (bodyAt0 t) K := by
  unfold Reads Scratch bodyAt0
  iintro ⟨⟨H0, H1, H2, H3, H4, H5, H6, H7, H8⟩, ⟨H9, H10, H11, H12, H13⟩, ⟨S0, S1, S2⟩, Hk⟩
  iapply ((runNext m c t h p).2.2.2.2.2.2.2.2 Set.univ _)
  iframe H0 H1 H2 H3 H4 H5 H6 H7 H8 H9 H10 H11 H12 H13 S0 S1 S2
  iintro ⟨H0, H1, H2, H3, H4, H5, H6, H7, H8, ⟨%e9, H9⟩, ⟨%e10, H10⟩, ⟨%e11, H11⟩, H12, H13, ⟨%f0, S0⟩, ⟨%f1, S1⟩, ⟨%f2, S2⟩⟩
  iapply Hk
  iframe H0 H1 H2 H3 H4 H5 H6 H7 H8
  unfold Writes next
  dsimp only
  isplitl [H9 H10 H11 H12 H13]
  · isplitl [H9]
    · iapply (owned c _ _ _ (View.read_writes_of_cover _ _ _ _ _ (cover_dh_next m c t h p))); iexact H9
    isplitl [H10]
    · iapply (owned c _ _ _ (View.read_writes_of_cover _ _ _ _ _ (cover_dhu_next m c t h p))); iexact H10
    isplitl [H11]
    · iapply (owned c _ _ _ (View.read_writes_of_cover _ _ _ _ _ (cover_hn_next m c t h p))); iexact H11
    isplitl [H12]
    · iapply (owned c _ _ _ rfl); iexact H12
    iapply (owned c _ _ _ rfl); iexact H13
  isplitl [S0]
  · iexists _; iapply (owned c _ _ _ rfl); iexact S0
  isplitl [S1]
  · iexists _; iapply (owned c _ _ _ rfl); iexact S1
  iapply (owned c _ _ _ (View.read_writes_of_cover _ _ _ _ _ (cover_head_next m c t h p))); iexact S2

/-- All windows before a point. -/
def Before : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- All windows after it. -/
def After : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- After the point: its invariant and what it leaves. -/
theorem after_eq (p : St F) (h : outs m c t.val = p) : After m c t
    = iprop(iprop(Scratch c p.head ∗ (∃ r, prngReg c r)) ∗ (dats m 0 c).owesAt () t.castSucc
      ∗ owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ owns (c : Thread nD τ) (ms0_5 t) fullShare (iblk m c 5 t)
      ∗ owns (c : Thread nD τ) (ms0_6 t) fullShare (iblk m c 6 t) ∗ owns (c : Thread nD τ) (ms0_7 t) fullShare (iblk m c 7 t)
      ∗ owns (c : Thread nD τ) (ms0_8 t) fullShare (iblk m c 8 t)
      ∗ Writes c t p) := by
  unfold After
  rw [show (dats m 0 c).owesAt () t.succ = (dats m 0 c).owesAt () t.castSucc from rfl, after_dh, after_dhu, after_hn, after_dcw, after_dg,
    show (dats m 0 c).Φ t.succ = iprop(Scratch c (outs m c t.val).head ∗ (∃ r, prngReg c r)) from rfl, h]
  unfold Writes
  dsimp only [dats]

set_option maxHeartbeats 4000000 in
/-- The body takes the windows before a point to the windows after it. -/
theorem body_sound : Before m c t ⊢ wp frame (wpE (defs₀ (F := F)) Variants.none c none) Set.univ (bodyAt0 t) (fun _ => After m c t) := by
  unfold Before
  simp only [in0, in1, in2, in3, in4, in5, in6, in7, in8]
  by_cases h : t.val % 65 = 0
  · have hz : t.val = 0 := by
      have hN : t.val < 65 := lt_of_lt_of_eq t.isLt N_0
      omega
    rw [after_eq m c t _ (outs_first m c t h), show (dats m 0 c).Φ t.castSucc = Inv m c t.val from rfl, hz, show Inv m c 0 = Pipeline.ΦA spec0 c from rfl, PhiA0_eq]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_first m c t h _)
    unfold Reads
    iframe H0 H1 H2 H3 H4 H5 H6 H7 H8 S0 S1 S2
    isplitl [H9 H10 H11 H12 H13]
    · isplitl [H9]; · iexists _; iexact H9
      isplitl [H10]; · iexists _; iexact H10
      isplitl [H11]; · iexists _; iexact H11
      isplitl [H12]; · iexists _; iexact H12
      iexists _; iexact H13
    iintro ⟨⟨H0, H1, H2, H3, H4, H5, H6, H7, H8⟩, Hw, Hs⟩
    iframe Hs Hg Ho H0 H1 H2 H3 H4 H5 H6 H7 H8 Hw
  · have hz : t.val ≠ 0 := fun e => h (by rw [e])
    simp only [kept_dcw m c t h, kept_dg m c t h]
    rw [after_eq m c t _ (outs_next m c t h), show (dats m 0 c).Φ t.castSucc = Inv m c t.val from rfl, Inv_pos m c _ hz]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_next m c t h (outs m c (t.val - 1)) _)
    unfold Reads
    iframe H0 H1 H2 H3 H4 H5 H6 H7 H8 H12 H13
    isplitl [H9 H10 H11]
    · isplitl [H9]; · iexists _; iexact H9
      isplitl [H10]; · iexists _; iexact H10
      iexists _; iexact H11
    isplitl [S0 S1 S2]
    · unfold Scratch; iframe S0 S1 S2
    iintro ⟨⟨H0, H1, H2, H3, H4, H5, H6, H7, H8⟩, Hw, Hs⟩
    iframe Hs Hg Ho H0 H1 H2 H3 H4 H5 H6 H7 H8 Hw

end

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- The scratch buffers at the end, their contents forgotten. -/
theorem inv_last (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 65 from N_0]; decide), PhiA0_eq]
  iintro ⟨⟨S0, S1, S2⟩, Hg⟩
  iframe S0 S1 Hg
  iexists _; iexact S2

set_option backward.isDefEq.respectTransparency.types false in
set_option maxHeartbeats 800000 in
/-- Every fair execution ends, with every array at the blocks written and every semaphore counter at zero. -/
theorem run_sem : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := inv_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_sem m ρ)

/-- The arguments end as they began and every counter is back at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_sem m ρ))

end Cert.Mlp

end
-- ==== Proof.Mlp.Spec.lean ====
/- What the gradient of an MLP computes, row by row, in the order of time: the functions the blocks of the kernel are compared with.
   Times count from the first row of the padded sequence; a row and a column are given by their numbers. -/
module

public import proofs.«01_k».proof.Proof.Loss.Spec

@[expose] public section

noncomputable section

namespace Cert.Mlp

open Idealize.ShloMosaic Cert.Loss

/-- The constant one. -/
abbrev cOne : EReal := Ideal.ofBits FTy.f32 1065353216#32

/-- The arrays the call reads: by time the gradient of the layer's output, the up projection, the convolution and the residual stream;
    the gain, the up projection's weight in four column blocks, the taps and the weight of the down projection. -/
structure Ins where
  D : ℕ → ℕ → EReal
  U : ℕ → ℕ → EReal
  HC : ℕ → ℕ → EReal
  H : ℕ → ℕ → EReal
  g : ℕ → EReal
  w : ℕ → ℕ → ℕ → EReal
  cw : ℕ → ℕ → EReal
  wd : ℕ → ℕ → EReal

/-- The logistic function written by the hyperbolic tangent. -/
def sg (x : EReal) : EReal := cHalf + cHalf * Ideal.tanh (cHalf * x)

variable (I : Ins)

/-- The up projection two rows earlier, zero before the start. -/
def Ins.past (τ c : ℕ) : EReal := if 2 ≤ τ then I.U (τ - 2) c else 0

/-- The gradient of the gate's product. -/
def Ins.dact (τ j : ℕ) : EReal := ∑ k : Fin 1024, I.D τ k.val * I.wd j k.val

/-- The gradient of the half under the logistic function, -/
def Ins.dgate (τ j : ℕ) : EReal :=
  I.dact τ j * I.HC τ (2816 + j) * (sg (I.HC τ j) * (cOne + I.HC τ j * (cOne - sg (I.HC τ j))))

/-- and of the other half. -/
def Ins.dval (τ j : ℕ) : EReal := I.dact τ j * (I.HC τ j * sg (I.HC τ j))

/-- The gradient of the convolution's output. -/
def Ins.dy (τ c : ℕ) : EReal := if c < 2816 then I.dgate τ c else I.dval τ (c - 2816)

/-- The same past the end, where it is zero. -/
def Ins.fut (τ c : ℕ) : EReal := if τ < 16640 then I.dy τ c else 0

/-- The gradient of the up projection: the transposed convolution. -/
def Ins.dhu (τ c : ℕ) : EReal := I.cw 0 c * I.fut (τ + 2) c + I.cw 1 c * I.fut (τ + 1) c + I.cw 2 c * I.fut τ c

/-- One column block of the gradient of the normed rows. -/
def Ins.part (q τ k : ℕ) : EReal := ∑ n : Fin 1408, I.dhu τ (1408 * q + n.val) * I.w q k n.val

/-- The gradient of the normed rows. -/
def Ins.dhn (τ k : ℕ) : EReal := I.part 0 τ k + I.part 2 τ k + (I.part 1 τ k + I.part 3 τ k)

/-- The factor of a row's norm. -/
def Ins.r (τ : ℕ) : EReal := rstd fun k => I.H τ k.val

/-- The normed row before its gain. -/
def Ins.xhat (τ k : ℕ) : EReal := I.H τ k * I.r τ

/-- The normed row. -/
def Ins.hn (τ k : ℕ) : EReal := I.xhat τ k * I.g k

/-- The gradient of the residual stream: zero on the rows of padding. -/
def Ins.dh (τ k : ℕ) : EReal :=
  if 240 ≤ τ then I.D τ k + I.r τ * (I.dhn τ k * I.g k
    - I.xhat τ k * Ideal.div (∑ k : Fin 1024, I.dhn τ k.val * I.g k.val * I.xhat τ k.val) cD) else 0

/-- A tap's gradient in a column: the rows of one tile. -/
def Ins.tap (k T c : ℕ) : EReal := ∑ r : Fin 256, I.past (256 * T + rowTime r.val + k) c * I.fut (256 * T + rowTime r.val) c

/-- The gain's gradient in a column: the rows of one tile. -/
def Ins.gain (T k : ℕ) : EReal := ∑ r : Fin 256, I.dhn (256 * T + rowTime r.val) k * I.xhat (256 * T + rowTime r.val) k

end Cert.Mlp

end
-- ==== Proof.Mlp.Block.lean ====
/- The two buffers the convolution's gradient reads shifted rows from: what they hold once the rows of the neighbouring tile are linked
   in, and what a load of them reads. -/
module

public import proofs.«01_k».proof.Proof.Gen.Kernel2Ideal.Skeleton
public import proofs.«01_k».proof.Proof.Mlp.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Mlp

open Cert.Kernel2Ideal Cert.Kernel2Ideal.Gen

variable {κ : Kind} {sp : Space} (v : View sig κ sp S272x2816 .f32) (G H : S272x2816.Idx → EReal) (L : List (View.Piece (Elt Ideal) S272x2816 .f32))

/-- A block of a buffer. -/
abbrev ldb (o s : Fin 2 → ℕ) (h : ∀ a, o a + s a ≤ S272x2816.size a) :=
  View.ld (Val := Elt Ideal) (e' := .f32) G (Rect.unit (s := S272x2816) o s h)

/-- A store of a block of a buffer. -/
abbrev put (o s : Fin 2 → ℕ) (h : ∀ a, o a + s a ≤ S272x2816.size a) : View.Piece (Elt Ideal) S272x2816 .f32 := ⟨Rect.unit (s := S272x2816) o s h, ldb G o s h⟩

/-- A place inside a block. -/
abbrev In (o s : Fin 2 → ℕ) (y : S272x2816.Idx) : Prop := (o 0 ≤ (y 0).val ∧ (y 0).val < o 0 + s 0) ∧ o 1 ≤ (y 1).val ∧ (y 1).val < o 1 + s 1

theorem mem_unit (o s : Fin 2 → ℕ) (h : ∀ a, o a + s a ≤ S272x2816.size a) (y : S272x2816.Idx) : y ∈ (Rect.unit (s := S272x2816) o s h).set ↔ In o s y := by
  rw [Rect.mem_set_unit, Fin.forall_fin_two]

/-- Where a store of `G` lies, or what was stored before is `G`, the buffer is `G`. -/
theorem own (o s : Fin 2 → ℕ) (h) (y : S272x2816.Idx) (hy : ¬In o s y → View.canon L y = G y) : View.canon (put G o s h :: L) y = G y := by
  by_cases hm : y ∈ (Rect.unit (s := S272x2816) o s h).set
  · obtain ⟨j, rfl⟩ := LoadRect.exists_idx_of_mem _ hm
    exact View.canon_cons_emb _ _ _ _
  · rw [← hy fun hi => hm ((mem_unit o s h y).mpr hi)]
    exact View.canon_cons_of_not_mem _ _ hm

/-- A store elsewhere does not count. -/
theorem off (o s : Fin 2 → ℕ) (h : ∀ a, o a + s a ≤ S272x2816.size a) (w : (Rect.unit (s := S272x2816) o s h).shape.Idx → EReal) (y : S272x2816.Idx) (hm : ¬In o s y) (hy : View.canon L y = G y) :
    View.canon (Val := Elt Ideal) (e := .f32) (⟨Rect.unit (s := S272x2816) o s h, w⟩ :: L) y = G y := by
  rw [← hy]
  exact View.canon_cons_of_not_mem _ _ fun hi => hm ((mem_unit o s h y).mp hi)

/-- A load is `G` where the buffer is `G` in its block. -/
theorem read_of (o s : Fin 2 → ℕ) (h : ∀ a, o a + s a ≤ S272x2816.size a) (hy : ∀ y, In o s y → View.canon L y = G y) :
    v.readCov L (Rect.unit (s := S272x2816) o s h).toLoadRect = ldb G o s h := by
  rw [View.readCov_eq_canon']
  funext j
  exact hy _ ((mem_unit o s h _).mp (LoadRect.idx_mem _ _))

variable (o s : Fin 2 → ℕ) (h : ∀ a, o a + s a ≤ S272x2816.size a)

/-- A load in the last store. -/
theorem read_one (o' s' : Fin 2 → ℕ) (h') (hin : ∀ a, o' a ≤ o a ∧ o a + s a ≤ o' a + s' a) :
    v.readCov (put G o' s' h' :: L) (Rect.unit (s := S272x2816) o s h).toLoadRect = ldb G o s h :=
  read_of _ _ _ _ _ _ fun y hy => own G _ _ _ _ _ fun hn => absurd hy (by have := hin 0; have := hin 1; omega)

/-! The buffer of the convolution's gradient. -/

abbrev tile0 := put G ![0, 0] ![256, 1408] inb_S272x2816_S256x1408_0_0
abbrev tile1 := put G ![0, 1408] ![256, 1408] inb_S272x2816_S256x1408_0_1408
abbrev rows256 := put G ![256, 0] ![8, 2816] inb_S272x2816_S8x2816_256_0
abbrev rows264 := put G ![264, 0] ![8, 2816] inb_S272x2816_S8x2816_264_0

/-- A load of the tile's own rows. -/
theorem read_own (hs : o 0 + s 0 ≤ 256) :
    v.readCov (tile0 G :: tile1 G :: L) (Rect.unit (s := S272x2816) o s h).toLoadRect = ldb G o s h :=
  read_of _ _ _ _ _ _ fun y hy => own G _ _ _ _ _ fun h1 => own G _ _ _ _ _ fun h2 => absurd (y 1).isLt (by
    simp at h1 h2 ⊢; omega)

/-- A load once the first eight rows of the tile after are linked in. -/
theorem read_next (hs : o 0 + s 0 ≤ 264) :
    v.readCov (rows256 G :: tile0 G :: tile1 G :: L) (Rect.unit (s := S272x2816) o s h).toLoadRect = ldb G o s h :=
  read_of _ _ _ _ _ _ fun y hy => own G _ _ _ _ _ fun h0 => own G _ _ _ _ _ fun h1 => own G _ _ _ _ _ fun h2 => absurd (y 1).isLt (by
    simp at h0 h1 h2 ⊢; omega)

/-- A load once all are. -/
theorem read_next' :
    v.readCov (rows264 G :: rows256 G :: tile0 G :: tile1 G :: L) (Rect.unit (s := S272x2816) o s h).toLoadRect = ldb G o s h :=
  read_of _ _ _ _ _ _ fun y hy => own G _ _ _ _ _ fun h3 => own G _ _ _ _ _ fun h0 => own G _ _ _ _ _ fun h1 => own G _ _ _ _ _ fun h2 => absurd (y 1).isLt (by
    have h' : (y 0).val < 272 := (y 0).isLt
    simp at h0 h1 h2 h3 ⊢; omega)

/-- A load of the carried rows. -/
theorem read_head (hs : 256 ≤ o 0) :
    v.readCov (put G ![256, 1408] ![16, 1408] inb_S272x2816_S16x1408_256_1408 :: put G ![256, 0] ![16, 1408] inb_S272x2816_S16x1408_256_0 :: L)
      (Rect.unit (s := S272x2816) o s h).toLoadRect = ldb G o s h :=
  read_of _ _ _ _ _ _ fun y hy => own G _ _ _ _ _ fun h1 => own G _ _ _ _ _ fun h2 => absurd (y 1).isLt (by
    have h' : (y 0).val < 272 := (y 0).isLt
    simp at h1 h2 ⊢; omega)

/-! The buffer of the up projection, whose four stores come column by column. -/

abbrev up0 := put G ![16, 0] ![256, 1408] inb_S272x2816_S256x1408_16_0
abbrev up1 := put G ![16, 1408] ![256, 1408] inb_S272x2816_S256x1408_16_1408
abbrev halo0 := put H ![0, 0] ![16, 1408] inb_S272x2816_S16x1408_0_0
abbrev halo1 := put H ![0, 1408] ![16, 1408] inb_S272x2816_S16x1408_0_1408
abbrev rows0 := put G ![0, 0] ![8, 2816] inb_S272x2816_S8x2816_0_0
abbrev rows8 := put G ![8, 0] ![8, 2816] inb_S272x2816_S8x2816_8_0

/-- A load of the tile's own rows. -/
theorem read_up (hs : 16 ≤ o 0) :
    v.readCov (up1 G :: halo1 H :: up0 G :: L) (Rect.unit (s := S272x2816) o s h).toLoadRect = ldb G o s h :=
  read_of _ _ _ _ _ _ fun y hy => own G _ _ _ _ _ fun h1 => off _ _ _ _ _ _ _ (by simp; omega) (own G _ _ _ _ _ fun h2 => absurd (y 1).isLt (by
    have h' : (y 0).val < 272 := (y 0).isLt
    simp at h1 h2 ⊢; omega))

/-- A load of the rows of the tile before. -/
theorem read_halo (hs : o 0 + s 0 ≤ 16) :
    v.readCov (halo1 H :: up0 G :: halo0 H :: L) (Rect.unit (s := S272x2816) o s h).toLoadRect = ldb H o s h :=
  read_of _ _ _ _ _ _ fun y hy => own H _ _ _ _ _ fun h1 => off _ _ _ _ _ _ _ (by simp; omega) (own H _ _ _ _ _ fun h2 => absurd (y 1).isLt (by
    simp at h1 h2 ⊢; omega))

/-- A load once rows of the tile before are linked in. -/
theorem read_prev (hs : 8 ≤ o 0) :
    v.readCov (rows8 G :: up1 G :: halo1 H :: up0 G :: L) (Rect.unit (s := S272x2816) o s h).toLoadRect = ldb G o s h :=
  read_of _ _ _ _ _ _ fun y hy => own G _ _ _ _ _ fun h0 => own G _ _ _ _ _ fun h1 =>
    have h' : (y 0).val < 272 := (y 0).isLt
    have h'' : (y 1).val < 2816 := (y 1).isLt
    off _ _ _ _ _ _ _ (by simp at h0 ⊢; omega) (own G _ _ _ _ _ fun h2 => absurd h'' (by simp at h0 h1 h2 ⊢; omega))

/-- A load once all are. -/
theorem read_prev' :
    v.readCov (rows0 G :: rows8 G :: up1 G :: halo1 H :: up0 G :: L) (Rect.unit (s := S272x2816) o s h).toLoadRect = ldb G o s h :=
  read_of _ _ _ _ _ _ fun y hy => own G _ _ _ _ _ fun h3 => own G _ _ _ _ _ fun h0 => own G _ _ _ _ _ fun h1 =>
    have h' : (y 0).val < 272 := (y 0).isLt
    have h'' : (y 1).val < 2816 := (y 1).isLt
    off _ _ _ _ _ _ _ (by simp at h0 h3 ⊢; omega) (own G _ _ _ _ _ fun h2 => absurd h'' (by simp at h0 h1 h2 h3 ⊢; omega))

end Cert.Mlp

end
-- ==== Proof.Mlp.Tile.lean ====
/- The stores of one tile into the two buffers, as the functions of time they hold. -/
module

public import proofs.«01_k».proof.Proof.Mlp.Block
public import proofs.«01_k».proof.Proof.Loss.Tile

@[expose] public section

set_option maxRecDepth 16384

noncomputable section

open Idealize.ShloMosaic Idealize.ShloMosaic.TcCoe Idealize.SL.Sem

namespace Cert.Mlp

open Cert.Kernel2Ideal Cert.Kernel2Ideal.Gen Cert.Loss

variable (I : Ins) (T : ℕ)

/-! The blocks of the arrays at a tile. -/

def dB : Vec Ideal S256x1024 .f32 := fun y => I.D (256 * T + rowTime (y 0).val) (y 1).val
def uB : Vec Ideal S256x5632 .bf16 := fun y => I.U (256 * T + rowTime (y 0).val) (y 1).val
def hcB : Vec Ideal S256x5632 .bf16 := fun y => I.HC (256 * T + rowTime (y 0).val) (y 1).val
def hB : Vec Ideal S256x1024 .f32 := fun y => I.H (256 * T + rowTime (y 0).val) (y 1).val
def gB : Vec Ideal S1x1024 .f32 := fun y => I.g (y 1).val
def wB : Vec Ideal S4x1024x1408 .bf16 := fun y => I.w (y 0).val (y 1).val (y 2).val
def cwB : Vec Ideal S3x5632 .f32 := fun y => I.cw (y 0).val (y 1).val
def wdB : Vec Ideal S2816x1024 .bf16 := fun y => I.wd (y 0).val (y 1).val

/-- The first rows of the convolution's gradient in the tile after. -/
def headB : Vec Ideal S16x5632 .f32 := fun y => I.fut (256 * (T + 1) + rowTime (y 0).val) (y 1).val

/-- Column of a buffer: its two halves are two column blocks. -/
def cab (a b n : ℕ) : ℕ := if n < 1408 then a + n else b + (n - 1408)

theorem cab_lo (a b n : ℕ) (h : n < 1408) : cab a b n = a + n := if_pos h
theorem cab_hi (a b n : ℕ) : cab a b (1408 + n) = b + n := by
  rw [cab, if_neg (by omega), Nat.add_sub_cancel_left]

/-- The buffer of the convolution's gradient. -/
def dbuf (a b : ℕ) : S272x2816.Idx → EReal := fun y => I.fut (256 * T + rowTime (y 0).val) (cab a b (y 1).val)

/-- Its last sixteen rows before they are linked. -/
def hbuf (a b : ℕ) : S272x2816.Idx → EReal := fun y => I.fut (256 * (T + 1) + rowTime ((y 0).val - 256)) (cab a b (y 1).val)

/-- The buffer of the up projection. -/
def ubuf (a b : ℕ) : S272x2816.Idx → EReal := fun y => I.past (256 * T + rowTime (y 0).val) (cab a b (y 1).val)

/-- Its first sixteen rows before they are linked. -/
def pbuf (a b : ℕ) : S272x2816.Idx → EReal := fun y => I.past (256 * T + rowTime (y 0).val - 224) (cab a b (y 1).val)

/-! Loads of the blocks. -/

abbrev ldHc (o : Fin 2 → ℕ) (h) := View.ld (hcB I T) (Rect.unit (s := S256x5632) o ![256, 1408] h)
abbrev ldU (o : Fin 2 → ℕ) (h) := View.ld (uB I T) (Rect.unit (s := S256x5632) o ![256, 1408] h)
abbrev ldHead (o : Fin 2 → ℕ) (h) := View.ld (headB I T) (Rect.unit (s := S16x5632) o ![16, 1408] h)
abbrev ldWd (o : Fin 2 → ℕ) (h) := View.ld (wdB I) (Rect.unit (s := S2816x1024) o ![1408, 1024] h)

theorem rowTime_lt (r : ℕ) (h : r < 256) : rowTime r < 256 := by
  simp only [rowTime]; omega

theorem fut_gate (hT : T < 65) (r j : ℕ) (hr : r < 256) (hj : j < 2816) : I.fut (256 * T + rowTime r) j = I.dgate (256 * T + rowTime r) j := by
  have h := rowTime_lt r hr
  rw [Ins.fut, if_pos (by omega), Ins.dy, if_pos hj]

theorem fut_val (hT : T < 65) (r j : ℕ) (hr : r < 256) : I.fut (256 * T + rowTime r) (2816 + j) = I.dval (256 * T + rowTime r) j := by
  have h := rowTime_lt r hr
  rw [Ins.fut, if_pos (by omega), Ins.dy, if_neg (by omega), Nat.add_sub_cancel_left]

/-- The gate's half of the first pair of column blocks, -/
theorem gate0 (hT : T < 65) : k0_pay23 (F := Ideal) (k0_pay19 (ldHc I T ![0, 0] inb_S256x5632_S256x1408_0_0))
    (k0_pay21 (k0_pay8 (dB I T) (ldWd I ![0, 0] inb_S2816x1024_S1408x1024_0_0)) (ldHc I T ![0, 2816] inb_S256x5632_S256x1408_0_2816))
    (k0_pay22 (ldHc I T ![0, 0] inb_S256x5632_S256x1408_0_0)) = ldb (dbuf I T 0 2816) ![0, 0] ![256, 1408] inb_S272x2816_S256x1408_0_0 := by
  funext y
  have h0 : (y 0).val < 256 := (y 0).isLt
  have h1 : (y 1).val < 1408 := (y 1).isLt
  refine Eq.trans ?_ (Eq.trans (fut_gate I T hT (y 0).val (y 1).val h0 (by omega)).symm (congrArg₂ I.fut (by simp) (by simp [cab_lo, h1])))
  pointwise [k0_pay23, k0_pay19, k0_pay21, k0_pay8, k0_pay22, k0_pay18, k0_pay7, k0_pay6, dB, wdB, hcB, View.ld]
  simp [Ins.dgate, Ins.dact, sg]

/-- and the other half. -/
theorem val0 (hT : T < 65) : k0_pay20 (F := Ideal) (k0_pay8 (dB I T) (ldWd I ![0, 0] inb_S2816x1024_S1408x1024_0_0)) (ldHc I T ![0, 0] inb_S256x5632_S256x1408_0_0)
    = ldb (dbuf I T 0 2816) ![0, 1408] ![256, 1408] inb_S272x2816_S256x1408_0_1408 := by
  funext y
  have h0 : (y 0).val < 256 := (y 0).isLt
  refine Eq.trans ?_ (Eq.trans (fut_val I T hT (y 0).val (y 1).val h0).symm (congrArg₂ I.fut (by simp) (by simp [cab_hi])))
  pointwise [k0_pay20, k0_pay19, k0_pay8, k0_pay18, k0_pay7, k0_pay6, dB, wdB, hcB, View.ld]
  simp [Ins.dval, Ins.dact, sg]

/-- The same of the second pair. -/
theorem gate1 (hT : T < 65) : k0_pay55 (F := Ideal) (k0_pay9 (dB I T) (ldWd I ![1408, 0] inb_S2816x1024_S1408x1024_1408_0))
    (ldHc I T ![0, 1408] inb_S256x5632_S256x1408_0_1408) (ldHc I T ![0, 4224] inb_S256x5632_S256x1408_0_4224)
      = ldb (dbuf I T 1408 4224) ![0, 0] ![256, 1408] inb_S272x2816_S256x1408_0_0 := by
  funext y
  have h0 : (y 0).val < 256 := (y 0).isLt
  have h1 : (y 1).val < 1408 := (y 1).isLt
  refine Eq.trans ?_ (Eq.trans (fut_gate I T hT (y 0).val (1408 + (y 1).val) h0 (by omega)).symm (congrArg₂ I.fut (by simp) (by simp [cab_lo, h1])))
  pointwise [k0_pay55, k0_pay53, k0_pay52, k0_pay9, k0_pay7, k0_pay6, dB, wdB, hcB, View.ld]
  simp [Ins.dgate, Ins.dact, sg, ← Nat.add_assoc]

theorem val1 (hT : T < 65) : k0_pay54 (F := Ideal) (k0_pay9 (dB I T) (ldWd I ![1408, 0] inb_S2816x1024_S1408x1024_1408_0))
    (ldHc I T ![0, 1408] inb_S256x5632_S256x1408_0_1408) = ldb (dbuf I T 1408 4224) ![0, 1408] ![256, 1408] inb_S272x2816_S256x1408_0_1408 := by
  funext y
  have h0 : (y 0).val < 256 := (y 0).isLt
  refine Eq.trans ?_ (Eq.trans (fut_val I T hT (y 0).val (1408 + (y 1).val) h0).symm (congrArg₂ I.fut (by simp) (by simp [cab_hi, ← Nat.add_assoc])))
  pointwise [k0_pay54, k0_pay53, k0_pay52, k0_pay9, k0_pay7, k0_pay6, dB, wdB, hcB, View.ld]
  simp [Ins.dval, Ins.dact, sg]

/-! The rows carried from the tile after. -/

theorem head0 : k0_pay12 (F := Ideal) (ldHead I T ![0, 0] inb_S16x5632_S16x1408_0_0) = ldb (hbuf I T 0 2816) ![256, 0] ![16, 1408] inb_S272x2816_S16x1408_256_0 := by
  funext y
  have h1 : (y 1).val < 1408 := (y 1).isLt
  pointwise [k0_pay12, headB, hbuf, View.ld]
  exact congrArg₂ I.fut (by simp) (by simp [cab_lo, h1])

theorem head1 : k0_pay15 (F := Ideal) (ldHead I T ![0, 2816] inb_S16x5632_S16x1408_0_2816) = ldb (hbuf I T 0 2816) ![256, 1408] ![16, 1408] inb_S272x2816_S16x1408_256_1408 := by
  funext y
  pointwise [k0_pay15, headB, hbuf, View.ld]
  exact congrArg₂ I.fut (by simp) (by simp [cab_hi])

theorem head2 : k0_pay44 (F := Ideal) (ldHead I T ![0, 1408] inb_S16x5632_S16x1408_0_1408) = ldb (hbuf I T 1408 4224) ![256, 0] ![16, 1408] inb_S272x2816_S16x1408_256_0 := by
  funext y
  have h1 : (y 1).val < 1408 := (y 1).isLt
  pointwise [k0_pay44, headB, hbuf, View.ld]
  exact congrArg₂ I.fut (by simp) (by simp [cab_lo, h1])

theorem head3 : k0_pay48 (F := Ideal) (ldHead I T ![0, 4224] inb_S16x5632_S16x1408_0_4224) = ldb (hbuf I T 1408 4224) ![256, 1408] ![16, 1408] inb_S272x2816_S16x1408_256_1408 := by
  funext y
  pointwise [k0_pay48, headB, hbuf, View.ld]
  exact congrArg₂ I.fut (by simp) (by simp [cab_hi])

/-- A select on the row index being seven. -/
theorem select_last {α : Type} (n : ℕ) (h : n < 8) (a b : α) :
    Scalar.select (IntOp.cmpi CmpIPredicate.eq (BitVec.ofNat 32 n) 7#32) a b = if n = 7 then a else b := by
  interval_cases n <;> rfl

/-- The eight rows after the tile once linked: the tile's own next rows, and the first row of the tile after. -/
theorem link256 (a b : ℕ) : k0_pay26 (F := Ideal) (ldb (hbuf I T a b) ![256, 0] ![8, 2816] inb_S272x2816_S8x2816_256_0)
    (ldb (dbuf I T a b) ![0, 0] ![8, 2816] inb_S272x2816_S8x2816_0_0) = ldb (dbuf I T a b) ![256, 0] ![8, 2816] inb_S272x2816_S8x2816_256_0 := by
  funext y
  have hy : (y 0).val < 8 := (y 0).isLt
  suffices hs : _ = I.fut (256 * T + rowTime (256 + (y 0).val)) (cab a b (y 1).val) from hs.trans (congrArg₂ I.fut (by simp) (by simp))
  pointwise [k0_pay26, dbuf, hbuf, View.ld]
  rw [select_last _ hy, ← apply_ite fun τ => I.fut τ _]
  refine congrArg (fun τ => I.fut τ _) ?_
  split <;> simp only [rowTime] <;> omega

/-- The eight rows behind them. -/
theorem link264 (a b : ℕ) : k0_pay29 (F := Ideal) (k0_pay27 (ldb (hbuf I T a b) ![264, 0] ![8, 2816] inb_S272x2816_S8x2816_264_0))
    (k0_pay28 (ldb (dbuf I T a b) ![8, 0] ![8, 2816] inb_S272x2816_S8x2816_8_0)) (iota Kind.tc S8x1 32 ([0] : List (Fin 2)) iota_S8x1_d0_w32)
      = ldb (dbuf I T a b) ![264, 0] ![8, 2816] inb_S272x2816_S8x2816_264_0 := by
  funext y
  have hy : (y 0).val < 8 := (y 0).isLt
  suffices hs : _ = I.fut (256 * T + rowTime (264 + (y 0).val)) (cab a b (y 1).val) from hs.trans (congrArg₂ I.fut (by simp) (by simp))
  pointwise [k0_pay29, k0_pay28, k0_pay27, dbuf, hbuf, View.ld]
  rw [select_last _ hy, ← apply_ite fun τ => I.fut τ _]
  refine congrArg (fun τ => I.fut τ _) ?_
  split <;> simp only [rowTime] <;> omega

/-- The same for the second pair of column blocks. -/
theorem link256' (a b : ℕ) : k0_pay58 (F := Ideal) (ldb (hbuf I T a b) ![256, 0] ![8, 2816] inb_S272x2816_S8x2816_256_0)
    (ldb (dbuf I T a b) ![0, 0] ![8, 2816] inb_S272x2816_S8x2816_0_0) = ldb (dbuf I T a b) ![256, 0] ![8, 2816] inb_S272x2816_S8x2816_256_0 := link256 I T a b

theorem link264' (a b : ℕ) : k0_pay60 (F := Ideal) (k0_pay59 (ldb (hbuf I T a b) ![264, 0] ![8, 2816] inb_S272x2816_S8x2816_264_0)
    (ldb (dbuf I T a b) ![8, 0] ![8, 2816] inb_S272x2816_S8x2816_8_0))
      = ldb (dbuf I T a b) ![264, 0] ![8, 2816] inb_S272x2816_S8x2816_264_0 := link264 I T a b

/-! The rows of the up projection. -/

theorem past_up (r c : ℕ) : I.past (256 * T + rowTime (16 + r)) c = I.U (256 * T + rowTime r) c := by
  rw [rowTime_sixteen, Ins.past, if_pos (by omega), ← Nat.add_assoc, Nat.add_sub_cancel]

theorem rows0_up : k0_pay11 (F := Ideal) (ldU I T ![0, 0] inb_S256x5632_S256x1408_0_0) = ldb (ubuf I T 0 2816) ![16, 0] ![256, 1408] inb_S272x2816_S256x1408_16_0 := by
  funext y
  have h1 : (y 1).val < 1408 := (y 1).isLt
  refine Eq.trans ?_ (Eq.trans (past_up I T (y 0).val (y 1).val).symm (congrArg₂ I.past (by simp) (by simp [cab_lo, h1])))
  pointwise [k0_pay11, uB, View.ld]

theorem rows1_up : k0_pay14 (F := Ideal) (ldU I T ![0, 2816] inb_S256x5632_S256x1408_0_2816) = ldb (ubuf I T 0 2816) ![16, 1408] ![256, 1408] inb_S272x2816_S256x1408_16_1408 := by
  funext y
  refine Eq.trans ?_ (Eq.trans (past_up I T (y 0).val (2816 + (y 1).val)).symm (congrArg₂ I.past (by simp) (by simp [cab_hi])))
  pointwise [k0_pay14, uB, View.ld]

theorem rows2_up : k0_pay43 (F := Ideal) (ldU I T ![0, 1408] inb_S256x5632_S256x1408_0_1408) = ldb (ubuf I T 1408 4224) ![16, 0] ![256, 1408] inb_S272x2816_S256x1408_16_0 := by
  funext y
  have h1 : (y 1).val < 1408 := (y 1).isLt
  refine Eq.trans ?_ (Eq.trans (past_up I T (y 0).val (1408 + (y 1).val)).symm (congrArg₂ I.past (by simp) (by simp [cab_lo, h1])))
  pointwise [k0_pay43, uB, View.ld]

theorem rows3_up : k0_pay47 (F := Ideal) (ldU I T ![0, 4224] inb_S256x5632_S256x1408_0_4224) = ldb (ubuf I T 1408 4224) ![16, 1408] ![256, 1408] inb_S272x2816_S256x1408_16_1408 := by
  funext y
  refine Eq.trans ?_ (Eq.trans (past_up I T (y 0).val (4224 + (y 1).val)).symm (congrArg₂ I.past (by simp) (by simp [cab_hi])))
  pointwise [k0_pay47, uB, View.ld]

/-! The last rows of the tile before, zero before the first. -/

/-- What the window of those rows holds at a tile that has one before it. -/
def Halo (x : Vec Ideal S16x5632 .bf16) : Prop := T ≠ 0 → ∀ y, x y = I.past (256 * T + rowTime (y 0).val - 224) (y 1).val

/-- A select on the tile not being the first. -/
theorem select_tile {α : Type} (hT : T < 65) (a b : α) :
    Scalar.select (IntOp.cmpi CmpIPredicate.sgt (BitVec.ofNat 32 T) 0#32) a b = if T = 0 then b else a := by
  interval_cases T <;> rfl

theorem halo_eq (hT : T < 65) (x : Vec Ideal S16x5632 .bf16) (hx : Halo I T x) (y : S16x5632.Idx) :
    Scalar.select (IntOp.cmpi CmpIPredicate.sgt (BitVec.ofNat 32 T) 0#32) (x y) 0 = I.past (256 * T + rowTime (y 0).val - 224) (y 1).val := by
  rw [select_tile T hT]
  by_cases h : T = 0
  · have hy : (y 0).val < 16 := (y 0).isLt
    rw [if_pos h, Ins.past, if_neg (by simp only [rowTime]; omega)]
  · rw [if_neg h, hx h]

abbrev ldHalo (x : Vec Ideal S16x5632 .bf16) (o : Fin 2 → ℕ) (h) := View.ld x (Rect.unit (s := S16x5632) o ![16, 1408] h)

variable (hT : T < 65) (x : Vec Ideal S16x5632 .bf16) (hx : Halo I T x)
include hT hx

theorem prev0 (i : grid0.Coords) (hi : Scalar.subi 64#32 (BitVec.ofNat 32 (i 0).val) = BitVec.ofNat 32 T) :
    k0_pay10 (F := Ideal) i (ldHalo x ![0, 0] inb_S16x5632_S16x1408_0_0) = ldb (pbuf I T 0 2816) ![0, 0] ![16, 1408] inb_S272x2816_S16x1408_0_0 := by
  funext y
  have h1 : (y 1).val < 1408 := (y 1).isLt
  refine Eq.trans ?_ ((halo_eq I T hT x hx ((Rect.unit (s := S16x5632) ![0, 0] ![16, 1408] inb_S16x5632_S16x1408_0_0).idx y)).trans (congrArg₂ I.past (by simp) (by simp [cab_lo, h1])))
  pointwise [k0_pay10, View.ld, hi]
  exact congrArg (fun y => Scalar.select (Scalar.cmpi CmpIPredicate.sgt (BitVec.ofNat 32 T) 0#32) (x y) 0) (funext fun a => by fin_cases a <;> exact Fin.ext (by simp))

theorem prev1  :
    k0_pay13 (F := Ideal) (BitVec.ofNat 32 T) (ldHalo x ![0, 2816] inb_S16x5632_S16x1408_0_2816) = ldb (pbuf I T 0 2816) ![0, 1408] ![16, 1408] inb_S272x2816_S16x1408_0_1408 := by
  funext y
  refine Eq.trans ?_ ((halo_eq I T hT x hx ((Rect.unit (s := S16x5632) ![0, 2816] ![16, 1408] inb_S16x5632_S16x1408_0_2816).idx y)).trans (congrArg₂ I.past (by simp) (by simp [cab_hi])))
  pointwise [k0_pay13, View.ld]
  exact congrArg (fun y => Scalar.select (Scalar.cmpi CmpIPredicate.sgt (BitVec.ofNat 32 T) 0#32) (x y) 0) (funext fun a => by fin_cases a <;> exact Fin.ext (by simp))

theorem prev2  :
    k0_pay42 (F := Ideal) (BitVec.ofNat 32 T) (ldHalo x ![0, 1408] inb_S16x5632_S16x1408_0_1408) = ldb (pbuf I T 1408 4224) ![0, 0] ![16, 1408] inb_S272x2816_S16x1408_0_0 := by
  funext y
  have h1 : (y 1).val < 1408 := (y 1).isLt
  refine Eq.trans ?_ ((halo_eq I T hT x hx ((Rect.unit (s := S16x5632) ![0, 1408] ![16, 1408] inb_S16x5632_S16x1408_0_1408).idx y)).trans (congrArg₂ I.past (by simp) (by simp [cab_lo, h1])))
  pointwise [k0_pay42, View.ld]
  exact congrArg (fun y => Scalar.select (Scalar.cmpi CmpIPredicate.sgt (BitVec.ofNat 32 T) 0#32) (x y) 0) (funext fun a => by fin_cases a <;> exact Fin.ext (by simp))

theorem prev3  :
    k0_pay46 (F := Ideal) (k0_pay45 (ldHalo x ![0, 4224] inb_S16x5632_S16x1408_0_4224)) (Scalar.cmpi CmpIPredicate.sgt (BitVec.ofNat 32 T) 0#32) (FloatOps.ofBits FTy.f32 0#32) = ldb (pbuf I T 1408 4224) ![0, 1408] ![16, 1408] inb_S272x2816_S16x1408_0_1408 := by
  funext y
  refine Eq.trans ?_ ((halo_eq I T hT x hx ((Rect.unit (s := S16x5632) ![0, 4224] ![16, 1408] inb_S16x5632_S16x1408_0_4224).idx y)).trans (congrArg₂ I.past (by simp) (by simp [cab_hi])))
  pointwise [k0_pay46, k0_pay45, View.ld]
  exact congrArg (fun y => Scalar.select (Scalar.cmpi CmpIPredicate.sgt (BitVec.ofNat 32 T) 0#32) (x y) 0) (funext fun a => by fin_cases a <;> exact Fin.ext (by simp))

omit hT hx

/-- A select on the row index being zero. -/
theorem select_first {α : Type} (n : ℕ) (h : n < 8) (a b : α) :
    Scalar.select (IntOp.cmpi CmpIPredicate.eq (BitVec.ofNat 32 n) 0#32) a b = if n = 0 then a else b := select_row n h a b

/-- The first eight rows once linked: the last row of the tile before, and the tile's own rows. -/
theorem link0 (a b : ℕ) : k0_pay17 (F := Ideal) (ldb (pbuf I T a b) ![0, 0] ![8, 2816] inb_S272x2816_S8x2816_0_0)
    (ldb (ubuf I T a b) ![256, 0] ![8, 2816] inb_S272x2816_S8x2816_256_0) = ldb (ubuf I T a b) ![0, 0] ![8, 2816] inb_S272x2816_S8x2816_0_0 := by
  funext y
  have hy : (y 0).val < 8 := (y 0).isLt
  suffices hs : _ = I.past (256 * T + rowTime (y 0).val) (cab a b (y 1).val) from hs.trans (congrArg₂ I.past (by simp) (by simp))
  pointwise [k0_pay17, ubuf, pbuf, View.ld]
  rw [select_first _ hy, ← apply_ite fun τ => I.past τ _]
  refine congrArg (fun τ => I.past τ _) ?_
  split <;> simp only [rowTime] <;> omega

/-- The eight rows behind them. -/
theorem link8 (a b : ℕ) : k0_pay16 (F := Ideal) (ldb (pbuf I T a b) ![8, 0] ![8, 2816] inb_S272x2816_S8x2816_8_0)
    (ldb (ubuf I T a b) ![264, 0] ![8, 2816] inb_S272x2816_S8x2816_264_0) = ldb (ubuf I T a b) ![8, 0] ![8, 2816] inb_S272x2816_S8x2816_8_0 := by
  funext y
  have hy : (y 0).val < 8 := (y 0).isLt
  suffices hs : _ = I.past (256 * T + rowTime (8 + (y 0).val)) (cab a b (y 1).val) from hs.trans (congrArg₂ I.past (by simp) (by simp))
  pointwise [k0_pay16, ubuf, pbuf, View.ld]
  rw [select_first _ hy, ← apply_ite fun τ => I.past τ _]
  refine congrArg (fun τ => I.past τ _) ?_
  split <;> simp only [rowTime] <;> omega

/-- The same for the second pair of column blocks. -/
theorem link0' (a b : ℕ) : k0_pay51 (F := Ideal) (k0_pay50 (ldb (pbuf I T a b) ![0, 0] ![8, 2816] inb_S272x2816_S8x2816_0_0))
    (ldb (ubuf I T a b) ![256, 0] ![8, 2816] inb_S272x2816_S8x2816_256_0) 1#32 = ldb (ubuf I T a b) ![0, 0] ![8, 2816] inb_S272x2816_S8x2816_0_0 := link0 I T a b

theorem link8' (a b : ℕ) : k0_pay49 (F := Ideal) (ldb (pbuf I T a b) ![8, 0] ![8, 2816] inb_S272x2816_S8x2816_8_0)
    (ldb (ubuf I T a b) ![264, 0] ![8, 2816] inb_S272x2816_S8x2816_264_0) = ldb (ubuf I T a b) ![8, 0] ![8, 2816] inb_S272x2816_S8x2816_8_0 := link8 I T a b

end Cert.Mlp

end
-- ==== Proof.Mlp.Grad.lean ====
/- The gradients one tile computes from the two buffers: of the taps, of the up projection, of the normed rows, of the gain and of the
   residual stream. -/
module

public import proofs.«01_k».proof.Proof.Mlp.Tile

@[expose] public section

set_option maxRecDepth 16384

noncomputable section

open Idealize.ShloMosaic Idealize.ShloMosaic.TcCoe Idealize.SL.Sem

namespace Cert.Mlp

open Cert.Kernel2Ideal Cert.Kernel2Ideal.Gen Cert.Loss

variable (I : Ins) (T : ℕ)

/-- A column block of the gradient of the up projection. -/
def dhuB (q : ℕ) : Vec Ideal S256x1408 .bf16 := fun y => I.dhu (256 * T + rowTime (y 0).val) (1408 * q + (y 1).val)

/-- What a column block adds to the gradient of the normed rows. -/
def partB (q : ℕ) : Vec Ideal S256x1024 .f32 := fun y => I.part q (256 * T + rowTime (y 0).val) (y 1).val

def dhnB : Vec Ideal S256x1024 .f32 := fun y => I.dhn (256 * T + rowTime (y 0).val) (y 1).val
def hnB : Vec Ideal S256x1024 .bf16 := fun y => I.hn (256 * T + rowTime (y 0).val) (y 1).val
def dhB : Vec Ideal S256x1024 .f32 := fun y => I.dh (256 * T + rowTime (y 0).val) (y 1).val

/-- A tap's gradient in a column block added to a row. -/
def tapRow (k a : ℕ) (x : Vec Ideal S1x1408 .f32) : Vec Ideal S1x1408 .f32 := fun y => x y + I.tap k T (a + (y 1).val)

/-- The gain's gradient added to a row. -/
def gainRow (x : Vec Ideal S1x1024 .f32) : Vec Ideal S1x1024 .f32 := fun y => x y + I.gain T (y 1).val

abbrev ldc (o : Fin 2 → ℕ) (h) := View.ld (cwB I) (Rect.unit (s := S3x5632) o ![1, 1408] h)
abbrev ldw (o : Fin 3 → ℕ) (h) := View.ld (wB I) (Rect.unit (s := S4x1024x1408) o ![1, 1024, 1408] h)
abbrev d (a b : ℕ) (o : Fin 2 → ℕ) (h) := ldb (dbuf I T a b) o ![256, 1408] h
abbrev u (a b : ℕ) (o : Fin 2 → ℕ) (h) := ldb (ubuf I T a b) o ![256, 1408] h

/-- The two halves of a buffer in a row. -/
theorem d_lo (a b k : ℕ) (h) (y : S256x1408.Idx) : d I T a b ![8 * k, 0] h y = I.fut (256 * T + rowTime (y 0).val + k) (a + (y 1).val) := by
  have h1 : (y 1).val < 1408 := (y 1).isLt
  exact congrArg₂ I.fut (by simp [Nat.add_comm (8 * k), rowTime_add, ← Nat.add_assoc]) (by simp [cab_lo, h1])

theorem d_hi (a b k : ℕ) (h) (y : S256x1408.Idx) : d I T a b ![8 * k, 1408] h y = I.fut (256 * T + rowTime (y 0).val + k) (b + (y 1).val) :=
  congrArg₂ I.fut (by simp [Nat.add_comm (8 * k), rowTime_add, ← Nat.add_assoc]) (by simp [cab_hi])

theorem u_lo (a b k : ℕ) (h) (y : S256x1408.Idx) : u I T a b ![8 * k, 0] h y = I.past (256 * T + rowTime (y 0).val + k) (a + (y 1).val) := by
  have h1 : (y 1).val < 1408 := (y 1).isLt
  exact congrArg₂ I.past (by simp [Nat.add_comm (8 * k), rowTime_add, ← Nat.add_assoc]) (by simp [cab_lo, h1])

theorem u_hi (a b k : ℕ) (h) (y : S256x1408.Idx) : u I T a b ![8 * k, 1408] h y = I.past (256 * T + rowTime (y 0).val + k) (b + (y 1).val) :=
  congrArg₂ I.past (by simp [Nat.add_comm (8 * k), rowTime_add, ← Nat.add_assoc]) (by simp [cab_hi])

theorem ldc_eq (k c : ℕ) (h) (n : Fin 1408) : ldc I ![k, c] h (ix2 0 n) = I.cw k (c + n.val) := congrArg₂ I.cw (by simp) (by simp)

theorem dhu0 : k0_pay33 (F := Ideal) (ldc I ![0, 0] inb_S3x5632_S1x1408_0_0) (d I T 0 2816 ![16, 0] inb_S272x2816_S256x1408_16_0) (ldc I ![1, 0] inb_S3x5632_S1x1408_1_0) (d I T 0 2816 ![8, 0] inb_S272x2816_S256x1408_8_0) (ldc I ![2, 0] inb_S3x5632_S1x1408_2_0) (d I T 0 2816 ![0, 0] inb_S272x2816_S256x1408_0_0) = dhuB I T 0 := by
  funext y
  have e := fun k h => d_lo I T 0 2816 k h y
  have e0 := e 0
  have e1 := e 1
  have e2 := e 2
  simp only [Nat.mul_zero, Nat.mul_one, Nat.reduceMul] at e0 e1 e2
  pointwise [k0_pay33, e0, e1, e2, ldc_eq, dhuB, Ins.dhu]

theorem part0 : k0_pay34 (F := Ideal) (ldc I ![0, 0] inb_S3x5632_S1x1408_0_0) (d I T 0 2816 ![16, 0] inb_S272x2816_S256x1408_16_0) (ldc I ![1, 0] inb_S3x5632_S1x1408_1_0) (d I T 0 2816 ![8, 0] inb_S272x2816_S256x1408_8_0) (ldc I ![2, 0] inb_S3x5632_S1x1408_2_0) (d I T 0 2816 ![0, 0] inb_S272x2816_S256x1408_0_0) (ldw I ![0, 0, 0] inb_S4x1024x1408_S1x1024x1408_0_0_0) = partB I T 0 := by
  funext y
  pointwise [k0_pay34, dhu0, partB, dhuB, wB, View.ld, Ins.part]

theorem dhu2 : k0_pay40 (F := Ideal) (k0_pay39 (ldc I ![0, 2816] inb_S3x5632_S1x1408_0_2816) (d I T 0 2816 ![16, 1408] inb_S272x2816_S256x1408_16_1408) (ldc I ![1, 2816] inb_S3x5632_S1x1408_1_2816) (d I T 0 2816 ![8, 1408] inb_S272x2816_S256x1408_8_1408)) (ldc I ![2, 2816] inb_S3x5632_S1x1408_2_2816) (d I T 0 2816 ![0, 1408] inb_S272x2816_S256x1408_0_1408) = dhuB I T 2 := by
  funext y
  have e := fun k h => d_hi I T 0 2816 k h y
  have e0 := e 0
  have e1 := e 1
  have e2 := e 2
  simp only [Nat.mul_zero, Nat.mul_one, Nat.reduceMul] at e0 e1 e2
  pointwise [k0_pay40, k0_pay39, e0, e1, e2, ldc_eq, dhuB, Ins.dhu]

theorem part2 : k0_pay41 (F := Ideal) (k0_pay39 (ldc I ![0, 2816] inb_S3x5632_S1x1408_0_2816) (d I T 0 2816 ![16, 1408] inb_S272x2816_S256x1408_16_1408) (ldc I ![1, 2816] inb_S3x5632_S1x1408_1_2816) (d I T 0 2816 ![8, 1408] inb_S272x2816_S256x1408_8_1408)) (ldc I ![2, 2816] inb_S3x5632_S1x1408_2_2816) (d I T 0 2816 ![0, 1408] inb_S272x2816_S256x1408_0_1408) (ldw I ![2, 0, 0] inb_S4x1024x1408_S1x1024x1408_2_0_0) = partB I T 2 := by
  funext y
  pointwise [k0_pay41, dhu2, partB, dhuB, wB, View.ld, Ins.part]

theorem dhu1 : k0_pay65 (F := Ideal) (d I T 1408 4224 ![16, 0] inb_S272x2816_S256x1408_16_0) (k0_pay64 (ldc I ![0, 1408] inb_S3x5632_S1x1408_0_1408)) (ldc I ![1, 1408] inb_S3x5632_S1x1408_1_1408) (d I T 1408 4224 ![8, 0] inb_S272x2816_S256x1408_8_0) (ldc I ![2, 1408] inb_S3x5632_S1x1408_2_1408) (d I T 1408 4224 ![0, 0] inb_S272x2816_S256x1408_0_0) = dhuB I T 1 := by
  funext y
  have e := fun k h => d_lo I T 1408 4224 k h y
  have e0 := e 0
  have e1 := e 1
  have e2 := e 2
  simp only [Nat.mul_zero, Nat.mul_one, Nat.reduceMul] at e0 e1 e2
  pointwise [k0_pay65, k0_pay64, e0, e1, e2, ldc_eq, dhuB, Ins.dhu]

theorem part1 : k0_pay66 (F := Ideal) (d I T 1408 4224 ![16, 0] inb_S272x2816_S256x1408_16_0) (k0_pay64 (ldc I ![0, 1408] inb_S3x5632_S1x1408_0_1408)) (ldc I ![1, 1408] inb_S3x5632_S1x1408_1_1408) (d I T 1408 4224 ![8, 0] inb_S272x2816_S256x1408_8_0) (ldc I ![2, 1408] inb_S3x5632_S1x1408_2_1408) (d I T 1408 4224 ![0, 0] inb_S272x2816_S256x1408_0_0) (ldw I ![1, 0, 0] inb_S4x1024x1408_S1x1024x1408_1_0_0) = partB I T 1 := by
  funext y
  pointwise [k0_pay66, dhu1, partB, dhuB, wB, View.ld, Ins.part]

theorem dhu3 : k0_pay70 (F := Ideal) (ldc I ![0, 4224] inb_S3x5632_S1x1408_0_4224) (d I T 1408 4224 ![16, 1408] inb_S272x2816_S256x1408_16_1408) (ldc I ![1, 4224] inb_S3x5632_S1x1408_1_4224) (d I T 1408 4224 ![8, 1408] inb_S272x2816_S256x1408_8_1408) (ldc I ![2, 4224] inb_S3x5632_S1x1408_2_4224) (d I T 1408 4224 ![0, 1408] inb_S272x2816_S256x1408_0_1408) = dhuB I T 3 := by
  funext y
  have e := fun k h => d_hi I T 1408 4224 k h y
  have e0 := e 0
  have e1 := e 1
  have e2 := e 2
  simp only [Nat.mul_zero, Nat.mul_one, Nat.reduceMul] at e0 e1 e2
  pointwise [k0_pay70, e0, e1, e2, ldc_eq, dhuB, Ins.dhu]

/-! The taps' gradients, a row of a column block each. -/

variable (x : Vec Ideal S1x1408 .f32)

theorem tap00 : k0_pay30 (F := Ideal) (d I T 0 2816 ![0, 0] inb_S272x2816_S256x1408_0_0) (u I T 0 2816 ![0, 0] inb_S272x2816_S256x1408_0_0) x = tapRow I T 0 0 x := by
  funext y
  have e := fun h => d_lo I T 0 2816 0 h
  have e' := fun h => u_lo I T 0 2816 0 h
  simp only [Nat.mul_zero, Nat.mul_one, Nat.reduceMul] at e e'
  pointwise [k0_pay30, e, e', tapRow, Ins.tap]

theorem tap01 : k0_pay31 (F := Ideal) (d I T 0 2816 ![0, 0] inb_S272x2816_S256x1408_0_0) (u I T 0 2816 ![8, 0] inb_S272x2816_S256x1408_8_0) x = tapRow I T 1 0 x := by
  funext y
  have e := fun h => d_lo I T 0 2816 0 h
  have e' := fun h => u_lo I T 0 2816 1 h
  simp only [Nat.mul_zero, Nat.mul_one, Nat.reduceMul] at e e'
  pointwise [k0_pay31, e, e', tapRow, Ins.tap]

theorem tap02 : k0_pay32 (F := Ideal) (d I T 0 2816 ![0, 0] inb_S272x2816_S256x1408_0_0) (u I T 0 2816 ![16, 0] inb_S272x2816_S256x1408_16_0) x = tapRow I T 2 0 x := by
  funext y
  have e := fun h => d_lo I T 0 2816 0 h
  have e' := fun h => u_lo I T 0 2816 2 h
  simp only [Nat.mul_zero, Nat.mul_one, Nat.reduceMul] at e e'
  pointwise [k0_pay32, e, e', tapRow, Ins.tap]

theorem tap20 : k0_pay36 (F := Ideal) (d I T 0 2816 ![0, 1408] inb_S272x2816_S256x1408_0_1408) (u I T 0 2816 ![0, 1408] inb_S272x2816_S256x1408_0_1408) (k0_pay35 x) = tapRow I T 0 2816 x := by
  funext y
  have e := fun h => d_hi I T 0 2816 0 h
  have e' := fun h => u_hi I T 0 2816 0 h
  simp only [Nat.mul_zero, Nat.mul_one, Nat.reduceMul] at e e'
  pointwise [k0_pay36, k0_pay35, e, e', tapRow, Ins.tap]

theorem tap21 : k0_pay37 (F := Ideal) (d I T 0 2816 ![0, 1408] inb_S272x2816_S256x1408_0_1408) (u I T 0 2816 ![8, 1408] inb_S272x2816_S256x1408_8_1408) x = tapRow I T 1 2816 x := by
  funext y
  have e := fun h => d_hi I T 0 2816 0 h
  have e' := fun h => u_hi I T 0 2816 1 h
  simp only [Nat.mul_zero, Nat.mul_one, Nat.reduceMul] at e e'
  pointwise [k0_pay37, e, e', tapRow, Ins.tap]

theorem tap22 : k0_pay38 (F := Ideal) (d I T 0 2816 ![0, 1408] inb_S272x2816_S256x1408_0_1408) (u I T 0 2816 ![16, 1408] inb_S272x2816_S256x1408_16_1408) x = tapRow I T 2 2816 x := by
  funext y
  have e := fun h => d_hi I T 0 2816 0 h
  have e' := fun h => u_hi I T 0 2816 2 h
  simp only [Nat.mul_zero, Nat.mul_one, Nat.reduceMul] at e e'
  pointwise [k0_pay38, e, e', tapRow, Ins.tap]

theorem tap10 : k0_pay61 (F := Ideal) (d I T 1408 4224 ![0, 0] inb_S272x2816_S256x1408_0_0) (u I T 1408 4224 ![0, 0] inb_S272x2816_S256x1408_0_0) x = tapRow I T 0 1408 x := by
  funext y
  have e := fun h => d_lo I T 1408 4224 0 h
  have e' := fun h => u_lo I T 1408 4224 0 h
  simp only [Nat.mul_zero, Nat.mul_one, Nat.reduceMul] at e e'
  pointwise [k0_pay61, e, e', tapRow, Ins.tap]

theorem tap11 : k0_pay62 (F := Ideal) (d I T 1408 4224 ![0, 0] inb_S272x2816_S256x1408_0_0) (u I T 1408 4224 ![8, 0] inb_S272x2816_S256x1408_8_0) x = tapRow I T 1 1408 x := by
  funext y
  have e := fun h => d_lo I T 1408 4224 0 h
  have e' := fun h => u_lo I T 1408 4224 1 h
  simp only [Nat.mul_zero, Nat.mul_one, Nat.reduceMul] at e e'
  pointwise [k0_pay62, e, e', tapRow, Ins.tap]

theorem tap12 : k0_pay63 (F := Ideal) (d I T 1408 4224 ![0, 0] inb_S272x2816_S256x1408_0_0) (u I T 1408 4224 ![16, 0] inb_S272x2816_S256x1408_16_0) x = tapRow I T 2 1408 x := by
  funext y
  have e := fun h => d_lo I T 1408 4224 0 h
  have e' := fun h => u_lo I T 1408 4224 2 h
  simp only [Nat.mul_zero, Nat.mul_one, Nat.reduceMul] at e e'
  pointwise [k0_pay63, e, e', tapRow, Ins.tap]

theorem tap30 : k0_pay67 (F := Ideal) (d I T 1408 4224 ![0, 1408] inb_S272x2816_S256x1408_0_1408) (u I T 1408 4224 ![0, 1408] inb_S272x2816_S256x1408_0_1408) x = tapRow I T 0 4224 x := by
  funext y
  have e := fun h => d_hi I T 1408 4224 0 h
  have e' := fun h => u_hi I T 1408 4224 0 h
  simp only [Nat.mul_zero, Nat.mul_one, Nat.reduceMul] at e e'
  pointwise [k0_pay67, e, e', tapRow, Ins.tap]

theorem tap31 : k0_pay68 (F := Ideal) (d I T 1408 4224 ![0, 1408] inb_S272x2816_S256x1408_0_1408) (u I T 1408 4224 ![8, 1408] inb_S272x2816_S256x1408_8_1408) x = tapRow I T 1 4224 x := by
  funext y
  have e := fun h => d_hi I T 1408 4224 0 h
  have e' := fun h => u_hi I T 1408 4224 1 h
  simp only [Nat.mul_zero, Nat.mul_one, Nat.reduceMul] at e e'
  pointwise [k0_pay68, e, e', tapRow, Ins.tap]

theorem tap32 : k0_pay69 (F := Ideal) (d I T 1408 4224 ![0, 1408] inb_S272x2816_S256x1408_0_1408) (u I T 1408 4224 ![16, 1408] inb_S272x2816_S256x1408_16_1408) x = tapRow I T 2 4224 x := by
  funext y
  have e := fun h => d_hi I T 1408 4224 0 h
  have e' := fun h => u_hi I T 1408 4224 2 h
  simp only [Nat.mul_zero, Nat.mul_one, Nat.reduceMul] at e e'
  pointwise [k0_pay69, e, e', tapRow, Ins.tap]

/-! The norm of the residual stream. -/

theorem dhn_eq : k0_pay71 (F := Ideal) (partB I T 0) (partB I T 2) (partB I T 1) (dhuB I T 3) (ldw I ![3, 0, 0] inb_S4x1024x1408_S1x1024x1408_3_0_0) = dhnB I T := by
  funext y
  pointwise [k0_pay71, partB, dhnB, dhuB, wB, View.ld, Ins.dhn, Ins.part]

theorem hn_eq : k0_pay77 (F := Ideal) (hB I T) (gB I) = hnB I T := by
  funext y
  pointwise [k0_pay77, k0_pay76, k0_pay75, k0_pay73, k0_pay72, hB, gB, hnB, Ins.hn, Ins.xhat, Ins.r, rstd]

theorem gain_eq (z : Vec Ideal S1x1024 .f32) : k0_pay1 (F := Ideal) (k0_pay78 z)
    (k0_pay79 (partB I T 0) (partB I T 2) (partB I T 1) (dhuB I T 3) (ldw I ![3, 0, 0] inb_S4x1024x1408_S1x1024x1408_3_0_0) (hB I T)) = gainRow I T z := by
  funext y
  pointwise [k0_pay1, k0_pay78, k0_pay79, dhn_eq, k0_pay76, k0_pay75, k0_pay72, hB, dhnB, gainRow, Ins.gain, Ins.xhat, Ins.r, rstd]

/-- The time of a row as the body computes it. -/
theorem row_word (r : Fin 256) : IntOp.addi (IntOp.muli (IntOp.andi (BitVec.ofNat 32 r.val) 7#32) 32#32)
    (IntOp.shrsi ArithUnit.vector (BitVec.ofNat 32 r.val) 3#32) = BitVec.ofNat 32 (rowTime r.val) := by
  revert r; decide +kernel

theorem tile_word (T : Fin 65) : Scalar.muli (BitVec.ofNat 32 T.val) 256#32 = BitVec.ofNat 32 (256 * T.val) := by
  revert T; decide +kernel

theorem padded (n : Fin 16640) : IntOp.cmpi CmpIPredicate.sge (BitVec.ofNat 32 n.val) 240#32 = if 240 ≤ n.val then 1#1 else 0#1 := by
  revert n; decide +kernel

/-- A select on the time being past the padding. -/
theorem select_time {α : Type} (hT : T < 65) (r : ℕ) (h : r < 256) (a b : α) :
    Scalar.select (IntOp.cmpi CmpIPredicate.sge (IntOp.addi (IntOp.addi (IntOp.muli (IntOp.andi (BitVec.ofNat 32 r) 7#32) 32#32)
      (IntOp.shrsi ArithUnit.vector (BitVec.ofNat 32 r) 3#32)) (Scalar.muli (BitVec.ofNat 32 T) 256#32)) 240#32) a b = if 240 ≤ 256 * T + rowTime r then a else b := by
  have hr := rowTime_lt r h
  have h1 := row_word ⟨r, h⟩
  have h2 := tile_word ⟨T, hT⟩
  have h3 := padded ⟨rowTime r + 256 * T, by omega⟩
  dsimp only at h1 h2 h3
  rw [h1, h2, show IntOp.addi (BitVec.ofNat 32 (rowTime r)) (BitVec.ofNat 32 (256 * T)) = BitVec.ofNat 32 (rowTime r + 256 * T) from (BitVec.ofNat_add _ _).symm, h3]
  by_cases h' : 240 ≤ 256 * T + rowTime r
  · rw [if_pos (by omega), if_pos h']
    rfl
  · rw [if_neg (by omega), if_neg h']
    rfl

theorem dh_eq (hT : T < 65) : k0_pay2 (F := Ideal) (k0_pay6 (dB I T)) (dhnB I T) (k0_pay73 (gB I)) (k0_pay74 (BitVec.ofNat 32 T)) (k0_pay75 (hB I T)) (k0_pay76 (hB I T))
    = dhB I T := by
  funext y
  have h0 : (y 0).val < 256 := (y 0).isLt
  pointwise [k0_pay2, k0_pay6, k0_pay73, k0_pay74, k0_pay76, k0_pay75, k0_pay72, hB, dhnB, dB, gB, dhB, Ins.dh, Ins.xhat, Ins.r, rstd]
  exact select_time T hT _ h0 _ _

end Cert.Mlp

end
-- ==== Proof.Mlp.Point.lean ====
/- What every grid point leaves in its output blocks and in the rows it hands on: the tile's functions of time, and the accumulated
   rows as sums over the tiles so far. The points run from the last tile to the first. -/
module

public import proofs.«01_k».proof.Proof.Mlp.Step
public import proofs.«01_k».proof.Proof.Mlp.Grad

@[expose] public section

set_option maxRecDepth 16384

noncomputable section

open Idealize.ShloMosaic Idealize.ShloMosaic.TcCoe Idealize.SL.Sem

namespace Cert.Mlp

open Cert.Kernel2Ideal Cert.Kernel2Ideal.Gen Cert.Loss

variable (m : (ℓ : Loc nD τ sig) → Buf (Elt Ideal) ℓ) (I : Ins)

/-- The blocks of a grid point are the arrays `I` at the times of its tile. -/
structure At (c : Dev nD) (t : Fin cfg0.N) : Prop where
  d : iblk m c 0 t = dB I (64 - t.val)
  u : iblk m c 1 t = uB I (64 - t.val)
  halo : Halo I (64 - t.val) (iblk m c 2 t)
  hc : iblk m c 3 t = hcB I (64 - t.val)
  h : iblk m c 4 t = hB I (64 - t.val)
  g : iblk m c 5 t = gB I
  w : iblk m c 6 t = wB I
  cw : iblk m c 7 t = cwB I
  wd : iblk m c 8 t = wdB I

theorem tile (t : Fin cfg0.N) : Scalar.subi 64#32 (BitVec.ofNat 32 (grid0.coords t 0).val) = BitVec.ofNat 32 (64 - t.val) := by
  revert t; decide +kernel

theorem lt65 (t : Fin cfg0.N) : t.val < 65 := t.isLt

/-- What a point leaves over the accumulated rows `x` and `z`. -/
structure Leaves (T : ℕ) (o : St Ideal) (x : S8x5632.Idx → EReal) (z : S8x1024.Idx → EReal) : Prop where
  dh : o.dh = dhB I T
  dhu : ∀ y, o.dhu y = I.dhu (256 * T + rowTime (y 0).val) (y 1).val
  hn : o.hn = hnB I T
  head : ∀ y, o.head y = I.fut (256 * T + rowTime (y 0).val) (y 1).val
  dcw : ∀ y : S8x5632.Idx, (y 0).val < 3 → o.dcw y = x y + I.tap (y 0).val T (y 1).val
  dg : ∀ y : S8x1024.Idx, (y 0).val < 1 → o.dg y = z y + I.gain T (y 1).val

section
variable (T : ℕ)

/-- The four column blocks of the gradient of the up projection side by side. -/
theorem dhu_tiles (y : S256x5632.Idx) : View.canon (Val := Elt Ideal) (s := S256x5632) (e := .bf16)
    [⟨Rect.unit ![0, 4224] ![256, 1408] inb_S256x5632_S256x1408_0_4224, dhuB I T 3⟩, ⟨Rect.unit ![0, 1408] ![256, 1408] inb_S256x5632_S256x1408_0_1408, dhuB I T 1⟩,
      ⟨Rect.unit ![0, 2816] ![256, 1408] inb_S256x5632_S256x1408_0_2816, dhuB I T 2⟩, ⟨Rect.unit ![0, 0] ![256, 1408] inb_S256x5632_S256x1408_0_0, dhuB I T 0⟩] y
      = I.dhu (256 * T + rowTime (y 0).val) (y 1).val := by
  have hc := View.canon_append_of_piecesOf (Val := Elt Ideal) (e := .bf16) (fun y : S256x5632.Idx => I.dhu (256 * T + rowTime (y 0).val) (y 1).val) []
    [⟨Rect.unit ![0, 4224] ![256, 1408] inb_S256x5632_S256x1408_0_4224, dhuB I T 3⟩, ⟨Rect.unit ![0, 1408] ![256, 1408] inb_S256x5632_S256x1408_0_1408, dhuB I T 1⟩,
      ⟨Rect.unit ![0, 2816] ![256, 1408] inb_S256x5632_S256x1408_0_2816, dhuB I T 2⟩, ⟨Rect.unit ![0, 0] ![256, 1408] inb_S256x5632_S256x1408_0_0, dhuB I T 0⟩]
    (show View.PiecesOf (Val := Elt Ideal) (e := .bf16) (fun y : S256x5632.Idx => I.dhu (256 * T + rowTime (y 0).val) (y 1).val) _ from
      ⟨fun j => congrArg₂ I.dhu (by simp) (by simp), fun j => congrArg₂ I.dhu (by simp) (by simp), fun j => congrArg₂ I.dhu (by simp) (by simp), fun j => congrArg₂ I.dhu (by simp) (by simp), trivial⟩) y (by
      simp only [List.mem_cons, List.not_mem_nil, or_false, exists_eq_or_imp, exists_eq_left, Rect.mem_set_unit, Fin.forall_fin_two]
      have h0 : (y 0).val < 256 := (y 0).isLt
      have h1 : (y 1).val < 5632 := (y 1).isLt
      simp
      omega)
  simp only [List.append_nil] at hc
  exact hc

theorem keep_lo (a b : ℕ) (j : S16x1408.Idx) : ldb (dbuf I T a b) ![0, 0] ![16, 1408] inb_S272x2816_S16x1408_0_0 j = I.fut (256 * T + rowTime (j 0).val) (a + (j 1).val) := by
  have h1 : (j 1).val < 1408 := (j 1).isLt
  exact congrArg₂ I.fut (by simp) (by simp [cab_lo, h1])

theorem keep_hi (a b : ℕ) (j : S16x1408.Idx) : ldb (dbuf I T a b) ![0, 1408] ![16, 1408] inb_S272x2816_S16x1408_0_1408 j = I.fut (256 * T + rowTime (j 0).val) (b + (j 1).val) :=
  congrArg₂ I.fut (by simp) (by simp [cab_hi])

/-- The first rows of the convolution's gradient side by side. -/
theorem head_tiles (L : List (View.Piece (Elt Ideal) S16x5632 .f32)) (y : S16x5632.Idx) : View.canon (Val := Elt Ideal) (s := S16x5632) (e := .f32)
    (⟨Rect.unit ![0, 4224] ![16, 1408] inb_S16x5632_S16x1408_0_4224, k0_pay57 (ldb (dbuf I T 1408 4224) ![0, 1408] ![16, 1408] inb_S272x2816_S16x1408_0_1408)⟩ ::
      ⟨Rect.unit ![0, 1408] ![16, 1408] inb_S16x5632_S16x1408_0_1408, k0_pay56 (ldb (dbuf I T 1408 4224) ![0, 0] ![16, 1408] inb_S272x2816_S16x1408_0_0)⟩ ::
      ⟨Rect.unit ![0, 2816] ![16, 1408] inb_S16x5632_S16x1408_0_2816, k0_pay25 (ldb (dbuf I T 0 2816) ![0, 1408] ![16, 1408] inb_S272x2816_S16x1408_0_1408)⟩ ::
      ⟨Rect.unit ![0, 0] ![16, 1408] inb_S16x5632_S16x1408_0_0, k0_pay24 (ldb (dbuf I T 0 2816) ![0, 0] ![16, 1408] inb_S272x2816_S16x1408_0_0)⟩ :: L) y
      = I.fut (256 * T + rowTime (y 0).val) (y 1).val := by
  have hc := View.canon_append_of_piecesOf (Val := Elt Ideal) (e := .f32) (fun y : S16x5632.Idx => I.fut (256 * T + rowTime (y 0).val) (y 1).val) L
    [⟨Rect.unit ![0, 4224] ![16, 1408] inb_S16x5632_S16x1408_0_4224, k0_pay57 (ldb (dbuf I T 1408 4224) ![0, 1408] ![16, 1408] inb_S272x2816_S16x1408_0_1408)⟩,
      ⟨Rect.unit ![0, 1408] ![16, 1408] inb_S16x5632_S16x1408_0_1408, k0_pay56 (ldb (dbuf I T 1408 4224) ![0, 0] ![16, 1408] inb_S272x2816_S16x1408_0_0)⟩,
      ⟨Rect.unit ![0, 2816] ![16, 1408] inb_S16x5632_S16x1408_0_2816, k0_pay25 (ldb (dbuf I T 0 2816) ![0, 1408] ![16, 1408] inb_S272x2816_S16x1408_0_1408)⟩,
      ⟨Rect.unit ![0, 0] ![16, 1408] inb_S16x5632_S16x1408_0_0, k0_pay24 (ldb (dbuf I T 0 2816) ![0, 0] ![16, 1408] inb_S272x2816_S16x1408_0_0)⟩]
    (show View.PiecesOf (Val := Elt Ideal) (e := .f32) (fun y : S16x5632.Idx => I.fut (256 * T + rowTime (y 0).val) (y 1).val) _ from
      ⟨fun j => Eq.trans (by pointwise [k0_pay57, keep_hi]) (congrArg₂ I.fut (by simp) (by simp) : I.fut (256 * T + rowTime (j 0).val) (4224 + (j 1).val) = _),
        fun j => Eq.trans (by pointwise [k0_pay56, keep_lo]) (congrArg₂ I.fut (by simp) (by simp) : I.fut (256 * T + rowTime (j 0).val) (1408 + (j 1).val) = _),
        fun j => Eq.trans (by pointwise [k0_pay25, keep_hi]) (congrArg₂ I.fut (by simp) (by simp) : I.fut (256 * T + rowTime (j 0).val) (2816 + (j 1).val) = _),
        fun j => Eq.trans (by pointwise [k0_pay24, keep_lo]) (congrArg₂ I.fut (by simp) (by simp) : I.fut (256 * T + rowTime (j 0).val) (0 + (j 1).val) = _), trivial⟩) y (by
      simp only [List.mem_cons, List.not_mem_nil, or_false, exists_eq_or_imp, exists_eq_left, Rect.mem_set_unit, Fin.forall_fin_two]
      have h0 : (y 0).val < 16 := (y 0).isLt
      have h1 : (y 1).val < 5632 := (y 1).isLt
      simp
      omega)
  exact hc

/-- The stores of the taps' gradients over the rows `x`. -/
abbrev tapPieces (x : Vec Ideal S8x5632 .f32) : List (View.Piece (Elt Ideal) S8x5632 .f32) :=
  [⟨Rect.unit ![2, 4224] ![1, 1408] inb_S8x5632_S1x1408_2_4224, tapRow I T 2 4224 (View.ld x (Rect.unit (s := S8x5632) ![2, 4224] ![1, 1408] inb_S8x5632_S1x1408_2_4224))⟩,
    ⟨Rect.unit ![1, 4224] ![1, 1408] inb_S8x5632_S1x1408_1_4224, tapRow I T 1 4224 (View.ld x (Rect.unit (s := S8x5632) ![1, 4224] ![1, 1408] inb_S8x5632_S1x1408_1_4224))⟩,
    ⟨Rect.unit ![0, 4224] ![1, 1408] inb_S8x5632_S1x1408_0_4224, tapRow I T 0 4224 (View.ld x (Rect.unit (s := S8x5632) ![0, 4224] ![1, 1408] inb_S8x5632_S1x1408_0_4224))⟩,
    ⟨Rect.unit ![2, 1408] ![1, 1408] inb_S8x5632_S1x1408_2_1408, tapRow I T 2 1408 (View.ld x (Rect.unit (s := S8x5632) ![2, 1408] ![1, 1408] inb_S8x5632_S1x1408_2_1408))⟩,
    ⟨Rect.unit ![1, 1408] ![1, 1408] inb_S8x5632_S1x1408_1_1408, tapRow I T 1 1408 (View.ld x (Rect.unit (s := S8x5632) ![1, 1408] ![1, 1408] inb_S8x5632_S1x1408_1_1408))⟩,
    ⟨Rect.unit ![0, 1408] ![1, 1408] inb_S8x5632_S1x1408_0_1408, tapRow I T 0 1408 (View.ld x (Rect.unit (s := S8x5632) ![0, 1408] ![1, 1408] inb_S8x5632_S1x1408_0_1408))⟩,
    ⟨Rect.unit ![2, 2816] ![1, 1408] inb_S8x5632_S1x1408_2_2816, tapRow I T 2 2816 (View.ld x (Rect.unit (s := S8x5632) ![2, 2816] ![1, 1408] inb_S8x5632_S1x1408_2_2816))⟩,
    ⟨Rect.unit ![1, 2816] ![1, 1408] inb_S8x5632_S1x1408_1_2816, tapRow I T 1 2816 (View.ld x (Rect.unit (s := S8x5632) ![1, 2816] ![1, 1408] inb_S8x5632_S1x1408_1_2816))⟩,
    ⟨Rect.unit ![0, 2816] ![1, 1408] inb_S8x5632_S1x1408_0_2816, tapRow I T 0 2816 (View.ld x (Rect.unit (s := S8x5632) ![0, 2816] ![1, 1408] inb_S8x5632_S1x1408_0_2816))⟩,
    ⟨Rect.unit ![2, 0] ![1, 1408] inb_S8x5632_S1x1408_2_0, tapRow I T 2 0 (View.ld x (Rect.unit (s := S8x5632) ![2, 0] ![1, 1408] inb_S8x5632_S1x1408_2_0))⟩,
    ⟨Rect.unit ![1, 0] ![1, 1408] inb_S8x5632_S1x1408_1_0, tapRow I T 1 0 (View.ld x (Rect.unit (s := S8x5632) ![1, 0] ![1, 1408] inb_S8x5632_S1x1408_1_0))⟩,
    ⟨Rect.unit ![0, 0] ![1, 1408] inb_S8x5632_S1x1408_0_0, tapRow I T 0 0 (View.ld x (Rect.unit (s := S8x5632) ![0, 0] ![1, 1408] inb_S8x5632_S1x1408_0_0))⟩]

theorem tap_of (x : Vec Ideal S8x5632 .f32) (k c : ℕ) (h) (j : S1x1408.Idx) :
    tapRow I T k c (View.ld x (Rect.unit (s := S8x5632) ![k, c] ![1, 1408] h)) j
      = (fun y : S8x5632.Idx => x y + I.tap (y 0).val T (y 1).val) ((Rect.unit (s := S8x5632) ![k, c] ![1, 1408] h).emb j) := by
  have h0 : (j 0).val < 1 := (j 0).isLt
  exact congrArg₂ (fun a b : EReal => a + b) rfl (congrArg₂ (fun k c => I.tap k T c) (by simp) (by simp))

theorem tap_pieces (x : Vec Ideal S8x5632 .f32) : View.PiecesOf (Val := Elt Ideal) (e := .f32) (fun y : S8x5632.Idx => x y + I.tap (y 0).val T (y 1).val) (tapPieces I T x) :=
  ⟨tap_of I T x _ _ _, tap_of I T x _ _ _, tap_of I T x _ _ _, tap_of I T x _ _ _, tap_of I T x _ _ _, tap_of I T x _ _ _, tap_of I T x _ _ _, tap_of I T x _ _ _, tap_of I T x _ _ _, tap_of I T x _ _ _, tap_of I T x _ _ _, tap_of I T x _ _ _, trivial⟩

theorem tap_cover (x : Vec Ideal S8x5632 .f32) (y : S8x5632.Idx) (h : (y 0).val < 3) : ∃ p ∈ tapPieces I T x, y ∈ p.1.set := by
  simp only [List.mem_cons, List.not_mem_nil, or_false, exists_eq_or_imp, exists_eq_left, Rect.mem_set_unit, Fin.forall_fin_two]
  have h1 : (y 1).val < 5632 := (y 1).isLt
  simp
  omega

theorem tap_canon (x : Vec Ideal S8x5632 .f32) (L) (y : S8x5632.Idx) (h : (y 0).val < 3) :
    View.canon (tapPieces I T x ++ L) y = x y + I.tap (y 0).val T (y 1).val :=
  View.canon_append_of_piecesOf _ L _ (tap_pieces I T x) y (tap_cover I T x y h)

theorem tap_writes {κ : Kind} {sp : Space} (v : View sig κ sp S8x5632 .f32) (f) (x : Vec Ideal S8x5632 .f32) (y : S8x5632.Idx) (h : (y 0).val < 3) :
    v.read (Elt Ideal) (v.writes (Elt Ideal) f (tapPieces I T x)) y = x y + I.tap (y 0).val T (y 1).val := by
  rw [View.read_writes_apply_eq_canon v f y _ (tap_cover I T x y h)]
  have := tap_canon I T x [] y h
  rwa [List.append_nil] at this

/-- The store of the gain's gradient over the row `z`. -/
abbrev gainPiece (z : Vec Ideal S8x1024 .f32) : View.Piece (Elt Ideal) S8x1024 .f32 :=
  ⟨Rect.unit ![0, 0] ![1, 1024] inb_S8x1024_S1x1024_0_0, gainRow I T (View.ld z (Rect.unit (s := S8x1024) ![0, 0] ![1, 1024] inb_S8x1024_S1x1024_0_0))⟩

theorem gain_of (z : Vec Ideal S8x1024 .f32) (j : S1x1024.Idx) : gainRow I T (View.ld z (Rect.unit (s := S8x1024) ![0, 0] ![1, 1024] inb_S8x1024_S1x1024_0_0)) j
    = (fun y : S8x1024.Idx => z y + I.gain T (y 1).val) ((Rect.unit (s := S8x1024) ![0, 0] ![1, 1024] inb_S8x1024_S1x1024_0_0).emb j) :=
  congrArg₂ (fun a b : EReal => a + b) rfl (congrArg (I.gain T) (by simp))

theorem gain_mem (y : S8x1024.Idx) (h : (y 0).val < 1) : y ∈ (Rect.unit (s := S8x1024) ![0, 0] ![1, 1024] inb_S8x1024_S1x1024_0_0).set := by
  have h1 : (y 1).val < 1024 := (y 1).isLt
  simp [Rect.mem_set_unit, Fin.forall_fin_two]
  omega

theorem gain_pieces (z : Vec Ideal S8x1024 .f32) : View.PiecesOf (Val := Elt Ideal) (e := .f32) (fun y : S8x1024.Idx => z y + I.gain T (y 1).val) [gainPiece I T z] :=
  ⟨gain_of I T z, trivial⟩

theorem gain_cover (z : Vec Ideal S8x1024 .f32) (y : S8x1024.Idx) (h : (y 0).val < 1) : ∃ p ∈ [gainPiece I T z], y ∈ p.1.set :=
  ⟨gainPiece I T z, List.mem_cons_self, gain_mem y h⟩

theorem gain_canon (z : Vec Ideal S8x1024 .f32) (L) (y : S8x1024.Idx) (h : (y 0).val < 1) : View.canon (gainPiece I T z :: L) y = z y + I.gain T (y 1).val :=
  View.canon_append_of_piecesOf (Val := Elt Ideal) (e := .f32) (fun y : S8x1024.Idx => z y + I.gain T (y 1).val) L [gainPiece I T z] (gain_pieces I T z) y
    (gain_cover I T z y h)

theorem gain_writes {κ : Kind} {sp : Space} (v : View sig κ sp S8x1024 .f32) (f) (z : Vec Ideal S8x1024 .f32) (y : S8x1024.Idx) (h : (y 0).val < 1) :
    v.read (Elt Ideal) (v.writes (Elt Ideal) f [gainPiece I T z]) y = z y + I.gain T (y 1).val := by
  rw [View.read_writes_apply_eq_canon v f y _ (gain_cover I T z y h)]
  exact gain_canon I T z [] y h

end

theorem step_first (c : Dev nD) (t : Fin cfg0.N) (a : At m I c t) (h : t.val % 65 = 0) :
    Leaves I (64 - t.val) (first m c t h) (k0_pay4 (F := Ideal)) (k0_pay5 (F := Ideal)) := by
  have hT : 64 - t.val < 65 := by omega
  have hp : k0_pay3 (F := Ideal) = headB I (64 - t.val) := by
    have h0 : t.val = 0 := by have := lt65 t; omega
    funext y
    pointwise [k0_pay3, headB]
    rw [Ins.fut, if_neg (by omega)]
  have p0 := prev0 I _ hT _ a.halo (grid0.coords t) (tile t)
  have p1 := prev1 I _ hT _ a.halo
  have p2 := prev2 I _ hT _ a.halo
  have p3 := prev3 I _ hT _ a.halo
  constructor
  all_goals
    unfold first; dsimp only [runFirst]
    frame_open
    simp (disch := decide) only [↓ View.readCov_skip, ↓ View.readCov_cons_toLoadRect, ↓ View.readCov_fill]
    frame_out
    simp (disch := decide) only [read_unread_whole, a.d, a.u, a.hc, a.h, a.g, a.w, a.cw, a.wd, tile, hp, p0, p1, p2, p3, gate0 I _ hT, gate1 I _ hT, val0 I _ hT, val1 I _ hT,
      head0, head1, head2, head3, link256, link264, link256', link264', rows0_up, rows1_up, rows2_up, rows3_up, link0, link8, link0', link8',
      read_one, read_own, read_next, read_next', read_head, read_up, read_halo, read_prev, read_prev',
      dhu0, dhu1, dhu2, dhu3, part0, part1, part2, tap00, tap01, tap02, tap10, tap11, tap12, tap20, tap21, tap22, tap30, tap31, tap32, dhn_eq, hn_eq, gain_eq, dh_eq I _ hT]
  · exact dhu_tiles I _
  · exact head_tiles I _ _
  · exact fun y h => tap_canon I _ _ [_] y h
  · exact fun y h => gain_canon I _ _ [_] y h

theorem step_next (c : Dev nD) (t : Fin cfg0.N) (a : At m I c t) (h : ¬t.val % 65 = 0) (p : St Ideal) (hp : p.head = headB I (64 - t.val)) :
    Leaves I (64 - t.val) (next m c t h p) p.dcw p.dg := by
  have hT : 64 - t.val < 65 := by omega
  have p0 := prev0 I _ hT _ a.halo (grid0.coords t) (tile t)
  have p1 := prev1 I _ hT _ a.halo
  have p2 := prev2 I _ hT _ a.halo
  have p3 := prev3 I _ hT _ a.halo
  constructor
  all_goals
    unfold next; dsimp only [runNext]
    frame_open
    simp (disch := decide) only [↓ View.readCov_skip, ↓ View.readCov_cons_toLoadRect, ↓ View.readCov_fill]
    frame_out
    simp (disch := decide) only [read_unread_whole, a.d, a.u, a.hc, a.h, a.g, a.w, a.cw, a.wd, tile, hp, p0, p1, p2, p3, gate0 I _ hT, gate1 I _ hT, val0 I _ hT, val1 I _ hT,
      head0, head1, head2, head3, link256, link264, link256', link264', rows0_up, rows1_up, rows2_up, rows3_up, link0, link8, link0', link8',
      read_one, read_own, read_next, read_next', read_head, read_up, read_halo, read_prev, read_prev',
      dhu0, dhu1, dhu2, dhu3, part0, part1, part2, tap00, tap01, tap02, tap10, tap11, tap12, tap20, tap21, tap22, tap30, tap31, tap32, dhn_eq, hn_eq, gain_eq, dh_eq I _ hT]
  · exact dhu_tiles I _
  · exact head_tiles I _ _
  · exact fun y h => tap_writes I _ _ _ _ y h
  · exact fun y h => gain_writes I _ _ _ _ y h

/-- The sums over the tiles of the points so far. -/
structure Left (n : ℕ) (c : Dev nD) : Prop where
  dh : (outs m c n).dh = dhB I (64 - n)
  dhu : ∀ y, (outs m c n).dhu y = I.dhu (256 * (64 - n) + rowTime (y 0).val) (y 1).val
  hn : (outs m c n).hn = hnB I (64 - n)
  head : ∀ y, (outs m c n).head y = I.fut (256 * (64 - n) + rowTime (y 0).val) (y 1).val
  dcw : ∀ y : S8x5632.Idx, (y 0).val < 3 → (outs m c n).dcw y = ∑ j ∈ Finset.range (n + 1), I.tap (y 0).val (64 - j) (y 1).val
  dg : ∀ y : S8x1024.Idx, (y 0).val < 1 → (outs m c n).dg y = ∑ j ∈ Finset.range (n + 1), I.gain (64 - j) (y 1).val

/-- Every point, one after another. -/
theorem left (c : Dev nD) (a : ∀ t, At m I c t) : ∀ n, n < cfg0.N → Left m I n c
  | 0, h => by
    have e := outs_first m c ⟨0, h⟩ rfl
    have s := step_first m I c ⟨0, h⟩ (a _) rfl
    rw [← e] at s
    refine ⟨s.dh, s.dhu, s.hn, s.head, fun y hy => (s.dcw y hy).trans ?_, fun y hy => (s.dg y hy).trans ?_⟩
    · rw [Finset.sum_range_one]
      pointwise [k0_pay4]
    · rw [Finset.sum_range_one]
      pointwise [k0_pay5]
  | n + 1, h => by
    have hn : ¬(n + 1) % 65 = 0 := later n h
    have l := left c a n (Nat.lt_of_succ_lt h)
    have e := outs_next m c ⟨n + 1, h⟩ hn
    have s := step_next m I c ⟨n + 1, h⟩ (a _) hn (outs m c n) (funext fun y => (l.head y).trans (by
      have := lt65 ⟨n + 1, h⟩
      exact congrArg (fun t => I.fut t _) (by dsimp only at this ⊢; omega)))
    refine ⟨e ▸ s.dh, e ▸ s.dhu, e ▸ s.hn, e ▸ s.head, fun y hy => ?_, fun y hy => ?_⟩
    · rw [Finset.sum_range_succ, ← l.dcw y hy, e]
      exact s.dcw y hy
    · rw [Finset.sum_range_succ, ← l.dg y hy, e]
      exact s.dg y hy

end Cert.Mlp

end
-- ==== Proof.Mlp.Entry.lean ====
/- The blocks of a grid point read from the program's arguments: tiles of 256 rows whose row 8 j + s is time 32 s + j, the last tile first. -/
module

public import proofs.«01_k».proof.Proof.Mlp.Point
public import proofs.«01_k».proof.Proof.Loss.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (cD cEps rowTime rstd tile_time)

/-- An entry of an array by its two coordinates, zero past its end. -/
def at2 {a b : ℕ} (f : (⟨2, ![a, b]⟩ : Shape).Idx → EReal) (i k : ℕ) : EReal := if h : i < a ∧ k < b then f (ix2 ⟨i, h.1⟩ ⟨k, h.2⟩) else 0

theorem at2_eq {a b : ℕ} (f : (⟨2, ![a, b]⟩ : Shape).Idx → EReal) (i : Fin a) (k : Fin b) : at2 f i.val k.val = f (ix2 i k) := dif_pos ⟨i.isLt, k.isLt⟩

/-- The arguments of the program. -/
structure Args where
  h : S16400x1024.Idx → EReal
  g : S1024.Idx → EReal
  w : S1024x5632.Idx → EReal
  cw : S3x5632.Idx → EReal
  wd : S2816x1024.Idx → EReal
  ct : S16400x1024.Idx → EReal

variable (A : Args)

/-- A normed row of the sequence. -/
def Args.norm (t : Fin 16400) (k : Fin 1024) : EReal := A.h (ix2 t k) * rstd (fun k => A.h (ix2 t k)) * A.g (ix1 k)

/-- The up projection of the sequence. -/
def Args.hu (t : Fin 16400) (c : Fin 5632) : EReal := ∑ k : Fin 1024, A.norm t k * A.w (ix2 k c)

/-- The same two rows earlier, zero before the start. -/
def Args.past (t : ℕ) (h : t < 16402) (c : Fin 5632) : EReal := if h' : t < 2 then 0 else A.hu ⟨t - 2, by omega⟩ c

/-- The causal convolution with three taps. -/
def Args.hc (t : Fin 16400) (c : Fin 5632) : EReal :=
  A.past t.val (by omega) c * A.cw (ix2 0 c) + A.past (1 + t.val) (by omega) c * A.cw (ix2 1 c) + A.hu t c * A.cw (ix2 2 c)

/-- The call's arrays: the sequence behind 240 rows of zeros. -/
def mkIns : Ins where
  D τ k := if 240 ≤ τ then at2 A.ct (τ - 240) k else 0
  U τ c := if h : 240 ≤ τ ∧ τ < 16640 ∧ c < 5632 then A.hu ⟨τ - 240, by omega⟩ ⟨c, h.2.2⟩ else 0
  HC τ c := if h : 240 ≤ τ ∧ τ < 16640 ∧ c < 5632 then A.hc ⟨τ - 240, by omega⟩ ⟨c, h.2.2⟩ else 0
  H τ k := if 240 ≤ τ then at2 A.h (τ - 240) k else 0
  g k := if h : k < 1024 then A.g (ix1 ⟨k, h⟩) else 0
  w q k n := at2 A.w k (1408 * q + n)
  cw k c := at2 A.cw k c
  wd k c := at2 A.wd k c

variable (m : (ℓ : Loc nD τ sig) → Buf (Elt Ideal) ℓ)

/-- The arguments on a device. -/
def args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5)⟩

/-- The call's arrays on a device. -/
def ins (c : Dev nD) : Ins := mkIns (args m c)

theorem idx_d : ∀ t : Fin cfg0.N, win0_0.index t = ![64 - t.val, 0] := (by decide +kernel : ∀ t : Fin grid0.N, _)
theorem idx_u : ∀ t : Fin cfg0.N, win0_1.index t = ![64 - t.val, 0] := (by decide +kernel : ∀ t : Fin grid0.N, _)
theorem idx_c : ∀ t : Fin cfg0.N, win0_3.index t = ![64 - t.val, 0] := (by decide +kernel : ∀ t : Fin grid0.N, _)
theorem idx_h : ∀ t : Fin cfg0.N, win0_4.index t = ![64 - t.val, 0] := (by decide +kernel : ∀ t : Fin grid0.N, _)
theorem idx_g : ∀ t : Fin cfg0.N, win0_5.index t = ![0, 0] := (by decide +kernel : ∀ t : Fin grid0.N, _)
theorem idx_w : ∀ t : Fin cfg0.N, win0_6.index t = ![0, 0, 0] := (by decide +kernel : ∀ t : Fin grid0.N, _)
theorem idx_cw : ∀ t : Fin cfg0.N, win0_7.index t = ![0, 0] := (by decide +kernel : ∀ t : Fin grid0.N, _)
theorem idx_wd : ∀ t : Fin cfg0.N, win0_8.index t = ![0, 0] := (by decide +kernel : ∀ t : Fin grid0.N, _)

theorem idx_t : ∀ t : Fin cfg0.N, t.val < 64 → win0_2.index t = ![16 * (64 - t.val) - 1, 0] := (by decide +kernel : ∀ t : Fin grid0.N, _)

theorem ins_U (c : Dev nD) (τ k : ℕ) (h : 240 ≤ τ ∧ τ < 16640 ∧ k < 5632) : (ins m c).U τ k = (args m c).hu ⟨τ - 240, by omega⟩ ⟨k, h.2.2⟩ := dif_pos h

theorem ins_U_zero (c : Dev nD) (τ k : ℕ) (h : ¬240 ≤ τ) : (ins m c).U τ k = 0 := dif_neg fun h' => h h'.1

theorem ins_C (c : Dev nD) (τ k : ℕ) (h : 240 ≤ τ ∧ τ < 16640 ∧ k < 5632) : (ins m c).HC τ k = (args m c).hc ⟨τ - 240, by omega⟩ ⟨k, h.2.2⟩ := dif_pos h

theorem ins_C_zero (c : Dev nD) (τ k : ℕ) (h : ¬240 ≤ τ) : (ins m c).HC τ k = 0 := dif_neg fun h' => h h'.1

theorem ins_D (c : Dev nD) (τ k : ℕ) (h : 240 ≤ τ ∧ τ < 16640 ∧ k < 1024) :
    (ins m c).D τ k = (args m c).ct (ix2 ⟨τ - 240, by omega⟩ ⟨k, h.2.2⟩) :=
  (if_pos h.1).trans (dif_pos ⟨by omega, h.2.2⟩)

theorem ins_D_zero (c : Dev nD) (τ k : ℕ) (h : ¬240 ≤ τ) : (ins m c).D τ k = 0 := if_neg h

theorem ins_H (c : Dev nD) (τ k : ℕ) (h : 240 ≤ τ ∧ τ < 16640 ∧ k < 1024) :
    (ins m c).H τ k = (args m c).h (ix2 ⟨τ - 240, by omega⟩ ⟨k, h.2.2⟩) :=
  (if_pos h.1).trans (dif_pos ⟨by omega, h.2.2⟩)

theorem ins_H_zero (c : Dev nD) (τ k : ℕ) (h : ¬240 ≤ τ) : (ins m c).H τ k = 0 := if_neg h

theorem zero_word : (FloatOps.sitofp (F := Ideal) FTy.f32 0#32 : EReal) = 0 := by
  show (((0#32 : BitVec 32).toInt : ℝ) : EReal) = 0
  simp

/-- The time of a row of an array in tiles, by its row number. -/
abbrev timeOf (i : ℕ) : ℕ := i / 256 * 256 + i % 8 * 32 + i / 8 % 32

theorem row_lt {t : ℕ} (h : t < 16640) : t - 240 < 16400 := by omega

theorem timeOf_lt {i : ℕ} (h : i < 16640) : timeOf i < 16640 := by unfold timeOf; omega

end Cert.Mlp

end
-- ==== Proof.Mlp.EntryU.lean ====
/- The up projection as the call reads it: the block of a tile and the rows before it. -/
module

public import proofs.«01_k».proof.Proof.Mlp.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (cD cEps rowTime rstd tile_time)

variable (m : (ℓ : Loc nD τ sig) → Buf (Elt Ideal) ℓ)

/-- The array of the up projection. -/
theorem arr_u (c : Dev nD) (y : S16640x5632.Idx) : (V m c main_v47 : S16640x5632.Idx → EReal) y = (ins m c).U (timeOf (y 0).val) (y 1).val := by
  have hl := timeOf_lt (y 0).isLt
  have h1 : (y 1).val < 5632 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (ins_U m c _ _ ⟨hb, hl, h1⟩).symm
  · exact (dif_neg fun h => hb h.1).trans (zero_word.trans (ins_U_zero m c _ _ hb).symm)

/-- Its block at a tile. -/
theorem at_u (c : Dev nD) (t : Fin cfg0.N) : iblk m c 1 t = uB (ins m c) (64 - t.val) := by
  funext y
  have hr : (y 0).val < 256 := (y 0).isLt
  blk_simp [iblk]
  refine (arr_u m c _).trans ?_
  refine congrArg₂ (ins m c).U (Eq.trans ?_ (tile_time (64 - t.val) _ hr)) ?_
  · refine congrArg timeOf ?_
    blk_simp [idx_u t]
  · blk_simp [idx_u t]

/-- The rows before a tile. -/
theorem at_t (c : Dev nD) (t : Fin cfg0.N) : Halo (ins m c) (64 - t.val) (iblk m c 2 t) := by
  intro hT y
  have hr : (y 0).val < 16 := (y 0).isLt
  blk_simp [iblk]
  refine (arr_u m c _).trans ?_
  unfold Ins.past
  rw [if_pos (by simp only [rowTime]; omega)]
  refine congrArg₂ (ins m c).U ?_ ?_
  · have e := tile_time (64 - t.val - 1) (240 + (y 0).val) (by omega)
    have e' : 256 * (64 - t.val - 1) + rowTime (240 + (y 0).val) = 256 * (64 - t.val) + rowTime (y 0).val - 224 - 2 := by
      have h1 : (240 + (y 0).val) % 8 = (y 0).val % 8 := by omega
      have h2 : (240 + (y 0).val) / 8 = 30 + (y 0).val / 8 := by omega
      simp only [rowTime, h1, h2]
      omega
    refine Eq.trans (congrArg timeOf ?_) (e.trans e')
    blk_simp [idx_t t (by omega)]
    omega
  · blk_simp [idx_t t (by omega)]

end Cert.Mlp

end
-- ==== Proof.Mlp.EntryC.lean ====
/- The convolution as the call reads it. -/
module

public import proofs.«01_k».proof.Proof.Mlp.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (cD cEps rowTime rstd tile_time)

variable (m : (ℓ : Loc nD τ sig) → Buf (Elt Ideal) ℓ)

/-- The host lines before the call. -/
abbrev lines : List (HloOp τ sig (Elt Ideal)) := [hostOps0, hostOps0_1, hostOps0_2, hostOps0_3, hostOps0_4, hostOps0_5, hostOps0_6, hostOps0_7, hostOps0_8].flatten

theorem zeros (c : Dev nD) (y : S2x5632.Idx) : (StableHlo.upto lines (fun b => m (c, b)) 19 (Proc.tc.devRef main_v14) : S2x5632.Idx → EReal) y = (0 : EReal) := by
  dsimp only [lines, List.flatten_cons, List.flatten_nil, List.append_nil, List.cons_append, List.nil_append]
  after_reads_at

theorem rows (c : Dev nD) (i : Fin 16400) (k : Fin 5632) :
    (StableHlo.upto lines (fun b => m (c, b)) 19 (Proc.tc.devRef main_v13) : S16400x5632.Idx → EReal) (ix2 i k) = (args m c).hu i k := by
  dsimp only [lines, List.flatten_cons, List.flatten_nil, List.append_nil, List.cons_append, List.nil_append]
  after_reads_at
  rfl

/-- The convolution behind its 240 rows of zeros, from the rows and the zeros before them. -/
theorem close (A : Args) (t : ℕ) (hl : t < 16640) (k : Fin 5632) (z : S2x5632.Idx → EReal) (r : S16400x5632.Idx → EReal) (w : S3x5632.Idx → EReal)
    (hz : ∀ y, z y = 0) (hr : ∀ i k, r (ix2 i k) = A.hu i k) (hw : w = A.cw) :
    (if h : 240 ≤ t ∧ t - 240 < 16400 then
      (if h' : t - 240 < 2 then z (ix2 ⟨t - 240, h'⟩ k) else r (ix2 ⟨t - 240 - 2, by omega⟩ k)) * w (ix2 0 k)
        + (if h' : 1 + (t - 240) < 2 then z (ix2 ⟨1 + (t - 240), h'⟩ k) else r (ix2 ⟨1 + (t - 240) - 2, by omega⟩ k)) * w (ix2 1 k)
        + r (ix2 ⟨t - 240, h.2⟩ k) * w (ix2 2 k)
    else (FloatOps.sitofp (F := Ideal) FTy.f32 0#32 : EReal)) = (mkIns A).HC t k.val := by
  subst hw
  simp only [hz, hr]
  by_cases h : 240 ≤ t ∧ t - 240 < 16400
  · rw [dif_pos h]
    have hb : 240 ≤ t ∧ t < 16640 ∧ k.val < 5632 := ⟨h.1, hl, k.isLt⟩
    unfold mkIns
    dsimp only
    rw [dif_pos hb]
    rfl
  · rw [dif_neg h]
    have hb : ¬(240 ≤ t ∧ t < 16640 ∧ k.val < 5632) := fun hb => h ⟨hb.1, by omega⟩
    unfold mkIns
    dsimp only
    rw [dif_neg hb]
    exact zero_word

/-- The array of the convolution. -/
theorem arr_c (c : Dev nD) (y : S16640x5632.Idx) : (V m c main_v52 : S16640x5632.Idx → EReal) y = (ins m c).HC (timeOf (y 0).val) (y 1).val := by
  have hl := timeOf_lt (y 0).isLt
  have h1 : (y 1).val < 5632 := (y 1).isLt
  unfold V
  dsimp only [List.flatten_cons, List.flatten_nil, List.append_nil, List.cons_append, List.nil_append]
  after_reads_at
  exact close (args m c) _ hl (y 1) (StableHlo.upto lines (fun b => m (c, b)) 19 (Proc.tc.devRef main_v14))
    (StableHlo.upto lines (fun b => m (c, b)) 19 (Proc.tc.devRef main_v13)) (m (c, Proc.tc.devRef main_arg3)) (zeros m c) (rows m c) rfl

/-- Its block at a tile. -/
theorem at_c (c : Dev nD) (t : Fin cfg0.N) : iblk m c 3 t = hcB (ins m c) (64 - t.val) := by
  funext y
  have hr : (y 0).val < 256 := (y 0).isLt
  blk_simp [iblk]
  refine (arr_c m c _).trans ?_
  refine congrArg₂ (ins m c).HC (Eq.trans ?_ (tile_time (64 - t.val) _ hr)) ?_
  · refine congrArg timeOf ?_
    blk_simp [idx_c t]
  · blk_simp [idx_c t]

end Cert.Mlp

end
-- ==== Proof.Mlp.EntryD.lean ====
/- The other arrays as the call reads them. -/
module

public import proofs.«01_k».proof.Proof.Mlp.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (cD cEps rowTime rstd tile_time)

variable (m : (ℓ : Loc nD τ sig) → Buf (Elt Ideal) ℓ)

/-- The array of the gradient that comes in. -/
theorem arr_d (c : Dev nD) (y : S16640x1024.Idx) : (V m c main_v42 : S16640x1024.Idx → EReal) y = (ins m c).D (timeOf (y 0).val) (y 1).val := by
  have hl := timeOf_lt (y 0).isLt
  have h1 : (y 1).val < 1024 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (ins_D m c _ _ ⟨hb, hl, h1⟩).symm
  · exact (dif_neg fun h => hb h.1).trans (zero_word.trans (ins_D_zero m c _ _ hb).symm)

/-- Its block at a tile. -/
theorem at_d (c : Dev nD) (t : Fin cfg0.N) : iblk m c 0 t = dB (ins m c) (64 - t.val) := by
  funext y
  have hr : (y 0).val < 256 := (y 0).isLt
  blk_simp [iblk]
  refine (arr_d m c _).trans ?_
  refine congrArg₂ (ins m c).D (Eq.trans ?_ (tile_time (64 - t.val) _ hr)) ?_
  · refine congrArg timeOf ?_
    blk_simp [idx_d t]
  · blk_simp [idx_d t]

/-- The array of the sequence. -/
theorem arr_h (c : Dev nD) (y : S16640x1024.Idx) : (V m c main_v56 : S16640x1024.Idx → EReal) y = (ins m c).H (timeOf (y 0).val) (y 1).val := by
  have hl := timeOf_lt (y 0).isLt
  have h1 : (y 1).val < 1024 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (ins_H m c _ _ ⟨hb, hl, h1⟩).symm
  · exact (dif_neg fun h => hb h.1).trans (zero_word.trans (ins_H_zero m c _ _ hb).symm)

/-- Its block at a tile. -/
theorem at_h (c : Dev nD) (t : Fin cfg0.N) : iblk m c 4 t = hB (ins m c) (64 - t.val) := by
  funext y
  have hr : (y 0).val < 256 := (y 0).isLt
  blk_simp [iblk]
  refine (arr_h m c _).trans ?_
  refine congrArg₂ (ins m c).H (Eq.trans ?_ (tile_time (64 - t.val) _ hr)) ?_
  · refine congrArg timeOf ?_
    blk_simp [idx_h t]
  · blk_simp [idx_h t]

/-- The gain. -/
theorem at_g (c : Dev nD) (t : Fin cfg0.N) : iblk m c 5 t = gB (ins m c) := by
  funext y
  blk_simp [iblk, idx_g t]
  unfold V
  dsimp only [List.flatten_cons, List.flatten_nil, List.append_nil, List.cons_append, List.nil_append]
  after_reads_at
  refine Eq.trans ?_ (dif_pos (y 1).isLt).symm
  refine congrArg (m ((c : Thread nD τ).loc main_arg1)) (congrArg ix1 (Fin.ext ?_))
  blk_simp [idx_g t]

/-- The up projection in four column blocks. -/
theorem at_w (c : Dev nD) (t : Fin cfg0.N) : iblk m c 6 t = wB (ins m c) := by
  funext y
  blk_simp [iblk, idx_w t]
  unfold V
  dsimp only [List.flatten_cons, List.flatten_nil, List.append_nil, List.cons_append, List.nil_append]
  after_reads_at
  have h0 : (y 0).val < 4 := (y 0).isLt
  have h2 : (y 2).val < 1408 := (y 2).isLt
  refine Eq.trans ?_ (dif_pos ⟨(y 1).isLt, by omega⟩).symm
  refine congrArg (m ((c : Thread nD τ).loc main_arg2)) (congrArg₂ ix2 (Fin.ext ?_) (Fin.ext ?_))
  · blk_simp [idx_w t]
  · blk_simp [idx_w t]
    exact congrArg (· + (y 2).val) (Nat.mul_comm _ _)

/-- The taps. -/
theorem at_cw (c : Dev nD) (t : Fin cfg0.N) : iblk m c 7 t = cwB (ins m c) := by
  funext y
  blk_simp [iblk, idx_cw t]
  unfold V
  dsimp only [List.flatten_cons, List.flatten_nil, List.append_nil, List.cons_append, List.nil_append]
  after_reads_at
  refine Eq.trans ?_ (at2_eq (args m c).cw (y 0) (y 1)).symm
  blk_ext [idx_cw t]

/-- The down projection. -/
theorem at_wd (c : Dev nD) (t : Fin cfg0.N) : iblk m c 8 t = wdB (ins m c) := by
  funext y
  blk_simp [iblk, idx_wd t]
  unfold V
  dsimp only [List.flatten_cons, List.flatten_nil, List.append_nil, List.cons_append, List.nil_append]
  after_reads_at
  refine Eq.trans ?_ (at2_eq (args m c).wd (y 0) (y 1)).symm
  blk_ext [idx_wd t]

end Cert.Mlp

end
-- ==== Proof.Mlp.Arrays.lean ====
/- The output arrays after the last grid point: rows at their times, the accumulated rows as sums over all tiles. -/
module

public import proofs.«01_k».proof.Proof.Mlp.Run
public import proofs.«01_k».proof.Proof.Mlp.EntryU
public import proofs.«01_k».proof.Proof.Mlp.EntryC
public import proofs.«01_k».proof.Proof.Mlp.EntryD
public import proofs.«01_k».proof.Proof.Loss.Kernel

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (arrTime arrTime_tile arrTime_row rowTime row_time)

variable (m : (ℓ : Loc nD τ sig) → Buf (Elt Ideal) ℓ)

/-- The blocks of every point. -/
theorem at_all (c : Dev nD) (t : Fin cfg0.N) : At m (ins m c) c t :=
  ⟨at_d m c t, at_u m c t, at_t m c t, at_c m c t, at_h m c t, at_g m c t, at_w m c t, at_cw m c t, at_wd m c t⟩

theorem left_at (c : Dev nD) (n : ℕ) (h : n < cfg0.N) : Left m (ins m c) n c := left m (ins m c) c (at_all m c) n h

theorem idx_dh : ∀ t : Fin cfg0.N, win0_9.index t = ![64 - t.val, 0] := (by decide +kernel : ∀ t : Fin grid0.N, _)

/-- The gradient of the residual stream. -/
theorem arr_dh (c : Dev nD) : (dats m 0 c).arrAt 9 cfg0.N = fun y : S16640x1024.Idx => (ins m c).dh (arrTime (y 0).val) (y 1).val :=
  (dats m 0 c).arrAt_eq_of_covers 9 _ (by decide +kernel) fun t _ y => by
    blk_simp [idx_dh t]
    rw [after_dh, (left_at m c _ t.isLt).dh]
    refine congrArg₂ (ins m c).dh (row_time (64 - t.val) y) ?_
    blk_simp [idx_dh t]

theorem idx_dhu : ∀ t : Fin cfg0.N, win0_10.index t = ![64 - t.val, 0] := (by decide +kernel : ∀ t : Fin grid0.N, _)

/-- The gradient of the up projection. -/
theorem arr_dhu (c : Dev nD) : (dats m 0 c).arrAt 10 cfg0.N = fun y : S16640x5632.Idx => (ins m c).dhu (arrTime (y 0).val) (y 1).val :=
  (dats m 0 c).arrAt_eq_of_covers 10 _ (by decide +kernel) fun t _ y => by
    blk_simp [idx_dhu t]
    refine ((congrFun (after_dhu m c t) y).trans ((left_at m c _ t.isLt).dhu y)).trans ?_
    refine congrArg₂ (ins m c).dhu (row_time (64 - t.val) y) ?_
    blk_simp [idx_dhu t]

theorem idx_hn : ∀ t : Fin cfg0.N, win0_11.index t = ![64 - t.val, 0] := (by decide +kernel : ∀ t : Fin grid0.N, _)

/-- The normed rows. -/
theorem arr_hn (c : Dev nD) : (dats m 0 c).arrAt 11 cfg0.N = fun y : S16640x1024.Idx => (ins m c).hn (arrTime (y 0).val) (y 1).val :=
  (dats m 0 c).arrAt_eq_of_covers 11 _ (by decide +kernel) fun t _ y => by
    blk_simp [idx_hn t]
    rw [after_hn, (left_at m c _ t.isLt).hn]
    refine congrArg₂ (ins m c).hn (row_time (64 - t.val) y) ?_
    blk_simp [idx_hn t]

theorem lt_last : 64 < cfg0.N := by decide

theorem outs_last (c : Dev nD) (t : Fin cfg0.N) (h : t.val % 65 = 64) : outs m c t.val = outs m c 64 :=
  congrArg (outs m c) (by have := lt65 t; omega)

theorem idx_dcw : ∀ t : Fin cfg0.N, win0_12.index t = ![0, 0] := (by decide +kernel : ∀ t : Fin grid0.N, _)
theorem idx_dg : ∀ t : Fin cfg0.N, win0_13.index t = ![0, 0] := (by decide +kernel : ∀ t : Fin grid0.N, _)

theorem arr_dcw_last (c : Dev nD) : (dats m 0 c).arrAt 12 cfg0.N = (outs m c 64).dcw :=
  (dats m 0 c).arrAt_eq_of_covers 12 _ (by decide +kernel) fun t hf y => by
    blk_simp [idx_dcw t]
    rw [after_dcw, outs_last m c t ((flush0_12 t).mp hf)]
    generalize (outs m c 64).dcw = G
    blk_ext [idx_dcw t]

/-- The taps' gradients. -/
theorem arr_dcw (c : Dev nD) (y : S8x5632.Idx) (h : (y 0).val < 3) :
    ((dats m 0 c).arrAt 12 cfg0.N : S8x5632.Idx → EReal) y = ∑ j ∈ Finset.range 65, (ins m c).tap (y 0).val (64 - j) (y 1).val := by
  rw [arr_dcw_last]
  exact (left_at m c 64 lt_last).dcw y h

theorem arr_dg_last (c : Dev nD) : (dats m 0 c).arrAt 13 cfg0.N = (outs m c 64).dg :=
  (dats m 0 c).arrAt_eq_of_covers 13 _ (by decide +kernel) fun t hf y => by
    blk_simp [idx_dg t]
    rw [after_dg, outs_last m c t ((flush0_13 t).mp hf)]
    generalize (outs m c 64).dg = G
    blk_ext [idx_dg t]

/-- The gain's gradient. -/
theorem arr_dg (c : Dev nD) (y : S8x1024.Idx) (h : (y 0).val < 1) :
    ((dats m 0 c).arrAt 13 cfg0.N : S8x1024.Idx → EReal) y = ∑ j ∈ Finset.range 65, (ins m c).gain (64 - j) (y 1).val := by
  rw [arr_dg_last]
  exact (left_at m c 64 lt_last).dg y h

end Cert.Mlp

end
-- ==== Proof.Mlp.Kernel.lean ====
/- The results of the program by the arrays of the call. -/
module

public import proofs.«01_k».proof.Proof.Mlp.Arrays

@[expose] public section

set_option maxRecDepth 16384

noncomputable section

open Idealize.ShloMosaic Idealize.ShloMosaic.TcCoe Idealize.SL.Sem

namespace Cert.Mlp

open Cert.Kernel2Ideal Cert.Kernel2Ideal.Gen
open Cert.Loss (arrTime arrTime_tile arrTime_row rowTime row_time)

variable (m : (ℓ : Loc nD τ sig) → Buf (Elt Ideal) ℓ) (ρ : Dev nD → PrngReg)

/-- The buffers as the lines after the call find them. -/
abbrev held (c : Dev nD) : Valuation τ sig (Elt Ideal) :=
  Pipeline.withArrays (cfgs 0).spec c (V0 m c) fun w => (dats m 0 c).arrAt w (cfgs 0).N

theorem held_dh (c : Dev nD) : held m c (Proc.tc.devRef main_v59_0) = (dats m 0 c).arrAt 9 cfg0.N :=
  (dats m 0 c).withArrays_arrAt sharedIn0 (V0 m c) (fun w => A_eq m c w) 9

theorem held_dhu (c : Dev nD) : held m c (Proc.tc.devRef main_v59_1) = (dats m 0 c).arrAt 10 cfg0.N :=
  (dats m 0 c).withArrays_arrAt sharedIn0 (V0 m c) (fun w => A_eq m c w) 10

theorem held_hn (c : Dev nD) : held m c (Proc.tc.devRef main_v59_2) = (dats m 0 c).arrAt 11 cfg0.N :=
  (dats m 0 c).withArrays_arrAt sharedIn0 (V0 m c) (fun w => A_eq m c w) 11

theorem held_dcw (c : Dev nD) : held m c (Proc.tc.devRef main_v59_3) = (dats m 0 c).arrAt 12 cfg0.N :=
  (dats m 0 c).withArrays_arrAt sharedIn0 (V0 m c) (fun w => A_eq m c w) 12

theorem held_dg (c : Dev nD) : held m c (Proc.tc.devRef main_v59_4) = (dats m 0 c).arrAt 13 cfg0.N :=
  (dats m 0 c).withArrays_arrAt sharedIn0 (V0 m c) (fun w => A_eq m c w) 13

theorem tail_dh (c : Dev nD) : Pipeline.afterTail₀ cfgs (dats m) 0 (V0 m) [hostOps1] c main_v63 =
    fun y : S16400x1024.Idx => (ins m c).dh (240 + (y 0).val) (y 1).val := by
  funext y
  unfold Pipeline.afterTail₀
  dsimp only [List.flatten_cons, List.flatten_nil, List.append_nil, List.cons_append, List.nil_append]
  after_reads_at
  refine (congrFun ((held_dh m c).trans (arr_dh m c)) _).trans ?_
  exact congrArg (fun a => (ins m c).dh a (y 1).val) (arrTime_row _)

theorem tail_dhu (c : Dev nD) : Pipeline.afterTail₀ cfgs (dats m) 0 (V0 m) [hostOps1] c main_v68 =
    fun y : S16400x5632.Idx => (ins m c).dhu (240 + (y 0).val) (y 1).val := by
  funext y
  unfold Pipeline.afterTail₀
  dsimp only [List.flatten_cons, List.flatten_nil, List.append_nil, List.cons_append, List.nil_append]
  after_reads_at
  refine (congrFun ((held_dhu m c).trans (arr_dhu m c)) _).trans ?_
  exact congrArg (fun a => (ins m c).dhu a (y 1).val) (arrTime_row _)

theorem tail_hn (c : Dev nD) : Pipeline.afterTail₀ cfgs (dats m) 0 (V0 m) [hostOps1] c main_v73 =
    fun y : S16400x1024.Idx => (ins m c).hn (240 + (y 0).val) (y 1).val := by
  funext y
  unfold Pipeline.afterTail₀
  dsimp only [List.flatten_cons, List.flatten_nil, List.append_nil, List.cons_append, List.nil_append]
  after_reads_at
  refine (congrFun ((held_hn m c).trans (arr_hn m c)) _).trans ?_
  exact congrArg (fun a => (ins m c).hn a (y 1).val) (arrTime_row _)

theorem tail_dcw (c : Dev nD) : Pipeline.afterTail₀ cfgs (dats m) 0 (V0 m) [hostOps1] c main_v74 =
    fun y : S3x5632.Idx => ∑ j ∈ Finset.range 65, (ins m c).tap (y 0).val (64 - j) (y 1).val := by
  funext y
  unfold Pipeline.afterTail₀
  dsimp only [List.flatten_cons, List.flatten_nil, List.append_nil, List.cons_append, List.nil_append]
  after_reads_at
  exact (congrFun (held_dcw m c) _).trans (arr_dcw m c _ (y 0).isLt)

theorem tail_dg (c : Dev nD) : Pipeline.afterTail₀ cfgs (dats m) 0 (V0 m) [hostOps1] c main_v76 =
    fun y : S1024.Idx => ∑ j ∈ Finset.range 65, (ins m c).gain (64 - j) (y 0).val := by
  funext y
  unfold Pipeline.afterTail₀
  dsimp only [List.flatten_cons, List.flatten_nil, List.append_nil, List.cons_append, List.nil_append]
  after_reads_at
  exact (congrFun (held_dg m c) _).trans (arr_dg m c _ Nat.one_pos)

/-- The run: every result as a function of the arrays of the call. -/
theorem kernel_run : θ_run defs (onTc (τ := τ) (main (F := Ideal))) ⟨m, fun _ => 0, ρ⟩ (fun r => ∀ c : Dev nD,
      r.2.mem ((c.tc : Thread nD τ).loc main_v63) = (fun y : S16400x1024.Idx => (ins m c).dh (240 + (y 0).val) (y 1).val)
      ∧ r.2.mem ((c.tc : Thread nD τ).loc main_v68) = (fun y : S16400x5632.Idx => (ins m c).dhu (240 + (y 0).val) (y 1).val)
      ∧ r.2.mem ((c.tc : Thread nD τ).loc main_v73) = (fun y : S16400x1024.Idx => (ins m c).hn (240 + (y 0).val) (y 1).val)
      ∧ r.2.mem ((c.tc : Thread nD τ).loc main_v74) = (fun y : S3x5632.Idx => ∑ j ∈ Finset.range 65, (ins m c).tap (y 0).val (64 - j) (y 1).val)
      ∧ r.2.mem ((c.tc : Thread nD τ).loc main_v76) = (fun y : S1024.Idx => ∑ j ∈ Finset.range 65, (ins m c).gain (64 - j) (y 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · exact tail_dh m c
  · exact tail_dhu m c
  · exact tail_hn m c
  · exact tail_dcw m c
  · exact tail_dg m c
  · exact W_main_arg0 m _ c
  · exact W_main_arg1 m _ c
  · exact W_main_arg2 m _ c
  · exact W_main_arg4 m _ c
  · exact W_main_arg5 m _ c

end Cert.Mlp

end
-- ==== Proof.Mlp.Real.lean ====
/- From real arguments every function of time of the call is real; the call's arrays at a time of the sequence. -/
module

public import proofs.«01_k».proof.Proof.Mlp.Entry
public import proofs.«01_k».proof.Proof.Loss.Reals

@[expose] public section

set_option maxRecDepth 16384

noncomputable section

namespace Cert.Mlp

open Idealize.ShloMosaic Cert.Kernel2Ideal
open Cert.Loss (IsReal cD cHalf rstd rowTime)

variable (A : Args)

theorem cOne_eq : cOne = 1 := by
  have h : cOne = ((1 : ℝ) : EReal) := by
    simp [cOne, Ideal.ofBits, Ideal.ieee, -EReal.coe_mul]; norm_num
  exact h

/-! The call's arrays at a time of the sequence. -/

theorem at2_time {b : ℕ} (f : (⟨2, ![16400, b]⟩ : Shape).Idx → EReal) (i : Fin 16400) (k : Fin b) :
    (if 240 ≤ 240 + i.val then at2 f (240 + i.val - 240) k.val else 0) = f (ix2 i k) :=
  (if_pos (Nat.le_add_right _ _)).trans ((congrArg (fun t => at2 f t k.val) (Nat.add_sub_cancel_left _ _)).trans (at2_eq f i k))

theorem H_at (i : Fin 16400) (k : Fin 1024) : (mkIns A).H (240 + i.val) k.val = A.h (ix2 i k) := at2_time A.h i k

theorem D_at (i : Fin 16400) (k : Fin 1024) : (mkIns A).D (240 + i.val) k.val = A.ct (ix2 i k) := at2_time A.ct i k

theorem g_at (k : Fin 1024) : (mkIns A).g k.val = A.g (ix1 k) := dif_pos k.isLt

theorem wd_at (j : Fin 2816) (k : Fin 1024) : (mkIns A).wd j.val k.val = A.wd (ix2 j k) := at2_eq A.wd j k

theorem cw_at (j : Fin 3) (k : Fin 5632) : (mkIns A).cw j.val k.val = A.cw (ix2 j k) := at2_eq A.cw j k

theorem U_at (i : Fin 16400) (c : ℕ) (h : c < 5632) : (mkIns A).U (240 + i.val) c = A.hu i ⟨c, h⟩ :=
  (dif_pos ⟨by omega, by omega, h⟩).trans (congrArg (fun t => A.hu t ⟨c, h⟩) (Fin.ext (Nat.add_sub_cancel_left _ _)))

theorem HC_at (i : Fin 16400) (c : ℕ) (h : c < 5632) : (mkIns A).HC (240 + i.val) c = A.hc i ⟨c, h⟩ :=
  (dif_pos ⟨by omega, by omega, h⟩).trans (congrArg (fun t => A.hc t ⟨c, h⟩) (Fin.ext (Nat.add_sub_cancel_left _ _)))

/-- Every argument is real. -/
structure Args.AllReal : Prop where
  h : ∀ i, IsReal (A.h i)
  g : ∀ i, IsReal (A.g i)
  w : ∀ i, IsReal (A.w i)
  cw : ∀ i, IsReal (A.cw i)
  wd : ∀ i, IsReal (A.wd i)
  ct : ∀ i, IsReal (A.ct i)

section
variable {A} (hA : A.AllReal)

theorem real_at2 {a b : ℕ} {f : (⟨2, ![a, b]⟩ : Shape).Idx → EReal} (hf : ∀ i, IsReal (f i)) (i k : ℕ) : IsReal (at2 f i k) := by
  unfold at2
  split
  · exact hf _
  · exact IsReal.zero

theorem real_one : IsReal cOne := by rw [cOne_eq]; exact ⟨1, rfl⟩

theorem real_sg {x : EReal} (h : IsReal x) : IsReal (sg x) :=
  have hh : IsReal cHalf := ⟨_, Cert.Loss.cHalf_eq⟩
  hh.add (hh.mul (hh.mul h).tanh)

include hA

theorem real_H (τ k : ℕ) : IsReal ((mkIns A).H τ k) := by
  unfold mkIns
  dsimp only
  split
  · exact real_at2 hA.h _ _
  · exact IsReal.zero

theorem real_D (τ k : ℕ) : IsReal ((mkIns A).D τ k) := by
  unfold mkIns
  dsimp only
  split
  · exact real_at2 hA.ct _ _
  · exact IsReal.zero

theorem real_g (k : ℕ) : IsReal ((mkIns A).g k) := by
  unfold mkIns
  dsimp only
  split
  · exact hA.g _
  · exact IsReal.zero

theorem real_hu (i : Fin 16400) (c : Fin 5632) : IsReal (A.hu i c) :=
  IsReal.sum _ fun k => (((hA.h _).mul (IsReal.rstd fun _ => hA.h _)).mul (hA.g _)).mul (hA.w _)

theorem real_apast (t : ℕ) (h) (c : Fin 5632) : IsReal (A.past t h c) := by
  unfold Args.past
  split
  · exact IsReal.zero
  · exact real_hu hA _ _

theorem real_HC (τ c : ℕ) : IsReal ((mkIns A).HC τ c) := by
  unfold mkIns
  dsimp only
  split
  · exact (((real_apast hA _ _ _).mul (hA.cw _)).add ((real_apast hA _ _ _).mul (hA.cw _))).add ((real_hu hA _ _).mul (hA.cw _))
  · exact IsReal.zero

theorem real_dact (τ j : ℕ) : IsReal ((mkIns A).dact τ j) := IsReal.sum _ fun _ => (real_D hA _ _).mul (real_at2 hA.wd _ _)

theorem real_dy (τ c : ℕ) : IsReal ((mkIns A).dy τ c) := by
  have hs := fun j => real_sg (real_HC hA τ j)
  unfold Ins.dy
  split
  · exact ((real_dact hA _ _).mul (real_HC hA _ _)).mul ((hs _).mul (real_one.add ((real_HC hA _ _).mul (real_one.sub (hs _)))))
  · exact (real_dact hA _ _).mul ((real_HC hA _ _).mul (hs _))

theorem real_fut (τ c : ℕ) : IsReal ((mkIns A).fut τ c) := by
  unfold Ins.fut
  split
  · exact real_dy hA _ _
  · exact IsReal.zero

theorem real_dhu (τ c : ℕ) : IsReal ((mkIns A).dhu τ c) :=
  (((real_at2 hA.cw _ _).mul (real_fut hA _ _)).add ((real_at2 hA.cw _ _).mul (real_fut hA _ _))).add ((real_at2 hA.cw _ _).mul (real_fut hA _ _))

theorem real_dhn (τ k : ℕ) : IsReal ((mkIns A).dhn τ k) :=
  have hp := fun q => IsReal.sum Finset.univ fun n : Fin 1408 => (real_dhu hA τ (1408 * q + n.val)).mul (real_at2 hA.w k (1408 * q + n.val))
  ((hp 0).add (hp 2)).add ((hp 1).add (hp 3))

end

/-- The derivative of `a · σ(a)` in the two orders of its factors. -/
theorem silu_grad {d v a s : EReal} (hd : IsReal d) (hv : IsReal v) (ha : IsReal a) (hs : IsReal s) :
    d * v * s + a * (d * v) * (s * (1 - s)) = d * v * (s * (cOne + a * (cOne - s))) := by
  obtain ⟨d, rfl⟩ := hd; obtain ⟨v, rfl⟩ := hv; obtain ⟨a, rfl⟩ := ha; obtain ⟨s, rfl⟩ := hs
  rw [cOne_eq, ← EReal.coe_one]
  simp only [← EReal.coe_mul, ← EReal.coe_sub, ← EReal.coe_add]
  exact congrArg _ (by ring)

end Cert.Mlp

end
-- ==== Proof.Mlp.Ref.lean ====
/- The reference's values, by time, are the call's functions of time. -/
module

public import proofs.«01_k».proof.Proof.Mlp.Real
public import proofs.«01_k».proof.Proof.Loss.Ref
public import proofs.«01_k».proof.Proof.Gen.Reference2Ideal.Read

@[expose] public section

set_option maxRecDepth 16384

noncomputable section

namespace Cert.Mlp

open Idealize.ShloMosaic Cert.Reference2Ideal Cert.Reference2Ideal.Gen Cert.Reference2Ideal.Read
open Cert.Loss (IsReal cD cEps cHalf rstd rowTime logistic_tanh sum_times norm_grad neg_half)

variable (A : Args)

theorem ref_hn (i : Fin 16400) (k : Fin 1024) : val_main_v16 (F := Ideal) A.h A.g (ix2 i k) = (mkIns A).hn (240 + i.val) k.val := by
  unfold Ins.hn Ins.xhat Ins.r
  simp only [H_at, g_at]
  unfold rstd
  pointwise [val_main_v16, val_main_v15, val_main_v14, val_main_v13, val_main_v12, val_main_v8, val_main_v7, val_main_v6, val_main_cst_2, val_main_v5, val_main_v4, val_main_cst_1, val_main_v3, val_main_v2, val_main_cst_0, val_main_v1]

theorem ref_xhat (i : Fin 16400) (k : Fin 1024) : val_main_v13 (F := Ideal) A.h (ix2 i k) = (mkIns A).xhat (240 + i.val) k.val := by
  unfold Ins.xhat Ins.r
  simp only [H_at]
  unfold rstd
  pointwise [val_main_v13, val_main_v12, val_main_v8, val_main_v7, val_main_v6, val_main_cst_2, val_main_v5, val_main_v4, val_main_cst_1, val_main_v3, val_main_v2, val_main_cst_0, val_main_v1]

theorem ref_hu (i : Fin 16400) (c : Fin 5632) : val_main_v18 (F := Ideal) A.h A.g A.w (ix2 i c) = A.hu i c := by
  unfold Args.hu Args.norm rstd
  pointwise [val_main_v18, val_main_v0, val_main_cst, val_main_v17, val_main_v16, val_main_v15, val_main_v14, val_main_v13, val_main_v12, val_main_v8, val_main_v7, val_main_v6, val_main_cst_2, val_main_v5, val_main_v4, val_main_cst_1, val_main_v3, val_main_v2, val_main_cst_0, val_main_v1]

theorem ref_past0 (i : Fin 16400) (c : Fin 5632) : val_main_v22 (F := Ideal) A.h A.g A.w (ix2 i c) = A.past i.val (by omega) c := by
  unfold Args.past
  simp only [← ref_hu]
  pointwise [val_main_v22, val_main_v20, val_main_v19, val_main_cst_4]

theorem ref_past1 (i : Fin 16400) (c : Fin 5632) : val_main_v28 (F := Ideal) A.h A.g A.w (ix2 i c) = A.past (1 + i.val) (by omega) c := by
  unfold Args.past
  simp only [← ref_hu]
  pointwise [val_main_v28, val_main_v20, val_main_v19, val_main_cst_4]

theorem ref_past2 (i : Fin 16400) (c : Fin 5632) : val_main_v35 (F := Ideal) A.h A.g A.w (ix2 i c) = A.hu i c := by
  simp only [← ref_hu]
  pointwise [val_main_v35, val_main_v20, val_main_v19, val_main_cst_4]

theorem ref_hc (i : Fin 16400) (c : Fin 5632) : val_main_v41 (F := Ideal) A.h A.g A.w A.cw (ix2 i c) = A.hc i c := by
  unfold Args.hc
  simp only [← ref_past0, ← ref_past1, ← ref_past2]
  pointwise [val_main_v41, val_main_v40, val_main_v39, val_main_v38, val_main_v37, val_main_v36, val_main_v34, val_main_v33, val_main_v32, val_main_v31, val_main_v30, val_main_v29, val_main_v27, val_main_v26, val_main_v25, val_main_v24, val_main_v23]

theorem ref_dact (i : Fin 16400) (c : Fin 2816) : val_main_v49 (F := Ideal) A.wd A.ct (ix2 i c) = (mkIns A).dact (240 + i.val) c.val := by
  unfold Ins.dact
  simp only [D_at, wd_at]
  pointwise [val_main_v49, val_main_v48]

/-- The gradient of the gate: below column 2816 that of the half under the logistic function. -/
theorem ref_dy (hA : A.AllReal) (i : Fin 16400) (c : Fin 5632) : val_main_v53 (F := Ideal) A.h A.g A.w A.cw A.wd A.ct (ix2 i c) = (mkIns A).dy (240 + i.val) c.val := by
  unfold Ins.dy
  pointwise [val_main_v53]
  split
  · rename_i h
    unfold Ins.dgate
    rw [← silu_grad (real_dact hA _ _) (real_HC hA _ _) (real_HC hA _ _) (real_sg (real_HC hA _ _))]
    unfold sg
    rw [← logistic_tanh, ← show _ = Ins.dact _ _ _ from ref_dact A i ⟨c.val, h⟩, HC_at A i c.val (by omega), HC_at A i (2816 + c.val) (by omega)]
    simp only [← ref_hc]
    pointwise [val_main_v52, val_main_call1_v2, val_main_v44_1, val_main_call0_v7, val_main_v44_2, val_main_call0_v3, val_main_call0_v1, val_main_call0_v0, val_main_v42, val_main_call0_v2, val_main_call0_cst, val_main_call0_v4, val_main_call0_cst_0, val_main_call0_v6, val_main_call0_cst_1, val_main_call1_v0, val_main_v51, val_main_v43, val_main_call1_v1]
  · unfold Ins.dval sg
    rw [← logistic_tanh, ← show _ = Ins.dact _ _ _ from ref_dact A i ⟨c.val - 2816, by omega⟩, HC_at A i (c.val - 2816) (by omega)]
    simp only [← ref_hc]
    pointwise [val_main_v50, val_main_v44_0, val_main_v44_2, val_main_call0_v3, val_main_call0_v1, val_main_call0_v0, val_main_v42, val_main_call0_v2, val_main_call0_cst, val_main_call0_v4, val_main_call0_cst_0]
    rw [mul_comm]

theorem ref_fut (hA : A.AllReal) (i n : ℕ) (h : i + n < 16400) (c : Fin 5632) :
    val_main_v53 (F := Ideal) A.h A.g A.w A.cw A.wd A.ct (ix2 ⟨i + n, h⟩ c) = (mkIns A).fut (240 + i + n) c.val := by
  rw [ref_dy A hA, Ins.fut, if_pos (by omega), Nat.add_assoc]

theorem ref_tap (hA : A.AllReal) (i n : ℕ) (k : Fin 3) (c : Fin 5632) (p : Prop) [Decidable p] (e : p ↔ i + n < 16400) (f : p → Fin 16400)
    (hf : ∀ h, (f h).val = i + n) : (if h : p then val_main_v53 (F := Ideal) A.h A.g A.w A.cw A.wd A.ct (ix2 (f h) c) * A.cw (ix2 k c) else 0)
      = (mkIns A).cw k.val c.val * (mkIns A).fut (240 + i + n) c.val := by
  rw [cw_at, mul_comm]
  by_cases h : p
  · rw [dif_pos h, ← ref_fut A hA i n (e.mp h) c, show f h = ⟨i + n, e.mp h⟩ from Fin.ext (hf h)]
  · rw [dif_neg h, Ins.fut, if_neg (by have := mt e.mpr h; omega), zero_mul]

theorem ref_dhu (hA : A.AllReal) (i : Fin 16400) (c : Fin 5632) : val_main_v86 (F := Ideal) A.h A.g A.w A.cw A.wd A.ct (ix2 i c) = (mkIns A).dhu (240 + i.val) c.val := by
  unfold Ins.dhu
  pointwise [val_main_v86, val_main_v84, val_main_v83, val_main_cst_17, val_main_v78, val_main_v77, val_main_v25, val_main_v24, val_main_v23, val_main_v73, val_main_v72, val_main_cst_13, val_main_v67, val_main_v66, val_main_v31, val_main_v30, val_main_v29, val_main_v62, val_main_cst_9, val_main_v58, val_main_v57, val_main_v38, val_main_v37, val_main_v36]
  have f0 : val_main_v53 (F := Ideal) A.h A.g A.w A.cw A.wd A.ct (ix2 i c) * A.cw (ix2 2 c) = (mkIns A).cw 2 c.val * (mkIns A).fut (240 + i.val) c.val := by
    rw [show val_main_v53 (F := Ideal) A.h A.g A.w A.cw A.wd A.ct (ix2 i c) = _ from ref_fut A hA i.val 0 i.isLt c, mul_comm]
    exact congrArg (· * _) (cw_at A 2 c).symm
  refine (congrArg₂ (· + ·) (congrArg₂ (· + ·) f0 (ref_tap A hA i.val 1 1 c _ (by omega) _ fun _ => by dsimp only; omega))
    (ref_tap A hA i.val 2 0 c _ (by omega) _ fun _ => Nat.add_comm _ _)).trans ?_
  exact (add_comm _ _).trans ((congrArg _ (add_comm _ _)).trans (add_assoc _ _ _).symm)

/-- A sum over the columns by its four blocks. -/
theorem sum_blocks (f : ℕ → EReal) : ∑ x : Fin 5632, f x.val = (∑ n : Fin 1408, f (1408 * 0 + n.val)) + (∑ n : Fin 1408, f (1408 * 2 + n.val))
    + ((∑ n : Fin 1408, f (1408 * 1 + n.val)) + ∑ n : Fin 1408, f (1408 * 3 + n.val)) := by
  simp only [fun g : ℕ → EReal => (Finset.sum_range (n := 5632) g).symm, fun g : ℕ → EReal => (Finset.sum_range (n := 1408) g).symm]
  rw [show 5632 = 1408 + 1408 + 1408 + 1408 from rfl, Finset.sum_range_add, Finset.sum_range_add, Finset.sum_range_add]
  simp only [Nat.mul_zero, Nat.zero_add]
  exact (congrArg (· + _) ((add_assoc _ _ _).trans ((congrArg _ (add_comm _ _)).trans (add_assoc _ _ _).symm))).trans (add_assoc _ _ _)

theorem ref_dhn (hA : A.AllReal) (i : Fin 16400) (k : Fin 1024) : val_main_v87 (F := Ideal) A.h A.g A.w A.cw A.wd A.ct (ix2 i k) = (mkIns A).dhn (240 + i.val) k.val := by
  pointwise [val_main_v87]
  simp only [ref_dhu A hA]
  refine (Finset.sum_congr rfl fun x _ => congrArg _ (at2_eq A.w k x).symm).trans ?_
  exact sum_blocks fun c => (mkIns A).dhu (240 + i.val) c * at2 A.w k.val c

/-- Before the sequence the convolution's gradient is zero, -/
theorem fut_pad (t c : ℕ) (h : t < 240) : (mkIns A).fut t c = 0 := by
  have hD : ∀ j, (mkIns A).dact t j = 0 := fun j => by
    unfold Ins.dact
    exact Finset.sum_eq_zero fun k _ => (congrArg (· * _) (if_neg (by omega))).trans (zero_mul _)
  unfold Ins.fut Ins.dy Ins.dgate Ins.dval
  simp only [hD, zero_mul, ite_self]

/-- and so is the normed row. -/
theorem xhat_pad (t k : ℕ) (h : t < 240) : (mkIns A).xhat t k = 0 :=
  (congrArg (· * _) (if_neg (by omega) : (mkIns A).H t k = 0)).trans (zero_mul _)

theorem past_at (i : Fin 16400) (n : ℕ) (hn : n < 2) (c : Fin 5632) : (mkIns A).past (240 + i.val + n) c.val = A.past (n + i.val) (by omega) c := by
  unfold Ins.past Args.past
  rw [if_pos (by omega)]
  split
  · exact dif_neg (by omega)
  · refine Eq.trans (congrArg (fun t => (mkIns A).U t c.val) ?_) (U_at A ⟨n + i.val - 2, by omega⟩ c.val c.isLt)
    dsimp only
    omega

theorem past_own (i : Fin 16400) (c : Fin 5632) : (mkIns A).past (240 + i.val + 2) c.val = A.hu i c :=
  (if_pos (by omega)).trans (U_at A i c.val c.isLt)

/-- The sum over the points is the sum over the tiles, -/
theorem sum_points (f : ℕ → EReal) : ∑ j ∈ Finset.range 65, f (64 - j) = ∑ j ∈ Finset.range 65, f j := Finset.sum_range_reflect f 65

/-- and the tap's gradient the sum over the sequence. -/
theorem tap_sum (k c : ℕ) : ∑ j ∈ Finset.range 65, (mkIns A).tap k (64 - j) c = ∑ i : Fin 16400, (mkIns A).past (240 + i.val + k) c * (mkIns A).fut (240 + i.val) c :=
  (sum_points fun j => (mkIns A).tap k j c).trans
    (sum_times (fun t => (mkIns A).past (t + k) c * (mkIns A).fut t c) 240 16400 rfl fun t ht => (congrArg _ (fut_pad A t c ht)).trans (mul_zero _))

theorem ref_dcw (hA : A.AllReal) (k : Fin 3) (c : Fin 5632) : val_main_v82 (F := Ideal) A.h A.g A.w A.cw A.wd A.ct (ix2 k c) = ∑ j ∈ Finset.range 65, (mkIns A).tap k.val (64 - j) c.val := by
  have hf : ∀ i : Fin 16400, val_main_v53 (F := Ideal) A.h A.g A.w A.cw A.wd A.ct (ix2 i c) = (mkIns A).fut (240 + i.val) c.val := fun i => ref_fut A hA i.val 0 i.isLt c
  rw [tap_sum]
  pointwise [val_main_v82, val_main_v81, val_main_cst_16, val_main_v80, val_main_v79, val_main_cst_15, val_main_v76, val_main_v75, val_main_cst_14, val_main_v74, val_main_v71, val_main_v70, val_main_cst_12, val_main_v69, val_main_v68, val_main_cst_11, val_main_v65, val_main_v64, val_main_cst_10, val_main_v63, val_main_v61, val_main_cst_8, val_main_v60, val_main_v59, val_main_cst_7, val_main_v56, val_main_v55, val_main_cst_6, val_main_v54]
  simp only [hf, ref_past0, ref_past1, ref_past2, Fin.sum_univ_one]
  fin_cases k
  · refine Eq.trans ?_ (Finset.sum_congr rfl fun i _ => congrArg (· * _) (past_at A i 0 (by omega) c).symm)
    simp
  · refine Eq.trans ?_ (Finset.sum_congr rfl fun i _ => congrArg (· * _) (past_at A i 1 (by omega) c).symm)
    simp
  · refine Eq.trans ?_ (Finset.sum_congr rfl fun i _ => congrArg (· * _) (past_own A i c).symm)
    simp

theorem ref_dg (hA : A.AllReal) (k : Fin 1024) : val_main_v93 (F := Ideal) A.h A.g A.w A.cw A.wd A.ct (ix1 k) = ∑ j ∈ Finset.range 65, (mkIns A).gain (64 - j) k.val := by
  pointwise [val_main_v93, val_main_cst_19, val_main_v90, val_main_v89, val_main_cst_18, val_main_v88]
  simp only [ref_dhn A hA, ref_xhat, Fin.sum_univ_one]
  rw [sum_points fun j => (mkIns A).gain j k.val]
  refine Eq.trans ?_ (sum_times (fun t => (mkIns A).dhn t k.val * (mkIns A).xhat t k.val) 240 16400 rfl fun t ht => (congrArg _ (xhat_pad A t _ ht)).trans (mul_zero _)).symm
  exact Finset.sum_congr rfl fun i _ => mul_comm _ _

theorem ref_dh (hA : A.AllReal) (i : Fin 16400) (k : Fin 1024) : val_main_v108 (F := Ideal) A.h A.g A.w A.cw A.wd A.ct (ix2 i k) = (mkIns A).dh (240 + i.val) k.val := by
  unfold Ins.dh Ins.xhat Ins.r
  rw [if_pos (Nat.le_add_right _ _)]
  refine Eq.trans ?_ (congrArg _ (norm_grad (y := fun k : Fin 1024 => (mkIns A).H (240 + i.val) k.val) (g := fun k : Fin 1024 => (mkIns A).g k.val)
    (d := fun k : Fin 1024 => (mkIns A).dhn (240 + i.val) k.val) (fun _ => real_H hA _ _) (fun _ => real_g hA _) (fun _ => real_dhn hA _ _) k).symm)
  rw [← neg_half]
  unfold rstd
  simp only [H_at, D_at, g_at, ← ref_dhn A hA]
  pointwise [val_main_v108, val_main_v107, val_main_v104, val_main_v103, val_main_cst_22, val_main_v102, val_main_v101, val_main_cst_21, val_main_v100, val_main_v11, val_main_v9, val_main_v7, val_main_v6, val_main_cst_2, val_main_v5, val_main_v4, val_main_cst_1, val_main_v3, val_main_v2, val_main_cst_0, val_main_v1, val_main_v8, val_main_v10, val_main_cst_3, val_main_v96, val_main_v95, val_main_cst_20, val_main_v94, val_main_v92, val_main_v91, val_main_v14, val_main_v106, val_main_v105, val_main_v99, val_main_v98, val_main_v97]
  simp only [Fin.sum_univ_one, ← add_assoc]

end Cert.Mlp

end
-- ==== Proof.Mlp.Same.lean ====
/- The reference's run: its results are the call's functions of time, read from the reference's arguments. -/
module

public import proofs.«01_k».proof.Proof.Mlp.Ref

@[expose] public section

set_option maxRecDepth 16384

noncomputable section

namespace Cert.Mlp

open Idealize.ShloMosaic Idealize.SL.Sem Cert.Reference2Ideal Cert.Reference2Ideal.Gen Cert.Reference2Ideal.Read

/-- The reference's arguments on a device. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

/-- From real arguments the reference's results are the call's functions of time. -/
theorem reference_run (m : (ℓ : Loc nD τ sig) → Buf (Elt Ideal) ℓ) (ρ : Dev nD → PrngReg) (hA : ∀ c : Dev nD, (refArgs m c).AllReal) :
    θ_run defs (onTc (τ := τ) (main (F := Ideal))) ⟨m, fun _ => 0, ρ⟩ (fun r => ∀ c : Dev nD,
      r.2.mem ((c.tc : Thread nD τ).loc main_v108) = (fun y : S16400x1024.Idx => (mkIns (refArgs m c)).dh (240 + (y 0).val) (y 1).val)
      ∧ r.2.mem ((c.tc : Thread nD τ).loc main_v86) = (fun y : S16400x5632.Idx => (mkIns (refArgs m c)).dhu (240 + (y 0).val) (y 1).val)
      ∧ r.2.mem ((c.tc : Thread nD τ).loc main_v16) = (fun y : S16400x1024.Idx => (mkIns (refArgs m c)).hn (240 + (y 0).val) (y 1).val)
      ∧ r.2.mem ((c.tc : Thread nD τ).loc main_v82) = (fun y : S3x5632.Idx => ∑ j ∈ Finset.range 65, (mkIns (refArgs m c)).tap (y 0).val (64 - j) (y 1).val)
      ∧ r.2.mem ((c.tc : Thread nD τ).loc main_v93) = (fun y : S1024.Idx => ∑ j ∈ Finset.range 65, (mkIns (refArgs m c)).gain (64 - j) (y 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.Reference2Ideal.Value.run m ρ)
  obtain ⟨a0, a1, a2, a3, a4, rest⟩ := h c
  refine ⟨(a0.trans (val_main_v108_eq _)).trans (funext fun y => ?_), (a1.trans (val_main_v86_eq _)).trans (funext fun y => ?_),
    (a2.trans (val_main_v16_eq _)).trans (funext fun y => ?_), (a3.trans (val_main_v82_eq _)).trans (funext fun y => ?_),
    (a4.trans (val_main_v93_eq _)).trans (funext fun y => ?_), rest⟩
  · exact (congrArg _ (eq_ix2 y)).trans (ref_dh (refArgs m c) (hA c) (y 0) (y 1))
  · exact (congrArg _ (eq_ix2 y)).trans (ref_dhu (refArgs m c) (hA c) (y 0) (y 1))
  · exact (congrArg _ (eq_ix2 y)).trans (ref_hn (refArgs m c) (y 0) (y 1))
  · exact (congrArg _ (eq_ix2 y)).trans (ref_dcw (refArgs m c) (hA c) (y 0) (y 1))
  · exact (congrArg _ (eq_ix1 y)).trans (ref_dg (refArgs m c) (hA c) (y 0))

end Cert.Mlp

end
-- ==== Proof.Mlp.Claims.lean ====
/- The claims of the MLP's backward call. -/
module

public import proofs.«01_k».proof.Defs
public import proofs.«01_k».proof.Proof.Gen.Kernel2.Skeleton
public import proofs.«01_k».proof.Proof.Loss.Finite
public import proofs.«01_k».proof.Proof.Mlp.Kernel
public import proofs.«01_k».proof.Proof.Mlp.Same
public import Idealize.ShloMosaic.Adequacy
public import Idealize.ShloMosaic.Init

@[expose] public section

set_option maxRecDepth 16384

noncomputable section

namespace Cert.Mlp

open Idealize.ShloMosaic Idealize.ShloMosaic.Tactic Idealize.SL.Sem

open Cert.Pre_finite2 in
theorem pre_facts : Cert.Pre_finite2.Facts where
  bcast_S_S16400x1024 := by decide
  bcast_S_S1024 := by decide
  bcast_S_S1024x5632 := by decide
  bcast_S_S3x5632 := by decide
  bcast_S_S2816x1024 := by decide

instance : Cert.Pre_finite2.Facts := pre_facts

theorem frame_ideal : Cert.quiescent_Kernel2Ideal (hKernel2Ideal := Cert.Kernel2Ideal.Gen.facts) := fun m ρ _ => frame_run m ρ

theorem frame_ideal_finite : Cert.quiescent_Kernel2Ideal_pre_finite2 (hKernel2Ideal := Cert.Kernel2Ideal.Gen.facts) (hPre_finite2 := pre_facts) :=
  fun m ρ _ => frame_run m ρ

/-- The call on words has the text of the call on real numbers. -/
theorem frame_kernel : Cert.quiescent_Kernel2 (hKernel2 := Cert.Kernel2.Gen.facts) := by
  intro m ρ _
  refine Eq.mpr ?_ (frame_run (F := Bits) m ρ)
  sl_kernel_rfl

/-- The reference has no counter at all, so each of them is zero at its end. -/
theorem frame_reference : Cert.quiescent_Reference2Ideal (hReference2Ideal := Cert.Reference2Ideal.Gen.facts) := by
  intro m ρ _
  hlo_run
  · exact fun _ => ⟨trivial, trivial, trivial, trivial, trivial, trivial⟩
  · exact funext fun g => ((Fintype.card_eq_zero_iff.mp (SemLoc.card_eq (sig := Cert.Reference2Ideal.sig))).false g.2).elim

theorem frame_reference_finite : Cert.quiescent_Reference2Ideal_pre_finite2 (hReference2Ideal := Cert.Reference2Ideal.Gen.facts) (hPre_finite2 := pre_facts) :=
  fun m ρ _ => frame_reference m ρ trivial

theorem same : Cert.algebraic_Kernel2Ideal_Reference2Ideal_pre_finite2 (hKernel2Ideal := Cert.Kernel2Ideal.Gen.facts)
    (hReference2Ideal := Cert.Reference2Ideal.Gen.facts) (hPre_finite2 := pre_facts) := by
  intro m g m' g' hp hm
  have e (c : Dev Cert.Kernel2Ideal.nD) : refArgs m' c = args m c := by
    obtain ⟨e0, e1, e2, e3, e4, e5⟩ := hm c
    unfold refArgs args
    rw [e0, e1, e2, e3, e4, e5]
  refine ⟨_, _, _, _, _, kernel_run m g, ?_⟩
  refine (θ_run _ _ _).mono (fun r h c => ?_) (reference_run m' g' fun c => ?_)
  · have := h c
    rw [e c] at this
    exact this
  · rw [e c]
    exact ⟨Cert.Loss.real_of_pre _ _ (hp c).1, Cert.Loss.real_of_pre _ _ (hp c).2.1, Cert.Loss.real_of_pre _ _ (hp c).2.2.1,
      Cert.Loss.real_of_pre _ _ (hp c).2.2.2.1, Cert.Loss.real_of_pre _ _ (hp c).2.2.2.2.1, Cert.Loss.real_of_pre _ _ (hp c).2.2.2.2.2⟩

end Cert.Mlp

end
-- ==== Proof.Sc.Body.lean ====
/- The body of the short convolution mixer's gradient, run at the first point, between, and at the last: what it stores, buffer by buffer. -/
module

public import proofs.«01_k».proof.Proof.Gen.Kernel3Ideal.Frame
public import proofs.«01_k».proof.Proof.Gen.Kernel3Ideal.Skeleton
public import Idealize.ShloMosaic.Lib.Tactic

@[expose] public section

set_option maxRecDepth 16384

noncomputable section

namespace Cert.Sc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The buffers a point works on: nine blocks it reads, seven it writes, two scratch buffers. -/
structure Bufs where
  d : Memref sig .tc .vmem S256x1024 .f32
  dW : d.IsWhole
  hh : Memref sig .tc .vmem S256x3072 .bf16
  hhW : hh.IsWhole
  hp : Memref sig .tc .vmem S16x3072 .bf16
  hpW : hp.IsWhole
  x : Memref sig .tc .vmem S256x1024 .f32
  xW : x.IsWhole
  fst : Memref sig .tc .vmem S256x1024 .f32
  fstW : fst.IsWhole
  g : Memref sig .tc .vmem S1x1024 .f32
  gW : g.IsWhole
  w : Memref sig .tc .vmem S4x1024x768 .bf16
  wW : w.IsWhole
  cw : Memref sig .tc .vmem S3x1024 .f32
  cwW : cw.IsWhole
  wo : Memref sig .tc .vmem S1024x1024 .bf16
  woW : wo.IsWhole
  dx : Memref sig .tc .vmem S256x1024 .f32
  dxW : dx.IsWhole
  dhh : Memref sig .tc .vmem S256x3072 .bf16
  dhhW : dhh.IsWhole
  z : Memref sig .tc .vmem S256x1024 .bf16
  zW : z.IsWhole
  hn : Memref sig .tc .vmem S256x1024 .bf16
  hnW : hn.IsWhole
  dcw : Memref sig .tc .vmem S8x1024 .f32
  dcwW : dcw.IsWhole
  dg : Memref sig .tc .vmem S8x1024 .f32
  dgW : dg.IsWhole
  dfst : Memref sig .tc .vmem S256x1024 .f32
  dfstW : dfst.IsWhole
  cb : Memref sig .tc .vmem S272x1024 .f32
  cbW : cb.IsWhole
  db : Memref sig .tc .vmem S272x1024 .f32
  dbW : db.IsWhole

/-- What the blocks read hold. -/
structure Blocks (F : FTy → Type) where
  d : Vec F S256x1024 .f32
  hh : Vec F S256x3072 .bf16
  hp : Vec F S16x3072 .bf16
  x : Vec F S256x1024 .f32
  fst : Vec F S256x1024 .f32
  g : Vec F S1x1024 .f32
  w : Vec F S4x1024x768 .bf16
  cw : Vec F S3x1024 .f32
  wo : Vec F S1024x1024 .bf16

variable (c : Dev nD) (i : grid0.Coords) (B : Bufs) (X : Blocks F)

/-- The body on these buffers. -/
abbrev body : Prog (TpuEff nD τ sig (Elt F) Λ₀ .tc) PUnit :=
  cc0_sc_bwd i B.d B.dW B.hh B.hhW B.hp B.hpW B.x B.xW B.fst B.fstW B.g B.gW B.w B.wW B.cw B.cwW B.wo B.woW B.dx B.dxW B.dhh B.dhhW B.z B.zW B.hn B.hnW B.dcw B.dcwW B.dg B.dgW B.dfst B.dfstW B.cb B.cbW B.db B.dbW

/-- The blocks read, at what they hold. -/
def Given : sProp 𝕄 :=
  iprop(owns (c : Thread nD τ) B.d fullShare X.d
    ∗ owns (c : Thread nD τ) B.hh fullShare X.hh
    ∗ owns (c : Thread nD τ) B.hp fullShare X.hp
    ∗ owns (c : Thread nD τ) B.x fullShare X.x
    ∗ owns (c : Thread nD τ) B.fst fullShare X.fst
    ∗ owns (c : Thread nD τ) B.g fullShare X.g
    ∗ owns (c : Thread nD τ) B.w fullShare X.w
    ∗ owns (c : Thread nD τ) B.cw fullShare X.cw
    ∗ owns (c : Thread nD τ) B.wo fullShare X.wo)

/-- A buffer at contents that nothing names. -/
def Any {sp : Space} {s : Shape} {e : EltTy} (v : Memref sig .tc sp s e) : sProp 𝕄 := iprop(∃ d, owns (c : Thread nD τ) v fullShare d)

/-- A buffer at pieces written over contents that nothing names. -/
def Put {sp : Space} {s : Shape} {e : EltTy} (v : Memref sig .tc sp s e) (L : List (View.Piece (Elt F) s e)) : sProp 𝕄 :=
  iprop(∃ f, v.view.loc (c : Thread nD τ) ↦[v.view.set]{fullShare} v.view.writes (Elt F) f L)

/-- A buffer at pieces written over what it held. -/
def Over {sp : Space} {s : Shape} {e : EltTy} (v : Memref sig .tc sp s e) (h : v.IsWhole) (x : s.Idx → Elt F e) (L : List (View.Piece (Elt F) s e)) : sProp 𝕄 :=
  iprop(v.view.loc (c : Thread nD τ) ↦[v.view.set]{fullShare} v.view.writes (Elt F) (h.unread x) L)

set_option maxHeartbeats 2000000 in
/-- The first point: the two accumulated blocks and the rows after the tile start at zero. -/
noncomputable def runFirst (h0 : (Scalar.cmpi .ne (Scalar.extui (Scalar.cmpi .eq (BitVec.ofNat 32 (i 0).val) 0#32)) 0#32) = 1#1) (h1 : ¬k0_cond2 i = 1#1) (h2 : k0_cond3 i = 1#1) :
    Σ' (Ldx : List (View.Piece (Elt F) S256x1024 .f32)), Σ' (Ldhh : List (View.Piece (Elt F) S256x3072 .bf16)), Σ' (Lz : List (View.Piece (Elt F) S256x1024 .bf16)), Σ' (Lhn : List (View.Piece (Elt F) S256x1024 .bf16)), Σ' (Ldcw : List (View.Piece (Elt F) S8x1024 .f32)), Σ' (Ldg : List (View.Piece (Elt F) S8x1024 .f32)), Σ' (Lcb : List (View.Piece (Elt F) S272x1024 .f32)), { Ldb : List (View.Piece (Elt F) S272x1024 .f32) //
      ∀ (E : Set ℕ) (K : PUnit → sProp 𝕄),
        iprop(Given c B X ∗ Any c B.dx ∗ Any c B.dhh ∗ Any c B.z ∗ Any c B.hn ∗ Any c B.dcw ∗ Any c B.dg ∗ Any c B.cb ∗ Any c B.db
            ∗ (iprop(Given c B X ∗ Put c B.dx Ldx ∗ Put c B.dhh Ldhh ∗ Put c B.z Lz ∗ Put c B.hn Lhn ∗ Put c B.dcw Ldcw ∗ Put c B.dg Ldg ∗ Put c B.cb Lcb ∗ Put c B.db Ldb) -∗ K ⟨⟩))
          ⊢ wp frame (wpE (defs₀ (F := F)) Variants.none c none) E (body i B) K } := by
  refine ⟨?_, ?_, ?_, ?_, ?_, ?_, ?_, ?_, fun E K => ?run⟩
  case run =>
    unfold body
    simp only [cc0_sc_bwd_eq_skeleton]
    unfold cc0_sc_bwd_skel
    simp only [k0_part1_eq_skeleton, k0_part2_eq_skeleton, k0_part3_eq_skeleton, k0_part4_eq_skeleton, k0_part5_eq_skeleton, k0_part6_eq_skeleton, k0_part7_eq_skeleton]
    unfold Given Any Put owns
    iintro ⟨⟨⟨%fd, %ed, Hd⟩, ⟨%fhh, %ehh, Hhh⟩, ⟨%fhp, %ehp, Hhp⟩, ⟨%fx, %ex, Hx⟩, ⟨%ffst, %efst, Hfst⟩, ⟨%fg, %eg, Hg⟩, ⟨%fw, %ew, Hw⟩, ⟨%fcw, %ecw, Hcw⟩, ⟨%fwo, %ewo, Hwo⟩⟩, ⟨%ddx, %fdx, -, Hdx⟩, ⟨%ddhh, %fdhh, -, Hdhh⟩, ⟨%dz, %fz, -, Hz⟩, ⟨%dhn, %fhn, -, Hhn⟩, ⟨%ddcw, %fdcw, -, Hdcw⟩, ⟨%ddg, %fdg, -, Hdg⟩, ⟨%dcb, %fcb, -, Hcb⟩, ⟨%ddb, %fdb, -, Hdb⟩, Hk⟩
    obtain rfl := B.dW.eq_unread ed
    obtain rfl := B.hhW.eq_unread ehh
    obtain rfl := B.hpW.eq_unread ehp
    obtain rfl := B.xW.eq_unread ex
    obtain rfl := B.fstW.eq_unread efst
    obtain rfl := B.gW.eq_unread eg
    obtain rfl := B.wW.eq_unread ew
    obtain rfl := B.cwW.eq_unread ecw
    obtain rfl := B.woW.eq_unread ewo
    sl_exec (disch := first | sl_exact h0 | sl_exact h1 | sl_exact h2)
    sl_step
    iapply Hk
    isplitl [Hd Hhh Hhp Hx Hfst Hg Hw Hcw Hwo]
    · isplitl [Hd]
      · iexists _; isplitr
        · ipureintro; exact B.dW.read_unread _
        iexact Hd
      isplitl [Hhh]
      · iexists _; isplitr
        · ipureintro; exact B.hhW.read_unread _
        iexact Hhh
      isplitl [Hhp]
      · iexists _; isplitr
        · ipureintro; exact B.hpW.read_unread _
        iexact Hhp
      isplitl [Hx]
      · iexists _; isplitr
        · ipureintro; exact B.xW.read_unread _
        iexact Hx
      isplitl [Hfst]
      · iexists _; isplitr
        · ipureintro; exact B.fstW.read_unread _
        iexact Hfst
      isplitl [Hg]
      · iexists _; isplitr
        · ipureintro; exact B.gW.read_unread _
        iexact Hg
      isplitl [Hw]
      · iexists _; isplitr
        · ipureintro; exact B.wW.read_unread _
        iexact Hw
      isplitl [Hcw]
      · iexists _; isplitr
        · ipureintro; exact B.cwW.read_unread _
        iexact Hcw
      iexists _; isplitr
      · ipureintro; exact B.woW.read_unread _
      iexact Hwo
    isplitl [Hdx]; · iexists _; iexact Hdx
    isplitl [Hdhh]; · iexists _; iexact Hdhh
    isplitl [Hz]; · iexists _; iexact Hz
    isplitl [Hhn]; · iexists _; iexact Hhn
    isplitl [Hdcw]; · iexists _; iexact Hdcw
    isplitl [Hdg]; · iexists _; iexact Hdg
    isplitl [Hcb]; · iexists _; iexact Hcb
    iexists _; iexact Hdb

set_option maxHeartbeats 2000000 in
/-- A point between: over what the point before left. -/
noncomputable def runNext (h0 : ¬(Scalar.cmpi .ne (Scalar.extui (Scalar.cmpi .eq (BitVec.ofNat 32 (i 0).val) 0#32)) 0#32) = 1#1) (h1 : ¬k0_cond2 i = 1#1) (h2 : k0_cond3 i = 1#1) (pdcw : Vec F S8x1024 .f32) (pdg : Vec F S8x1024 .f32) (pdb : Vec F S272x1024 .f32) :
    Σ' (Ldx : List (View.Piece (Elt F) S256x1024 .f32)), Σ' (Ldhh : List (View.Piece (Elt F) S256x3072 .bf16)), Σ' (Lz : List (View.Piece (Elt F) S256x1024 .bf16)), Σ' (Lhn : List (View.Piece (Elt F) S256x1024 .bf16)), Σ' (Ldcw : List (View.Piece (Elt F) S8x1024 .f32)), Σ' (Ldg : List (View.Piece (Elt F) S8x1024 .f32)), Σ' (Lcb : List (View.Piece (Elt F) S272x1024 .f32)), { Ldb : List (View.Piece (Elt F) S272x1024 .f32) //
      ∀ (E : Set ℕ) (K : PUnit → sProp 𝕄),
        iprop(Given c B X ∗ Any c B.dx ∗ Any c B.dhh ∗ Any c B.z ∗ Any c B.hn ∗ owns (c : Thread nD τ) B.dcw fullShare pdcw ∗ owns (c : Thread nD τ) B.dg fullShare pdg ∗ Any c B.cb ∗ owns (c : Thread nD τ) B.db fullShare pdb
            ∗ (iprop(Given c B X ∗ Put c B.dx Ldx ∗ Put c B.dhh Ldhh ∗ Put c B.z Lz ∗ Put c B.hn Lhn ∗ Over c B.dcw B.dcwW pdcw Ldcw ∗ Over c B.dg B.dgW pdg Ldg ∗ Put c B.cb Lcb ∗ Over c B.db B.dbW pdb Ldb) -∗ K ⟨⟩))
          ⊢ wp frame (wpE (defs₀ (F := F)) Variants.none c none) E (body i B) K } := by
  refine ⟨?_, ?_, ?_, ?_, ?_, ?_, ?_, ?_, fun E K => ?run⟩
  case run =>
    unfold body
    simp only [cc0_sc_bwd_eq_skeleton]
    unfold cc0_sc_bwd_skel
    simp only [k0_part1_eq_skeleton, k0_part2_eq_skeleton, k0_part3_eq_skeleton, k0_part4_eq_skeleton, k0_part5_eq_skeleton, k0_part6_eq_skeleton, k0_part7_eq_skeleton]
    unfold Given Any Put Over owns
    iintro ⟨⟨⟨%fd, %ed, Hd⟩, ⟨%fhh, %ehh, Hhh⟩, ⟨%fhp, %ehp, Hhp⟩, ⟨%fx, %ex, Hx⟩, ⟨%ffst, %efst, Hfst⟩, ⟨%fg, %eg, Hg⟩, ⟨%fw, %ew, Hw⟩, ⟨%fcw, %ecw, Hcw⟩, ⟨%fwo, %ewo, Hwo⟩⟩, ⟨%ddx, %fdx, -, Hdx⟩, ⟨%ddhh, %fdhh, -, Hdhh⟩, ⟨%dz, %fz, -, Hz⟩, ⟨%dhn, %fhn, -, Hhn⟩, ⟨%fdcw, %edcw, Hdcw⟩, ⟨%fdg, %edg, Hdg⟩, ⟨%dcb, %fcb, -, Hcb⟩, ⟨%fdb, %edb, Hdb⟩, Hk⟩
    obtain rfl := B.dW.eq_unread ed
    obtain rfl := B.hhW.eq_unread ehh
    obtain rfl := B.hpW.eq_unread ehp
    obtain rfl := B.xW.eq_unread ex
    obtain rfl := B.fstW.eq_unread efst
    obtain rfl := B.gW.eq_unread eg
    obtain rfl := B.wW.eq_unread ew
    obtain rfl := B.cwW.eq_unread ecw
    obtain rfl := B.woW.eq_unread ewo
    obtain rfl := B.dcwW.eq_unread edcw
    obtain rfl := B.dgW.eq_unread edg
    obtain rfl := B.dbW.eq_unread edb
    sl_exec (disch := first | sl_exact h0 | sl_exact h1 | sl_exact h2)
    sl_step
    iapply Hk
    isplitl [Hd Hhh Hhp Hx Hfst Hg Hw Hcw Hwo]
    · isplitl [Hd]
      · iexists _; isplitr
        · ipureintro; exact B.dW.read_unread _
        iexact Hd
      isplitl [Hhh]
      · iexists _; isplitr
        · ipureintro; exact B.hhW.read_unread _
        iexact Hhh
      isplitl [Hhp]
      · iexists _; isplitr
        · ipureintro; exact B.hpW.read_unread _
        iexact Hhp
      isplitl [Hx]
      · iexists _; isplitr
        · ipureintro; exact B.xW.read_unread _
        iexact Hx
      isplitl [Hfst]
      · iexists _; isplitr
        · ipureintro; exact B.fstW.read_unread _
        iexact Hfst
      isplitl [Hg]
      · iexists _; isplitr
        · ipureintro; exact B.gW.read_unread _
        iexact Hg
      isplitl [Hw]
      · iexists _; isplitr
        · ipureintro; exact B.wW.read_unread _
        iexact Hw
      isplitl [Hcw]
      · iexists _; isplitr
        · ipureintro; exact B.cwW.read_unread _
        iexact Hcw
      iexists _; isplitr
      · ipureintro; exact B.woW.read_unread _
      iexact Hwo
    isplitl [Hdx]; · iexists _; iexact Hdx
    isplitl [Hdhh]; · iexists _; iexact Hdhh
    isplitl [Hz]; · iexists _; iexact Hz
    isplitl [Hhn]; · iexists _; iexact Hhn
    isplitl [Hdcw]; · iexact Hdcw
    isplitl [Hdg]; · iexact Hdg
    isplitl [Hcb]; · iexists _; iexact Hcb
    iexact Hdb

set_option maxHeartbeats 2000000 in
/-- The last point: the gradient of the first tile's rows goes to a block of its own. -/
noncomputable def runLast (h0 : ¬(Scalar.cmpi .ne (Scalar.extui (Scalar.cmpi .eq (BitVec.ofNat 32 (i 0).val) 0#32)) 0#32) = 1#1) (h1 : k0_cond2 i = 1#1) (h2 : ¬k0_cond3 i = 1#1) (pdcw : Vec F S8x1024 .f32) (pdg : Vec F S8x1024 .f32) (pdb : Vec F S272x1024 .f32) :
    Σ' (Ldhh : List (View.Piece (Elt F) S256x3072 .bf16)), Σ' (Lz : List (View.Piece (Elt F) S256x1024 .bf16)), Σ' (Lhn : List (View.Piece (Elt F) S256x1024 .bf16)), Σ' (Ldcw : List (View.Piece (Elt F) S8x1024 .f32)), Σ' (Ldg : List (View.Piece (Elt F) S8x1024 .f32)), Σ' (Ldfst : List (View.Piece (Elt F) S256x1024 .f32)), Σ' (Lcb : List (View.Piece (Elt F) S272x1024 .f32)), { Ldb : List (View.Piece (Elt F) S272x1024 .f32) //
      ∀ (E : Set ℕ) (K : PUnit → sProp 𝕄),
        iprop(Given c B X ∗ Any c B.dhh ∗ Any c B.z ∗ Any c B.hn ∗ owns (c : Thread nD τ) B.dcw fullShare pdcw ∗ owns (c : Thread nD τ) B.dg fullShare pdg ∗ Any c B.dfst ∗ Any c B.cb ∗ owns (c : Thread nD τ) B.db fullShare pdb
            ∗ (iprop(Given c B X ∗ Put c B.dhh Ldhh ∗ Put c B.z Lz ∗ Put c B.hn Lhn ∗ Over c B.dcw B.dcwW pdcw Ldcw ∗ Over c B.dg B.dgW pdg Ldg ∗ Put c B.dfst Ldfst ∗ Put c B.cb Lcb ∗ Over c B.db B.dbW pdb Ldb) -∗ K ⟨⟩))
          ⊢ wp frame (wpE (defs₀ (F := F)) Variants.none c none) E (body i B) K } := by
  refine ⟨?_, ?_, ?_, ?_, ?_, ?_, ?_, ?_, fun E K => ?run⟩
  case run =>
    unfold body
    simp only [cc0_sc_bwd_eq_skeleton]
    unfold cc0_sc_bwd_skel
    simp only [k0_part1_eq_skeleton, k0_part2_eq_skeleton, k0_part3_eq_skeleton, k0_part4_eq_skeleton, k0_part5_eq_skeleton, k0_part6_eq_skeleton, k0_part7_eq_skeleton]
    unfold Given Any Put Over owns
    iintro ⟨⟨⟨%fd, %ed, Hd⟩, ⟨%fhh, %ehh, Hhh⟩, ⟨%fhp, %ehp, Hhp⟩, ⟨%fx, %ex, Hx⟩, ⟨%ffst, %efst, Hfst⟩, ⟨%fg, %eg, Hg⟩, ⟨%fw, %ew, Hw⟩, ⟨%fcw, %ecw, Hcw⟩, ⟨%fwo, %ewo, Hwo⟩⟩, ⟨%ddhh, %fdhh, -, Hdhh⟩, ⟨%dz, %fz, -, Hz⟩, ⟨%dhn, %fhn, -, Hhn⟩, ⟨%fdcw, %edcw, Hdcw⟩, ⟨%fdg, %edg, Hdg⟩, ⟨%ddfst, %fdfst, -, Hdfst⟩, ⟨%dcb, %fcb, -, Hcb⟩, ⟨%fdb, %edb, Hdb⟩, Hk⟩
    obtain rfl := B.dW.eq_unread ed
    obtain rfl := B.hhW.eq_unread ehh
    obtain rfl := B.hpW.eq_unread ehp
    obtain rfl := B.xW.eq_unread ex
    obtain rfl := B.fstW.eq_unread efst
    obtain rfl := B.gW.eq_unread eg
    obtain rfl := B.wW.eq_unread ew
    obtain rfl := B.cwW.eq_unread ecw
    obtain rfl := B.woW.eq_unread ewo
    obtain rfl := B.dcwW.eq_unread edcw
    obtain rfl := B.dgW.eq_unread edg
    obtain rfl := B.dbW.eq_unread edb
    sl_exec (disch := first | sl_exact h0 | sl_exact h1 | sl_exact h2)
    sl_step
    iapply Hk
    isplitl [Hd Hhh Hhp Hx Hfst Hg Hw Hcw Hwo]
    · isplitl [Hd]
      · iexists _; isplitr
        · ipureintro; exact B.dW.read_unread _
        iexact Hd
      isplitl [Hhh]
      · iexists _; isplitr
        · ipureintro; exact B.hhW.read_unread _
        iexact Hhh
      isplitl [Hhp]
      · iexists _; isplitr
        · ipureintro; exact B.hpW.read_unread _
        iexact Hhp
      isplitl [Hx]
      · iexists _; isplitr
        · ipureintro; exact B.xW.read_unread _
        iexact Hx
      isplitl [Hfst]
      · iexists _; isplitr
        · ipureintro; exact B.fstW.read_unread _
        iexact Hfst
      isplitl [Hg]
      · iexists _; isplitr
        · ipureintro; exact B.gW.read_unread _
        iexact Hg
      isplitl [Hw]
      · iexists _; isplitr
        · ipureintro; exact B.wW.read_unread _
        iexact Hw
      isplitl [Hcw]
      · iexists _; isplitr
        · ipureintro; exact B.cwW.read_unread _
        iexact Hcw
      iexists _; isplitr
      · ipureintro; exact B.woW.read_unread _
      iexact Hwo
    isplitl [Hdhh]; · iexists _; iexact Hdhh
    isplitl [Hz]; · iexists _; iexact Hz
    isplitl [Hhn]; · iexists _; iexact Hhn
    isplitl [Hdcw]; · iexact Hdcw
    isplitl [Hdg]; · iexact Hdg
    isplitl [Hdfst]; · iexists _; iexact Hdfst
    isplitl [Hcb]; · iexists _; iexact Hcb
    iexact Hdb

end Cert.Sc

end
-- ==== Proof.Sc.Step.lean ====
/- What the short convolution mixer's gradient leaves at every grid point: the blocks it writes and the buffer it carries to the tile
   before. The points run from the last tile to the first. -/
module

public import proofs.«01_k».proof.Proof.Sc.Body

@[expose] public section

set_option maxRecDepth 16384

noncomputable section

open Idealize.ShloMosaic Idealize.ShloMosaic.TcCoe Idealize.ShloMosaic.Tactic Idealize.SL.Sem

namespace Cert.Sc

open Cert.Kernel3Ideal Cert.Kernel3Ideal.Gen

variable {F : FTy → Type} [FloatOps F] (m : (ℓ : Loc nD τ sig) → Buf (Elt F) ℓ)

/-- The buffers of a point. -/
abbrev bufs (t : Fin cfg0.N) : Bufs where
  d := win0_0.stage (cfg0.slots t 0)
  dW := hstage0_0 ((cfg0.slots t 0).cast nbuf0_0)
  hh := win0_1.stage (cfg0.slots t 1)
  hhW := hstage0_1 ((cfg0.slots t 1).cast nbuf0_1)
  hp := win0_2.stage (cfg0.slots t 2)
  hpW := hstage0_2 ((cfg0.slots t 2).cast nbuf0_2)
  x := win0_3.stage (cfg0.slots t 3)
  xW := hstage0_3 ((cfg0.slots t 3).cast nbuf0_3)
  fst := win0_4.stage (cfg0.slots t 4)
  fstW := hstage0_4 ((cfg0.slots t 4).cast nbuf0_4)
  g := win0_5.stage (cfg0.slots t 5)
  gW := hstage0_5 ((cfg0.slots t 5).cast nbuf0_5)
  w := win0_6.stage (cfg0.slots t 6)
  wW := hstage0_6 ((cfg0.slots t 6).cast nbuf0_6)
  cw := win0_7.stage (cfg0.slots t 7)
  cwW := hstage0_7 ((cfg0.slots t 7).cast nbuf0_7)
  wo := win0_8.stage (cfg0.slots t 8)
  woW := hstage0_8 ((cfg0.slots t 8).cast nbuf0_8)
  dx := win0_9.stage (cfg0.slots t 9)
  dxW := hstage0_9 ((cfg0.slots t 9).cast nbuf0_9)
  dhh := win0_10.stage (cfg0.slots t 10)
  dhhW := hstage0_10 ((cfg0.slots t 10).cast nbuf0_10)
  z := win0_11.stage (cfg0.slots t 11)
  zW := hstage0_11 ((cfg0.slots t 11).cast nbuf0_11)
  hn := win0_12.stage (cfg0.slots t 12)
  hnW := hstage0_12 ((cfg0.slots t 12).cast nbuf0_12)
  dcw := win0_13.stage (cfg0.slots t 13)
  dcwW := hstage0_13 ((cfg0.slots t 13).cast nbuf0_13)
  dg := win0_14.stage (cfg0.slots t 14)
  dgW := hstage0_14 ((cfg0.slots t 14).cast nbuf0_14)
  dfst := win0_15.stage (cfg0.slots t 15)
  dfstW := hstage0_15 ((cfg0.slots t 15).cast nbuf0_15)
  cb := Memref.whole cc0_scratch0
  cbW := Memref.isWhole_whole _
  db := Memref.whole cc0_scratch1
  dbW := Memref.isWhole_whole _

/-- The blocks a point reads. -/
abbrev blocks (c : Dev nD) (t : Fin cfg0.N) : Blocks F where
  d := iblk m c 0 t
  hh := iblk m c 1 t
  hp := iblk m c 2 t
  x := iblk m c 3 t
  fst := iblk m c 4 t
  g := iblk m c 5 t
  w := iblk m c 6 t
  cw := iblk m c 7 t
  wo := iblk m c 8 t

/-! Which point is the first, which the last. -/

theorem at_first (t : Fin cfg0.N) : (Scalar.cmpi .ne (Scalar.extui (Scalar.cmpi .eq (BitVec.ofNat 32 (grid0.coords t 0).val) 0#32)) 0#32) = 1#1 ↔ t.val % 65 = 0 := by
  revert t; decide +kernel

theorem at_last (t : Fin cfg0.N) : k0_cond2 (grid0.coords t) = 1#1 ↔ t.val % 65 = 64 := by revert t; decide +kernel

theorem before_last (t : Fin cfg0.N) : k0_cond3 (grid0.coords t) = 1#1 ↔ ¬t.val % 65 = 64 := by revert t; decide +kernel

/-- What a point leaves: the gradients of the stream and of the projection, the gated and the normed rows, the gradients of the taps and
    of the gain added up so far, the gradient of the first tile's rows, and the buffer of the convolution's gradient. -/
structure St (F : FTy → Type) where
  dx : Vec F S256x1024 .f32
  dhh : Vec F S256x3072 .bf16
  z : Vec F S256x1024 .bf16
  hn : Vec F S256x1024 .bf16
  dcw : Vec F S8x1024 .f32
  dg : Vec F S8x1024 .f32
  dfst : Vec F S256x1024 .f32
  db : Vec F S272x1024 .f32

/-- The body at the first point. -/
abbrev ranFirst (c : Dev nD) (t : Fin cfg0.N) (h : t.val % 65 = 0) :=
  runFirst (F := F) c (grid0.coords t) (bufs t) (blocks m c t) ((at_first t).mpr h) (fun e => by have := (at_last t).mp e; omega)
    ((before_last t).mpr (by omega))

/-- The body at a point between, over what the point before left. -/
abbrev ranNext (c : Dev nD) (t : Fin cfg0.N) (h : ¬t.val % 65 = 0) (h' : ¬t.val % 65 = 64) (p : St F) :=
  runNext (F := F) c (grid0.coords t) (bufs t) (blocks m c t) (fun e => h ((at_first t).mp e)) (fun e => h' ((at_last t).mp e))
    ((before_last t).mpr h') p.dcw p.dg p.db

/-- The body at the last point. -/
abbrev ranLast (c : Dev nD) (t : Fin cfg0.N) (h : t.val % 65 = 64) (p : St F) :=
  runLast (F := F) c (grid0.coords t) (bufs t) (blocks m c t) (fun e => by have := (at_first t).mp e; omega) ((at_last t).mpr h)
    (fun e => (before_last t).mp e h) p.dcw p.dg p.db

/-- What the first point leaves. -/
def first (c : Dev nD) (t : Fin cfg0.N) (h : t.val % 65 = 0) : St F where
  dx := View.canon (ranFirst m c t h).1
  dhh := View.canon (ranFirst m c t h).2.1
  z := View.canon (ranFirst m c t h).2.2.1
  hn := View.canon (ranFirst m c t h).2.2.2.1
  dcw := View.canon (ranFirst m c t h).2.2.2.2.1
  dg := View.canon (ranFirst m c t h).2.2.2.2.2.1
  dfst := View.canon []
  db := View.canon (ranFirst m c t h).2.2.2.2.2.2.2.1

/-- What a point between leaves: the two accumulated blocks are written over what they held. -/
def next (c : Dev nD) (t : Fin cfg0.N) (h : ¬t.val % 65 = 0) (h' : ¬t.val % 65 = 64) (p : St F) : St F where
  dx := View.canon (ranNext m c t h h' p).1
  dhh := View.canon (ranNext m c t h h' p).2.1
  z := View.canon (ranNext m c t h h' p).2.2.1
  hn := View.canon (ranNext m c t h h' p).2.2.2.1
  dcw := (bufs t).dcw.view.read (Elt F) ((bufs t).dcw.view.writes (Elt F) ((bufs t).dcwW.unread p.dcw) (ranNext m c t h h' p).2.2.2.2.1)
  dg := (bufs t).dg.view.read (Elt F) ((bufs t).dg.view.writes (Elt F) ((bufs t).dgW.unread p.dg) (ranNext m c t h h' p).2.2.2.2.2.1)
  dfst := View.canon []
  db := (bufs t).db.view.read (Elt F) ((bufs t).db.view.writes (Elt F) ((bufs t).dbW.unread p.db) (ranNext m c t h h' p).2.2.2.2.2.2.2.1)

/-- What the last point leaves: the block of the stream's gradient stays as it was. -/
def last (c : Dev nD) (t : Fin cfg0.N) (h : t.val % 65 = 64) (p : St F) : St F where
  dx := p.dx
  dhh := View.canon (ranLast m c t h p).1
  z := View.canon (ranLast m c t h p).2.1
  hn := View.canon (ranLast m c t h p).2.2.1
  dcw := (bufs t).dcw.view.read (Elt F) ((bufs t).dcw.view.writes (Elt F) ((bufs t).dcwW.unread p.dcw) (ranLast m c t h p).2.2.2.1)
  dg := (bufs t).dg.view.read (Elt F) ((bufs t).dg.view.writes (Elt F) ((bufs t).dgW.unread p.dg) (ranLast m c t h p).2.2.2.2.1)
  dfst := View.canon (ranLast m c t h p).2.2.2.2.2.1
  db := (bufs t).db.view.read (Elt F) ((bufs t).db.view.writes (Elt F) ((bufs t).dbW.unread p.db) (ranLast m c t h p).2.2.2.2.2.2.2.1)

/-- What a point after the first leaves. -/
def step (c : Dev nD) (t : Fin cfg0.N) (h : ¬t.val % 65 = 0) (p : St F) : St F :=
  if h' : t.val % 65 = 64 then last m c t h' p else next m c t h h' p

theorem later (n : ℕ) (h : n + 1 < cfg0.N) : ¬(n + 1) % 65 = 0 := by
  have hN : cfg0.N = 65 := N_0
  omega

/-- What every point leaves, one after another. -/
def outs (c : Dev nD) : ℕ → St F
  | 0 => first m c ⟨0, by have hN : cfg0.N = 65 := N_0; omega⟩ rfl
  | n + 1 => if h : n + 1 < cfg0.N then step m c ⟨n + 1, h⟩ (later n h) (outs c n) else outs c n

section
variable (c : Dev nD) (t : Fin cfg0.N)

/-! The stores of a point cover each block that is not accumulated, and at the first point all of them. -/

theorem cover_dx_first (h : t.val % 65 = 0) (y) : ∃ q ∈ (ranFirst m c t h).1, y ∈ q.1.set :=
  View.cover_of_tiledL (ranFirst m c t h).1 S256x1024.size (by sl_kernel_rfl) y
theorem cover_dhh_first (h : t.val % 65 = 0) (y) : ∃ q ∈ (ranFirst m c t h).2.1, y ∈ q.1.set :=
  View.cover_of_tiledL (ranFirst m c t h).2.1 S256x1024.size (by sl_kernel_rfl) y
theorem cover_z_first (h : t.val % 65 = 0) (y) : ∃ q ∈ (ranFirst m c t h).2.2.1, y ∈ q.1.set :=
  View.cover_of_tiledL (ranFirst m c t h).2.2.1 S256x1024.size (by sl_kernel_rfl) y
theorem cover_hn_first (h : t.val % 65 = 0) (y) : ∃ q ∈ (ranFirst m c t h).2.2.2.1, y ∈ q.1.set :=
  View.cover_of_tiledL (ranFirst m c t h).2.2.2.1 S256x1024.size (by sl_kernel_rfl) y
theorem cover_dcw_first (h : t.val % 65 = 0) (y) : ∃ q ∈ (ranFirst m c t h).2.2.2.2.1, y ∈ q.1.set :=
  View.cover_of_tiledBy (ranFirst m c t h).2.2.2.2.1 ![1, 1024] (by sl_kernel_rfl) y
theorem cover_dg_first (h : t.val % 65 = 0) (y) : ∃ q ∈ (ranFirst m c t h).2.2.2.2.2.1, y ∈ q.1.set :=
  View.cover_of_tiledBy (ranFirst m c t h).2.2.2.2.2.1 ![1, 1024] (by sl_kernel_rfl) y
theorem cover_db_first (h : t.val % 65 = 0) (y) : ∃ q ∈ (ranFirst m c t h).2.2.2.2.2.2.2.1, y ∈ q.1.set :=
  View.cover_of_tiledBy (ranFirst m c t h).2.2.2.2.2.2.2.1 ![8, 1024] (by sl_kernel_rfl) y

theorem cover_dx_next (h : ¬t.val % 65 = 0) (h' : ¬t.val % 65 = 64) (p : St F) (y) : ∃ q ∈ (ranNext m c t h h' p).1, y ∈ q.1.set :=
  View.cover_of_tiledL (ranNext m c t h h' p).1 S256x1024.size (by sl_kernel_rfl) y
theorem cover_dhh_next (h : ¬t.val % 65 = 0) (h' : ¬t.val % 65 = 64) (p : St F) (y) : ∃ q ∈ (ranNext m c t h h' p).2.1, y ∈ q.1.set :=
  View.cover_of_tiledL (ranNext m c t h h' p).2.1 S256x1024.size (by sl_kernel_rfl) y
theorem cover_z_next (h : ¬t.val % 65 = 0) (h' : ¬t.val % 65 = 64) (p : St F) (y) : ∃ q ∈ (ranNext m c t h h' p).2.2.1, y ∈ q.1.set :=
  View.cover_of_tiledL (ranNext m c t h h' p).2.2.1 S256x1024.size (by sl_kernel_rfl) y
theorem cover_hn_next (h : ¬t.val % 65 = 0) (h' : ¬t.val % 65 = 64) (p : St F) (y) : ∃ q ∈ (ranNext m c t h h' p).2.2.2.1, y ∈ q.1.set :=
  View.cover_of_tiledL (ranNext m c t h h' p).2.2.2.1 S256x1024.size (by sl_kernel_rfl) y

theorem cover_dhh_last (h : t.val % 65 = 64) (p : St F) (y) : ∃ q ∈ (ranLast m c t h p).1, y ∈ q.1.set :=
  View.cover_of_tiledL (ranLast m c t h p).1 S256x1024.size (by sl_kernel_rfl) y
theorem cover_z_last (h : t.val % 65 = 64) (p : St F) (y) : ∃ q ∈ (ranLast m c t h p).2.1, y ∈ q.1.set :=
  View.cover_of_tiledL (ranLast m c t h p).2.1 S256x1024.size (by sl_kernel_rfl) y
theorem cover_hn_last (h : t.val % 65 = 64) (p : St F) (y) : ∃ q ∈ (ranLast m c t h p).2.2.1, y ∈ q.1.set :=
  View.cover_of_tiledL (ranLast m c t h p).2.2.1 S256x1024.size (by sl_kernel_rfl) y
theorem cover_dfst_last (h : t.val % 65 = 64) (p : St F) (y) : ∃ q ∈ (ranLast m c t h p).2.2.2.2.2.1, y ∈ q.1.set :=
  View.cover_of_tiledL (ranLast m c t h p).2.2.2.2.2.1 S256x1024.size (by sl_kernel_rfl) y

end

attribute [irreducible] first next last

theorem outs_first (c : Dev nD) (t : Fin cfg0.N) (h : t.val % 65 = 0) : outs m c t.val = first m c t h := by
  obtain ⟨n, hn⟩ := t
  have h0 : n = 0 := by
    have hN : cfg0.N = 65 := N_0
    dsimp only at h
    omega
  subst h0
  rfl

theorem outs_step (c : Dev nD) (t : Fin cfg0.N) (h : ¬t.val % 65 = 0) : outs m c t.val = step m c t h (outs m c (t.val - 1)) := by
  obtain ⟨n, hn⟩ := t
  cases n with
  | zero => exact absurd rfl h
  | succ n => exact dif_pos hn

theorem outs_next (c : Dev nD) (t : Fin cfg0.N) (h : ¬t.val % 65 = 0) (h' : ¬t.val % 65 = 64) : outs m c t.val = next m c t h h' (outs m c (t.val - 1)) :=
  (outs_step m c t h).trans (dif_neg h')

theorem outs_last (c : Dev nD) (t : Fin cfg0.N) (h : ¬t.val % 65 = 0) (h' : t.val % 65 = 64) : outs m c t.val = last m c t h' (outs m c (t.val - 1)) :=
  (outs_step m c t h).trans (dif_pos h')

end Cert.Sc

end
-- ==== Proof.Sc.Run.lean ====
/- The run of the kernel that computes the short convolution mixer's gradient: every grid point leaves what `outs` says, so the whole run
   ends with every array of the call at the blocks written there and every other buffer as the host lines leave it. -/
module

public import proofs.«01_k».proof.Proof.Sc.Step
public import Idealize.ShloMosaic.Lib.Claim

@[expose] public section

set_option maxRecDepth 16384

noncomputable section

namespace Cert.Sc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, the carried one at `X`. -/
def Scratch (c : Dev nD) (X : Vec F S272x1024 .f32) : sProp 𝕄 :=
  iprop(Any c (Memref.whole cc0_scratch0) ∗ owns (c : Thread nD τ) (Memref.whole cc0_scratch1) fullShare X)

/-- Before a point: at the start the scratch buffers hold anything, afterwards the carried one holds what the point before left. -/
def Inv (c : Dev nD) : ℕ → sProp 𝕄
  | 0 => Pipeline.ΦA spec0 c
  | n + 1 => iprop(Scratch c (outs m c n).db ∗ (∃ r, prngReg c r))

theorem Inv_pos (c : Dev nD) (n : ℕ) (h : n ≠ 0) : Inv m c n = iprop(Scratch c (outs m c (n - 1)).db ∗ (∃ r, prngReg c r)) := by
  obtain ⟨k, rfl⟩ := Nat.exists_eq_succ_of_ne_zero h
  rfl

theorem anything (c : Dev nD) : (Pipeline.ΦA spec0 c : sProp 𝕄)
    = iprop(iprop(Any c (Memref.whole cc0_scratch0) ∗ Any c (Memref.whole cc0_scratch1)) ∗ (∃ r, prngReg c r)) := by
  unfold Pipeline.ΦA; rw [scopedRest0_eq]; unfold Any; simp only [owns_whole]; try rfl

/-- The contents of every window after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val).dx
    | ⟨10, _⟩ => (outs m c t.val).dhh
    | ⟨11, _⟩ => (outs m c t.val).z
    | ⟨12, _⟩ => (outs m c t.val).hn
    | ⟨13, _⟩ => (outs m c t.val).dcw
    | ⟨14, _⟩ => (outs m c t.val).dg
    | ⟨15, _⟩ => (outs m c t.val).dfst
    | ⟨_ + 16, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by dsimp only [dats]

section
variable (c : Dev nD) (t : Fin cfg0.N)

theorem after_dx : (dats m 0 c).after 9 t = (outs m c t.val).dx := by dsimp only [dats]
theorem after_dhh : (dats m 0 c).after 10 t = (outs m c t.val).dhh := by dsimp only [dats]
theorem after_z : (dats m 0 c).after 11 t = (outs m c t.val).z := by dsimp only [dats]
theorem after_hn : (dats m 0 c).after 12 t = (outs m c t.val).hn := by dsimp only [dats]
theorem after_dcw : (dats m 0 c).after 13 t = (outs m c t.val).dcw := by dsimp only [dats]
theorem after_dg : (dats m 0 c).after 14 t = (outs m c t.val).dg := by dsimp only [dats]
theorem after_dfst : (dats m 0 c).after 15 t = (outs m c t.val).dfst := by dsimp only [dats]

/-! Each input's buffer holds the block of its array before every point. -/

theorem in0 (d) : (dats m 0 c).before 0 t d = iblk m c 0 t := before0_0_of m _ (A_eq m c 0) (fun _ => by dsimp only [dats]) t d
theorem in1 (d) : (dats m 0 c).before 1 t d = iblk m c 1 t := before0_1_of m _ (A_eq m c 1) (fun _ => by dsimp only [dats]) t d
theorem in2 (d) : (dats m 0 c).before 2 t d = iblk m c 2 t := before0_2_of m _ (A_eq m c 2) (fun _ => by dsimp only [dats]) t d
theorem in3 (d) : (dats m 0 c).before 3 t d = iblk m c 3 t := before0_3_of m _ (A_eq m c 3) (fun _ => by dsimp only [dats]) t d
theorem in4 (d) : (dats m 0 c).before 4 t d = iblk m c 4 t := before0_4_of m _ (A_eq m c 4) (fun _ => by dsimp only [dats]) t d
theorem in5 (d) : (dats m 0 c).before 5 t d = iblk m c 5 t := before0_5_of m _ (A_eq m c 5) (fun _ => by dsimp only [dats]) t d
theorem in6 (d) : (dats m 0 c).before 6 t d = iblk m c 6 t := before0_6_of m _ (A_eq m c 6) (fun _ => by dsimp only [dats]) t d
theorem in7 (d) : (dats m 0 c).before 7 t d = iblk m c 7 t := before0_7_of m _ (A_eq m c 7) (fun _ => by dsimp only [dats]) t d
theorem in8 (d) : (dats m 0 c).before 8 t d = iblk m c 8 t := before0_8_of m _ (A_eq m c 8) (fun _ => by dsimp only [dats]) t d

theorem lt65 : t.val < 65 := lt_of_lt_of_eq t.isLt N_0

/-! An accumulated block holds at a later point what the point before left; so does the block of the stream's gradient at the last point. -/

theorem kept_dcw (h : ¬t.val % 65 = 0) (d) : (dats m 0 c).before 13 t d = (outs m c (t.val - 1)).dcw := by
  have hN := lt65 t
  rw [Dat.before_out_kept _ 13 rfl t (by omega) (Bool.eq_false_iff.mpr fun h' => by have := (flush0_13 _).mp h'; dsimp only at this; omega)
    (fun _ => rfl) (fun _ _ => rfl)]
  dsimp only [dats]

theorem kept_dg (h : ¬t.val % 65 = 0) (d) : (dats m 0 c).before 14 t d = (outs m c (t.val - 1)).dg := by
  have hN := lt65 t
  rw [Dat.before_out_kept _ 14 rfl t (by omega) (Bool.eq_false_iff.mpr fun h' => by have := (flush0_14 _).mp h'; dsimp only at this; omega)
    (fun _ => rfl) (fun _ _ => rfl)]
  dsimp only [dats]

theorem flush_dx : (cfg0.win 9).flush t = true ↔ ¬t.val % 65 = 63 := by
  have h : ∀ t : Fin grid0.N, win0_9.flush t = true ↔ ¬t.val % 65 = 63 := by decide +kernel
  exact h t

theorem live_dx (h : ¬t.val % 65 = 64) : cfg0.idle 9 (cfg0.grid.coords t) = false := by
  show (!(k0_cond3 (grid0.coords t) == 1#1)) = false
  rw [(before_last t).mpr h]; rfl

theorem kept_dx (h : t.val % 65 = 64) (d) : (dats m 0 c).before 9 t d = (outs m c (t.val - 1)).dx := by
  have hN := lt65 t
  rw [Dat.before_of_pos _ 9 t (by omega) ((cfg0.win 9).fetch_out rfl t),
    if_neg (fun h' => by have := (flush_dx _).mp h'; dsimp only at this; omega)]
  unfold Dat.left
  rw [live_dx _ (by dsimp only; omega)]
  dsimp only
  unfold Dat.kept
  rw [Pipeline.fill_of_clip_none 9 _ (fun _ => rfl) d ((dats m 0 c).after 9 _), Window.fill_cut]
  dsimp only [dats]

/-- A buffer is left as the point's contents say, where the body stores into it or the block is written back, -/
theorem leave (w : Fin cfg0.W) (h : cfg0.idle w (cfg0.grid.coords t) = false ∨ (cfg0.win w).flush t = true) :
    owns (c : Thread nD τ) ((cfg0.win w).stage (cfg0.slots t w)) fullShare ((dats m 0 c).after w t) ⊢ ((dats m 0 c).leavesExact w t : sProp 𝕄) := by
  unfold Dat.leavesExact
  rcases h with h | h
  · rw [h]
  · cases cfg0.idle w (cfg0.grid.coords t)
    · exact .rfl
    · rw [h]

/-- and otherwise as it was found. -/
theorem pass (w : Fin cfg0.W) (h : cfg0.idle w (cfg0.grid.coords t) = true) (h' : (cfg0.win w).flush t = false) (d) :
    owns (c : Thread nD τ) ((cfg0.win w).stage (cfg0.slots t w)) fullShare ((dats m 0 c).before w t d) ⊢ ((dats m 0 c).leavesExact w t : sProp 𝕄) := by
  unfold Dat.leavesExact
  rw [h, h']
  dsimp only
  iintro H
  iexists d
  iexact H

theorem idle_dfst (h : ¬t.val % 65 = 64) : cfg0.idle 15 (cfg0.grid.coords t) = true := by
  show (!(k0_cond2 (grid0.coords t) == 1#1)) = true
  rw [Bool.not_eq_true', beq_eq_false_iff_ne]
  exact fun e => h ((at_last t).mp e)

/-- A buffer found at `f` is owned at what it reads as. -/
theorem owned {sp : Space} {s : Shape} {e : EltTy} (v : Memref sig .tc sp s e) (f : v.view.ty.Contents (Elt F)) (X : s.Idx → Elt F e)
    (h : v.view.read (Elt F) f = X) :
    (v.view.loc (c : Thread nD τ) ↦[v.view.set]{fullShare} f : sProp 𝕄) ⊢ owns (c : Thread nD τ) v fullShare X :=
  h ▸ owns_intro (c : Thread nD τ) v fullShare f

theorem owned_over {sp : Space} {s : Shape} {e : EltTy} (v : Memref sig .tc sp s e) (h : v.IsWhole) (x : s.Idx → Elt F e) (L) :
    (Over c v h x L : sProp 𝕄) ⊢ owns (c : Thread nD τ) v fullShare (v.view.read (Elt F) (v.view.writes (Elt F) (h.unread x) L)) := owned c v _ _ rfl

theorem owned_put {sp : Space} {s : Shape} {e : EltTy} (v : Memref sig .tc sp s e) (L) (h : ∀ y, ∃ p ∈ L, y ∈ p.1.set) :
    (Put c v L : sProp 𝕄) ⊢ owns (c : Thread nD τ) v fullShare (View.canon L) := by
  unfold Put
  iintro ⟨%f, H⟩
  iapply (owned c v _ _ (View.read_writes_eq_canon v.view f L h)); iexact H

theorem any_put {sp : Space} {s : Shape} {e : EltTy} (v : Memref sig .tc sp s e) (L) : (Put c v L : sProp 𝕄) ⊢ Any c v := by
  unfold Put Any
  iintro ⟨%f, H⟩
  iexists _
  iapply (owned c v _ _ rfl); iexact H

theorem any_of {sp : Space} {s : Shape} {e : EltTy} (v : Memref sig .tc sp s e) (X) : (owns (c : Thread nD τ) v fullShare X : sProp 𝕄) ⊢ Any c v := by
  unfold Any
  iintro H
  iexists _
  iexact H

/-- The windows of a point at what the point leaves. -/
def Writes (p : St F) : sProp 𝕄 :=
  iprop(owns (c : Thread nD τ) (bufs t).dx fullShare p.dx ∗ owns (c : Thread nD τ) (bufs t).dhh fullShare p.dhh ∗ owns (c : Thread nD τ) (bufs t).z fullShare p.z
    ∗ owns (c : Thread nD τ) (bufs t).hn fullShare p.hn ∗ owns (c : Thread nD τ) (bufs t).dcw fullShare p.dcw ∗ owns (c : Thread nD τ) (bufs t).dg fullShare p.dg)

set_option maxHeartbeats 4000000 in
/-- The body at the first point. -/
theorem body_first (h : t.val % 65 = 0) (K : PUnit → sProp 𝕄) :
    iprop(Given c (bufs t) (blocks m c t)
      ∗ (Any c (bufs t).dx ∗ Any c (bufs t).dhh ∗ Any c (bufs t).z ∗ Any c (bufs t).hn ∗ Any c (bufs t).dcw ∗ Any c (bufs t).dg)
      ∗ (Any c (Memref.whole cc0_scratch0) ∗ Any c (Memref.whole cc0_scratch1))
      ∗ (iprop(Given c (bufs t) (blocks m c t) ∗ Writes c t (first m c t h) ∗ Scratch c (first m c t h).db) -∗ K ⟨⟩))
    ⊢ wp frame (wpE (defs₀ (F := F)) Variants.none c none) Set.univ (bodyAt0 t) K := by
  unfold Scratch
  iintro ⟨HG, ⟨Hdx, Hdhh, Hz, Hhn, Hdcw, Hdg⟩, ⟨Hcb, Hdb⟩, Hk⟩
  iapply ((ranFirst m c t h).2.2.2.2.2.2.2.2 Set.univ _)
  iframe HG Hdx Hdhh Hz Hhn Hdcw Hdg Hcb Hdb
  iintro ⟨HG, Hdx, Hdhh, Hz, Hhn, Hdcw, Hdg, Hcb, Hdb⟩
  iapply Hk
  iframe HG
  unfold Writes first
  dsimp only
  isplitl [Hdx Hdhh Hz Hhn Hdcw Hdg]
  · isplitl [Hdx]
    · iapply (owned_put c _ _ (cover_dx_first m c t h)); iexact Hdx
    isplitl [Hdhh]
    · iapply (owned_put c _ _ (cover_dhh_first m c t h)); iexact Hdhh
    isplitl [Hz]
    · iapply (owned_put c _ _ (cover_z_first m c t h)); iexact Hz
    isplitl [Hhn]
    · iapply (owned_put c _ _ (cover_hn_first m c t h)); iexact Hhn
    isplitl [Hdcw]
    · iapply (owned_put c _ _ (cover_dcw_first m c t h)); iexact Hdcw
    iapply (owned_put c _ _ (cover_dg_first m c t h)); iexact Hdg
  isplitl [Hcb]
  · iapply (any_put c _ _); iexact Hcb
  iapply (owned_put c _ _ (cover_db_first m c t h)); iexact Hdb

set_option maxHeartbeats 4000000 in
/-- The body at a point between. -/
theorem body_next (h : ¬t.val % 65 = 0) (h' : ¬t.val % 65 = 64) (p : St F) (K : PUnit → sProp 𝕄) :
    iprop(Given c (bufs t) (blocks m c t)
      ∗ (Any c (bufs t).dx ∗ Any c (bufs t).dhh ∗ Any c (bufs t).z ∗ Any c (bufs t).hn ∗ owns (c : Thread nD τ) (bufs t).dcw fullShare p.dcw ∗ owns (c : Thread nD τ) (bufs t).dg fullShare p.dg)
      ∗ Scratch c p.db
      ∗ (iprop(Given c (bufs t) (blocks m c t) ∗ Writes c t (next m c t h h' p) ∗ Scratch c (next m c t h h' p).db) -∗ K ⟨⟩))
    ⊢ wp frame (wpE (defs₀ (F := F)) Variants.none c none) Set.univ (bodyAt0 t) K := by
  unfold Scratch
  iintro ⟨HG, ⟨Hdx, Hdhh, Hz, Hhn, Hdcw, Hdg⟩, ⟨Hcb, Hdb⟩, Hk⟩
  iapply ((ranNext m c t h h' p).2.2.2.2.2.2.2.2 Set.univ _)
  iframe HG Hdx Hdhh Hz Hhn Hdcw Hdg Hcb Hdb
  iintro ⟨HG, Hdx, Hdhh, Hz, Hhn, Hdcw, Hdg, Hcb, Hdb⟩
  iapply Hk
  iframe HG
  unfold Writes next
  dsimp only
  isplitl [Hdx Hdhh Hz Hhn Hdcw Hdg]
  · isplitl [Hdx]
    · iapply (owned_put c _ _ (cover_dx_next m c t h h' p)); iexact Hdx
    isplitl [Hdhh]
    · iapply (owned_put c _ _ (cover_dhh_next m c t h h' p)); iexact Hdhh
    isplitl [Hz]
    · iapply (owned_put c _ _ (cover_z_next m c t h h' p)); iexact Hz
    isplitl [Hhn]
    · iapply (owned_put c _ _ (cover_hn_next m c t h h' p)); iexact Hhn
    isplitl [Hdcw]
    · iapply (owned_over c _ _ _ _); iexact Hdcw
    iapply (owned_over c _ _ _ _); iexact Hdg
  isplitl [Hcb]
  · iapply (any_put c _ _); iexact Hcb
  iapply (owned_over c _ _ _ _); iexact Hdb

set_option maxHeartbeats 4000000 in
/-- The body at the last point. -/
theorem body_last (h : t.val % 65 = 64) (p : St F) (K : PUnit → sProp 𝕄) :
    iprop(Given c (bufs t) (blocks m c t)
      ∗ (owns (c : Thread nD τ) (bufs t).dx fullShare p.dx ∗ Any c (bufs t).dhh ∗ Any c (bufs t).z ∗ Any c (bufs t).hn ∗ owns (c : Thread nD τ) (bufs t).dcw fullShare p.dcw ∗ owns (c : Thread nD τ) (bufs t).dg fullShare p.dg ∗ Any c (bufs t).dfst)
      ∗ Scratch c p.db
      ∗ (iprop(Given c (bufs t) (blocks m c t) ∗ Writes c t (last m c t h p) ∗ Scratch c (last m c t h p).db ∗ owns (c : Thread nD τ) (bufs t).dfst fullShare (last m c t h p).dfst) -∗ K ⟨⟩))
    ⊢ wp frame (wpE (defs₀ (F := F)) Variants.none c none) Set.univ (bodyAt0 t) K := by
  unfold Scratch
  iintro ⟨HG, ⟨Hdx, Hdhh, Hz, Hhn, Hdcw, Hdg, Hdfst⟩, ⟨Hcb, Hdb⟩, Hk⟩
  iapply ((ranLast m c t h p).2.2.2.2.2.2.2.2 Set.univ _)
  iframe HG Hdhh Hz Hhn Hdcw Hdg Hdfst Hcb Hdb
  iintro ⟨HG, Hdhh, Hz, Hhn, Hdcw, Hdg, Hdfst, Hcb, Hdb⟩
  iapply Hk
  iframe HG
  unfold Writes last
  dsimp only
  isplitl [Hdx Hdhh Hz Hhn Hdcw Hdg]
  · isplitl [Hdx]
    · iexact Hdx
    isplitl [Hdhh]
    · iapply (owned_put c _ _ (cover_dhh_last m c t h p)); iexact Hdhh
    isplitl [Hz]
    · iapply (owned_put c _ _ (cover_z_last m c t h p)); iexact Hz
    isplitl [Hhn]
    · iapply (owned_put c _ _ (cover_hn_last m c t h p)); iexact Hhn
    isplitl [Hdcw]
    · iapply (owned_over c _ _ _ _); iexact Hdcw
    iapply (owned_over c _ _ _ _); iexact Hdg
  isplitl [Hcb Hdb]
  · isplitl [Hcb]
    · iapply (any_put c _ _); iexact Hcb
    iapply (owned_over c _ _ _ _); iexact Hdb
  iapply (owned_put c _ _ (cover_dfst_last m c t h p)); iexact Hdfst

/-- All windows before a point. -/
def Before : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- All windows after it. -/
def After : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (dats m 0 c).leavesExact 15 t)

set_option maxHeartbeats 1000000 in
/-- What a point leaves is what the next one finds. -/
theorem after_of (p : St F) (h : outs m c t.val = p) :
    iprop(iprop(Scratch c p.db ∗ (∃ r, prngReg c r)) ∗ (dats m 0 c).owesAt () t.castSucc ∗ Given c (bufs t) (blocks m c t) ∗ Writes c t p
      ∗ (dats m 0 c).leavesExact 15 t) ⊢ After m c t := by
  have hd : cfg0.idle 9 (cfg0.grid.coords t) = false ∨ (cfg0.win 9).flush t = true := by
    by_cases e : t.val % 65 = 64
    · exact .inr ((flush_dx t).mpr (by omega))
    · exact .inl (live_dx t e)
  unfold After
  rw [show (dats m 0 c).owesAt () t.succ = (dats m 0 c).owesAt () t.castSucc from rfl, after_dhh, after_z, after_hn, after_dcw, after_dg,
    show (dats m 0 c).Φ t.succ = iprop(Scratch c (outs m c t.val).db ∗ (∃ r, prngReg c r)) from rfl]
  have hw : owns (c : Thread nD τ) (bufs t).dx fullShare p.dx ⊢ ((dats m 0 c).leavesExact 9 t : sProp 𝕄) := by
    have := leave m c t 9 hd
    rw [after_dx, h] at this
    exact this
  rw [h]
  unfold Writes Given
  dsimp only [dats, bufs, blocks]
  iintro ⟨Hs, Ho, ⟨I0, I1, I2, I3, I4, I5, I6, I7, I8⟩, ⟨Hdx, Hdhh, Hz, Hhn, Hdcw, Hdg⟩, Hdfst⟩
  iframe Hs Ho I0 I1 I2 I3 I4 I5 I6 I7 I8 Hdhh Hz Hhn Hdcw Hdg Hdfst
  iapply hw; iexact Hdx

set_option maxHeartbeats 4000000 in
/-- The body takes the windows before a point to the windows after it. -/
theorem body_sound : Before m c t ⊢ wp frame (wpE (defs₀ (F := F)) Variants.none c none) Set.univ (bodyAt0 t) (fun _ => After m c t) := by
  have hN := lt65 t
  unfold Before
  simp only [in0, in1, in2, in3, in4, in5, in6, in7, in8]
  by_cases h : t.val % 65 = 0
  · rw [show (dats m 0 c).Φ t.castSucc = Inv m c t.val from rfl, show t.val = 0 by omega, show Inv m c 0 = Pipeline.ΦA spec0 c from rfl, anything]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_first m c t h _)
    unfold Given
    dsimp only [bufs, blocks]
    iframe H0 H1 H2 H3 H4 H5 H6 H7 H8 HS
    isplitl [H9 H10 H11 H12 H13 H14]
    · isplitl [H9]
      · iapply (any_of c _ _); iexact H9
      isplitl [H10]
      · iapply (any_of c _ _); iexact H10
      isplitl [H11]
      · iapply (any_of c _ _); iexact H11
      isplitl [H12]
      · iapply (any_of c _ _); iexact H12
      isplitl [H13]
      · iapply (any_of c _ _); iexact H13
      iapply (any_of c _ _); iexact H14
    iintro ⟨HG, Hw, Hs⟩
    iapply (after_of m c t _ (outs_first m c t h))
    unfold Given
    dsimp only [bufs, blocks]
    iframe Hs Hg Ho HG Hw
    iapply (pass m c t 15 (idle_dfst t (by omega)) (Bool.eq_false_iff.mpr fun e => by have := (flush0_15 t).mp e; omega) d15); iexact H15
  by_cases h' : t.val % 65 = 64
  · rw [show (dats m 0 c).Φ t.castSucc = Inv m c t.val from rfl, Inv_pos m c _ (by omega)]
    simp only [kept_dx m c t h', kept_dcw m c t h, kept_dg m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_last m c t h' (outs m c (t.val - 1)) _)
    unfold Given
    dsimp only [bufs, blocks]
    iframe H0 H1 H2 H3 H4 H5 H6 H7 H8 HS H9 H13 H14
    isplitl [H10 H11 H12 H15]
    · isplitl [H10]
      · iapply (any_of c _ _); iexact H10
      isplitl [H11]
      · iapply (any_of c _ _); iexact H11
      isplitl [H12]
      · iapply (any_of c _ _); iexact H12
      iapply (any_of c _ _); iexact H15
    iintro ⟨HG, Hw, Hs, Hf⟩
    iapply (after_of m c t _ (outs_last m c t h h'))
    unfold Given
    dsimp only [bufs, blocks]
    iframe Hs Hg Ho HG Hw
    have hf := leave m c t 15 (.inr ((flush0_15 t).mpr h'))
    rw [after_dfst, outs_last m c t h h'] at hf
    iapply hf; iexact Hf
  · rw [show (dats m 0 c).Φ t.castSucc = Inv m c t.val from rfl, Inv_pos m c _ (by omega)]
    simp only [kept_dcw m c t h, kept_dg m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_next m c t h h' (outs m c (t.val - 1)) _)
    unfold Given
    dsimp only [bufs, blocks]
    iframe H0 H1 H2 H3 H4 H5 H6 H7 H8 HS H13 H14
    isplitl [H9 H10 H11 H12]
    · isplitl [H9]
      · iapply (any_of c _ _); iexact H9
      isplitl [H10]
      · iapply (any_of c _ _); iexact H10
      isplitl [H11]
      · iapply (any_of c _ _); iexact H11
      iapply (any_of c _ _); iexact H12
    iintro ⟨HG, Hw, Hs⟩
    iapply (after_of m c t _ (outs_next m c t h h'))
    unfold Given
    dsimp only [bufs, blocks]
    iframe Hs Hg Ho HG Hw
    iapply (pass m c t 15 (idle_dfst t (by omega)) (Bool.eq_false_iff.mpr fun e => by have := (flush0_15 t).mp e; omega) d15); iexact H15

end

theorem body_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-- The scratch buffers at the end, their contents forgotten. -/
theorem inv_last (c : Dev nD) : (dats m 0 c).Φ (Fin.last cfg0.N) ⊢ Pipeline.ΦA spec0 c := by
  rw [show (dats m 0 c).Φ (Fin.last cfg0.N) = Inv m c cfg0.N from rfl, Inv_pos m c _ (by rw [show cfg0.N = 65 from N_0]; decide), anything]
  unfold Scratch
  iintro ⟨⟨S0, S1⟩, Hg⟩
  iframe S0 Hg
  iapply (any_of c _ _); iexact S1

set_option backward.isDefEq.respectTransparency.types false in
set_option maxHeartbeats 800000 in
/-- Every fair execution ends, with every array at the blocks written and every semaphore counter at zero. -/
theorem run_sem : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := inv_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_sem m ρ)

/-- The arguments end as they began and every counter is back at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_sem m ρ))

end Cert.Sc

end
-- ==== Proof.Sc.Spec.lean ====
/- What the gradient of the short convolution mixer computes, row by row, in the order of time: the functions the blocks of the kernel are
   compared with. Times count from the first row of the padded sequence; a row and a column are given by their numbers. -/
module

public import proofs.«01_k».proof.Proof.Loss.Spec

@[expose] public section

noncomputable section

namespace Cert.Sc

open Idealize.ShloMosaic Cert.Loss

/-- The arrays the call reads: by time the gradient of the layer's output, the projection (a gate, and two factors of the convolution's
    input) and the residual stream; the gain, the projection's weight in four column blocks, the taps and the output's weight. -/
structure Ins where
  D : ℕ → ℕ → EReal
  P : ℕ → ℕ → EReal
  H : ℕ → ℕ → EReal
  g : ℕ → EReal
  w : ℕ → ℕ → ℕ → EReal
  cw : ℕ → ℕ → EReal
  wo : ℕ → ℕ → EReal

variable (I : Ins)

/-- The convolution's input two rows earlier, zero before the start. -/
def Ins.past (τ c : ℕ) : EReal := if 2 ≤ τ then I.P (τ - 2) (1024 + c) * I.P (τ - 2) (2048 + c) else 0

/-- The convolution. -/
def Ins.u (τ c : ℕ) : EReal := I.cw 0 c * I.past τ c + I.cw 1 c * I.past (τ + 1) c + I.cw 2 c * I.past (τ + 2) c

/-- The gated rows. -/
def Ins.z (τ c : ℕ) : EReal := I.P τ c * I.u τ c

/-- The gradient of the gated rows. -/
def Ins.dz (τ c : ℕ) : EReal := ∑ k : Fin 1024, I.D τ k.val * I.wo c k.val

/-- The gradient of the convolution's output, zero past the end. -/
def Ins.fut (τ c : ℕ) : EReal := if τ < 16640 then I.dz τ c * I.P τ c else 0

/-- The gradient of the convolution's input: the transposed convolution. -/
def Ins.dcv (τ c : ℕ) : EReal := I.cw 0 c * I.fut (τ + 2) c + I.cw 1 c * I.fut (τ + 1) c + I.cw 2 c * I.fut τ c

/-- The gradient of the projection. -/
def Ins.dp (τ c : ℕ) : EReal :=
  if c < 1024 then I.dz τ c * I.u τ c else
    if c < 2048 then I.dcv τ (c - 1024) * I.P τ (1024 + c) else I.dcv τ (c - 2048) * I.P τ (c - 1024)

/-- One column block of the gradient of the normed rows. -/
def Ins.part (q τ k : ℕ) : EReal := ∑ n : Fin 768, I.dp τ (768 * q + n.val) * I.w q k n.val

/-- The gradient of the normed rows. -/
def Ins.dhn (τ k : ℕ) : EReal := I.part 0 τ k + I.part 1 τ k + I.part 2 τ k + I.part 3 τ k

/-- The factor of a row's norm. -/
def Ins.r (τ : ℕ) : EReal := rstd fun k => I.H τ k.val

/-- The normed row before its gain. -/
def Ins.xhat (τ k : ℕ) : EReal := I.H τ k * I.r τ

/-- The normed row. -/
def Ins.hn (τ k : ℕ) : EReal := I.xhat τ k * I.g k

/-- The gradient of the residual stream: zero on the rows of padding. -/
def Ins.dh (τ k : ℕ) : EReal :=
  if 240 ≤ τ then I.D τ k + I.r τ * (I.dhn τ k * I.g k
    - I.xhat τ k * Ideal.div (∑ k : Fin 1024, I.dhn τ k.val * I.g k.val * I.xhat τ k.val) cD) else 0

/-- A tap's gradient in a column: the rows of one tile. -/
def Ins.tap (k T c : ℕ) : EReal := ∑ r : Fin 256, I.past (256 * T + rowTime r.val + k) c * I.fut (256 * T + rowTime r.val) c

/-- The gain's gradient in a column: the rows of one tile. -/
def Ins.gain (T k : ℕ) : EReal := ∑ r : Fin 256, I.dhn (256 * T + rowTime r.val) k * I.xhat (256 * T + rowTime r.val) k

end Cert.Sc

end
-- ==== Proof.Sc.Block.lean ====
/- The two buffers the short convolution and its gradient read shifted rows from: what they hold once the rows of the neighbouring tile are linked
   in, and what a load of them reads. -/
module

public import proofs.«01_k».proof.Proof.Gen.Kernel3Ideal.Skeleton
public import proofs.«01_k».proof.Proof.Sc.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Sc

open Cert.Kernel3Ideal Cert.Kernel3Ideal.Gen

variable {σ : RefSig} {κ : Kind} {sp : Space} (v : View σ κ sp S272x1024 .f32) (G H : S272x1024.Idx → EReal) (L : List (View.Piece (Elt Ideal) S272x1024 .f32))

/-- A block of a buffer. -/
abbrev ldb (o s : Fin 2 → ℕ) (h : ∀ a, o a + s a ≤ S272x1024.size a) :=
  View.ld (Val := Elt Ideal) (e' := .f32) G (Rect.unit (s := S272x1024) o s h)

/-- A store of a block of a buffer. -/
abbrev put (o s : Fin 2 → ℕ) (h : ∀ a, o a + s a ≤ S272x1024.size a) : View.Piece (Elt Ideal) S272x1024 .f32 := ⟨Rect.unit (s := S272x1024) o s h, ldb G o s h⟩

/-- A place inside a block. -/
abbrev In (o s : Fin 2 → ℕ) (y : S272x1024.Idx) : Prop := (o 0 ≤ (y 0).val ∧ (y 0).val < o 0 + s 0) ∧ o 1 ≤ (y 1).val ∧ (y 1).val < o 1 + s 1

theorem mem_unit (o s : Fin 2 → ℕ) (h : ∀ a, o a + s a ≤ S272x1024.size a) (y : S272x1024.Idx) : y ∈ (Rect.unit (s := S272x1024) o s h).set ↔ In o s y := by
  rw [Rect.mem_set_unit, Fin.forall_fin_two]

/-- Where a store of `G` lies, or what was stored before is `G`, the buffer is `G`. -/
theorem own (o s : Fin 2 → ℕ) (h) (y : S272x1024.Idx) (hy : ¬In o s y → View.canon L y = G y) : View.canon (put G o s h :: L) y = G y := by
  by_cases hm : y ∈ (Rect.unit (s := S272x1024) o s h).set
  · obtain ⟨j, rfl⟩ := LoadRect.exists_idx_of_mem _ hm
    exact View.canon_cons_emb _ _ _ _
  · rw [← hy fun hi => hm ((mem_unit o s h y).mpr hi)]
    exact View.canon_cons_of_not_mem _ _ hm

/-- A store elsewhere does not count. -/
theorem off (o s : Fin 2 → ℕ) (h : ∀ a, o a + s a ≤ S272x1024.size a) (w : (Rect.unit (s := S272x1024) o s h).shape.Idx → EReal) (y : S272x1024.Idx) (hm : ¬In o s y) (hy : View.canon L y = G y) :
    View.canon (Val := Elt Ideal) (e := .f32) (⟨Rect.unit (s := S272x1024) o s h, w⟩ :: L) y = G y := by
  rw [← hy]
  exact View.canon_cons_of_not_mem _ _ fun hi => hm ((mem_unit o s h y).mp hi)

/-- A load is `G` where the buffer is `G` in its block. -/
theorem read_of (o s : Fin 2 → ℕ) (h : ∀ a, o a + s a ≤ S272x1024.size a) (hy : ∀ y, In o s y → View.canon L y = G y) :
    v.readCov L (Rect.unit (s := S272x1024) o s h).toLoadRect = ldb G o s h := by
  rw [View.readCov_eq_canon']
  funext j
  exact hy _ ((mem_unit o s h _).mp (LoadRect.idx_mem _ _))

variable (o s : Fin 2 → ℕ) (h : ∀ a, o a + s a ≤ S272x1024.size a)

/-- A load in the last store. -/
theorem read_one (o' s' : Fin 2 → ℕ) (h') (hin : ∀ a, o' a ≤ o a ∧ o a + s a ≤ o' a + s' a) :
    v.readCov (put G o' s' h' :: L) (Rect.unit (s := S272x1024) o s h).toLoadRect = ldb G o s h :=
  read_of _ _ _ _ _ _ fun y hy => own G _ _ _ _ _ fun hn => absurd hy (by have := hin 0; have := hin 1; omega)

/-! Rows of the buffers, whole. -/

abbrev rows (a n : ℕ) (h : ∀ i, (![a, 0] : Fin 2 → ℕ) i + (![n, 1024] : Fin 2 → ℕ) i ≤ S272x1024.size i) := put G ![a, 0] ![n, 1024] h

theorem out_rows (a n : ℕ) (y : S272x1024.Idx) : ¬In ![a, 0] ![n, 1024] y ↔ (y 0).val < a ∨ a + n ≤ (y 0).val := by
  have h'' : (y 1).val < 1024 := (y 1).isLt
  simp
  omega

/-- A load of rows behind the last store's, by the store before. -/
theorem read_two (b n' : ℕ) (hb) (hf : o 0 + s 0 ≤ b ∨ b + n' ≤ o 0) (w) (a n : ℕ) (ha) (hin : a ≤ o 0 ∧ o 0 + s 0 ≤ a + n) :
    v.readCov (⟨Rect.unit (s := S272x1024) ![b, 0] ![n', 1024] hb, w⟩ :: rows G a n ha :: L) (Rect.unit (s := S272x1024) o s h).toLoadRect = ldb G o s h :=
  read_of _ _ _ _ _ _ fun y hy => off _ _ _ _ _ _ _ ((out_rows _ _ _).mpr (by omega)) (own G _ _ _ _ _ fun h1 => absurd ((out_rows _ _ _).mp h1) (by omega))

/-- A load of the convolution's gradient once the first eight rows of the tile after are linked in. -/
theorem read_next (hs : o 0 + s 0 ≤ 264) :
    v.readCov (rows G 256 8 inb_S272x1024_S8x1024_256_0 :: rows G 0 256 inb_S272x1024_S256x1024_0_0 :: L) (Rect.unit (s := S272x1024) o s h).toLoadRect = ldb G o s h :=
  read_of _ _ _ _ _ _ fun y hy => own G _ _ _ _ _ fun h0 => own G _ _ _ _ _ fun h1 =>
    absurd ((out_rows _ _ _).mp h0) (by have := (out_rows _ _ _).mp h1; omega)

/-- A load once all are. -/
theorem read_next' :
    v.readCov (rows G 264 8 inb_S272x1024_S8x1024_264_0 :: rows G 256 8 inb_S272x1024_S8x1024_256_0 :: rows G 0 256 inb_S272x1024_S256x1024_0_0 :: L)
      (Rect.unit (s := S272x1024) o s h).toLoadRect = ldb G o s h :=
  read_of _ _ _ _ _ _ fun y hy => own G _ _ _ _ _ fun h0 => own G _ _ _ _ _ fun h1 => own G _ _ _ _ _ fun h2 =>
    absurd ((out_rows _ _ _).mp h0) (by have := (out_rows _ _ _).mp h1; have := (out_rows _ _ _).mp h2; have h' : (y 0).val < 272 := (y 0).isLt; omega)

/-- A load of the convolution's input once rows of the tile before are linked in. -/
theorem read_prev (hs : 8 ≤ o 0) :
    v.readCov (rows G 8 8 inb_S272x1024_S8x1024_8_0 :: rows G 16 256 inb_S272x1024_S256x1024_16_0 :: L) (Rect.unit (s := S272x1024) o s h).toLoadRect = ldb G o s h :=
  read_of _ _ _ _ _ _ fun y hy => own G _ _ _ _ _ fun h0 => own G _ _ _ _ _ fun h1 =>
    absurd ((out_rows _ _ _).mp h0) (by have := (out_rows _ _ _).mp h1; have h' : (y 0).val < 272 := (y 0).isLt; omega)

/-- A load once all are. -/
theorem read_prev' :
    v.readCov (rows G 0 8 inb_S272x1024_S8x1024_0_0 :: rows G 8 8 inb_S272x1024_S8x1024_8_0 :: rows G 16 256 inb_S272x1024_S256x1024_16_0 :: L)
      (Rect.unit (s := S272x1024) o s h).toLoadRect = ldb G o s h :=
  read_of _ _ _ _ _ _ fun y hy => own G _ _ _ _ _ fun h0 => own G _ _ _ _ _ fun h1 => own G _ _ _ _ _ fun h2 =>
    absurd ((out_rows _ _ _).mp h0) (by have := (out_rows _ _ _).mp h1; have := (out_rows _ _ _).mp h2; have h' : (y 0).val < 272 := (y 0).isLt; omega)

end Cert.Sc

end
-- ==== Proof.Sc.Tile.lean ====
/- The blocks of one tile, the stores into the two buffers as the functions of time they hold, and the gradients computed from them. -/
module

public import proofs.«01_k».proof.Proof.Sc.Spec
public import proofs.«01_k».proof.Proof.Sc.Block
public import proofs.«01_k».proof.Proof.Mlp.Grad

@[expose] public section

set_option maxRecDepth 16384

noncomputable section

open Idealize.ShloMosaic Idealize.ShloMosaic.TcCoe Idealize.SL.Sem

namespace Cert.Sc

open Cert.Kernel3Ideal Cert.Kernel3Ideal.Gen Cert.Loss
open Cert.Mlp (rowTime_lt select_last select_first select_tile select_time)

variable (I : Ins) (T : ℕ)

/-! The blocks of the arrays at a tile. -/

def dB : Vec Ideal S256x1024 .f32 := fun y => I.D (256 * T + rowTime (y 0).val) (y 1).val
def pB : Vec Ideal S256x3072 .bf16 := fun y => I.P (256 * T + rowTime (y 0).val) (y 1).val
def hB : Vec Ideal S256x1024 .f32 := fun y => I.H (256 * T + rowTime (y 0).val) (y 1).val
def gB : Vec Ideal S1x1024 .f32 := fun y => I.g (y 1).val
def wB : Vec Ideal S4x1024x768 .bf16 := fun y => I.w (y 0).val (y 1).val (y 2).val
def cwB : Vec Ideal S3x1024 .f32 := fun y => I.cw (y 0).val (y 1).val
def woB : Vec Ideal S1024x1024 .bf16 := fun y => I.wo (y 0).val (y 1).val

/-- A factor of the projection, the column block from `a` on. -/
def colB (a : ℕ) : Vec Ideal S256x1024 .f32 := fun y => I.P (256 * T + rowTime (y 0).val) (a + (y 1).val)

/-- The buffer of the convolution's gradient. -/
def dbuf : S272x1024.Idx → EReal := fun y => I.fut (256 * T + rowTime (y 0).val) (y 1).val

/-- Its last sixteen rows before they are linked. -/
def hbuf : S272x1024.Idx → EReal := fun y => I.fut (256 * (T + 1) + rowTime ((y 0).val - 256)) (y 1).val

/-- The buffer of the convolution's input. -/
def ubuf : S272x1024.Idx → EReal := fun y => I.past (256 * T + rowTime (y 0).val) (y 1).val

/-- Its first sixteen rows before they are linked. -/
def pbuf : S272x1024.Idx → EReal := fun y => I.past (256 * T + rowTime (y 0).val - 224) (y 1).val

abbrev ldP (c : ℕ) (h) := View.ld (pB I T) (Rect.unit (s := S256x3072) ![0, c] ![256, 1024] h)
abbrev ldc (k : ℕ) (h) := View.ld (cwB I) (Rect.unit (s := S3x1024) ![k, 0] ![1, 1024] h)
abbrev ldw (q : ℕ) (h) := View.ld (wB I) (Rect.unit (s := S4x1024x768) ![q, 0, 0] ![1, 1024, 768] h)

theorem d_id : k0_pay4 (F := Ideal) (dB I T) = dB I T := by
  funext y
  pointwise [k0_pay4]

theorem gate_eq : k0_pay5 (F := Ideal) (ldP I T 0 inb_S256x3072_S256x1024_0_0) = colB I T 0 := by
  funext y
  pointwise [k0_pay5, pB, View.ld, colB]

theorem left_eq : k0_pay6 (F := Ideal) (ldP I T 1024 inb_S256x3072_S256x1024_0_1024) = colB I T 1024 := by
  funext y
  pointwise [k0_pay6, pB, View.ld, colB]

theorem right_eq : k0_pay7 (F := Ideal) (ldP I T 2048 inb_S256x3072_S256x1024_0_2048) = colB I T 2048 := by
  funext y
  pointwise [k0_pay7, pB, View.ld, colB]

/-! The rows of the convolution's input. -/

theorem past_row (r c : ℕ) : I.past (256 * T + rowTime (16 + r)) c = I.P (256 * T + rowTime r) (1024 + c) * I.P (256 * T + rowTime r) (2048 + c) := by
  rw [rowTime_sixteen, Ins.past, if_pos (by omega), ← Nat.add_assoc, Nat.add_sub_cancel]

theorem rows_eq : k0_pay9 (F := Ideal) (ldP I T 1024 inb_S256x3072_S256x1024_0_1024) (ldP I T 2048 inb_S256x3072_S256x1024_0_2048)
    = ldb (ubuf I T) ![16, 0] ![256, 1024] inb_S272x1024_S256x1024_16_0 := by
  funext y
  refine Eq.trans ?_ (Eq.trans (past_row I T (y 0).val (y 1).val).symm (congrArg₂ I.past (by simp) (by simp)))
  pointwise [k0_pay9, left_eq, right_eq, colB]

/-- What the window of the rows before holds at a tile that has one before it. -/
def Halo (x : Vec Ideal S16x3072 .bf16) : Prop := T ≠ 0 → ∀ y, x y = I.P (256 * T + rowTime (y 0).val - 226) (y 1).val

theorem halo_eq (hT : T < 65) (x : Vec Ideal S16x3072 .bf16) (hx : Halo I T x) (i : grid0.Coords)
    (hi : Scalar.subi 64#32 (BitVec.ofNat 32 (i 0).val) = BitVec.ofNat 32 T) :
    k0_pay8 (F := Ideal) i x = ldb (pbuf I T) ![0, 0] ![16, 1024] inb_S272x1024_S16x1024_0_0 := by
  funext y
  have hy : (y 0).val < 16 := (y 0).isLt
  suffices hs : _ = I.past (256 * T + rowTime (y 0).val - 224) (y 1).val from hs.trans (congrArg₂ I.past (by simp) (by simp))
  pointwise [k0_pay8, hi]
  refine (select_tile T hT _ _).trans ?_
  have ht : rowTime (y 0).val < 256 := rowTime_lt _ (by omega)
  by_cases h : T = 0
  · rw [if_pos h, Ins.past, if_neg (by simp only [rowTime]; omega)]
  · rw [if_neg h, hx h, hx h, Ins.past, if_pos (by omega)]
    exact congrArg₂ (fun a b : EReal => a * b) (congrArg₂ I.P (by simp; omega) (by simp)) (congrArg₂ I.P (by simp; omega) (by simp))

/-- The first eight rows once linked: the last row of the tile before, and the tile's own rows. -/
theorem link0 : k0_pay12 (F := Ideal) (ldb (pbuf I T) ![0, 0] ![8, 1024] inb_S272x1024_S8x1024_0_0) (ldb (ubuf I T) ![256, 0] ![8, 1024] inb_S272x1024_S8x1024_256_0)
    = ldb (ubuf I T) ![0, 0] ![8, 1024] inb_S272x1024_S8x1024_0_0 := by
  funext y
  have hy : (y 0).val < 8 := (y 0).isLt
  suffices hs : _ = I.past (256 * T + rowTime (y 0).val) (y 1).val from hs.trans (congrArg₂ I.past (by simp) (by simp))
  pointwise [k0_pay12, ubuf, pbuf, View.ld]
  rw [select_first _ hy, ← apply_ite fun τ => I.past τ _]
  refine congrArg (fun τ => I.past τ _) ?_
  split <;> simp only [rowTime] <;> omega

/-- The eight rows behind them. -/
theorem link8 : k0_pay11 (F := Ideal) (k0_pay10 (ldb (pbuf I T) ![8, 0] ![8, 1024] inb_S272x1024_S8x1024_8_0))
    (ldb (ubuf I T) ![264, 0] ![8, 1024] inb_S272x1024_S8x1024_264_0) = ldb (ubuf I T) ![8, 0] ![8, 1024] inb_S272x1024_S8x1024_8_0 := by
  funext y
  have hy : (y 0).val < 8 := (y 0).isLt
  suffices hs : _ = I.past (256 * T + rowTime (8 + (y 0).val)) (y 1).val from hs.trans (congrArg₂ I.past (by simp) (by simp))
  pointwise [k0_pay11, k0_pay10, ubuf, pbuf, View.ld]
  rw [select_first _ hy, ← apply_ite fun τ => I.past τ _]
  refine congrArg (fun τ => I.past τ _) ?_
  split <;> simp only [rowTime] <;> omega

/-! The rows of the convolution's gradient. -/

theorem row_eq (hT : T < 65) : k0_pay19 (F := Ideal) (dB I T) (colB I T 0) (woB I) = ldb (dbuf I T) ![0, 0] ![256, 1024] inb_S272x1024_S256x1024_0_0 := by
  funext y
  have h0 : (y 0).val < 256 := (y 0).isLt
  have ht := rowTime_lt _ h0
  suffices hs : _ = I.fut (256 * T + rowTime (y 0).val) (y 1).val from hs.trans (congrArg₂ I.fut (by simp) (by simp))
  rw [Ins.fut, if_pos (by omega)]
  pointwise [k0_pay19, k0_pay16, dB, woB, colB, Ins.dz]

theorem row_id (x : Vec Ideal S256x1024 .f32) : k0_pay23 (F := Ideal) x = x := by
  funext y
  pointwise [k0_pay23]

/-- The eight rows after the tile once linked: the tile's own next rows, and the first row of the tile after. -/
theorem link256 : k0_pay24 (F := Ideal) (ldb (hbuf I T) ![256, 0] ![8, 1024] inb_S272x1024_S8x1024_256_0) (ldb (dbuf I T) ![0, 0] ![8, 1024] inb_S272x1024_S8x1024_0_0)
    = ldb (dbuf I T) ![256, 0] ![8, 1024] inb_S272x1024_S8x1024_256_0 := by
  funext y
  have hy : (y 0).val < 8 := (y 0).isLt
  suffices hs : _ = I.fut (256 * T + rowTime (256 + (y 0).val)) (y 1).val from hs.trans (congrArg₂ I.fut (by simp) (by simp))
  pointwise [k0_pay24, dbuf, hbuf, View.ld]
  rw [select_last _ hy, ← apply_ite fun τ => I.fut τ _]
  refine congrArg (fun τ => I.fut τ _) ?_
  split <;> simp only [rowTime] <;> omega

/-- The eight rows behind them. -/
theorem link264 : k0_pay28 (F := Ideal) (k0_pay25 (ldb (hbuf I T) ![264, 0] ![8, 1024] inb_S272x1024_S8x1024_264_0))
    (k0_pay26 (ldb (dbuf I T) ![8, 0] ![8, 1024] inb_S272x1024_S8x1024_8_0)) k0_pay27 = ldb (dbuf I T) ![264, 0] ![8, 1024] inb_S272x1024_S8x1024_264_0 := by
  funext y
  have hy : (y 0).val < 8 := (y 0).isLt
  suffices hs : _ = I.fut (256 * T + rowTime (264 + (y 0).val)) (y 1).val from hs.trans (congrArg₂ I.fut (by simp) (by simp))
  pointwise [k0_pay28, k0_pay25, k0_pay26, k0_pay27, dbuf, hbuf, View.ld]
  rw [select_last _ hy, ← apply_ite fun τ => I.fut τ _]
  refine congrArg (fun τ => I.fut τ _) ?_
  split <;> simp only [rowTime] <;> omega

/-- The first sixteen rows, handed on to the tile before. -/
theorem hand_eq (x : Vec Ideal S16x1024 .f32) : k0_pay30 (F := Ideal) x = x := by
  funext y
  pointwise [k0_pay30]

end Cert.Sc

end
-- ==== Proof.Sc.Grad.lean ====
/- The gradients one tile computes from the two buffers: of the taps, of the projection, of the normed rows, of the gain and of the
   residual stream; and the two saved rows it computes again. -/
module

public import proofs.«01_k».proof.Proof.Sc.Tile

@[expose] public section

set_option maxRecDepth 16384

noncomputable section

open Idealize.ShloMosaic Idealize.ShloMosaic.TcCoe Idealize.SL.Sem

namespace Cert.Sc

open Cert.Kernel3Ideal Cert.Kernel3Ideal.Gen Cert.Loss
open Cert.Mlp (rowTime_lt select_time)

variable (I : Ins) (T : ℕ)

/-- A column block of the gradient of the projection. -/
def dpB (a : ℕ) : Vec Ideal S256x1024 .bf16 := fun y => I.dp (256 * T + rowTime (y 0).val) (a + (y 1).val)

/-- Its last three quarters. -/
def restB : Vec Ideal S256x2304 .bf16 := fun y => I.dp (256 * T + rowTime (y 0).val) (768 + (y 1).val)

def zB : Vec Ideal S256x1024 .bf16 := fun y => I.z (256 * T + rowTime (y 0).val) (y 1).val
def dhnB : Vec Ideal S256x1024 .f32 := fun y => I.dhn (256 * T + rowTime (y 0).val) (y 1).val
def hnB : Vec Ideal S256x1024 .bf16 := fun y => I.hn (256 * T + rowTime (y 0).val) (y 1).val
def dhB : Vec Ideal S256x1024 .f32 := fun y => I.dh (256 * T + rowTime (y 0).val) (y 1).val
def partB : Vec Ideal S256x1024 .f32 := fun y => I.part 0 (256 * T + rowTime (y 0).val) (y 1).val

/-- A tap's gradient added to a row. -/
def tapRow (k : ℕ) (x : Vec Ideal S1x1024 .f32) : Vec Ideal S1x1024 .f32 := fun y => x y + I.tap k T (y 1).val

/-- The gain's gradient added to a row. -/
def gainRow (x : Vec Ideal S1x1024 .f32) : Vec Ideal S1x1024 .f32 := fun y => x y + I.gain T (y 1).val

/-- The buffers read some rows further on: later in time. -/
abbrev d (a : ℕ) (h) := ldb (dbuf I T) ![a, 0] ![256, 1024] h
abbrev u (a : ℕ) (h) := ldb (ubuf I T) ![a, 0] ![256, 1024] h

theorem d_row (k : ℕ) (h) (y : S256x1024.Idx) : d I T (8 * k) h y = I.fut (256 * T + rowTime (y 0).val + k) (y 1).val :=
  congrArg₂ I.fut (by simp [Nat.add_comm (8 * k), rowTime_add, ← Nat.add_assoc]) (by simp)

theorem u_row (k : ℕ) (h) (y : S256x1024.Idx) : u I T (8 * k) h y = I.past (256 * T + rowTime (y 0).val + k) (y 1).val :=
  congrArg₂ I.past (by simp [Nat.add_comm (8 * k), rowTime_add, ← Nat.add_assoc]) (by simp)

theorem d0 (h) (y) : d I T 0 h y = I.fut (256 * T + rowTime (y 0).val) (y 1).val := d_row I T 0 h y
theorem d1 (h) (y) : d I T 8 h y = I.fut (256 * T + rowTime (y 0).val + 1) (y 1).val := d_row I T 1 h y
theorem d2 (h) (y) : d I T 16 h y = I.fut (256 * T + rowTime (y 0).val + 2) (y 1).val := d_row I T 2 h y
theorem u0 (h) (y) : u I T 0 h y = I.past (256 * T + rowTime (y 0).val) (y 1).val := u_row I T 0 h y
theorem u1 (h) (y) : u I T 8 h y = I.past (256 * T + rowTime (y 0).val + 1) (y 1).val := u_row I T 1 h y
theorem u2 (h) (y) : u I T 16 h y = I.past (256 * T + rowTime (y 0).val + 2) (y 1).val := u_row I T 2 h y

theorem ldc_eq (k : ℕ) (h) (n : Fin 1024) : ldc I k h (ix2 0 n) = I.cw k n.val := congrArg₂ I.cw (by simp) (by simp)

/-- The convolution. -/
theorem conv_eq : k0_pay14 (F := Ideal) (u I T 8 inb_S272x1024_S256x1024_8_0) (u I T 16 inb_S272x1024_S256x1024_16_0)
    (k0_pay13 (u I T 0 inb_S272x1024_S256x1024_0_0) (ldc I 0 inb_S3x1024_S1x1024_0_0)) (ldc I 1 inb_S3x1024_S1x1024_1_0) (ldc I 2 inb_S3x1024_S1x1024_2_0)
      = fun y => I.u (256 * T + rowTime (y 0).val) (y 1).val := by
  funext y
  pointwise [k0_pay14, k0_pay13, u0, u1, u2, ldc_eq, Ins.u]

theorem z_eq : k0_pay15 (F := Ideal) (colB I T 0) (u I T 8 inb_S272x1024_S256x1024_8_0) (u I T 16 inb_S272x1024_S256x1024_16_0)
    (k0_pay13 (u I T 0 inb_S272x1024_S256x1024_0_0) (ldc I 0 inb_S3x1024_S1x1024_0_0)) (ldc I 1 inb_S3x1024_S1x1024_1_0) (ldc I 2 inb_S3x1024_S1x1024_2_0) = zB I T := by
  funext y
  pointwise [k0_pay15, conv_eq, colB, zB, Ins.z]

/-- The first column block: the gate's gradient. -/
theorem dp0_eq : k0_pay17 (F := Ideal) (dB I T) (u I T 8 inb_S272x1024_S256x1024_8_0) (u I T 16 inb_S272x1024_S256x1024_16_0)
    (k0_pay13 (u I T 0 inb_S272x1024_S256x1024_0_0) (ldc I 0 inb_S3x1024_S1x1024_0_0)) (ldc I 1 inb_S3x1024_S1x1024_1_0) (ldc I 2 inb_S3x1024_S1x1024_2_0) (woB I)
      = dpB I T 0 := by
  funext y
  have h1 : (y 1).val < 1024 := (y 1).isLt
  refine Eq.trans ?_ (show I.dz (256 * T + rowTime (y 0).val) (y 1).val * I.u (256 * T + rowTime (y 0).val) (y 1).val = _ by
    rw [dpB, Ins.dp, if_pos (by omega), Nat.zero_add])
  pointwise [k0_pay17, conv_eq, k0_pay16, dB, woB, Ins.dz]

theorem part0_eq : k0_pay18 (F := Ideal) (dB I T) (u I T 8 inb_S272x1024_S256x1024_8_0) (u I T 16 inb_S272x1024_S256x1024_16_0)
    (k0_pay13 (u I T 0 inb_S272x1024_S256x1024_0_0) (ldc I 0 inb_S3x1024_S1x1024_0_0)) (ldc I 1 inb_S3x1024_S1x1024_1_0) (ldc I 2 inb_S3x1024_S1x1024_2_0) (woB I)
      (ldw I 0 inb_S4x1024x768_S1x1024x768_0_0_0) = partB I T := by
  funext y
  pointwise [k0_pay18, dp0_eq, partB, dpB, wB, View.ld, Ins.part]

/-- The transposed convolution. -/
theorem dcv_eq : k0_pay29 (F := Ideal) (ldc I 0 inb_S3x1024_S1x1024_0_0) (d I T 16 inb_S272x1024_S256x1024_16_0) (ldc I 1 inb_S3x1024_S1x1024_1_0)
    (d I T 8 inb_S272x1024_S256x1024_8_0) (ldc I 2 inb_S3x1024_S1x1024_2_0) (d I T 0 inb_S272x1024_S256x1024_0_0)
      = fun y => I.dcv (256 * T + rowTime (y 0).val) (y 1).val := by
  funext y
  pointwise [k0_pay29, d0, d1, d2, ldc_eq, Ins.dcv]

theorem dp1_eq : k0_pay31 (F := Ideal) (colB I T 2048) (ldc I 0 inb_S3x1024_S1x1024_0_0) (d I T 16 inb_S272x1024_S256x1024_16_0) (ldc I 1 inb_S3x1024_S1x1024_1_0)
    (d I T 8 inb_S272x1024_S256x1024_8_0) (ldc I 2 inb_S3x1024_S1x1024_2_0) (d I T 0 inb_S272x1024_S256x1024_0_0) = dpB I T 1024 := by
  funext y
  have h1 : (y 1).val < 1024 := (y 1).isLt
  refine Eq.trans ?_ (show I.dcv (256 * T + rowTime (y 0).val) (y 1).val * I.P (256 * T + rowTime (y 0).val) (2048 + (y 1).val) = _ by
    rw [dpB, Ins.dp, if_neg (by omega), if_pos (by omega), Nat.add_sub_cancel_left, ← Nat.add_assoc])
  pointwise [k0_pay31, dcv_eq, colB]

theorem dp2_eq : k0_pay32 (F := Ideal) (colB I T 1024) (ldc I 0 inb_S3x1024_S1x1024_0_0) (d I T 16 inb_S272x1024_S256x1024_16_0) (ldc I 1 inb_S3x1024_S1x1024_1_0)
    (d I T 8 inb_S272x1024_S256x1024_8_0) (ldc I 2 inb_S3x1024_S1x1024_2_0) (d I T 0 inb_S272x1024_S256x1024_0_0) = dpB I T 2048 := by
  funext y
  have h1 : (y 1).val < 1024 := (y 1).isLt
  refine Eq.trans ?_ (show I.dcv (256 * T + rowTime (y 0).val) (y 1).val * I.P (256 * T + rowTime (y 0).val) (1024 + (y 1).val) = _ by
    rw [dpB, Ins.dp, if_neg (by omega), if_neg (by omega), Nat.add_sub_cancel_left, show 2048 + (y 1).val - 1024 = 1024 + (y 1).val by omega])
  pointwise [k0_pay32, dcv_eq, colB]

/-- The three column blocks side by side, from the last quarter of the first on. -/
theorem rest_eq : k0_pay33 (F := Ideal) (colB I T 1024) (colB I T 2048) (dpB I T 0) (ldc I 0 inb_S3x1024_S1x1024_0_0) (d I T 16 inb_S272x1024_S256x1024_16_0)
    (ldc I 1 inb_S3x1024_S1x1024_1_0) (d I T 8 inb_S272x1024_S256x1024_8_0) (ldc I 2 inb_S3x1024_S1x1024_2_0) (d I T 0 inb_S272x1024_S256x1024_0_0) = restB I T := by
  funext y
  have h1 : (y 1).val < 2304 := (y 1).isLt
  pointwise [k0_pay33, dp1_eq, dp2_eq, dpB, restB]
  split_ifs <;> exact congrArg (I.dp _) (by omega)

theorem dhn_eq : k0_pay34 (F := Ideal) (partB I T) (restB I T) (ldw I 1 inb_S4x1024x768_S1x1024x768_1_0_0) (ldw I 2 inb_S4x1024x768_S1x1024x768_2_0_0)
    (ldw I 3 inb_S4x1024x768_S1x1024x768_3_0_0) = dhnB I T := by
  funext y
  pointwise [k0_pay34, restB, partB, dhnB, wB, View.ld, Ins.dhn, Ins.part]
  simp [← Nat.add_assoc]

/-! The taps' gradients, a row each. -/

variable (x : Vec Ideal S1x1024 .f32)

theorem tap0_eq (hT : T < 65) : k0_pay20 (F := Ideal) (dB I T) (colB I T 0) (u I T 0 inb_S272x1024_S256x1024_0_0) (woB I) x = tapRow I T 0 x := by
  funext y
  pointwise [k0_pay20, row_eq I T hT, d0, u0, tapRow, Ins.tap]

theorem tap1_eq (hT : T < 65) : k0_pay21 (F := Ideal) (dB I T) (colB I T 0) (u I T 8 inb_S272x1024_S256x1024_8_0) (woB I) x = tapRow I T 1 x := by
  funext y
  pointwise [k0_pay21, row_eq I T hT, d0, u1, tapRow, Ins.tap]

theorem tap2_eq : k0_pay22 (F := Ideal) (u I T 16 inb_S272x1024_S256x1024_16_0) (d I T 0 inb_S272x1024_S256x1024_0_0) x = tapRow I T 2 x := by
  funext y
  pointwise [k0_pay22, d0, u2, tapRow, Ins.tap]

/-! The norm of the residual stream. -/

/-- The stream's rows come from a block of their own at the first tile. -/
theorem stream_eq (hT : T < 65) (a b : Vec Ideal S256x1024 .f32) (ha : T = 0 → a = hB I T) (hb : T ≠ 0 → b = hB I T) :
    k0_pay35 (F := Ideal) (BitVec.ofNat 32 T) a b = hB I T := by
  funext y
  have hs : ∀ p q : EReal, Scalar.select (IntOp.cmpi CmpIPredicate.eq (BitVec.ofNat 32 T) 0#32) p q = if T = 0 then p else q := by
    intro p q
    interval_cases T <;> rfl
  pointwise [k0_pay35]
  refine (hs _ _).trans ?_
  by_cases h : T = 0
  · rw [if_pos h, ha h]
  · rw [if_neg h, hb h]

theorem hn_eq : k0_pay40 (F := Ideal) (hB I T) (k0_pay36 (gB I)) = hnB I T := by
  funext y
  pointwise [k0_pay40, k0_pay39, k0_pay38, k0_pay36, hB, gB, hnB, Ins.hn, Ins.xhat, Ins.r, rstd]

theorem gain_eq : k0_pay41 (F := Ideal) (dhnB I T) (hB I T) x = gainRow I T x := by
  funext y
  pointwise [k0_pay41, k0_pay39, k0_pay38, hB, dhnB, gainRow, Ins.gain, Ins.xhat, Ins.r, rstd]

theorem dh_eq (hT : T < 65) : k0_pay42 (F := Ideal) (dB I T) (dhnB I T) (hB I T) (k0_pay36 (gB I)) (k0_pay37 (BitVec.ofNat 32 T)) = dhB I T := by
  funext y
  have h0 : (y 0).val < 256 := (y 0).isLt
  pointwise [k0_pay42, k0_pay37, k0_pay36, k0_pay39, k0_pay38, hB, dhnB, dB, gB, dhB, Ins.dh, Ins.xhat, Ins.r, rstd]
  exact select_time T hT _ h0 _ _

end Cert.Sc

end
-- ==== Proof.Sc.Point.lean ====
/- What every grid point leaves in its output blocks and in the rows it hands on: the tile's functions of time, and the accumulated
   rows as sums over the tiles so far. The points run from the last tile to the first. -/
module

public import proofs.«01_k».proof.Proof.Sc.Step
public import proofs.«01_k».proof.Proof.Sc.Grad

@[expose] public section

set_option maxRecDepth 16384

noncomputable section

open Idealize.ShloMosaic Idealize.ShloMosaic.TcCoe Idealize.SL.Sem

namespace Cert.Sc

open Cert.Kernel3Ideal Cert.Kernel3Ideal.Gen Cert.Loss

variable (m : (ℓ : Loc nD τ sig) → Buf (Elt Ideal) ℓ) (I : Ins)

/-- The blocks of a grid point are the arrays `I` at the times of its tile. -/
structure At (c : Dev nD) (t : Fin cfg0.N) : Prop where
  d : iblk m c 0 t = dB I (64 - t.val)
  p : iblk m c 1 t = pB I (64 - t.val)
  halo : Halo I (64 - t.val) (iblk m c 2 t)
  h : 64 - t.val ≠ 0 → iblk m c 3 t = hB I (64 - t.val)
  fst : 64 - t.val = 0 → iblk m c 4 t = hB I (64 - t.val)
  g : iblk m c 5 t = gB I
  w : iblk m c 6 t = wB I
  cw : iblk m c 7 t = cwB I
  wo : iblk m c 8 t = woB I

theorem tile (t : Fin cfg0.N) : Scalar.subi 64#32 (BitVec.ofNat 32 (grid0.coords t 0).val) = BitVec.ofNat 32 (64 - t.val) := by
  revert t; decide +kernel

/-- What every point leaves over the accumulated rows `x` and `z`. -/
structure Leaves (T : ℕ) (o : St Ideal) (x : S8x1024.Idx → EReal) (w : S8x1024.Idx → EReal) : Prop where
  dhh : ∀ y, o.dhh y = I.dp (256 * T + rowTime (y 0).val) (y 1).val
  z : o.z = zB I T
  hn : o.hn = hnB I T
  db : ∀ y : S272x1024.Idx, 256 ≤ (y 0).val → o.db y = I.fut (256 * T + rowTime ((y 0).val - 256)) (y 1).val
  dcw : ∀ y : S8x1024.Idx, (y 0).val < 3 → o.dcw y = x y + I.tap (y 0).val T (y 1).val
  dg : ∀ y : S8x1024.Idx, (y 0).val < 1 → o.dg y = w y + I.gain T (y 1).val

section
variable (T : ℕ)

/-- The three column blocks of the gradient of the projection side by side. -/
theorem dp_tiles (y : S256x3072.Idx) : View.canon (Val := Elt Ideal) (s := S256x3072) (e := .bf16)
    [⟨Rect.unit ![0, 2048] ![256, 1024] inb_S256x3072_S256x1024_0_2048, dpB I T 2048⟩, ⟨Rect.unit ![0, 1024] ![256, 1024] inb_S256x3072_S256x1024_0_1024, dpB I T 1024⟩,
      ⟨Rect.unit ![0, 0] ![256, 1024] inb_S256x3072_S256x1024_0_0, dpB I T 0⟩] y = I.dp (256 * T + rowTime (y 0).val) (y 1).val := by
  have hc := View.canon_append_of_piecesOf (Val := Elt Ideal) (e := .bf16) (fun y : S256x3072.Idx => I.dp (256 * T + rowTime (y 0).val) (y 1).val) []
    [⟨Rect.unit ![0, 2048] ![256, 1024] inb_S256x3072_S256x1024_0_2048, dpB I T 2048⟩, ⟨Rect.unit ![0, 1024] ![256, 1024] inb_S256x3072_S256x1024_0_1024, dpB I T 1024⟩,
      ⟨Rect.unit ![0, 0] ![256, 1024] inb_S256x3072_S256x1024_0_0, dpB I T 0⟩]
    (show View.PiecesOf (Val := Elt Ideal) (e := .bf16) (fun y : S256x3072.Idx => I.dp (256 * T + rowTime (y 0).val) (y 1).val) _ from
      ⟨fun j => congrArg₂ I.dp (by simp) (by simp), fun j => congrArg₂ I.dp (by simp) (by simp), fun j => congrArg₂ I.dp (by simp) (by simp), trivial⟩) y (by
      simp only [List.mem_cons, List.not_mem_nil, or_false, exists_eq_or_imp, exists_eq_left, Rect.mem_set_unit, Fin.forall_fin_two]
      have h0 : (y 0).val < 256 := (y 0).isLt
      have h1 : (y 1).val < 3072 := (y 1).isLt
      simp
      omega)
  simp only [List.append_nil] at hc
  exact hc

/-- The store of the rows handed on. -/
abbrev handPiece : View.Piece (Elt Ideal) S272x1024 .f32 :=
  ⟨Rect.unit ![256, 0] ![16, 1024] inb_S272x1024_S16x1024_256_0, ldb (dbuf I T) ![0, 0] ![16, 1024] inb_S272x1024_S16x1024_0_0⟩

theorem hand_mem (y : S272x1024.Idx) (h : 256 ≤ (y 0).val) : y ∈ (Rect.unit (s := S272x1024) ![256, 0] ![16, 1024] inb_S272x1024_S16x1024_256_0).set := by
  have h0 : (y 0).val < 272 := (y 0).isLt
  have h1 : (y 1).val < 1024 := (y 1).isLt
  simp [Rect.mem_set_unit, Fin.forall_fin_two]
  omega

theorem hand_canon (L) (y : S272x1024.Idx) (h : 256 ≤ (y 0).val) :
    View.canon (handPiece I T :: L) y = I.fut (256 * T + rowTime ((y 0).val - 256)) (y 1).val :=
  View.canon_append_of_piecesOf (Val := Elt Ideal) (e := .f32) (fun y : S272x1024.Idx => I.fut (256 * T + rowTime ((y 0).val - 256)) (y 1).val) L [handPiece I T]
    ⟨fun j => congrArg₂ I.fut (by simp) (by simp), trivial⟩ y ⟨handPiece I T, List.mem_cons_self, hand_mem y h⟩

theorem hand_writes {κ : Kind} {sp : Space} (v : View sig κ sp S272x1024 .f32) (f) (L) (y : S272x1024.Idx) (h : 256 ≤ (y 0).val) :
    v.read (Elt Ideal) (v.writes (Elt Ideal) f (handPiece I T :: L)) y = I.fut (256 * T + rowTime ((y 0).val - 256)) (y 1).val := by
  rw [View.read_writes_apply_eq_canon v f y _ ⟨handPiece I T, List.mem_cons_self, hand_mem y h⟩]
  exact hand_canon I T L y h

/-- The stores of the taps' gradients over the rows `x`. -/
abbrev tapPieces (x : Vec Ideal S8x1024 .f32) : List (View.Piece (Elt Ideal) S8x1024 .f32) :=
  [⟨Rect.unit ![2, 0] ![1, 1024] inb_S8x1024_S1x1024_2_0, tapRow I T 2 (View.ld x (Rect.unit (s := S8x1024) ![2, 0] ![1, 1024] inb_S8x1024_S1x1024_2_0))⟩,
    ⟨Rect.unit ![1, 0] ![1, 1024] inb_S8x1024_S1x1024_1_0, tapRow I T 1 (View.ld x (Rect.unit (s := S8x1024) ![1, 0] ![1, 1024] inb_S8x1024_S1x1024_1_0))⟩,
    ⟨Rect.unit ![0, 0] ![1, 1024] inb_S8x1024_S1x1024_0_0, tapRow I T 0 (View.ld x (Rect.unit (s := S8x1024) ![0, 0] ![1, 1024] inb_S8x1024_S1x1024_0_0))⟩]

theorem tap_of (x : Vec Ideal S8x1024 .f32) (k : ℕ) (h) (j : S1x1024.Idx) :
    tapRow I T k (View.ld x (Rect.unit (s := S8x1024) ![k, 0] ![1, 1024] h)) j
      = (fun y : S8x1024.Idx => x y + I.tap (y 0).val T (y 1).val) ((Rect.unit (s := S8x1024) ![k, 0] ![1, 1024] h).emb j) := by
  have h0 : (j 0).val < 1 := (j 0).isLt
  exact congrArg₂ (fun a b : EReal => a + b) rfl (congrArg₂ (fun k c => I.tap k T c) (by simp) (by simp))

theorem tap_pieces (x : Vec Ideal S8x1024 .f32) : View.PiecesOf (Val := Elt Ideal) (e := .f32) (fun y : S8x1024.Idx => x y + I.tap (y 0).val T (y 1).val) (tapPieces I T x) :=
  ⟨tap_of I T x _ _, tap_of I T x _ _, tap_of I T x _ _, trivial⟩

theorem tap_cover (x : Vec Ideal S8x1024 .f32) (y : S8x1024.Idx) (h : (y 0).val < 3) : ∃ p ∈ tapPieces I T x, y ∈ p.1.set := by
  simp only [List.mem_cons, List.not_mem_nil, or_false, exists_eq_or_imp, exists_eq_left, Rect.mem_set_unit, Fin.forall_fin_two]
  have h1 : (y 1).val < 1024 := (y 1).isLt
  simp
  omega

theorem tap_canon (x : Vec Ideal S8x1024 .f32) (L) (y : S8x1024.Idx) (h : (y 0).val < 3) :
    View.canon (tapPieces I T x ++ L) y = x y + I.tap (y 0).val T (y 1).val :=
  View.canon_append_of_piecesOf _ L _ (tap_pieces I T x) y (tap_cover I T x y h)

theorem tap_writes {κ : Kind} {sp : Space} (v : View sig κ sp S8x1024 .f32) (f) (x : Vec Ideal S8x1024 .f32) (y : S8x1024.Idx) (h : (y 0).val < 3) :
    v.read (Elt Ideal) (v.writes (Elt Ideal) f (tapPieces I T x)) y = x y + I.tap (y 0).val T (y 1).val := by
  rw [View.read_writes_apply_eq_canon v f y _ (tap_cover I T x y h)]
  have := tap_canon I T x [] y h
  rwa [List.append_nil] at this

/-- The store of the gain's gradient over the row `z`. -/
abbrev gainPiece (z : Vec Ideal S8x1024 .f32) : View.Piece (Elt Ideal) S8x1024 .f32 :=
  ⟨Rect.unit ![0, 0] ![1, 1024] inb_S8x1024_S1x1024_0_0, gainRow I T (View.ld z (Rect.unit (s := S8x1024) ![0, 0] ![1, 1024] inb_S8x1024_S1x1024_0_0))⟩

theorem gain_cover (z : Vec Ideal S8x1024 .f32) (y : S8x1024.Idx) (h : (y 0).val < 1) : ∃ p ∈ [gainPiece I T z], y ∈ p.1.set := by
  refine ⟨gainPiece I T z, List.mem_cons_self, ?_⟩
  have h1 : (y 1).val < 1024 := (y 1).isLt
  simp [Rect.mem_set_unit, Fin.forall_fin_two]
  omega

theorem gain_canon (z : Vec Ideal S8x1024 .f32) (L) (y : S8x1024.Idx) (h : (y 0).val < 1) : View.canon (gainPiece I T z :: L) y = z y + I.gain T (y 1).val :=
  View.canon_append_of_piecesOf (Val := Elt Ideal) (e := .f32) (fun y : S8x1024.Idx => z y + I.gain T (y 1).val) L [gainPiece I T z]
    ⟨fun j => congrArg₂ (fun a b : EReal => a + b) rfl (congrArg (I.gain T) (by simp)), trivial⟩ y (gain_cover I T z y h)

theorem gain_writes {κ : Kind} {sp : Space} (v : View sig κ sp S8x1024 .f32) (f) (z : Vec Ideal S8x1024 .f32) (y : S8x1024.Idx) (h : (y 0).val < 1) :
    v.read (Elt Ideal) (v.writes (Elt Ideal) f [gainPiece I T z]) y = z y + I.gain T (y 1).val := by
  rw [View.read_writes_apply_eq_canon v f y _ (gain_cover I T z y h)]
  exact gain_canon I T z [] y h

/-- The rows a point finds after its tile, when the point before handed them on. -/
theorem found (x : Vec Ideal S272x1024 .f32) (hx : ∀ y : S272x1024.Idx, 256 ≤ (y 0).val → x y = hbuf I T y) (a n : ℕ) (ha : 256 ≤ a) (h) :
    View.ld x (Rect.unit (s := S272x1024) ![a, 0] ![n, 1024] h) = ldb (hbuf I T) ![a, 0] ![n, 1024] h := by
  funext j
  refine hx _ ?_
  simp
  omega

/-- The rows after the last tile. -/
theorem none_after (hT : T = 64) : k0_pay1 (F := Ideal) = ldb (hbuf I T) ![256, 0] ![16, 1024] inb_S272x1024_S16x1024_256_0 := by
  funext y
  pointwise [k0_pay1, hbuf, View.ld]
  rw [Ins.fut, if_neg (by omega)]

end

/-- The first point. -/
theorem step_first (c : Dev nD) (t : Fin cfg0.N) (a : At m I c t) (h : t.val % 65 = 0) :
    (first m c t h).dx = dhB I (64 - t.val) ∧ Leaves I (64 - t.val) (first m c t h) (k0_pay2 (F := Ideal)) (k0_pay3 (F := Ideal)) := by
  have hT : 64 - t.val < 65 := by omega
  have h0 : t.val = 0 := by have : t.val < 65 := t.isLt; omega
  have hp := none_after I (64 - t.val) (by omega)
  have p0 := halo_eq I _ hT _ a.halo (grid0.coords t) (tile t)
  have s0 := stream_eq I _ hT (iblk m c 4 t) (iblk m c 3 t) a.fst a.h
  refine ⟨?_, ?_, ?_, ?_, ?_, ?_, ?_⟩
  all_goals
    unfold first; dsimp only [ranFirst, runFirst]
    frame_open
    simp (disch := decide) only [↓ View.readCov_skip, ↓ View.readCov_cons_toLoadRect, ↓ View.readCov_fill]
    frame_out
    simp (disch := decide) only [read_unread_whole, a.d, a.p, a.g, a.w, a.cw, a.wo, tile, hp, d_id, gate_eq, left_eq, right_eq, rows_eq, p0, link0, link8, row_eq I _ hT, row_id, link256, link264, hand_eq,
      read_one, read_two, read_next, read_next', read_prev, read_prev', conv_eq, z_eq, dp0_eq, part0_eq, dp1_eq, dp2_eq, rest_eq, dhn_eq,
      tap0_eq I _ _ hT, tap1_eq I _ _ hT, tap2_eq, s0, hn_eq, gain_eq, dh_eq I _ hT]
  · exact dp_tiles I _
  · exact hand_canon I _ _
  · exact fun y h => tap_canon I _ _ [_] y h
  · exact fun y h => gain_canon I _ _ [_] y h

/-- A point between. -/
theorem step_next (c : Dev nD) (t : Fin cfg0.N) (a : At m I c t) (h : ¬t.val % 65 = 0) (h' : ¬t.val % 65 = 64) (p : St Ideal)
    (hp : ∀ y : S272x1024.Idx, 256 ≤ (y 0).val → p.db y = hbuf I (64 - t.val) y) :
    (next m c t h h' p).dx = dhB I (64 - t.val) ∧ Leaves I (64 - t.val) (next m c t h h' p) p.dcw p.dg := by
  have hT : 64 - t.val < 65 := by omega
  have h1 := fun h => found I (64 - t.val) p.db hp 256 8 (by decide) h
  have h2 := fun h => found I (64 - t.val) p.db hp 264 8 (by decide) h
  have p0 := halo_eq I _ hT _ a.halo (grid0.coords t) (tile t)
  have s0 := stream_eq I _ hT (iblk m c 4 t) (iblk m c 3 t) a.fst a.h
  refine ⟨?_, ?_, ?_, ?_, ?_, ?_, ?_⟩
  all_goals
    unfold next; dsimp only [ranNext, runNext]
    frame_open
    simp (disch := decide) only [↓ View.readCov_skip, ↓ View.readCov_cons_toLoadRect, ↓ View.readCov_fill]
    frame_out
    simp (disch := decide) only [read_unread_whole, a.d, a.p, a.g, a.w, a.cw, a.wo, tile, h1, h2, d_id, gate_eq, left_eq, right_eq, rows_eq, p0, link0, link8, row_eq I _ hT, row_id, link256, link264, hand_eq,
      read_one, read_two, read_next, read_next', read_prev, read_prev', conv_eq, z_eq, dp0_eq, part0_eq, dp1_eq, dp2_eq, rest_eq, dhn_eq,
      tap0_eq I _ _ hT, tap1_eq I _ _ hT, tap2_eq, s0, hn_eq, gain_eq, dh_eq I _ hT]
  · exact dp_tiles I _
  · exact hand_writes I _ _ _ _
  · exact fun y h => tap_writes I _ _ _ _ y h
  · exact fun y h => gain_writes I _ _ _ _ y h

/-- The last point. -/
theorem step_last (c : Dev nD) (t : Fin cfg0.N) (a : At m I c t) (h : t.val % 65 = 64) (p : St Ideal)
    (hp : ∀ y : S272x1024.Idx, 256 ≤ (y 0).val → p.db y = hbuf I (64 - t.val) y) :
    (last m c t h p).dfst = dhB I (64 - t.val) ∧ Leaves I (64 - t.val) (last m c t h p) p.dcw p.dg := by
  have hT : 64 - t.val < 65 := by omega
  have h1 := fun h => found I (64 - t.val) p.db hp 256 8 (by decide) h
  have h2 := fun h => found I (64 - t.val) p.db hp 264 8 (by decide) h
  have p0 := halo_eq I _ hT _ a.halo (grid0.coords t) (tile t)
  have s0 := stream_eq I _ hT (iblk m c 4 t) (iblk m c 3 t) a.fst a.h
  refine ⟨?_, ?_, ?_, ?_, ?_, ?_, ?_⟩
  all_goals
    unfold last; dsimp only [ranLast, runLast]
    frame_open
    simp (disch := decide) only [↓ View.readCov_skip, ↓ View.readCov_cons_toLoadRect, ↓ View.readCov_fill]
    frame_out
    simp (disch := decide) only [read_unread_whole, a.d, a.p, a.g, a.w, a.cw, a.wo, tile, h1, h2, d_id, gate_eq, left_eq, right_eq, rows_eq, p0, link0, link8, row_eq I _ hT, row_id, link256, link264, hand_eq,
      read_one, read_two, read_next, read_next', read_prev, read_prev', conv_eq, z_eq, dp0_eq, part0_eq, dp1_eq, dp2_eq, rest_eq, dhn_eq,
      tap0_eq I _ _ hT, tap1_eq I _ _ hT, tap2_eq, s0, hn_eq, gain_eq, dh_eq I _ hT]
  · exact dp_tiles I _
  · exact hand_writes I _ _ _ _
  · exact fun y h => tap_writes I _ _ _ _ y h
  · exact fun y h => gain_writes I _ _ _ _ y h

/-- The sums over the tiles of the points so far. -/
structure Left (n : ℕ) (c : Dev nD) : Prop where
  dx : n < 64 → (outs m c n).dx = dhB I (64 - n)
  dfst : n = 64 → (outs m c n).dfst = dhB I (64 - n)
  dhh : ∀ y, (outs m c n).dhh y = I.dp (256 * (64 - n) + rowTime (y 0).val) (y 1).val
  z : (outs m c n).z = zB I (64 - n)
  hn : (outs m c n).hn = hnB I (64 - n)
  db : ∀ y : S272x1024.Idx, 256 ≤ (y 0).val → (outs m c n).db y = I.fut (256 * (64 - n) + rowTime ((y 0).val - 256)) (y 1).val
  dcw : ∀ y : S8x1024.Idx, (y 0).val < 3 → (outs m c n).dcw y = ∑ j ∈ Finset.range (n + 1), I.tap (y 0).val (64 - j) (y 1).val
  dg : ∀ y : S8x1024.Idx, (y 0).val < 1 → (outs m c n).dg y = ∑ j ∈ Finset.range (n + 1), I.gain (64 - j) (y 1).val

/-- One point more. -/
theorem left_of (c : Dev nD) (n : ℕ) (l : Left m I n c) (o : St Ideal) (e : outs m c (n + 1) = o)
    (dx : n + 1 < 64 → o.dx = dhB I (64 - (n + 1))) (dfst : n + 1 = 64 → o.dfst = dhB I (64 - (n + 1)))
    (s : Leaves I (64 - (n + 1)) o (outs m c n).dcw (outs m c n).dg) : Left m I (n + 1) c := by
  subst e
  refine ⟨dx, dfst, s.dhh, s.z, s.hn, s.db, fun y hy => ?_, fun y hy => ?_⟩
  · rw [Finset.sum_range_succ, ← l.dcw y hy]
    exact s.dcw y hy
  · rw [Finset.sum_range_succ, ← l.dg y hy]
    exact s.dg y hy

/-- Every point, one after another. -/
theorem left (c : Dev nD) (a : ∀ t, At m I c t) : ∀ n, n < cfg0.N → Left m I n c
  | 0, h => by
    have e := outs_first m c ⟨0, h⟩ rfl
    have s := step_first m I c ⟨0, h⟩ (a _) rfl
    rw [← e] at s
    refine ⟨fun _ => s.1, fun h => absurd h (by decide), s.2.dhh, s.2.z, s.2.hn, s.2.db, fun y hy => (s.2.dcw y hy).trans ?_, fun y hy => (s.2.dg y hy).trans ?_⟩
    · rw [Finset.sum_range_one]
      pointwise [k0_pay2]
    · rw [Finset.sum_range_one]
      pointwise [k0_pay3]
  | n + 1, h => by
    have hN : n + 1 < 65 := h
    have hn : ¬(n + 1) % 65 = 0 := by omega
    have l := left c a n (Nat.lt_of_succ_lt h)
    have hp : ∀ y : S272x1024.Idx, 256 ≤ (y 0).val → (outs m c n).db y = hbuf I (64 - (n + 1)) y := fun y hy => (l.db y hy).trans (by
      exact congrArg (fun t => I.fut t _) (by dsimp only; omega))
    by_cases h' : (n + 1) % 65 = 64
    · have s := step_last m I c ⟨n + 1, h⟩ (a _) h' (outs m c n) hp
      exact left_of m I c n l _ (outs_last m c ⟨n + 1, h⟩ hn h') (fun h => absurd h (by omega)) (fun _ => s.1) s.2
    · have s := step_next m I c ⟨n + 1, h⟩ (a _) hn h' (outs m c n) hp
      exact left_of m I c n l _ (outs_next m c ⟨n + 1, h⟩ hn h') (fun _ => s.1) (fun h => absurd h (by omega)) s.2

end Cert.Sc

end
-- ==== Proof.Sc.Entry.lean ====
/- The arrays the mixer's gradient reads, as functions of the program's arguments: tiles of 256 rows whose row 8 j + s is time 32 s + j,
   the last tile first. -/
module

public import proofs.«01_k».proof.Proof.Sc.Point
public import proofs.«01_k».proof.Proof.Mlp.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (cD cEps rowTime rstd tile_time)
open Cert.Mlp (at2 at2_eq zero_word timeOf row_lt timeOf_lt)

/-- The arguments of the program. -/
structure Args where
  x : S16384x1024.Idx → EReal
  mt : S16x1024.Idx → EReal
  g : S1024.Idx → EReal
  w : S1024x3072.Idx → EReal
  cw : S3x1024.Idx → EReal
  wo : S1024x1024.Idx → EReal
  ct : S16400x1024.Idx → EReal

variable (A : Args)

/-- A row of the sequence: the sixteen rows before it, then its own. -/
def Args.row (t : Fin 16400) (k : Fin 1024) : EReal :=
  if h : t.val < 16 then A.mt (ix2 ⟨t.val, h⟩ k) else A.x (ix2 ⟨t.val - 16, by omega⟩ k)

/-- A normed row of the sequence. -/
def Args.norm (t : Fin 16400) (k : Fin 1024) : EReal := A.row t k * rstd (A.row t) * A.g (ix1 k)

/-- The projection of the sequence. -/
def Args.hh (t : Fin 16400) (c : Fin 3072) : EReal := ∑ k : Fin 1024, A.norm t k * A.w (ix2 k c)

/-- The call's arrays: the sequence behind 240 rows of zeros. -/
def mkIns : Ins where
  D τ k := if 240 ≤ τ then at2 A.ct (τ - 240) k else 0
  P τ c := if h : 240 ≤ τ ∧ τ < 16640 ∧ c < 3072 then A.hh ⟨τ - 240, by omega⟩ ⟨c, h.2.2⟩ else 0
  H τ k := if h : 240 ≤ τ ∧ τ < 16640 ∧ k < 1024 then A.row ⟨τ - 240, by omega⟩ ⟨k, h.2.2⟩ else 0
  g k := if h : k < 1024 then A.g (ix1 ⟨k, h⟩) else 0
  w q k n := at2 A.w k (768 * q + n)
  cw k c := at2 A.cw k c
  wo k c := at2 A.wo k c

variable (m : (ℓ : Loc nD τ sig) → Buf (Elt Ideal) ℓ)

/-- The arguments on a device. -/
def args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6)⟩

/-- The call's arrays on a device. -/
def ins (c : Dev nD) : Ins := mkIns (args m c)

/-- The host lines before the call. -/
abbrev lines : List (HloOp τ sig (Elt Ideal)) := [hostOps0, hostOps0_1, hostOps0_2, hostOps0_3, hostOps0_4].flatten

theorem idx_d : ∀ t : Fin cfg0.N, win0_0.index t = ![64 - t.val, 0] := (by decide +kernel : ∀ t : Fin grid0.N, _)
theorem idx_p : ∀ t : Fin cfg0.N, win0_1.index t = ![64 - t.val, 0] := (by decide +kernel : ∀ t : Fin grid0.N, _)
theorem idx_t : ∀ t : Fin cfg0.N, t.val < 64 → win0_2.index t = ![16 * (64 - t.val) - 1, 0] := (by decide +kernel : ∀ t : Fin grid0.N, _)
theorem idx_h : ∀ t : Fin cfg0.N, win0_3.index t = ![63 - t.val, 0] := (by decide +kernel : ∀ t : Fin grid0.N, _)
theorem idx_f : ∀ t : Fin cfg0.N, win0_4.index t = ![0, 0] := (by decide +kernel : ∀ t : Fin grid0.N, _)
theorem idx_g : ∀ t : Fin cfg0.N, win0_5.index t = ![0, 0] := (by decide +kernel : ∀ t : Fin grid0.N, _)
theorem idx_w : ∀ t : Fin cfg0.N, win0_6.index t = ![0, 0, 0] := (by decide +kernel : ∀ t : Fin grid0.N, _)
theorem idx_cw : ∀ t : Fin cfg0.N, win0_7.index t = ![0, 0] := (by decide +kernel : ∀ t : Fin grid0.N, _)
theorem idx_wo : ∀ t : Fin cfg0.N, win0_8.index t = ![0, 0] := (by decide +kernel : ∀ t : Fin grid0.N, _)

theorem ins_P (c : Dev nD) (τ k : ℕ) (h : 240 ≤ τ ∧ τ < 16640 ∧ k < 3072) : (ins m c).P τ k = (args m c).hh ⟨τ - 240, by omega⟩ ⟨k, h.2.2⟩ := dif_pos h

theorem ins_P_zero (c : Dev nD) (τ k : ℕ) (h : ¬240 ≤ τ) : (ins m c).P τ k = 0 := dif_neg fun h' => h h'.1

theorem ins_H (c : Dev nD) (τ k : ℕ) (h : 240 ≤ τ ∧ τ < 16640 ∧ k < 1024) : (ins m c).H τ k = (args m c).row ⟨τ - 240, by omega⟩ ⟨k, h.2.2⟩ := dif_pos h

theorem ins_H_zero (c : Dev nD) (τ k : ℕ) (h : ¬240 ≤ τ) : (ins m c).H τ k = 0 := dif_neg fun h' => h h'.1

theorem ins_D (c : Dev nD) (τ k : ℕ) (h : 240 ≤ τ ∧ τ < 16640 ∧ k < 1024) :
    (ins m c).D τ k = (args m c).ct (ix2 ⟨τ - 240, by omega⟩ ⟨k, h.2.2⟩) :=
  (if_pos h.1).trans (dif_pos ⟨by omega, h.2.2⟩)

theorem ins_D_zero (c : Dev nD) (τ k : ℕ) (h : ¬240 ≤ τ) : (ins m c).D τ k = 0 := if_neg h

end Cert.Sc

end
-- ==== Proof.Sc.EntryD.lean ====
/- The gradient that comes in, the gain and the weights as the call reads them. -/
module

public import proofs.«01_k».proof.Proof.Sc.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (cD cEps rowTime rstd tile_time)
open Cert.Mlp (at2 at2_eq zero_word timeOf row_lt timeOf_lt)

variable (m : (ℓ : Loc nD τ sig) → Buf (Elt Ideal) ℓ)

/-- The array of the gradient that comes in. -/
theorem arr_d (c : Dev nD) (y : S16640x1024.Idx) : (V m c main_v26 : S16640x1024.Idx → EReal) y = (ins m c).D (timeOf (y 0).val) (y 1).val := by
  have hl := timeOf_lt (y 0).isLt
  have h1 : (y 1).val < 1024 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (ins_D m c _ _ ⟨hb, hl, h1⟩).symm
  · exact (dif_neg fun h => hb h.1).trans (zero_word.trans (ins_D_zero m c _ _ hb).symm)

/-- Its block at a tile. -/
theorem at_d (c : Dev nD) (t : Fin cfg0.N) : iblk m c 0 t = dB (ins m c) (64 - t.val) := by
  funext y
  have hr : (y 0).val < 256 := (y 0).isLt
  blk_simp [iblk]
  refine (arr_d m c _).trans ?_
  refine congrArg₂ (ins m c).D (Eq.trans ?_ (tile_time (64 - t.val) _ hr)) ?_
  · refine congrArg timeOf ?_
    blk_simp [idx_d t]
  · blk_simp [idx_d t]

/-- The gain. -/
theorem at_g (c : Dev nD) (t : Fin cfg0.N) : iblk m c 5 t = gB (ins m c) := by
  funext y
  blk_simp [iblk, idx_g t]
  unfold V
  dsimp only [List.flatten_cons, List.flatten_nil, List.append_nil, List.cons_append, List.nil_append]
  after_reads_at
  refine Eq.trans ?_ (dif_pos (y 1).isLt).symm
  refine congrArg (m ((c : Thread nD τ).loc main_arg2)) (congrArg ix1 (Fin.ext ?_))
  blk_simp [idx_g t]

/-- The weight of the projection in four column blocks. -/
theorem at_w (c : Dev nD) (t : Fin cfg0.N) : iblk m c 6 t = wB (ins m c) := by
  funext y
  blk_simp [iblk, idx_w t]
  unfold V
  dsimp only [List.flatten_cons, List.flatten_nil, List.append_nil, List.cons_append, List.nil_append]
  after_reads_at
  have h0 : (y 0).val < 4 := (y 0).isLt
  have h2 : (y 2).val < 768 := (y 2).isLt
  refine Eq.trans ?_ (dif_pos ⟨(y 1).isLt, by omega⟩).symm
  refine congrArg (m ((c : Thread nD τ).loc main_arg3)) (congrArg₂ ix2 (Fin.ext ?_) (Fin.ext ?_))
  · blk_simp [idx_w t]
  · blk_simp [idx_w t]
    exact congrArg (· + (y 2).val) (Nat.mul_comm _ _)

/-- The taps. -/
theorem at_cw (c : Dev nD) (t : Fin cfg0.N) : iblk m c 7 t = cwB (ins m c) := by
  funext y
  blk_simp [iblk, idx_cw t]
  unfold V
  dsimp only [List.flatten_cons, List.flatten_nil, List.append_nil, List.cons_append, List.nil_append]
  after_reads_at
  refine Eq.trans ?_ (at2_eq (args m c).cw (y 0) (y 1)).symm
  blk_ext [idx_cw t]

/-- The weight of the output. -/
theorem at_wo (c : Dev nD) (t : Fin cfg0.N) : iblk m c 8 t = woB (ins m c) := by
  funext y
  blk_simp [iblk, idx_wo t]
  unfold V
  dsimp only [List.flatten_cons, List.flatten_nil, List.append_nil, List.cons_append, List.nil_append]
  after_reads_at
  refine Eq.trans ?_ (at2_eq (args m c).wo (y 0) (y 1)).symm
  blk_ext [idx_wo t]

end Cert.Sc

end
-- ==== Proof.Sc.EntryP.lean ====
/- The projection as the call reads it: the block of a tile and the rows before it. -/
module

public import proofs.«01_k».proof.Proof.Sc.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (cD cEps rowTime rstd tile_time)
open Cert.Mlp (at2 at2_eq zero_word timeOf row_lt timeOf_lt)

/-- The projection behind its 240 rows of zeros, from the rows it is computed from. -/
theorem close (A : Args) (t : ℕ) (hl : t < 16640) (k : Fin 3072) (M : S16x1024.Idx → EReal) (X : S16384x1024.Idx → EReal) (G : S1024.Idx → EReal)
    (W : S1024x3072.Idx → EReal) (hM : M = A.mt) (hX : X = A.x) (hG : G = A.g) (hW : W = A.w) :
    (if h : 240 ≤ t ∧ t - 240 < 16400 then
      ∑ x : Fin 1024, (if h' : t - 240 < 16 then M (ix2 ⟨t - 240, h'⟩ x) else X (ix2 ⟨t - 240 - 16, by omega⟩ x))
        * Ideal.rsqrt (Ideal.div (∑ x' : Fin 1024, (if h' : t - 240 < 16 then M (ix2 ⟨t - 240, h'⟩ x') else X (ix2 ⟨t - 240 - 16, by omega⟩ x'))
          * (if h' : t - 240 < 16 then M (ix2 ⟨t - 240, h'⟩ x') else X (ix2 ⟨t - 240 - 16, by omega⟩ x'))) (Ideal.ofBits FTy.f32 1149239296#32)
          + Ideal.ofBits FTy.f32 897988541#32) * G (ix1 x) * W (ix2 x k)
    else (FloatOps.sitofp (F := Ideal) FTy.f32 0#32 : EReal)) = (mkIns A).P t k.val := by
  subst hM hX hG hW
  by_cases h : 240 ≤ t ∧ t - 240 < 16400
  · rw [dif_pos h]
    have hb : 240 ≤ t ∧ t < 16640 ∧ k.val < 3072 := ⟨h.1, hl, k.isLt⟩
    unfold mkIns
    dsimp only
    rw [dif_pos hb]
    rfl
  · rw [dif_neg h]
    have hb : ¬(240 ≤ t ∧ t < 16640 ∧ k.val < 3072) := fun hb => h ⟨hb.1, by omega⟩
    unfold mkIns
    dsimp only
    rw [dif_neg hb]
    exact zero_word

variable (m : (ℓ : Loc nD τ sig) → Buf (Elt Ideal) ℓ)

/-- The array of the projection. -/
theorem arr_p (c : Dev nD) (y : S16640x3072.Idx) : (V m c main_v31 : S16640x3072.Idx → EReal) y = (ins m c).P (timeOf (y 0).val) (y 1).val := by
  have hl := timeOf_lt (y 0).isLt
  have h1 : (y 1).val < 3072 := (y 1).isLt
  unfold V
  dsimp only [List.flatten_cons, List.flatten_nil, List.append_nil, List.cons_append, List.nil_append]
  after_reads_at
  exact close (args m c) _ hl (y 1) (StableHlo.upto lines (fun b => m (c, b)) 0 (Proc.tc.devRef main_arg1))
    (StableHlo.upto lines (fun b => m (c, b)) 0 (Proc.tc.devRef main_arg0)) (m (c, Proc.tc.devRef main_arg2)) (m (c, Proc.tc.devRef main_arg3)) rfl rfl rfl rfl

/-- Its block at a tile. -/
theorem at_p (c : Dev nD) (t : Fin cfg0.N) : iblk m c 1 t = pB (ins m c) (64 - t.val) := by
  funext y
  have hr : (y 0).val < 256 := (y 0).isLt
  blk_simp [iblk]
  refine (arr_p m c _).trans ?_
  refine congrArg₂ (ins m c).P (Eq.trans ?_ (tile_time (64 - t.val) _ hr)) ?_
  · refine congrArg timeOf ?_
    blk_simp [idx_p t]
  · blk_simp [idx_p t]

/-- The rows before a tile. -/
theorem at_t (c : Dev nD) (t : Fin cfg0.N) : Halo (ins m c) (64 - t.val) (iblk m c 2 t) := by
  intro hT y
  have hr : (y 0).val < 16 := (y 0).isLt
  blk_simp [iblk]
  refine (arr_p m c _).trans ?_
  refine congrArg₂ (ins m c).P ?_ ?_
  · have e := tile_time (64 - t.val - 1) (240 + (y 0).val) (by omega)
    have e' : 256 * (64 - t.val - 1) + rowTime (240 + (y 0).val) = 256 * (64 - t.val) + rowTime (y 0).val - 226 := by
      have h1 : (240 + (y 0).val) % 8 = (y 0).val % 8 := by omega
      have h2 : (240 + (y 0).val) / 8 = 30 + (y 0).val / 8 := by omega
      simp only [rowTime, h1, h2]
      omega
    refine Eq.trans (congrArg timeOf ?_) (e.trans e')
    blk_simp [idx_t t (by omega)]
    omega
  · blk_simp [idx_t t (by omega)]

end Cert.Sc

end
-- ==== Proof.Sc.EntryH.lean ====
/- The residual stream as the call reads it: the rows of a tile, and those before the first row. -/
module

public import proofs.«01_k».proof.Proof.Sc.Entry
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (cD cEps rowTime rstd tile_time)
open Cert.Mlp (at2 at2_eq zero_word timeOf row_lt timeOf_lt)

variable (m : (ℓ : Loc nD τ sig) → Buf (Elt Ideal) ℓ)

theorem own_row (t : ℕ) : t = 256 + t - 240 - 16 := by omega

theorem first_time {n : ℕ} (h : n < 256) : n % 8 * 32 + n / 8 = timeOf n := by unfold timeOf; omega

theorem first_lt {n : ℕ} (h : n < 256) : n % 8 * 32 + n / 8 < 256 := by omega

/-- The array of the sequence. -/
theorem arr_x (c : Dev nD) (y : S16384x1024.Idx) : (V m c main_v34 : S16384x1024.Idx → EReal) y = (ins m c).H (256 + timeOf (y 0).val) (y 1).val := by
  have h0 : (y 0).val < 16384 := (y 0).isLt
  have hl : timeOf (y 0).val < 16384 := by unfold timeOf; omega
  have h1 : (y 1).val < 1024 := (y 1).isLt
  unfold V
  dsimp only [List.flatten_cons, List.flatten_nil, List.append_nil, List.cons_append, List.nil_append]
  after_reads_at
  refine Eq.trans ?_ (ins_H m c _ _ ⟨by omega, by omega, h1⟩).symm
  refine Eq.trans ?_ (dif_neg (by dsimp only; omega)).symm
  refine congrArg (m ((c : Thread nD τ).loc main_arg0)) (congrArg₂ ix2 (Fin.ext ?_) rfl)
  exact own_row _

/-- Its block at a tile after the first. -/
theorem at_h (c : Dev nD) (t : Fin cfg0.N) (hT : 64 - t.val ≠ 0) : iblk m c 3 t = hB (ins m c) (64 - t.val) := by
  funext y
  have hr : (y 0).val < 256 := (y 0).isLt
  have e := tile_time (63 - t.val) _ hr
  blk_simp [iblk]
  refine (arr_x m c _).trans ?_
  refine congrArg₂ (ins m c).H ?_ ?_
  · refine ((congrArg (256 + timeOf ·) ?_).trans (congrArg (256 + ·) e)).trans (by omega)
    blk_simp [idx_h t]
  · blk_simp [idx_h t]

/-- The rows before the sequence, from zeros and the sixteen rows. -/
theorem close_first (A : Args) (u t : ℕ) (e : u = t) (hu : u < 256) (k : Fin 1024) (z : S240x1024.Idx → EReal) (M : S16x1024.Idx → EReal)
    (hz : ∀ y, z y = 0) (hM : M = A.mt) :
    (if h : u < 240 then z (ix2 ⟨u, h⟩ k) else M (ix2 ⟨u - 240, by omega⟩ k)) = (mkIns A).H t k.val := by
  subst e hM
  unfold mkIns Args.row
  dsimp only
  by_cases h : u < 240
  · rw [dif_pos h, hz, dif_neg (by omega)]
  · rw [dif_neg h, dif_pos (by omega), dif_pos (by omega)]

theorem zeros (c : Dev nD) (y : S240x1024.Idx) : (StableHlo.upto lines (fun b => m (c, b)) 23 (Proc.tc.devRef main_v18) : S240x1024.Idx → EReal) y = (0 : EReal) := by
  dsimp only [lines, List.flatten_cons, List.flatten_nil, List.append_nil, List.cons_append, List.nil_append]
  after_reads_at

theorem before (c : Dev nD) : (StableHlo.upto lines (fun b => m (c, b)) 23 (Proc.tc.devRef main_arg1) : S16x1024.Idx → EReal) = (args m c).mt := by
  funext y
  dsimp only [lines, List.flatten_cons, List.flatten_nil, List.append_nil, List.cons_append, List.nil_append]
  after_reads_at
  rfl

/-- The array of the rows before the sequence. -/
theorem arr_f (c : Dev nD) (y : S256x1024.Idx) : (V m c main_v22 : S256x1024.Idx → EReal) y = (ins m c).H (timeOf (y 0).val) (y 1).val := by
  have h0 : (y 0).val < 256 := (y 0).isLt
  unfold V
  dsimp only [List.flatten_cons, List.flatten_nil, List.append_nil, List.cons_append, List.nil_append]
  after_reads_at
  exact close_first (args m c) _ _ (first_time h0) (first_lt h0) (y 1) (StableHlo.upto lines (fun b => m (c, b)) 23 (Proc.tc.devRef main_v18))
    (StableHlo.upto lines (fun b => m (c, b)) 23 (Proc.tc.devRef main_arg1)) (zeros m c) (before m c)

/-- Its block at the first tile. -/
theorem at_f (c : Dev nD) (t : Fin cfg0.N) (hT : 64 - t.val = 0) : iblk m c 4 t = hB (ins m c) (64 - t.val) := by
  funext y
  have hr : (y 0).val < 256 := (y 0).isLt
  have e := tile_time 0 _ hr
  rw [hT]
  blk_simp [iblk]
  refine (arr_f m c _).trans ?_
  refine congrArg₂ (ins m c).H (Eq.trans ?_ e) ?_
  · refine congrArg timeOf ?_
    blk_simp [idx_f t]
  · blk_simp [idx_f t]

end Cert.Sc

end
-- ==== Proof.Sc.Arrays.lean ====
/- The seven arrays the mixer's gradient leaves, as functions of time. -/
module

public import proofs.«01_k».proof.Proof.Sc.Run
public import proofs.«01_k».proof.Proof.Sc.EntryD
public import proofs.«01_k».proof.Proof.Sc.EntryP
public import proofs.«01_k».proof.Proof.Sc.EntryH
public import proofs.«01_k».proof.Proof.Loss.Kernel

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (arrTime arrTime_tile arrTime_row rowTime row_time)

variable (m : (ℓ : Loc nD τ sig) → Buf (Elt Ideal) ℓ)

/-- The blocks of every point. -/
theorem at_all (c : Dev nD) (t : Fin cfg0.N) : At m (ins m c) c t :=
  ⟨at_d m c t, at_p m c t, at_t m c t, at_h m c t, at_f m c t, at_g m c t, at_w m c t, at_cw m c t, at_wo m c t⟩

theorem left_at (c : Dev nD) (n : ℕ) (h : n < cfg0.N) : Left m (ins m c) n c := left m (ins m c) c (at_all m c) n h

theorem lt_last : 64 < cfg0.N := by decide

theorem outs_end (c : Dev nD) (t : Fin cfg0.N) (h : t.val % 65 = 64) : outs m c t.val = outs m c 64 :=
  congrArg (outs m c) (by have := lt65 t; omega)

/-- At every point that writes it out the stream's block is that of the point's tile, and at the last point that of the tile before. -/
theorem left_dx (c : Dev nD) (t : Fin cfg0.N) : (outs m c t.val).dx = dhB (ins m c) (63 - t.val + 1) := by
  have ht := lt65 t
  by_cases h : t.val = 64
  · rw [h, outs_last m c ⟨64, lt_last⟩ (by decide) (by decide)]
    unfold last
    exact (left_at m c 63 (by decide)).dx (by decide)
  · rw [(left_at m c _ t.isLt).dx (by omega)]
    exact congrArg (dhB (ins m c)) (by omega)

theorem idx_dx : ∀ t : Fin cfg0.N, win0_9.index t = ![63 - t.val, 0] := (by decide +kernel : ∀ t : Fin grid0.N, _)

/-- The gradient of the residual stream. -/
theorem arr_dx (c : Dev nD) : (dats m 0 c).arrAt 9 cfg0.N = fun y : S16384x1024.Idx => (ins m c).dh (256 + arrTime (y 0).val) (y 1).val :=
  (dats m 0 c).arrAt_eq_of_covers 9 _ (by decide +kernel) fun t _ y => by
    blk_simp [idx_dx t]
    rw [after_dx, left_dx]
    refine congrArg₂ (ins m c).dh (Eq.trans ?_ (congrArg (256 + ·) (row_time (63 - t.val) y))) ?_
    · dsimp only
      omega
    · blk_simp [idx_dx t]

theorem idx_dhh : ∀ t : Fin cfg0.N, win0_10.index t = ![64 - t.val, 0] := (by decide +kernel : ∀ t : Fin grid0.N, _)

/-- The gradient of the projection. -/
theorem arr_dhh (c : Dev nD) : (dats m 0 c).arrAt 10 cfg0.N = fun y : S16640x3072.Idx => (ins m c).dp (arrTime (y 0).val) (y 1).val :=
  (dats m 0 c).arrAt_eq_of_covers 10 _ (by decide +kernel) fun t _ y => by
    blk_simp [idx_dhh t]
    refine ((congrFun (after_dhh m c t) y).trans ((left_at m c _ t.isLt).dhh y)).trans ?_
    refine congrArg₂ (ins m c).dp (row_time (64 - t.val) y) ?_
    blk_simp [idx_dhh t]

theorem idx_z : ∀ t : Fin cfg0.N, win0_11.index t = ![64 - t.val, 0] := (by decide +kernel : ∀ t : Fin grid0.N, _)

/-- The gated rows. -/
theorem arr_z (c : Dev nD) : (dats m 0 c).arrAt 11 cfg0.N = fun y : S16640x1024.Idx => (ins m c).z (arrTime (y 0).val) (y 1).val :=
  (dats m 0 c).arrAt_eq_of_covers 11 _ (by decide +kernel) fun t _ y => by
    blk_simp [idx_z t]
    rw [after_z, (left_at m c _ t.isLt).z]
    refine congrArg₂ (ins m c).z (row_time (64 - t.val) y) ?_
    blk_simp [idx_z t]

theorem idx_hn : ∀ t : Fin cfg0.N, win0_12.index t = ![64 - t.val, 0] := (by decide +kernel : ∀ t : Fin grid0.N, _)

/-- The normed rows. -/
theorem arr_hn (c : Dev nD) : (dats m 0 c).arrAt 12 cfg0.N = fun y : S16640x1024.Idx => (ins m c).hn (arrTime (y 0).val) (y 1).val :=
  (dats m 0 c).arrAt_eq_of_covers 12 _ (by decide +kernel) fun t _ y => by
    blk_simp [idx_hn t]
    rw [after_hn, (left_at m c _ t.isLt).hn]
    refine congrArg₂ (ins m c).hn (row_time (64 - t.val) y) ?_
    blk_simp [idx_hn t]

theorem idx_dcw : ∀ t : Fin cfg0.N, win0_13.index t = ![0, 0] := (by decide +kernel : ∀ t : Fin grid0.N, _)
theorem idx_dg : ∀ t : Fin cfg0.N, win0_14.index t = ![0, 0] := (by decide +kernel : ∀ t : Fin grid0.N, _)
theorem idx_df : ∀ t : Fin cfg0.N, win0_15.index t = ![0, 0] := (by decide +kernel : ∀ t : Fin grid0.N, _)

theorem arr_dcw_last (c : Dev nD) : (dats m 0 c).arrAt 13 cfg0.N = (outs m c 64).dcw :=
  (dats m 0 c).arrAt_eq_of_covers 13 _ (by decide +kernel) fun t hf y => by
    blk_simp [idx_dcw t]
    rw [after_dcw, outs_end m c t ((flush0_13 t).mp hf)]
    generalize (outs m c 64).dcw = G
    blk_ext [idx_dcw t]

/-- The taps' gradients. -/
theorem arr_dcw (c : Dev nD) (y : S8x1024.Idx) (h : (y 0).val < 3) :
    ((dats m 0 c).arrAt 13 cfg0.N : S8x1024.Idx → EReal) y = ∑ j ∈ Finset.range 65, (ins m c).tap (y 0).val (64 - j) (y 1).val := by
  rw [arr_dcw_last]
  exact (left_at m c 64 lt_last).dcw y h

theorem arr_dg_last (c : Dev nD) : (dats m 0 c).arrAt 14 cfg0.N = (outs m c 64).dg :=
  (dats m 0 c).arrAt_eq_of_covers 14 _ (by decide +kernel) fun t hf y => by
    blk_simp [idx_dg t]
    rw [after_dg, outs_end m c t ((flush0_14 t).mp hf)]
    generalize (outs m c 64).dg = G
    blk_ext [idx_dg t]

/-- The gain's gradient. -/
theorem arr_dg (c : Dev nD) (y : S8x1024.Idx) (h : (y 0).val < 1) :
    ((dats m 0 c).arrAt 14 cfg0.N : S8x1024.Idx → EReal) y = ∑ j ∈ Finset.range 65, (ins m c).gain (64 - j) (y 1).val := by
  rw [arr_dg_last]
  exact (left_at m c 64 lt_last).dg y h

/-- The gradient of the rows before the sequence. -/
theorem arr_df (c : Dev nD) : (dats m 0 c).arrAt 15 cfg0.N = fun y : S256x1024.Idx => (ins m c).dh (arrTime (y 0).val) (y 1).val :=
  (dats m 0 c).arrAt_eq_of_covers 15 _ (by decide +kernel) fun t hf y => by
    have h := (flush0_15 t).mp hf
    have h' : t.val = 64 := by have := lt65 t; omega
    blk_simp [idx_df t]
    rw [after_dfst, outs_end m c t h, (left_at m c 64 lt_last).dfst rfl]
    refine congrArg₂ (ins m c).dh ((row_time 0 y).trans (congrArg arrTime ?_)) ?_
    · simp
    · blk_simp [idx_df t]

end Cert.Sc

end
-- ==== Proof.Sc.Kernel.lean ====
/- The results of the program by the arrays of the call. -/
module

public import proofs.«01_k».proof.Proof.Sc.Arrays

@[expose] public section

set_option maxRecDepth 16384

noncomputable section

open Idealize.ShloMosaic Idealize.ShloMosaic.TcCoe Idealize.SL.Sem

namespace Cert.Sc

open Cert.Kernel3Ideal Cert.Kernel3Ideal.Gen
open Cert.Loss (arrTime arrTime_tile arrTime_row rowTime row_time)

variable (m : (ℓ : Loc nD τ sig) → Buf (Elt Ideal) ℓ) (ρ : Dev nD → PrngReg)

/-- The buffers as the lines after the call find them. -/
abbrev held (c : Dev nD) : Valuation τ sig (Elt Ideal) :=
  Pipeline.withArrays (cfgs 0).spec c (V0 m c) fun w => (dats m 0 c).arrAt w (cfgs 0).N

theorem held_dx (c : Dev nD) : held m c (Proc.tc.devRef main_v37_0) = (dats m 0 c).arrAt 9 cfg0.N :=
  (dats m 0 c).withArrays_arrAt sharedIn0 (V0 m c) (fun w => A_eq m c w) 9

theorem held_dhh (c : Dev nD) : held m c (Proc.tc.devRef main_v37_1) = (dats m 0 c).arrAt 10 cfg0.N :=
  (dats m 0 c).withArrays_arrAt sharedIn0 (V0 m c) (fun w => A_eq m c w) 10

theorem held_z (c : Dev nD) : held m c (Proc.tc.devRef main_v37_2) = (dats m 0 c).arrAt 11 cfg0.N :=
  (dats m 0 c).withArrays_arrAt sharedIn0 (V0 m c) (fun w => A_eq m c w) 11

theorem held_hn (c : Dev nD) : held m c (Proc.tc.devRef main_v37_3) = (dats m 0 c).arrAt 12 cfg0.N :=
  (dats m 0 c).withArrays_arrAt sharedIn0 (V0 m c) (fun w => A_eq m c w) 12

theorem held_dcw (c : Dev nD) : held m c (Proc.tc.devRef main_v37_4) = (dats m 0 c).arrAt 13 cfg0.N :=
  (dats m 0 c).withArrays_arrAt sharedIn0 (V0 m c) (fun w => A_eq m c w) 13

theorem held_dg (c : Dev nD) : held m c (Proc.tc.devRef main_v37_5) = (dats m 0 c).arrAt 14 cfg0.N :=
  (dats m 0 c).withArrays_arrAt sharedIn0 (V0 m c) (fun w => A_eq m c w) 14

theorem held_df (c : Dev nD) : held m c (Proc.tc.devRef main_v37_6) = (dats m 0 c).arrAt 15 cfg0.N :=
  (dats m 0 c).withArrays_arrAt sharedIn0 (V0 m c) (fun w => A_eq m c w) 15

/-- A row before the sequence in the order of time. -/
theorem first_row {a : ℕ} (h : 240 ≤ a ∧ a < 256) : arrTime (a % 32 * 8 + a / 32) = a := by
  have e := arrTime_row a
  rwa [show a / 256 = 0 by omega, Nat.zero_mul, Nat.zero_add, Nat.mod_eq_of_lt (show a / 32 < 8 by omega)] at e

theorem tail_dx (c : Dev nD) : Pipeline.afterTail₀ cfgs (dats m) 0 (V0 m) [hostOps1] c main_v40 =
    fun y : S16384x1024.Idx => (ins m c).dh (256 + (y 0).val) (y 1).val := by
  funext y
  unfold Pipeline.afterTail₀
  dsimp only [List.flatten_cons, List.flatten_nil, List.append_nil, List.cons_append, List.nil_append]
  after_reads_at
  refine (congrFun ((held_dx m c).trans (arr_dx m c)) _).trans ?_
  exact congrArg (fun a => (ins m c).dh (256 + a) (y 1).val) (arrTime_row _)

theorem tail_dhh (c : Dev nD) : Pipeline.afterTail₀ cfgs (dats m) 0 (V0 m) [hostOps1] c main_v52 =
    fun y : S16400x3072.Idx => (ins m c).dp (240 + (y 0).val) (y 1).val := by
  funext y
  unfold Pipeline.afterTail₀
  dsimp only [List.flatten_cons, List.flatten_nil, List.append_nil, List.cons_append, List.nil_append]
  after_reads_at
  refine (congrFun ((held_dhh m c).trans (arr_dhh m c)) _).trans ?_
  exact congrArg (fun a => (ins m c).dp a (y 1).val) (arrTime_row _)

theorem tail_z (c : Dev nD) : Pipeline.afterTail₀ cfgs (dats m) 0 (V0 m) [hostOps1] c main_v57 =
    fun y : S16400x1024.Idx => (ins m c).z (240 + (y 0).val) (y 1).val := by
  funext y
  unfold Pipeline.afterTail₀
  dsimp only [List.flatten_cons, List.flatten_nil, List.append_nil, List.cons_append, List.nil_append]
  after_reads_at
  refine (congrFun ((held_z m c).trans (arr_z m c)) _).trans ?_
  exact congrArg (fun a => (ins m c).z a (y 1).val) (arrTime_row _)

theorem tail_hn (c : Dev nD) : Pipeline.afterTail₀ cfgs (dats m) 0 (V0 m) [hostOps1] c main_v62 =
    fun y : S16400x1024.Idx => (ins m c).hn (240 + (y 0).val) (y 1).val := by
  funext y
  unfold Pipeline.afterTail₀
  dsimp only [List.flatten_cons, List.flatten_nil, List.append_nil, List.cons_append, List.nil_append]
  after_reads_at
  refine (congrFun ((held_hn m c).trans (arr_hn m c)) _).trans ?_
  exact congrArg (fun a => (ins m c).hn a (y 1).val) (arrTime_row _)

theorem tail_dcw (c : Dev nD) : Pipeline.afterTail₀ cfgs (dats m) 0 (V0 m) [hostOps1] c main_v47 =
    fun y : S3x1024.Idx => ∑ j ∈ Finset.range 65, (ins m c).tap (y 0).val (64 - j) (y 1).val := by
  funext y
  unfold Pipeline.afterTail₀
  dsimp only [List.flatten_cons, List.flatten_nil, List.append_nil, List.cons_append, List.nil_append]
  after_reads_at
  exact (congrFun (held_dcw m c) _).trans (arr_dcw m c _ (y 0).isLt)

theorem tail_dg (c : Dev nD) : Pipeline.afterTail₀ cfgs (dats m) 0 (V0 m) [hostOps1] c main_v46 =
    fun y : S1024.Idx => ∑ j ∈ Finset.range 65, (ins m c).gain (64 - j) (y 0).val := by
  funext y
  unfold Pipeline.afterTail₀
  dsimp only [List.flatten_cons, List.flatten_nil, List.append_nil, List.cons_append, List.nil_append]
  after_reads_at
  exact (congrFun (held_dg m c) _).trans (arr_dg m c _ Nat.one_pos)

theorem tail_df (c : Dev nD) : Pipeline.afterTail₀ cfgs (dats m) 0 (V0 m) [hostOps1] c main_v44 =
    fun y : S16x1024.Idx => (ins m c).dh (240 + (y 0).val) (y 1).val := by
  funext y
  unfold Pipeline.afterTail₀
  dsimp only [List.flatten_cons, List.flatten_nil, List.append_nil, List.cons_append, List.nil_append]
  after_reads_at
  refine (congrFun ((held_df m c).trans (arr_df m c)) _).trans ?_
  exact congrArg (fun a => (ins m c).dh a (y 1).val) (first_row ⟨Nat.le_add_right _ _, Nat.add_lt_add_left (y 0).isLt _⟩)

/-- The run: every result as a function of the arrays of the call. -/
theorem kernel_run : θ_run defs (onTc (τ := τ) (main (F := Ideal))) ⟨m, fun _ => 0, ρ⟩ (fun r => ∀ c : Dev nD,
      r.2.mem ((c.tc : Thread nD τ).loc main_v40) = (fun y : S16384x1024.Idx => (ins m c).dh (256 + (y 0).val) (y 1).val)
      ∧ r.2.mem ((c.tc : Thread nD τ).loc main_v44) = (fun y : S16x1024.Idx => (ins m c).dh (240 + (y 0).val) (y 1).val)
      ∧ r.2.mem ((c.tc : Thread nD τ).loc main_v46) = (fun y : S1024.Idx => ∑ j ∈ Finset.range 65, (ins m c).gain (64 - j) (y 0).val)
      ∧ r.2.mem ((c.tc : Thread nD τ).loc main_v47) = (fun y : S3x1024.Idx => ∑ j ∈ Finset.range 65, (ins m c).tap (y 0).val (64 - j) (y 1).val)
      ∧ r.2.mem ((c.tc : Thread nD τ).loc main_v52) = (fun y : S16400x3072.Idx => (ins m c).dp (240 + (y 0).val) (y 1).val)
      ∧ r.2.mem ((c.tc : Thread nD τ).loc main_v57) = (fun y : S16400x1024.Idx => (ins m c).z (240 + (y 0).val) (y 1).val)
      ∧ r.2.mem ((c.tc : Thread nD τ).loc main_v62) = (fun y : S16400x1024.Idx => (ins m c).hn (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  · exact tail_dx m c
  · exact tail_df m c
  · exact tail_dg m c
  · exact tail_dcw m c
  · exact tail_dhh m c
  · exact tail_z m c
  · exact tail_hn m c
  · exact W_main_arg0 m _ c
  · exact W_main_arg1 m _ c
  · exact W_main_arg2 m _ c
  · exact W_main_arg3 m _ c
  · exact W_main_arg5 m _ c
  · exact W_main_arg6 m _ c

end Cert.Sc

end
-- ==== Proof.Sc.Real.lean ====
/- The arrays of the mixer's gradient at the times of the sequence, and that every value computed from real arguments is real. -/
module

public import proofs.«01_k».proof.Proof.Sc.Entry
public import proofs.«01_k».proof.Proof.Mlp.Real

@[expose] public section

set_option maxRecDepth 16384

noncomputable section

namespace Cert.Sc

open Idealize.ShloMosaic Cert.Kernel3Ideal
open Cert.Loss (IsReal cD rstd rowTime)
open Cert.Mlp (at2 at2_eq at2_time real_at2)

variable (A : Args)

/-! The call's arrays at a time of the sequence. -/

theorem H_at (i : Fin 16400) (k : Fin 1024) : (mkIns A).H (240 + i.val) k.val = A.row i k :=
  (dif_pos ⟨by omega, by omega, k.isLt⟩).trans (congrArg (fun t => A.row t k) (Fin.ext (Nat.add_sub_cancel_left _ _)))

theorem D_at (i : Fin 16400) (k : Fin 1024) : (mkIns A).D (240 + i.val) k.val = A.ct (ix2 i k) := at2_time A.ct i k

theorem g_at (k : Fin 1024) : (mkIns A).g k.val = A.g (ix1 k) := dif_pos k.isLt

theorem wo_at (j : Fin 1024) (k : Fin 1024) : (mkIns A).wo j.val k.val = A.wo (ix2 j k) := at2_eq A.wo j k

theorem cw_at (j : Fin 3) (k : Fin 1024) : (mkIns A).cw j.val k.val = A.cw (ix2 j k) := at2_eq A.cw j k

theorem P_at (i : Fin 16400) (c : ℕ) (h : c < 3072) : (mkIns A).P (240 + i.val) c = A.hh i ⟨c, h⟩ :=
  (dif_pos ⟨by omega, by omega, h⟩).trans (congrArg (fun t => A.hh t ⟨c, h⟩) (Fin.ext (Nat.add_sub_cancel_left _ _)))

theorem P_pad (t c : ℕ) (h : t < 240) : (mkIns A).P t c = 0 := dif_neg fun h' => absurd h'.1 (by omega)

/-- Every argument is real. -/
structure Args.AllReal : Prop where
  x : ∀ i, IsReal (A.x i)
  mt : ∀ i, IsReal (A.mt i)
  g : ∀ i, IsReal (A.g i)
  w : ∀ i, IsReal (A.w i)
  cw : ∀ i, IsReal (A.cw i)
  wo : ∀ i, IsReal (A.wo i)
  ct : ∀ i, IsReal (A.ct i)

section
variable {A} (hA : A.AllReal)
include hA

theorem real_row (i : Fin 16400) (k : Fin 1024) : IsReal (A.row i k) := by
  unfold Args.row
  split
  · exact hA.mt _
  · exact hA.x _

theorem real_hh (i : Fin 16400) (c : Fin 3072) : IsReal (A.hh i c) :=
  IsReal.sum _ fun k => (((real_row hA i k).mul (IsReal.rstd fun k => real_row hA i k)).mul (hA.g _)).mul (hA.w _)

theorem real_P (τ c : ℕ) : IsReal ((mkIns A).P τ c) := by
  unfold mkIns
  dsimp only
  split
  · exact real_hh hA _ _
  · exact IsReal.zero

theorem real_H (τ k : ℕ) : IsReal ((mkIns A).H τ k) := by
  unfold mkIns
  dsimp only
  split
  · exact real_row hA _ _
  · exact IsReal.zero

theorem real_D (τ k : ℕ) : IsReal ((mkIns A).D τ k) := by
  unfold mkIns
  dsimp only
  split
  · exact real_at2 hA.ct _ _
  · exact IsReal.zero

theorem real_g (k : ℕ) : IsReal ((mkIns A).g k) := by
  unfold mkIns
  dsimp only
  split
  · exact hA.g _
  · exact IsReal.zero

theorem real_past (τ c : ℕ) : IsReal ((mkIns A).past τ c) := by
  unfold Ins.past
  split
  · exact (real_P hA _ _).mul (real_P hA _ _)
  · exact IsReal.zero

theorem real_u (τ c : ℕ) : IsReal ((mkIns A).u τ c) :=
  (((real_at2 hA.cw _ _).mul (real_past hA _ _)).add ((real_at2 hA.cw _ _).mul (real_past hA _ _))).add ((real_at2 hA.cw _ _).mul (real_past hA _ _))

theorem real_dz (τ c : ℕ) : IsReal ((mkIns A).dz τ c) := IsReal.sum _ fun _ => (real_D hA _ _).mul (real_at2 hA.wo _ _)

theorem real_fut (τ c : ℕ) : IsReal ((mkIns A).fut τ c) := by
  unfold Ins.fut
  split
  · exact (real_dz hA _ _).mul (real_P hA _ _)
  · exact IsReal.zero

theorem real_dcv (τ c : ℕ) : IsReal ((mkIns A).dcv τ c) :=
  (((real_at2 hA.cw _ _).mul (real_fut hA _ _)).add ((real_at2 hA.cw _ _).mul (real_fut hA _ _))).add ((real_at2 hA.cw _ _).mul (real_fut hA _ _))

theorem real_dp (τ c : ℕ) : IsReal ((mkIns A).dp τ c) := by
  unfold Ins.dp
  split
  · exact (real_dz hA _ _).mul (real_u hA _ _)
  · split
    · exact (real_dcv hA _ _).mul (real_P hA _ _)
    · exact (real_dcv hA _ _).mul (real_P hA _ _)

theorem real_dhn (τ k : ℕ) : IsReal ((mkIns A).dhn τ k) :=
  have hp := fun q => IsReal.sum Finset.univ fun n : Fin 768 => (real_dp hA τ (768 * q + n.val)).mul (real_at2 hA.w k (768 * q + n.val))
  (((hp 0).add (hp 1)).add (hp 2)).add (hp 3)

end

end Cert.Sc

end
-- ==== Proof.Sc.Ref.lean ====
/- The reference's values, by time, are the functions of time of the mixer's gradient. -/
module

public import proofs.«01_k».proof.Proof.Sc.Real
public import proofs.«01_k».proof.Proof.Mlp.Ref
public import proofs.«01_k».proof.Proof.Loss.Ref
public import proofs.«01_k».proof.Proof.Gen.Reference3Ideal.Read

@[expose] public section

set_option maxRecDepth 16384

noncomputable section

namespace Cert.Sc

open Idealize.ShloMosaic Cert.Reference3Ideal Cert.Reference3Ideal.Gen Cert.Reference3Ideal.Read
open Cert.Loss (IsReal cD cEps rstd rowTime sum_times norm_grad neg_half)
open Cert.Mlp (at2 at2_eq sum_points)

variable (A : Args)

theorem ref_row (i : Fin 16400) (k : Fin 1024) : val_main_v1 (F := Ideal) A.x A.mt (ix2 i k) = A.row i k := by
  unfold Args.row
  pointwise [val_main_v1]

theorem ref_hn (i : Fin 16400) (k : Fin 1024) : val_main_v17 (F := Ideal) A.x A.mt A.g (ix2 i k) = (mkIns A).hn (240 + i.val) k.val := by
  unfold Ins.hn Ins.xhat Ins.r
  simp only [H_at, g_at]
  unfold rstd
  simp only [← ref_row]
  pointwise [val_main_v17, val_main_v16, val_main_v15, val_main_v14, val_main_v13, val_main_v9, val_main_v8, val_main_v7, val_main_cst_2, val_main_v6, val_main_v5, val_main_cst_1, val_main_v4, val_main_v3, val_main_cst_0, val_main_v2]

theorem ref_xhat (i : Fin 16400) (k : Fin 1024) : val_main_v14 (F := Ideal) A.x A.mt (ix2 i k) = (mkIns A).xhat (240 + i.val) k.val := by
  unfold Ins.xhat Ins.r
  simp only [H_at]
  unfold rstd
  simp only [← ref_row]
  pointwise [val_main_v14, val_main_v13, val_main_v9, val_main_v8, val_main_v7, val_main_cst_2, val_main_v6, val_main_v5, val_main_cst_1, val_main_v4, val_main_v3, val_main_cst_0, val_main_v2]

theorem ref_hh (i : Fin 16400) (c : Fin 3072) : val_main_v19 (F := Ideal) A.x A.mt A.g A.w (ix2 i c) = A.hh i c := by
  unfold Args.hh Args.norm rstd
  simp only [← ref_row]
  pointwise [val_main_v19, val_main_v0, val_main_cst, val_main_v18, val_main_v17, val_main_v16, val_main_v15, val_main_v14, val_main_v13, val_main_v9, val_main_v8, val_main_v7, val_main_cst_2, val_main_v6, val_main_v5, val_main_cst_1, val_main_v4, val_main_v3, val_main_cst_0, val_main_v2]

theorem ref_gate (i : Fin 16400) (c : Fin 1024) : val_main_v20 (F := Ideal) A.x A.mt A.g A.w (ix2 i c) = (mkIns A).P (240 + i.val) c.val := by
  rw [P_at A i c.val (by omega), ← ref_hh]
  pointwise [val_main_v20]

theorem ref_left (i : Fin 16400) (c : Fin 1024) : val_main_v21 (F := Ideal) A.x A.mt A.g A.w (ix2 i c) = (mkIns A).P (240 + i.val) (1024 + c.val) := by
  rw [P_at A i (1024 + c.val) (by omega), ← ref_hh]
  pointwise [val_main_v21]

theorem ref_right (i : Fin 16400) (c : Fin 1024) : val_main_v22 (F := Ideal) A.x A.mt A.g A.w (ix2 i c) = (mkIns A).P (240 + i.val) (2048 + c.val) := by
  rw [P_at A i (2048 + c.val) (by omega), ← ref_hh]
  pointwise [val_main_v22]

/-- The convolution's input. -/
theorem ref_in (i : Fin 16400) (c : Fin 1024) : val_main_v23 (F := Ideal) A.x A.mt A.g A.w (ix2 i c) = (mkIns A).past (240 + i.val + 2) c.val := by
  unfold Ins.past
  rw [if_pos (by omega), Nat.add_sub_cancel, ← ref_left, ← ref_right]
  pointwise [val_main_v23]

/-- The same behind two rows of zeros. -/
theorem ref_past (t : ℕ) (h : t < 16402) (c : Fin 1024) : (if h' : t < 2 then 0 else val_main_v23 (F := Ideal) A.x A.mt A.g A.w (ix2 ⟨t - 2, by omega⟩ c)) = (mkIns A).past (240 + t) c.val := by
  split
  · unfold Ins.past
    rw [if_pos (by omega), P_pad A _ _ (by omega), zero_mul]
  · rw [ref_in]
    exact congrArg (fun t => (mkIns A).past t c.val) (by dsimp only; omega)

theorem ref_past0 (i : Fin 16400) (c : Fin 1024) : val_main_v27 (F := Ideal) A.x A.mt A.g A.w (ix2 i c) = (mkIns A).past (240 + i.val) c.val := by
  refine Eq.trans ?_ (ref_past A i.val (by omega) c)
  pointwise [val_main_v27, val_main_v25, val_main_v24, val_main_cst_4]

theorem ref_past1 (i : Fin 16400) (c : Fin 1024) : val_main_v33 (F := Ideal) A.x A.mt A.g A.w (ix2 i c) = (mkIns A).past (240 + i.val + 1) c.val := by
  refine Eq.trans ?_ ((ref_past A (1 + i.val) (by omega) c).trans (congrArg (fun t => (mkIns A).past t c.val) (by omega)))
  pointwise [val_main_v33, val_main_v25, val_main_v24, val_main_cst_4]

theorem ref_past2 (i : Fin 16400) (c : Fin 1024) : val_main_v40 (F := Ideal) A.x A.mt A.g A.w (ix2 i c) = (mkIns A).past (240 + i.val + 2) c.val := by
  rw [← ref_in]
  pointwise [val_main_v40, val_main_v25, val_main_v24, val_main_cst_4]

theorem ref_u (i : Fin 16400) (c : Fin 1024) : val_main_v46 (F := Ideal) A.x A.mt A.g A.w A.cw (ix2 i c) = (mkIns A).u (240 + i.val) c.val := by
  have c0 : (mkIns A).cw 0 c.val = A.cw (ix2 0 c) := cw_at A 0 c
  have c1 : (mkIns A).cw 1 c.val = A.cw (ix2 1 c) := cw_at A 1 c
  have c2 : (mkIns A).cw 2 c.val = A.cw (ix2 2 c) := cw_at A 2 c
  unfold Ins.u
  rw [c0, c1, c2, ← ref_past0, ← ref_past1, ← ref_past2, mul_comm (A.cw _), mul_comm (A.cw (ix2 1 c)), mul_comm (A.cw (ix2 2 c))]
  pointwise [val_main_v46, val_main_v45, val_main_v44, val_main_v43, val_main_v42, val_main_v41, val_main_v39, val_main_v38, val_main_v37, val_main_v36, val_main_v35, val_main_v34, val_main_v32, val_main_v31, val_main_v30, val_main_v29, val_main_v28]

theorem ref_z (i : Fin 16400) (c : Fin 1024) : val_main_v47 (F := Ideal) A.x A.mt A.g A.w A.cw (ix2 i c) = (mkIns A).z (240 + i.val) c.val := by
  unfold Ins.z
  rw [← ref_gate, ← ref_u]
  pointwise [val_main_v47]

theorem ref_dz (i : Fin 16400) (c : Fin 1024) : val_main_v52 (F := Ideal) A.wo A.ct (ix2 i c) = (mkIns A).dz (240 + i.val) c.val := by
  unfold Ins.dz
  simp only [D_at, wo_at]
  pointwise [val_main_v52, val_main_v51]

theorem ref_fut (i n : ℕ) (h : i + n < 16400) (c : Fin 1024) :
    val_main_v53 (F := Ideal) A.x A.mt A.g A.w A.wo A.ct (ix2 ⟨i + n, h⟩ c) = (mkIns A).fut (240 + i + n) c.val := by
  unfold Ins.fut
  rw [if_pos (by omega), Nat.add_assoc, show (mkIns A).dz (240 + (i + n)) c.val = _ from (ref_dz A ⟨i + n, h⟩ c).symm,
    show (mkIns A).P (240 + (i + n)) c.val = _ from (ref_gate A ⟨i + n, h⟩ c).symm, mul_comm]
  pointwise [val_main_v53]

theorem ref_tap (i n : ℕ) (k : Fin 3) (c : Fin 1024) (p : Prop) [Decidable p] (e : p ↔ i + n < 16400) (f : p → Fin 16400)
    (hf : ∀ h, (f h).val = i + n) : (if h : p then val_main_v53 (F := Ideal) A.x A.mt A.g A.w A.wo A.ct (ix2 (f h) c) * A.cw (ix2 k c) else 0)
      = (mkIns A).cw k.val c.val * (mkIns A).fut (240 + i + n) c.val := by
  rw [cw_at, mul_comm]
  by_cases h : p
  · rw [dif_pos h, ← ref_fut A i n (e.mp h) c, show f h = ⟨i + n, e.mp h⟩ from Fin.ext (hf h)]
  · rw [dif_neg h, Ins.fut, if_neg (by have := mt e.mpr h; omega), zero_mul]

theorem ref_dcv (i : Fin 16400) (c : Fin 1024) : val_main_v87 (F := Ideal) A.x A.mt A.g A.w A.cw A.wo A.ct (ix2 i c) = (mkIns A).dcv (240 + i.val) c.val := by
  unfold Ins.dcv
  pointwise [val_main_v87, val_main_v85, val_main_v84, val_main_cst_17, val_main_v79, val_main_v78, val_main_v30, val_main_v29, val_main_v28, val_main_v74, val_main_v73, val_main_cst_13, val_main_v68, val_main_v67, val_main_v36, val_main_v35, val_main_v34, val_main_v63, val_main_cst_9, val_main_v59, val_main_v58, val_main_v43, val_main_v42, val_main_v41]
  have f0 : val_main_v53 (F := Ideal) A.x A.mt A.g A.w A.wo A.ct (ix2 i c) * A.cw (ix2 2 c) = (mkIns A).cw 2 c.val * (mkIns A).fut (240 + i.val) c.val := by
    rw [show val_main_v53 (F := Ideal) A.x A.mt A.g A.w A.wo A.ct (ix2 i c) = _ from ref_fut A i.val 0 i.isLt c, mul_comm]
    exact congrArg (· * _) (cw_at A 2 c).symm
  refine (congrArg₂ (· + ·) (congrArg₂ (· + ·) f0 (ref_tap A i.val 1 1 c _ (by omega) _ fun _ => by dsimp only; omega))
    (ref_tap A i.val 2 0 c _ (by omega) _ fun _ => Nat.add_comm _ _)).trans ?_
  exact (add_comm _ _).trans ((congrArg _ (add_comm _ _)).trans (add_assoc _ _ _).symm)

/-- The gradient of the projection: its gate, then the two factors of the convolution's input. -/
theorem ref_dp (i : Fin 16400) (c : Fin 3072) : val_main_v90 (F := Ideal) A.x A.mt A.g A.w A.cw A.wo A.ct (ix2 i c) = (mkIns A).dp (240 + i.val) c.val := by
  unfold Ins.dp
  pointwise [val_main_v90]
  by_cases h : c.val < 1024
  · rw [dif_pos h, if_pos h, ← show _ = (mkIns A).dz _ _ from ref_dz A i ⟨c.val, h⟩, ← show _ = (mkIns A).u _ _ from ref_u A i ⟨c.val, h⟩]
    pointwise [val_main_v54]
  · rw [dif_neg h, if_neg h]
    by_cases h' : c.val < 2048
    · rw [dif_pos (by omega), if_pos h', ← show _ = (mkIns A).dcv _ _ from ref_dcv A i ⟨c.val - 1024, by omega⟩,
        show 1024 + c.val = 2048 + (c.val - 1024) by omega, ← show _ = (mkIns A).P _ (2048 + (c.val - 1024)) from ref_right A i ⟨c.val - 1024, by omega⟩]
      pointwise [val_main_v89]
    · rw [dif_neg (by omega), if_neg h', show c.val - 2048 = c.val - 1024 - 1024 by omega, ← show _ = (mkIns A).dcv _ _ from ref_dcv A i ⟨c.val - 1024 - 1024, by omega⟩,
        show (mkIns A).P (240 + i.val) (c.val - 1024) = (mkIns A).P (240 + i.val) (1024 + (c.val - 1024 - 1024)) from congrArg _ (by omega),
        ← show _ = (mkIns A).P _ (1024 + (c.val - 1024 - 1024)) from ref_left A i ⟨c.val - 1024 - 1024, by omega⟩, mul_comm]
      pointwise [val_main_v88]

/-- A sum over the columns by its four blocks. -/
theorem sum_blocks (f : ℕ → EReal) : ∑ x : Fin 3072, f x.val = (∑ n : Fin 768, f (768 * 0 + n.val)) + (∑ n : Fin 768, f (768 * 1 + n.val))
    + (∑ n : Fin 768, f (768 * 2 + n.val)) + ∑ n : Fin 768, f (768 * 3 + n.val) := by
  simp only [fun g : ℕ → EReal => (Finset.sum_range (n := 3072) g).symm, fun g : ℕ → EReal => (Finset.sum_range (n := 768) g).symm]
  rw [show 3072 = 768 + 768 + 768 + 768 from rfl, Finset.sum_range_add, Finset.sum_range_add, Finset.sum_range_add]
  simp only [Nat.mul_zero, Nat.zero_add]
  rfl

theorem ref_dhn (i : Fin 16400) (k : Fin 1024) : val_main_v91 (F := Ideal) A.x A.mt A.g A.w A.cw A.wo A.ct (ix2 i k) = (mkIns A).dhn (240 + i.val) k.val := by
  pointwise [val_main_v91]
  simp only [ref_dp]
  refine (Finset.sum_congr rfl fun x _ => congrArg _ (at2_eq A.w k x).symm).trans ?_
  exact sum_blocks fun c => (mkIns A).dp (240 + i.val) c * at2 A.w k.val c

/-- Before the sequence the convolution's gradient is zero, -/
theorem fut_pad (t c : ℕ) (h : t < 240) : (mkIns A).fut t c = 0 := by
  unfold Ins.fut
  rw [P_pad A t c h, mul_zero, ite_self]

/-- and so is the normed row. -/
theorem xhat_pad (t k : ℕ) (h : t < 240) : (mkIns A).xhat t k = 0 :=
  (congrArg (· * _) (dif_neg (fun h' => absurd h'.1 (by omega)) : (mkIns A).H t k = 0)).trans (zero_mul _)

/-- A tap's gradient as a sum over the sequence. -/
theorem tap_sum (k c : ℕ) : ∑ j ∈ Finset.range 65, (mkIns A).tap k (64 - j) c = ∑ i : Fin 16400, (mkIns A).past (240 + i.val + k) c * (mkIns A).fut (240 + i.val) c :=
  (sum_points fun j => (mkIns A).tap k j c).trans
    (sum_times (fun t => (mkIns A).past (t + k) c * (mkIns A).fut t c) 240 16400 rfl fun t ht => (congrArg _ (fut_pad A t c ht)).trans (mul_zero _))

theorem ref_dcw (k : Fin 3) (c : Fin 1024) : val_main_v83 (F := Ideal) A.x A.mt A.g A.w A.wo A.ct (ix2 k c) = ∑ j ∈ Finset.range 65, (mkIns A).tap k.val (64 - j) c.val := by
  have hf : ∀ i : Fin 16400, val_main_v53 (F := Ideal) A.x A.mt A.g A.w A.wo A.ct (ix2 i c) = (mkIns A).fut (240 + i.val) c.val := fun i => ref_fut A i.val 0 i.isLt c
  rw [tap_sum]
  pointwise [val_main_v83, val_main_v82, val_main_cst_16, val_main_v81, val_main_v80, val_main_cst_15, val_main_v77, val_main_v76, val_main_cst_14, val_main_v75, val_main_v72, val_main_v71, val_main_cst_12, val_main_v70, val_main_v69, val_main_cst_11, val_main_v66, val_main_v65, val_main_cst_10, val_main_v64, val_main_v62, val_main_cst_8, val_main_v61, val_main_v60, val_main_cst_7, val_main_v57, val_main_v56, val_main_cst_6, val_main_v55]
  simp only [hf, ref_past0, ref_past1, ref_past2, Fin.sum_univ_one]
  fin_cases k
  · simp
  · simp
  · simp

theorem ref_dg (k : Fin 1024) : val_main_v97 (F := Ideal) A.x A.mt A.g A.w A.cw A.wo A.ct (ix1 k) = ∑ j ∈ Finset.range 65, (mkIns A).gain (64 - j) k.val := by
  pointwise [val_main_v97, val_main_cst_19, val_main_v94, val_main_v93, val_main_cst_18, val_main_v92]
  simp only [ref_dhn, ref_xhat, Fin.sum_univ_one]
  rw [sum_points fun j => (mkIns A).gain j k.val]
  refine Eq.trans ?_ (sum_times (fun t => (mkIns A).dhn t k.val * (mkIns A).xhat t k.val) 240 16400 rfl fun t ht => (congrArg _ (xhat_pad A t _ ht)).trans (mul_zero _)).symm
  exact Finset.sum_congr rfl fun i _ => mul_comm _ _

theorem ref_dh (hA : A.AllReal) (i : Fin 16400) (k : Fin 1024) : val_main_v112 (F := Ideal) A.x A.mt A.g A.w A.cw A.wo A.ct (ix2 i k) = (mkIns A).dh (240 + i.val) k.val := by
  unfold Ins.dh Ins.xhat Ins.r
  rw [if_pos (Nat.le_add_right _ _)]
  refine Eq.trans ?_ (congrArg _ (norm_grad (y := fun k : Fin 1024 => (mkIns A).H (240 + i.val) k.val) (g := fun k : Fin 1024 => (mkIns A).g k.val)
    (d := fun k : Fin 1024 => (mkIns A).dhn (240 + i.val) k.val) (fun _ => real_H hA _ _) (fun _ => real_g hA _) (fun _ => real_dhn hA _ _) k).symm)
  rw [← neg_half]
  unfold rstd
  simp only [H_at, D_at, g_at, ← ref_dhn, ← ref_row]
  pointwise [val_main_v112, val_main_v111, val_main_v108, val_main_v107, val_main_cst_22, val_main_v106, val_main_v105, val_main_cst_21, val_main_v104, val_main_v12, val_main_v10, val_main_v8, val_main_v7, val_main_cst_2, val_main_v6, val_main_v5, val_main_cst_1, val_main_v4, val_main_v3, val_main_cst_0, val_main_v2, val_main_v9, val_main_v11, val_main_cst_3, val_main_v100, val_main_v99, val_main_cst_20, val_main_v98, val_main_v96, val_main_v95, val_main_v15, val_main_v110, val_main_v109, val_main_v103, val_main_v102, val_main_v101, val_main_v50]
  simp only [Fin.sum_univ_one, ← add_assoc]

theorem ref_dx (hA : A.AllReal) (i : Fin 16384) (k : Fin 1024) : val_main_v114 (F := Ideal) A.x A.mt A.g A.w A.cw A.wo A.ct (ix2 i k) = (mkIns A).dh (256 + i.val) k.val := by
  have e := ref_dh A hA ⟨16 + i.val, by omega⟩ k
  rw [show 256 + i.val = 240 + (16 + i.val) by omega, ← e]
  pointwise [val_main_v114]

theorem ref_df (hA : A.AllReal) (i : Fin 16) (k : Fin 1024) : val_main_v113 (F := Ideal) A.x A.mt A.g A.w A.cw A.wo A.ct (ix2 i k) = (mkIns A).dh (240 + i.val) k.val := by
  have e := ref_dh A hA ⟨i.val, by omega⟩ k
  rw [← e]
  pointwise [val_main_v113]

end Cert.Sc

end
-- ==== Proof.Sc.Same.lean ====
/- The reference's run: its results are the call's functions of time, read from the reference's arguments. -/
module

public import proofs.«01_k».proof.Proof.Sc.Ref

@[expose] public section

set_option maxRecDepth 16384

noncomputable section

namespace Cert.Sc

open Idealize.ShloMosaic Idealize.SL.Sem Cert.Reference3Ideal Cert.Reference3Ideal.Gen Cert.Reference3Ideal.Read

/-- The reference's arguments on a device. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6)⟩

/-- From real arguments the reference's results are the mixer's functions of time. -/
theorem reference_run (m : (ℓ : Loc nD τ sig) → Buf (Elt Ideal) ℓ) (ρ : Dev nD → PrngReg) (hA : ∀ c : Dev nD, (refArgs m c).AllReal) :
    θ_run defs (onTc (τ := τ) (main (F := Ideal))) ⟨m, fun _ => 0, ρ⟩ (fun r => ∀ c : Dev nD,
      r.2.mem ((c.tc : Thread nD τ).loc main_v114) = (fun y : S16384x1024.Idx => (mkIns (refArgs m c)).dh (256 + (y 0).val) (y 1).val)
      ∧ r.2.mem ((c.tc : Thread nD τ).loc main_v113) = (fun y : S16x1024.Idx => (mkIns (refArgs m c)).dh (240 + (y 0).val) (y 1).val)
      ∧ r.2.mem ((c.tc : Thread nD τ).loc main_v97) = (fun y : S1024.Idx => ∑ j ∈ Finset.range 65, (mkIns (refArgs m c)).gain (64 - j) (y 0).val)
      ∧ r.2.mem ((c.tc : Thread nD τ).loc main_v83) = (fun y : S3x1024.Idx => ∑ j ∈ Finset.range 65, (mkIns (refArgs m c)).tap (y 0).val (64 - j) (y 1).val)
      ∧ r.2.mem ((c.tc : Thread nD τ).loc main_v90) = (fun y : S16400x3072.Idx => (mkIns (refArgs m c)).dp (240 + (y 0).val) (y 1).val)
      ∧ r.2.mem ((c.tc : Thread nD τ).loc main_v47) = (fun y : S16400x1024.Idx => (mkIns (refArgs m c)).z (240 + (y 0).val) (y 1).val)
      ∧ r.2.mem ((c.tc : Thread nD τ).loc main_v17) = (fun y : S16400x1024.Idx => (mkIns (refArgs m c)).hn (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.Reference3Ideal.Value.run m ρ)
  obtain ⟨a0, a1, a2, a3, a4, a5, a6, rest⟩ := h c
  refine ⟨(a0.trans (val_main_v114_eq _ _)).trans (funext fun y => ?_),
    (a1.trans (val_main_v113_eq _ _)).trans (funext fun y => ?_),
    (a2.trans (val_main_v97_eq _ _)).trans (funext fun y => ?_),
    (a3.trans (val_main_v83_eq _ _)).trans (funext fun y => ?_),
    (a4.trans (val_main_v90_eq _ _)).trans (funext fun y => ?_),
    (a5.trans (val_main_v47_eq _ _)).trans (funext fun y => ?_),
    (a6.trans (val_main_v17_eq _ _ _)).trans (funext fun y => ?_), rest⟩
  · exact (congrArg _ (eq_ix2 y)).trans (ref_dx (refArgs m c) (hA c) (y 0) (y 1))
  · exact (congrArg _ (eq_ix2 y)).trans (ref_df (refArgs m c) (hA c) (y 0) (y 1))
  · exact (congrArg _ (eq_ix1 y)).trans (ref_dg (refArgs m c) (y 0))
  · exact (congrArg _ (eq_ix2 y)).trans (ref_dcw (refArgs m c) (y 0) (y 1))
  · exact (congrArg _ (eq_ix2 y)).trans (ref_dp (refArgs m c) (y 0) (y 1))
  · exact (congrArg _ (eq_ix2 y)).trans (ref_z (refArgs m c) (y 0) (y 1))
  · exact (congrArg _ (eq_ix2 y)).trans (ref_hn (refArgs m c) (y 0) (y 1))

end Cert.Sc

end
-- ==== Proof.Sc.Claims.lean ====
/- The claims of the MLP's backward call. -/
module

public import proofs.«01_k».proof.Defs
public import proofs.«01_k».proof.Proof.Gen.Kernel3.Skeleton
public import proofs.«01_k».proof.Proof.Loss.Finite
public import proofs.«01_k».proof.Proof.Sc.Kernel
public import proofs.«01_k».proof.Proof.Sc.Same
public import Idealize.ShloMosaic.Adequacy
public import Idealize.ShloMosaic.Init

@[expose] public section

set_option maxRecDepth 16384

noncomputable section

namespace Cert.Sc

open Idealize.ShloMosaic Idealize.ShloMosaic.Tactic Idealize.SL.Sem

open Cert.Pre_finite3 in
theorem pre_facts : Cert.Pre_finite3.Facts where
  bcast_S_S16384x1024 := by decide
  bcast_S_S16x1024 := by decide
  bcast_S_S1024 := by decide
  bcast_S_S1024x3072 := by decide
  bcast_S_S3x1024 := by decide
  bcast_S_S1024x1024 := by decide
  bcast_S_S16400x1024 := by decide

instance : Cert.Pre_finite3.Facts := pre_facts

theorem frame_ideal : Cert.quiescent_Kernel3Ideal (hKernel3Ideal := Cert.Kernel3Ideal.Gen.facts) := fun m ρ _ => frame_run m ρ

theorem frame_ideal_finite : Cert.quiescent_Kernel3Ideal_pre_finite3 (hKernel3Ideal := Cert.Kernel3Ideal.Gen.facts) (hPre_finite3 := pre_facts) :=
  fun m ρ _ => frame_run m ρ

/-- The call on words has the text of the call on real numbers. -/
theorem frame_kernel : Cert.quiescent_Kernel3 (hKernel3 := Cert.Kernel3.Gen.facts) := by
  intro m ρ _
  refine Eq.mpr ?_ (frame_run (F := Bits) m ρ)
  sl_kernel_rfl

/-- The reference has no counter at all, so each of them is zero at its end. -/
theorem frame_reference : Cert.quiescent_Reference3Ideal (hReference3Ideal := Cert.Reference3Ideal.Gen.facts) := by
  intro m ρ _
  hlo_run
  · exact fun _ => ⟨trivial, trivial, trivial, trivial, trivial, trivial, trivial⟩
  · exact funext fun g => ((Fintype.card_eq_zero_iff.mp (SemLoc.card_eq (sig := Cert.Reference3Ideal.sig))).false g.2).elim

theorem frame_reference_finite : Cert.quiescent_Reference3Ideal_pre_finite3 (hReference3Ideal := Cert.Reference3Ideal.Gen.facts) (hPre_finite3 := pre_facts) :=
  fun m ρ _ => frame_reference m ρ trivial

theorem same : Cert.algebraic_Kernel3Ideal_Reference3Ideal_pre_finite3 (hKernel3Ideal := Cert.Kernel3Ideal.Gen.facts)
    (hReference3Ideal := Cert.Reference3Ideal.Gen.facts) (hPre_finite3 := pre_facts) := by
  intro m g m' g' hp hm
  have e (c : Dev Cert.Kernel3Ideal.nD) : refArgs m' c = args m c := by
    obtain ⟨e0, e1, e2, e3, e4, e5, e6⟩ := hm c
    unfold refArgs args
    rw [e0, e1, e2, e3, e4, e5, e6]
  refine ⟨_, _, _, _, _, _, _, kernel_run m g, ?_⟩
  refine (θ_run _ _ _).mono (fun r h c => ?_) (reference_run m' g' fun c => ?_)
  · have := h c
    rw [e c] at this
    exact this
  · rw [e c]
    exact ⟨Cert.Loss.real_of_pre _ _ (hp c).1,
      Cert.Loss.real_of_pre _ _ (hp c).2.1,
      Cert.Loss.real_of_pre _ _ (hp c).2.2.1,
      Cert.Loss.real_of_pre _ _ (hp c).2.2.2.1,
      Cert.Loss.real_of_pre _ _ (hp c).2.2.2.2.1,
      Cert.Loss.real_of_pre _ _ (hp c).2.2.2.2.2.1,
      Cert.Loss.real_of_pre _ _ (hp c).2.2.2.2.2.2⟩

end Cert.Sc

end
-- ==== Proof.Fwd.Point.lean ====
/- The MLP's forward call without a loss: what every grid point leaves in its output blocks and in the rows it carries to the next. Its tile
   is computed by the operations of the call with the loss, whose lemmas are used here. -/
module

public import proofs.«01_k».proof.Proof.Gen.Kernel4Ideal.Frame
public import proofs.«01_k».proof.Proof.Loss.Point

@[expose] public section

set_option maxRecDepth 16384

noncomputable section

open Idealize.ShloMosaic Idealize.ShloMosaic.TcCoe Idealize.SL.Sem

namespace Cert.Fwd

open Cert.Kernel4Ideal Cert.Kernel4Ideal.Gen
open Cert.Loss hiding At Left coord lt65 step_first step_next left

/-! Every stored value is computed as in the call with the loss. -/

theorem p1 : k0_pay1 (F := Ideal) = Cert.KernelIdeal.Gen.k0_pay25 (F := Ideal) := rfl
theorem p2 : k0_pay2 (F := Ideal) = Cert.KernelIdeal.Gen.k0_pay26 (F := Ideal) := rfl
theorem p3 : k0_pay3 (F := Ideal) = Cert.KernelIdeal.Gen.k0_pay27 (F := Ideal) := rfl
theorem p4 : k0_pay4 (F := Ideal) = Cert.KernelIdeal.Gen.k0_pay28 (F := Ideal) := rfl
theorem p5 : k0_pay5 (F := Ideal) = Cert.KernelIdeal.Gen.k0_pay29 (F := Ideal) := rfl
theorem p6 : k0_pay6 (F := Ideal) = Cert.KernelIdeal.Gen.k0_pay1 (F := Ideal) := rfl
theorem p7 : k0_pay7 (F := Ideal) = Cert.KernelIdeal.Gen.k0_pay2 (F := Ideal) := rfl
theorem p8 : k0_pay8 (F := Ideal) = Cert.KernelIdeal.Gen.k0_pay3 (F := Ideal) := rfl
theorem p9 : k0_pay9 (F := Ideal) = Cert.KernelIdeal.Gen.k0_pay4 (F := Ideal) := rfl
theorem p10 : k0_pay10 (F := Ideal) = Cert.KernelIdeal.Gen.k0_pay5 (F := Ideal) := rfl
theorem p11 : k0_pay11 (F := Ideal) = Cert.KernelIdeal.Gen.k0_pay6 (F := Ideal) := rfl
theorem p12 : k0_pay12 (F := Ideal) = Cert.KernelIdeal.Gen.k0_pay7 (F := Ideal) := rfl
theorem p13 : k0_pay13 (F := Ideal) = Cert.KernelIdeal.Gen.k0_pay8 (F := Ideal) := rfl
theorem p14 : k0_pay14 (F := Ideal) = Cert.KernelIdeal.Gen.k0_pay9 (F := Ideal) := rfl
theorem p15 : k0_pay15 (F := Ideal) = Cert.KernelIdeal.Gen.k0_pay10 (F := Ideal) := rfl
theorem p16 : k0_pay16 (F := Ideal) = Cert.KernelIdeal.Gen.k0_pay11 (F := Ideal) := rfl
theorem p17 : k0_pay17 (F := Ideal) = Cert.KernelIdeal.Gen.k0_pay12 (F := Ideal) := rfl
theorem p18 : k0_pay18 (F := Ideal) = Cert.KernelIdeal.Gen.k0_pay13 (F := Ideal) := rfl
theorem p19 : k0_pay19 (F := Ideal) = Cert.KernelIdeal.Gen.k0_pay14 (F := Ideal) := rfl
theorem p20 : k0_pay20 (F := Ideal) = Cert.KernelIdeal.Gen.k0_pay15 (F := Ideal) := rfl
theorem p21 : k0_pay21 (F := Ideal) = Cert.KernelIdeal.Gen.k0_pay16 (F := Ideal) := rfl
theorem p22 : k0_pay22 (F := Ideal) = Cert.KernelIdeal.Gen.k0_pay17 (F := Ideal) := rfl
theorem p23 : k0_pay23 (F := Ideal) = Cert.KernelIdeal.Gen.k0_pay18 (F := Ideal) := rfl
theorem p24 : k0_pay24 (F := Ideal) = Cert.KernelIdeal.Gen.k0_pay19 (F := Ideal) := rfl
theorem p25 : k0_pay25 (F := Ideal) = Cert.KernelIdeal.Gen.k0_pay20 (F := Ideal) := rfl
theorem p26 : k0_pay26 (F := Ideal) = Cert.KernelIdeal.Gen.k0_pay21 (F := Ideal) := rfl
theorem p27 : k0_pay27 (F := Ideal) = Cert.KernelIdeal.Gen.k0_pay22 (F := Ideal) := rfl
theorem p28 : k0_pay28 (F := Ideal) = Cert.KernelIdeal.Gen.k0_pay23 (F := Ideal) := rfl
theorem p29 : k0_pay29 (F := Ideal) = Cert.KernelIdeal.Gen.k0_pay24 (F := Ideal) := rfl

variable (m : (ℓ : Loc nD τ sig) → Buf (Elt Ideal) ℓ) (I : Ins)

/-- The blocks of a grid point are the arrays `I` at the point's times. -/
structure At (c : Dev nD) (t : Fin cfg0.N) : Prop where
  x : ∀ (r : Fin 256) (k : Fin 1024), iblk m c 0 t (ix2 r k) = I.H (256 * t.val + rowTime r.val) k
  g : iblk m c 1 t = I.g
  w : iblk m c 2 t = I.w
  cw : iblk m c 3 t = I.cw
  wd : iblk m c 4 t = I.wd

theorem lt65 (t : Fin cfg0.N) : t.val < 65 := t.isLt

/-- What the point leaves. -/
structure Left (n : ℕ) (c : Dev nD) (h : n < cfg0.N) : Prop where
  out : ∀ y, (outsAt0 m c n h).1 y = yB I n y
  hu : ∀ y, (outsAt0 m c n h).2.1 y = I.hu (256 * n + rowTime (y 0).val) (y 1)
  hc : ∀ y, (outsAt0 m c n h).2.2.1 y = I.hc (256 * n + rowTime (y 0).val) (y 1)
  act : ∀ y, (outsAt0 m c n h).2.2.2.1 y = I.act (256 * n + rowTime (y 0).val) (y 1)
  tail : Carried I (n + 1) (outsAt0 m c n h).2.2.2.2

theorem step_first (c : Dev nD) (t : Fin cfg0.N) (a : At m I c t) (h : t.val % 65 = 0) : Left m I t.val c t.isLt := by
  have h0 : t.val = 0 := by have := lt65 t; omega
  have hp : Carried I t.val (Cert.KernelIdeal.Gen.k0_pay1 (F := Ideal)) := h0 ▸ carried_zero I
  constructor
  all_goals
    rw [outsAt0_A m c t h]
    frame_open
    simp (disch := decide) only [↓ View.readCov_skip, ↓ View.readCov_cons_toLoadRect, ↓ View.readCov_fill]
    frame_out
    simp (disch := decide) only [p1, p2, p3, p4, p5, p6, p7, p8, p9, p10, p11, p12, p13, p14, p15, p16, p17, p18, p19, p20, p21, p22, p23, p24, p25, p26, p27, p28, p29, a.g, a.w, a.cw, a.wd, read_unread_whole, up0 I _ _ a.x, up1 I _ _ a.x, up2 I _ _ a.x, up3 I _ _ a.x, read_up, read_carry,
      link0 I _ _ hp, link1 I _ _ hp, read_linked, read_linked', conv0, conv0', conv1, conv1', conv2, conv2', conv3, conv3', act0, act1, stream I _ _ a.x,
      hc_tiles, act_tiles, hu_tile, tail_tile, implies_true]

theorem step_next (c : Dev nD) (t : Fin cfg0.N) (a : At m I c t) (h : ¬ t.val % 65 = 0)
    (p : Left m I (t.val - 1) c (lt_of_le_of_lt (Nat.sub_le _ _) t.isLt)) : Left m I t.val c t.isLt := by
  have h1 : t.val - 1 + 1 = t.val := by omega
  have hp := p.tail
  rw [h1] at hp
  constructor
  all_goals
    rw [outsAt0_B m c t h]
    frame_open
    simp (disch := decide) only [↓ View.readCov_skip, ↓ View.readCov_cons_toLoadRect, ↓ View.readCov_fill]
    frame_out
    simp (disch := decide) only [p1, p2, p3, p4, p5, p6, p7, p8, p9, p10, p11, p12, p13, p14, p15, p16, p17, p18, p19, p20, p21, p22, p23, p24, p25, p26, p27, p28, p29, a.g, a.w, a.cw, a.wd, read_unread_whole, up0 I _ _ a.x, up1 I _ _ a.x, up2 I _ _ a.x, up3 I _ _ a.x, read_up, read_carry,
      link0 I _ _ hp, link1 I _ _ hp, read_linked, read_linked', conv0, conv0', conv1, conv1', conv2, conv2', conv3, conv3', act0, act1, stream I _ _ a.x,
      hc_tiles, act_tiles, hu_tile, tail_tile, implies_true]

/-- Every point, one after another. -/
theorem left (c : Dev nD) (a : ∀ t, At m I c t) : ∀ n h, Left m I n c h
  | 0, h => step_first m I c ⟨0, h⟩ (a _) rfl
  | n + 1, h => step_next m I c ⟨n + 1, h⟩ (a _) (by have := lt65 ⟨n + 1, h⟩; simp only at this ⊢; omega) (left c a n _)

end Cert.Fwd

end
-- ==== Proof.Fwd.Results.lean ====
/- The MLP's forward call without a loss: the blocks it reads from the program's arguments, and its four results as functions of time. -/
module

public import proofs.«01_k».proof.Proof.Fwd.Point
public import proofs.«01_k».proof.Proof.Loss.Kernel
public import Idealize.ShloMosaic.Adequacy

@[expose] public section

set_option maxRecDepth 16384

noncomputable section

open Idealize.ShloMosaic Idealize.ShloMosaic.TcCoe Idealize.SL.Sem

namespace Cert.Fwd

open Cert.Kernel4Ideal Cert.Kernel4Ideal.Gen
open Cert.Loss (Ins mkIns rowTime tile_time arrTime arrTime_row row_time yB)

variable (m : (ℓ : Loc nD τ sig) → Buf (Elt Ideal) ℓ) (ρ : Dev nD → PrngReg)

/-- The arrays of the call on a device; it has no target and no last gain. -/
def ins (c : Dev nD) : Ins := mkIns (m ((c : Thread nD τ).loc main_arg0)) (m ((c : Thread nD τ).loc main_arg1)) (m ((c : Thread nD τ).loc main_arg2))
  (m ((c : Thread nD τ).loc main_arg3)) (m ((c : Thread nD τ).loc main_arg4)) (fun _ => 0) (fun _ => 0)

theorem idx_g : ∀ t : Fin cfg0.N, win0_1.index t = ![0, 0] := (by decide +kernel : ∀ t : Fin grid0.N, _)

/-- The gain. -/
theorem at_g (c : Dev nD) (t : Fin cfg0.N) : iblk m c 1 t = (ins m c).g := by
  funext y
  blk_simp [iblk, idx_g t]
  unfold V
  dsimp only [List.flatten_cons, List.flatten_nil, List.append_nil, List.cons_append, List.nil_append]
  after_reads_at
  simp only [ins, mkIns]
  blk_ext [idx_g t]

theorem idx_w : ∀ t : Fin cfg0.N, win0_2.index t = ![0, 0, 0] := (by decide +kernel : ∀ t : Fin grid0.N, _)

/-- The up projection in four column blocks. -/
theorem at_w (c : Dev nD) (t : Fin cfg0.N) : iblk m c 2 t = (ins m c).w := by
  funext y
  blk_simp [iblk, idx_w t]
  unfold V
  dsimp only [List.flatten_cons, List.flatten_nil, List.append_nil, List.cons_append, List.nil_append]
  after_reads_at
  simp only [ins, mkIns]
  blk_ext [idx_w t]

theorem idx_cw : ∀ t : Fin cfg0.N, win0_3.index t = ![0, 0] := (by decide +kernel : ∀ t : Fin grid0.N, _)

/-- The taps. -/
theorem at_cw (c : Dev nD) (t : Fin cfg0.N) : iblk m c 3 t = (ins m c).cw := by
  funext y
  blk_simp [iblk, idx_cw t]
  unfold V
  dsimp only [List.flatten_cons, List.flatten_nil, List.append_nil, List.cons_append, List.nil_append]
  after_reads_at
  simp only [ins, mkIns]
  blk_ext [idx_cw t]

theorem idx_wd : ∀ t : Fin cfg0.N, win0_4.index t = ![0, 0] := (by decide +kernel : ∀ t : Fin grid0.N, _)

/-- The down projection. -/
theorem at_wd (c : Dev nD) (t : Fin cfg0.N) : iblk m c 4 t = (ins m c).wd := by
  funext y
  blk_simp [iblk, idx_wd t]
  unfold V
  dsimp only [List.flatten_cons, List.flatten_nil, List.append_nil, List.cons_append, List.nil_append]
  after_reads_at
  simp only [ins, mkIns]
  blk_ext [idx_wd t]

theorem idx_x : ∀ t : Fin cfg0.N, win0_0.index t = ![t.val, 0] := (by decide +kernel : ∀ t : Fin grid0.N, _)

theorem ins_H (c : Dev nD) (a : ℕ) (h : 240 ≤ a ∧ a < 16640) (k : Fin 1024) :
    (ins m c).H a k = m ((c : Thread nD τ).loc main_arg0) (ix2 ⟨a - 240, by omega⟩ k) := dif_pos h

theorem ins_H_zero (c : Dev nD) (a : ℕ) (h : ¬ (240 ≤ a ∧ a < 16640)) (k : Fin 1024) : (ins m c).H a k = 0 := dif_neg h

/-- The sequence behind its zero rows. -/
theorem at_x (c : Dev nD) (t : Fin cfg0.N) (r : Fin 256) (k : Fin 1024) :
    iblk m c 0 t (ix2 r k) = (ins m c).H (256 * t.val + rowTime r.val) k := by
  have ht := lt65 t
  have hr := r.isLt
  blk_simp [iblk, idx_x t]
  unfold V
  dsimp only [List.flatten_cons, List.flatten_nil, List.append_nil, List.cons_append, List.nil_append]
  after_reads_at
  blk_simp [idx_x t]
  have e := tile_time t.val r.val hr
  have hl : 256 * t.val + rowTime r.val < 16640 := by simp only [rowTime]; omega
  by_cases hb : 240 ≤ 256 * t.val + rowTime r.val
  · refine Eq.trans ((dif_pos ⟨e ▸ hb, by rw [e]; omega⟩).trans ?_) (ins_H m c _ ⟨hb, hl⟩ k).symm
    refine congrArg (m ((c : Thread nD τ).loc main_arg0)) (congrArg₂ ix2 (Fin.ext ?_) (Fin.ext ?_))
    · exact congrArg (· - 240) e
    · blk_simp [idx_x t]
  · refine Eq.trans ((dif_neg fun h => hb (e ▸ h.1)).trans ?_) (ins_H_zero m c _ (fun h => hb h.1) k).symm
    show (((0#32 : BitVec 32).toInt : ℝ) : EReal) = 0
    simp

theorem left_at (c : Dev nD) (n : ℕ) (h : n < cfg0.N) : Left m (ins m c) n c h :=
  left m (ins m c) c (fun t => ⟨at_x m c t, at_g m c t, at_w m c t, at_cw m c t, at_wd m c t⟩) n h

/-- The buffers as the lines after the call find them. -/
abbrev held (c : Dev nD) : Valuation τ sig (Elt Ideal) :=
  Pipeline.withArrays (cfgs 0).spec c (V0 m c) fun w => (dats m 0 c).arrAt w (cfgs 0).N

theorem idx_out : ∀ t : Fin cfg0.N, win0_5.index t = ![t.val, 0] := (by decide +kernel : ∀ t : Fin grid0.N, _)

theorem arr_out (c : Dev nD) : (dats m 0 c).arrAt 5 cfg0.N = fun y : S16640x1024.Idx => (ins m c).y (arrTime (y 0).val) (y 1) :=
  (dats m 0 c).arrAt_eq_of_covers 5 _ (by decide +kernel) fun t _ y => by
    blk_simp [idx_out t]
    rw [after0_5, (left_at m c _ _).out]
    refine congrArg₂ (ins m c).y (row_time t.val y) (Fin.ext ?_)
    blk_simp [idx_out t]

theorem held_out (c : Dev nD) : held m c (Proc.tc.devRef main_v9_0) = (dats m 0 c).arrAt 5 cfg0.N :=
  Pipeline.withArrays_arr spec0 (by decide) c (V0 m c) (fun w => (dats m 0 c).arrAt w (cfgs 0).N) 5

theorem tail_out (c : Dev nD) : Pipeline.afterTail₀ cfgs (dats m) 0 (V0 m) [hostOps1] c main_v13 =
    fun y : S16400x1024.Idx => (ins m c).y (240 + (y 0).val) (y 1) := by
  funext y
  unfold Pipeline.afterTail₀
  dsimp only [List.flatten_cons, List.flatten_nil, List.append_nil, List.cons_append, List.nil_append]
  after_reads_at
  refine (congrFun ((held_out m c).trans (arr_out m c)) _).trans ?_
  exact congrArg (fun a => (ins m c).y a (y 1)) (arrTime_row _)

theorem idx_hu : ∀ t : Fin cfg0.N, win0_6.index t = ![t.val, 0] := (by decide +kernel : ∀ t : Fin grid0.N, _)

theorem arr_hu (c : Dev nD) : (dats m 0 c).arrAt 6 cfg0.N = fun y : S16640x5632.Idx => (ins m c).hu (arrTime (y 0).val) (y 1) :=
  (dats m 0 c).arrAt_eq_of_covers 6 _ (by decide +kernel) fun t _ y => by
    blk_simp [idx_hu t]
    rw [after0_6, (left_at m c _ _).hu]
    refine congrArg₂ (ins m c).hu (row_time t.val y) (Fin.ext ?_)
    blk_simp [idx_hu t]

theorem held_hu (c : Dev nD) : held m c (Proc.tc.devRef main_v9_1) = (dats m 0 c).arrAt 6 cfg0.N :=
  Pipeline.withArrays_arr spec0 (by decide) c (V0 m c) (fun w => (dats m 0 c).arrAt w (cfgs 0).N) 6

theorem tail_hu (c : Dev nD) : Pipeline.afterTail₀ cfgs (dats m) 0 (V0 m) [hostOps1] c main_v18 =
    fun y : S16400x5632.Idx => (ins m c).hu (240 + (y 0).val) (y 1) := by
  funext y
  unfold Pipeline.afterTail₀
  dsimp only [List.flatten_cons, List.flatten_nil, List.append_nil, List.cons_append, List.nil_append]
  after_reads_at
  refine (congrFun ((held_hu m c).trans (arr_hu m c)) _).trans ?_
  exact congrArg (fun a => (ins m c).hu a (y 1)) (arrTime_row _)

theorem idx_hc : ∀ t : Fin cfg0.N, win0_7.index t = ![t.val, 0] := (by decide +kernel : ∀ t : Fin grid0.N, _)

theorem arr_hc (c : Dev nD) : (dats m 0 c).arrAt 7 cfg0.N = fun y : S16640x5632.Idx => (ins m c).hc (arrTime (y 0).val) (y 1) :=
  (dats m 0 c).arrAt_eq_of_covers 7 _ (by decide +kernel) fun t _ y => by
    blk_simp [idx_hc t]
    rw [after0_7, (left_at m c _ _).hc]
    refine congrArg₂ (ins m c).hc (row_time t.val y) (Fin.ext ?_)
    blk_simp [idx_hc t]

theorem held_hc (c : Dev nD) : held m c (Proc.tc.devRef main_v9_2) = (dats m 0 c).arrAt 7 cfg0.N :=
  Pipeline.withArrays_arr spec0 (by decide) c (V0 m c) (fun w => (dats m 0 c).arrAt w (cfgs 0).N) 7

theorem tail_hc (c : Dev nD) : Pipeline.afterTail₀ cfgs (dats m) 0 (V0 m) [hostOps1] c main_v23 =
    fun y : S16400x5632.Idx => (ins m c).hc (240 + (y 0).val) (y 1) := by
  funext y
  unfold Pipeline.afterTail₀
  dsimp only [List.flatten_cons, List.flatten_nil, List.append_nil, List.cons_append, List.nil_append]
  after_reads_at
  refine (congrFun ((held_hc m c).trans (arr_hc m c)) _).trans ?_
  exact congrArg (fun a => (ins m c).hc a (y 1)) (arrTime_row _)

theorem idx_act : ∀ t : Fin cfg0.N, win0_8.index t = ![t.val, 0] := (by decide +kernel : ∀ t : Fin grid0.N, _)

theorem arr_act (c : Dev nD) : (dats m 0 c).arrAt 8 cfg0.N = fun y : S16640x2816.Idx => (ins m c).act (arrTime (y 0).val) (y 1) :=
  (dats m 0 c).arrAt_eq_of_covers 8 _ (by decide +kernel) fun t _ y => by
    blk_simp [idx_act t]
    rw [after0_8, (left_at m c _ _).act]
    refine congrArg₂ (ins m c).act (row_time t.val y) (Fin.ext ?_)
    blk_simp [idx_act t]

theorem held_act (c : Dev nD) : held m c (Proc.tc.devRef main_v9_3) = (dats m 0 c).arrAt 8 cfg0.N :=
  Pipeline.withArrays_arr spec0 (by decide) c (V0 m c) (fun w => (dats m 0 c).arrAt w (cfgs 0).N) 8

theorem tail_act (c : Dev nD) : Pipeline.afterTail₀ cfgs (dats m) 0 (V0 m) [hostOps1] c main_v28 =
    fun y : S16400x2816.Idx => (ins m c).act (240 + (y 0).val) (y 1) := by
  funext y
  unfold Pipeline.afterTail₀
  dsimp only [List.flatten_cons, List.flatten_nil, List.append_nil, List.cons_append, List.nil_append]
  after_reads_at
  refine (congrFun ((held_act m c).trans (arr_act m c)) _).trans ?_
  exact congrArg (fun a => (ins m c).act a (y 1)) (arrTime_row _)

/-- The run: every result as a function of the arrays of the call. -/
theorem kernel_run : θ_run defs (onTc (τ := τ) (main (F := Ideal))) ⟨m, fun _ => 0, ρ⟩ (fun r => ∀ c : Dev nD,
      r.2.mem ((c.tc : Thread nD τ).loc main_v13) = (fun y : S16400x1024.Idx => (ins m c).y (240 + (y 0).val) (y 1))
      ∧ r.2.mem ((c.tc : Thread nD τ).loc main_v18) = (fun y : S16400x5632.Idx => (ins m c).hu (240 + (y 0).val) (y 1))
      ∧ r.2.mem ((c.tc : Thread nD τ).loc main_v23) = (fun y : S16400x5632.Idx => (ins m c).hc (240 + (y 0).val) (y 1))
      ∧ r.2.mem ((c.tc : Thread nD τ).loc main_v28) = (fun y : S16400x2816.Idx => (ins m c).act (240 + (y 0).val) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run_main m ρ
  · exact tail_out m c
  · exact tail_hu m c
  · exact tail_hc m c
  · exact tail_act m c
  · exact W_main_arg0 m _ c
  · exact W_main_arg1 m _ c
  · exact W_main_arg2 m _ c
  · exact W_main_arg4 m _ c

end Cert.Fwd

end
-- ==== Proof.Fwd.Claims.lean ====
/- The claims of the MLP's forward call without a loss. -/
module

public import proofs.«01_k».proof.Defs
public import proofs.«01_k».proof.Proof.Gen.Kernel4.Frame
public import proofs.«01_k».proof.Proof.Gen.Reference4Ideal.Read
public import proofs.«01_k».proof.Proof.Gen.Reference4Ideal.Run
public import proofs.«01_k».proof.Proof.Fwd.Results
public import proofs.«01_k».proof.Proof.Loss.Ref

@[expose] public section

set_option maxRecDepth 16384

noncomputable section

namespace Cert.Fwd

open Idealize.ShloMosaic Idealize.SL.Sem Cert.Loss

section
open Cert.Reference4Ideal Cert.Reference4Ideal.Gen Cert.Reference4Ideal.Read

variable (x0 : S16400x1024.Idx → EReal) (x1 : S1024.Idx → EReal) (x2 : S1024x5632.Idx → EReal) (x3 : S3x5632.Idx → EReal)
  (x4 : S2816x1024.Idx → EReal)

/-! The reference writes the forward lines as the reference of the call with the loss does. -/

theorem val_hu : val_main_v13 (F := Ideal) x0 x1 x2 = Cert.ReferenceIdeal.Read.val_main_v13 (F := Ideal) x0 x1 x2 := rfl

theorem val_hc : val_main_v35 (F := Ideal) x0 x1 x2 x3 = Cert.ReferenceIdeal.Read.val_main_v35 (F := Ideal) x0 x1 x2 x3 := rfl

theorem val_act : val_main_v39 (F := Ideal) x0 x1 x2 x3 = Cert.ReferenceIdeal.Read.val_main_v39 (F := Ideal) x0 x1 x2 x3 := rfl

theorem val_y : val_main_v41 (F := Ideal) x0 x1 x2 x3 x4 = Cert.ReferenceIdeal.Read.val_main_v41 (F := Ideal) x0 x1 x2 x3 x4 := rfl

/-- The kernel's arrays, read from the reference's arguments. -/
def refIns (m : (ℓ : Loc nD τ sig) → Buf (Elt Ideal) ℓ) (c : Dev nD) : Ins :=
  mkIns (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (fun _ => 0) (fun _ => 0)

/-- The reference's results are the kernel's functions of time. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41) = (fun y : S16400x1024.Idx => (refIns m c).y (240 + (y 0).val) (y 1))
      ∧ r.2.mem ((c.tc : Thread nD τ).loc main_v13) = (fun y : S16400x5632.Idx => (refIns m c).hu (240 + (y 0).val) (y 1))
      ∧ r.2.mem ((c.tc : Thread nD τ).loc main_v35) = (fun y : S16400x5632.Idx => (refIns m c).hc (240 + (y 0).val) (y 1))
      ∧ r.2.mem ((c.tc : Thread nD τ).loc main_v39) = (fun y : S16400x2816.Idx => (refIns m c).act (240 + (y 0).val) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference4Ideal.Value.run m ρ)
  obtain ⟨a0, a1, a2, a3, rest⟩ := h c
  refine ⟨(a0.trans ((val_main_v41_eq m c).trans (val_y _ _ _ _ _))).trans (funext fun y => ?_),
    (a1.trans ((val_main_v13_eq _ _ _).trans (val_hu _ _ _))).trans (funext fun y => ?_),
    (a2.trans ((val_main_v35_eq m c).trans (val_hc _ _ _ _))).trans (funext fun y => ?_),
    (a3.trans ((val_main_v39_eq m c).trans (val_act _ _ _ _))).trans (funext fun y => ?_), rest⟩
  · exact (congrArg _ (eq_ix2 y)).trans (ref_y _ _ _ _ _ _ _ (y 0) (y 1))
  · exact (congrArg _ (eq_ix2 y)).trans (ref_hu _ _ _ _ _ _ _ (y 0) (y 1))
  · exact (congrArg _ (eq_ix2 y)).trans (ref_hc _ _ _ _ _ _ _ (y 0) (y 1))
  · exact (congrArg _ (eq_ix2 y)).trans (ref_act _ _ _ _ _ _ _ (y 0) (y 1))

end

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

/-- The reference has no counter at all, so each of them is zero at its end. -/
theorem frame_reference : Cert.quiescent_Reference4Ideal (hReference4Ideal := Cert.Reference4Ideal.Gen.facts) := by
  intro m ρ _
  hlo_run
  · exact fun _ => ⟨trivial, trivial, trivial, trivial, trivial⟩
  · exact funext fun g => ((Fintype.card_eq_zero_iff.mp (SemLoc.card_eq (sig := Cert.Reference4Ideal.sig))).false g.2).elim

theorem same : Cert.algebraic_Kernel4Ideal_Reference4Ideal (hKernel4Ideal := Cert.Kernel4Ideal.Gen.facts)
    (hReference4Ideal := Cert.Reference4Ideal.Gen.facts) := by
  intro m g m' g' hp hm
  have e (c : Dev Cert.Kernel4Ideal.nD) : refIns m' c = ins m c := by
    obtain ⟨e0, e1, e2, e3, e4⟩ := hm c
    unfold refIns ins
    rw [e0, e1, e2, e3, e4]
  refine ⟨_, _, _, _, kernel_run m g, ?_⟩
  refine (θ_run _ _ _).mono (fun r h c => ?_) (reference_run m' g')
  have := h c
  rw [e c] at this
  exact this

end Cert.Fwd

end
-- ==== Proof.Mix.Point.lean ====
/- The short convolution mixer's forward call: what every grid point leaves in its two output blocks, and the rows of the convolution's
   input it carries to the next point. -/
module

public import proofs.«01_k».proof.Proof.Gen.Kernel5Ideal.Frame
public import proofs.«01_k».proof.Proof.Sc.Grad

@[expose] public section

set_option maxRecDepth 16384

noncomputable section

open Idealize.ShloMosaic Idealize.ShloMosaic.TcCoe Idealize.SL.Sem

namespace Cert.Mix

open Cert.Kernel5Ideal Cert.Kernel5Ideal.Gen
open Cert.Loss (rowTime rstd select_row rowTime_sixteen)
open Cert.Sc (Ins pB hB gB wB cwB woB hnB ubuf ldb rows read_prev read_prev' read_one past_row u0 u1 u2)

variable (I : Ins) (T : ℕ)

/-- The projection is the one of the normed rows. -/
def Proj : Prop := ∀ τ, τ < 16640 → ∀ q, q < 4 → ∀ n : Fin 768, I.P τ (768 * q + n.val) = ∑ k : Fin 1024, I.hn τ k.val * I.w q k.val n.val

/-- The residual stream after the layer. -/
def out (τ k : ℕ) : EReal := I.H τ k + ∑ c : Fin 1024, I.z τ c.val * I.wo c.val k

/-- What the rows before a tile hold of the convolution's input: the last rows of the tile before. -/
def Carried (x : S272x1024.Idx → EReal) : Prop := ∀ (j : Fin 2) (c : Fin 1024), x (ix2 ⟨8 * j.val + 7, by omega⟩ c) = I.past (256 * T + j.val) c.val

/-- The scratch's block. -/
abbrev blk (G : S256x3072.Idx → EReal) (a n : ℕ) (h : ∀ i, (![0, a] : Fin 2 → ℕ) i + (![256, n] : Fin 2 → ℕ) i ≤ S256x3072.size i) :=
  View.ld (Val := Elt Ideal) (e' := .f32) G (Rect.unit (s := S256x3072) ![0, a] ![256, n] h)

abbrev pc (G : S256x3072.Idx → EReal) (a n : ℕ) (h : ∀ i, (![0, a] : Fin 2 → ℕ) i + (![256, n] : Fin 2 → ℕ) i ≤ S256x3072.size i) :
    View.Piece (Elt Ideal) S256x3072 .f32 := ⟨Rect.unit (s := S256x3072) ![0, a] ![256, n] h, blk G a n h⟩

section
variable {σ : RefSig} {κ : Kind} {sp : Space} (v : View σ κ sp S256x3072 .f32) (G : S256x3072.Idx → EReal)

/-- A load reads the array whose blocks were stored where it reads. -/
theorem read_of (L : List (View.Piece (Elt Ideal) S256x3072 .f32)) (hL : View.PiecesOf (Val := Elt Ideal) (e := .f32) G L) (a n : ℕ) (h)
    (hc : ∀ y : S256x3072.Idx, a ≤ (y 1).val → (y 1).val < a + n → ∃ p ∈ L, y ∈ p.1.set) :
    v.readCov L (Rect.unit (s := S256x3072) ![0, a] ![256, n] h).toLoadRect = blk G a n h := by
  rw [View.readCov_eq_canon']
  funext j
  have hj := (LoadRect.idx_mem (Rect.unit (s := S256x3072) ![0, a] ![256, n] h).toLoadRect j)
  have hm : (Rect.unit (s := S256x3072) ![0, a] ![256, n] h).toLoadRect.idx j ∈ (Rect.unit (s := S256x3072) ![0, a] ![256, n] h).set := hj
  rw [Rect.mem_set_unit, Fin.forall_fin_two] at hm
  have h1 := hm.2
  simp only [Matrix.cons_val_one, Matrix.cons_val_fin_one] at h1
  have e := View.canon_append_of_piecesOf (Val := Elt Ideal) (e := .f32) G [] L hL _ (hc _ h1.1 h1.2)
  simp only [List.append_nil] at e
  exact e

theorem read_b : v.readCov [pc G 768 768 inb_S256x3072_S256x768_0_768, pc G 0 768 inb_S256x3072_S256x768_0_0]
    (Rect.unit (s := S256x3072) ![0, 0] ![256, 1024] inb_S256x3072_S256x1024_0_0).toLoadRect = blk G 0 1024 inb_S256x3072_S256x1024_0_0 := by
  refine read_of v G _ ?_ _ _ _ fun y h h' => ?_
  · exact ⟨fun _ => rfl, fun _ => rfl, trivial⟩
  have h0 : (y 0).val < 256 := (y 0).isLt
  simp [Rect.mem_set_unit, Fin.forall_fin_two]
  omega

theorem read_c : v.readCov [pc G 1536 768 inb_S256x3072_S256x768_0_1536, pc G 768 768 inb_S256x3072_S256x768_0_768, pc G 0 768 inb_S256x3072_S256x768_0_0]
    (Rect.unit (s := S256x3072) ![0, 1024] ![256, 1024] inb_S256x3072_S256x1024_0_1024).toLoadRect = blk G 1024 1024 inb_S256x3072_S256x1024_0_1024 := by
  refine read_of v G _ ?_ _ _ _ fun y h h' => ?_
  · exact ⟨fun _ => rfl, fun _ => rfl, fun _ => rfl, trivial⟩
  have h0 : (y 0).val < 256 := (y 0).isLt
  simp [Rect.mem_set_unit, Fin.forall_fin_two]
  omega

theorem read_all (a n : ℕ) (h) : v.readCov [pc G 2304 768 inb_S256x3072_S256x768_0_2304, pc G 1536 768 inb_S256x3072_S256x768_0_1536,
      pc G 768 768 inb_S256x3072_S256x768_0_768, pc G 0 768 inb_S256x3072_S256x768_0_0]
    (Rect.unit (s := S256x3072) ![0, a] ![256, n] h).toLoadRect = blk G a n h := by
  refine read_of v G _ ?_ _ _ _ fun y _ _ => ?_
  · exact ⟨fun _ => rfl, fun _ => rfl, fun _ => rfl, fun _ => rfl, trivial⟩
  have h0 : (y 0).val < 256 := (y 0).isLt
  have h1 : (y 1).val < 3072 := (y 1).isLt
  simp [Rect.mem_set_unit, Fin.forall_fin_two]
  omega

end

/-! The values stored at a tile. -/

section
variable (i : grid0.Coords) (f x : Vec Ideal S256x1024 .f32) (hx : k0_pay4 (F := Ideal) i f x = hB I T)
include hx

theorem norm_eq : k0_pay5 (F := Ideal) i f x (gB I) = hnB I T := by
  funext y
  pointwise [k0_pay5, hx, hB, gB, hnB, Ins.hn, Ins.xhat, Ins.r, rstd]

variable (hP : Proj I) (hT : T < 65)
include hP hT

theorem up0 : k0_pay6 (F := Ideal) i f x (gB I) (View.ld (wB I) (Rect.unit (s := S4x1024x768) ![0, 0, 0] ![1, 1024, 768] inb_S4x1024x768_S1x1024x768_0_0_0))
    = blk (pB I T) 0 768 inb_S256x3072_S256x768_0_0 := by
  funext y
  have hr := Cert.Mlp.rowTime_lt (y 0).val (y 0).isLt
  refine Eq.trans ?_ ((hP (256 * T + rowTime (y 0).val) (by omega) 0 (by omega) (y 1)).symm.trans (congrArg₂ I.P (by simp) (by simp)))
  pointwise [k0_pay6, norm_eq I T i f x hx, hnB, wB, View.ld]

theorem up1 : k0_pay8 (F := Ideal) (k0_pay7 i f x (gB I) (View.ld (wB I) (Rect.unit (s := S4x1024x768) ![1, 0, 0] ![1, 1024, 768] inb_S4x1024x768_S1x1024x768_1_0_0)))
    = blk (pB I T) 768 768 inb_S256x3072_S256x768_0_768 := by
  funext y
  have hr := Cert.Mlp.rowTime_lt (y 0).val (y 0).isLt
  refine Eq.trans ?_ ((hP (256 * T + rowTime (y 0).val) (by omega) 1 (by omega) (y 1)).symm.trans (congrArg₂ I.P (by simp) (by simp)))
  pointwise [k0_pay8, k0_pay7, norm_eq I T i f x hx, hnB, wB, View.ld]

theorem up2 : k0_pay9 (F := Ideal) (k0_pay5 i f x (gB I)) (View.ld (wB I) (Rect.unit (s := S4x1024x768) ![2, 0, 0] ![1, 1024, 768] inb_S4x1024x768_S1x1024x768_2_0_0))
    = blk (pB I T) 1536 768 inb_S256x3072_S256x768_0_1536 := by
  funext y
  have hr := Cert.Mlp.rowTime_lt (y 0).val (y 0).isLt
  refine Eq.trans ?_ ((hP (256 * T + rowTime (y 0).val) (by omega) 2 (by omega) (y 1)).symm.trans (congrArg₂ I.P (by simp) (by simp)))
  pointwise [k0_pay9, norm_eq I T i f x hx, hnB, wB, View.ld]

theorem up3 : k0_pay10 (F := Ideal) (k0_pay5 i f x (gB I)) (View.ld (wB I) (Rect.unit (s := S4x1024x768) ![3, 0, 0] ![1, 1024, 768] inb_S4x1024x768_S1x1024x768_3_0_0))
    = blk (pB I T) 2304 768 inb_S256x3072_S256x768_0_2304 := by
  funext y
  have hr := Cert.Mlp.rowTime_lt (y 0).val (y 0).isLt
  refine Eq.trans ?_ ((hP (256 * T + rowTime (y 0).val) (by omega) 3 (by omega) (y 1)).symm.trans (congrArg₂ I.P (by simp) (by simp)))
  pointwise [k0_pay10, norm_eq I T i f x hx, hnB, wB, View.ld]

end

theorem proj_eq (h) (y : S256x3072.Idx) : k0_pay11 (F := Ideal) (blk (pB I T) 0 3072 h) y = I.P (256 * T + rowTime (y 0).val) (y 1).val := by
  pointwise [k0_pay11, pB, View.ld]

theorem rows_eq : k0_pay12 (F := Ideal) (blk (pB I T) 1024 1024 inb_S256x3072_S256x1024_0_1024) (blk (pB I T) 2048 1024 inb_S256x3072_S256x1024_0_2048)
    = ldb (ubuf I T) ![16, 0] ![256, 1024] inb_S272x1024_S256x1024_16_0 := by
  funext y
  refine Eq.trans ?_ (Eq.trans (past_row I T (y 0).val (y 1).val).symm (congrArg₂ I.past (by simp) (by simp)))
  pointwise [k0_pay12, pB, View.ld]

section
variable (x : S272x1024.Idx → EReal) (hx : Carried I T x)
include hx

theorem link0 : k0_pay14 (F := Ideal) (ldb x ![0, 0] ![8, 1024] inb_S272x1024_S8x1024_0_0) (ldb (ubuf I T) ![256, 0] ![8, 1024] inb_S272x1024_S8x1024_256_0)
    = ldb (ubuf I T) ![0, 0] ![8, 1024] inb_S272x1024_S8x1024_0_0 := by
  funext y
  have hy : (y 0).val < 8 := (y 0).isLt
  suffices hs : _ = I.past (256 * T + rowTime (y 0).val) (y 1).val from hs.trans (congrArg₂ I.past (by simp) (by simp))
  pointwise [k0_pay14, ubuf, View.ld]
  rw [select_row _ hy]
  by_cases h : (y 0).val = 0
  · rw [if_pos h]
    refine Eq.trans (congrArg x ?_) ((hx 0 (y 1)).trans (congrArg₂ I.past (by simp [rowTime, h]) rfl))
    exact funext (Fin.forall_fin_two.mpr ⟨Fin.ext (by simp [h]), Fin.ext (by simp)⟩)
  · rw [if_neg h]
    refine congrArg (fun τ => I.past τ _) ?_
    simp only [rowTime]
    omega

theorem link8 : k0_pay13 (F := Ideal) (ldb x ![8, 0] ![8, 1024] inb_S272x1024_S8x1024_8_0) (ldb (ubuf I T) ![264, 0] ![8, 1024] inb_S272x1024_S8x1024_264_0)
    = ldb (ubuf I T) ![8, 0] ![8, 1024] inb_S272x1024_S8x1024_8_0 := by
  funext y
  have hy : (y 0).val < 8 := (y 0).isLt
  suffices hs : _ = I.past (256 * T + rowTime (8 + (y 0).val)) (y 1).val from hs.trans (congrArg₂ I.past (by simp) (by simp))
  pointwise [k0_pay13, ubuf, View.ld]
  rw [select_row _ hy]
  by_cases h : (y 0).val = 0
  · rw [if_pos h]
    refine Eq.trans (congrArg x ?_) ((hx 1 (y 1)).trans (congrArg₂ I.past (by simp [rowTime, h]) rfl))
    exact funext (Fin.forall_fin_two.mpr ⟨Fin.ext (by simp [h]), Fin.ext (by simp)⟩)
  · rw [if_neg h]
    refine congrArg (fun τ => I.past τ _) ?_
    simp only [rowTime]
    omega

end

theorem out_eq (f x : Vec Ideal S256x1024 .f32) (i : grid0.Coords) (hx : k0_pay4 (F := Ideal) i f x = hB I T) (y : S256x1024.Idx) :
    k0_pay2 (F := Ideal) (k0_pay4 i f x) (blk (pB I T) 0 1024 inb_S256x3072_S256x1024_0_0)
      (ldb (ubuf I T) ![8, 0] ![256, 1024] inb_S272x1024_S256x1024_8_0) (ldb (ubuf I T) ![16, 0] ![256, 1024] inb_S272x1024_S256x1024_16_0)
      (k0_pay15 (ldb (ubuf I T) ![0, 0] ![256, 1024] inb_S272x1024_S256x1024_0_0) (View.ld (cwB I) (Rect.unit (s := S3x1024) ![0, 0] ![1, 1024] inb_S3x1024_S1x1024_0_0)))
      (View.ld (cwB I) (Rect.unit (s := S3x1024) ![1, 0] ![1, 1024] inb_S3x1024_S1x1024_1_0))
      (View.ld (cwB I) (Rect.unit (s := S3x1024) ![2, 0] ![1, 1024] inb_S3x1024_S1x1024_2_0)) (woB I) y
      = out I (256 * T + rowTime (y 0).val) (y 1).val := by
  pointwise [k0_pay2, k0_pay15, hx, hB, woB, out, Ins.z, Ins.u, u0, u1, u2, cwB, pB, View.ld]

/-- The rows kept for the next tile, whatever lies behind them. -/
theorem keep_eq (L : List (View.Piece (Elt Ideal) S272x1024 .f32)) : Carried I (T + 1) (View.canon (Val := Elt Ideal) (s := S272x1024) (e := .f32)
    (⟨Rect.unit (s := S272x1024) ![0, 0] ![16, 1024] inb_S272x1024_S16x1024_0_0,
      k0_pay1 (F := Ideal) (ldb (ubuf I T) ![256, 0] ![16, 1024] inb_S272x1024_S16x1024_256_0)⟩ :: L)) := by
  intro j c
  have hj := j.isLt
  have e : (ix2 ⟨8 * j.val + 7, by omega⟩ c : S272x1024.Idx) = (Rect.unit (s := S272x1024) ![0, 0] ![16, 1024] inb_S272x1024_S16x1024_0_0).emb
      (ix2 ⟨8 * j.val + 7, by show _ < 16; omega⟩ c) :=
    funext (Fin.forall_fin_two.mpr ⟨Fin.ext (by simp), Fin.ext (by simp)⟩)
  rw [e]
  refine (View.canon_cons_emb _ _ _ _).trans ?_
  pointwise [k0_pay1, ubuf, View.ld]
  refine congrArg (fun τ => I.past τ _) ?_
  simp only [rowTime]
  omega

/-- Before the first tile lie zeros. -/
theorem zero_rows {σ : RefSig} {κ : Kind} {sp : Space} (v : View σ κ sp S272x1024 .f32) (o : Fin 2 → ℕ) (h) (hin : ∀ a, (![0, 0] : Fin 2 → ℕ) a ≤ o a ∧ o a + (![8, 1024] : Fin 2 → ℕ) a ≤ (![0, 0] : Fin 2 → ℕ) a + (![16, 1024] : Fin 2 → ℕ) a) :
    v.readCov [⟨Rect.unit (s := S272x1024) ![0, 0] ![16, 1024] inb_S272x1024_S16x1024_0_0, k0_pay3 (F := Ideal)⟩]
      (Rect.unit (s := S272x1024) o ![8, 1024] h).toLoadRect = ldb (fun _ => 0) o ![8, 1024] h := by
  have e : k0_pay3 (F := Ideal) = ldb (fun _ => 0) ![0, 0] ![16, 1024] inb_S272x1024_S16x1024_0_0 := by
    funext y
    pointwise [k0_pay3, View.ld]
  rw [e]
  exact read_one v _ [] o ![8, 1024] h ![0, 0] ![16, 1024] _ hin

theorem carried_zero : Carried I 0 (fun _ => 0) := by
  intro j c
  rw [Ins.past, if_neg (by omega)]

theorem rows_own {σ : RefSig} {κ : Kind} {sp : Space} (v : View σ κ sp S272x1024 .f32) (G : S272x1024.Idx → EReal) (L : List (View.Piece (Elt Ideal) S272x1024 .f32))
    (a n : ℕ) (h) (ha : 16 ≤ a) :
    v.readCov (rows G 16 256 inb_S272x1024_S256x1024_16_0 :: L) (Rect.unit (s := S272x1024) ![a, 0] ![n, 1024] h).toLoadRect = ldb G ![a, 0] ![n, 1024] h :=
  read_one v G L ![a, 0] ![n, 1024] h ![16, 0] ![256, 1024] _ (by
    rw [Fin.forall_fin_two]
    have := h 0
    simp at this ⊢
    omega)

/-! The points. -/

variable (m : (ℓ : Loc nD τ sig) → Buf (Elt Ideal) ℓ)

/-- The blocks of a grid point are the arrays `I` at the times of its tile. -/
structure At (c : Dev nD) (t : Fin cfg0.N) : Prop where
  h : t.val ≠ 0 → iblk m c 0 t = hB I t.val
  fst : t.val = 0 → iblk m c 1 t = hB I t.val
  g : iblk m c 2 t = gB I
  w : iblk m c 3 t = wB I
  cw : iblk m c 4 t = cwB I
  wo : iblk m c 5 t = woB I

theorem lt65 (t : Fin cfg0.N) : t.val < 65 := t.isLt

theorem coord (t : Fin cfg0.N) : Scalar.cmpi .eq (BitVec.ofNat 32 (grid0.coords t 0).val) 0#32 = if t.val = 0 then 1#1 else 0#1 := by
  revert t; decide +kernel

/-- The rows of the tile: at the first tile those before the sequence. -/
theorem stream (c : Dev nD) (t : Fin cfg0.N) (a : At I m c t) : k0_pay4 (F := Ideal) (grid0.coords t) (iblk m c 1 t) (iblk m c 0 t) = hB I t.val := by
  funext y
  unfold k0_pay4
  dsimp only
  rw [coord]
  by_cases h : t.val = 0
  · rw [if_pos h, a.fst h]
    pointwise []
  · rw [if_neg h, a.h h]
    pointwise []

/-- What the point leaves. -/
structure Left (n : ℕ) (c : Dev nD) (h : n < cfg0.N) : Prop where
  out : ∀ y, (outsAt0 m c n h).1 y = out I (256 * n + rowTime (y 0).val) (y 1).val
  hh : ∀ y, (outsAt0 m c n h).2.1 y = I.P (256 * n + rowTime (y 0).val) (y 1).val
  keep : Carried I (n + 1) (outsAt0 m c n h).2.2

theorem step_first (hP : Proj I) (c : Dev nD) (t : Fin cfg0.N) (a : At I m c t) (h : t.val % 65 = 0) : Left I m t.val c t.isLt := by
  have h0 : t.val = 0 := by have := lt65 t; omega
  have hp : Carried I t.val (fun _ => 0) := h0 ▸ carried_zero I
  have hx := stream I m c t a
  have ht := lt65 t
  constructor
  all_goals
    rw [outsAt0_A m c t h]
    frame_open
    simp (disch := decide) only [↓ View.readCov_skip, ↓ View.readCov_cons_toLoadRect, ↓ View.readCov_fill]
    frame_out
    simp (disch := decide) only [a.g, a.w, a.cw, a.wo, up0 I _ _ _ _ hx hP ht, up1 I _ _ _ _ hx hP ht, up2 I _ _ _ _ hx hP ht, up3 I _ _ _ _ hx hP ht,
      read_b, read_c, read_all, proj_eq, rows_eq, rows_own, zero_rows, link0 I _ _ hp, link8 I _ _ hp, read_prev, read_prev', out_eq I _ _ _ _ hx, keep_eq, implies_true]

theorem step_next (hP : Proj I) (c : Dev nD) (t : Fin cfg0.N) (a : At I m c t) (h : ¬ t.val % 65 = 0)
    (p : Left I m (t.val - 1) c (lt_of_le_of_lt (Nat.sub_le _ _) t.isLt)) : Left I m t.val c t.isLt := by
  have h1 : t.val - 1 + 1 = t.val := by omega
  have hp := p.keep
  rw [h1] at hp
  have hx := stream I m c t a
  have ht := lt65 t
  constructor
  all_goals
    rw [outsAt0_B m c t h]
    frame_open
    simp (disch := decide) only [↓ View.readCov_skip, ↓ View.readCov_cons_toLoadRect, ↓ View.readCov_fill]
    frame_out
    simp (disch := decide) only [read_unread_whole, a.g, a.w, a.cw, a.wo, up0 I _ _ _ _ hx hP ht, up1 I _ _ _ _ hx hP ht, up2 I _ _ _ _ hx hP ht, up3 I _ _ _ _ hx hP ht,
      read_b, read_c, read_all, proj_eq, rows_eq, rows_own, link0 I _ _ hp, link8 I _ _ hp, read_prev, read_prev', out_eq I _ _ _ _ hx, keep_eq, implies_true]

/-- Every point, one after another. -/
theorem left (hP : Proj I) (c : Dev nD) (a : ∀ t, At I m c t) : ∀ n h, Left I m n c h
  | 0, h => step_first I m hP c ⟨0, h⟩ (a _) rfl
  | n + 1, h => step_next I m hP c ⟨n + 1, h⟩ (a _) (by have := lt65 ⟨n + 1, h⟩; simp only at this ⊢; omega) (left hP c a n _)

end Cert.Mix

end
-- ==== Proof.Mix.Results.lean ====
/- The short convolution mixer's forward call: the blocks it reads from the program's arguments, and its two results as functions of time. -/
module

public import proofs.«01_k».proof.Proof.Mix.Point
public import proofs.«01_k».proof.Proof.Sc.EntryH
public import proofs.«01_k».proof.Proof.Sc.Real
public import proofs.«01_k».proof.Proof.Loss.Kernel
public import Idealize.ShloMosaic.Adequacy

@[expose] public section

set_option maxRecDepth 16384

noncomputable section

open Idealize.ShloMosaic Idealize.ShloMosaic.TcCoe Idealize.SL.Sem

namespace Cert.Mix

open Cert.Kernel5Ideal Cert.Kernel5Ideal.Gen
open Cert.Loss (rowTime tile_time arrTime arrTime_row row_time rstd)
open Cert.Mlp (at2 at2_eq timeOf)
open Cert.Sc (Ins Args mkIns hB gB wB cwB woB own_row first_time first_lt close_first)

/-- The call's projection is the one of its normed rows; before the sequence both are zero. -/
theorem proj (A : Args) : Proj (mkIns A) := by
  intro τ hτ q hq n
  have hn := n.isLt
  by_cases h : 240 ≤ τ
  · have e := Cert.Sc.P_at A ⟨τ - 240, by omega⟩ (768 * q + n.val) (by omega)
    have eH (k : Fin 1024) : (mkIns A).H τ k.val = A.row ⟨τ - 240, by omega⟩ k := by
      have := Cert.Sc.H_at A ⟨τ - 240, by omega⟩ k
      rwa [show 240 + (⟨τ - 240, by omega⟩ : Fin 16400).val = τ by show 240 + (τ - 240) = τ; omega] at this
    rw [show 240 + (⟨τ - 240, by omega⟩ : Fin 16400).val = τ by show 240 + (τ - 240) = τ; omega] at e
    rw [e]
    refine Finset.sum_congr rfl fun k _ => ?_
    have ew : (mkIns A).w q k.val n.val = A.w (ix2 k ⟨768 * q + n.val, by omega⟩) := at2_eq A.w k ⟨768 * q + n.val, by omega⟩
    rw [ew]
    unfold Ins.hn Ins.xhat Ins.r Args.norm
    simp only [eH, Cert.Sc.g_at]
  · have eH (k : Fin 1024) : (mkIns A).H τ k.val = 0 := dif_neg fun h' => h h'.1
    rw [Cert.Sc.P_pad A _ _ (by omega)]
    unfold Ins.hn Ins.xhat
    simp only [eH, zero_mul, Finset.sum_const_zero]

variable (m : (ℓ : Loc nD τ sig) → Buf (Elt Ideal) ℓ) (ρ : Dev nD → PrngReg)

/-- The arguments on a device; no gradient comes in. -/
def args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), fun _ => 0⟩

/-- The call's arrays on a device. -/
def ins (c : Dev nD) : Ins := mkIns (args m c)

/-- The host lines before the call. -/
abbrev lines : List (HloOp τ sig (Elt Ideal)) := [hostOps0].flatten

theorem idx_h : ∀ t : Fin cfg0.N, win0_0.index t = ![t.val - 1, 0] := (by decide +kernel : ∀ t : Fin grid0.N, _)
theorem idx_f : ∀ t : Fin cfg0.N, win0_1.index t = ![0, 0] := (by decide +kernel : ∀ t : Fin grid0.N, _)
theorem idx_g : ∀ t : Fin cfg0.N, win0_2.index t = ![0, 0] := (by decide +kernel : ∀ t : Fin grid0.N, _)
theorem idx_w : ∀ t : Fin cfg0.N, win0_3.index t = ![0, 0, 0] := (by decide +kernel : ∀ t : Fin grid0.N, _)
theorem idx_cw : ∀ t : Fin cfg0.N, win0_4.index t = ![0, 0] := (by decide +kernel : ∀ t : Fin grid0.N, _)
theorem idx_wo : ∀ t : Fin cfg0.N, win0_5.index t = ![0, 0] := (by decide +kernel : ∀ t : Fin grid0.N, _)

theorem ins_H (c : Dev nD) (τ k : ℕ) (h : 240 ≤ τ ∧ τ < 16640 ∧ k < 1024) : (ins m c).H τ k = (args m c).row ⟨τ - 240, by omega⟩ ⟨k, h.2.2⟩ := dif_pos h

/-- The array of the sequence. -/
theorem arr_x (c : Dev nD) (y : S16384x1024.Idx) : (V m c main_v10 : S16384x1024.Idx → EReal) y = (ins m c).H (256 + timeOf (y 0).val) (y 1).val := by
  have h0 : (y 0).val < 16384 := (y 0).isLt
  have hl : timeOf (y 0).val < 16384 := by unfold timeOf; omega
  have h1 : (y 1).val < 1024 := (y 1).isLt
  unfold V
  dsimp only [List.flatten_cons, List.flatten_nil, List.append_nil, List.cons_append, List.nil_append]
  after_reads_at
  refine Eq.trans ?_ (ins_H m c _ _ ⟨by omega, by omega, h1⟩).symm
  refine Eq.trans ?_ (dif_neg (by dsimp only; omega)).symm
  refine congrArg (m ((c : Thread nD τ).loc main_arg0)) (congrArg₂ ix2 (Fin.ext ?_) rfl)
  exact own_row _

/-- Its block at a tile after the first. -/
theorem at_h (c : Dev nD) (t : Fin cfg0.N) (hT : t.val ≠ 0) : iblk m c 0 t = hB (ins m c) t.val := by
  funext y
  have hr : (y 0).val < 256 := (y 0).isLt
  have e := tile_time (t.val - 1) _ hr
  blk_simp [iblk]
  refine (arr_x m c _).trans ?_
  refine congrArg₂ (ins m c).H ?_ ?_
  · refine ((congrArg (256 + timeOf ·) ?_).trans (congrArg (256 + ·) e)).trans (by omega)
    blk_simp [idx_h t]
  · blk_simp [idx_h t]

theorem zeros (c : Dev nD) (y : S240x1024.Idx) : (StableHlo.upto lines (fun b => m (c, b)) 5 (Proc.tc.devRef main_v3) : S240x1024.Idx → EReal) y = (0 : EReal) := by
  dsimp only [lines, List.flatten_cons, List.flatten_nil, List.append_nil, List.cons_append, List.nil_append]
  after_reads_at

theorem before (c : Dev nD) : (StableHlo.upto lines (fun b => m (c, b)) 5 (Proc.tc.devRef main_arg1) : S16x1024.Idx → EReal) = (args m c).mt := by
  funext y
  dsimp only [lines, List.flatten_cons, List.flatten_nil, List.append_nil, List.cons_append, List.nil_append]
  after_reads_at
  rfl

/-- The array of the rows before the sequence. -/
theorem arr_f (c : Dev nD) (y : S256x1024.Idx) : (V m c main_v7 : S256x1024.Idx → EReal) y = (ins m c).H (timeOf (y 0).val) (y 1).val := by
  have h0 : (y 0).val < 256 := (y 0).isLt
  unfold V
  dsimp only [List.flatten_cons, List.flatten_nil, List.append_nil, List.cons_append, List.nil_append]
  after_reads_at
  exact close_first (args m c) _ _ (first_time h0) (first_lt h0) (y 1) (StableHlo.upto lines (fun b => m (c, b)) 5 (Proc.tc.devRef main_v3))
    (StableHlo.upto lines (fun b => m (c, b)) 5 (Proc.tc.devRef main_arg1)) (zeros m c) (before m c)

/-- Its block at the first tile. -/
theorem at_f (c : Dev nD) (t : Fin cfg0.N) (hT : t.val = 0) : iblk m c 1 t = hB (ins m c) t.val := by
  funext y
  have hr : (y 0).val < 256 := (y 0).isLt
  have e := tile_time 0 _ hr
  rw [hT]
  blk_simp [iblk]
  refine (arr_f m c _).trans ?_
  refine congrArg₂ (ins m c).H (Eq.trans ?_ e) ?_
  · refine congrArg timeOf ?_
    blk_simp [idx_f t]
  · blk_simp [idx_f t]

/-- The gain. -/
theorem at_g (c : Dev nD) (t : Fin cfg0.N) : iblk m c 2 t = gB (ins m c) := by
  funext y
  blk_simp [iblk, idx_g t]
  unfold V
  dsimp only [List.flatten_cons, List.flatten_nil, List.append_nil, List.cons_append, List.nil_append]
  after_reads_at
  refine Eq.trans ?_ (dif_pos (y 1).isLt).symm
  refine congrArg (m ((c : Thread nD τ).loc main_arg2)) (congrArg ix1 (Fin.ext ?_))
  blk_simp [idx_g t]

/-- The weight of the projection in four column blocks. -/
theorem at_w (c : Dev nD) (t : Fin cfg0.N) : iblk m c 3 t = wB (ins m c) := by
  funext y
  blk_simp [iblk, idx_w t]
  unfold V
  dsimp only [List.flatten_cons, List.flatten_nil, List.append_nil, List.cons_append, List.nil_append]
  after_reads_at
  have h0 : (y 0).val < 4 := (y 0).isLt
  have h2 : (y 2).val < 768 := (y 2).isLt
  refine Eq.trans ?_ (dif_pos ⟨(y 1).isLt, by omega⟩).symm
  refine congrArg (m ((c : Thread nD τ).loc main_arg3)) (congrArg₂ ix2 (Fin.ext ?_) (Fin.ext ?_))
  · blk_simp [idx_w t]
  · blk_simp [idx_w t]
    exact congrArg (· + (y 2).val) (Nat.mul_comm _ _)

/-- The taps. -/
theorem at_cw (c : Dev nD) (t : Fin cfg0.N) : iblk m c 4 t = cwB (ins m c) := by
  funext y
  blk_simp [iblk, idx_cw t]
  unfold V
  dsimp only [List.flatten_cons, List.flatten_nil, List.append_nil, List.cons_append, List.nil_append]
  after_reads_at
  refine Eq.trans ?_ (at2_eq (args m c).cw (y 0) (y 1)).symm
  blk_ext [idx_cw t]

/-- The weight of the output. -/
theorem at_wo (c : Dev nD) (t : Fin cfg0.N) : iblk m c 5 t = woB (ins m c) := by
  funext y
  blk_simp [iblk, idx_wo t]
  unfold V
  dsimp only [List.flatten_cons, List.flatten_nil, List.append_nil, List.cons_append, List.nil_append]
  after_reads_at
  refine Eq.trans ?_ (at2_eq (args m c).wo (y 0) (y 1)).symm
  blk_ext [idx_wo t]

theorem left_at (c : Dev nD) (n : ℕ) (h : n < cfg0.N) : Left (ins m c) m n c h :=
  left (ins m c) m (proj _) c (fun t => ⟨at_h m c t, at_f m c t, at_g m c t, at_w m c t, at_cw m c t, at_wo m c t⟩) n h

/-- The buffers as the lines after the call find them. -/
abbrev held (c : Dev nD) : Valuation τ sig (Elt Ideal) :=
  Pipeline.withArrays (cfgs 0).spec c (V0 m c) fun w => (dats m 0 c).arrAt w (cfgs 0).N

theorem idx_out : ∀ t : Fin cfg0.N, win0_6.index t = ![t.val, 0] := (by decide +kernel : ∀ t : Fin grid0.N, _)

theorem arr_out (c : Dev nD) : (dats m 0 c).arrAt 6 cfg0.N = fun y : S16640x1024.Idx => out (ins m c) (arrTime (y 0).val) (y 1).val :=
  (dats m 0 c).arrAt_eq_of_covers 6 _ (by decide +kernel) fun t _ y => by
    blk_simp [idx_out t]
    rw [after0_6, (left_at m c _ _).out]
    refine congrArg₂ (out (ins m c)) (row_time t.val y) ?_
    blk_simp [idx_out t]

theorem held_out (c : Dev nD) : held m c (Proc.tc.devRef main_v13_0) = (dats m 0 c).arrAt 6 cfg0.N :=
  Pipeline.withArrays_arr spec0 (by decide) c (V0 m c) (fun w => (dats m 0 c).arrAt w (cfgs 0).N) 6

theorem tail_out (c : Dev nD) : Pipeline.afterTail₀ cfgs (dats m) 0 (V0 m) [hostOps1] c main_v17 =
    fun y : S16400x1024.Idx => out (ins m c) (240 + (y 0).val) (y 1).val := by
  funext y
  unfold Pipeline.afterTail₀
  dsimp only [List.flatten_cons, List.flatten_nil, List.append_nil, List.cons_append, List.nil_append]
  after_reads_at
  refine (congrFun ((held_out m c).trans (arr_out m c)) _).trans ?_
  exact congrArg (fun a => out (ins m c) a (y 1).val) (arrTime_row _)

theorem idx_hh : ∀ t : Fin cfg0.N, win0_7.index t = ![t.val, 0] := (by decide +kernel : ∀ t : Fin grid0.N, _)

theorem arr_hh (c : Dev nD) : (dats m 0 c).arrAt 7 cfg0.N = fun y : S16640x3072.Idx => (ins m c).P (arrTime (y 0).val) (y 1).val :=
  (dats m 0 c).arrAt_eq_of_covers 7 _ (by decide +kernel) fun t _ y => by
    blk_simp [idx_hh t]
    rw [after0_7, (left_at m c _ _).hh]
    refine congrArg₂ ((ins m c).P) (row_time t.val y) ?_
    blk_simp [idx_hh t]

theorem held_hh (c : Dev nD) : held m c (Proc.tc.devRef main_v13_1) = (dats m 0 c).arrAt 7 cfg0.N :=
  Pipeline.withArrays_arr spec0 (by decide) c (V0 m c) (fun w => (dats m 0 c).arrAt w (cfgs 0).N) 7

theorem tail_hh (c : Dev nD) : Pipeline.afterTail₀ cfgs (dats m) 0 (V0 m) [hostOps1] c main_v22 =
    fun y : S16400x3072.Idx => (ins m c).P (240 + (y 0).val) (y 1).val := by
  funext y
  unfold Pipeline.afterTail₀
  dsimp only [List.flatten_cons, List.flatten_nil, List.append_nil, List.cons_append, List.nil_append]
  after_reads_at
  refine (congrFun ((held_hh m c).trans (arr_hh m c)) _).trans ?_
  exact congrArg (fun a => (ins m c).P a (y 1).val) (arrTime_row _)

/-- The run: both results as functions of the arrays of the call. -/
theorem kernel_run : θ_run defs (onTc (τ := τ) (main (F := Ideal))) ⟨m, fun _ => 0, ρ⟩ (fun r => ∀ c : Dev nD,
      r.2.mem ((c.tc : Thread nD τ).loc main_v17) = (fun y : S16400x1024.Idx => out (ins m c) (240 + (y 0).val) (y 1).val)
      ∧ r.2.mem ((c.tc : Thread nD τ).loc main_v22) = (fun y : S16400x3072.Idx => (ins m c).P (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · exact tail_out m c
  · exact tail_hh m c
  · exact W_main_arg0 m _ c
  · exact W_main_arg1 m _ c
  · exact W_main_arg2 m _ c
  · exact W_main_arg3 m _ c
  · exact W_main_arg5 m _ c

end Cert.Mix

end
-- ==== Proof.Mix.Claims.lean ====
/- The claims of the short convolution mixer's forward call: the reference's values by time, its run, and the frames. -/
module

public import proofs.«01_k».proof.Defs
public import proofs.«01_k».proof.Proof.Gen.Kernel5.Frame
public import proofs.«01_k».proof.Proof.Gen.Reference5Ideal.Read
public import proofs.«01_k».proof.Proof.Gen.Reference5Ideal.Run
public import proofs.«01_k».proof.Proof.Mix.Results

@[expose] public section

set_option maxRecDepth 16384

noncomputable section

namespace Cert.Mix

open Idealize.ShloMosaic Idealize.SL.Sem
open Cert.Sc (Ins Args mkIns)

section
open Cert.Reference5Ideal Cert.Reference5Ideal.Gen Cert.Reference5Ideal.Read

variable (A : Args)

theorem ref_row (i : Fin 16400) (k : Fin 1024) : val_main_v0 (F := Ideal) A.x A.mt (ix2 i k) = A.row i k := by
  unfold Args.row
  pointwise [val_main_v0]

theorem ref_proj (i : Fin 16400) (c : Fin 3072) : val_main_v14 (F := Ideal) A.x A.mt A.g A.w (ix2 i c) = A.hh i c := by
  unfold Args.hh Args.norm Cert.Loss.rstd
  simp only [← ref_row]
  pointwise [val_main_v14, val_main_v13, val_main_v12, val_main_v11, val_main_v10, val_main_v9, val_main_v8, val_main_v7, val_main_v6, val_main_cst_1, val_main_v5, val_main_v4, val_main_cst_0, val_main_v3, val_main_v2, val_main_cst, val_main_v1]

theorem ref_hh (i : Fin 16400) (c : Fin 3072) : val_main_v14 (F := Ideal) A.x A.mt A.g A.w (ix2 i c) = (mkIns A).P (240 + i.val) c.val :=
  (ref_proj A i c).trans (Cert.Sc.P_at A i c.val c.isLt).symm

theorem ref_gate (i : Fin 16400) (c : Fin 1024) : val_main_v15 (F := Ideal) A.x A.mt A.g A.w (ix2 i c) = (mkIns A).P (240 + i.val) c.val := by
  rw [Cert.Sc.P_at A i c.val (by omega), ← ref_proj]
  pointwise [val_main_v15]

theorem ref_left (i : Fin 16400) (c : Fin 1024) : val_main_v16 (F := Ideal) A.x A.mt A.g A.w (ix2 i c) = (mkIns A).P (240 + i.val) (1024 + c.val) := by
  rw [Cert.Sc.P_at A i (1024 + c.val) (by omega), ← ref_proj]
  pointwise [val_main_v16]

theorem ref_right (i : Fin 16400) (c : Fin 1024) : val_main_v17 (F := Ideal) A.x A.mt A.g A.w (ix2 i c) = (mkIns A).P (240 + i.val) (2048 + c.val) := by
  rw [Cert.Sc.P_at A i (2048 + c.val) (by omega), ← ref_proj]
  pointwise [val_main_v17]

/-- The convolution's input. -/
theorem ref_in (i : Fin 16400) (c : Fin 1024) : val_main_v18 (F := Ideal) A.x A.mt A.g A.w (ix2 i c) = (mkIns A).past (240 + i.val + 2) c.val := by
  unfold Ins.past
  rw [if_pos (by omega), Nat.add_sub_cancel, ← ref_left, ← ref_right]
  pointwise [val_main_v18]

/-- The same behind two rows of zeros. -/
theorem ref_past (t : ℕ) (h : t < 16402) (c : Fin 1024) : (if h' : t < 2 then 0 else val_main_v18 (F := Ideal) A.x A.mt A.g A.w (ix2 ⟨t - 2, by omega⟩ c)) = (mkIns A).past (240 + t) c.val := by
  split
  · unfold Ins.past
    rw [if_pos (by omega), Cert.Sc.P_pad A _ _ (by omega), zero_mul]
  · rw [ref_in]
    exact congrArg (fun t => (mkIns A).past t c.val) (by dsimp only; omega)

theorem ref_past0 (i : Fin 16400) (c : Fin 1024) : val_main_v21 (F := Ideal) A.x A.mt A.g A.w (ix2 i c) = (mkIns A).past (240 + i.val) c.val := by
  refine Eq.trans ?_ (ref_past A i.val (by omega) c)
  pointwise [val_main_v21, val_main_v20, val_main_v19, val_main_cst_2]

theorem ref_past1 (i : Fin 16400) (c : Fin 1024) : val_main_v27 (F := Ideal) A.x A.mt A.g A.w (ix2 i c) = (mkIns A).past (240 + i.val + 1) c.val := by
  refine Eq.trans ?_ ((ref_past A (1 + i.val) (by omega) c).trans (congrArg (fun t => (mkIns A).past t c.val) (by omega)))
  pointwise [val_main_v27, val_main_v20, val_main_v19, val_main_cst_2]

theorem ref_past2 (i : Fin 16400) (c : Fin 1024) : val_main_v34 (F := Ideal) A.x A.mt A.g A.w (ix2 i c) = (mkIns A).past (240 + i.val + 2) c.val := by
  rw [← ref_in]
  pointwise [val_main_v34, val_main_v20, val_main_v19, val_main_cst_2]

theorem ref_u (i : Fin 16400) (c : Fin 1024) : val_main_v40 (F := Ideal) A.x A.mt A.g A.w A.cw (ix2 i c) = (mkIns A).u (240 + i.val) c.val := by
  have c0 : (mkIns A).cw 0 c.val = A.cw (ix2 0 c) := Cert.Sc.cw_at A 0 c
  have c1 : (mkIns A).cw 1 c.val = A.cw (ix2 1 c) := Cert.Sc.cw_at A 1 c
  have c2 : (mkIns A).cw 2 c.val = A.cw (ix2 2 c) := Cert.Sc.cw_at A 2 c
  unfold Ins.u
  rw [c0, c1, c2, ← ref_past0, ← ref_past1, ← ref_past2, mul_comm (A.cw _), mul_comm (A.cw (ix2 1 c)), mul_comm (A.cw (ix2 2 c))]
  pointwise [val_main_v40, val_main_v39, val_main_v38, val_main_v37, val_main_v36, val_main_v35, val_main_v33, val_main_v32, val_main_v31, val_main_v30, val_main_v29, val_main_v28, val_main_v26, val_main_v25, val_main_v24, val_main_v23, val_main_v22]

theorem ref_out (i : Fin 16400) (k : Fin 1024) : val_main_v43 (F := Ideal) A.x A.mt A.g A.w A.cw A.wo (ix2 i k) = out (mkIns A) (240 + i.val) k.val := by
  unfold out Ins.z
  simp only [Cert.Sc.H_at, Cert.Sc.wo_at, ← ref_row, ← ref_gate, ← ref_u]
  pointwise [val_main_v43, val_main_v42, val_main_v41]

/-- The reference's arguments on a device. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), fun _ => 0⟩

/-- The reference's results are the call's functions of time. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43) = (fun y : S16400x1024.Idx => out (mkIns (refArgs m c)) (240 + (y 0).val) (y 1).val)
      ∧ r.2.mem ((c.tc : Thread nD τ).loc main_v14) = (fun y : S16400x3072.Idx => (mkIns (refArgs m c)).P (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.Reference5Ideal.Value.run m ρ)
  obtain ⟨a0, a1, rest⟩ := h c
  refine ⟨(a0.trans (val_main_v43_eq _ _)).trans (funext fun y => ?_), (a1.trans (val_main_v14_eq _ _ _ _)).trans (funext fun y => ?_), rest⟩
  · exact (congrArg _ (eq_ix2 y)).trans (ref_out (refArgs m c) (y 0) (y 1))
  · exact (congrArg _ (eq_ix2 y)).trans (ref_hh (refArgs m c) (y 0) (y 1))

end

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

/-- The reference has no counter at all, so each of them is zero at its end. -/
theorem frame_reference : Cert.quiescent_Reference5Ideal (hReference5Ideal := Cert.Reference5Ideal.Gen.facts) := by
  intro m ρ _
  hlo_run
  · exact fun _ => ⟨trivial, trivial, trivial, trivial, trivial, trivial⟩
  · exact funext fun g => ((Fintype.card_eq_zero_iff.mp (SemLoc.card_eq (sig := Cert.Reference5Ideal.sig))).false g.2).elim

theorem same : Cert.algebraic_Kernel5Ideal_Reference5Ideal (hKernel5Ideal := Cert.Kernel5Ideal.Gen.facts)
    (hReference5Ideal := Cert.Reference5Ideal.Gen.facts) := by
  intro m g m' g' hp hm
  have e (c : Dev Cert.Kernel5Ideal.nD) : refArgs m' c = args m c := by
    obtain ⟨e0, e1, e2, e3, e4, e5⟩ := hm c
    unfold refArgs args
    rw [e0, e1, e2, e3, e4, e5]
  refine ⟨_, _, kernel_run m g, ?_⟩
  refine (θ_run _ _ _).mono (fun r h c => ?_) (reference_run m' g')
  have := h c
  rw [e c] at this
  exact this

end Cert.Mix

end
-- ==== Proof.Rg.Spec.lean ====
/- What the RG-LRU's forward call computes up to its gates, row by row, in the order of time: the functions the blocks of the kernel are
   compared with. Times count from the first row of the padded sequence (240 rows of zeros, then the sequence). -/
module

public import proofs.«01_k».proof.Proof.Loss.Spec

@[expose] public section

noncomputable section

namespace Cert.Rg

open Idealize.ShloMosaic Cert.Loss

/-- The arrays the call reads: by time the residual stream; the gain, the projection's weight in four column blocks, the taps, the rows of
    offsets (the convolution's and the two gates'), and the two gates' weights, a square block for each 128 columns. -/
structure Ins where
  H : ℕ → ℕ → EReal
  g : ℕ → EReal
  w : ℕ → ℕ → ℕ → EReal
  cw : ℕ → ℕ → EReal
  v : ℕ → ℕ → EReal
  wa : ℕ → ℕ → ℕ → EReal
  wx : ℕ → ℕ → ℕ → EReal

variable (I : Ins)

/-- The normed row. -/
def Ins.hn (τ k : ℕ) : EReal := I.H τ k * rstd (fun k => I.H τ k.val) * I.g k

/-- The projection of the normed row: the gelu branch's 1280 columns, then the recurrence's. -/
def Ins.P (τ c : ℕ) : EReal := ∑ k : Fin 1024, I.hn τ k.val * I.w (c / 640) k.val (c % 640)

/-- The recurrence's branch three rows earlier, zero before the start. -/
def Ins.past (τ c : ℕ) : EReal := if 3 ≤ τ then I.P (τ - 3) (1280 + c) else 0

/-- The convolution. -/
def Ins.u (τ c : ℕ) : EReal :=
  I.cw 0 c * I.past τ c + I.cw 1 c * I.past (τ + 1) c + I.cw 2 c * I.past (τ + 2) c + I.cw 3 c * I.past (τ + 3) c + I.v 0 c

/-- A gate's product with its block. -/
def Ins.pre (q τ c : ℕ) : EReal := ∑ i : Fin 128, I.u τ (128 * (c / 128) + i.val) * (if q = 0 then I.wa else I.wx) (c / 128) i.val (c % 128)

/-- The logistic function, as the call writes it. -/
def sg (a : EReal) : EReal := cHalf + cHalf * Ideal.tanh (cHalf * a)

/-- The tanh of the gelu. -/
def th (b : EReal) : EReal :=
  Ideal.tanh (Ideal.ofBits .f32 0x3F4C422A#32 * (b + Ideal.ofBits .f32 0x3D372713#32 * b * b * b))

/-- The row saved for the backward pass: the convolution, the two gates, the gelu's tanh. -/
def Ins.gates (τ c : ℕ) : EReal :=
  if c < 1280 then I.u τ c else if c < 2560 then sg (I.pre 0 τ (c - 1280) + I.v 1 (c - 1280))
  else if c < 3840 then sg (I.pre 1 τ (c - 2560) + I.v 2 (c - 2560)) else th (I.P τ (c - 3840))

end Cert.Rg

end
-- ==== Proof.Rg.Tile.lean ====
/- The values the RG-LRU's forward call stores at a tile, and what they are of the functions of time. -/
module

public import proofs.«01_k».proof.Proof.Gen.Kernel6Ideal.Skeleton
public import proofs.«01_k».proof.Proof.Rg.Spec
public import proofs.«01_k».proof.Proof.Mlp.Tile
public import proofs.«01_k».proof.Proof.Loss.Block
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Rg

open Cert.Kernel6Ideal Cert.Kernel6Ideal.Gen
open Cert.Loss (rowTime rstd select_row cHalf)

variable (I : Ins) (T : ℕ)

/-! The blocks of the arrays. -/

def hB : Vec Ideal S256x1024 .f32 := fun y => I.H (256 * T + rowTime (y 0).val) (y 1).val
def gB : Vec Ideal S1x1024 .f32 := fun y => I.g (y 1).val
def wB : Vec Ideal S4x1024x640 .bf16 := fun y => I.w (y 0).val (y 1).val (y 2).val
def cwB : Vec Ideal S4x1280 .f32 := fun y => I.cw (y 0).val (y 1).val
def vB : Vec Ideal S8x1280 .f32 := fun y => I.v (y 0).val (y 1).val
def waB : Vec Ideal S10x128x128 .bf16 := fun y => I.wa (y 0).val (y 1).val (y 2).val
def wxB : Vec Ideal S10x128x128 .bf16 := fun y => I.wx (y 0).val (y 1).val (y 2).val
def hnB : S256x1024.Idx → EReal := fun y => I.hn (256 * T + rowTime (y 0).val) (y 1).val
def pB : S256x2560.Idx → EReal := fun y => I.P (256 * T + rowTime (y 0).val) (y 1).val
def gatesB : S256x5120.Idx → EReal := fun y => I.gates (256 * T + rowTime (y 0).val) (y 1).val

/-! The scratch buffers: the gelu's branch, the recurrence's branch behind the rows before the tile, the convolution, the gates' products. -/

def gbuf : S256x1280.Idx → EReal := fun y => I.P (256 * T + rowTime (y 0).val) (y 1).val
def rbuf : S280x1280.Idx → EReal := fun y => I.past (256 * T + rowTime (y 0).val) (y 1).val
def uB : S256x1280.Idx → EReal := fun y => I.u (256 * T + rowTime (y 0).val) (y 1).val
def preB : S2x256x1280.Idx → EReal := fun y => I.pre (y 0).val (256 * T + rowTime (y 1).val) (y 2).val

abbrev ldg (a n : ℕ) (h : ∀ i, (![0, a] : Fin 2 → ℕ) i + (![256, n] : Fin 2 → ℕ) i ≤ S256x1280.size i) :=
  View.ld (Val := Elt Ideal) (e' := .f32) (gbuf I T) (Rect.unit (s := S256x1280) ![0, a] ![256, n] h)
abbrev ldr (o s : Fin 2 → ℕ) (h : ∀ i, o i + s i ≤ S280x1280.size i) :=
  View.ld (Val := Elt Ideal) (e' := .f32) (rbuf I T) (Rect.unit (s := S280x1280) o s h)
abbrev ldp (o s : Fin 3 → ℕ) (h : ∀ i, o i + s i ≤ S2x256x1280.size i) :=
  View.ld (Val := Elt Ideal) (e' := .f32) (preB I T) (Rect.unit (s := S2x256x1280) o s h)
abbrev ldo (a : ℕ) (h : ∀ i, (![0, a] : Fin 2 → ℕ) i + (![256, 1280] : Fin 2 → ℕ) i ≤ S256x5120.size i) :=
  View.ld (Val := Elt Ideal) (e' := .bf16) (gatesB I T) (Rect.unit (s := S256x5120) ![0, a] ![256, 1280] h)
abbrev ldh (a : ℕ) (h : ∀ i, (![0, a] : Fin 2 → ℕ) i + (![256, 1280] : Fin 2 → ℕ) i ≤ S256x2560.size i) :=
  View.ld (Val := Elt Ideal) (e' := .bf16) (pB I T) (Rect.unit (s := S256x2560) ![0, a] ![256, 1280] h)
abbrev ldw (q : ℕ) (h : ∀ i, (![q, 0, 0] : Fin 3 → ℕ) i + (![1, 1024, 640] : Fin 3 → ℕ) i ≤ S4x1024x640.size i) :=
  View.ld (Val := Elt Ideal) (wB I) (Rect.unit (s := S4x1024x640) ![q, 0, 0] ![1, 1024, 640] h)
abbrev lda (k : ℕ) (h : ∀ i, (![k, 0, 0] : Fin 3 → ℕ) i + (![1, 128, 128] : Fin 3 → ℕ) i ≤ S10x128x128.size i) :=
  View.ld (Val := Elt Ideal) (waB I) (Rect.unit (s := S10x128x128) ![k, 0, 0] ![1, 128, 128] h)
abbrev ldx (k : ℕ) (h : ∀ i, (![k, 0, 0] : Fin 3 → ℕ) i + (![1, 128, 128] : Fin 3 → ℕ) i ≤ S10x128x128.size i) :=
  View.ld (Val := Elt Ideal) (wxB I) (Rect.unit (s := S10x128x128) ![k, 0, 0] ![1, 128, 128] h)
abbrev ldv (k : ℕ) (h : ∀ i, (![k, 0] : Fin 2 → ℕ) i + (![1, 1280] : Fin 2 → ℕ) i ≤ S8x1280.size i) :=
  View.ld (Val := Elt Ideal) (vB I) (Rect.unit (s := S8x1280) ![k, 0] ![1, 1280] h)
abbrev ldc (k : ℕ) (h : ∀ i, (![k, 0] : Fin 2 → ℕ) i + (![1, 1280] : Fin 2 → ℕ) i ≤ S4x1280.size i) :=
  View.ld (Val := Elt Ideal) (cwB I) (Rect.unit (s := S4x1280) ![k, 0] ![1, 1280] h)

/-! The projection. -/

theorem norm_eq : k0_pay7 (F := Ideal) (hB I T) (gB I) = hnB I T := by
  funext y
  pointwise [k0_pay7, k0_pay6, hB, gB, hnB, Ins.hn, rstd]

/-- A column of a block of the projection. -/
theorem P_block (τ q n : ℕ) (hn : n < 640) : I.P τ (640 * q + n) = ∑ k : Fin 1024, I.hn τ k.val * I.w q k.val n := by
  rw [Ins.P, show (640 * q + n) / 640 = q by omega, show (640 * q + n) % 640 = n by omega]

theorem past_row (r c : ℕ) : I.past (256 * T + rowTime (24 + r)) c = I.P (256 * T + rowTime r) (1280 + c) := by
  rw [show rowTime (24 + r) = rowTime r + 3 by simp only [rowTime]; omega, Ins.past, if_pos (by omega), ← Nat.add_assoc, Nat.add_sub_cancel]

theorem up0 : k0_pay9 (F := Ideal) (hB I T) (gB I) (ldw I 0 inb_S4x1024x640_S1x1024x640_0_0_0) = ldg I T 0 640 inb_S256x1280_S256x640_0_0 := by
  funext y
  refine Eq.trans ?_ ((P_block I (256 * T + rowTime (y 0).val) 0 (y 1).val (y 1).isLt).symm.trans (congrArg₂ I.P (by simp) (by simp)))
  pointwise [k0_pay9, norm_eq, hnB, wB, View.ld]

theorem up1 : k0_pay12 (F := Ideal) (hnB I T) (ldw I 1 inb_S4x1024x640_S1x1024x640_1_0_0) = ldg I T 640 640 inb_S256x1280_S256x640_0_640 := by
  funext y
  refine Eq.trans ?_ ((P_block I (256 * T + rowTime (y 0).val) 1 (y 1).val (y 1).isLt).symm.trans (congrArg₂ I.P (by simp) (by simp)))
  pointwise [k0_pay12, hnB, wB, View.ld]

theorem up2 : k0_pay11 (F := Ideal) (k0_pay10 (hB I T) (gB I) (ldw I 2 inb_S4x1024x640_S1x1024x640_2_0_0))
    = ldr I T ![24, 0] ![256, 640] inb_S280x1280_S256x640_24_0 := by
  funext y
  refine Eq.trans ?_ ((P_block I (256 * T + rowTime (y 0).val) 2 (y 1).val (y 1).isLt).symm.trans ((past_row I T (y 0).val (y 1).val).symm.trans
    (congrArg₂ I.past (by simp) (by simp))))
  pointwise [k0_pay11, k0_pay10, norm_eq, hnB, wB, View.ld]

theorem up3 : k0_pay13 (F := Ideal) (hnB I T) (ldw I 3 inb_S4x1024x640_S1x1024x640_3_0_0)
    = ldr I T ![24, 640] ![256, 640] inb_S280x1280_S256x640_24_640 := by
  funext y
  refine Eq.trans ?_ ((P_block I (256 * T + rowTime (y 0).val) 3 (y 1).val (y 1).isLt).symm.trans (Eq.trans (congrArg _ (by omega))
    ((past_row I T (y 0).val (640 + (y 1).val)).symm.trans (congrArg₂ I.past (by simp) (by simp)))))
  pointwise [k0_pay13, hnB, wB, View.ld]

theorem left_eq : k0_pay14 (F := Ideal) (ldg I T 0 1280 inb_S256x1280_S256x1280_0_0) = ldh I T 0 inb_S256x2560_S256x1280_0_0 := by
  funext y
  pointwise [k0_pay14, gbuf, pB, View.ld]

theorem right_eq : k0_pay15 (F := Ideal) (ldr I T ![24, 0] ![256, 1280] inb_S280x1280_S256x1280_24_0) = ldh I T 1280 inb_S256x2560_S256x1280_0_1280 := by
  funext y
  refine Eq.trans ?_ ((past_row I T (y 0).val (y 1).val).trans (congrArg₂ I.P (by simp) (by simp)))
  pointwise [k0_pay15, rbuf, View.ld]

/-! The rows before the tile. -/

/-- What is kept of the tile before: its last rows of the recurrence's branch. -/
def Carried (x : S24x1280.Idx → EReal) : Prop := ∀ (j : Fin 3) (c : Fin 1280), x (ix2 ⟨8 * j.val + 7, by omega⟩ c) = I.past (256 * T + j.val) c.val

/-- Eight of the kept rows. -/
def carry (x : S24x1280.Idx → EReal) (o : ℕ) (h : o + 8 ≤ 24) : S8x1280.Idx → EReal :=
  fun y => x (ix2 ⟨o + (y 0).val, by have h' : (y 0).val < 8 := (y 0).isLt; omega⟩ (y 1))

theorem kept (x : S24x1280.Idx → EReal) : k0_pay8 (F := Ideal) x = x := by
  funext y
  pointwise [k0_pay8]

theorem carried_zero : Carried I 0 (k0_pay4 (F := Ideal)) := by
  intro j c
  rw [Ins.past, if_neg (by omega)]
  pointwise [k0_pay4]

theorem keep_eq : Carried I (T + 1) (k0_pay16 (F := Ideal) (ldr I T ![256, 0] ![24, 1280] inb_S280x1280_S24x1280_256_0)) := by
  intro j c
  have hj := j.isLt
  pointwise [k0_pay16, rbuf, View.ld]
  refine congrArg (fun τ => I.past τ _) ?_
  simp only [rowTime]
  omega

/-- Eight rows of the tile before put in front of the tile's, one row later within eight. -/
theorem link (x : S24x1280.Idx → EReal) (hx : Carried I T x) (j : Fin 3) (h0 h1 h2) :
    k0_pay17 (F := Ideal) (carry x (8 * j.val) h0) (ldr I T ![256 + 8 * j.val, 0] ![8, 1280] h1) = ldr I T ![8 * j.val, 0] ![8, 1280] h2 := by
  funext y
  have hy : (y 0).val < 8 := (y 0).isLt
  have hj := j.isLt
  suffices hs : _ = I.past (256 * T + rowTime (8 * j.val + (y 0).val)) (y 1).val from hs.trans (congrArg₂ I.past (by simp) (by simp))
  pointwise [k0_pay17, carry, rbuf, View.ld]
  rw [select_row _ hy]
  by_cases h : (y 0).val = 0
  · rw [if_pos h]
    refine Eq.trans (congrArg x ?_) ((hx j (y 1)).trans (congrArg₂ I.past (by simp only [rowTime]; omega) rfl))
    exact funext (Fin.forall_fin_two.mpr ⟨Fin.ext (by simp [h]), Fin.ext (by simp)⟩)
  · rw [if_neg h]
    refine congrArg (fun τ => I.past τ _) ?_
    simp only [rowTime]
    omega

/-! The convolution and the gates. -/

theorem tap (k : ℕ) (h) (y : S256x1280.Idx) : ldr I T ![8 * k, 0] ![256, 1280] h y = I.past (256 * T + rowTime (y 0).val + k) (y 1).val := by
  refine Eq.trans (congrArg₂ I.past ?_ (by simp) : _ = I.past (256 * T + rowTime (8 * k + (y 0).val)) (y 1).val) (congrArg (fun τ => I.past τ _) ?_)
  · simp
  · simp only [rowTime]; omega

theorem tap0 (h) (y) : ldr I T ![0, 0] ![256, 1280] h y = I.past (256 * T + rowTime (y 0).val) (y 1).val := tap I T 0 h y
theorem tap1 (h) (y) : ldr I T ![8, 0] ![256, 1280] h y = I.past (256 * T + rowTime (y 0).val + 1) (y 1).val := tap I T 1 h y
theorem tap2 (h) (y) : ldr I T ![16, 0] ![256, 1280] h y = I.past (256 * T + rowTime (y 0).val + 2) (y 1).val := tap I T 2 h y
theorem tap3 (h) (y) : ldr I T ![24, 0] ![256, 1280] h y = I.past (256 * T + rowTime (y 0).val + 3) (y 1).val := tap I T 3 h y

theorem ldc_eq (k : ℕ) (h) (n : Fin 1280) : ldc I k h (ix2 0 n) = I.cw k n.val := congrArg₂ I.cw (by simp) (by simp)
theorem ldv_eq (k : ℕ) (h) (n : Fin 1280) : ldv I k h (ix2 0 n) = I.v k n.val := congrArg₂ I.v (by simp) (by simp)

theorem conv_eq (h0 h1 h2 h3 k0 k1 k2 k3 kv) :
    k0_pay21 (F := Ideal) (ldr I T ![0, 0] ![256, 1280] h0) (ldr I T ![8, 0] ![256, 1280] h1) (ldr I T ![16, 0] ![256, 1280] h2)
      (ldr I T ![24, 0] ![256, 1280] h3) (ldc I 0 k0) (ldc I 1 k1) (ldc I 2 k2) (ldc I 3 k3) (ldv I 0 kv) = uB I T := by
  funext y
  pointwise [k0_pay21, tap0, tap1, tap2, tap3, ldc_eq, ldv_eq, uB, Ins.u]

theorem u_eq : k0_pay52 (F := Ideal) (uB I T) = ldo I T 0 inb_S256x5120_S256x1280_0_0 := by
  funext y
  have h1 : (y 1).val < 1280 := (y 1).isLt
  suffices hs : _ = I.gates (256 * T + rowTime (y 0).val) (y 1).val from hs.trans (congrArg₂ I.gates (by simp) (by simp))
  rw [Ins.gates, if_pos h1]
  pointwise [k0_pay52, uB]

theorem tanh_eq : k0_pay2 (F := Ideal) (ldg I T 0 1280 inb_S256x1280_S256x1280_0_0) (k0_pay236 (ldg I T 0 1280 inb_S256x1280_S256x1280_0_0))
    = ldo I T 3840 inb_S256x5120_S256x1280_0_3840 := by
  funext y
  have h1 : (y 1).val < 1280 := (y 1).isLt
  suffices hs : _ = I.gates (256 * T + rowTime (y 0).val) (3840 + (y 1).val) from hs.trans (congrArg₂ I.gates (by simp) (by simp))
  rw [Ins.gates, if_neg (by omega), if_neg (by omega), if_neg (by omega), Nat.add_sub_cancel_left]
  pointwise [k0_pay2, k0_pay1, k0_pay236, gbuf, th, View.ld]

theorem r_eq : k0_pay53 (F := Ideal) (k0_pay48 (ldp I T ![0, 0, 0] ![1, 256, 1280] inb_S2x256x1280_S1x256x1280_0_0_0)) (k0_pay49 (ldv I 1 inb_S8x1280_S1x1280_1_0))
    = ldo I T 1280 inb_S256x5120_S256x1280_0_1280 := by
  funext y
  have h1 : (y 1).val < 1280 := (y 1).isLt
  suffices hs : _ = I.gates (256 * T + rowTime (y 0).val) (1280 + (y 1).val) from hs.trans (congrArg₂ I.gates (by simp) (by simp))
  rw [Ins.gates, if_neg (by omega), if_pos (by omega), Nat.add_sub_cancel_left]
  pointwise [k0_pay53, k0_pay50, k0_pay48, k0_pay49, preB, vB, sg, View.ld]

theorem i_eq : k0_pay54 (F := Ideal) (ldp I T ![1, 0, 0] ![1, 256, 1280] inb_S2x256x1280_S1x256x1280_1_0_0) (ldv I 2 inb_S8x1280_S1x1280_2_0)
    = ldo I T 2560 inb_S256x5120_S256x1280_0_2560 := by
  funext y
  have h1 : (y 1).val < 1280 := (y 1).isLt
  suffices hs : _ = I.gates (256 * T + rowTime (y 0).val) (2560 + (y 1).val) from hs.trans (congrArg₂ I.gates (by simp) (by simp))
  rw [Ins.gates, if_neg (by omega), if_neg (by omega), if_pos (by omega), Nat.add_sub_cancel_left]
  pointwise [k0_pay54, k0_pay51, preB, vB, sg, View.ld]

/-- The product of 128 columns of the convolution with a gate's block. -/
theorem gate (q k : ℕ) (W : Vec Ideal S1x128x128 .bf16) (hW : ∀ i j : Fin 128, W (ix3 0 i j) = (if q = 0 then I.wa else I.wx) k i.val j.val) (hs h1 h2 h) :
    shapeCast S1x256x128 (matmul (F := Ideal) (φ₁ := .bf16) (φ₂ := .bf16) dot_S256x128_S128x128_S256x128_1_0_0_1_n_n none
      (extractStridedSlice S256x128 ![0, 128 * k] (α := EReal) (uB I T) hs : FVec Ideal S256x128 .bf16) (shapeCast S128x128 W h1) (constant S256x128 .f32 0x00000000#32)) h2
      = ldp I T ![q, 0, 128 * k] ![1, 256, 128] h := by
  funext y
  have hy : (y 2).val < 128 := (y 2).isLt
  have h0 : (y 0).val < 1 := (y 0).isLt
  suffices hs : _ = I.pre q (256 * T + rowTime (y 1).val) (128 * k + (y 2).val) from
    hs.trans (congrArg₂ (fun f c => f c) (congrArg₂ I.pre (by simp) (by simp)) (by simp))
  rw [Ins.pre, show (128 * k + (y 2).val) / 128 = k by omega, show (128 * k + (y 2).val) % 128 = (y 2).val by omega]
  pointwise [uB, hW]

theorem lda_eq (k : ℕ) (h) (i j : Fin 128) : lda I k h (ix3 0 i j) = (if 0 = 0 then I.wa else I.wx) k i.val j.val :=
  congrArg₂ (fun f c => f c) (congrArg₂ I.wa (by simp) (by simp)) (by simp)
theorem ldx_eq (k : ℕ) (h) (i j : Fin 128) : ldx I k h (ix3 0 i j) = (if 1 = 0 then I.wa else I.wx) k i.val j.val :=
  congrArg₂ (fun f c => f c) (congrArg₂ I.wx (by simp) (by simp)) (by simp)

end Cert.Rg

end
-- ==== Proof.Rg.Block.lean ====
/- What the RG-LRU's forward call reads back from its scratch buffers. -/
module

public import proofs.«01_k».proof.Proof.Rg.Tile

@[expose] public section

set_option maxRecDepth 16384

noncomputable section

open Idealize.ShloMosaic Idealize.ShloMosaic.TcCoe Idealize.SL.Sem

namespace Cert.Rg

open Cert.Kernel6Ideal Cert.Kernel6Ideal.Gen

/-- A load reads the array whose blocks were stored over all it reads, whatever was stored before. -/
theorem read_ld {σ : RefSig} {κ : Kind} {sp : Space} {s : Shape} {e : EltTy} (v : View σ κ sp s e) (G : s.Idx → Elt Ideal e) (L L' : List (View.Piece (Elt Ideal) s e))
    (hL : View.PiecesOf (Val := Elt Ideal) (e := e) G L) (o n : Fin s.rank → ℕ) (h) (hc : ∀ y, (∀ a, o a ≤ (y a).val ∧ (y a).val < o a + n a) → ∃ p ∈ L, y ∈ p.1.set) :
    v.readCov (L ++ L') (Rect.unit (s := s) o n h).toLoadRect = View.ld (Val := Elt Ideal) (e' := e) G (Rect.unit (s := s) o n h) := by
  rw [View.readCov_eq_canon']
  funext j
  exact View.canon_append_of_piecesOf (Val := Elt Ideal) (e := e) G L' L hL _ (hc _ (Rect.mem_set_unit.mp (LoadRect.idx_mem _ j)))

section
variable (I : Ins) (T : ℕ) {σ : RefSig} {κ : Kind} {sp : Space}

/-! The gelu's branch, and a result of two halves. -/

abbrev pg (a n : ℕ) (h : ∀ i, (![0, a] : Fin 2 → ℕ) i + (![256, n] : Fin 2 → ℕ) i ≤ S256x1280.size i) : View.Piece (Elt Ideal) S256x1280 .f32 := ⟨Rect.unit (s := S256x1280) ![0, a] ![256, n] h, ldg I T a n h⟩

theorem read_g (v : View σ κ sp S256x1280 .f32) (h) : v.readCov [pg I T 640 640 inb_S256x1280_S256x640_0_640, pg I T 0 640 inb_S256x1280_S256x640_0_0]
    (Rect.unit (s := S256x1280) ![0, 0] ![256, 1280] h).toLoadRect = ldg I T 0 1280 h := by
  refine read_ld v (gbuf I T) [_, _] [] ⟨fun _ => rfl, fun _ => rfl, trivial⟩ _ _ _ fun y hy => ?_
  have h0 : (y 0).val < 256 := (y 0).isLt
  have h1 : (y 1).val < 1280 := (y 1).isLt
  simp [Rect.mem_set_unit, Fin.forall_fin_two]
  omega

theorem hh_eq (y : S256x2560.Idx) : View.canon (Val := Elt Ideal) (s := S256x2560) (e := .bf16)
    [⟨Rect.unit (s := S256x2560) ![0, 1280] ![256, 1280] inb_S256x2560_S256x1280_0_1280, ldh I T 1280 inb_S256x2560_S256x1280_0_1280⟩,
     ⟨Rect.unit (s := S256x2560) ![0, 0] ![256, 1280] inb_S256x2560_S256x1280_0_0, ldh I T 0 inb_S256x2560_S256x1280_0_0⟩] y = pB I T y := by
  refine View.canon_append_of_piecesOf (Val := Elt Ideal) (s := S256x2560) (e := .bf16) (pB I T) [] [_, _] ⟨fun _ => rfl, fun _ => rfl, trivial⟩ y ?_
  have h0 : (y 0).val < 256 := (y 0).isLt
  have h1 : (y 1).val < 2560 := (y 1).isLt
  simp [Rect.mem_set_unit, Fin.forall_fin_two]
  omega

abbrev po (a : ℕ) (h : ∀ i, (![0, a] : Fin 2 → ℕ) i + (![256, 1280] : Fin 2 → ℕ) i ≤ S256x5120.size i) : View.Piece (Elt Ideal) S256x5120 .bf16 := ⟨Rect.unit (s := S256x5120) ![0, a] ![256, 1280] h, ldo I T a h⟩

theorem gates_eq (y : S256x5120.Idx) : View.canon (Val := Elt Ideal) (s := S256x5120) (e := .bf16)
    [po I T 3840 inb_S256x5120_S256x1280_0_3840, po I T 2560 inb_S256x5120_S256x1280_0_2560, po I T 1280 inb_S256x5120_S256x1280_0_1280,
     po I T 0 inb_S256x5120_S256x1280_0_0] y = gatesB I T y := by
  refine View.canon_append_of_piecesOf (Val := Elt Ideal) (s := S256x5120) (e := .bf16) (gatesB I T) [] [_, _, _, _]
    ⟨fun _ => rfl, fun _ => rfl, fun _ => rfl, fun _ => rfl, trivial⟩ y ?_
  have h0 : (y 0).val < 256 := (y 0).isLt
  have h1 : (y 1).val < 5120 := (y 1).isLt
  simp [Rect.mem_set_unit, Fin.forall_fin_two]
  omega

/-! The recurrence's branch. -/

abbrev pr (o s : Fin 2 → ℕ) (h : ∀ i, o i + s i ≤ S280x1280.size i) : View.Piece (Elt Ideal) S280x1280 .f32 := ⟨Rect.unit (s := S280x1280) o s h, ldr I T o s h⟩

variable (v : View σ κ sp S280x1280 .f32) (L : List (View.Piece (Elt Ideal) S280x1280 .f32))

/-- A load of the tile's rows. -/
theorem read_own (a n : ℕ) (h) (ha : 24 ≤ a) :
    v.readCov (pr I T ![24, 640] ![256, 640] inb_S280x1280_S256x640_24_640 :: pr I T ![24, 0] ![256, 640] inb_S280x1280_S256x640_24_0 :: L)
      (Rect.unit (s := S280x1280) ![a, 0] ![n, 1280] h).toLoadRect = ldr I T ![a, 0] ![n, 1280] h := by
  refine read_ld v (rbuf I T) [_, _] L ⟨fun _ => rfl, fun _ => rfl, trivial⟩ _ _ _ fun y hy => ?_
  have h0 : (y 0).val < 280 := (y 0).isLt
  have h1 : (y 1).val < 1280 := (y 1).isLt
  have h2 := hy 0
  simp [Rect.mem_set_unit, Fin.forall_fin_two] at h2 ⊢
  omega

/-- A load from the sixteenth row on, these once linked. -/
theorem read_link2 (h) :
    v.readCov (pr I T ![16, 0] ![8, 1280] inb_S280x1280_S8x1280_16_0 :: pr I T ![24, 640] ![256, 640] inb_S280x1280_S256x640_24_640
      :: pr I T ![24, 0] ![256, 640] inb_S280x1280_S256x640_24_0 :: L)
      (Rect.unit (s := S280x1280) ![16, 0] ![256, 1280] h).toLoadRect = ldr I T ![16, 0] ![256, 1280] h := by
  refine read_ld v (rbuf I T) [_, _, _] L ⟨fun _ => rfl, fun _ => rfl, fun _ => rfl, trivial⟩ _ _ _ fun y hy => ?_
  have h0 : (y 0).val < 280 := (y 0).isLt
  have h1 : (y 1).val < 1280 := (y 1).isLt
  have h2 := hy 0
  simp [Rect.mem_set_unit, Fin.forall_fin_two] at h2 ⊢
  omega

/-- A load from the eighth row on. -/
theorem read_link1 (h8) (h) :
    v.readCov (pr I T ![8, 0] ![8, 1280] h8 :: pr I T ![16, 0] ![8, 1280] inb_S280x1280_S8x1280_16_0
      :: pr I T ![24, 640] ![256, 640] inb_S280x1280_S256x640_24_640 :: pr I T ![24, 0] ![256, 640] inb_S280x1280_S256x640_24_0 :: L)
      (Rect.unit (s := S280x1280) ![8, 0] ![256, 1280] h).toLoadRect = ldr I T ![8, 0] ![256, 1280] h := by
  refine read_ld v (rbuf I T) [_, _, _, _] L ⟨fun _ => rfl, fun _ => rfl, fun _ => rfl, fun _ => rfl, trivial⟩ _ _ _ fun y hy => ?_
  have h0 : (y 0).val < 280 := (y 0).isLt
  have h1 : (y 1).val < 1280 := (y 1).isLt
  have h2 := hy 0
  simp [Rect.mem_set_unit, Fin.forall_fin_two] at h2 ⊢
  omega

/-- A load from the first row on. -/
theorem read_link0 (h0 h8) (h) :
    v.readCov (pr I T ![0, 0] ![8, 1280] h0 :: pr I T ![8, 0] ![8, 1280] h8 :: pr I T ![16, 0] ![8, 1280] inb_S280x1280_S8x1280_16_0
      :: pr I T ![24, 640] ![256, 640] inb_S280x1280_S256x640_24_640 :: pr I T ![24, 0] ![256, 640] inb_S280x1280_S256x640_24_0 :: L)
      (Rect.unit (s := S280x1280) ![0, 0] ![256, 1280] h).toLoadRect = ldr I T ![0, 0] ![256, 1280] h := by
  refine read_ld v (rbuf I T) [_, _, _, _, _] L ⟨fun _ => rfl, fun _ => rfl, fun _ => rfl, fun _ => rfl, fun _ => rfl, trivial⟩ _ _ _ fun y hy => ?_
  have h0 : (y 0).val < 280 := (y 0).isLt
  have h1 : (y 1).val < 1280 := (y 1).isLt
  have h2 := hy 0
  simp [Rect.mem_set_unit, Fin.forall_fin_two] at h2 ⊢
  omega

/-- A load of eight rows of those kept from the tile before. -/
theorem read_kept (x : S24x1280.Idx → EReal) (o : ℕ) (inb) (h : o + 8 ≤ 24) :
    v.readCov (⟨Rect.unit (s := S280x1280) ![0, 0] ![24, 1280] inb_S280x1280_S24x1280_0_0, x⟩ :: L)
      (Rect.unit (s := S280x1280) ![o, 0] ![8, 1280] inb).toLoadRect = carry x o h := by
  rw [View.readCov_eq_canon']
  funext j
  have hlt : (j 0).val < 8 := (j 0).isLt
  rw [show (Rect.unit (s := S280x1280) ![o, 0] ![8, 1280] inb).idx j = (Rect.unit (s := S280x1280) ![0, 0] ![24, 1280] inb_S280x1280_S24x1280_0_0).emb
    (ix2 ⟨o + (j 0).val, by omega⟩ (j 1) : S24x1280.Idx) from funext (Fin.forall_fin_two.mpr ⟨Fin.ext (by simp), Fin.ext (by simp)⟩)]
  exact View.canon_cons_emb _ _ _ _

end

end Cert.Rg

end
-- ==== Proof.Rg.Gate.lean ====
/- The products of the convolution with the gates' blocks, ten for each gate, and what is read back of them. -/
module

public import proofs.«01_k».proof.Proof.Rg.Block

@[expose] public section

set_option maxRecDepth 16384

noncomputable section

open Idealize.ShloMosaic Idealize.ShloMosaic.TcCoe Idealize.SL.Sem

namespace Cert.Rg

open Cert.Kernel6Ideal Cert.Kernel6Ideal.Gen

variable (I : Ins) (T : ℕ)

/-- The convolution as the products read it. -/
theorem conv_cast (h0 h1 h2 h3 k0 k1 k2 k3 kv) :
    k0_pay22 (F := Ideal) (ldr I T ![0, 0] ![256, 1280] h0) (ldr I T ![8, 0] ![256, 1280] h1) (ldr I T ![16, 0] ![256, 1280] h2)
      (ldr I T ![24, 0] ![256, 1280] h3) (ldc I 0 k0) (ldc I 1 k1) (ldc I 2 k2) (ldc I 3 k3) (ldv I 0 kv) = uB I T := by
  rw [k0_pay22, conv_eq]
  rfl

theorem a0 (h0 h1 h2 h3 k0 k1 k2 k3 kv) :
    k0_pay24 (F := Ideal) (k0_pay23 (ldr I T ![0, 0] ![256, 1280] h0) (ldr I T ![8, 0] ![256, 1280] h1) (ldr I T ![16, 0] ![256, 1280] h2)
      (ldr I T ![24, 0] ![256, 1280] h3) (ldc I 0 k0) (ldc I 1 k1) (ldc I 2 k2) (ldc I 3 k3) (ldv I 0 kv) (lda I 0 inb_S10x128x128_S1x128x128_0_0_0))
      = ldp I T ![0, 0, 0] ![1, 256, 128] inb_S2x256x1280_S1x256x128_0_0_0 := by
  rw [k0_pay23, conv_cast]
  exact gate I T 0 0 _ (lda_eq I 0 _) _ _ _ _
theorem x0 : k0_pay25 (F := Ideal) (uB I T) (ldx I 0 inb_S10x128x128_S1x128x128_0_0_0) = ldp I T ![1, 0, 0] ![1, 256, 128] inb_S2x256x1280_S1x256x128_1_0_0 := gate I T 1 0 _ (ldx_eq I 0 _) _ _ _ _
theorem a1 : k0_pay26 (F := Ideal) (uB I T) (lda I 1 inb_S10x128x128_S1x128x128_1_0_0) = ldp I T ![0, 0, 128] ![1, 256, 128] inb_S2x256x1280_S1x256x128_0_0_128 := gate I T 0 1 _ (lda_eq I 1 _) _ _ _ _
theorem x1 : k0_pay27 (F := Ideal) (uB I T) (ldx I 1 inb_S10x128x128_S1x128x128_1_0_0) = ldp I T ![1, 0, 128] ![1, 256, 128] inb_S2x256x1280_S1x256x128_1_0_128 := gate I T 1 1 _ (ldx_eq I 1 _) _ _ _ _
theorem a2 : k0_pay29 (F := Ideal) (k0_pay28 (uB I T) (lda I 2 inb_S10x128x128_S1x128x128_2_0_0)) = ldp I T ![0, 0, 256] ![1, 256, 128] inb_S2x256x1280_S1x256x128_0_0_256 := gate I T 0 2 _ (lda_eq I 2 _) _ _ _ _
theorem x2 : k0_pay30 (F := Ideal) (uB I T) (ldx I 2 inb_S10x128x128_S1x128x128_2_0_0) = ldp I T ![1, 0, 256] ![1, 256, 128] inb_S2x256x1280_S1x256x128_1_0_256 := gate I T 1 2 _ (ldx_eq I 2 _) _ _ _ _
theorem a3 : k0_pay31 (F := Ideal) (uB I T) (lda I 3 inb_S10x128x128_S1x128x128_3_0_0) = ldp I T ![0, 0, 384] ![1, 256, 128] inb_S2x256x1280_S1x256x128_0_0_384 := gate I T 0 3 _ (lda_eq I 3 _) _ _ _ _
theorem x3 : k0_pay32 (F := Ideal) (uB I T) (ldx I 3 inb_S10x128x128_S1x128x128_3_0_0) = ldp I T ![1, 0, 384] ![1, 256, 128] inb_S2x256x1280_S1x256x128_1_0_384 := gate I T 1 3 _ (ldx_eq I 3 _) _ _ _ _
theorem a4 : k0_pay34 (F := Ideal) (k0_pay33 (uB I T) (lda I 4 inb_S10x128x128_S1x128x128_4_0_0)) = ldp I T ![0, 0, 512] ![1, 256, 128] inb_S2x256x1280_S1x256x128_0_0_512 := gate I T 0 4 _ (lda_eq I 4 _) _ _ _ _
theorem x4 : k0_pay35 (F := Ideal) (uB I T) (ldx I 4 inb_S10x128x128_S1x128x128_4_0_0) = ldp I T ![1, 0, 512] ![1, 256, 128] inb_S2x256x1280_S1x256x128_1_0_512 := gate I T 1 4 _ (ldx_eq I 4 _) _ _ _ _
theorem a5 : k0_pay36 (F := Ideal) (uB I T) (lda I 5 inb_S10x128x128_S1x128x128_5_0_0) = ldp I T ![0, 0, 640] ![1, 256, 128] inb_S2x256x1280_S1x256x128_0_0_640 := gate I T 0 5 _ (lda_eq I 5 _) _ _ _ _
theorem x5 : k0_pay37 (F := Ideal) (uB I T) (ldx I 5 inb_S10x128x128_S1x128x128_5_0_0) = ldp I T ![1, 0, 640] ![1, 256, 128] inb_S2x256x1280_S1x256x128_1_0_640 := gate I T 1 5 _ (ldx_eq I 5 _) _ _ _ _
theorem a6 : k0_pay39 (F := Ideal) (k0_pay38 (uB I T) (lda I 6 inb_S10x128x128_S1x128x128_6_0_0)) = ldp I T ![0, 0, 768] ![1, 256, 128] inb_S2x256x1280_S1x256x128_0_0_768 := gate I T 0 6 _ (lda_eq I 6 _) _ _ _ _
theorem x6 : k0_pay40 (F := Ideal) (uB I T) (ldx I 6 inb_S10x128x128_S1x128x128_6_0_0) = ldp I T ![1, 0, 768] ![1, 256, 128] inb_S2x256x1280_S1x256x128_1_0_768 := gate I T 1 6 _ (ldx_eq I 6 _) _ _ _ _
theorem a7 : k0_pay41 (F := Ideal) (uB I T) (lda I 7 inb_S10x128x128_S1x128x128_7_0_0) = ldp I T ![0, 0, 896] ![1, 256, 128] inb_S2x256x1280_S1x256x128_0_0_896 := gate I T 0 7 _ (lda_eq I 7 _) _ _ _ _
theorem x7 : k0_pay42 (F := Ideal) (uB I T) (ldx I 7 inb_S10x128x128_S1x128x128_7_0_0) = ldp I T ![1, 0, 896] ![1, 256, 128] inb_S2x256x1280_S1x256x128_1_0_896 := gate I T 1 7 _ (ldx_eq I 7 _) _ _ _ _
theorem a8 : k0_pay44 (F := Ideal) (k0_pay43 (uB I T) (lda I 8 inb_S10x128x128_S1x128x128_8_0_0)) = ldp I T ![0, 0, 1024] ![1, 256, 128] inb_S2x256x1280_S1x256x128_0_0_1024 := gate I T 0 8 _ (lda_eq I 8 _) _ _ _ _
theorem x8 : k0_pay45 (F := Ideal) (uB I T) (ldx I 8 inb_S10x128x128_S1x128x128_8_0_0) = ldp I T ![1, 0, 1024] ![1, 256, 128] inb_S2x256x1280_S1x256x128_1_0_1024 := gate I T 1 8 _ (ldx_eq I 8 _) _ _ _ _
theorem a9 : k0_pay46 (F := Ideal) (uB I T) (lda I 9 inb_S10x128x128_S1x128x128_9_0_0) = ldp I T ![0, 0, 1152] ![1, 256, 128] inb_S2x256x1280_S1x256x128_0_0_1152 := gate I T 0 9 _ (lda_eq I 9 _) _ _ _ _
theorem x9 : k0_pay47 (F := Ideal) (uB I T) (ldx I 9 inb_S10x128x128_S1x128x128_9_0_0) = ldp I T ![1, 0, 1152] ![1, 256, 128] inb_S2x256x1280_S1x256x128_1_0_1152 := gate I T 1 9 _ (ldx_eq I 9 _) _ _ _ _

abbrev pp (q a : ℕ) (h : ∀ i, (![q, 0, a] : Fin 3 → ℕ) i + (![1, 256, 128] : Fin 3 → ℕ) i ≤ S2x256x1280.size i) : View.Piece (Elt Ideal) S2x256x1280 .f32 :=
  ⟨Rect.unit (s := S2x256x1280) ![q, 0, a] ![1, 256, 128] h, ldp I T ![q, 0, a] ![1, 256, 128] h⟩

/-- A place in a block of a gate's products. -/
theorem mem_pp (q a : ℕ) (h) (y : S2x256x1280.Idx) : y ∈ (pp I T q a h).1.set ↔ (y 0).val = q ∧ a ≤ (y 2).val ∧ (y 2).val < a + 128 := by
  have h1 : (y 1).val < 256 := (y 1).isLt
  rw [Rect.mem_set_unit]
  simp [Fin.forall_fin_succ]
  omega

/-- All the products, or all but one. -/
abbrev tail : List (View.Piece (Elt Ideal) S2x256x1280 .f32) := [pp I T 0 1152 inb_S2x256x1280_S1x256x128_0_0_1152,
  pp I T 1 1024 inb_S2x256x1280_S1x256x128_1_0_1024,
  pp I T 0 1024 inb_S2x256x1280_S1x256x128_0_0_1024,
  pp I T 1 896 inb_S2x256x1280_S1x256x128_1_0_896,
  pp I T 0 896 inb_S2x256x1280_S1x256x128_0_0_896,
  pp I T 1 768 inb_S2x256x1280_S1x256x128_1_0_768,
  pp I T 0 768 inb_S2x256x1280_S1x256x128_0_0_768,
  pp I T 1 640 inb_S2x256x1280_S1x256x128_1_0_640,
  pp I T 0 640 inb_S2x256x1280_S1x256x128_0_0_640,
  pp I T 1 512 inb_S2x256x1280_S1x256x128_1_0_512,
  pp I T 0 512 inb_S2x256x1280_S1x256x128_0_0_512,
  pp I T 1 384 inb_S2x256x1280_S1x256x128_1_0_384,
  pp I T 0 384 inb_S2x256x1280_S1x256x128_0_0_384,
  pp I T 1 256 inb_S2x256x1280_S1x256x128_1_0_256,
  pp I T 0 256 inb_S2x256x1280_S1x256x128_0_0_256,
  pp I T 1 128 inb_S2x256x1280_S1x256x128_1_0_128,
  pp I T 0 128 inb_S2x256x1280_S1x256x128_0_0_128,
  pp I T 1 0 inb_S2x256x1280_S1x256x128_1_0_0,
  pp I T 0 0 inb_S2x256x1280_S1x256x128_0_0_0]

theorem tail_of : View.PiecesOf (Val := Elt Ideal) (e := .f32) (preB I T) (tail I T) := ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, trivial⟩

theorem covered (q : ℕ) (hq : q < 2) (y : S2x256x1280.Idx) (h0 : (y 0).val = q) (h : q = 0 ∨ (y 2).val < 1152) : ∃ p ∈ tail I T, y ∈ p.1.set := by
  have h2 : (y 2).val < 1280 := (y 2).isLt
  obtain ⟨k, hk⟩ : ∃ k, k = (y 2).val / 128 := ⟨_, rfl⟩
  have hk' : k < 10 := by omega
  interval_cases q <;> interval_cases k
  · exact ⟨pp I T 0 0 inb_S2x256x1280_S1x256x128_0_0_0, (.tail _ (.tail _ (.tail _ (.tail _ (.tail _ (.tail _ (.tail _ (.tail _ (.tail _ (.tail _ (.tail _ (.tail _ (.tail _ (.tail _ (.tail _ (.tail _ (.tail _ (.tail _ (.head _))))))))))))))))))), (mem_pp I T _ _ _ y).mpr (by omega)⟩
  · exact ⟨pp I T 0 128 inb_S2x256x1280_S1x256x128_0_0_128, (.tail _ (.tail _ (.tail _ (.tail _ (.tail _ (.tail _ (.tail _ (.tail _ (.tail _ (.tail _ (.tail _ (.tail _ (.tail _ (.tail _ (.tail _ (.tail _ (.head _))))))))))))))))), (mem_pp I T _ _ _ y).mpr (by omega)⟩
  · exact ⟨pp I T 0 256 inb_S2x256x1280_S1x256x128_0_0_256, (.tail _ (.tail _ (.tail _ (.tail _ (.tail _ (.tail _ (.tail _ (.tail _ (.tail _ (.tail _ (.tail _ (.tail _ (.tail _ (.tail _ (.head _))))))))))))))), (mem_pp I T _ _ _ y).mpr (by omega)⟩
  · exact ⟨pp I T 0 384 inb_S2x256x1280_S1x256x128_0_0_384, (.tail _ (.tail _ (.tail _ (.tail _ (.tail _ (.tail _ (.tail _ (.tail _ (.tail _ (.tail _ (.tail _ (.tail _ (.head _))))))))))))), (mem_pp I T _ _ _ y).mpr (by omega)⟩
  · exact ⟨pp I T 0 512 inb_S2x256x1280_S1x256x128_0_0_512, (.tail _ (.tail _ (.tail _ (.tail _ (.tail _ (.tail _ (.tail _ (.tail _ (.tail _ (.tail _ (.head _))))))))))), (mem_pp I T _ _ _ y).mpr (by omega)⟩
  · exact ⟨pp I T 0 640 inb_S2x256x1280_S1x256x128_0_0_640, (.tail _ (.tail _ (.tail _ (.tail _ (.tail _ (.tail _ (.tail _ (.tail _ (.head _))))))))), (mem_pp I T _ _ _ y).mpr (by omega)⟩
  · exact ⟨pp I T 0 768 inb_S2x256x1280_S1x256x128_0_0_768, (.tail _ (.tail _ (.tail _ (.tail _ (.tail _ (.tail _ (.head _))))))), (mem_pp I T _ _ _ y).mpr (by omega)⟩
  · exact ⟨pp I T 0 896 inb_S2x256x1280_S1x256x128_0_0_896, (.tail _ (.tail _ (.tail _ (.tail _ (.head _))))), (mem_pp I T _ _ _ y).mpr (by omega)⟩
  · exact ⟨pp I T 0 1024 inb_S2x256x1280_S1x256x128_0_0_1024, (.tail _ (.tail _ (.head _))), (mem_pp I T _ _ _ y).mpr (by omega)⟩
  · exact ⟨pp I T 0 1152 inb_S2x256x1280_S1x256x128_0_0_1152, (.head _), (mem_pp I T _ _ _ y).mpr (by omega)⟩
  · exact ⟨pp I T 1 0 inb_S2x256x1280_S1x256x128_1_0_0, (.tail _ (.tail _ (.tail _ (.tail _ (.tail _ (.tail _ (.tail _ (.tail _ (.tail _ (.tail _ (.tail _ (.tail _ (.tail _ (.tail _ (.tail _ (.tail _ (.tail _ (.head _)))))))))))))))))), (mem_pp I T _ _ _ y).mpr (by omega)⟩
  · exact ⟨pp I T 1 128 inb_S2x256x1280_S1x256x128_1_0_128, (.tail _ (.tail _ (.tail _ (.tail _ (.tail _ (.tail _ (.tail _ (.tail _ (.tail _ (.tail _ (.tail _ (.tail _ (.tail _ (.tail _ (.tail _ (.head _)))))))))))))))), (mem_pp I T _ _ _ y).mpr (by omega)⟩
  · exact ⟨pp I T 1 256 inb_S2x256x1280_S1x256x128_1_0_256, (.tail _ (.tail _ (.tail _ (.tail _ (.tail _ (.tail _ (.tail _ (.tail _ (.tail _ (.tail _ (.tail _ (.tail _ (.tail _ (.head _)))))))))))))), (mem_pp I T _ _ _ y).mpr (by omega)⟩
  · exact ⟨pp I T 1 384 inb_S2x256x1280_S1x256x128_1_0_384, (.tail _ (.tail _ (.tail _ (.tail _ (.tail _ (.tail _ (.tail _ (.tail _ (.tail _ (.tail _ (.tail _ (.head _)))))))))))), (mem_pp I T _ _ _ y).mpr (by omega)⟩
  · exact ⟨pp I T 1 512 inb_S2x256x1280_S1x256x128_1_0_512, (.tail _ (.tail _ (.tail _ (.tail _ (.tail _ (.tail _ (.tail _ (.tail _ (.tail _ (.head _)))))))))), (mem_pp I T _ _ _ y).mpr (by omega)⟩
  · exact ⟨pp I T 1 640 inb_S2x256x1280_S1x256x128_1_0_640, (.tail _ (.tail _ (.tail _ (.tail _ (.tail _ (.tail _ (.tail _ (.head _)))))))), (mem_pp I T _ _ _ y).mpr (by omega)⟩
  · exact ⟨pp I T 1 768 inb_S2x256x1280_S1x256x128_1_0_768, (.tail _ (.tail _ (.tail _ (.tail _ (.tail _ (.head _)))))), (mem_pp I T _ _ _ y).mpr (by omega)⟩
  · exact ⟨pp I T 1 896 inb_S2x256x1280_S1x256x128_1_0_896, (.tail _ (.tail _ (.tail _ (.head _)))), (mem_pp I T _ _ _ y).mpr (by omega)⟩
  · exact ⟨pp I T 1 1024 inb_S2x256x1280_S1x256x128_1_0_1024, (.tail _ (.head _)), (mem_pp I T _ _ _ y).mpr (by omega)⟩
  · omega

section
variable {σ : RefSig} {κ : Kind} {sp : Space} (v : View σ κ sp S2x256x1280 .f32)

/-- The first gate's products, before the last of the second's is stored. -/
theorem read_pa (h) : v.readCov (tail I T)
    (Rect.unit (s := S2x256x1280) ![0, 0, 0] ![1, 256, 1280] h).toLoadRect = ldp I T ![0, 0, 0] ![1, 256, 1280] h := by
  rw [← List.append_nil (tail I T)]
  refine read_ld v (preB I T) _ [] (tail_of I T) _ _ _ fun y hy => covered I T 0 (by decide) y ?_ (Or.inl rfl)
  have h0 := hy 0
  simp at h0
  omega

/-- The second gate's. -/
theorem read_px (h) : v.readCov (pp I T 1 1152 inb_S2x256x1280_S1x256x128_1_0_1152 :: tail I T)
    (Rect.unit (s := S2x256x1280) ![1, 0, 0] ![1, 256, 1280] h).toLoadRect = ldp I T ![1, 0, 0] ![1, 256, 1280] h := by
  rw [← List.append_nil (_ :: tail I T)]
  refine read_ld v (preB I T) _ [] ?_ _ _ _ fun y hy => ?_
  · exact ⟨fun _ => rfl, tail_of I T⟩
  have h0 : (y 0).val = 1 := by have h0 := hy 0; simp at h0; omega
  have h2 : (y 2).val < 1280 := (y 2).isLt
  by_cases hl : (y 2).val < 1152
  · obtain ⟨p, hp, hm⟩ := covered I T 1 (by decide) y h0 (Or.inr hl)
    exact ⟨p, List.mem_cons_of_mem _ hp, hm⟩
  · exact ⟨_, List.mem_cons_self, (mem_pp I T _ _ _ y).mpr (by omega)⟩

end

end Cert.Rg

end
-- ==== Proof.Rg.Point.lean ====
/- The RG-LRU's forward call: what every grid point leaves in the two blocks that hold the projection and the gates, and the rows of the
   recurrence's branch it carries to the next point. -/
module

public import proofs.«01_k».proof.Proof.Gen.Kernel6Ideal.Frame
public import proofs.«01_k».proof.Proof.Rg.Gate

@[expose] public section

set_option maxRecDepth 16384

noncomputable section

open Idealize.ShloMosaic Idealize.ShloMosaic.TcCoe Idealize.SL.Sem

namespace Cert.Rg

open Cert.Kernel6Ideal Cert.Kernel6Ideal.Gen

variable (I : Ins) (T : ℕ)

section
variable (x : S24x1280.Idx → EReal) (hx : Carried I T x)
include hx

/-! The links, as the body writes them. -/

theorem link_two (h0 i r1 r2 b s1 s2 s3) : (shapeCast S8x1280 (select (broadcastTo S8x1280 (shapeCast S8x1 (cmpi CmpIPredicate.eq (iota Kind.tc S8x1 32 [0] i) (broadcast S8x1 0#32)) s1) b)
      (dynamicRotate 0 (1#32) none (carry x 16 h0) r1) (dynamicRotate 0 (1#32) none (ldr I T ![272, 0] ![8, 1280] s2) r2)) s3 : S8x1280.Idx → EReal)
    = ldr I T ![16, 0] ![8, 1280] inb_S280x1280_S8x1280_16_0 := link I T x hx 2 _ _ _

theorem link_one (h0 i r1 r2 b s1 s2 s3) (h8) : (shapeCast S8x1280 (select (broadcastTo S8x1280 (shapeCast S8x1 (cmpi CmpIPredicate.eq (iota Kind.tc S8x1 32 [0] i) (broadcast S8x1 0#32)) s1) b)
      (dynamicRotate 0 (1#32) none (carry x 8 h0) r1) (dynamicRotate 0 (1#32) none (ldr I T ![264, 0] ![8, 1280] s2) r2)) s3 : S8x1280.Idx → EReal)
    = ldr I T ![8, 0] ![8, 1280] h8 := link I T x hx 1 _ _ _

theorem link_zero (h0 i r1 r2 b s1 s2) (h8) : k0_pay20 (F := Ideal) (select (broadcastTo S8x1280 (shapeCast S8x1 (cmpi CmpIPredicate.eq (iota Kind.tc S8x1 32 [0] i) (broadcast S8x1 0#32)) s1) b)
      (dynamicRotate 0 (1#32) none (carry x 0 h0) r1) (dynamicRotate 0 (1#32) none (ldr I T ![256, 0] ![8, 1280] s2) r2))
    = ldr I T ![0, 0] ![8, 1280] h8 := link I T x hx 0 _ _ _

end

variable (m : (ℓ : Loc nD τ sig) → Buf (Elt Ideal) ℓ)

/-- The blocks of a grid point are the arrays `I` at the times of its tile. -/
structure At (c : Dev nD) (t : Fin cfg0.N) : Prop where
  h : iblk m c 0 t = hB I t.val
  g : iblk m c 1 t = gB I
  w : iblk m c 2 t = wB I
  cw : iblk m c 3 t = cwB I
  v : iblk m c 4 t = vB I
  wa : iblk m c 5 t = waB I
  wx : iblk m c 6 t = wxB I

theorem lt65 (t : Fin cfg0.N) : t.val < 65 := t.isLt

/-- What the point leaves. -/
structure Left (n : ℕ) (c : Dev nD) (h : n < cfg0.N) : Prop where
  hh : ∀ y, (outsAt0 m c n h).2.1 y = pB I n y
  gates : ∀ y, (outsAt0 m c n h).2.2.2.1 y = gatesB I n y
  keep : Carried I (n + 1) (outsAt0 m c n h).2.2.2.2.1

theorem step_first (c : Dev nD) (t : Fin cfg0.N) (a : At I m c t) (h : t.val % 65 = 0) : Left I m t.val c t.isLt := by
  have h0 : t.val = 0 := by have := lt65 t; omega
  have hp : Carried I t.val (k0_pay4 (F := Ideal)) := h0 ▸ carried_zero I
  constructor
  all_goals
    rw [outsAt0_A m c t h]
    frame_open
    simp (disch := decide) only [↓ View.readCov_skip, ↓ View.readCov_cons_toLoadRect, ↓ View.readCov_fill]
    frame_out
    simp (disch := decide) only [a.h, a.g, a.w, a.cw, a.v, a.wa, a.wx, norm_eq, up0, up1, up2, up3, read_g, read_own, left_eq, right_eq, hh_eq, kept, read_kept,
      link_two I _ _ hp, link_one I _ _ hp, link_zero I _ _ hp, read_link0, read_link1, read_link2, conv_eq, conv_cast, a0, a1, a2, a3, a4, a5, a6, a7, a8, a9,
      x0, x1, x2, x3, x4, x5, x6, x7, x8, x9, read_pa, read_px, u_eq, r_eq, i_eq, tanh_eq, gates_eq, keep_eq, implies_true]

theorem step_next (c : Dev nD) (t : Fin cfg0.N) (a : At I m c t) (h : ¬ t.val % 65 = 0)
    (p : Left I m (t.val - 1) c (lt_of_le_of_lt (Nat.sub_le _ _) t.isLt)) : Left I m t.val c t.isLt := by
  have h1 : t.val - 1 + 1 = t.val := by omega
  have hp := p.keep
  rw [h1] at hp
  constructor
  all_goals
    rw [outsAt0_B m c t h]
    frame_open
    simp (disch := decide) only [↓ View.readCov_skip, ↓ View.readCov_cons_toLoadRect, ↓ View.readCov_fill]
    frame_out
    simp (disch := decide) only [read_unread_whole, a.h, a.g, a.w, a.cw, a.v, a.wa, a.wx, norm_eq, up0, up1, up2, up3, read_g, read_own, left_eq, right_eq, hh_eq, kept, read_kept,
      link_two I _ _ hp, link_one I _ _ hp, link_zero I _ _ hp, read_link0, read_link1, read_link2, conv_eq, conv_cast, a0, a1, a2, a3, a4, a5, a6, a7, a8, a9,
      x0, x1, x2, x3, x4, x5, x6, x7, x8, x9, read_pa, read_px, u_eq, r_eq, i_eq, tanh_eq, gates_eq, keep_eq, implies_true]

/-- Every point, one after another. -/
theorem left (c : Dev nD) (a : ∀ t, At I m c t) : ∀ n h, Left I m n c h
  | 0, h => step_first I m c ⟨0, h⟩ (a _) rfl
  | n + 1, h => step_next I m c ⟨n + 1, h⟩ (a _) (by have := lt65 ⟨n + 1, h⟩; simp only at this ⊢; omega) (left c a n _)

end Cert.Rg

end
-- ==== Proof.Rg.Entry.lean ====
/- The RG-LRU's forward call: the program's arguments and the arrays of the call made of them. -/
module

public import proofs.«01_k».proof.Proof.Gen.Kernel6Ideal.Skeleton
public import proofs.«01_k».proof.Proof.Rg.Spec
public import proofs.«01_k».proof.Proof.Mlp.Entry
public import Idealize.ShloMosaic.Lib.Pointwise

@[expose] public section

noncomputable section

namespace Cert.Rg

open Idealize.ShloMosaic Idealize.ShloMosaic.TcCoe
open Cert.Mlp (at2 at2_eq)
open Cert.Kernel6Ideal

/-- A vector by a number, zero outside. -/
def at1 {a : ℕ} (f : (⟨1, ![a]⟩ : Shape).Idx → EReal) (i : ℕ) : EReal := if h : i < a then f (ix1 ⟨i, h⟩) else 0

theorem at1_eq {a : ℕ} (f : (⟨1, ![a]⟩ : Shape).Idx → EReal) (i : Fin a) : at1 f i.val = f (ix1 i) := dif_pos i.isLt

/-- Blocks by three numbers, zero outside. -/
def at3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

theorem at3_eq {a b c : ℕ} (f : (⟨3, ![a, b, c]⟩ : Shape).Idx → EReal) (i : Fin a) (j : Fin b) (k : Fin c) :
    at3 f i.val j.val k.val = f (ix3 i j k) := dif_pos ⟨i.isLt, j.isLt, k.isLt⟩

/-- The arguments the claimed results depend on. -/
structure Args where
  h : S16400x1024.Idx → EReal
  g : S1024.Idx → EReal
  w : S1024x2560.Idx → EReal
  cw : S4x1280.Idx → EReal
  cb : S1280.Idx → EReal
  wa : S10x128x128.Idx → EReal
  ba : S1280.Idx → EReal
  wx : S10x128x128.Idx → EReal
  bx : S1280.Idx → EReal
  lam : S1280.Idx → EReal

variable (A : Args)

/-- The rows of offsets. -/
def Args.rows (k c : ℕ) : EReal := if k = 0 then at1 A.cb c else if k = 1 then at1 A.ba c else if k = 2 then at1 A.bx c else if k = 3 then at1 A.lam c else 0

/-- The call's arrays. -/
def mkIns : Ins where
  H τ k := if 240 ≤ τ then at2 A.h (τ - 240) k else 0
  g := at1 A.g
  w q k n := at2 A.w k (640 * q + n)
  cw := at2 A.cw
  v := A.rows
  wa := at3 A.wa
  wx := at3 A.wx

theorem H_at (i : Fin 16400) (k : Fin 1024) : (mkIns A).H (240 + i.val) k.val = A.h (ix2 i k) :=
  (if_pos (by omega)).trans ((congrArg (at2 A.h · k.val) (by omega)).trans (at2_eq A.h i k))

theorem H_pad (τ k : ℕ) (h : τ < 240) : (mkIns A).H τ k = 0 := if_neg (by omega)

/-- Before the sequence the projection is zero. -/
theorem P_pad (τ c : ℕ) (h : τ < 240) : (mkIns A).P τ c = 0 := by
  unfold Ins.P Ins.hn
  simp only [H_pad A τ _ h, zero_mul, Finset.sum_const_zero]

/-- The projection from the arguments. -/
theorem P_at (i : Fin 16400) (c : Fin 2560) : (mkIns A).P (240 + i.val) c.val
    = ∑ k : Fin 1024, A.h (ix2 i k) * Cert.Loss.rstd (fun k => A.h (ix2 i k)) * A.g (ix1 k) * A.w (ix2 k c) := by
  unfold Ins.P Ins.hn
  simp only [H_at]
  refine Finset.sum_congr rfl fun k _ => ?_
  have e : (mkIns A).w (c.val / 640) k.val (c.val % 640) = A.w (ix2 k c) :=
    (congrArg (at2 A.w k.val) (by omega : 640 * (c.val / 640) + c.val % 640 = c.val)).trans (at2_eq A.w k c)
  have eg : (mkIns A).g k.val = A.g (ix1 k) := at1_eq A.g k
  rw [e, eg]

end Cert.Rg

end
-- ==== Proof.Rg.Results.lean ====
/- The RG-LRU's forward call: the blocks it reads from the program's arguments, and its two claimed results as functions of time. -/
module

public import proofs.«01_k».proof.Proof.Rg.Point
public import proofs.«01_k».proof.Proof.Rg.Entry
public import proofs.«01_k».proof.Proof.Loss.Kernel
public import Idealize.ShloMosaic.Adequacy

@[expose] public section

set_option maxRecDepth 16384

noncomputable section

open Idealize.ShloMosaic Idealize.ShloMosaic.TcCoe Idealize.SL.Sem

namespace Cert.Rg

open Cert.Kernel6Ideal Cert.Kernel6Ideal.Gen
open Cert.Loss (rowTime tile_time arrTime arrTime_row row_time)
open Cert.Mlp (at2 at2_eq timeOf)

variable (m : (ℓ : Loc nD τ sig) → Buf (Elt Ideal) ℓ) (ρ : Dev nD → PrngReg)

/-- The arguments on a device. -/
def args (c : Dev nD) : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6),
  m ((c : Thread nD τ).loc main_arg7), m ((c : Thread nD τ).loc main_arg8), m ((c : Thread nD τ).loc main_arg9)⟩

/-- The call's arrays on a device. -/
def ins (c : Dev nD) : Ins := mkIns (args m c)

/-- The host lines before the call. -/
abbrev lines : List (HloOp τ sig (Elt Ideal)) := [hostOps0, hostOps0_1, hostOps0_2].flatten

theorem idx_h : ∀ t : Fin cfg0.N, win0_0.index t = ![t.val, 0] := (by decide +kernel : ∀ t : Fin grid0.N, _)
theorem idx_g : ∀ t : Fin cfg0.N, win0_1.index t = ![0, 0] := (by decide +kernel : ∀ t : Fin grid0.N, _)
theorem idx_w : ∀ t : Fin cfg0.N, win0_2.index t = ![0, 0, 0] := (by decide +kernel : ∀ t : Fin grid0.N, _)
theorem idx_cw : ∀ t : Fin cfg0.N, win0_3.index t = ![0, 0] := (by decide +kernel : ∀ t : Fin grid0.N, _)
theorem idx_v : ∀ t : Fin cfg0.N, win0_4.index t = ![0, 0] := (by decide +kernel : ∀ t : Fin grid0.N, _)
theorem idx_wa : ∀ t : Fin cfg0.N, win0_5.index t = ![0, 0, 0] := (by decide +kernel : ∀ t : Fin grid0.N, _)
theorem idx_wx : ∀ t : Fin cfg0.N, win0_6.index t = ![0, 0, 0] := (by decide +kernel : ∀ t : Fin grid0.N, _)

/-- The block of the sequence at a tile: rows of zeros, then the rows of the argument. -/
theorem at_h (c : Dev nD) (t : Fin cfg0.N) : iblk m c 0 t = hB (ins m c) t.val := by
  funext y
  have ht := lt65 t
  have hr : (y 0).val < 256 := (y 0).isLt
  have hk : (y 1).val < 1024 := (y 1).isLt
  blk_simp [iblk, idx_h t]
  unfold V
  dsimp only [List.flatten_cons, List.flatten_nil, List.append_nil, List.cons_append, List.nil_append]
  after_reads_at
  blk_simp [idx_h t]
  have e := tile_time t.val (y 0).val hr
  have hl : 256 * t.val + rowTime (y 0).val < 16640 := by simp only [rowTime]; omega
  show _ = (ins m c).H (256 * t.val + rowTime (y 0).val) (y 1).val
  by_cases hb : 240 ≤ 256 * t.val + rowTime (y 0).val
  · refine Eq.trans ((dif_pos ⟨e ▸ hb, by rw [e]; omega⟩).trans ?_) ((if_pos hb).trans (at2_eq (args m c).h ⟨256 * t.val + rowTime (y 0).val - 240, by omega⟩ (y 1))).symm
    refine congrArg (m ((c : Thread nD τ).loc main_arg0)) (congrArg₂ ix2 (Fin.ext ?_) (Fin.ext ?_))
    · exact congrArg (· - 240) e
    · blk_simp [idx_h t]
  · refine Eq.trans ((dif_neg fun h => hb (e ▸ h.1)).trans ?_) (if_neg hb).symm
    show (((0#32 : BitVec 32).toInt : ℝ) : EReal) = 0
    simp

/-- The gain. -/
theorem at_g (c : Dev nD) (t : Fin cfg0.N) : iblk m c 1 t = gB (ins m c) := by
  funext y
  blk_simp [iblk, idx_g t]
  unfold V
  dsimp only [List.flatten_cons, List.flatten_nil, List.append_nil, List.cons_append, List.nil_append]
  after_reads_at
  refine Eq.trans ?_ (at1_eq (args m c).g (y 1)).symm
  refine congrArg (m ((c : Thread nD τ).loc main_arg1)) (congrArg ix1 (Fin.ext ?_))
  blk_simp [idx_g t]

/-- The weight of the projection in four column blocks. -/
theorem at_w (c : Dev nD) (t : Fin cfg0.N) : iblk m c 2 t = wB (ins m c) := by
  funext y
  blk_simp [iblk, idx_w t]
  unfold V
  dsimp only [List.flatten_cons, List.flatten_nil, List.append_nil, List.cons_append, List.nil_append]
  after_reads_at
  have h0 : (y 0).val < 4 := (y 0).isLt
  have h2 : (y 2).val < 640 := (y 2).isLt
  refine Eq.trans ?_ (at2_eq (args m c).w (y 1) ⟨640 * (y 0).val + (y 2).val, by omega⟩).symm
  refine congrArg (m ((c : Thread nD τ).loc main_arg2)) (congrArg₂ ix2 (Fin.ext ?_) (Fin.ext ?_))
  · blk_simp [idx_w t]
  · blk_simp [idx_w t]
    exact congrArg (· + (y 2).val) (Nat.mul_comm _ _)

/-- The taps. -/
theorem at_cw (c : Dev nD) (t : Fin cfg0.N) : iblk m c 3 t = cwB (ins m c) := by
  funext y
  blk_simp [iblk, idx_cw t]
  unfold V
  dsimp only [List.flatten_cons, List.flatten_nil, List.append_nil, List.cons_append, List.nil_append]
  after_reads_at
  refine Eq.trans ?_ (at2_eq (args m c).cw (y 0) (y 1)).symm
  blk_ext [idx_cw t]

/-- The weights of the first gate. -/
theorem at_wa (c : Dev nD) (t : Fin cfg0.N) : iblk m c 5 t = waB (ins m c) := by
  funext y
  blk_simp [iblk, idx_wa t]
  unfold V
  dsimp only [List.flatten_cons, List.flatten_nil, List.append_nil, List.cons_append, List.nil_append]
  after_reads_at
  refine Eq.trans ?_ (at3_eq (args m c).wa (y 0) (y 1) (y 2)).symm
  blk_ext [idx_wa t]

/-- The weights of the second gate. -/
theorem at_wx (c : Dev nD) (t : Fin cfg0.N) : iblk m c 6 t = wxB (ins m c) := by
  funext y
  blk_simp [iblk, idx_wx t]
  unfold V
  dsimp only [List.flatten_cons, List.flatten_nil, List.append_nil, List.cons_append, List.nil_append]
  after_reads_at
  refine Eq.trans ?_ (at3_eq (args m c).wx (y 0) (y 1) (y 2)).symm
  blk_ext [idx_wx t]

/-- The rows of offsets, from four vectors and four rows of zeros. -/
theorem close_rows (A : Args) (u : ℕ) (hu : u < 8) (k : Fin 1280) (a b d e : S1x1280.Idx → EReal) (z : S4x1280.Idx → EReal)
    (ha : ∀ y, a y = A.cb (ix1 (y 1))) (hb : ∀ y, b y = A.ba (ix1 (y 1))) (hd : ∀ y, d y = A.bx (ix1 (y 1))) (he : ∀ y, e y = A.lam (ix1 (y 1)))
    (hz : ∀ y, z y = 0) :
    (if h : u < 1 then a (ix2 ⟨u, h⟩ k) else if h : u - 1 < 1 then b (ix2 ⟨u - 1, h⟩ k) else if h : u - 1 - 1 < 1 then d (ix2 ⟨u - 1 - 1, h⟩ k)
      else if h : u - 1 - 1 - 1 < 1 then e (ix2 ⟨u - 1 - 1 - 1, h⟩ k) else z (ix2 ⟨u - 1 - 1 - 1 - 1, by omega⟩ k)) = (mkIns A).v u k.val := by
  show _ = A.rows u k.val
  unfold Args.rows
  simp only [at1_eq, ha, hb, hd, he, hz]
  split_ifs <;> first | rfl | omega

theorem row0 (c : Dev nD) (y : S1x1280.Idx) : (StableHlo.upto lines (fun b => m (c, b)) 1 (Proc.tc.devRef main_v0) : S1x1280.Idx → EReal) y = (args m c).cb (ix1 (y 1)) := by
  dsimp only [lines, hostOps0, hostOps0_1, hostOps0_2, List.flatten_cons, List.flatten_nil, List.append_nil, List.cons_append, List.nil_append]
  after_reads_at
  rfl

theorem row1 (c : Dev nD) (y : S1x1280.Idx) : (StableHlo.upto lines (fun b => m (c, b)) 2 (Proc.tc.devRef main_v1) : S1x1280.Idx → EReal) y = (args m c).ba (ix1 (y 1)) := by
  dsimp only [lines, hostOps0, hostOps0_1, hostOps0_2, List.flatten_cons, List.flatten_nil, List.append_nil, List.cons_append, List.nil_append]
  after_reads_at
  rfl

theorem row2 (c : Dev nD) (y : S1x1280.Idx) : (StableHlo.upto lines (fun b => m (c, b)) 3 (Proc.tc.devRef main_v2) : S1x1280.Idx → EReal) y = (args m c).bx (ix1 (y 1)) := by
  dsimp only [lines, hostOps0, hostOps0_1, hostOps0_2, List.flatten_cons, List.flatten_nil, List.append_nil, List.cons_append, List.nil_append]
  after_reads_at
  rfl

theorem row3 (c : Dev nD) (y : S1x1280.Idx) : (StableHlo.upto lines (fun b => m (c, b)) 4 (Proc.tc.devRef main_v3) : S1x1280.Idx → EReal) y = (args m c).lam (ix1 (y 1)) := by
  dsimp only [lines, hostOps0, hostOps0_1, hostOps0_2, List.flatten_cons, List.flatten_nil, List.append_nil, List.cons_append, List.nil_append]
  after_reads_at
  rfl

theorem zeros (c : Dev nD) (y : S4x1280.Idx) : (StableHlo.upto lines (fun b => m (c, b)) 6 (Proc.tc.devRef main_v4) : S4x1280.Idx → EReal) y = (0 : EReal) := by
  dsimp only [lines, hostOps0, hostOps0_1, hostOps0_2, List.flatten_cons, List.flatten_nil, List.append_nil, List.cons_append, List.nil_append]
  after_reads_at

/-- The array of the rows of offsets. -/
theorem arr_v (c : Dev nD) (y : S8x1280.Idx) : (V m c main_v5 : S8x1280.Idx → EReal) y = (ins m c).v (y 0).val (y 1).val := by
  have h0 : (y 0).val < 8 := (y 0).isLt
  unfold V V0
  dsimp only [List.flatten_cons, List.flatten_nil, List.append_nil, List.cons_append, List.nil_append]
  after_reads_at
  exact close_rows (args m c) _ h0 (y 1) (StableHlo.upto lines (fun b => m (c, b)) 1 (Proc.tc.devRef main_v0))
    (StableHlo.upto lines (fun b => m (c, b)) 2 (Proc.tc.devRef main_v1)) (StableHlo.upto lines (fun b => m (c, b)) 3 (Proc.tc.devRef main_v2))
    (StableHlo.upto lines (fun b => m (c, b)) 4 (Proc.tc.devRef main_v3)) (StableHlo.upto lines (fun b => m (c, b)) 6 (Proc.tc.devRef main_v4))
    (row0 m c) (row1 m c) (row2 m c) (row3 m c) (zeros m c)

/-- The rows of offsets. -/
theorem at_v (c : Dev nD) (t : Fin cfg0.N) : iblk m c 4 t = vB (ins m c) := by
  funext y
  blk_simp [iblk]
  refine (arr_v m c _).trans ?_
  refine congrArg₂ (ins m c).v ?_ ?_ <;> blk_simp [idx_v t]

theorem left_at (c : Dev nD) (n : ℕ) (h : n < cfg0.N) : Left (ins m c) m n c h :=
  left (ins m c) m c (fun t => ⟨at_h m c t, at_g m c t, at_w m c t, at_cw m c t, at_v m c t, at_wa m c t, at_wx m c t⟩) n h

/-- The buffers as the lines after the call find them. -/
abbrev held (c : Dev nD) : Valuation τ sig (Elt Ideal) :=
  Pipeline.withArrays (cfgs 0).spec c (V0 m c) fun w => (dats m 0 c).arrAt w (cfgs 0).N

theorem idx_hh : ∀ t : Fin cfg0.N, win0_9.index t = ![t.val, 0] := (by decide +kernel : ∀ t : Fin grid0.N, _)

/-- The array of the projection after the last tile. -/
theorem arr_hh (c : Dev nD) : (dats m 0 c).arrAt 9 cfg0.N = fun y : S16640x2560.Idx => (ins m c).P (arrTime (y 0).val) (y 1).val :=
  (dats m 0 c).arrAt_eq_of_covers 9 _ (by decide +kernel) fun t _ y => by
    blk_simp [idx_hh t]
    rw [after0_9, (left_at m c _ _).hh]
    refine congrArg₂ ((ins m c).P) (row_time t.val y) ?_
    blk_simp [idx_hh t]

theorem held_hh (c : Dev nD) : held m c (Proc.tc.devRef main_v17_1) = (dats m 0 c).arrAt 9 cfg0.N :=
  Pipeline.withArrays_arr spec0 (by decide) c (V0 m c) (fun w => (dats m 0 c).arrAt w (cfgs 0).N) 9

theorem tail_hh (c : Dev nD) : Pipeline.afterTail₀ cfgs (dats m) 0 (V0 m) [hostOps1] c main_v22 =
    fun y : S16400x2560.Idx => (ins m c).P (240 + (y 0).val) (y 1).val := by
  funext y
  unfold Pipeline.afterTail₀
  dsimp only [List.flatten_cons, List.flatten_nil, List.append_nil, List.cons_append, List.nil_append]
  after_reads_at
  refine (congrFun ((held_hh m c).trans (arr_hh m c)) _).trans ?_
  exact congrArg (fun a => (ins m c).P a (y 1).val) (arrTime_row _)

theorem idx_gates : ∀ t : Fin cfg0.N, win0_11.index t = ![t.val, 0] := (by decide +kernel : ∀ t : Fin grid0.N, _)

/-- The array of the gates after the last tile. -/
theorem arr_gates (c : Dev nD) : (dats m 0 c).arrAt 11 cfg0.N = fun y : S16640x5120.Idx => (ins m c).gates (arrTime (y 0).val) (y 1).val :=
  (dats m 0 c).arrAt_eq_of_covers 11 _ (by decide +kernel) fun t _ y => by
    blk_simp [idx_gates t]
    rw [after0_11, (left_at m c _ _).gates]
    refine congrArg₂ ((ins m c).gates) (row_time t.val y) ?_
    blk_simp [idx_gates t]

theorem held_gates (c : Dev nD) : held m c (Proc.tc.devRef main_v17_3) = (dats m 0 c).arrAt 11 cfg0.N :=
  Pipeline.withArrays_arr spec0 (by decide) c (V0 m c) (fun w => (dats m 0 c).arrAt w (cfgs 0).N) 11

theorem tail_gates (c : Dev nD) : Pipeline.afterTail₀ cfgs (dats m) 0 (V0 m) [hostOps1] c main_v27 =
    fun y : S16400x5120.Idx => (ins m c).gates (240 + (y 0).val) (y 1).val := by
  funext y
  unfold Pipeline.afterTail₀
  dsimp only [List.flatten_cons, List.flatten_nil, List.append_nil, List.cons_append, List.nil_append]
  after_reads_at
  refine (congrFun ((held_gates m c).trans (arr_gates m c)) _).trans ?_
  exact congrArg (fun a => (ins m c).gates a (y 1).val) (arrTime_row _)

/-- The run: both results as functions of the arrays of the call. -/
theorem kernel_run : θ_run defs (onTc (τ := τ) (main (F := Ideal))) ⟨m, fun _ => 0, ρ⟩ (fun r => ∀ c : Dev nD,
      r.2.mem ((c.tc : Thread nD τ).loc main_v22) = (fun y : S16400x2560.Idx => (ins m c).P (240 + (y 0).val) (y 1).val)
      ∧ r.2.mem ((c.tc : Thread nD τ).loc main_v27) = (fun y : S16400x5120.Idx => (ins m c).gates (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  run_from run_main m ρ
  · exact tail_hh m c
  · exact tail_gates m c
  · exact W_main_arg0 m _ c
  · exact W_main_arg1 m _ c
  · exact W_main_arg2 m _ c
  · exact W_main_arg4 m _ c
  · exact W_main_arg5 m _ c
  · exact W_main_arg6 m _ c
  · exact W_main_arg7 m _ c
  · exact W_main_arg8 m _ c
  · exact W_main_arg9 m _ c
  · exact W_main_arg10 m _ c

end Cert.Rg

end
-- ==== Proof.Rg.Values.lean ====
/- The RG-LRU's forward call: the reference's values by time. -/
module

public import proofs.«01_k».proof.Defs
public import proofs.«01_k».proof.Proof.Gen.Reference6Ideal.Read
public import proofs.«01_k».proof.Proof.Gen.Reference6Ideal.Run
public import proofs.«01_k».proof.Proof.Loss.Reals
public import proofs.«01_k».proof.Proof.Rg.Entry

@[expose] public section

set_option maxRecDepth 16384

noncomputable section

namespace Cert.Rg

open Idealize.ShloMosaic Idealize.SL.Sem
open Cert.Reference6Ideal Cert.Reference6Ideal.Gen Cert.Reference6Ideal.Read
open Cert.Mlp (at2 at2_eq)

variable (A : Args)

theorem ref_hh (i : Fin 16400) (c : Fin 2560) : val_main_v13 (F := Ideal) A.h A.g A.w (ix2 i c) = (mkIns A).P (240 + i.val) c.val := by
  rw [P_at]
  unfold Cert.Loss.rstd
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

theorem ref_left (i : Fin 16400) (c : Fin 1280) : val_main_v14 (F := Ideal) A.h A.g A.w (ix2 i c) = (mkIns A).P (240 + i.val) c.val := by
  refine Eq.trans ?_ (ref_hh A i ⟨c.val, by omega⟩)
  pointwise [val_main_v14]

/-- The convolution's input. -/
theorem ref_in (i : Fin 16400) (c : Fin 1280) : val_main_v15 (F := Ideal) A.h A.g A.w (ix2 i c) = (mkIns A).past (240 + i.val + 3) c.val := by
  unfold Ins.past
  rw [if_pos (by omega), Nat.add_sub_cancel]
  refine Eq.trans ?_ (ref_hh A i ⟨1280 + c.val, by omega⟩)
  pointwise [val_main_v15]

/-- The same behind three rows of zeros. -/
theorem ref_past (t : ℕ) (h : t < 16403) (c : Fin 1280) : (if h' : t < 3 then 0 else val_main_v15 (F := Ideal) A.h A.g A.w (ix2 ⟨t - 3, by omega⟩ c)) = (mkIns A).past (240 + t) c.val := by
  split
  · unfold Ins.past
    rw [if_pos (by omega), P_pad A _ _ (by omega)]
  · rw [ref_in]
    exact congrArg (fun t => (mkIns A).past t c.val) (by dsimp only; omega)

theorem ref_past0 (i : Fin 16400) (c : Fin 1280) : val_main_v18 (F := Ideal) A.h A.g A.w (ix2 i c) = (mkIns A).past (240 + i.val) c.val := by
  refine Eq.trans ?_ (ref_past A i.val (by omega) c)
  pointwise [val_main_v18, val_main_v17, val_main_v16, val_main_cst_2]

theorem ref_past1 (i : Fin 16400) (c : Fin 1280) : val_main_v24 (F := Ideal) A.h A.g A.w (ix2 i c) = (mkIns A).past (240 + i.val + 1) c.val := by
  refine Eq.trans ?_ ((ref_past A (1 + i.val) (by omega) c).trans (congrArg (fun t => (mkIns A).past t c.val) (by omega)))
  pointwise [val_main_v24, val_main_v17, val_main_v16, val_main_cst_2]

theorem ref_past2 (i : Fin 16400) (c : Fin 1280) : val_main_v31 (F := Ideal) A.h A.g A.w (ix2 i c) = (mkIns A).past (240 + i.val + 2) c.val := by
  refine Eq.trans ?_ ((ref_past A (2 + i.val) (by omega) c).trans (congrArg (fun t => (mkIns A).past t c.val) (by omega)))
  pointwise [val_main_v31, val_main_v17, val_main_v16, val_main_cst_2]

theorem ref_past3 (i : Fin 16400) (c : Fin 1280) : val_main_v38 (F := Ideal) A.h A.g A.w (ix2 i c) = (mkIns A).past (240 + i.val + 3) c.val := by
  rw [← ref_in]
  pointwise [val_main_v38, val_main_v17, val_main_v16, val_main_cst_2]

theorem ref_u (i : Fin 16400) (c : Fin 1280) : val_main_v47 (F := Ideal) A.h A.g A.w A.cw A.cb (ix2 i c) = (mkIns A).u (240 + i.val) c.val := by
  have t (k : Fin 4) : (mkIns A).cw k.val c.val = A.cw (ix2 k c) := at2_eq A.cw k c
  have b : (mkIns A).v 0 c.val = A.cb (ix1 c) := at1_eq A.cb c
  have c0 := t 0
  have c1 := t 1
  have c2 := t 2
  have c3 := t 3
  unfold Ins.u
  rw [show (mkIns A).cw 0 c.val = _ from c0, show (mkIns A).cw 1 c.val = _ from c1, show (mkIns A).cw 2 c.val = _ from c2, show (mkIns A).cw 3 c.val = _ from c3, b,
    ← ref_past0, ← ref_past1, ← ref_past2, ← ref_past3, mul_comm (A.cw (ix2 0 c)), mul_comm (A.cw (ix2 1 c)), mul_comm (A.cw (ix2 2 c)), mul_comm (A.cw (ix2 3 c))]
  pointwise [val_main_v47, val_main_v46, val_main_v45, val_main_v44, val_main_v43, val_main_v42, val_main_v41, val_main_v40, val_main_v39, val_main_v37, val_main_v36, val_main_v35, val_main_v34, val_main_v33, val_main_v32, val_main_v30, val_main_v29, val_main_v28, val_main_v27, val_main_v26, val_main_v25, val_main_v23, val_main_v22, val_main_v21, val_main_v20, val_main_v19]

/-- A gate's product of the convolution with blocks. -/
theorem ref_pre (x : S10x128x128.Idx → EReal) (i : Fin 16400) (c : Fin 1280) : val_main_v51 (F := Ideal) A.h A.g A.w A.cw A.cb x (ix2 i c)
    = ∑ k : Fin 128, (mkIns A).u (240 + i.val) (128 * (c.val / 128) + k.val) * at3 x (c.val / 128) k.val (c.val % 128) := by
  have e (k : Fin 128) : at3 x (c.val / 128) k.val (c.val % 128) = x (ix3 ⟨c.val / 128, by omega⟩ k ⟨c.val % 128, by omega⟩) :=
    at3_eq x ⟨c.val / 128, by omega⟩ k ⟨c.val % 128, by omega⟩
  have u (k : Fin 128) := ref_u A i ⟨128 * (c.val / 128) + k.val, by omega⟩
  simp only [e, ← u, mul_comm _ (x _)]
  pointwise [val_main_v51, val_main_v50, val_main_v49, val_main_v48]
  simp only [Nat.mul_comm (c.val / 128) 128]

/-- A gate. -/
theorem ref_sg (x : S10x128x128.Idx → EReal) (b : S1280.Idx → EReal) (i : Fin 16400) (c : Fin 1280) :
    val_main_v60 (F := Ideal) A.h A.g A.w A.cw A.cb x b (ix2 i c)
    = sg (∑ k : Fin 128, (mkIns A).u (240 + i.val) (128 * (c.val / 128) + k.val) * at3 x (c.val / 128) k.val (c.val % 128) + at1 b c.val) := by
  unfold sg
  rw [← Cert.Loss.logistic_tanh, ← ref_pre, at1_eq]
  pointwise [val_main_v60, val_main_v59, val_main_v58, val_main_v57, val_main_v56, val_main_v55, val_main_v54, val_main_v53, val_main_v52, val_main_cst_3, val_main_cst_4]

/-- The gelu's tanh. -/
theorem ref_th (i : Fin 16400) (c : Fin 1280) : val_main_v80 (F := Ideal) A.h A.g A.w (ix2 i c) = th ((mkIns A).P (240 + i.val) c.val) := by
  unfold th
  rw [← ref_left, mul_assoc, mul_assoc, ← mul_assoc (val_main_v14 (F := Ideal) A.h A.g A.w (ix2 i c))]
  pointwise [val_main_v80, val_main_v79, val_main_v78, val_main_v77, val_main_v76, val_main_v75, val_main_v74, val_main_v73, val_main_cst_7, val_main_cst_8]

/-- The row saved. -/
theorem ref_gates (i : Fin 16400) (c : Fin 5120) : val_main_v81 (F := Ideal) A.h A.g A.w A.cw A.cb A.wa A.ba A.wx A.bx (ix2 i c) = (mkIns A).gates (240 + i.val) c.val := by
  have hi (c : Fin 1280) : val_main_v72 (F := Ideal) A.h A.g A.w A.cw A.cb A.wx A.bx (ix2 i c) = _ := ref_sg A A.wx A.bx i c
  unfold Ins.gates
  by_cases h0 : c.val < 1280
  · rw [if_pos h0]
    refine Eq.trans ?_ (ref_u A i ⟨c.val, h0⟩)
    pointwise [val_main_v81]
    exact dif_pos h0
  rw [if_neg h0]
  by_cases h1 : c.val < 2560
  · rw [if_pos h1]
    refine Eq.trans ?_ (ref_sg A A.wa A.ba i ⟨c.val - 1280, by omega⟩)
    pointwise [val_main_v81]
    exact (dif_neg h0).trans (dif_pos (by omega))
  rw [if_neg h1]
  by_cases h2 : c.val < 3840
  · rw [if_pos h2]
    refine Eq.trans ?_ (hi ⟨c.val - 2560, by omega⟩)
    pointwise [val_main_v81]
    exact (dif_neg h0).trans ((dif_neg (by omega)).trans (dif_pos (by omega)))
  · rw [if_neg h2]
    refine Eq.trans ?_ (ref_th A i ⟨c.val - 3840, by omega⟩)
    pointwise [val_main_v81]
    rw [dif_neg h0, dif_neg (by omega), dif_neg (by omega)]
    exact congrArg (fun k => val_main_v80 (F := Ideal) A.h A.g A.w (ix2 i k)) (Fin.ext (by dsimp only; omega))

end Cert.Rg

end
-- ==== Proof.Rg.Claims.lean ====
/- The claims of the RG-LRU's forward call: the reference's run, the frames and the equality. -/
module

public import proofs.«01_k».proof.Defs
public import proofs.«01_k».proof.Proof.Gen.Kernel6.Frame
public import proofs.«01_k».proof.Proof.Rg.Results
public import proofs.«01_k».proof.Proof.Rg.Values

@[expose] public section

set_option maxRecDepth 16384

noncomputable section

namespace Cert.Rg

open Idealize.ShloMosaic Idealize.SL.Sem

section
open Cert.Reference6Ideal Cert.Reference6Ideal.Gen Cert.Reference6Ideal.Read

/-- The reference's arguments on a device. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- The reference's results are the call's functions of time. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = (fun y : S16400x2560.Idx => (mkIns (refArgs m c)).P (240 + (y 0).val) (y 1).val)
      ∧ r.2.mem ((c.tc : Thread nD τ).loc main_v81) = (fun y : S16400x5120.Idx => (mkIns (refArgs m c)).gates (240 + (y 0).val) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (Cert.Reference6Ideal.Value.run m ρ)
  obtain ⟨a0, a1, rest⟩ := h c
  refine ⟨(a0.trans (val_main_v13_eq _ _ _)).trans (funext fun y => ?_), (a1.trans (val_main_v81_eq m c)).trans (funext fun y => ?_), rest⟩
  · exact (congrArg _ (eq_ix2 y)).trans (ref_hh (refArgs m c) (y 0) (y 1))
  · exact (congrArg _ (eq_ix2 y)).trans (ref_gates (refArgs m c) (y 0) (y 1))

end

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

/-- The reference has no counter at all, so each of them is zero at its end. -/
theorem frame_reference : Cert.quiescent_Reference6Ideal (hReference6Ideal := Cert.Reference6Ideal.Gen.facts) := by
  intro m ρ _
  hlo_run
  · exact fun _ => ⟨trivial, trivial, trivial, trivial, trivial, trivial, trivial, trivial, trivial, trivial, trivial⟩
  · exact funext fun g => ((Fintype.card_eq_zero_iff.mp (SemLoc.card_eq (sig := Cert.Reference6Ideal.sig))).false g.2).elim

theorem same : Cert.algebraic_Kernel6Ideal_Reference6Ideal (hKernel6Ideal := Cert.Kernel6Ideal.Gen.facts)
    (hReference6Ideal := Cert.Reference6Ideal.Gen.facts) := by
  intro m g m' g' hp hm
  have e (c : Dev Cert.Kernel6Ideal.nD) : refArgs m' c = args m c := by
    obtain ⟨e0, e1, e2, e3, e4, e5, e6, e7, e8, e9, e10⟩ := hm c
    unfold refArgs args
    rw [e0, e1, e2, e3, e4, e5, e6, e7, e8, e9]
  refine ⟨_, _, kernel_run m g, ?_⟩
  refine (θ_run _ _ _).mono (fun r h c => ?_) (reference_run m' g')
  have := h c
  rw [e c] at this
  exact this

end Cert.Rg

end
-- ==== Proof.Adam.Step.lean ====
/- The optimiser's call: every entry of its four results is the same function of the entries of its five arguments as in the reference. -/
module

public import proofs.«01_k».proof.Proof.Gen.Kernel7Ideal.Frame
public import proofs.«01_k».proof.Proof.Gen.Reference7Ideal.Read
public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Adam

open Cert.Kernel7Ideal Cert.Kernel7Ideal.Gen Cert.Reference7Ideal.Read

variable (m : (ℓ : Loc nD τ sig) → Buf (Elt Ideal) ℓ) (ρ : Dev nD → PrngReg) (c : Dev nD)

/-- The weight, its two moments, and the two parts of its gradient, on a device. -/
abbrev wt : S1x1024x768.Idx → EReal := m ((c : Thread nD τ).loc main_arg0)
abbrev mom : S1x1024x768.Idx → EReal := m ((c : Thread nD τ).loc main_arg1)
abbrev sq : S1x1024x768.Idx → EReal := m ((c : Thread nD τ).loc main_arg2)
abbrev mine : S1024x768.Idx → EReal := m ((c : Thread nD τ).loc main_arg3)
abbrev theirs : S1024x768.Idx → EReal := m ((c : Thread nD τ).loc main_arg4)

theorem idx_w : ∀ t : Fin cfg0.N, win0_0.index t = ![0, t.val, 0] := (by decide +kernel : ∀ t : Fin grid0.N, _)
theorem idx_m : ∀ t : Fin cfg0.N, win0_1.index t = ![0, t.val, 0] := (by decide +kernel : ∀ t : Fin grid0.N, _)
theorem idx_v : ∀ t : Fin cfg0.N, win0_2.index t = ![0, t.val, 0] := (by decide +kernel : ∀ t : Fin grid0.N, _)
theorem idx_a : ∀ t : Fin cfg0.N, win0_3.index t = ![t.val, 0] := (by decide +kernel : ∀ t : Fin grid0.N, _)
theorem idx_b : ∀ t : Fin cfg0.N, win0_4.index t = ![t.val, 0] := (by decide +kernel : ∀ t : Fin grid0.N, _)
theorem idx_g : ∀ t : Fin cfg0.N, win0_5.index t = ![0, t.val, 0] := (by decide +kernel : ∀ t : Fin grid0.N, _)
theorem idx_d : ∀ t : Fin cfg0.N, win0_6.index t = ![0, t.val, 0] := (by decide +kernel : ∀ t : Fin grid0.N, _)
theorem idx_nm : ∀ t : Fin cfg0.N, win0_7.index t = ![0, t.val, 0] := (by decide +kernel : ∀ t : Fin grid0.N, _)
theorem idx_nv : ∀ t : Fin cfg0.N, win0_8.index t = ![0, t.val, 0] := (by decide +kernel : ∀ t : Fin grid0.N, _)

theorem row_lt (t : Fin cfg0.N) (r : Fin 256) : 256 * t.val + r.val < 1024 := by
  have h : t.val < 4 := t.isLt
  omega

/-- The row of the array that is row `r` of the block at `t`. -/
abbrev row (t : Fin cfg0.N) (r : Fin 256) : Fin 1024 := ⟨256 * t.val + r.val, row_lt t r⟩

theorem at_w (t : Fin cfg0.N) (z : Fin 1) (r : Fin 256) (k : Fin 768) : iblk m c 0 t (ix3 z r k) = wt m c (ix3 z (row t r) k) := by
  blk_simp [iblk, idx_w t]
  blk_ext [idx_w t]
theorem at_m (t : Fin cfg0.N) (z : Fin 1) (r : Fin 256) (k : Fin 768) : iblk m c 1 t (ix3 z r k) = mom m c (ix3 z (row t r) k) := by
  blk_simp [iblk, idx_m t]
  blk_ext [idx_m t]
theorem at_v (t : Fin cfg0.N) (z : Fin 1) (r : Fin 256) (k : Fin 768) : iblk m c 2 t (ix3 z r k) = sq m c (ix3 z (row t r) k) := by
  blk_simp [iblk, idx_v t]
  blk_ext [idx_v t]
theorem at_a (t : Fin cfg0.N) (r : Fin 256) (k : Fin 768) : iblk m c 3 t (ix2 r k) = mine m c (ix2 (row t r) k) := by
  blk_simp [iblk, idx_a t]
  blk_ext [idx_a t]
theorem at_b (t : Fin cfg0.N) (r : Fin 256) (k : Fin 768) : iblk m c 4 t (ix2 r k) = theirs m c (ix2 (row t r) k) := by
  blk_simp [iblk, idx_b t]
  blk_ext [idx_b t]

/-! Row by row, what a point computes of its blocks. -/

section
variable (t : Fin cfg0.N) (r : Fin 256) (k : Fin 768)

theorem grad_eq : k0_pay4 (F := Ideal) (iblk m c 3 t) (iblk m c 4 t) (ix2 r k) = val_main_v1 (F := Ideal) (mine m c) (theirs m c) (ix3 0 (row t r) k) := by
  pointwise [k0_pay4, val_main_v1, val_main_v0, at_a, at_b]

theorem mom_eq : k0_pay5 (F := Ideal) (iblk m c 3 t) (iblk m c 4 t) (iblk m c 1 t) (ix2 r k)
    = val_main_v6 (F := Ideal) (mom m c) (mine m c) (theirs m c) (ix3 0 (row t r) k) := by
  pointwise [k0_pay5, val_main_v6, val_main_v5, val_main_v4, val_main_v3, val_main_v2, val_main_cst, val_main_cst_0, grad_eq, at_m]

theorem sq_eq : k0_pay6 (F := Ideal) (iblk m c 3 t) (iblk m c 4 t) (iblk m c 2 t) (ix2 r k)
    = val_main_v12 (F := Ideal) (sq m c) (mine m c) (theirs m c) (ix3 0 (row t r) k) := by
  pointwise [k0_pay6, val_main_v12, val_main_v11, val_main_v10, val_main_v9, val_main_v8, val_main_v7, val_main_cst_1, val_main_cst_2, grad_eq, at_v]

theorem step_eq : k0_pay1 (F := Ideal) (k0_pay8 (iblk m c 3 t) (iblk m c 4 t) (iblk m c 1 t) (iblk m c 2 t) (iblk m c 0 t)) (ix3 0 r k)
    = val_main_v25 (F := Ideal) (wt m c) (mom m c) (sq m c) (mine m c) (theirs m c) (ix3 0 (row t r) k) := by
  pointwise [k0_pay1, k0_pay8, val_main_v25, val_main_v24, val_main_v23, val_main_v22, val_main_v21, val_main_v20, val_main_v19, val_main_v18, val_main_v17,
    val_main_v16, val_main_v15, val_main_v14, val_main_v13, val_main_cst_3, val_main_cst_4, val_main_cst_5, val_main_cst_6, val_main_cst_7, mom_eq, sq_eq, at_w]

end

theorem row_out (t : Fin cfg0.N) (y : S1x256x768.Idx) (i : S1x1024x768.Idx) (h0 : (i 0).val = 0) (h1 : (i 1).val = t.val * 256 + (y 1).val)
    (h2 : (i 2).val = (y 2).val) : i = ix3 0 (row t (y 1)) (y 2) := by
  funext a
  match a with
  | 0 => exact Fin.ext h0
  | 1 => exact Fin.ext (h1.trans (congrArg (· + (y 1).val) (Nat.mul_comm _ _)))
  | 2 => exact Fin.ext h2

/-- The gradient. -/
theorem arr_grad : (dats m 0 c).arrAt 5 cfg0.N = val_main_v1 (F := Ideal) (mine m c) (theirs m c) :=
  (dats m 0 c).arrAt_eq_of_covers 5 _ (by decide +kernel) fun t _ y => by
    rw [after0_5]
    frame_out
    refine Eq.trans ?_ (congrArg _ (row_out t y _ ?_ ?_ ?_).symm)
    · refine Eq.trans ?_ (grad_eq m c t (y 1) (y 2))
      pointwise [k0_pay7]
      rfl
    all_goals blk_simp [idx_g t]

/-- The step. -/
theorem arr_step : (dats m 0 c).arrAt 6 cfg0.N = val_main_v25 (F := Ideal) (wt m c) (mom m c) (sq m c) (mine m c) (theirs m c) :=
  (dats m 0 c).arrAt_eq_of_covers 6 _ (by decide +kernel) fun t _ y => by
    rw [after0_6]
    frame_out
    refine Eq.trans ?_ (congrArg _ (row_out t y _ ?_ ?_ ?_).symm)
    · refine Eq.trans ?_ (step_eq m c t (y 1) (y 2))
      pointwise [k0_pay1]
      rfl
    all_goals blk_simp [idx_d t]

/-- The first moment. -/
theorem arr_mom : (dats m 0 c).arrAt 7 cfg0.N = val_main_v6 (F := Ideal) (mom m c) (mine m c) (theirs m c) :=
  (dats m 0 c).arrAt_eq_of_covers 7 _ (by decide +kernel) fun t _ y => by
    rw [after0_7]
    frame_out
    refine Eq.trans ?_ (congrArg _ (row_out t y _ ?_ ?_ ?_).symm)
    · refine Eq.trans ?_ (mom_eq m c t (y 1) (y 2))
      pointwise [k0_pay2]
      rfl
    all_goals blk_simp [idx_nm t]

/-- The second moment. -/
theorem arr_sq : (dats m 0 c).arrAt 8 cfg0.N = val_main_v12 (F := Ideal) (sq m c) (mine m c) (theirs m c) :=
  (dats m 0 c).arrAt_eq_of_covers 8 _ (by decide +kernel) fun t _ y => by
    rw [after0_8]
    frame_out
    refine Eq.trans ?_ (congrArg _ (row_out t y _ ?_ ?_ ?_).symm)
    · refine Eq.trans ?_ (sq_eq m c t (y 1) (y 2))
      pointwise [k0_pay3]
      rfl
    all_goals blk_simp [idx_nv t]

/-- The run: the four results are the reference's functions of the arguments. -/
theorem kernel_run : θ_run defs (onTc (τ := τ) (main (F := Ideal))) ⟨m, fun _ => 0, ρ⟩ (fun r => ∀ c : Dev nD,
      r.2.mem ((c.tc : Thread nD τ).loc main_v0_0) = val_main_v1 (F := Ideal) (mine m c) (theirs m c)
      ∧ r.2.mem ((c.tc : Thread nD τ).loc main_v0_1) = val_main_v25 (F := Ideal) (wt m c) (mom m c) (sq m c) (mine m c) (theirs m c)
      ∧ r.2.mem ((c.tc : Thread nD τ).loc main_v0_2) = val_main_v6 (F := Ideal) (mom m c) (mine m c) (theirs m c)
      ∧ r.2.mem ((c.tc : Thread nD τ).loc main_v0_3) = val_main_v12 (F := Ideal) (sq m c) (mine m c) (theirs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run_main m ρ
  · exact arr_grad m c
  · exact arr_step m c
  · exact arr_mom m c
  · exact arr_sq m c

end Cert.Adam

end
-- ==== Proof.Adam.Claims.lean ====
/- The claims of the optimiser's call: its frames and the reference's, and the equality of the four results. -/
module

public import proofs.«01_k».proof.Defs
public import proofs.«01_k».proof.Proof.Gen.Kernel7.Frame
public import proofs.«01_k».proof.Proof.Gen.Reference7Ideal.Run
public import proofs.«01_k».proof.Proof.Adam.Step

@[expose] public section

set_option maxRecDepth 16384

noncomputable section

namespace Cert.Adam

open Idealize.ShloMosaic Idealize.SL.Sem

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ => Cert.Kernel7Ideal.Gen.frame m ρ

/-- The reference has no counter at all, so each of them is zero at its end. -/
theorem frame_reference : Cert.quiescent_Reference7Ideal (hReference7Ideal := Cert.Reference7Ideal.Gen.facts) := by
  intro m ρ _
  hlo_run
  · exact fun _ => ⟨trivial, trivial, trivial, trivial, trivial⟩
  · exact funext fun g => ((Fintype.card_eq_zero_iff.mp (SemLoc.card_eq (sig := Cert.Reference7Ideal.sig))).false g.2).elim

theorem same : Cert.algebraic_Kernel7Ideal_Reference7Ideal (hKernel7Ideal := Cert.Kernel7Ideal.Gen.facts)
    (hReference7Ideal := Cert.Reference7Ideal.Gen.facts) := by
  intro m g m' g' hp hm
  refine ⟨_, _, _, _, kernel_run m g, ?_⟩
  refine (θ_run _ _ _).mono (fun r h c => ?_) (Cert.Reference7Ideal.Value.run m' g')
  obtain ⟨a0, a1, a2, a3, rest⟩ := h c
  obtain ⟨e0, e1, e2, e3, e4⟩ := hm c
  refine ⟨a0.trans ?_, a1.trans ?_, a2.trans ?_, a3.trans ?_, rest⟩
  · rw [e3, e4]; rfl
  · rw [e0, e1, e2, e3, e4]; rfl
  · rw [e1, e3, e4]; rfl
  · rw [e2, e3, e4]; rfl

end Cert.Adam

end
-- ==== Proof.Wire.Step.lean ====
/- The layers for the wire: every entry of the six results is the entry of the layer it is of, as in the reference. -/
module

public import proofs.«01_k».proof.Proof.Gen.Kernel11Ideal.Frame
public import proofs.«01_k».proof.Proof.Gen.Reference11Ideal.Read
public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Wire

open Cert.Kernel11Ideal Cert.Kernel11Ideal.Gen Cert.Reference11Ideal.Read

variable (m : (ℓ : Loc nD τ sig) → Buf (Elt Ideal) ℓ) (ρ : Dev nD → PrngReg) (c : Dev nD)

/-- The four stacks of weights. -/
abbrev up : S2x1024x1408.Idx → EReal := m ((c : Thread nD τ).loc main_arg0)
abbrev down : S2x704x1024.Idx → EReal := m ((c : Thread nD τ).loc main_arg1)
abbrev mid_in : S1x1024x640.Idx → EReal := m ((c : Thread nD τ).loc main_arg2)
abbrev mid_out : S1x320x1024.Idx → EReal := m ((c : Thread nD τ).loc main_arg3)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![1, t.val, 0] := (by decide +kernel : ∀ t : Fin grid0.N, _)
theorem idx5 : ∀ t : Fin cfg0.N, win0_5.index t = ![1, t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- A quarter of `4 * n` rows at each point. -/
theorem row_lt {n : ℕ} (t : Fin cfg0.N) (r : Fin n) : n * t.val + r.val < n * 4 := by
  have h : t.val + 1 ≤ 4 := t.isLt
  have h' := Nat.mul_le_mul_left n h
  rw [Nat.mul_add, Nat.mul_one] at h'
  have := r.isLt
  omega

/-- The row of an array of `n * 4` rows that is row `r` of the block at `t`. -/
abbrev row {n : ℕ} (t : Fin cfg0.N) (r : Fin n) : Fin (n * 4) := ⟨n * t.val + r.val, row_lt t r⟩

theorem row_out {n k : ℕ} (t : Fin cfg0.N) (y : Shape.Idx (⟨2, ![n, k]⟩ : Shape)) (i : Shape.Idx (⟨2, ![n * 4, k]⟩ : Shape))
    (h0 : (i 0).val = t.val * n + (y 0).val) (h1 : (i 1).val = (y 1).val) : i = ix2 (row t (y 0)) (y 1) := by
  funext a
  match a with
  | 0 => exact Fin.ext (h0.trans (congrArg (· + (y 0).val) (Nat.mul_comm _ _)))
  | 1 => exact Fin.ext h1

theorem at0 (t : Fin cfg0.N) (z : Fin 1) (r : Fin 256) (k : Fin 1408) : iblk m c 0 t (ix3 z r k) = up m c (ix3 0 (row t r) k) := by
  blk_simp [iblk, idx0 t]
  blk_ext [idx0 t]

theorem eq0 (t : Fin cfg0.N) (r : Fin 256) (k : Fin 1408) :
    k0_pay1 (F := Ideal) (iblk m c 0 t) (ix2 r k) = val_main_v10 (F := Ideal) (up m c) (ix2 (row t r) k) := by
  pointwise [k0_pay1, val_main_v10, val_main_v1, val_main_v0, at0]

theorem arr0 : (dats m 0 c).arrAt 6 cfg0.N = val_main_v10 (F := Ideal) (up m c) :=
  (dats m 0 c).arrAt_eq_of_covers 6 _ (by decide +kernel) fun t _ y => by
    rw [after0_6]
    frame_out
    refine Eq.trans ?_ (congrArg _ (row_out (n := 256) (k := 1408) t y _ ?_ ?_).symm)
    · exact (congrArg (k0_pay1 (F := Ideal) (iblk m c 0 t)) (eq_ix2 y)).trans (eq0 m c t (y 0) (y 1))
    all_goals blk_simp [idx6 t]

theorem at1 (t : Fin cfg0.N) (z : Fin 1) (r : Fin 176) (k : Fin 1024) : iblk m c 1 t (ix3 z r k) = down m c (ix3 0 (row t r) k) := by
  blk_simp [iblk, idx1 t]
  blk_ext [idx1 t]

theorem eq1 (t : Fin cfg0.N) (r : Fin 176) (k : Fin 1024) :
    k0_pay2 (F := Ideal) (iblk m c 1 t) (ix2 r k) = val_main_v11 (F := Ideal) (down m c) (ix2 (row t r) k) := by
  pointwise [k0_pay2, val_main_v11, val_main_v3, val_main_v2, at1]

theorem arr1 : (dats m 0 c).arrAt 7 cfg0.N = val_main_v11 (F := Ideal) (down m c) :=
  (dats m 0 c).arrAt_eq_of_covers 7 _ (by decide +kernel) fun t _ y => by
    rw [after0_7]
    frame_out
    refine Eq.trans ?_ (congrArg _ (row_out (n := 176) (k := 1024) t y _ ?_ ?_).symm)
    · exact (congrArg (k0_pay2 (F := Ideal) (iblk m c 1 t)) (eq_ix2 y)).trans (eq1 m c t (y 0) (y 1))
    all_goals blk_simp [idx7 t]

theorem at2 (t : Fin cfg0.N) (z : Fin 1) (r : Fin 256) (k : Fin 640) : iblk m c 2 t (ix3 z r k) = mid_in m c (ix3 0 (row t r) k) := by
  blk_simp [iblk, idx2 t]
  blk_ext [idx2 t]

theorem eq2 (t : Fin cfg0.N) (r : Fin 256) (k : Fin 640) :
    k0_pay3 (F := Ideal) (iblk m c 2 t) (ix2 r k) = val_main_v12 (F := Ideal) (mid_in m c) (ix2 (row t r) k) := by
  pointwise [k0_pay3, val_main_v12, val_main_v4, at2]

theorem arr2 : (dats m 0 c).arrAt 8 cfg0.N = val_main_v12 (F := Ideal) (mid_in m c) :=
  (dats m 0 c).arrAt_eq_of_covers 8 _ (by decide +kernel) fun t _ y => by
    rw [after0_8]
    frame_out
    refine Eq.trans ?_ (congrArg _ (row_out (n := 256) (k := 640) t y _ ?_ ?_).symm)
    · exact (congrArg (k0_pay3 (F := Ideal) (iblk m c 2 t)) (eq_ix2 y)).trans (eq2 m c t (y 0) (y 1))
    all_goals blk_simp [idx8 t]

theorem at3 (t : Fin cfg0.N) (z : Fin 1) (r : Fin 80) (k : Fin 1024) : iblk m c 3 t (ix3 z r k) = mid_out m c (ix3 0 (row t r) k) := by
  blk_simp [iblk, idx3 t]
  blk_ext [idx3 t]

theorem eq3 (t : Fin cfg0.N) (r : Fin 80) (k : Fin 1024) :
    k0_pay4 (F := Ideal) (iblk m c 3 t) (ix2 r k) = val_main_v13 (F := Ideal) (mid_out m c) (ix2 (row t r) k) := by
  pointwise [k0_pay4, val_main_v13, val_main_v5, at3]

theorem arr3 : (dats m 0 c).arrAt 9 cfg0.N = val_main_v13 (F := Ideal) (mid_out m c) :=
  (dats m 0 c).arrAt_eq_of_covers 9 _ (by decide +kernel) fun t _ y => by
    rw [after0_9]
    frame_out
    refine Eq.trans ?_ (congrArg _ (row_out (n := 80) (k := 1024) t y _ ?_ ?_).symm)
    · exact (congrArg (k0_pay4 (F := Ideal) (iblk m c 3 t)) (eq_ix2 y)).trans (eq3 m c t (y 0) (y 1))
    all_goals blk_simp [idx9 t]

theorem at4 (t : Fin cfg0.N) (z : Fin 1) (r : Fin 256) (k : Fin 1408) : iblk m c 4 t (ix3 z r k) = up m c (ix3 1 (row t r) k) := by
  blk_simp [iblk, idx4 t]
  blk_ext [idx4 t]

theorem eq4 (t : Fin cfg0.N) (r : Fin 256) (k : Fin 1408) :
    k0_pay5 (F := Ideal) (iblk m c 4 t) (ix2 r k) = val_main_v14 (F := Ideal) (up m c) (ix2 (row t r) k) := by
  pointwise [k0_pay5, val_main_v14, val_main_v7, val_main_v6, at4]

theorem arr4 : (dats m 0 c).arrAt 10 cfg0.N = val_main_v14 (F := Ideal) (up m c) :=
  (dats m 0 c).arrAt_eq_of_covers 10 _ (by decide +kernel) fun t _ y => by
    rw [after0_10]
    frame_out
    refine Eq.trans ?_ (congrArg _ (row_out (n := 256) (k := 1408) t y _ ?_ ?_).symm)
    · exact (congrArg (k0_pay5 (F := Ideal) (iblk m c 4 t)) (eq_ix2 y)).trans (eq4 m c t (y 0) (y 1))
    all_goals blk_simp [idx10 t]

theorem at5 (t : Fin cfg0.N) (z : Fin 1) (r : Fin 176) (k : Fin 1024) : iblk m c 5 t (ix3 z r k) = down m c (ix3 1 (row t r) k) := by
  blk_simp [iblk, idx5 t]
  blk_ext [idx5 t]

theorem eq5 (t : Fin cfg0.N) (r : Fin 176) (k : Fin 1024) :
    k0_pay6 (F := Ideal) (iblk m c 5 t) (ix2 r k) = val_main_v15 (F := Ideal) (down m c) (ix2 (row t r) k) := by
  pointwise [k0_pay6, val_main_v15, val_main_v9, val_main_v8, at5]

theorem arr5 : (dats m 0 c).arrAt 11 cfg0.N = val_main_v15 (F := Ideal) (down m c) :=
  (dats m 0 c).arrAt_eq_of_covers 11 _ (by decide +kernel) fun t _ y => by
    rw [after0_11]
    frame_out
    refine Eq.trans ?_ (congrArg _ (row_out (n := 176) (k := 1024) t y _ ?_ ?_).symm)
    · exact (congrArg (k0_pay6 (F := Ideal) (iblk m c 5 t)) (eq_ix2 y)).trans (eq5 m c t (y 0) (y 1))
    all_goals blk_simp [idx11 t]

/-- The run: every result is the reference's function of the arguments. -/
theorem kernel_run : θ_run defs (onTc (τ := τ) (main (F := Ideal))) ⟨m, fun _ => 0, ρ⟩ (fun r => ∀ c : Dev nD,
      r.2.mem ((c.tc : Thread nD τ).loc main_v0_0) = val_main_v10 (F := Ideal) (up m c)
      ∧ r.2.mem ((c.tc : Thread nD τ).loc main_v0_1) = val_main_v11 (F := Ideal) (down m c)
      ∧ r.2.mem ((c.tc : Thread nD τ).loc main_v0_2) = val_main_v12 (F := Ideal) (mid_in m c)
      ∧ r.2.mem ((c.tc : Thread nD τ).loc main_v0_3) = val_main_v13 (F := Ideal) (mid_out m c)
      ∧ r.2.mem ((c.tc : Thread nD τ).loc main_v0_4) = val_main_v14 (F := Ideal) (up m c)
      ∧ r.2.mem ((c.tc : Thread nD τ).loc main_v0_5) = val_main_v15 (F := Ideal) (down m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m ρ
  · exact arr0 m c
  · exact arr1 m c
  · exact arr2 m c
  · exact arr3 m c
  · exact arr4 m c
  · exact arr5 m c

end Cert.Wire

end
-- ==== Proof.Wire.Claims.lean ====
/- The claims of the call that rounds six layers for the wire: its frames and the reference's, and the equality of the six results. -/
module

public import proofs.«01_k».proof.Defs
public import proofs.«01_k».proof.Proof.Gen.Kernel11.Frame
public import proofs.«01_k».proof.Proof.Gen.Reference11Ideal.Run
public import proofs.«01_k».proof.Proof.Wire.Step

@[expose] public section

set_option maxRecDepth 16384

noncomputable section

namespace Cert.Wire

open Idealize.ShloMosaic Idealize.SL.Sem

theorem frame_kernel : Cert.quiescent_Kernel11 (hKernel11 := Cert.Kernel11.Gen.facts) := fun m ρ _ => Cert.Kernel11.Gen.frame m ρ

theorem frame_ideal : Cert.quiescent_Kernel11Ideal (hKernel11Ideal := Cert.Kernel11Ideal.Gen.facts) := fun m ρ _ => Cert.Kernel11Ideal.Gen.frame m ρ

/-- The reference has no counter at all, so each of them is zero at its end. -/
theorem frame_reference : Cert.quiescent_Reference11Ideal (hReference11Ideal := Cert.Reference11Ideal.Gen.facts) := by
  intro m ρ _
  hlo_run
  · exact fun _ => ⟨trivial, trivial, trivial, trivial⟩
  · exact funext fun g => ((Fintype.card_eq_zero_iff.mp (SemLoc.card_eq (sig := Cert.Reference11Ideal.sig))).false g.2).elim

theorem same : Cert.algebraic_Kernel11Ideal_Reference11Ideal (hKernel11Ideal := Cert.Kernel11Ideal.Gen.facts)
    (hReference11Ideal := Cert.Reference11Ideal.Gen.facts) := by
  intro m g m' g' hp hm
  refine ⟨_, _, _, _, _, _, kernel_run m g, ?_⟩
  refine (θ_run _ _ _).mono (fun r h c => ?_) (Cert.Reference11Ideal.Value.run m' g')
  obtain ⟨a0, a1, a2, a3, a4, a5, rest⟩ := h c
  obtain ⟨e0, e1, e2, e3⟩ := hm c
  refine ⟨a0.trans ?_, a1.trans ?_, a2.trans ?_, a3.trans ?_, a4.trans ?_, a5.trans ?_, rest⟩
  · rw [e0]; rfl
  · rw [e1]; rfl
  · rw [e2]; rfl
  · rw [e3]; rfl
  · rw [e0]; rfl
  · rw [e1]; rfl

end Cert.Wire

end
-- ==== Proof.Stack.Step.lean ====
/- The blocks of a stack: every entry of the result is the sum of the eight entries of the stack over it, as in the reference. -/
module

public import proofs.«01_k».proof.Proof.Gen.Kernel10Ideal.Frame
public import proofs.«01_k».proof.Proof.Gen.Reference10Ideal.Read
public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Stack

open Cert.Kernel10Ideal Cert.Kernel10Ideal.Gen Cert.Reference10Ideal.Read

variable (m : (ℓ : Loc nD τ sig) → Buf (Elt Ideal) ℓ) (ρ : Dev nD → PrngReg) (c : Dev nD)

/-- The stack of eight arrays. -/
abbrev stack : S8x1280x128.Idx → EReal := m ((c : Thread nD τ).loc main_arg0)

theorem idx_s : ∀ t : Fin cfg0.N, win0_0.index t = ![0, t.val, 0] := (by decide +kernel : ∀ t : Fin grid0.N, _)
theorem idx_g : ∀ t : Fin cfg0.N, win0_1.index t = ![t.val, 0] := (by decide +kernel : ∀ t : Fin grid0.N, _)

theorem row_lt (t : Fin cfg0.N) (r : Fin 256) : 256 * t.val + r.val < 1280 := by
  have h : t.val < 5 := t.isLt
  omega

/-- The row of the array that is row `r` of the block at `t`. -/
abbrev row (t : Fin cfg0.N) (r : Fin 256) : Fin 1280 := ⟨256 * t.val + r.val, row_lt t r⟩

theorem at_s (t : Fin cfg0.N) (z : Fin 8) (r : Fin 256) (k : Fin 128) : iblk m c 0 t (ix3 z r k) = stack m c (ix3 z (row t r) k) := by
  blk_simp [iblk, idx_s t]
  blk_ext [idx_s t]

theorem part (r : Fin 1280) (k : Fin 128) (z : Fin 8) : idx_main_v0 (ix2 r k) z = ix3 z r k := by
  funext a
  match a with
  | 0 => rfl
  | 1 => rfl
  | 2 => rfl

theorem sum_eq (t : Fin cfg0.N) (r : Fin 256) (k : Fin 128) :
    k0_pay1 (F := Ideal) (View.ld (iblk m c 0 t) r0_0) (View.ld (iblk m c 0 t) r0_1) (View.ld (iblk m c 0 t) r0_2) (View.ld (iblk m c 0 t) r0_3)
        (View.ld (iblk m c 0 t) r0_4) (View.ld (iblk m c 0 t) r0_5) (View.ld (iblk m c 0 t) r0_6) (View.ld (iblk m c 0 t) r0_7) (ix2 r k)
      = val_main_v0 (F := Ideal) (stack m c) (ix2 (row t r) k) := by
  rw [val_main_v0_apply, Fin.sum_univ_eight]
  pointwise [k0_pay1, val_main_cst, at_s, part]

theorem row_out (t : Fin cfg0.N) (y : S256x128.Idx) (i : S1280x128.Idx) (h0 : (i 0).val = t.val * 256 + (y 0).val) (h1 : (i 1).val = (y 1).val) :
    i = ix2 (row t (y 0)) (y 1) := by
  funext a
  match a with
  | 0 => exact Fin.ext (h0.trans (congrArg (· + (y 0).val) (Nat.mul_comm _ _)))
  | 1 => exact Fin.ext h1

/-- The result. -/
theorem arr_sum : (dats m 0 c).arrAt 1 cfg0.N = val_main_v0 (F := Ideal) (stack m c) :=
  (dats m 0 c).arrAt_eq_of_covers 1 _ (by decide +kernel) fun t _ y => by
    rw [after0_1]
    frame_out
    refine Eq.trans ?_ (congrArg _ (row_out t y _ ?_ ?_).symm)
    · exact (congrArg (k0_pay1 (F := Ideal) (View.ld (iblk m c 0 t) r0_0) (View.ld (iblk m c 0 t) r0_1) (View.ld (iblk m c 0 t) r0_2)
        (View.ld (iblk m c 0 t) r0_3) (View.ld (iblk m c 0 t) r0_4) (View.ld (iblk m c 0 t) r0_5) (View.ld (iblk m c 0 t) r0_6)
        (View.ld (iblk m c 0 t) r0_7)) (eq_ix2 y)).trans (sum_eq m c t (y 0) (y 1))
    all_goals blk_simp [idx_g t]

/-- The run: the result is the reference's function of the arguments. -/
theorem kernel_run : θ_run defs (onTc (τ := τ) (main (F := Ideal))) ⟨m, fun _ => 0, ρ⟩ (fun r => ∀ c : Dev nD,
      r.2.mem ((c.tc : Thread nD τ).loc main_v0) = val_main_v0 (F := Ideal) (stack m c)
      ∧ r.2.mem ((c.tc : Thread nD τ).loc main_arg0) = m ((c.tc : Thread nD τ).loc main_arg0)) := by
  run_from run_main m ρ
  · exact arr_sum m c

end Cert.Stack

end
-- ==== Proof.Stack.Claims.lean ====
/- The claims of the call that adds the blocks of a stack: its frames and the reference's, and the equality of the result. -/
module

public import proofs.«01_k».proof.Defs
public import proofs.«01_k».proof.Proof.Gen.Kernel10.Frame
public import proofs.«01_k».proof.Proof.Gen.Reference10Ideal.Run
public import proofs.«01_k».proof.Proof.Stack.Step

@[expose] public section

set_option maxRecDepth 16384

noncomputable section

namespace Cert.Stack

open Idealize.ShloMosaic Idealize.SL.Sem

theorem frame_kernel : Cert.quiescent_Kernel10 (hKernel10 := Cert.Kernel10.Gen.facts) := fun m ρ _ => Cert.Kernel10.Gen.frame m ρ

theorem frame_ideal : Cert.quiescent_Kernel10Ideal (hKernel10Ideal := Cert.Kernel10Ideal.Gen.facts) := fun m ρ _ => Cert.Kernel10Ideal.Gen.frame m ρ

/-- The reference has no counter at all, so each of them is zero at its end. -/
theorem frame_reference : Cert.quiescent_Reference10Ideal (hReference10Ideal := Cert.Reference10Ideal.Gen.facts) := by
  intro m ρ _
  hlo_run
  · exact fun _ => trivial
  · exact funext fun g => ((Fintype.card_eq_zero_iff.mp (SemLoc.card_eq (sig := Cert.Reference10Ideal.sig))).false g.2).elim

theorem same : Cert.algebraic_Kernel10Ideal_Reference10Ideal (hKernel10Ideal := Cert.Kernel10Ideal.Gen.facts)
    (hReference10Ideal := Cert.Reference10Ideal.Gen.facts) := by
  intro m g m' g' hp hm
  refine ⟨_, kernel_run m g, ?_⟩
  refine (θ_run _ _ _).mono (fun r h c => ?_) (Cert.Reference10Ideal.Value.run m' g')
  obtain ⟨a0, rest⟩ := h c
  have e0 := hm c
  refine ⟨a0.trans ?_, rest⟩
  · rw [e0]; rfl

end Cert.Stack

end
-- ==== Proof.Parts.Step.lean ====
/- The parts of a gradient: every entry of the result is the sum of its own entry and of the three received ones, as in the reference. -/
module

public import proofs.«01_k».proof.Proof.Gen.Kernel9Ideal.Frame
public import proofs.«01_k».proof.Proof.Gen.Reference9Ideal.Read
public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Parts

open Cert.Kernel9Ideal Cert.Kernel9Ideal.Gen Cert.Reference9Ideal.Read

variable (m : (ℓ : Loc nD τ sig) → Buf (Elt Ideal) ℓ) (ρ : Dev nD → PrngReg) (c : Dev nD)

/-- The device's own part of the gradient, and the three parts it received. -/
abbrev own : S1024x1408.Idx → EReal := m ((c : Thread nD τ).loc main_arg0)
abbrev recv : S3x1024x1408.Idx → EReal := m ((c : Thread nD τ).loc main_arg1)

theorem idx_o : ∀ t : Fin cfg0.N, win0_0.index t = ![t.val, 0] := (by decide +kernel : ∀ t : Fin grid0.N, _)
theorem idx_r : ∀ t : Fin cfg0.N, win0_1.index t = ![0, t.val, 0] := (by decide +kernel : ∀ t : Fin grid0.N, _)
theorem idx_g : ∀ t : Fin cfg0.N, win0_2.index t = ![t.val, 0] := (by decide +kernel : ∀ t : Fin grid0.N, _)

theorem row_lt (t : Fin cfg0.N) (r : Fin 256) : 256 * t.val + r.val < 1024 := by
  have h : t.val < 4 := t.isLt
  omega

/-- The row of the array that is row `r` of the block at `t`. -/
abbrev row (t : Fin cfg0.N) (r : Fin 256) : Fin 1024 := ⟨256 * t.val + r.val, row_lt t r⟩

theorem at_o (t : Fin cfg0.N) (r : Fin 256) (k : Fin 1408) : iblk m c 0 t (ix2 r k) = own m c (ix2 (row t r) k) := by
  blk_simp [iblk, idx_o t]
  blk_ext [idx_o t]
theorem at_r (t : Fin cfg0.N) (z : Fin 3) (r : Fin 256) (k : Fin 1408) : iblk m c 1 t (ix3 z r k) = recv m c (ix3 z (row t r) k) := by
  blk_simp [iblk, idx_r t]
  blk_ext [idx_r t]

theorem part (r : Fin 1024) (k : Fin 1408) (z : Fin 3) : idx_main_v1 (ix2 r k) z = ix3 z r k := by
  funext a
  match a with
  | 0 => rfl
  | 1 => rfl
  | 2 => rfl

theorem sum_eq (t : Fin cfg0.N) (r : Fin 256) (k : Fin 1408) :
    k0_pay1 (F := Ideal) (iblk m c 0 t) (View.ld (iblk m c 1 t) r0_1) (View.ld (iblk m c 1 t) r0_2) (View.ld (iblk m c 1 t) r0_3) (ix2 r k)
      = val_main_v2 (F := Ideal) (own m c) (recv m c) (ix2 (row t r) k) := by
  rw [val_main_v2_apply, val_main_v1_apply, Fin.sum_univ_three]
  pointwise [k0_pay1, val_main_v0, val_main_cst, at_o, at_r, part]
  simp only [add_assoc]

theorem row_out (t : Fin cfg0.N) (y : S256x1408.Idx) (i : S1024x1408.Idx) (h0 : (i 0).val = t.val * 256 + (y 0).val) (h1 : (i 1).val = (y 1).val) :
    i = ix2 (row t (y 0)) (y 1) := by
  funext a
  match a with
  | 0 => exact Fin.ext (h0.trans (congrArg (· + (y 0).val) (Nat.mul_comm _ _)))
  | 1 => exact Fin.ext h1

/-- The result. -/
theorem arr_sum : (dats m 0 c).arrAt 2 cfg0.N = val_main_v2 (F := Ideal) (own m c) (recv m c) :=
  (dats m 0 c).arrAt_eq_of_covers 2 _ (by decide +kernel) fun t _ y => by
    rw [after0_2]
    frame_out
    refine Eq.trans ?_ (congrArg _ (row_out t y _ ?_ ?_).symm)
    · exact (congrArg (k0_pay1 (F := Ideal) (iblk m c 0 t) (View.ld (iblk m c 1 t) r0_1) (View.ld (iblk m c 1 t) r0_2)
        (View.ld (iblk m c 1 t) r0_3)) (eq_ix2 y)).trans (sum_eq m c t (y 0) (y 1))
    all_goals blk_simp [idx_g t]

/-- The run: the result is the reference's function of the arguments. -/
theorem kernel_run : θ_run defs (onTc (τ := τ) (main (F := Ideal))) ⟨m, fun _ => 0, ρ⟩ (fun r => ∀ c : Dev nD,
      r.2.mem ((c.tc : Thread nD τ).loc main_v0) = val_main_v2 (F := Ideal) (own m c) (recv m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact arr_sum m c

end Cert.Parts

end
-- ==== Proof.Parts.Claims.lean ====
/- The claims of the call that adds the parts of a gradient: its frames and the reference's, and the equality of the result. -/
module

public import proofs.«01_k».proof.Defs
public import proofs.«01_k».proof.Proof.Gen.Kernel9.Frame
public import proofs.«01_k».proof.Proof.Gen.Reference9Ideal.Run
public import proofs.«01_k».proof.Proof.Parts.Step

@[expose] public section

set_option maxRecDepth 16384

noncomputable section

namespace Cert.Parts

open Idealize.ShloMosaic Idealize.SL.Sem

theorem frame_kernel : Cert.quiescent_Kernel9 (hKernel9 := Cert.Kernel9.Gen.facts) := fun m ρ _ => Cert.Kernel9.Gen.frame m ρ

theorem frame_ideal : Cert.quiescent_Kernel9Ideal (hKernel9Ideal := Cert.Kernel9Ideal.Gen.facts) := fun m ρ _ => Cert.Kernel9Ideal.Gen.frame m ρ

/-- The reference has no counter at all, so each of them is zero at its end. -/
theorem frame_reference : Cert.quiescent_Reference9Ideal (hReference9Ideal := Cert.Reference9Ideal.Gen.facts) := by
  intro m ρ _
  hlo_run
  · exact fun _ => ⟨trivial, trivial⟩
  · exact funext fun g => ((Fintype.card_eq_zero_iff.mp (SemLoc.card_eq (sig := Cert.Reference9Ideal.sig))).false g.2).elim

theorem same : Cert.algebraic_Kernel9Ideal_Reference9Ideal (hKernel9Ideal := Cert.Kernel9Ideal.Gen.facts)
    (hReference9Ideal := Cert.Reference9Ideal.Gen.facts) := by
  intro m g m' g' hp hm
  refine ⟨_, kernel_run m g, ?_⟩
  refine (θ_run _ _ _).mono (fun r h c => ?_) (Cert.Reference9Ideal.Value.run m' g')
  obtain ⟨a0, rest⟩ := h c
  obtain ⟨e0, e1⟩ := hm c
  refine ⟨a0.trans ?_, rest⟩
  · rw [e0, e1]; rfl

end Cert.Parts

end
-- ==== Proof.Wgrad.Sum.lean ====
/- The weight gradient: the rows of both operands by their times, and a sum over the rows in tile order. -/
module

public import proofs.«01_k».proof.Proof.Gen.Kernel8Ideal.Frame
public import proofs.«01_k».proof.Proof.Gen.Reference8Ideal.Read
public import Idealize.ShloMosaic.PureOps.Ideal
public import Idealize.ShloMosaic.Lib.Pipeline.ValueKit
public import Idealize.ShloMosaic.Lib.Pipeline.ReadBack
public import Idealize.ShloMosaic.Lib.Pointwise
public import proofs.«01_k».proof.Proof.Mlp.Entry
public import proofs.«01_k».proof.Proof.Loss.Ref
public import Idealize.ShloMosaic.Lib.Claim
public import Idealize.ShloMosaic.Lib.StableHlo.ReadAt
public import Idealize.ShloMosaic.Adequacy

@[expose] public section

set_option maxRecDepth 16384

noncomputable section

open Idealize.ShloMosaic Idealize.ShloMosaic.TcCoe Idealize.SL.Sem

namespace Cert.Wgrad

open Cert.Kernel8Ideal Cert.Kernel8Ideal.Gen Cert.Reference8Ideal.Read

open Cert.Loss (rowTime tile_time sum_tiles)
open Cert.Mlp (timeOf timeOf_lt row_lt zero_word)

variable (m : (ℓ : Loc nD τ sig) → Buf (Elt Ideal) ℓ) (ρ : Dev nD → PrngReg) (c : Dev nD)

/-- The normed rows, and the gradient of the up projection's output, on a device. -/
abbrev normed : S16400x1024.Idx → EReal := m ((c : Thread nD τ).loc main_arg0)
abbrev behind : S16400x5632.Idx → EReal := m ((c : Thread nD τ).loc main_arg1)

/-- A row at its time: zero before the sequence. -/
def atTime {n : ℕ} (A : Shape.Idx (⟨2, ![16400, n]⟩ : Shape) → EReal) (τ k : ℕ) : EReal :=
  if h : 240 ≤ τ ∧ τ < 16640 ∧ k < n then A (ix2 ⟨τ - 240, by omega⟩ ⟨k, h.2.2⟩) else 0

theorem atTime_zero {n : ℕ} (A : Shape.Idx (⟨2, ![16400, n]⟩ : Shape) → EReal) (τ k : ℕ) (h : ¬240 ≤ τ) : atTime A τ k = 0 :=
  dif_neg fun h' => h h'.1

theorem atTime_pos {n : ℕ} (A : Shape.Idx (⟨2, ![16400, n]⟩ : Shape) → EReal) (τ k : ℕ) (h : 240 ≤ τ ∧ τ < 16640 ∧ k < n) :
    atTime A τ k = A (ix2 ⟨τ - 240, by omega⟩ ⟨k, h.2.2⟩) := dif_pos h

theorem atTime_row {n : ℕ} (A : Shape.Idx (⟨2, ![16400, n]⟩ : Shape) → EReal) (i : Fin 16400) (k : Fin n) :
    atTime A (240 + i.val) k.val = A (ix2 i k) :=
  (dif_pos ⟨by omega, by omega, k.isLt⟩).trans (congrArg (fun j => A (ix2 j k)) (Fin.ext (by show 240 + i.val - 240 = i.val; omega)))

/-- A sum over blocks of `n` rows is a sum over the rows. -/
theorem sum_blocks (n K : ℕ) (g : ℕ → EReal) : ∑ k ∈ Finset.range K, ∑ r : Fin n, g (n * k + r.val) = ∑ i ∈ Finset.range (n * K), g i := by
  induction K with
  | zero => rfl
  | succ K ih => rw [Finset.sum_range_succ, ih, Nat.mul_succ, Finset.sum_range_add, Finset.sum_range fun r => g (n * K + r)]

/-- The rows of all points in tile order are the rows of the sequence. -/
theorem sum_rows (f : ℕ → EReal) (hf : ∀ τ, ¬240 ≤ τ → f τ = 0) :
    ∑ k ∈ Finset.range 5, ∑ r : Fin 3328, f (timeOf (3328 * k + r.val)) = ∑ i : Fin 16400, f (240 + i.val) := by
  rw [sum_blocks 3328 5 fun i => f (timeOf i), show 3328 * 5 = 256 * 65 from rfl, ← sum_blocks 256 65 fun i => f (timeOf i)]
  refine Eq.trans (Finset.sum_congr rfl fun T _ => Finset.sum_congr rfl fun r _ => congrArg f ?_) ((sum_tiles f 65).trans ?_)
  · exact (congrArg timeOf (congrArg (· + r.val) (Nat.mul_comm 256 T))).trans (tile_time T r.val r.isLt)
  · rw [show 256 * 65 = 240 + 16400 from rfl, Finset.sum_range_add, Finset.sum_eq_zero fun τ h => hf τ (by have := Finset.mem_range.mp h; omega), zero_add]
    exact Finset.sum_range fun i => f (240 + i)

theorem idx_a : ∀ t : Fin cfg0.N, win0_0.index t = ![t.val % 5, 0] := (by decide +kernel : ∀ t : Fin grid0.N, _)
theorem idx_b : ∀ t : Fin cfg0.N, win0_1.index t = ![t.val % 5, t.val / 5] := (by decide +kernel : ∀ t : Fin grid0.N, _)
theorem idx_g : ∀ t : Fin cfg0.N, win0_2.index t = ![t.val / 5, 0, 0] := (by decide +kernel : ∀ t : Fin grid0.N, _)
theorem idx_w : ∀ t : Fin cfg0.N, win0_3.index t = ![t.val / 5, 0, 0] := (by decide +kernel : ∀ t : Fin grid0.N, _)

theorem arr_a (y : S16640x1024.Idx) : (V m c main_v4 : S16640x1024.Idx → EReal) y = atTime (normed m c) (timeOf (y 0).val) (y 1).val := by
  have hl := timeOf_lt (y 0).isLt
  have h1 : (y 1).val < 1024 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (atTime_pos _ _ _ ⟨hb, hl, h1⟩).symm
  · exact (dif_neg fun h => hb h.1).trans (zero_word.trans (atTime_zero _ _ _ hb).symm)

theorem arr_b (y : S16640x5632.Idx) : (V m c main_v9 : S16640x5632.Idx → EReal) y = atTime (behind m c) (timeOf (y 0).val) (y 1).val := by
  have hl := timeOf_lt (y 0).isLt
  have h1 : (y 1).val < 5632 := (y 1).isLt
  unfold V
  dsimp only [List.flatten_cons, List.flatten_nil, List.append_nil, List.cons_append, List.nil_append]
  after_reads_at
  by_cases hb : 240 ≤ timeOf (y 0).val
  · exact (dif_pos ⟨hb, row_lt hl⟩).trans (atTime_pos _ _ _ ⟨hb, hl, h1⟩).symm
  · exact (dif_neg fun h => hb h.1).trans (zero_word.trans (atTime_zero _ _ _ hb).symm)

theorem at_a (t : Fin cfg0.N) (r : Fin 3328) (k : Fin 1024) :
    iblk m c 0 t (ix2 r k) = atTime (normed m c) (timeOf (3328 * (t.val % 5) + r.val)) k.val := by
  blk_simp [iblk]
  refine (arr_a m c _).trans ?_
  refine congrArg₂ (atTime (normed m c)) (congrArg timeOf ?_) ?_
  · blk_simp [idx_a t]
    simp only [Nat.mul_comm]
  · blk_simp [idx_a t]

theorem at_b (t : Fin cfg0.N) (r : Fin 3328) (k : Fin 1408) :
    iblk m c 1 t (ix2 r k) = atTime (behind m c) (timeOf (3328 * (t.val % 5) + r.val)) (1408 * (t.val / 5) + k.val) := by
  blk_simp [iblk]
  refine (arr_b m c _).trans ?_
  refine congrArg₂ (atTime (behind m c)) (congrArg timeOf ?_) ?_
  · blk_simp [idx_b t]
    simp only [Nat.mul_comm]
  · blk_simp [idx_b t]
    simp only [Nat.mul_comm]

end Cert.Wgrad

end
-- ==== Proof.Wgrad.Step.lean ====
/- The weight gradient: the block behind every point, both output arrays, and the reference's. -/
module

public import proofs.«01_k».proof.Proof.Gen.Kernel8Ideal.Frame
public import proofs.«01_k».proof.Proof.Gen.Reference8Ideal.Read
public import Idealize.ShloMosaic.PureOps.Ideal
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
public import Idealize.ShloMosaic.Adequacy
public import proofs.«01_k».proof.Proof.Wgrad.Sum

@[expose] public section

set_option maxRecDepth 16384

noncomputable section

open Idealize.ShloMosaic Idealize.ShloMosaic.TcCoe Idealize.SL.Sem

namespace Cert.Wgrad

open Cert.Kernel8Ideal Cert.Kernel8Ideal.Gen Cert.Reference8Ideal.Read

open Cert.Mlp (timeOf)

variable (m : (ℓ : Loc nD τ sig) → Buf (Elt Ideal) ℓ) (ρ : Dev nD → PrngReg) (c : Dev nD)

/-- What a point adds to the block. -/
def term (n : ℕ) (y : S1x1024x1408.Idx) : EReal :=
  ∑ r : Fin 3328, atTime (normed m c) (timeOf (3328 * (n % 5) + r.val)) (y 1).val * atTime (behind m c) (timeOf (3328 * (n % 5) + r.val)) (1408 * (n / 5) + (y 2).val)

theorem add_eq (t : Fin cfg0.N) (acc : S1x1024x1408.Idx → EReal) (y : S1x1024x1408.Idx) :
    k0_pay2 (F := Ideal) acc (iblk m c 0 t) (iblk m c 1 t) y = acc y + term m c t.val y := by
  unfold term
  pointwise [k0_pay2, at_a, at_b]

theorem zero_eq (y : S1x1024x1408.Idx) : k0_pay1 (F := Ideal) y = 0 := by
  pointwise [k0_pay1]

/-- The block behind a point. -/
theorem acc_eq (t : Fin cfg0.N) (y : S1x1024x1408.Idx) :
    (outsAt0 m c t.val t.isLt).1 y = 0 + ∑ k ∈ Finset.range (t.val % 5 + 1), term m c (5 * (t.val / 5) + k) y := by
  refine Pipeline.eq_sum_of_reset_step_apply (fun n h => (outsAt0 m c n h).1) 5 (fun _ => 0) (term m c) (fun t h y => ?_) (fun t h y => ?_) t y
  · rw [outsAt0_A m c t h (by omega)]
    frame_open
    simp (disch := decide) only [↓ View.readCov_skip, ↓ View.readCov_cons_toLoadRect, ↓ View.readCov_fill]
    frame_out
    rw [add_eq, zero_eq]
  · by_cases h4 : t.val % 5 = 4
    · rw [outsAt0_C m c t h h4]
      frame_out
      rw [add_eq]
    · rw [outsAt0_B m c t h h4]
      frame_out
      rw [add_eq]

/-- At the last point of a block the rounded copy is the block. -/
theorem wire_eq (t : Fin cfg0.N) (h4 : t.val % 5 = 4) (y : S1x1024x1408.Idx) : (outsAt0 m c t.val t.isLt).2 y = (outsAt0 m c t.val t.isLt).1 y := by
  rw [outsAt0_C m c t (by omega) h4]
  frame_open
  simp (disch := decide) only [↓ View.readCov_skip, ↓ View.readCov_cons_toLoadRect, ↓ View.readCov_fill]
  frame_out
  pointwise [k0_pay3]

/-- The gradient, by chip: one row of the sequence after another. -/
def grad (y : S4x1024x1408.Idx) : EReal :=
  ∑ i : Fin 16400, atTime (normed m c) (240 + i.val) (y 1).val * atTime (behind m c) (240 + i.val) (1408 * (y 0).val + (y 2).val)

/-- The block at its last point. -/
theorem last_eq (t : Fin cfg0.N) (h4 : t.val % 5 = 4) (y : S1x1024x1408.Idx) (i : S4x1024x1408.Idx) (h0 : (i 0).val = t.val / 5)
    (h1 : (i 1).val = (y 1).val) (h2 : (i 2).val = (y 2).val) : (outsAt0 m c t.val t.isLt).1 y = grad m c i := by
  rw [acc_eq, h4, zero_add]
  unfold grad
  rw [h0, h1, h2]
  refine Eq.trans (Finset.sum_congr rfl fun k hk => ?_)
    (sum_rows (fun τ => atTime (normed m c) τ (y 1).val * atTime (behind m c) τ (1408 * (t.val / 5) + (y 2).val)) fun τ h => ?_)
  · have hk' := Finset.mem_range.mp hk
    have e1 : (5 * (t.val / 5) + k) % 5 = k := by omega
    have e2 : (5 * (t.val / 5) + k) / 5 = t.val / 5 := by omega
    unfold term
    rw [e1, e2]
  · exact (congrArg (· * _) (atTime_zero _ _ _ h)).trans (zero_mul _)

theorem flush_g (t : Fin cfg0.N) : (cfg0.win 2).flush t = true → t.val % 5 = 4 := (by decide +kernel : ∀ t : Fin grid0.N, win0_2.flush t = true → t.val % 5 = 4) t
theorem flush_w (t : Fin cfg0.N) : (cfg0.win 3).flush t = true → t.val % 5 = 4 := (by decide +kernel : ∀ t : Fin grid0.N, win0_3.flush t = true → t.val % 5 = 4) t

theorem arr_g : (dats m 0 c).arrAt 2 cfg0.N = grad m c :=
  (dats m 0 c).arrAt_eq_of_covers 2 _ (by decide +kernel) fun t h y => by
    blk_simp [idx_g t]
    rw [after0_2]
    refine last_eq m c t (flush_g t h) _ _ ?_ ?_ ?_
    all_goals blk_simp [idx_g t]

theorem arr_w : (dats m 0 c).arrAt 3 cfg0.N = grad m c :=
  (dats m 0 c).arrAt_eq_of_covers 3 _ (by decide +kernel) fun t h y => by
    blk_simp [idx_w t]
    rw [after0_3, wire_eq m c t (flush_w t h)]
    refine last_eq m c t (flush_w t h) _ _ ?_ ?_ ?_
    all_goals blk_simp [idx_w t]

theorem ref_eq (y : S4x1024x1408.Idx) : val_main_v5 (F := Ideal) (normed m c) (behind m c) y = grad m c y := by
  have h0 : (y 0).val < 4 := (y 0).isLt
  have h1 : (y 1).val < 1024 := (y 1).isLt
  have h2 : (y 2).val < 1408 := (y 2).isLt
  rw [val_main_v5_apply, val_main_v4_apply, val_main_v3_apply, val_main_v2_apply]
  unfold grad
  refine Finset.sum_congr rfl fun i _ => ?_
  rw [mul_comm]
  refine congrArg₂ (· * ·) ?_ ?_
  · refine Eq.trans (congrArg _ ?_) (atTime_row (normed m c) i ⟨(y 1).val, h1⟩).symm
    funext a
    match a with
    | 0 => rfl
    | 1 => exact Fin.ext (by show (((y 1).val * 4 + (y 0).val) * 1408 + (y 2).val) / 5632 = (y 1).val; omega)
  · refine Eq.trans (congrArg _ ?_) (atTime_row (behind m c) i ⟨1408 * (y 0).val + (y 2).val, by omega⟩).symm
    funext a
    match a with
    | 0 => rfl
    | 1 => exact Fin.ext (by show (((y 1).val * 4 + (y 0).val) * 1408 + (y 2).val) % 5632 = 1408 * (y 0).val + (y 2).val; omega)

/-- The buffers as the lines after the call find them. -/
abbrev held : Valuation τ sig (Elt Ideal) :=
  Pipeline.withArrays (cfgs 0).spec c (V0 m c) fun w => (dats m 0 c).arrAt w (cfgs 0).N

theorem held_w : held m c (Proc.tc.devRef main_v10_1) = (dats m 0 c).arrAt 3 cfg0.N :=
  Pipeline.withArrays_arr spec0 (by decide) c (V0 m c) (fun w => (dats m 0 c).arrAt w (cfgs 0).N) 3

theorem tail_w : Pipeline.afterTail₀ cfgs (dats m) 0 (V0 m) [hostOps1] c main_v11 = val_main_v9 (F := Ideal) (normed m c) (behind m c) := by
  funext y
  unfold Pipeline.afterTail₀
  dsimp only [List.flatten_cons, List.flatten_nil, List.append_nil, List.cons_append, List.nil_append]
  after_reads_at
  exact (congrFun ((held_w m c).trans (arr_w m c)) y).trans (ref_eq m c y).symm

/-- The run: both results are the reference's functions of the arguments. -/
theorem kernel_run : θ_run defs (onTc (τ := τ) (main (F := Ideal))) ⟨m, fun _ => 0, ρ⟩ (fun r => ∀ c : Dev nD,
      r.2.mem ((c.tc : Thread nD τ).loc main_v10_0) = val_main_v5 (F := Ideal) (normed m c) (behind m c)
      ∧ r.2.mem ((c.tc : Thread nD τ).loc main_v11) = val_main_v9 (F := Ideal) (normed m c) (behind m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact (arr_g m c).trans (funext fun y => (ref_eq m c y).symm)
  · exact tail_w m c
  · exact W_main_arg0 m _ c
  · exact W_main_arg1 m _ c

end Cert.Wgrad

end
-- ==== Proof.Wgrad.Claims.lean ====
/- The claims of the weight gradient: its frames and the reference's, and the equality of both results. -/
module

public import proofs.«01_k».proof.Defs
public import proofs.«01_k».proof.Proof.Gen.Kernel8.Frame
public import proofs.«01_k».proof.Proof.Gen.Reference8Ideal.Run
public import proofs.«01_k».proof.Proof.Wgrad.Step

@[expose] public section

set_option maxRecDepth 16384

noncomputable section

namespace Cert.Wgrad

open Idealize.ShloMosaic Idealize.SL.Sem

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ => Cert.Kernel8Ideal.Gen.frame m ρ

/-- The reference has no counter at all, so each of them is zero at its end. -/
theorem frame_reference : Cert.quiescent_Reference8Ideal (hReference8Ideal := Cert.Reference8Ideal.Gen.facts) := by
  intro m ρ _
  hlo_run
  · exact fun _ => ⟨trivial, trivial⟩
  · exact funext fun g => ((Fintype.card_eq_zero_iff.mp (SemLoc.card_eq (sig := Cert.Reference8Ideal.sig))).false g.2).elim

theorem same : Cert.algebraic_Kernel8Ideal_Reference8Ideal (hKernel8Ideal := Cert.Kernel8Ideal.Gen.facts)
    (hReference8Ideal := Cert.Reference8Ideal.Gen.facts) := by
  intro m g m' g' hp hm
  refine ⟨_, _, kernel_run m g, ?_⟩
  refine (θ_run _ _ _).mono (fun r h c => ?_) (Cert.Reference8Ideal.Value.run m' g')
  obtain ⟨a0, a1, rest⟩ := h c
  obtain ⟨e0, e1⟩ := hm c
  refine ⟨a0.trans ?_, a1.trans ?_, rest⟩
  · rw [e0, e1]; rfl
  · rw [e0, e1]; rfl

end Cert.Wgrad

end
-- ==== Proof.lean ====
/- The claims about the layer-1 MLP with the loss behind it: the frames of both programs, the idealisation, and the equality of every
   result with the reference's. With those of the other calls they are the whole
   certificate. -/
module

public import proofs.«01_k».proof.Defs
public import proofs.«01_k».proof.Proof.Gen.Kernel.Frame
public import proofs.«01_k».proof.Proof.Gen.KernelIdeal.Frame
public import proofs.«01_k».proof.Proof.Loss.Kernel
public import proofs.«01_k».proof.Proof.Loss.Same
public import proofs.«01_k».proof.Proof.Mlp.Claims
public import proofs.«01_k».proof.Proof.Sc.Claims
public import proofs.«01_k».proof.Proof.Fwd.Claims
public import proofs.«01_k».proof.Proof.Mix.Claims
public import proofs.«01_k».proof.Proof.Rg.Claims
public import proofs.«01_k».proof.Proof.Adam.Claims
public import proofs.«01_k».proof.Proof.Wire.Claims
public import proofs.«01_k».proof.Proof.Stack.Claims
public import proofs.«01_k».proof.Proof.Parts.Claims
public import proofs.«01_k».proof.Proof.Wgrad.Claims
public import Idealize.ShloMosaic.Adequacy
public import Idealize.ShloMosaic.Init

@[expose] public section

set_option maxRecDepth 16384

noncomputable section

namespace Cert.Proof

open Idealize.ShloMosaic Idealize.SL.Sem Cert.Loss

instance : Cert.Pre_finite.Facts := pre_facts

theorem frame_kernel : Cert.quiescent_Kernel (hKernel := Cert.Kernel.Gen.facts) :=
  fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_finite : Cert.quiescent_KernelIdeal_pre_finite (hKernelIdeal := Cert.KernelIdeal.Gen.facts) (hPre_finite := pre_facts) :=
  fun m ρ _ => Cert.KernelIdeal.Gen.frame m ρ

/-- The reference has no counter at all, so each of them is zero at its end. -/
theorem frame_reference : Cert.quiescent_ReferenceIdeal (hReferenceIdeal := Cert.ReferenceIdeal.Gen.facts) := by
  intro m ρ _
  hlo_run
  · exact fun _ => ⟨trivial, trivial, trivial, trivial, trivial, trivial, trivial⟩
  · exact funext fun g => ((Fintype.card_eq_zero_iff.mp (SemLoc.card_eq (sig := Cert.ReferenceIdeal.sig))).false g.2).elim

theorem frame_reference_finite : Cert.quiescent_ReferenceIdeal_pre_finite (hReferenceIdeal := Cert.ReferenceIdeal.Gen.facts) (hPre_finite := pre_facts) :=
  fun m ρ _ => frame_reference m ρ trivial

theorem same : Cert.algebraic_KernelIdeal_ReferenceIdeal_pre_finite (hKernelIdeal := Cert.KernelIdeal.Gen.facts)
    (hReferenceIdeal := Cert.ReferenceIdeal.Gen.facts) (hPre_finite := pre_facts) := by
  intro m g m' g' hp hm
  have e (c : Dev Cert.KernelIdeal.nD) : refIns m' c = ins m c := by
    obtain ⟨e0, e1, e2, e3, e4, e5, e6⟩ := hm c
    unfold refIns ins
    rw [e0, e1, e2, e3, e4, e5, e6]
  refine ⟨_, _, _, _, _, _, kernel_run m g, ?_⟩
  refine (θ_run _ _ _).mono (fun r h c => ?_) (reference_run m' g' (fun c => ?_) (fun c => ?_) (fun c => ?_) (fun c => ?_) (fun c => ?_) (fun c => ?_) (fun c => ?_))
  · have := h c
    rw [e c] at this
    exact this
  · rw [(hm c).1]; exact real_of_pre _ _ (hp c).1
  · rw [(hm c).2.1]; exact real_of_pre _ _ (hp c).2.1
  · rw [(hm c).2.2.1]; exact real_of_pre _ _ (hp c).2.2.1
  · rw [(hm c).2.2.2.1]; exact real_of_pre _ _ (hp c).2.2.2.1
  · rw [(hm c).2.2.2.2.1]; exact real_of_pre _ _ (hp c).2.2.2.2.1
  · rw [(hm c).2.2.2.2.2.1]; exact real_of_pre _ _ (hp c).2.2.2.2.2.1
  · rw [(hm c).2.2.2.2.2.2]; exact real_of_pre _ _ (hp c).2.2.2.2.2.2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, pre_facts, Cert.Mlp.pre_facts, Cert.Sc.pre_facts,
  frame_kernel, frame_ideal, frame_ideal_finite, frame_reference, frame_reference_finite,
  Cert.Mlp.frame_kernel, Cert.Mlp.frame_ideal, Cert.Mlp.frame_ideal_finite, Cert.Mlp.frame_reference, Cert.Mlp.frame_reference_finite,
  Cert.Sc.frame_kernel, Cert.Sc.frame_ideal, Cert.Sc.frame_ideal_finite, Cert.Sc.frame_reference, Cert.Sc.frame_reference_finite,
  Cert.Fwd.frame_kernel, Cert.Fwd.frame_ideal, Cert.Fwd.frame_reference,
  Cert.Mix.frame_kernel, Cert.Mix.frame_ideal, Cert.Mix.frame_reference,
  Cert.Rg.frame_kernel, Cert.Rg.frame_ideal, Cert.Rg.frame_reference,
  Cert.Adam.frame_kernel, Cert.Adam.frame_ideal, Cert.Adam.frame_reference,
  Cert.Wgrad.frame_kernel, Cert.Wgrad.frame_ideal, Cert.Wgrad.frame_reference,
  Cert.Parts.frame_kernel, Cert.Parts.frame_ideal, Cert.Parts.frame_reference,
  Cert.Stack.frame_kernel, Cert.Stack.frame_ideal, Cert.Stack.frame_reference,
  Cert.Wire.frame_kernel, Cert.Wire.frame_ideal, Cert.Wire.frame_reference,
  trivial, same, trivial, Cert.Mlp.same, trivial, Cert.Sc.same, trivial, Cert.Fwd.same, trivial, Cert.Mix.same, trivial, Cert.Rg.same, trivial, Cert.Adam.same,
  trivial, Cert.Wgrad.same, trivial, Cert.Parts.same, trivial, Cert.Stack.same, trivial, Cert.Wire.same⟩

end Cert.Proof

end
